-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S32 : Shape := ⟨1, ![32]⟩
abbrev S_ : Shape := ⟨0, ![]⟩
abbrev S1 : Shape := ⟨1, ![1]⟩
abbrev S4096x8192 : Shape := ⟨2, ![4096, 8192]⟩
abbrev S2x128x4096 : Shape := ⟨3, ![2, 128, 4096]⟩
abbrev S2x2 : Shape := ⟨2, ![2, 2]⟩
abbrev S2 : Shape := ⟨1, ![2]⟩
abbrev S8x128 : Shape := ⟨2, ![8, 128]⟩
abbrev S5x8x128 : Shape := ⟨3, ![5, 8, 128]⟩
abbrev S5 : Shape := ⟨1, ![5]⟩
abbrev S128x128 : Shape := ⟨2, ![128, 128]⟩
abbrev S128x4096 : Shape := ⟨2, ![128, 4096]⟩
abbrev S1x128x4096 : Shape := ⟨3, ![1, 128, 4096]⟩
abbrev S1x1 : Shape := ⟨2, ![1, 1]⟩
abbrev S1x128x2048 : Shape := ⟨3, ![1, 128, 2048]⟩
abbrev S128x2048 : Shape := ⟨2, ![128, 2048]⟩
abbrev S1x1x1 : Shape := ⟨3, ![1, 1, 1]⟩
abbrev S1x8x128 : Shape := ⟨3, ![1, 8, 128]⟩

abbrev nBuf : Space → Nat
  | .hbm => 37
  | .vmem => 8
  | .smem => 4
  | _ => 0

abbrev bufTy : (tb : Table) → Fin (tcTables nBuf tb) → BufTy
  | .hbm, ⟨0, _⟩ => ⟨S4096x128, .f32⟩
  | .hbm, ⟨1, _⟩ => ⟨S128x8192, .f32⟩
  | .hbm, ⟨2, _⟩ => ⟨S32, .i32⟩
  | .hbm, ⟨3, _⟩ => ⟨S32, .i32⟩
  | .hbm, ⟨4, _⟩ => ⟨S32, .i32⟩
  | .hbm, ⟨5, _⟩ => ⟨S32, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S4096x8192, .f32⟩
  | .local _ .vmem, ⟨0, _⟩ => ⟨S4096x128, .f32⟩
  | .local _ .vmem, ⟨1, _⟩ => ⟨S128x8192, .f32⟩
  | .local _ .vmem, ⟨2, _⟩ => ⟨S2x128x4096, .f32⟩
  | .local _ .vmem, ⟨3, _⟩ => ⟨S2x128x4096, .f32⟩
  | .local _ .vmem, ⟨4, _⟩ => ⟨S2x128x4096, .f32⟩
  | .local _ .vmem, ⟨5, _⟩ => ⟨S2x128x4096, .f32⟩
  | .local _ .vmem, ⟨6, _⟩ => ⟨S8x128, .f32⟩
  | .local _ .vmem, ⟨7, _⟩ => ⟨S5x8x128, .f32⟩
  | .local _ .smem, ⟨0, _⟩ => ⟨S1, .i32⟩
  | .local _ .smem, ⟨1, _⟩ => ⟨S1, .i32⟩
  | .local _ .smem, ⟨2, _⟩ => ⟨S1, .i32⟩
  | .local _ .smem, ⟨3, _⟩ => ⟨S32, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 5 34 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_5 : Ref sig .tc := ⟨.hbm, 12, rfl⟩
abbrev main_v5 : Ref sig .tc := ⟨.hbm, 13, rfl⟩
abbrev main_c_6 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_7 : Ref sig .tc := ⟨.hbm, 20, rfl⟩
abbrev main_v11 : Ref sig .tc := ⟨.hbm, 21, rfl⟩
abbrev main_c_8 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_9 : Ref sig .tc := ⟨.hbm, 28, rfl⟩
abbrev main_v17 : Ref sig .tc := ⟨.hbm, 29, rfl⟩
abbrev main_c_10 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch12 : Ref sig .tc := ⟨.vmem, 6, rfl⟩
abbrev cc0_scratch13 : Ref sig .tc := ⟨.vmem, 7, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 4

abbrev nD : Nat := 32
abbrev τ : Topo := Topo.v7x

variable {F : FTy → Type} [FloatOps F]

abbrev grid0 : Pipeline.Grid := .none

def k0_off1 (v0 : BitVec 32) : Fin 2 → Nat :=
  let c1_i32_6 : BitVec 32 := 1#32
  let v14 : BitVec 32 := Scalar.subi v0 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c128_i32 : BitVec 32 := 128#32
  let v25 : BitVec 32 := Scalar.muli v24 c128_i32
  let v26 : Index := Scalar.indexCast v25
  let c0_13 : Index := 0#32
  ![v26.toNat, 0]

def k0_off2 (v0 : BitVec 32) : Fin 2 → Nat :=
  let c32_i32 : BitVec 32 := 32#32
  let v3 : BitVec 32 := Scalar.subi c32_i32 v0
  let c32_i32_2 : BitVec 32 := 32#32
  let c0_i32 : BitVec 32 := 0#32
  let v4 : BitVec 1 := Scalar.cmpi .eq c32_i32_2 c0_i32
  let c1_i32 : BitVec 32 := 1#32
  let v5 : BitVec 32 := Scalar.select v4 c1_i32 c32_i32_2
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19 : BitVec 32 := 1#32
  let v35 : BitVec 32 := Scalar.subi v13 c1_i32_19
  let c32_i32_20 : BitVec 32 := 32#32
  let c0_i32_21 : BitVec 32 := 0#32
  let v36 : BitVec 1 := Scalar.cmpi .eq c32_i32_20 c0_i32_21
  let c1_i32_22 : BitVec 32 := 1#32
  let v37 : BitVec 32 := Scalar.select v36 c1_i32_22 c32_i32_20
  let v38 : BitVec 32 := Scalar.remsi v35 v37
  let c0_i32_24 : BitVec 32 := 0#32
  let v40 : BitVec 1 := Scalar.cmpi .slt v38 c0_i32_24
  let c0_i32_25 : BitVec 32 := 0#32
  let v41 : BitVec 1 := Scalar.cmpi .slt v37 c0_i32_25
  let v42 : BitVec 1 := Scalar.xori v40 v41
  let c0_i32_23 : BitVec 32 := 0#32
  let v39 : BitVec 1 := Scalar.cmpi .ne v38 c0_i32_23
  let v43 : BitVec 1 := Scalar.andi v42 v39
  let v44 : BitVec 32 := Scalar.addi v38 v37
  let v45 : BitVec 32 := Scalar.select v43 v44 v38
  let c128_i32_26 : BitVec 32 := 128#32
  let v46 : BitVec 32 := Scalar.muli v45 c128_i32_26
  let v47 : Index := Scalar.indexCast v46
  let c0_27 : Index := 0#32
  ![v47.toNat, 0]
def k0_dev1 (v1 : BitVec 32) : Nat :=
  let c0_i32_35 : BitVec 32 := 0#32
  let c1_i32_34 : BitVec 32 := 1#32
  let v57 : BitVec 32 := Scalar.muli v1 c1_i32_34
  let v58 : BitVec 32 := Scalar.addi c0_i32_35 v57
  v58.toNat

def k0_dev2 (v2 : BitVec 32) : Nat :=
  let c0_i32_38 : BitVec 32 := 0#32
  let c1_i32_37 : BitVec 32 := 1#32
  let v59 : BitVec 32 := Scalar.muli v2 c1_i32_37
  let v60 : BitVec 32 := Scalar.addi c0_i32_38 v59
  v60.toNat

def k0_dev3 (v1 : BitVec 32) : Nat :=
  let c0_i32_46 : BitVec 32 := 0#32
  let c1_i32_45 : BitVec 32 := 1#32
  let v61 : BitVec 32 := Scalar.muli v1 c1_i32_45
  let v62 : BitVec 32 := Scalar.addi c0_i32_46 v61
  v62.toNat
def k0_dev4 (v1 : BitVec 32) : Nat :=
  let c0_i32_58 : BitVec 32 := 0#32
  let c1_i32_57 : BitVec 32 := 1#32
  let v71 : BitVec 32 := Scalar.muli v1 c1_i32_57
  let v72 : BitVec 32 := Scalar.addi c0_i32_58 v71
  v72.toNat
def k0_dev5 (v2 : BitVec 32) : Nat :=
  let c0_i32_69 : BitVec 32 := 0#32
  let c1_i32_68 : BitVec 32 := 1#32
  let v81 : BitVec 32 := Scalar.muli v2 c1_i32_68
  let v82 : BitVec 32 := Scalar.addi c0_i32_69 v81
  v82.toNat
def k0_dev6 (v2 : BitVec 32) : Nat :=
  let c0_i32_81 : BitVec 32 := 0#32
  let c1_i32_80 : BitVec 32 := 1#32
  let v91 : BitVec 32 := Scalar.muli v2 c1_i32_80
  let v92 : BitVec 32 := Scalar.addi c0_i32_81 v91
  v92.toNat
def k0_off3 (v0 : BitVec 32) (c0_i32_87 : BitVec 32) : Fin 2 → Nat :=
  let c2_i32_86 : BitVec 32 := 2#32
  let v101 : BitVec 32 := Scalar.subi v0 c2_i32_86
  let v102 : BitVec 32 := Scalar.subi v101 c0_i32_87
  let c32_i32_88 : BitVec 32 := 32#32
  let c0_i32_89 : BitVec 32 := 0#32
  let v103 : BitVec 1 := Scalar.cmpi .eq c32_i32_88 c0_i32_89
  let c1_i32_90 : BitVec 32 := 1#32
  let v104 : BitVec 32 := Scalar.select v103 c1_i32_90 c32_i32_88
  let v105 : BitVec 32 := Scalar.remsi v102 v104
  let c0_i32_92 : BitVec 32 := 0#32
  let v107 : BitVec 1 := Scalar.cmpi .slt v105 c0_i32_92
  let c0_i32_93 : BitVec 32 := 0#32
  let v108 : BitVec 1 := Scalar.cmpi .slt v104 c0_i32_93
  let v109 : BitVec 1 := Scalar.xori v107 v108
  let c0_i32_91 : BitVec 32 := 0#32
  let v106 : BitVec 1 := Scalar.cmpi .ne v105 c0_i32_91
  let v110 : BitVec 1 := Scalar.andi v109 v106
  let v111 : BitVec 32 := Scalar.addi v105 v104
  let v112 : BitVec 32 := Scalar.select v110 v111 v105
  let c128_i32_94 : BitVec 32 := 128#32
  let v113 : BitVec 32 := Scalar.muli v112 c128_i32_94
  let v114 : Index := Scalar.indexCast v113
  let c0_95 : Index := 0#32
  ![v114.toNat, 0]
def k0_dev7 (v2 : BitVec 32) : Nat :=
  let c0_i32_130 : BitVec 32 := 0#32
  let c1_i32_129 : BitVec 32 := 1#32
  let v143 : BitVec 32 := Scalar.muli v2 c1_i32_129
  let v144 : BitVec 32 := Scalar.addi c0_i32_130 v143
  v144.toNat
def k0_dev8 (v1 : BitVec 32) : Nat :=
  let c0_i32_138 : BitVec 32 := 0#32
  let c1_i32_137 : BitVec 32 := 1#32
  let v145 : BitVec 32 := Scalar.muli v1 c1_i32_137
  let v146 : BitVec 32 := Scalar.addi c0_i32_138 v145
  v146.toNat
def k0_dev9 (v2 : BitVec 32) : Nat :=
  let c0_i32_174 : BitVec 32 := 0#32
  let c1_i32_173 : BitVec 32 := 1#32
  let v178 : BitVec 32 := Scalar.muli v2 c1_i32_173
  let v179 : BitVec 32 := Scalar.addi c0_i32_174 v178
  v179.toNat
def k0_dev10 (v1 : BitVec 32) : Nat :=
  let c0_i32_182 : BitVec 32 := 0#32
  let c1_i32_181 : BitVec 32 := 1#32
  let v180 : BitVec 32 := Scalar.muli v1 c1_i32_181
  let v181 : BitVec 32 := Scalar.addi c0_i32_182 v180
  v181.toNat
def k0_off4 (v0 : BitVec 32) (c0_i32_188 : BitVec 32) : Fin 2 → Nat :=
  let c32_i32 : BitVec 32 := 32#32
  let v3 : BitVec 32 := Scalar.subi c32_i32 v0
  let c32_i32_2 : BitVec 32 := 32#32
  let c0_i32 : BitVec 32 := 0#32
  let v4 : BitVec 1 := Scalar.cmpi .eq c32_i32_2 c0_i32
  let c1_i32 : BitVec 32 := 1#32
  let v5 : BitVec 32 := Scalar.select v4 c1_i32 c32_i32_2
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2_i32_187 : BitVec 32 := 2#32
  let v190 : BitVec 32 := Scalar.subi v13 c2_i32_187
  let v191 : BitVec 32 := Scalar.subi v190 c0_i32_188
  let c32_i32_189 : BitVec 32 := 32#32
  let c0_i32_190 : BitVec 32 := 0#32
  let v192 : BitVec 1 := Scalar.cmpi .eq c32_i32_189 c0_i32_190
  let c1_i32_191 : BitVec 32 := 1#32
  let v193 : BitVec 32 := Scalar.select v192 c1_i32_191 c32_i32_189
  let v194 : BitVec 32 := Scalar.remsi v191 v193
  let c0_i32_193 : BitVec 32 := 0#32
  let v196 : BitVec 1 := Scalar.cmpi .slt v194 c0_i32_193
  let c0_i32_194 : BitVec 32 := 0#32
  let v197 : BitVec 1 := Scalar.cmpi .slt v193 c0_i32_194
  let v198 : BitVec 1 := Scalar.xori v196 v197
  let c0_i32_192 : BitVec 32 := 0#32
  let v195 : BitVec 1 := Scalar.cmpi .ne v194 c0_i32_192
  let v199 : BitVec 1 := Scalar.andi v198 v195
  let v200 : BitVec 32 := Scalar.addi v194 v193
  let v201 : BitVec 32 := Scalar.select v199 v200 v194
  let c128_i32_195 : BitVec 32 := 128#32
  let v202 : BitVec 32 := Scalar.muli v201 c128_i32_195
  let v203 : Index := Scalar.indexCast v202
  let c0_196 : Index := 0#32
  ![v203.toNat, 0]
def k0_dev11 (v1 : BitVec 32) : Nat :=
  let c0_i32_232 : BitVec 32 := 0#32
  let c1_i32_231 : BitVec 32 := 1#32
  let v232 : BitVec 32 := Scalar.muli v1 c1_i32_231
  let v233 : BitVec 32 := Scalar.addi c0_i32_232 v232
  v233.toNat
def k0_dev12 (v2 : BitVec 32) : Nat :=
  let c0_i32_240 : BitVec 32 := 0#32
  let c1_i32_239 : BitVec 32 := 1#32
  let v234 : BitVec 32 := Scalar.muli v2 c1_i32_239
  let v235 : BitVec 32 := Scalar.addi c0_i32_240 v234
  v235.toNat
def k0_dev13 (v1 : BitVec 32) : Nat :=
  let c0_i32_277 : BitVec 32 := 0#32
  let c1_i32_276 : BitVec 32 := 1#32
  let v267 : BitVec 32 := Scalar.muli v1 c1_i32_276
  let v268 : BitVec 32 := Scalar.addi c0_i32_277 v267
  v268.toNat
def k0_dev14 (v2 : BitVec 32) : Nat :=
  let c0_i32_285 : BitVec 32 := 0#32
  let c1_i32_284 : BitVec 32 := 1#32
  let v269 : BitVec 32 := Scalar.muli v2 c1_i32_284
  let v270 : BitVec 32 := Scalar.addi c0_i32_285 v269
  v270.toNat
def k0_dev15 (v2 : BitVec 32) : Nat :=
  let c0_i32_335 : BitVec 32 := 0#32
  let c1_i32_334 : BitVec 32 := 1#32
  let v321 : BitVec 32 := Scalar.muli v2 c1_i32_334
  let v322 : BitVec 32 := Scalar.addi c0_i32_335 v321
  v322.toNat
def k0_dev16 (v1 : BitVec 32) : Nat :=
  let c0_i32_346 : BitVec 32 := 0#32
  let c1_i32_345 : BitVec 32 := 1#32
  let v325 : BitVec 32 := Scalar.muli v1 c1_i32_345
  let v326 : BitVec 32 := Scalar.addi c0_i32_346 v325
  v326.toNat
def k0_dev17 (v2 : BitVec 32) : Nat :=
  let c0_i32_383 : BitVec 32 := 0#32
  let c1_i32_382 : BitVec 32 := 1#32
  let v358 : BitVec 32 := Scalar.muli v2 c1_i32_382
  let v359 : BitVec 32 := Scalar.addi c0_i32_383 v358
  v359.toNat
def k0_dev18 (v1 : BitVec 32) : Nat :=
  let c0_i32_394 : BitVec 32 := 0#32
  let c1_i32_393 : BitVec 32 := 1#32
  let v362 : BitVec 32 := Scalar.muli v1 c1_i32_393
  let v363 : BitVec 32 := Scalar.addi c0_i32_394 v362
  v363.toNat
def k0_dev19 (v1 : BitVec 32) : Nat :=
  let c0_i32_444 : BitVec 32 := 0#32
  let c1_i32_443 : BitVec 32 := 1#32
  let v414 : BitVec 32 := Scalar.muli v1 c1_i32_443
  let v415 : BitVec 32 := Scalar.addi c0_i32_444 v414
  v415.toNat
def k0_dev20 (v2 : BitVec 32) : Nat :=
  let c0_i32_455 : BitVec 32 := 0#32
  let c1_i32_454 : BitVec 32 := 1#32
  let v418 : BitVec 32 := Scalar.muli v2 c1_i32_454
  let v419 : BitVec 32 := Scalar.addi c0_i32_455 v418
  v419.toNat
def k0_dev21 (v1 : BitVec 32) : Nat :=
  let c0_i32_492 : BitVec 32 := 0#32
  let c1_i32_491 : BitVec 32 := 1#32
  let v451 : BitVec 32 := Scalar.muli v1 c1_i32_491
  let v452 : BitVec 32 := Scalar.addi c0_i32_492 v451
  v452.toNat
def k0_dev22 (v2 : BitVec 32) : Nat :=
  let c0_i32_503 : BitVec 32 := 0#32
  let c1_i32_502 : BitVec 32 := 1#32
  let v455 : BitVec 32 := Scalar.muli v2 c1_i32_502
  let v456 : BitVec 32 := Scalar.addi c0_i32_503 v455
  v456.toNat
def k0_dev23 (v2 : BitVec 32) : Nat :=
  let c0_i32_553 : BitVec 32 := 0#32
  let c1_i32_552 : BitVec 32 := 1#32
  let v507 : BitVec 32 := Scalar.muli v2 c1_i32_552
  let v508 : BitVec 32 := Scalar.addi c0_i32_553 v507
  v508.toNat
def k0_dev24 (v1 : BitVec 32) : Nat :=
  let c0_i32_564 : BitVec 32 := 0#32
  let c1_i32_563 : BitVec 32 := 1#32
  let v511 : BitVec 32 := Scalar.muli v1 c1_i32_563
  let v512 : BitVec 32 := Scalar.addi c0_i32_564 v511
  v512.toNat
def k0_dev25 (v2 : BitVec 32) : Nat :=
  let c0_i32_601 : BitVec 32 := 0#32
  let c1_i32_600 : BitVec 32 := 1#32
  let v544 : BitVec 32 := Scalar.muli v2 c1_i32_600
  let v545 : BitVec 32 := Scalar.addi c0_i32_601 v544
  v545.toNat
def k0_dev26 (v1 : BitVec 32) : Nat :=
  let c0_i32_612 : BitVec 32 := 0#32
  let c1_i32_611 : BitVec 32 := 1#32
  let v548 : BitVec 32 := Scalar.muli v1 c1_i32_611
  let v549 : BitVec 32 := Scalar.addi c0_i32_612 v548
  v549.toNat
def k0_dev27 (v1 : BitVec 32) : Nat :=
  let c0_i32_662 : BitVec 32 := 0#32
  let c1_i32_661 : BitVec 32 := 1#32
  let v600 : BitVec 32 := Scalar.muli v1 c1_i32_661
  let v601 : BitVec 32 := Scalar.addi c0_i32_662 v600
  v601.toNat
def k0_dev28 (v2 : BitVec 32) : Nat :=
  let c0_i32_673 : BitVec 32 := 0#32
  let c1_i32_672 : BitVec 32 := 1#32
  let v604 : BitVec 32 := Scalar.muli v2 c1_i32_672
  let v605 : BitVec 32 := Scalar.addi c0_i32_673 v604
  v605.toNat
def k0_dev29 (v1 : BitVec 32) : Nat :=
  let c0_i32_710 : BitVec 32 := 0#32
  let c1_i32_709 : BitVec 32 := 1#32
  let v637 : BitVec 32 := Scalar.muli v1 c1_i32_709
  let v638 : BitVec 32 := Scalar.addi c0_i32_710 v637
  v638.toNat
def k0_dev30 (v2 : BitVec 32) : Nat :=
  let c0_i32_721 : BitVec 32 := 0#32
  let c1_i32_720 : BitVec 32 := 1#32
  let v641 : BitVec 32 := Scalar.muli v2 c1_i32_720
  let v642 : BitVec 32 := Scalar.addi c0_i32_721 v641
  v642.toNat
def k0_dev31 (v2 : BitVec 32) : Nat :=
  let c0_i32_770 : BitVec 32 := 0#32
  let c1_i32_769 : BitVec 32 := 1#32
  let v693 : BitVec 32 := Scalar.muli v2 c1_i32_769
  let v694 : BitVec 32 := Scalar.addi c0_i32_770 v693
  v694.toNat
def k0_dev32 (v1 : BitVec 32) : Nat :=
  let c0_i32_781 : BitVec 32 := 0#32
  let c1_i32_780 : BitVec 32 := 1#32
  let v697 : BitVec 32 := Scalar.muli v1 c1_i32_780
  let v698 : BitVec 32 := Scalar.addi c0_i32_781 v697
  v698.toNat
def k0_dev33 (v2 : BitVec 32) : Nat :=
  let c0_i32_818 : BitVec 32 := 0#32
  let c1_i32_817 : BitVec 32 := 1#32
  let v730 : BitVec 32 := Scalar.muli v2 c1_i32_817
  let v731 : BitVec 32 := Scalar.addi c0_i32_818 v730
  v731.toNat
def k0_dev34 (v1 : BitVec 32) : Nat :=
  let c0_i32_829 : BitVec 32 := 0#32
  let c1_i32_828 : BitVec 32 := 1#32
  let v734 : BitVec 32 := Scalar.muli v1 c1_i32_828
  let v735 : BitVec 32 := Scalar.addi c0_i32_829 v734
  v735.toNat
def k0_dev35 (v1 : BitVec 32) : Nat :=
  let c0_i32_879 : BitVec 32 := 0#32
  let c1_i32_878 : BitVec 32 := 1#32
  let v786 : BitVec 32 := Scalar.muli v1 c1_i32_878
  let v787 : BitVec 32 := Scalar.addi c0_i32_879 v786
  v787.toNat
def k0_dev36 (v2 : BitVec 32) : Nat :=
  let c0_i32_890 : BitVec 32 := 0#32
  let c1_i32_889 : BitVec 32 := 1#32
  let v790 : BitVec 32 := Scalar.muli v2 c1_i32_889
  let v791 : BitVec 32 := Scalar.addi c0_i32_890 v790
  v791.toNat
def k0_dev37 (v1 : BitVec 32) : Nat :=
  let c0_i32_927 : BitVec 32 := 0#32
  let c1_i32_926 : BitVec 32 := 1#32
  let v823 : BitVec 32 := Scalar.muli v1 c1_i32_926
  let v824 : BitVec 32 := Scalar.addi c0_i32_927 v823
  v824.toNat
def k0_dev38 (v2 : BitVec 32) : Nat :=
  let c0_i32_938 : BitVec 32 := 0#32
  let c1_i32_937 : BitVec 32 := 1#32
  let v827 : BitVec 32 := Scalar.muli v2 c1_i32_937
  let v828 : BitVec 32 := Scalar.addi c0_i32_938 v827
  v828.toNat
def k0_dev39 (v2 : BitVec 32) : Nat :=
  let c0_i32_987 : BitVec 32 := 0#32
  let c1_i32_986 : BitVec 32 := 1#32
  let v879 : BitVec 32 := Scalar.muli v2 c1_i32_986
  let v880 : BitVec 32 := Scalar.addi c0_i32_987 v879
  v880.toNat
def k0_dev40 (v1 : BitVec 32) : Nat :=
  let c0_i32_998 : BitVec 32 := 0#32
  let c1_i32_997 : BitVec 32 := 1#32
  let v883 : BitVec 32 := Scalar.muli v1 c1_i32_997
  let v884 : BitVec 32 := Scalar.addi c0_i32_998 v883
  v884.toNat
def k0_dev41 (v2 : BitVec 32) : Nat :=
  let c0_i32_1035 : BitVec 32 := 0#32
  let c1_i32_1034 : BitVec 32 := 1#32
  let v916 : BitVec 32 := Scalar.muli v2 c1_i32_1034
  let v917 : BitVec 32 := Scalar.addi c0_i32_1035 v916
  v917.toNat
def k0_dev42 (v1 : BitVec 32) : Nat :=
  let c0_i32_1046 : BitVec 32 := 0#32
  let c1_i32_1045 : BitVec 32 := 1#32
  let v920 : BitVec 32 := Scalar.muli v1 c1_i32_1045
  let v921 : BitVec 32 := Scalar.addi c0_i32_1046 v920
  v921.toNat
def k0_dev43 (v1 : BitVec 32) : Nat :=
  let c0_i32_1096 : BitVec 32 := 0#32
  let c1_i32_1095 : BitVec 32 := 1#32
  let v972 : BitVec 32 := Scalar.muli v1 c1_i32_1095
  let v973 : BitVec 32 := Scalar.addi c0_i32_1096 v972
  v973.toNat
def k0_dev44 (v2 : BitVec 32) : Nat :=
  let c0_i32_1107 : BitVec 32 := 0#32
  let c1_i32_1106 : BitVec 32 := 1#32
  let v976 : BitVec 32 := Scalar.muli v2 c1_i32_1106
  let v977 : BitVec 32 := Scalar.addi c0_i32_1107 v976
  v977.toNat
def k0_dev45 (v1 : BitVec 32) : Nat :=
  let c0_i32_1144 : BitVec 32 := 0#32
  let c1_i32_1143 : BitVec 32 := 1#32
  let v1009 : BitVec 32 := Scalar.muli v1 c1_i32_1143
  let v1010 : BitVec 32 := Scalar.addi c0_i32_1144 v1009
  v1010.toNat
def k0_dev46 (v2 : BitVec 32) : Nat :=
  let c0_i32_1155 : BitVec 32 := 0#32
  let c1_i32_1154 : BitVec 32 := 1#32
  let v1013 : BitVec 32 := Scalar.muli v2 c1_i32_1154
  let v1014 : BitVec 32 := Scalar.addi c0_i32_1155 v1013
  v1014.toNat
def k0_dev47 (v2 : BitVec 32) : Nat :=
  let c0_i32_1204 : BitVec 32 := 0#32
  let c1_i32_1203 : BitVec 32 := 1#32
  let v1065 : BitVec 32 := Scalar.muli v2 c1_i32_1203
  let v1066 : BitVec 32 := Scalar.addi c0_i32_1204 v1065
  v1066.toNat
def k0_dev48 (v1 : BitVec 32) : Nat :=
  let c0_i32_1215 : BitVec 32 := 0#32
  let c1_i32_1214 : BitVec 32 := 1#32
  let v1069 : BitVec 32 := Scalar.muli v1 c1_i32_1214
  let v1070 : BitVec 32 := Scalar.addi c0_i32_1215 v1069
  v1070.toNat
def k0_dev49 (v2 : BitVec 32) : Nat :=
  let c0_i32_1252 : BitVec 32 := 0#32
  let c1_i32_1251 : BitVec 32 := 1#32
  let v1102 : BitVec 32 := Scalar.muli v2 c1_i32_1251
  let v1103 : BitVec 32 := Scalar.addi c0_i32_1252 v1102
  v1103.toNat
def k0_dev50 (v1 : BitVec 32) : Nat :=
  let c0_i32_1263 : BitVec 32 := 0#32
  let c1_i32_1262 : BitVec 32 := 1#32
  let v1106 : BitVec 32 := Scalar.muli v1 c1_i32_1262
  let v1107 : BitVec 32 := Scalar.addi c0_i32_1263 v1106
  v1107.toNat
def k0_dev51 (v1 : BitVec 32) : Nat :=
  let c0_i32_1313 : BitVec 32 := 0#32
  let c1_i32_1312 : BitVec 32 := 1#32
  let v1158 : BitVec 32 := Scalar.muli v1 c1_i32_1312
  let v1159 : BitVec 32 := Scalar.addi c0_i32_1313 v1158
  v1159.toNat
def k0_dev52 (v2 : BitVec 32) : Nat :=
  let c0_i32_1324 : BitVec 32 := 0#32
  let c1_i32_1323 : BitVec 32 := 1#32
  let v1162 : BitVec 32 := Scalar.muli v2 c1_i32_1323
  let v1163 : BitVec 32 := Scalar.addi c0_i32_1324 v1162
  v1163.toNat
def k0_dev53 (v1 : BitVec 32) : Nat :=
  let c0_i32_1361 : BitVec 32 := 0#32
  let c1_i32_1360 : BitVec 32 := 1#32
  let v1195 : BitVec 32 := Scalar.muli v1 c1_i32_1360
  let v1196 : BitVec 32 := Scalar.addi c0_i32_1361 v1195
  v1196.toNat
def k0_dev54 (v2 : BitVec 32) : Nat :=
  let c0_i32_1372 : BitVec 32 := 0#32
  let c1_i32_1371 : BitVec 32 := 1#32
  let v1199 : BitVec 32 := Scalar.muli v2 c1_i32_1371
  let v1200 : BitVec 32 := Scalar.addi c0_i32_1372 v1199
  v1200.toNat
def k0_dev55 (v2 : BitVec 32) : Nat :=
  let c0_i32_1421 : BitVec 32 := 0#32
  let c1_i32_1420 : BitVec 32 := 1#32
  let v1251 : BitVec 32 := Scalar.muli v2 c1_i32_1420
  let v1252 : BitVec 32 := Scalar.addi c0_i32_1421 v1251
  v1252.toNat
def k0_dev56 (v1 : BitVec 32) : Nat :=
  let c0_i32_1432 : BitVec 32 := 0#32
  let c1_i32_1431 : BitVec 32 := 1#32
  let v1255 : BitVec 32 := Scalar.muli v1 c1_i32_1431
  let v1256 : BitVec 32 := Scalar.addi c0_i32_1432 v1255
  v1256.toNat
def k0_dev57 (v2 : BitVec 32) : Nat :=
  let c0_i32_1469 : BitVec 32 := 0#32
  let c1_i32_1468 : BitVec 32 := 1#32
  let v1288 : BitVec 32 := Scalar.muli v2 c1_i32_1468
  let v1289 : BitVec 32 := Scalar.addi c0_i32_1469 v1288
  v1289.toNat
def k0_dev58 (v1 : BitVec 32) : Nat :=
  let c0_i32_1480 : BitVec 32 := 0#32
  let c1_i32_1479 : BitVec 32 := 1#32
  let v1292 : BitVec 32 := Scalar.muli v1 c1_i32_1479
  let v1293 : BitVec 32 := Scalar.addi c0_i32_1480 v1292
  v1293.toNat
def k0_dev59 (v1 : BitVec 32) : Nat :=
  let c0_i32_1530 : BitVec 32 := 0#32
  let c1_i32_1529 : BitVec 32 := 1#32
  let v1344 : BitVec 32 := Scalar.muli v1 c1_i32_1529
  let v1345 : BitVec 32 := Scalar.addi c0_i32_1530 v1344
  v1345.toNat
def k0_dev60 (v2 : BitVec 32) : Nat :=
  let c0_i32_1541 : BitVec 32 := 0#32
  let c1_i32_1540 : BitVec 32 := 1#32
  let v1348 : BitVec 32 := Scalar.muli v2 c1_i32_1540
  let v1349 : BitVec 32 := Scalar.addi c0_i32_1541 v1348
  v1349.toNat
def k0_dev61 (v1 : BitVec 32) : Nat :=
  let c0_i32_1578 : BitVec 32 := 0#32
  let c1_i32_1577 : BitVec 32 := 1#32
  let v1381 : BitVec 32 := Scalar.muli v1 c1_i32_1577
  let v1382 : BitVec 32 := Scalar.addi c0_i32_1578 v1381
  v1382.toNat
def k0_dev62 (v2 : BitVec 32) : Nat :=
  let c0_i32_1589 : BitVec 32 := 0#32
  let c1_i32_1588 : BitVec 32 := 1#32
  let v1385 : BitVec 32 := Scalar.muli v2 c1_i32_1588
  let v1386 : BitVec 32 := Scalar.addi c0_i32_1589 v1385
  v1386.toNat
def k0_dev63 (v2 : BitVec 32) : Nat :=
  let c0_i32_1638 : BitVec 32 := 0#32
  let c1_i32_1637 : BitVec 32 := 1#32
  let v1437 : BitVec 32 := Scalar.muli v2 c1_i32_1637
  let v1438 : BitVec 32 := Scalar.addi c0_i32_1638 v1437
  v1438.toNat
def k0_dev64 (v1 : BitVec 32) : Nat :=
  let c0_i32_1649 : BitVec 32 := 0#32
  let c1_i32_1648 : BitVec 32 := 1#32
  let v1441 : BitVec 32 := Scalar.muli v1 c1_i32_1648
  let v1442 : BitVec 32 := Scalar.addi c0_i32_1649 v1441
  v1442.toNat
def k0_dev65 (v2 : BitVec 32) : Nat :=
  let c0_i32_1686 : BitVec 32 := 0#32
  let c1_i32_1685 : BitVec 32 := 1#32
  let v1474 : BitVec 32 := Scalar.muli v2 c1_i32_1685
  let v1475 : BitVec 32 := Scalar.addi c0_i32_1686 v1474
  v1475.toNat
def k0_dev66 (v1 : BitVec 32) : Nat :=
  let c0_i32_1697 : BitVec 32 := 0#32
  let c1_i32_1696 : BitVec 32 := 1#32
  let v1478 : BitVec 32 := Scalar.muli v1 c1_i32_1696
  let v1479 : BitVec 32 := Scalar.addi c0_i32_1697 v1478
  v1479.toNat
def k0_dev67 (v1 : BitVec 32) : Nat :=
  let c0_i32_1747 : BitVec 32 := 0#32
  let c1_i32_1746 : BitVec 32 := 1#32
  let v1530 : BitVec 32 := Scalar.muli v1 c1_i32_1746
  let v1531 : BitVec 32 := Scalar.addi c0_i32_1747 v1530
  v1531.toNat
def k0_dev68 (v2 : BitVec 32) : Nat :=
  let c0_i32_1758 : BitVec 32 := 0#32
  let c1_i32_1757 : BitVec 32 := 1#32
  let v1534 : BitVec 32 := Scalar.muli v2 c1_i32_1757
  let v1535 : BitVec 32 := Scalar.addi c0_i32_1758 v1534
  v1535.toNat
def k0_dev69 (v1 : BitVec 32) : Nat :=
  let c0_i32_1795 : BitVec 32 := 0#32
  let c1_i32_1794 : BitVec 32 := 1#32
  let v1567 : BitVec 32 := Scalar.muli v1 c1_i32_1794
  let v1568 : BitVec 32 := Scalar.addi c0_i32_1795 v1567
  v1568.toNat
def k0_dev70 (v2 : BitVec 32) : Nat :=
  let c0_i32_1806 : BitVec 32 := 0#32
  let c1_i32_1805 : BitVec 32 := 1#32
  let v1571 : BitVec 32 := Scalar.muli v2 c1_i32_1805
  let v1572 : BitVec 32 := Scalar.addi c0_i32_1806 v1571
  v1572.toNat
def k0_dev71 (v2 : BitVec 32) : Nat :=
  let c0_i32_1855 : BitVec 32 := 0#32
  let c1_i32_1854 : BitVec 32 := 1#32
  let v1623 : BitVec 32 := Scalar.muli v2 c1_i32_1854
  let v1624 : BitVec 32 := Scalar.addi c0_i32_1855 v1623
  v1624.toNat
def k0_dev72 (v1 : BitVec 32) : Nat :=
  let c0_i32_1866 : BitVec 32 := 0#32
  let c1_i32_1865 : BitVec 32 := 1#32
  let v1627 : BitVec 32 := Scalar.muli v1 c1_i32_1865
  let v1628 : BitVec 32 := Scalar.addi c0_i32_1866 v1627
  v1628.toNat
def k0_dev73 (v2 : BitVec 32) : Nat :=
  let c0_i32_1903 : BitVec 32 := 0#32
  let c1_i32_1902 : BitVec 32 := 1#32
  let v1660 : BitVec 32 := Scalar.muli v2 c1_i32_1902
  let v1661 : BitVec 32 := Scalar.addi c0_i32_1903 v1660
  v1661.toNat
def k0_dev74 (v1 : BitVec 32) : Nat :=
  let c0_i32_1914 : BitVec 32 := 0#32
  let c1_i32_1913 : BitVec 32 := 1#32
  let v1664 : BitVec 32 := Scalar.muli v1 c1_i32_1913
  let v1665 : BitVec 32 := Scalar.addi c0_i32_1914 v1664
  v1665.toNat
def k0_dev75 (v1 : BitVec 32) : Nat :=
  let c0_i32_1964 : BitVec 32 := 0#32
  let c1_i32_1963 : BitVec 32 := 1#32
  let v1716 : BitVec 32 := Scalar.muli v1 c1_i32_1963
  let v1717 : BitVec 32 := Scalar.addi c0_i32_1964 v1716
  v1717.toNat
def k0_dev76 (v2 : BitVec 32) : Nat :=
  let c0_i32_1975 : BitVec 32 := 0#32
  let c1_i32_1974 : BitVec 32 := 1#32
  let v1720 : BitVec 32 := Scalar.muli v2 c1_i32_1974
  let v1721 : BitVec 32 := Scalar.addi c0_i32_1975 v1720
  v1721.toNat
def k0_dev77 (v1 : BitVec 32) : Nat :=
  let c0_i32_2012 : BitVec 32 := 0#32
  let c1_i32_2011 : BitVec 32 := 1#32
  let v1753 : BitVec 32 := Scalar.muli v1 c1_i32_2011
  let v1754 : BitVec 32 := Scalar.addi c0_i32_2012 v1753
  v1754.toNat
def k0_dev78 (v2 : BitVec 32) : Nat :=
  let c0_i32_2023 : BitVec 32 := 0#32
  let c1_i32_2022 : BitVec 32 := 1#32
  let v1757 : BitVec 32 := Scalar.muli v2 c1_i32_2022
  let v1758 : BitVec 32 := Scalar.addi c0_i32_2023 v1757
  v1758.toNat
def k0_dev79 (v2 : BitVec 32) : Nat :=
  let c0_i32_2072 : BitVec 32 := 0#32
  let c1_i32_2071 : BitVec 32 := 1#32
  let v1809 : BitVec 32 := Scalar.muli v2 c1_i32_2071
  let v1810 : BitVec 32 := Scalar.addi c0_i32_2072 v1809
  v1810.toNat
def k0_dev80 (v1 : BitVec 32) : Nat :=
  let c0_i32_2083 : BitVec 32 := 0#32
  let c1_i32_2082 : BitVec 32 := 1#32
  let v1813 : BitVec 32 := Scalar.muli v1 c1_i32_2082
  let v1814 : BitVec 32 := Scalar.addi c0_i32_2083 v1813
  v1814.toNat
def k0_dev81 (v2 : BitVec 32) : Nat :=
  let c0_i32_2120 : BitVec 32 := 0#32
  let c1_i32_2119 : BitVec 32 := 1#32
  let v1846 : BitVec 32 := Scalar.muli v2 c1_i32_2119
  let v1847 : BitVec 32 := Scalar.addi c0_i32_2120 v1846
  v1847.toNat
def k0_dev82 (v1 : BitVec 32) : Nat :=
  let c0_i32_2131 : BitVec 32 := 0#32
  let c1_i32_2130 : BitVec 32 := 1#32
  let v1850 : BitVec 32 := Scalar.muli v1 c1_i32_2130
  let v1851 : BitVec 32 := Scalar.addi c0_i32_2131 v1850
  v1851.toNat
def k0_dev83 (v1 : BitVec 32) : Nat :=
  let c0_i32_2181 : BitVec 32 := 0#32
  let c1_i32_2180 : BitVec 32 := 1#32
  let v1902 : BitVec 32 := Scalar.muli v1 c1_i32_2180
  let v1903 : BitVec 32 := Scalar.addi c0_i32_2181 v1902
  v1903.toNat
def k0_dev84 (v2 : BitVec 32) : Nat :=
  let c0_i32_2192 : BitVec 32 := 0#32
  let c1_i32_2191 : BitVec 32 := 1#32
  let v1906 : BitVec 32 := Scalar.muli v2 c1_i32_2191
  let v1907 : BitVec 32 := Scalar.addi c0_i32_2192 v1906
  v1907.toNat
def k0_dev85 (v1 : BitVec 32) : Nat :=
  let c0_i32_2229 : BitVec 32 := 0#32
  let c1_i32_2228 : BitVec 32 := 1#32
  let v1939 : BitVec 32 := Scalar.muli v1 c1_i32_2228
  let v1940 : BitVec 32 := Scalar.addi c0_i32_2229 v1939
  v1940.toNat
def k0_dev86 (v2 : BitVec 32) : Nat :=
  let c0_i32_2240 : BitVec 32 := 0#32
  let c1_i32_2239 : BitVec 32 := 1#32
  let v1943 : BitVec 32 := Scalar.muli v2 c1_i32_2239
  let v1944 : BitVec 32 := Scalar.addi c0_i32_2240 v1943
  v1944.toNat
def k0_dev87 (v2 : BitVec 32) : Nat :=
  let c0_i32_2289 : BitVec 32 := 0#32
  let c1_i32_2288 : BitVec 32 := 1#32
  let v1995 : BitVec 32 := Scalar.muli v2 c1_i32_2288
  let v1996 : BitVec 32 := Scalar.addi c0_i32_2289 v1995
  v1996.toNat
def k0_dev88 (v1 : BitVec 32) : Nat :=
  let c0_i32_2300 : BitVec 32 := 0#32
  let c1_i32_2299 : BitVec 32 := 1#32
  let v1999 : BitVec 32 := Scalar.muli v1 c1_i32_2299
  let v2000 : BitVec 32 := Scalar.addi c0_i32_2300 v1999
  v2000.toNat
def k0_dev89 (v2 : BitVec 32) : Nat :=
  let c0_i32_2337 : BitVec 32 := 0#32
  let c1_i32_2336 : BitVec 32 := 1#32
  let v2032 : BitVec 32 := Scalar.muli v2 c1_i32_2336
  let v2033 : BitVec 32 := Scalar.addi c0_i32_2337 v2032
  v2033.toNat
def k0_dev90 (v1 : BitVec 32) : Nat :=
  let c0_i32_2348 : BitVec 32 := 0#32
  let c1_i32_2347 : BitVec 32 := 1#32
  let v2036 : BitVec 32 := Scalar.muli v1 c1_i32_2347
  let v2037 : BitVec 32 := Scalar.addi c0_i32_2348 v2036
  v2037.toNat
def k0_dev91 (v1 : BitVec 32) : Nat :=
  let c0_i32_2398 : BitVec 32 := 0#32
  let c1_i32_2397 : BitVec 32 := 1#32
  let v2088 : BitVec 32 := Scalar.muli v1 c1_i32_2397
  let v2089 : BitVec 32 := Scalar.addi c0_i32_2398 v2088
  v2089.toNat
def k0_dev92 (v2 : BitVec 32) : Nat :=
  let c0_i32_2409 : BitVec 32 := 0#32
  let c1_i32_2408 : BitVec 32 := 1#32
  let v2092 : BitVec 32 := Scalar.muli v2 c1_i32_2408
  let v2093 : BitVec 32 := Scalar.addi c0_i32_2409 v2092
  v2093.toNat
def k0_dev93 (v1 : BitVec 32) : Nat :=
  let c0_i32_2446 : BitVec 32 := 0#32
  let c1_i32_2445 : BitVec 32 := 1#32
  let v2125 : BitVec 32 := Scalar.muli v1 c1_i32_2445
  let v2126 : BitVec 32 := Scalar.addi c0_i32_2446 v2125
  v2126.toNat
def k0_dev94 (v2 : BitVec 32) : Nat :=
  let c0_i32_2457 : BitVec 32 := 0#32
  let c1_i32_2456 : BitVec 32 := 1#32
  let v2129 : BitVec 32 := Scalar.muli v2 c1_i32_2456
  let v2130 : BitVec 32 := Scalar.addi c0_i32_2457 v2129
  v2130.toNat
def k0_dev95 (v2 : BitVec 32) : Nat :=
  let c0_i32_2506 : BitVec 32 := 0#32
  let c1_i32_2505 : BitVec 32 := 1#32
  let v2181 : BitVec 32 := Scalar.muli v2 c1_i32_2505
  let v2182 : BitVec 32 := Scalar.addi c0_i32_2506 v2181
  v2182.toNat
def k0_dev96 (v1 : BitVec 32) : Nat :=
  let c0_i32_2517 : BitVec 32 := 0#32
  let c1_i32_2516 : BitVec 32 := 1#32
  let v2185 : BitVec 32 := Scalar.muli v1 c1_i32_2516
  let v2186 : BitVec 32 := Scalar.addi c0_i32_2517 v2185
  v2186.toNat
def k0_dev97 (v2 : BitVec 32) : Nat :=
  let c0_i32_2554 : BitVec 32 := 0#32
  let c1_i32_2553 : BitVec 32 := 1#32
  let v2218 : BitVec 32 := Scalar.muli v2 c1_i32_2553
  let v2219 : BitVec 32 := Scalar.addi c0_i32_2554 v2218
  v2219.toNat
def k0_dev98 (v1 : BitVec 32) : Nat :=
  let c0_i32_2565 : BitVec 32 := 0#32
  let c1_i32_2564 : BitVec 32 := 1#32
  let v2222 : BitVec 32 := Scalar.muli v1 c1_i32_2564
  let v2223 : BitVec 32 := Scalar.addi c0_i32_2565 v2222
  v2223.toNat
def k0_dev99 (v1 : BitVec 32) : Nat :=
  let c0_i32_2615 : BitVec 32 := 0#32
  let c1_i32_2614 : BitVec 32 := 1#32
  let v2274 : BitVec 32 := Scalar.muli v1 c1_i32_2614
  let v2275 : BitVec 32 := Scalar.addi c0_i32_2615 v2274
  v2275.toNat
def k0_dev100 (v2 : BitVec 32) : Nat :=
  let c0_i32_2626 : BitVec 32 := 0#32
  let c1_i32_2625 : BitVec 32 := 1#32
  let v2278 : BitVec 32 := Scalar.muli v2 c1_i32_2625
  let v2279 : BitVec 32 := Scalar.addi c0_i32_2626 v2278
  v2279.toNat
def k0_dev101 (v1 : BitVec 32) : Nat :=
  let c0_i32_2663 : BitVec 32 := 0#32
  let c1_i32_2662 : BitVec 32 := 1#32
  let v2311 : BitVec 32 := Scalar.muli v1 c1_i32_2662
  let v2312 : BitVec 32 := Scalar.addi c0_i32_2663 v2311
  v2312.toNat
def k0_dev102 (v2 : BitVec 32) : Nat :=
  let c0_i32_2674 : BitVec 32 := 0#32
  let c1_i32_2673 : BitVec 32 := 1#32
  let v2315 : BitVec 32 := Scalar.muli v2 c1_i32_2673
  let v2316 : BitVec 32 := Scalar.addi c0_i32_2674 v2315
  v2316.toNat
def k0_dev103 (v2 : BitVec 32) : Nat :=
  let c0_i32_2723 : BitVec 32 := 0#32
  let c1_i32_2722 : BitVec 32 := 1#32
  let v2367 : BitVec 32 := Scalar.muli v2 c1_i32_2722
  let v2368 : BitVec 32 := Scalar.addi c0_i32_2723 v2367
  v2368.toNat
def k0_dev104 (v1 : BitVec 32) : Nat :=
  let c0_i32_2734 : BitVec 32 := 0#32
  let c1_i32_2733 : BitVec 32 := 1#32
  let v2371 : BitVec 32 := Scalar.muli v1 c1_i32_2733
  let v2372 : BitVec 32 := Scalar.addi c0_i32_2734 v2371
  v2372.toNat
def k0_dev105 (v2 : BitVec 32) : Nat :=
  let c0_i32_2771 : BitVec 32 := 0#32
  let c1_i32_2770 : BitVec 32 := 1#32
  let v2404 : BitVec 32 := Scalar.muli v2 c1_i32_2770
  let v2405 : BitVec 32 := Scalar.addi c0_i32_2771 v2404
  v2405.toNat
def k0_dev106 (v1 : BitVec 32) : Nat :=
  let c0_i32_2782 : BitVec 32 := 0#32
  let c1_i32_2781 : BitVec 32 := 1#32
  let v2408 : BitVec 32 := Scalar.muli v1 c1_i32_2781
  let v2409 : BitVec 32 := Scalar.addi c0_i32_2782 v2408
  v2409.toNat
def k0_dev107 (v1 : BitVec 32) : Nat :=
  let c0_i32_2832 : BitVec 32 := 0#32
  let c1_i32_2831 : BitVec 32 := 1#32
  let v2460 : BitVec 32 := Scalar.muli v1 c1_i32_2831
  let v2461 : BitVec 32 := Scalar.addi c0_i32_2832 v2460
  v2461.toNat
def k0_dev108 (v2 : BitVec 32) : Nat :=
  let c0_i32_2843 : BitVec 32 := 0#32
  let c1_i32_2842 : BitVec 32 := 1#32
  let v2464 : BitVec 32 := Scalar.muli v2 c1_i32_2842
  let v2465 : BitVec 32 := Scalar.addi c0_i32_2843 v2464
  v2465.toNat
def k0_dev109 (v1 : BitVec 32) : Nat :=
  let c0_i32_2880 : BitVec 32 := 0#32
  let c1_i32_2879 : BitVec 32 := 1#32
  let v2497 : BitVec 32 := Scalar.muli v1 c1_i32_2879
  let v2498 : BitVec 32 := Scalar.addi c0_i32_2880 v2497
  v2498.toNat
def k0_dev110 (v2 : BitVec 32) : Nat :=
  let c0_i32_2891 : BitVec 32 := 0#32
  let c1_i32_2890 : BitVec 32 := 1#32
  let v2501 : BitVec 32 := Scalar.muli v2 c1_i32_2890
  let v2502 : BitVec 32 := Scalar.addi c0_i32_2891 v2501
  v2502.toNat
def k0_dev111 (v2 : BitVec 32) : Nat :=
  let c0_i32_2940 : BitVec 32 := 0#32
  let c1_i32_2939 : BitVec 32 := 1#32
  let v2553 : BitVec 32 := Scalar.muli v2 c1_i32_2939
  let v2554 : BitVec 32 := Scalar.addi c0_i32_2940 v2553
  v2554.toNat
def k0_dev112 (v1 : BitVec 32) : Nat :=
  let c0_i32_2951 : BitVec 32 := 0#32
  let c1_i32_2950 : BitVec 32 := 1#32
  let v2557 : BitVec 32 := Scalar.muli v1 c1_i32_2950
  let v2558 : BitVec 32 := Scalar.addi c0_i32_2951 v2557
  v2558.toNat
def k0_dev113 (v2 : BitVec 32) : Nat :=
  let c0_i32_2988 : BitVec 32 := 0#32
  let c1_i32_2987 : BitVec 32 := 1#32
  let v2590 : BitVec 32 := Scalar.muli v2 c1_i32_2987
  let v2591 : BitVec 32 := Scalar.addi c0_i32_2988 v2590
  v2591.toNat
def k0_dev114 (v1 : BitVec 32) : Nat :=
  let c0_i32_2999 : BitVec 32 := 0#32
  let c1_i32_2998 : BitVec 32 := 1#32
  let v2594 : BitVec 32 := Scalar.muli v1 c1_i32_2998
  let v2595 : BitVec 32 := Scalar.addi c0_i32_2999 v2594
  v2595.toNat
def k0_dev115 (v1 : BitVec 32) : Nat :=
  let c0_i32_3049 : BitVec 32 := 0#32
  let c1_i32_3048 : BitVec 32 := 1#32
  let v2646 : BitVec 32 := Scalar.muli v1 c1_i32_3048
  let v2647 : BitVec 32 := Scalar.addi c0_i32_3049 v2646
  v2647.toNat
def k0_dev116 (v2 : BitVec 32) : Nat :=
  let c0_i32_3060 : BitVec 32 := 0#32
  let c1_i32_3059 : BitVec 32 := 1#32
  let v2650 : BitVec 32 := Scalar.muli v2 c1_i32_3059
  let v2651 : BitVec 32 := Scalar.addi c0_i32_3060 v2650
  v2651.toNat
def k0_dev117 (v1 : BitVec 32) : Nat :=
  let c0_i32_3097 : BitVec 32 := 0#32
  let c1_i32_3096 : BitVec 32 := 1#32
  let v2683 : BitVec 32 := Scalar.muli v1 c1_i32_3096
  let v2684 : BitVec 32 := Scalar.addi c0_i32_3097 v2683
  v2684.toNat
def k0_dev118 (v2 : BitVec 32) : Nat :=
  let c0_i32_3108 : BitVec 32 := 0#32
  let c1_i32_3107 : BitVec 32 := 1#32
  let v2687 : BitVec 32 := Scalar.muli v2 c1_i32_3107
  let v2688 : BitVec 32 := Scalar.addi c0_i32_3108 v2687
  v2688.toNat
def k0_dev119 (v2 : BitVec 32) : Nat :=
  let c0_i32_3157 : BitVec 32 := 0#32
  let c1_i32_3156 : BitVec 32 := 1#32
  let v2739 : BitVec 32 := Scalar.muli v2 c1_i32_3156
  let v2740 : BitVec 32 := Scalar.addi c0_i32_3157 v2739
  v2740.toNat
def k0_dev120 (v1 : BitVec 32) : Nat :=
  let c0_i32_3168 : BitVec 32 := 0#32
  let c1_i32_3167 : BitVec 32 := 1#32
  let v2743 : BitVec 32 := Scalar.muli v1 c1_i32_3167
  let v2744 : BitVec 32 := Scalar.addi c0_i32_3168 v2743
  v2744.toNat
def k0_dev121 (v2 : BitVec 32) : Nat :=
  let c0_i32_3205 : BitVec 32 := 0#32
  let c1_i32_3204 : BitVec 32 := 1#32
  let v2776 : BitVec 32 := Scalar.muli v2 c1_i32_3204
  let v2777 : BitVec 32 := Scalar.addi c0_i32_3205 v2776
  v2777.toNat
def k0_dev122 (v1 : BitVec 32) : Nat :=
  let c0_i32_3216 : BitVec 32 := 0#32
  let c1_i32_3215 : BitVec 32 := 1#32
  let v2780 : BitVec 32 := Scalar.muli v1 c1_i32_3215
  let v2781 : BitVec 32 := Scalar.addi c0_i32_3216 v2780
  v2781.toNat
def k0_dev123 (v1 : BitVec 32) : Nat :=
  let c0_i32_3266 : BitVec 32 := 0#32
  let c1_i32_3265 : BitVec 32 := 1#32
  let v2832 : BitVec 32 := Scalar.muli v1 c1_i32_3265
  let v2833 : BitVec 32 := Scalar.addi c0_i32_3266 v2832
  v2833.toNat
def k0_dev124 (v2 : BitVec 32) : Nat :=
  let c0_i32_3277 : BitVec 32 := 0#32
  let c1_i32_3276 : BitVec 32 := 1#32
  let v2836 : BitVec 32 := Scalar.muli v2 c1_i32_3276
  let v2837 : BitVec 32 := Scalar.addi c0_i32_3277 v2836
  v2837.toNat
def k0_dev125 (v1 : BitVec 32) : Nat :=
  let c0_i32_3314 : BitVec 32 := 0#32
  let c1_i32_3313 : BitVec 32 := 1#32
  let v2869 : BitVec 32 := Scalar.muli v1 c1_i32_3313
  let v2870 : BitVec 32 := Scalar.addi c0_i32_3314 v2869
  v2870.toNat
def k0_dev126 (v2 : BitVec 32) : Nat :=
  let c0_i32_3325 : BitVec 32 := 0#32
  let c1_i32_3324 : BitVec 32 := 1#32
  let v2873 : BitVec 32 := Scalar.muli v2 c1_i32_3324
  let v2874 : BitVec 32 := Scalar.addi c0_i32_3325 v2873
  v2874.toNat
def k0_dev127 (v2 : BitVec 32) : Nat :=
  let c0_i32_3374 : BitVec 32 := 0#32
  let c1_i32_3373 : BitVec 32 := 1#32
  let v2925 : BitVec 32 := Scalar.muli v2 c1_i32_3373
  let v2926 : BitVec 32 := Scalar.addi c0_i32_3374 v2925
  v2926.toNat
def k0_dev128 (v1 : BitVec 32) : Nat :=
  let c0_i32_3385 : BitVec 32 := 0#32
  let c1_i32_3384 : BitVec 32 := 1#32
  let v2929 : BitVec 32 := Scalar.muli v1 c1_i32_3384
  let v2930 : BitVec 32 := Scalar.addi c0_i32_3385 v2929
  v2930.toNat
def k0_dev129 (v2 : BitVec 32) : Nat :=
  let c0_i32_3422 : BitVec 32 := 0#32
  let c1_i32_3421 : BitVec 32 := 1#32
  let v2962 : BitVec 32 := Scalar.muli v2 c1_i32_3421
  let v2963 : BitVec 32 := Scalar.addi c0_i32_3422 v2962
  v2963.toNat
def k0_dev130 (v1 : BitVec 32) : Nat :=
  let c0_i32_3433 : BitVec 32 := 0#32
  let c1_i32_3432 : BitVec 32 := 1#32
  let v2966 : BitVec 32 := Scalar.muli v1 c1_i32_3432
  let v2967 : BitVec 32 := Scalar.addi c0_i32_3433 v2966
  v2967.toNat
def k0_dev131 (v1 : BitVec 32) : Nat :=
  let c0_i32_3483 : BitVec 32 := 0#32
  let c1_i32_3482 : BitVec 32 := 1#32
  let v3018 : BitVec 32 := Scalar.muli v1 c1_i32_3482
  let v3019 : BitVec 32 := Scalar.addi c0_i32_3483 v3018
  v3019.toNat
def k0_dev132 (v2 : BitVec 32) : Nat :=
  let c0_i32_3494 : BitVec 32 := 0#32
  let c1_i32_3493 : BitVec 32 := 1#32
  let v3022 : BitVec 32 := Scalar.muli v2 c1_i32_3493
  let v3023 : BitVec 32 := Scalar.addi c0_i32_3494 v3022
  v3023.toNat
def k0_dev133 (v1 : BitVec 32) : Nat :=
  let c0_i32_3531 : BitVec 32 := 0#32
  let c1_i32_3530 : BitVec 32 := 1#32
  let v3055 : BitVec 32 := Scalar.muli v1 c1_i32_3530
  let v3056 : BitVec 32 := Scalar.addi c0_i32_3531 v3055
  v3056.toNat
def k0_dev134 (v2 : BitVec 32) : Nat :=
  let c0_i32_3542 : BitVec 32 := 0#32
  let c1_i32_3541 : BitVec 32 := 1#32
  let v3059 : BitVec 32 := Scalar.muli v2 c1_i32_3541
  let v3060 : BitVec 32 := Scalar.addi c0_i32_3542 v3059
  v3060.toNat
def k0_dev135 (v2 : BitVec 32) : Nat :=
  let c0_i32_3591 : BitVec 32 := 0#32
  let c1_i32_3590 : BitVec 32 := 1#32
  let v3111 : BitVec 32 := Scalar.muli v2 c1_i32_3590
  let v3112 : BitVec 32 := Scalar.addi c0_i32_3591 v3111
  v3112.toNat
def k0_dev136 (v1 : BitVec 32) : Nat :=
  let c0_i32_3602 : BitVec 32 := 0#32
  let c1_i32_3601 : BitVec 32 := 1#32
  let v3115 : BitVec 32 := Scalar.muli v1 c1_i32_3601
  let v3116 : BitVec 32 := Scalar.addi c0_i32_3602 v3115
  v3116.toNat
def k0_dev137 (v2 : BitVec 32) : Nat :=
  let c0_i32_3639 : BitVec 32 := 0#32
  let c1_i32_3638 : BitVec 32 := 1#32
  let v3148 : BitVec 32 := Scalar.muli v2 c1_i32_3638
  let v3149 : BitVec 32 := Scalar.addi c0_i32_3639 v3148
  v3149.toNat
def k0_dev138 (v1 : BitVec 32) : Nat :=
  let c0_i32_3650 : BitVec 32 := 0#32
  let c1_i32_3649 : BitVec 32 := 1#32
  let v3152 : BitVec 32 := Scalar.muli v1 c1_i32_3649
  let v3153 : BitVec 32 := Scalar.addi c0_i32_3650 v3152
  v3153.toNat
def k0_dev139 (v1 : BitVec 32) : Nat :=
  let c0_i32_3700 : BitVec 32 := 0#32
  let c1_i32_3699 : BitVec 32 := 1#32
  let v3204 : BitVec 32 := Scalar.muli v1 c1_i32_3699
  let v3205 : BitVec 32 := Scalar.addi c0_i32_3700 v3204
  v3205.toNat
def k0_dev140 (v2 : BitVec 32) : Nat :=
  let c0_i32_3711 : BitVec 32 := 0#32
  let c1_i32_3710 : BitVec 32 := 1#32
  let v3208 : BitVec 32 := Scalar.muli v2 c1_i32_3710
  let v3209 : BitVec 32 := Scalar.addi c0_i32_3711 v3208
  v3209.toNat
def k0_dev141 (v1 : BitVec 32) : Nat :=
  let c0_i32_3748 : BitVec 32 := 0#32
  let c1_i32_3747 : BitVec 32 := 1#32
  let v3241 : BitVec 32 := Scalar.muli v1 c1_i32_3747
  let v3242 : BitVec 32 := Scalar.addi c0_i32_3748 v3241
  v3242.toNat
def k0_dev142 (v2 : BitVec 32) : Nat :=
  let c0_i32_3759 : BitVec 32 := 0#32
  let c1_i32_3758 : BitVec 32 := 1#32
  let v3245 : BitVec 32 := Scalar.muli v2 c1_i32_3758
  let v3246 : BitVec 32 := Scalar.addi c0_i32_3759 v3245
  v3246.toNat
def k0_dev143 (v2 : BitVec 32) : Nat :=
  let c0_i32_3808 : BitVec 32 := 0#32
  let c1_i32_3807 : BitVec 32 := 1#32
  let v3297 : BitVec 32 := Scalar.muli v2 c1_i32_3807
  let v3298 : BitVec 32 := Scalar.addi c0_i32_3808 v3297
  v3298.toNat
def k0_dev144 (v1 : BitVec 32) : Nat :=
  let c0_i32_3819 : BitVec 32 := 0#32
  let c1_i32_3818 : BitVec 32 := 1#32
  let v3301 : BitVec 32 := Scalar.muli v1 c1_i32_3818
  let v3302 : BitVec 32 := Scalar.addi c0_i32_3819 v3301
  v3302.toNat
def k0_dev145 (v2 : BitVec 32) : Nat :=
  let c0_i32_3856 : BitVec 32 := 0#32
  let c1_i32_3855 : BitVec 32 := 1#32
  let v3334 : BitVec 32 := Scalar.muli v2 c1_i32_3855
  let v3335 : BitVec 32 := Scalar.addi c0_i32_3856 v3334
  v3335.toNat
def k0_dev146 (v1 : BitVec 32) : Nat :=
  let c0_i32_3867 : BitVec 32 := 0#32
  let c1_i32_3866 : BitVec 32 := 1#32
  let v3338 : BitVec 32 := Scalar.muli v1 c1_i32_3866
  let v3339 : BitVec 32 := Scalar.addi c0_i32_3867 v3338
  v3339.toNat
def k0_dev147 (v1 : BitVec 32) : Nat :=
  let c0_i32_3917 : BitVec 32 := 0#32
  let c1_i32_3916 : BitVec 32 := 1#32
  let v3390 : BitVec 32 := Scalar.muli v1 c1_i32_3916
  let v3391 : BitVec 32 := Scalar.addi c0_i32_3917 v3390
  v3391.toNat
def k0_dev148 (v2 : BitVec 32) : Nat :=
  let c0_i32_3928 : BitVec 32 := 0#32
  let c1_i32_3927 : BitVec 32 := 1#32
  let v3394 : BitVec 32 := Scalar.muli v2 c1_i32_3927
  let v3395 : BitVec 32 := Scalar.addi c0_i32_3928 v3394
  v3395.toNat
def k0_dev149 (v1 : BitVec 32) : Nat :=
  let c0_i32_3965 : BitVec 32 := 0#32
  let c1_i32_3964 : BitVec 32 := 1#32
  let v3427 : BitVec 32 := Scalar.muli v1 c1_i32_3964
  let v3428 : BitVec 32 := Scalar.addi c0_i32_3965 v3427
  v3428.toNat
def k0_dev150 (v2 : BitVec 32) : Nat :=
  let c0_i32_3976 : BitVec 32 := 0#32
  let c1_i32_3975 : BitVec 32 := 1#32
  let v3431 : BitVec 32 := Scalar.muli v2 c1_i32_3975
  let v3432 : BitVec 32 := Scalar.addi c0_i32_3976 v3431
  v3432.toNat
def k0_dev151 (v2 : BitVec 32) : Nat :=
  let c0_i32_4025 : BitVec 32 := 0#32
  let c1_i32_4024 : BitVec 32 := 1#32
  let v3483 : BitVec 32 := Scalar.muli v2 c1_i32_4024
  let v3484 : BitVec 32 := Scalar.addi c0_i32_4025 v3483
  v3484.toNat
def k0_dev152 (v1 : BitVec 32) : Nat :=
  let c0_i32_4036 : BitVec 32 := 0#32
  let c1_i32_4035 : BitVec 32 := 1#32
  let v3487 : BitVec 32 := Scalar.muli v1 c1_i32_4035
  let v3488 : BitVec 32 := Scalar.addi c0_i32_4036 v3487
  v3488.toNat
def k0_dev153 (v2 : BitVec 32) : Nat :=
  let c0_i32_4073 : BitVec 32 := 0#32
  let c1_i32_4072 : BitVec 32 := 1#32
  let v3520 : BitVec 32 := Scalar.muli v2 c1_i32_4072
  let v3521 : BitVec 32 := Scalar.addi c0_i32_4073 v3520
  v3521.toNat
def k0_dev154 (v1 : BitVec 32) : Nat :=
  let c0_i32_4084 : BitVec 32 := 0#32
  let c1_i32_4083 : BitVec 32 := 1#32
  let v3524 : BitVec 32 := Scalar.muli v1 c1_i32_4083
  let v3525 : BitVec 32 := Scalar.addi c0_i32_4084 v3524
  v3525.toNat
def k0_dev155 (v1 : BitVec 32) : Nat :=
  let c0_i32_4134 : BitVec 32 := 0#32
  let c1_i32_4133 : BitVec 32 := 1#32
  let v3576 : BitVec 32 := Scalar.muli v1 c1_i32_4133
  let v3577 : BitVec 32 := Scalar.addi c0_i32_4134 v3576
  v3577.toNat
def k0_dev156 (v2 : BitVec 32) : Nat :=
  let c0_i32_4145 : BitVec 32 := 0#32
  let c1_i32_4144 : BitVec 32 := 1#32
  let v3580 : BitVec 32 := Scalar.muli v2 c1_i32_4144
  let v3581 : BitVec 32 := Scalar.addi c0_i32_4145 v3580
  v3581.toNat
def k0_dev157 (v1 : BitVec 32) : Nat :=
  let c0_i32_4182 : BitVec 32 := 0#32
  let c1_i32_4181 : BitVec 32 := 1#32
  let v3613 : BitVec 32 := Scalar.muli v1 c1_i32_4181
  let v3614 : BitVec 32 := Scalar.addi c0_i32_4182 v3613
  v3614.toNat
def k0_dev158 (v2 : BitVec 32) : Nat :=
  let c0_i32_4193 : BitVec 32 := 0#32
  let c1_i32_4192 : BitVec 32 := 1#32
  let v3617 : BitVec 32 := Scalar.muli v2 c1_i32_4192
  let v3618 : BitVec 32 := Scalar.addi c0_i32_4193 v3617
  v3618.toNat
def k0_dev159 (v2 : BitVec 32) : Nat :=
  let c0_i32_4242 : BitVec 32 := 0#32
  let c1_i32_4241 : BitVec 32 := 1#32
  let v3669 : BitVec 32 := Scalar.muli v2 c1_i32_4241
  let v3670 : BitVec 32 := Scalar.addi c0_i32_4242 v3669
  v3670.toNat
def k0_dev160 (v1 : BitVec 32) : Nat :=
  let c0_i32_4253 : BitVec 32 := 0#32
  let c1_i32_4252 : BitVec 32 := 1#32
  let v3673 : BitVec 32 := Scalar.muli v1 c1_i32_4252
  let v3674 : BitVec 32 := Scalar.addi c0_i32_4253 v3673
  v3674.toNat
def k0_dev161 (v2 : BitVec 32) : Nat :=
  let c0_i32_4290 : BitVec 32 := 0#32
  let c1_i32_4289 : BitVec 32 := 1#32
  let v3706 : BitVec 32 := Scalar.muli v2 c1_i32_4289
  let v3707 : BitVec 32 := Scalar.addi c0_i32_4290 v3706
  v3707.toNat
def k0_dev162 (v1 : BitVec 32) : Nat :=
  let c0_i32_4301 : BitVec 32 := 0#32
  let c1_i32_4300 : BitVec 32 := 1#32
  let v3710 : BitVec 32 := Scalar.muli v1 c1_i32_4300
  let v3711 : BitVec 32 := Scalar.addi c0_i32_4301 v3710
  v3711.toNat
def k0_dev163 (v1 : BitVec 32) : Nat :=
  let c0_i32_4351 : BitVec 32 := 0#32
  let c1_i32_4350 : BitVec 32 := 1#32
  let v3762 : BitVec 32 := Scalar.muli v1 c1_i32_4350
  let v3763 : BitVec 32 := Scalar.addi c0_i32_4351 v3762
  v3763.toNat
def k0_dev164 (v2 : BitVec 32) : Nat :=
  let c0_i32_4362 : BitVec 32 := 0#32
  let c1_i32_4361 : BitVec 32 := 1#32
  let v3766 : BitVec 32 := Scalar.muli v2 c1_i32_4361
  let v3767 : BitVec 32 := Scalar.addi c0_i32_4362 v3766
  v3767.toNat
def k0_dev165 (v1 : BitVec 32) : Nat :=
  let c0_i32_4399 : BitVec 32 := 0#32
  let c1_i32_4398 : BitVec 32 := 1#32
  let v3799 : BitVec 32 := Scalar.muli v1 c1_i32_4398
  let v3800 : BitVec 32 := Scalar.addi c0_i32_4399 v3799
  v3800.toNat
def k0_dev166 (v2 : BitVec 32) : Nat :=
  let c0_i32_4410 : BitVec 32 := 0#32
  let c1_i32_4409 : BitVec 32 := 1#32
  let v3803 : BitVec 32 := Scalar.muli v2 c1_i32_4409
  let v3804 : BitVec 32 := Scalar.addi c0_i32_4410 v3803
  v3804.toNat
def k0_dev167 (v2 : BitVec 32) : Nat :=
  let c0_i32_4459 : BitVec 32 := 0#32
  let c1_i32_4458 : BitVec 32 := 1#32
  let v3855 : BitVec 32 := Scalar.muli v2 c1_i32_4458
  let v3856 : BitVec 32 := Scalar.addi c0_i32_4459 v3855
  v3856.toNat
def k0_dev168 (v1 : BitVec 32) : Nat :=
  let c0_i32_4470 : BitVec 32 := 0#32
  let c1_i32_4469 : BitVec 32 := 1#32
  let v3859 : BitVec 32 := Scalar.muli v1 c1_i32_4469
  let v3860 : BitVec 32 := Scalar.addi c0_i32_4470 v3859
  v3860.toNat
def k0_dev169 (v2 : BitVec 32) : Nat :=
  let c0_i32_4507 : BitVec 32 := 0#32
  let c1_i32_4506 : BitVec 32 := 1#32
  let v3892 : BitVec 32 := Scalar.muli v2 c1_i32_4506
  let v3893 : BitVec 32 := Scalar.addi c0_i32_4507 v3892
  v3893.toNat
def k0_dev170 (v1 : BitVec 32) : Nat :=
  let c0_i32_4518 : BitVec 32 := 0#32
  let c1_i32_4517 : BitVec 32 := 1#32
  let v3896 : BitVec 32 := Scalar.muli v1 c1_i32_4517
  let v3897 : BitVec 32 := Scalar.addi c0_i32_4518 v3896
  v3897.toNat
def k0_dev171 (v1 : BitVec 32) : Nat :=
  let c0_i32_4568 : BitVec 32 := 0#32
  let c1_i32_4567 : BitVec 32 := 1#32
  let v3948 : BitVec 32 := Scalar.muli v1 c1_i32_4567
  let v3949 : BitVec 32 := Scalar.addi c0_i32_4568 v3948
  v3949.toNat
def k0_dev172 (v2 : BitVec 32) : Nat :=
  let c0_i32_4579 : BitVec 32 := 0#32
  let c1_i32_4578 : BitVec 32 := 1#32
  let v3952 : BitVec 32 := Scalar.muli v2 c1_i32_4578
  let v3953 : BitVec 32 := Scalar.addi c0_i32_4579 v3952
  v3953.toNat
def k0_dev173 (v1 : BitVec 32) : Nat :=
  let c0_i32_4616 : BitVec 32 := 0#32
  let c1_i32_4615 : BitVec 32 := 1#32
  let v3985 : BitVec 32 := Scalar.muli v1 c1_i32_4615
  let v3986 : BitVec 32 := Scalar.addi c0_i32_4616 v3985
  v3986.toNat
def k0_dev174 (v2 : BitVec 32) : Nat :=
  let c0_i32_4627 : BitVec 32 := 0#32
  let c1_i32_4626 : BitVec 32 := 1#32
  let v3989 : BitVec 32 := Scalar.muli v2 c1_i32_4626
  let v3990 : BitVec 32 := Scalar.addi c0_i32_4627 v3989
  v3990.toNat
def k0_dev175 (v2 : BitVec 32) : Nat :=
  let c0_i32_4676 : BitVec 32 := 0#32
  let c1_i32_4675 : BitVec 32 := 1#32
  let v4041 : BitVec 32 := Scalar.muli v2 c1_i32_4675
  let v4042 : BitVec 32 := Scalar.addi c0_i32_4676 v4041
  v4042.toNat
def k0_dev176 (v1 : BitVec 32) : Nat :=
  let c0_i32_4687 : BitVec 32 := 0#32
  let c1_i32_4686 : BitVec 32 := 1#32
  let v4045 : BitVec 32 := Scalar.muli v1 c1_i32_4686
  let v4046 : BitVec 32 := Scalar.addi c0_i32_4687 v4045
  v4046.toNat
def k0_dev177 (v2 : BitVec 32) : Nat :=
  let c0_i32_4724 : BitVec 32 := 0#32
  let c1_i32_4723 : BitVec 32 := 1#32
  let v4078 : BitVec 32 := Scalar.muli v2 c1_i32_4723
  let v4079 : BitVec 32 := Scalar.addi c0_i32_4724 v4078
  v4079.toNat
def k0_dev178 (v1 : BitVec 32) : Nat :=
  let c0_i32_4735 : BitVec 32 := 0#32
  let c1_i32_4734 : BitVec 32 := 1#32
  let v4082 : BitVec 32 := Scalar.muli v1 c1_i32_4734
  let v4083 : BitVec 32 := Scalar.addi c0_i32_4735 v4082
  v4083.toNat
def k0_dev179 (v1 : BitVec 32) : Nat :=
  let c0_i32_4785 : BitVec 32 := 0#32
  let c1_i32_4784 : BitVec 32 := 1#32
  let v4134 : BitVec 32 := Scalar.muli v1 c1_i32_4784
  let v4135 : BitVec 32 := Scalar.addi c0_i32_4785 v4134
  v4135.toNat
def k0_dev180 (v2 : BitVec 32) : Nat :=
  let c0_i32_4796 : BitVec 32 := 0#32
  let c1_i32_4795 : BitVec 32 := 1#32
  let v4138 : BitVec 32 := Scalar.muli v2 c1_i32_4795
  let v4139 : BitVec 32 := Scalar.addi c0_i32_4796 v4138
  v4139.toNat
def k0_dev181 (v1 : BitVec 32) : Nat :=
  let c0_i32_4833 : BitVec 32 := 0#32
  let c1_i32_4832 : BitVec 32 := 1#32
  let v4171 : BitVec 32 := Scalar.muli v1 c1_i32_4832
  let v4172 : BitVec 32 := Scalar.addi c0_i32_4833 v4171
  v4172.toNat
def k0_dev182 (v2 : BitVec 32) : Nat :=
  let c0_i32_4844 : BitVec 32 := 0#32
  let c1_i32_4843 : BitVec 32 := 1#32
  let v4175 : BitVec 32 := Scalar.muli v2 c1_i32_4843
  let v4176 : BitVec 32 := Scalar.addi c0_i32_4844 v4175
  v4176.toNat
def k0_dev183 (v2 : BitVec 32) : Nat :=
  let c0_i32_4893 : BitVec 32 := 0#32
  let c1_i32_4892 : BitVec 32 := 1#32
  let v4227 : BitVec 32 := Scalar.muli v2 c1_i32_4892
  let v4228 : BitVec 32 := Scalar.addi c0_i32_4893 v4227
  v4228.toNat
def k0_dev184 (v1 : BitVec 32) : Nat :=
  let c0_i32_4904 : BitVec 32 := 0#32
  let c1_i32_4903 : BitVec 32 := 1#32
  let v4231 : BitVec 32 := Scalar.muli v1 c1_i32_4903
  let v4232 : BitVec 32 := Scalar.addi c0_i32_4904 v4231
  v4232.toNat
def k0_dev185 (v2 : BitVec 32) : Nat :=
  let c0_i32_4941 : BitVec 32 := 0#32
  let c1_i32_4940 : BitVec 32 := 1#32
  let v4264 : BitVec 32 := Scalar.muli v2 c1_i32_4940
  let v4265 : BitVec 32 := Scalar.addi c0_i32_4941 v4264
  v4265.toNat
def k0_dev186 (v1 : BitVec 32) : Nat :=
  let c0_i32_4952 : BitVec 32 := 0#32
  let c1_i32_4951 : BitVec 32 := 1#32
  let v4268 : BitVec 32 := Scalar.muli v1 c1_i32_4951
  let v4269 : BitVec 32 := Scalar.addi c0_i32_4952 v4268
  v4269.toNat
def k0_dev187 (v1 : BitVec 32) : Nat :=
  let c0_i32_5002 : BitVec 32 := 0#32
  let c1_i32_5001 : BitVec 32 := 1#32
  let v4320 : BitVec 32 := Scalar.muli v1 c1_i32_5001
  let v4321 : BitVec 32 := Scalar.addi c0_i32_5002 v4320
  v4321.toNat
def k0_dev188 (v2 : BitVec 32) : Nat :=
  let c0_i32_5013 : BitVec 32 := 0#32
  let c1_i32_5012 : BitVec 32 := 1#32
  let v4324 : BitVec 32 := Scalar.muli v2 c1_i32_5012
  let v4325 : BitVec 32 := Scalar.addi c0_i32_5013 v4324
  v4325.toNat
def k0_dev189 (v1 : BitVec 32) : Nat :=
  let c0_i32_5050 : BitVec 32 := 0#32
  let c1_i32_5049 : BitVec 32 := 1#32
  let v4357 : BitVec 32 := Scalar.muli v1 c1_i32_5049
  let v4358 : BitVec 32 := Scalar.addi c0_i32_5050 v4357
  v4358.toNat
def k0_dev190 (v2 : BitVec 32) : Nat :=
  let c0_i32_5061 : BitVec 32 := 0#32
  let c1_i32_5060 : BitVec 32 := 1#32
  let v4361 : BitVec 32 := Scalar.muli v2 c1_i32_5060
  let v4362 : BitVec 32 := Scalar.addi c0_i32_5061 v4361
  v4362.toNat
def k0_dev191 (v2 : BitVec 32) : Nat :=
  let c0_i32_5110 : BitVec 32 := 0#32
  let c1_i32_5109 : BitVec 32 := 1#32
  let v4413 : BitVec 32 := Scalar.muli v2 c1_i32_5109
  let v4414 : BitVec 32 := Scalar.addi c0_i32_5110 v4413
  v4414.toNat
def k0_dev192 (v1 : BitVec 32) : Nat :=
  let c0_i32_5121 : BitVec 32 := 0#32
  let c1_i32_5120 : BitVec 32 := 1#32
  let v4417 : BitVec 32 := Scalar.muli v1 c1_i32_5120
  let v4418 : BitVec 32 := Scalar.addi c0_i32_5121 v4417
  v4418.toNat
def k0_dev193 (v2 : BitVec 32) : Nat :=
  let c0_i32_5158 : BitVec 32 := 0#32
  let c1_i32_5157 : BitVec 32 := 1#32
  let v4450 : BitVec 32 := Scalar.muli v2 c1_i32_5157
  let v4451 : BitVec 32 := Scalar.addi c0_i32_5158 v4450
  v4451.toNat
def k0_dev194 (v1 : BitVec 32) : Nat :=
  let c0_i32_5169 : BitVec 32 := 0#32
  let c1_i32_5168 : BitVec 32 := 1#32
  let v4454 : BitVec 32 := Scalar.muli v1 c1_i32_5168
  let v4455 : BitVec 32 := Scalar.addi c0_i32_5169 v4454
  v4455.toNat
def k0_dev195 (v1 : BitVec 32) : Nat :=
  let c0_i32_5219 : BitVec 32 := 0#32
  let c1_i32_5218 : BitVec 32 := 1#32
  let v4506 : BitVec 32 := Scalar.muli v1 c1_i32_5218
  let v4507 : BitVec 32 := Scalar.addi c0_i32_5219 v4506
  v4507.toNat
def k0_dev196 (v2 : BitVec 32) : Nat :=
  let c0_i32_5230 : BitVec 32 := 0#32
  let c1_i32_5229 : BitVec 32 := 1#32
  let v4510 : BitVec 32 := Scalar.muli v2 c1_i32_5229
  let v4511 : BitVec 32 := Scalar.addi c0_i32_5230 v4510
  v4511.toNat
def k0_dev197 (v1 : BitVec 32) : Nat :=
  let c0_i32_5267 : BitVec 32 := 0#32
  let c1_i32_5266 : BitVec 32 := 1#32
  let v4543 : BitVec 32 := Scalar.muli v1 c1_i32_5266
  let v4544 : BitVec 32 := Scalar.addi c0_i32_5267 v4543
  v4544.toNat
def k0_dev198 (v2 : BitVec 32) : Nat :=
  let c0_i32_5278 : BitVec 32 := 0#32
  let c1_i32_5277 : BitVec 32 := 1#32
  let v4547 : BitVec 32 := Scalar.muli v2 c1_i32_5277
  let v4548 : BitVec 32 := Scalar.addi c0_i32_5278 v4547
  v4548.toNat
def k0_dev199 (v2 : BitVec 32) : Nat :=
  let c0_i32_5327 : BitVec 32 := 0#32
  let c1_i32_5326 : BitVec 32 := 1#32
  let v4599 : BitVec 32 := Scalar.muli v2 c1_i32_5326
  let v4600 : BitVec 32 := Scalar.addi c0_i32_5327 v4599
  v4600.toNat
def k0_dev200 (v1 : BitVec 32) : Nat :=
  let c0_i32_5338 : BitVec 32 := 0#32
  let c1_i32_5337 : BitVec 32 := 1#32
  let v4603 : BitVec 32 := Scalar.muli v1 c1_i32_5337
  let v4604 : BitVec 32 := Scalar.addi c0_i32_5338 v4603
  v4604.toNat
def k0_dev201 (v2 : BitVec 32) : Nat :=
  let c0_i32_5375 : BitVec 32 := 0#32
  let c1_i32_5374 : BitVec 32 := 1#32
  let v4636 : BitVec 32 := Scalar.muli v2 c1_i32_5374
  let v4637 : BitVec 32 := Scalar.addi c0_i32_5375 v4636
  v4637.toNat
def k0_dev202 (v1 : BitVec 32) : Nat :=
  let c0_i32_5386 : BitVec 32 := 0#32
  let c1_i32_5385 : BitVec 32 := 1#32
  let v4640 : BitVec 32 := Scalar.muli v1 c1_i32_5385
  let v4641 : BitVec 32 := Scalar.addi c0_i32_5386 v4640
  v4641.toNat
def k0_dev203 (v1 : BitVec 32) : Nat :=
  let c0_i32_5436 : BitVec 32 := 0#32
  let c1_i32_5435 : BitVec 32 := 1#32
  let v4692 : BitVec 32 := Scalar.muli v1 c1_i32_5435
  let v4693 : BitVec 32 := Scalar.addi c0_i32_5436 v4692
  v4693.toNat
def k0_dev204 (v2 : BitVec 32) : Nat :=
  let c0_i32_5447 : BitVec 32 := 0#32
  let c1_i32_5446 : BitVec 32 := 1#32
  let v4696 : BitVec 32 := Scalar.muli v2 c1_i32_5446
  let v4697 : BitVec 32 := Scalar.addi c0_i32_5447 v4696
  v4697.toNat
def k0_dev205 (v1 : BitVec 32) : Nat :=
  let c0_i32_5484 : BitVec 32 := 0#32
  let c1_i32_5483 : BitVec 32 := 1#32
  let v4729 : BitVec 32 := Scalar.muli v1 c1_i32_5483
  let v4730 : BitVec 32 := Scalar.addi c0_i32_5484 v4729
  v4730.toNat
def k0_dev206 (v2 : BitVec 32) : Nat :=
  let c0_i32_5495 : BitVec 32 := 0#32
  let c1_i32_5494 : BitVec 32 := 1#32
  let v4733 : BitVec 32 := Scalar.muli v2 c1_i32_5494
  let v4734 : BitVec 32 := Scalar.addi c0_i32_5495 v4733
  v4734.toNat
def k0_dev207 (v2 : BitVec 32) : Nat :=
  let c0_i32_5544 : BitVec 32 := 0#32
  let c1_i32_5543 : BitVec 32 := 1#32
  let v4785 : BitVec 32 := Scalar.muli v2 c1_i32_5543
  let v4786 : BitVec 32 := Scalar.addi c0_i32_5544 v4785
  v4786.toNat
def k0_dev208 (v1 : BitVec 32) : Nat :=
  let c0_i32_5555 : BitVec 32 := 0#32
  let c1_i32_5554 : BitVec 32 := 1#32
  let v4789 : BitVec 32 := Scalar.muli v1 c1_i32_5554
  let v4790 : BitVec 32 := Scalar.addi c0_i32_5555 v4789
  v4790.toNat
def k0_dev209 (v2 : BitVec 32) : Nat :=
  let c0_i32_5592 : BitVec 32 := 0#32
  let c1_i32_5591 : BitVec 32 := 1#32
  let v4822 : BitVec 32 := Scalar.muli v2 c1_i32_5591
  let v4823 : BitVec 32 := Scalar.addi c0_i32_5592 v4822
  v4823.toNat
def k0_dev210 (v1 : BitVec 32) : Nat :=
  let c0_i32_5603 : BitVec 32 := 0#32
  let c1_i32_5602 : BitVec 32 := 1#32
  let v4826 : BitVec 32 := Scalar.muli v1 c1_i32_5602
  let v4827 : BitVec 32 := Scalar.addi c0_i32_5603 v4826
  v4827.toNat
def k0_dev211 (v1 : BitVec 32) : Nat :=
  let c0_i32_5653 : BitVec 32 := 0#32
  let c1_i32_5652 : BitVec 32 := 1#32
  let v4878 : BitVec 32 := Scalar.muli v1 c1_i32_5652
  let v4879 : BitVec 32 := Scalar.addi c0_i32_5653 v4878
  v4879.toNat
def k0_dev212 (v2 : BitVec 32) : Nat :=
  let c0_i32_5664 : BitVec 32 := 0#32
  let c1_i32_5663 : BitVec 32 := 1#32
  let v4882 : BitVec 32 := Scalar.muli v2 c1_i32_5663
  let v4883 : BitVec 32 := Scalar.addi c0_i32_5664 v4882
  v4883.toNat
def k0_dev213 (v1 : BitVec 32) : Nat :=
  let c0_i32_5701 : BitVec 32 := 0#32
  let c1_i32_5700 : BitVec 32 := 1#32
  let v4915 : BitVec 32 := Scalar.muli v1 c1_i32_5700
  let v4916 : BitVec 32 := Scalar.addi c0_i32_5701 v4915
  v4916.toNat
def k0_dev214 (v2 : BitVec 32) : Nat :=
  let c0_i32_5712 : BitVec 32 := 0#32
  let c1_i32_5711 : BitVec 32 := 1#32
  let v4919 : BitVec 32 := Scalar.muli v2 c1_i32_5711
  let v4920 : BitVec 32 := Scalar.addi c0_i32_5712 v4919
  v4920.toNat
def k0_dev215 (v2 : BitVec 32) : Nat :=
  let c0_i32_5761 : BitVec 32 := 0#32
  let c1_i32_5760 : BitVec 32 := 1#32
  let v4971 : BitVec 32 := Scalar.muli v2 c1_i32_5760
  let v4972 : BitVec 32 := Scalar.addi c0_i32_5761 v4971
  v4972.toNat
def k0_dev216 (v1 : BitVec 32) : Nat :=
  let c0_i32_5772 : BitVec 32 := 0#32
  let c1_i32_5771 : BitVec 32 := 1#32
  let v4975 : BitVec 32 := Scalar.muli v1 c1_i32_5771
  let v4976 : BitVec 32 := Scalar.addi c0_i32_5772 v4975
  v4976.toNat
def k0_dev217 (v2 : BitVec 32) : Nat :=
  let c0_i32_5809 : BitVec 32 := 0#32
  let c1_i32_5808 : BitVec 32 := 1#32
  let v5008 : BitVec 32 := Scalar.muli v2 c1_i32_5808
  let v5009 : BitVec 32 := Scalar.addi c0_i32_5809 v5008
  v5009.toNat
def k0_dev218 (v1 : BitVec 32) : Nat :=
  let c0_i32_5820 : BitVec 32 := 0#32
  let c1_i32_5819 : BitVec 32 := 1#32
  let v5012 : BitVec 32 := Scalar.muli v1 c1_i32_5819
  let v5013 : BitVec 32 := Scalar.addi c0_i32_5820 v5012
  v5013.toNat
def k0_dev219 (v1 : BitVec 32) : Nat :=
  let c0_i32_5870 : BitVec 32 := 0#32
  let c1_i32_5869 : BitVec 32 := 1#32
  let v5064 : BitVec 32 := Scalar.muli v1 c1_i32_5869
  let v5065 : BitVec 32 := Scalar.addi c0_i32_5870 v5064
  v5065.toNat
def k0_dev220 (v2 : BitVec 32) : Nat :=
  let c0_i32_5881 : BitVec 32 := 0#32
  let c1_i32_5880 : BitVec 32 := 1#32
  let v5068 : BitVec 32 := Scalar.muli v2 c1_i32_5880
  let v5069 : BitVec 32 := Scalar.addi c0_i32_5881 v5068
  v5069.toNat
def k0_dev221 (v1 : BitVec 32) : Nat :=
  let c0_i32_5918 : BitVec 32 := 0#32
  let c1_i32_5917 : BitVec 32 := 1#32
  let v5101 : BitVec 32 := Scalar.muli v1 c1_i32_5917
  let v5102 : BitVec 32 := Scalar.addi c0_i32_5918 v5101
  v5102.toNat
def k0_dev222 (v2 : BitVec 32) : Nat :=
  let c0_i32_5929 : BitVec 32 := 0#32
  let c1_i32_5928 : BitVec 32 := 1#32
  let v5105 : BitVec 32 := Scalar.muli v2 c1_i32_5928
  let v5106 : BitVec 32 := Scalar.addi c0_i32_5929 v5105
  v5106.toNat
def k0_dev223 (v2 : BitVec 32) : Nat :=
  let c0_i32_5978 : BitVec 32 := 0#32
  let c1_i32_5977 : BitVec 32 := 1#32
  let v5157 : BitVec 32 := Scalar.muli v2 c1_i32_5977
  let v5158 : BitVec 32 := Scalar.addi c0_i32_5978 v5157
  v5158.toNat
def k0_dev224 (v1 : BitVec 32) : Nat :=
  let c0_i32_5989 : BitVec 32 := 0#32
  let c1_i32_5988 : BitVec 32 := 1#32
  let v5161 : BitVec 32 := Scalar.muli v1 c1_i32_5988
  let v5162 : BitVec 32 := Scalar.addi c0_i32_5989 v5161
  v5162.toNat
def k0_dev225 (v2 : BitVec 32) : Nat :=
  let c0_i32_6026 : BitVec 32 := 0#32
  let c1_i32_6025 : BitVec 32 := 1#32
  let v5194 : BitVec 32 := Scalar.muli v2 c1_i32_6025
  let v5195 : BitVec 32 := Scalar.addi c0_i32_6026 v5194
  v5195.toNat
def k0_dev226 (v1 : BitVec 32) : Nat :=
  let c0_i32_6037 : BitVec 32 := 0#32
  let c1_i32_6036 : BitVec 32 := 1#32
  let v5198 : BitVec 32 := Scalar.muli v1 c1_i32_6036
  let v5199 : BitVec 32 := Scalar.addi c0_i32_6037 v5198
  v5199.toNat
def k0_dev227 (v1 : BitVec 32) : Nat :=
  let c0_i32_6087 : BitVec 32 := 0#32
  let c1_i32_6086 : BitVec 32 := 1#32
  let v5250 : BitVec 32 := Scalar.muli v1 c1_i32_6086
  let v5251 : BitVec 32 := Scalar.addi c0_i32_6087 v5250
  v5251.toNat
def k0_dev228 (v2 : BitVec 32) : Nat :=
  let c0_i32_6098 : BitVec 32 := 0#32
  let c1_i32_6097 : BitVec 32 := 1#32
  let v5254 : BitVec 32 := Scalar.muli v2 c1_i32_6097
  let v5255 : BitVec 32 := Scalar.addi c0_i32_6098 v5254
  v5255.toNat
def k0_dev229 (v1 : BitVec 32) : Nat :=
  let c0_i32_6135 : BitVec 32 := 0#32
  let c1_i32_6134 : BitVec 32 := 1#32
  let v5287 : BitVec 32 := Scalar.muli v1 c1_i32_6134
  let v5288 : BitVec 32 := Scalar.addi c0_i32_6135 v5287
  v5288.toNat
def k0_dev230 (v2 : BitVec 32) : Nat :=
  let c0_i32_6146 : BitVec 32 := 0#32
  let c1_i32_6145 : BitVec 32 := 1#32
  let v5291 : BitVec 32 := Scalar.muli v2 c1_i32_6145
  let v5292 : BitVec 32 := Scalar.addi c0_i32_6146 v5291
  v5292.toNat
def k0_dev231 (v2 : BitVec 32) : Nat :=
  let c0_i32_6195 : BitVec 32 := 0#32
  let c1_i32_6194 : BitVec 32 := 1#32
  let v5343 : BitVec 32 := Scalar.muli v2 c1_i32_6194
  let v5344 : BitVec 32 := Scalar.addi c0_i32_6195 v5343
  v5344.toNat
def k0_dev232 (v1 : BitVec 32) : Nat :=
  let c0_i32_6206 : BitVec 32 := 0#32
  let c1_i32_6205 : BitVec 32 := 1#32
  let v5347 : BitVec 32 := Scalar.muli v1 c1_i32_6205
  let v5348 : BitVec 32 := Scalar.addi c0_i32_6206 v5347
  v5348.toNat
def k0_dev233 (v2 : BitVec 32) : Nat :=
  let c0_i32_6243 : BitVec 32 := 0#32
  let c1_i32_6242 : BitVec 32 := 1#32
  let v5380 : BitVec 32 := Scalar.muli v2 c1_i32_6242
  let v5381 : BitVec 32 := Scalar.addi c0_i32_6243 v5380
  v5381.toNat
def k0_dev234 (v1 : BitVec 32) : Nat :=
  let c0_i32_6254 : BitVec 32 := 0#32
  let c1_i32_6253 : BitVec 32 := 1#32
  let v5384 : BitVec 32 := Scalar.muli v1 c1_i32_6253
  let v5385 : BitVec 32 := Scalar.addi c0_i32_6254 v5384
  v5385.toNat
def k0_dev235 (v1 : BitVec 32) : Nat :=
  let c0_i32_6304 : BitVec 32 := 0#32
  let c1_i32_6303 : BitVec 32 := 1#32
  let v5436 : BitVec 32 := Scalar.muli v1 c1_i32_6303
  let v5437 : BitVec 32 := Scalar.addi c0_i32_6304 v5436
  v5437.toNat
def k0_dev236 (v2 : BitVec 32) : Nat :=
  let c0_i32_6315 : BitVec 32 := 0#32
  let c1_i32_6314 : BitVec 32 := 1#32
  let v5440 : BitVec 32 := Scalar.muli v2 c1_i32_6314
  let v5441 : BitVec 32 := Scalar.addi c0_i32_6315 v5440
  v5441.toNat
def k0_dev237 (v1 : BitVec 32) : Nat :=
  let c0_i32_6352 : BitVec 32 := 0#32
  let c1_i32_6351 : BitVec 32 := 1#32
  let v5473 : BitVec 32 := Scalar.muli v1 c1_i32_6351
  let v5474 : BitVec 32 := Scalar.addi c0_i32_6352 v5473
  v5474.toNat
def k0_dev238 (v2 : BitVec 32) : Nat :=
  let c0_i32_6363 : BitVec 32 := 0#32
  let c1_i32_6362 : BitVec 32 := 1#32
  let v5477 : BitVec 32 := Scalar.muli v2 c1_i32_6362
  let v5478 : BitVec 32 := Scalar.addi c0_i32_6363 v5477
  v5478.toNat
def k0_dev239 (v2 : BitVec 32) : Nat :=
  let c0_i32_6412 : BitVec 32 := 0#32
  let c1_i32_6411 : BitVec 32 := 1#32
  let v5529 : BitVec 32 := Scalar.muli v2 c1_i32_6411
  let v5530 : BitVec 32 := Scalar.addi c0_i32_6412 v5529
  v5530.toNat
def k0_dev240 (v1 : BitVec 32) : Nat :=
  let c0_i32_6423 : BitVec 32 := 0#32
  let c1_i32_6422 : BitVec 32 := 1#32
  let v5533 : BitVec 32 := Scalar.muli v1 c1_i32_6422
  let v5534 : BitVec 32 := Scalar.addi c0_i32_6423 v5533
  v5534.toNat
def k0_dev241 (v2 : BitVec 32) : Nat :=
  let c0_i32_6460 : BitVec 32 := 0#32
  let c1_i32_6459 : BitVec 32 := 1#32
  let v5566 : BitVec 32 := Scalar.muli v2 c1_i32_6459
  let v5567 : BitVec 32 := Scalar.addi c0_i32_6460 v5566
  v5567.toNat
def k0_dev242 (v1 : BitVec 32) : Nat :=
  let c0_i32_6471 : BitVec 32 := 0#32
  let c1_i32_6470 : BitVec 32 := 1#32
  let v5570 : BitVec 32 := Scalar.muli v1 c1_i32_6470
  let v5571 : BitVec 32 := Scalar.addi c0_i32_6471 v5570
  v5571.toNat
def k0_dev243 (v1 : BitVec 32) : Nat :=
  let c0_i32_6521 : BitVec 32 := 0#32
  let c1_i32_6520 : BitVec 32 := 1#32
  let v5622 : BitVec 32 := Scalar.muli v1 c1_i32_6520
  let v5623 : BitVec 32 := Scalar.addi c0_i32_6521 v5622
  v5623.toNat
def k0_dev244 (v2 : BitVec 32) : Nat :=
  let c0_i32_6532 : BitVec 32 := 0#32
  let c1_i32_6531 : BitVec 32 := 1#32
  let v5626 : BitVec 32 := Scalar.muli v2 c1_i32_6531
  let v5627 : BitVec 32 := Scalar.addi c0_i32_6532 v5626
  v5627.toNat
def k0_dev245 (v1 : BitVec 32) : Nat :=
  let c0_i32_6569 : BitVec 32 := 0#32
  let c1_i32_6568 : BitVec 32 := 1#32
  let v5659 : BitVec 32 := Scalar.muli v1 c1_i32_6568
  let v5660 : BitVec 32 := Scalar.addi c0_i32_6569 v5659
  v5660.toNat
def k0_dev246 (v2 : BitVec 32) : Nat :=
  let c0_i32_6580 : BitVec 32 := 0#32
  let c1_i32_6579 : BitVec 32 := 1#32
  let v5663 : BitVec 32 := Scalar.muli v2 c1_i32_6579
  let v5664 : BitVec 32 := Scalar.addi c0_i32_6580 v5663
  v5664.toNat
def k0_dev247 (v2 : BitVec 32) : Nat :=
  let c0_i32_6630 : BitVec 32 := 0#32
  let c1_i32_6629 : BitVec 32 := 1#32
  let v5717 : BitVec 32 := Scalar.muli v2 c1_i32_6629
  let v5718 : BitVec 32 := Scalar.addi c0_i32_6630 v5717
  v5718.toNat
def k0_dev248 (v2 : BitVec 32) : Nat :=
  let c0_i32_6664 : BitVec 32 := 0#32
  let c1_i32_6663 : BitVec 32 := 1#32
  let v5744 : BitVec 32 := Scalar.muli v2 c1_i32_6663
  let v5745 : BitVec 32 := Scalar.addi c0_i32_6664 v5744
  v5745.toNat
def k0_dev249 (v1 : BitVec 32) : Nat :=
  let c0_i32_6711 : BitVec 32 := 0#32
  let c1_i32_6710 : BitVec 32 := 1#32
  let v5790 : BitVec 32 := Scalar.muli v1 c1_i32_6710
  let v5791 : BitVec 32 := Scalar.addi c0_i32_6711 v5790
  v5791.toNat
def k0_dev250 (v1 : BitVec 32) : Nat :=
  let c0_i32_6745 : BitVec 32 := 0#32
  let c1_i32_6744 : BitVec 32 := 1#32
  let v5817 : BitVec 32 := Scalar.muli v1 c1_i32_6744
  let v5818 : BitVec 32 := Scalar.addi c0_i32_6745 v5817
  v5818.toNat
def k0_off5 (v0 : BitVec 32) : Fin 1 → Nat :=
  let c1_i32_6754 : BitVec 32 := 1#32
  let v5832 : BitVec 32 := Scalar.xori v0 c1_i32_6754
  let v5833 : Index := Scalar.indexCast v5832
  ![v5833.toNat]
def k0_dev251 (v5834 : BitVec 32) : Nat :=
  let c0_i32_6762 : BitVec 32 := 0#32
  let c1_i32_6761 : BitVec 32 := 1#32
  let v5841 : BitVec 32 := Scalar.muli v5834 c1_i32_6761
  let v5842 : BitVec 32 := Scalar.addi c0_i32_6762 v5841
  v5842.toNat

def k0_chk4 (v5834 : BitVec 32) : Prop :=
  ((k0_dev251 v5834) < nD)
theorem k0_dev251_lt : ∀ (v5834 : BitVec 32) (k0_hw4 : k0_chk4 v5834), (k0_dev251 v5834) < nD := fun v5834 k0_hw4 => k0_hw4

def k0_off6 (v0 : BitVec 32) : Fin 1 → Nat :=
  let c2_i32_6782 : BitVec 32 := 2#32
  let v5866 : BitVec 32 := Scalar.xori v0 c2_i32_6782
  let v5867 : Index := Scalar.indexCast v5866
  ![v5867.toNat]
def k0_dev252 (v5868 : BitVec 32) : Nat :=
  let c0_i32_6790 : BitVec 32 := 0#32
  let c1_i32_6789 : BitVec 32 := 1#32
  let v5875 : BitVec 32 := Scalar.muli v5868 c1_i32_6789
  let v5876 : BitVec 32 := Scalar.addi c0_i32_6790 v5875
  v5876.toNat

def k0_chk5 (v5868 : BitVec 32) : Prop :=
  ((k0_dev252 v5868) < nD)
theorem k0_dev252_lt : ∀ (v5868 : BitVec 32) (k0_hw5 : k0_chk5 v5868), (k0_dev252 v5868) < nD := fun v5868 k0_hw5 => k0_hw5

def k0_off7 (v0 : BitVec 32) : Fin 1 → Nat :=
  let c4_i32_6810 : BitVec 32 := 4#32
  let v5900 : BitVec 32 := Scalar.xori v0 c4_i32_6810
  let v5901 : Index := Scalar.indexCast v5900
  ![v5901.toNat]
def k0_dev253 (v5902 : BitVec 32) : Nat :=
  let c0_i32_6818 : BitVec 32 := 0#32
  let c1_i32_6817 : BitVec 32 := 1#32
  let v5909 : BitVec 32 := Scalar.muli v5902 c1_i32_6817
  let v5910 : BitVec 32 := Scalar.addi c0_i32_6818 v5909
  v5910.toNat

def k0_chk6 (v5902 : BitVec 32) : Prop :=
  ((k0_dev253 v5902) < nD)
theorem k0_dev253_lt : ∀ (v5902 : BitVec 32) (k0_hw6 : k0_chk6 v5902), (k0_dev253 v5902) < nD := fun v5902 k0_hw6 => k0_hw6

def k0_off8 (v0 : BitVec 32) : Fin 1 → Nat :=
  let c8_i32_6837 : BitVec 32 := 8#32
  let v5934 : BitVec 32 := Scalar.xori v0 c8_i32_6837
  let v5935 : Index := Scalar.indexCast v5934
  ![v5935.toNat]
def k0_dev254 (v5936 : BitVec 32) : Nat :=
  let c0_i32_6845 : BitVec 32 := 0#32
  let c1_i32_6844 : BitVec 32 := 1#32
  let v5943 : BitVec 32 := Scalar.muli v5936 c1_i32_6844
  let v5944 : BitVec 32 := Scalar.addi c0_i32_6845 v5943
  v5944.toNat

def k0_chk7 (v5936 : BitVec 32) : Prop :=
  ((k0_dev254 v5936) < nD)
theorem k0_dev254_lt : ∀ (v5936 : BitVec 32) (k0_hw7 : k0_chk7 v5936), (k0_dev254 v5936) < nD := fun v5936 k0_hw7 => k0_hw7

def k0_off9 (v0 : BitVec 32) : Fin 1 → Nat :=
  let c16_i32_6864 : BitVec 32 := 16#32
  let v5968 : BitVec 32 := Scalar.xori v0 c16_i32_6864
  let v5969 : Index := Scalar.indexCast v5968
  ![v5969.toNat]
def k0_dev255 (v5970 : BitVec 32) : Nat :=
  let c0_i32_6872 : BitVec 32 := 0#32
  let c1_i32_6871 : BitVec 32 := 1#32
  let v5977 : BitVec 32 := Scalar.muli v5970 c1_i32_6871
  let v5978 : BitVec 32 := Scalar.addi c0_i32_6872 v5977
  v5978.toNat

def k0_chk8 (v5970 : BitVec 32) : Prop :=
  ((k0_dev255 v5970) < nD)
theorem k0_dev255_lt : ∀ (v5970 : BitVec 32) (k0_hw8 : k0_chk8 v5970), (k0_dev255 v5970) < nD := fun v5970 k0_hw8 => k0_hw8

def k0_dev256 (v1 : BitVec 32) : Nat :=
  let c0_i32_6915 : BitVec 32 := 0#32
  let c1_i32_6914 : BitVec 32 := 1#32
  let v6028 : BitVec 32 := Scalar.muli v1 c1_i32_6914
  let v6029 : BitVec 32 := Scalar.addi c0_i32_6915 v6028
  v6029.toNat
def k0_dev257 (v2 : BitVec 32) : Nat :=
  let c0_i32_6943 : BitVec 32 := 0#32
  let c1_i32_6942 : BitVec 32 := 1#32
  let v6063 : BitVec 32 := Scalar.muli v2 c1_i32_6942
  let v6064 : BitVec 32 := Scalar.addi c0_i32_6943 v6063
  v6064.toNat
def k0_off10 (v0 : BitVec 32) : Fin 2 → Nat :=
  let c128_i32_6948 : BitVec 32 := 128#32
  let v6073 : BitVec 32 := Scalar.muli v0 c128_i32_6948
  let c0_i32_6950 : BitVec 32 := 0#32
  ![v6073.toNat, 0]
def k0_off11 (v0 : BitVec 32) : Fin 2 → Nat :=
  let c32_i32 : BitVec 32 := 32#32
  let v3 : BitVec 32 := Scalar.subi c32_i32 v0
  let c32_i32_2 : BitVec 32 := 32#32
  let c0_i32 : BitVec 32 := 0#32
  let v4 : BitVec 1 := Scalar.cmpi .eq c32_i32_2 c0_i32
  let c1_i32 : BitVec 32 := 1#32
  let v5 : BitVec 32 := Scalar.select v4 c1_i32 c32_i32_2
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c128_i32_6953 : BitVec 32 := 128#32
  let v6077 : BitVec 32 := Scalar.muli v13 c128_i32_6953
  let c4096_i32 : BitVec 32 := 4096#32
  ![v6077.toNat, 4096]
def k0_dev258 (v1 : BitVec 32) : Nat :=
  let c0_i32_7030 : BitVec 32 := 0#32
  let c1_i32_7029 : BitVec 32 := 1#32
  let v6123 : BitVec 32 := Scalar.muli v1 c1_i32_7029
  let v6124 : BitVec 32 := Scalar.addi c0_i32_7030 v6123
  v6124.toNat
def k0_dev259 (v2 : BitVec 32) : Nat :=
  let c0_i32_7042 : BitVec 32 := 0#32
  let c1_i32_7041 : BitVec 32 := 1#32
  let v6133 : BitVec 32 := Scalar.muli v2 c1_i32_7041
  let v6134 : BitVec 32 := Scalar.addi c0_i32_7042 v6133
  v6134.toNat
def k0_off12 (v0 : BitVec 32) (c1_i32_7047 : BitVec 32) : Fin 2 → Nat :=
  let v6143 : BitVec 32 := Scalar.subi v0 c1_i32_7047
  let c32_i32_7048 : BitVec 32 := 32#32
  let c0_i32_7049 : BitVec 32 := 0#32
  let v6144 : BitVec 1 := Scalar.cmpi .eq c32_i32_7048 c0_i32_7049
  let c1_i32_7050 : BitVec 32 := 1#32
  let v6145 : BitVec 32 := Scalar.select v6144 c1_i32_7050 c32_i32_7048
  let v6146 : BitVec 32 := Scalar.remsi v6143 v6145
  let c0_i32_7052 : BitVec 32 := 0#32
  let v6148 : BitVec 1 := Scalar.cmpi .slt v6146 c0_i32_7052
  let c0_i32_7053 : BitVec 32 := 0#32
  let v6149 : BitVec 1 := Scalar.cmpi .slt v6145 c0_i32_7053
  let v6150 : BitVec 1 := Scalar.xori v6148 v6149
  let c0_i32_7051 : BitVec 32 := 0#32
  let v6147 : BitVec 1 := Scalar.cmpi .ne v6146 c0_i32_7051
  let v6151 : BitVec 1 := Scalar.andi v6150 v6147
  let v6152 : BitVec 32 := Scalar.addi v6146 v6145
  let v6153 : BitVec 32 := Scalar.select v6151 v6152 v6146
  let c128_i32_7054 : BitVec 32 := 128#32
  let v6154 : BitVec 32 := Scalar.muli v6153 c128_i32_7054
  let c0_i32_7056 : BitVec 32 := 0#32
  ![v6154.toNat, 0]
def k0_off13 (v0 : BitVec 32) (c1_i32_7059 : BitVec 32) : Fin 2 → Nat :=
  let c32_i32 : BitVec 32 := 32#32
  let v3 : BitVec 32 := Scalar.subi c32_i32 v0
  let c32_i32_2 : BitVec 32 := 32#32
  let c0_i32 : BitVec 32 := 0#32
  let v4 : BitVec 1 := Scalar.cmpi .eq c32_i32_2 c0_i32
  let c1_i32 : BitVec 32 := 1#32
  let v5 : BitVec 32 := Scalar.select v4 c1_i32 c32_i32_2
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v6158 : BitVec 32 := Scalar.subi v13 c1_i32_7059
  let c32_i32_7060 : BitVec 32 := 32#32
  let c0_i32_7061 : BitVec 32 := 0#32
  let v6159 : BitVec 1 := Scalar.cmpi .eq c32_i32_7060 c0_i32_7061
  let c1_i32_7062 : BitVec 32 := 1#32
  let v6160 : BitVec 32 := Scalar.select v6159 c1_i32_7062 c32_i32_7060
  let v6161 : BitVec 32 := Scalar.remsi v6158 v6160
  let c0_i32_7064 : BitVec 32 := 0#32
  let v6163 : BitVec 1 := Scalar.cmpi .slt v6161 c0_i32_7064
  let c0_i32_7065 : BitVec 32 := 0#32
  let v6164 : BitVec 1 := Scalar.cmpi .slt v6160 c0_i32_7065
  let v6165 : BitVec 1 := Scalar.xori v6163 v6164
  let c0_i32_7063 : BitVec 32 := 0#32
  let v6162 : BitVec 1 := Scalar.cmpi .ne v6161 c0_i32_7063
  let v6166 : BitVec 1 := Scalar.andi v6165 v6162
  let v6167 : BitVec 32 := Scalar.addi v6161 v6160
  let v6168 : BitVec 32 := Scalar.select v6166 v6167 v6161
  let c128_i32_7066 : BitVec 32 := 128#32
  let v6169 : BitVec 32 := Scalar.muli v6168 c128_i32_7066
  let c4096_i32_7068 : BitVec 32 := 4096#32
  ![v6169.toNat, 4096]

def k0_chk1 (v0 : BitVec 32) : Prop :=
  (∀ a, (k0_off1 v0) a + S128x128.size a ≤ S4096x128.size a) ∧
  (∀ a, (k0_off2 v0) a + S128x128.size a ≤ S4096x128.size a) ∧
  (∀ (r : Fin 31), ∀ a, (k0_off3 v0 (BitVec.ofNat 32 r.val)) a + S128x128.size a ≤ S4096x128.size a) ∧
  (∀ (r : Fin 31), ∀ a, (k0_off4 v0 (BitVec.ofNat 32 r.val)) a + S128x128.size a ≤ S4096x128.size a) ∧
  (∀ a, (k0_off5 v0) a + S1.size a ≤ S32.size a) ∧
  (∀ a, (k0_off6 v0) a + S1.size a ≤ S32.size a) ∧
  (∀ a, (k0_off7 v0) a + S1.size a ≤ S32.size a) ∧
  (∀ a, (k0_off8 v0) a + S1.size a ≤ S32.size a) ∧
  (∀ a, (k0_off9 v0) a + S1.size a ≤ S32.size a) ∧
  (∀ a, (k0_off10 v0) a + S128x4096.size a ≤ S4096x8192.size a) ∧
  (∀ a, (k0_off11 v0) a + S128x4096.size a ≤ S4096x8192.size a) ∧
  (∀ (r : Fin 31), ∀ a, (k0_off12 v0 (BitVec.ofNat 32 (1 + r.val))) a + S128x4096.size a ≤ S4096x8192.size a) ∧
  (∀ (r : Fin 31), ∀ a, (k0_off13 v0 (BitVec.ofNat 32 (1 + r.val))) a + S128x4096.size a ≤ S4096x8192.size a)
theorem k0_off1_inb : ∀ (v0 : BitVec 32) (k0_hw1 : k0_chk1 v0), ∀ a, (k0_off1 v0) a + S128x128.size a ≤ S4096x128.size a := fun v0 k0_hw1 => k0_hw1.1
theorem k0_off2_inb : ∀ (v0 : BitVec 32) (k0_hw1 : k0_chk1 v0), ∀ a, (k0_off2 v0) a + S128x128.size a ≤ S4096x128.size a := fun v0 k0_hw1 => k0_hw1.2.1
theorem k0_off3_inb : ∀ (v0 : BitVec 32) (k0_hw1 : k0_chk1 v0), ∀ (r : Fin 31), ∀ a, (k0_off3 v0 (BitVec.ofNat 32 r.val)) a + S128x128.size a ≤ S4096x128.size a := fun v0 k0_hw1 r => k0_hw1.2.2.1 r
theorem k0_off4_inb : ∀ (v0 : BitVec 32) (k0_hw1 : k0_chk1 v0), ∀ (r : Fin 31), ∀ a, (k0_off4 v0 (BitVec.ofNat 32 r.val)) a + S128x128.size a ≤ S4096x128.size a := fun v0 k0_hw1 r => k0_hw1.2.2.2.1 r
theorem k0_off5_inb : ∀ (v0 : BitVec 32) (k0_hw1 : k0_chk1 v0), ∀ a, (k0_off5 v0) a + S1.size a ≤ S32.size a := fun v0 k0_hw1 => k0_hw1.2.2.2.2.1
theorem k0_off6_inb : ∀ (v0 : BitVec 32) (k0_hw1 : k0_chk1 v0), ∀ a, (k0_off6 v0) a + S1.size a ≤ S32.size a := fun v0 k0_hw1 => k0_hw1.2.2.2.2.2.1
theorem k0_off7_inb : ∀ (v0 : BitVec 32) (k0_hw1 : k0_chk1 v0), ∀ a, (k0_off7 v0) a + S1.size a ≤ S32.size a := fun v0 k0_hw1 => k0_hw1.2.2.2.2.2.2.1
theorem k0_off8_inb : ∀ (v0 : BitVec 32) (k0_hw1 : k0_chk1 v0), ∀ a, (k0_off8 v0) a + S1.size a ≤ S32.size a := fun v0 k0_hw1 => k0_hw1.2.2.2.2.2.2.2.1
theorem k0_off9_inb : ∀ (v0 : BitVec 32) (k0_hw1 : k0_chk1 v0), ∀ a, (k0_off9 v0) a + S1.size a ≤ S32.size a := fun v0 k0_hw1 => k0_hw1.2.2.2.2.2.2.2.2.1
theorem k0_off10_inb : ∀ (v0 : BitVec 32) (k0_hw1 : k0_chk1 v0), ∀ a, (k0_off10 v0) a + S128x4096.size a ≤ S4096x8192.size a := fun v0 k0_hw1 => k0_hw1.2.2.2.2.2.2.2.2.2.1
theorem k0_off11_inb : ∀ (v0 : BitVec 32) (k0_hw1 : k0_chk1 v0), ∀ a, (k0_off11 v0) a + S128x4096.size a ≤ S4096x8192.size a := fun v0 k0_hw1 => k0_hw1.2.2.2.2.2.2.2.2.2.2.1
theorem k0_off12_inb : ∀ (v0 : BitVec 32) (k0_hw1 : k0_chk1 v0), ∀ (r : Fin 31), ∀ a, (k0_off12 v0 (BitVec.ofNat 32 (1 + r.val))) a + S128x4096.size a ≤ S4096x8192.size a := fun v0 k0_hw1 r => k0_hw1.2.2.2.2.2.2.2.2.2.2.2.1 r
theorem k0_off13_inb : ∀ (v0 : BitVec 32) (k0_hw1 : k0_chk1 v0), ∀ (r : Fin 31), ∀ a, (k0_off13 v0 (BitVec.ofNat 32 (1 + r.val))) a + S128x4096.size a ≤ S4096x8192.size a := fun v0 k0_hw1 r => k0_hw1.2.2.2.2.2.2.2.2.2.2.2.2 r

def k0_dev260 (v2 : BitVec 32) : Nat :=
  let c0_i32_7105 : BitVec 32 := 0#32
  let c1_i32_7104 : BitVec 32 := 1#32
  let v6195 : BitVec 32 := Scalar.muli v2 c1_i32_7104
  let v6196 : BitVec 32 := Scalar.addi c0_i32_7105 v6195
  v6196.toNat
def k0_dev261 (v2 : BitVec 32) : Nat :=
  let c0_i32_7109 : BitVec 32 := 0#32
  let c1_i32_7108 : BitVec 32 := 1#32
  let v6199 : BitVec 32 := Scalar.muli v2 c1_i32_7108
  let v6200 : BitVec 32 := Scalar.addi c0_i32_7109 v6199
  v6200.toNat
def k0_dev262 (v1 : BitVec 32) : Nat :=
  let c0_i32_7136 : BitVec 32 := 0#32
  let c1_i32_7135 : BitVec 32 := 1#32
  let v6217 : BitVec 32 := Scalar.muli v1 c1_i32_7135
  let v6218 : BitVec 32 := Scalar.addi c0_i32_7136 v6217
  v6218.toNat
def k0_dev263 (v1 : BitVec 32) : Nat :=
  let c0_i32_7140 : BitVec 32 := 0#32
  let c1_i32_7139 : BitVec 32 := 1#32
  let v6221 : BitVec 32 := Scalar.muli v1 c1_i32_7139
  let v6222 : BitVec 32 := Scalar.addi c0_i32_7140 v6221
  v6222.toNat
def k0_dev264 (v1 : BitVec 32) : Nat :=
  let c0_i32_7160 : BitVec 32 := 0#32
  let c1_i32_7159 : BitVec 32 := 1#32
  let v6231 : BitVec 32 := Scalar.muli v1 c1_i32_7159
  let v6232 : BitVec 32 := Scalar.addi c0_i32_7160 v6231
  v6232.toNat
def k0_dev265 (v2 : BitVec 32) : Nat :=
  let c0_i32_7172 : BitVec 32 := 0#32
  let c1_i32_7171 : BitVec 32 := 1#32
  let v6241 : BitVec 32 := Scalar.muli v2 c1_i32_7171
  let v6242 : BitVec 32 := Scalar.addi c0_i32_7172 v6241
  v6242.toNat
def k0_dev266 (v2 : BitVec 32) : Nat :=
  let c0_i32_7235 : BitVec 32 := 0#32
  let c1_i32_7234 : BitVec 32 := 1#32
  let v6303 : BitVec 32 := Scalar.muli v2 c1_i32_7234
  let v6304 : BitVec 32 := Scalar.addi c0_i32_7235 v6303
  v6304.toNat
def k0_dev267 (v2 : BitVec 32) : Nat :=
  let c0_i32_7239 : BitVec 32 := 0#32
  let c1_i32_7238 : BitVec 32 := 1#32
  let v6307 : BitVec 32 := Scalar.muli v2 c1_i32_7238
  let v6308 : BitVec 32 := Scalar.addi c0_i32_7239 v6307
  v6308.toNat
def k0_dev268 (v1 : BitVec 32) : Nat :=
  let c0_i32_7266 : BitVec 32 := 0#32
  let c1_i32_7265 : BitVec 32 := 1#32
  let v6325 : BitVec 32 := Scalar.muli v1 c1_i32_7265
  let v6326 : BitVec 32 := Scalar.addi c0_i32_7266 v6325
  v6326.toNat
def k0_dev269 (v1 : BitVec 32) : Nat :=
  let c0_i32_7270 : BitVec 32 := 0#32
  let c1_i32_7269 : BitVec 32 := 1#32
  let v6329 : BitVec 32 := Scalar.muli v1 c1_i32_7269
  let v6330 : BitVec 32 := Scalar.addi c0_i32_7270 v6329
  v6330.toNat
def k0_dev270 (v1 : BitVec 32) : Nat :=
  let c0_i32_7290 : BitVec 32 := 0#32
  let c1_i32_7289 : BitVec 32 := 1#32
  let v6339 : BitVec 32 := Scalar.muli v1 c1_i32_7289
  let v6340 : BitVec 32 := Scalar.addi c0_i32_7290 v6339
  v6340.toNat
def k0_dev271 (v2 : BitVec 32) : Nat :=
  let c0_i32_7302 : BitVec 32 := 0#32
  let c1_i32_7301 : BitVec 32 := 1#32
  let v6349 : BitVec 32 := Scalar.muli v2 c1_i32_7301
  let v6350 : BitVec 32 := Scalar.addi c0_i32_7302 v6349
  v6350.toNat
def k0_dev272 (v2 : BitVec 32) : Nat :=
  let c0_i32_7365 : BitVec 32 := 0#32
  let c1_i32_7364 : BitVec 32 := 1#32
  let v6411 : BitVec 32 := Scalar.muli v2 c1_i32_7364
  let v6412 : BitVec 32 := Scalar.addi c0_i32_7365 v6411
  v6412.toNat
def k0_dev273 (v2 : BitVec 32) : Nat :=
  let c0_i32_7369 : BitVec 32 := 0#32
  let c1_i32_7368 : BitVec 32 := 1#32
  let v6415 : BitVec 32 := Scalar.muli v2 c1_i32_7368
  let v6416 : BitVec 32 := Scalar.addi c0_i32_7369 v6415
  v6416.toNat
def k0_dev274 (v1 : BitVec 32) : Nat :=
  let c0_i32_7396 : BitVec 32 := 0#32
  let c1_i32_7395 : BitVec 32 := 1#32
  let v6433 : BitVec 32 := Scalar.muli v1 c1_i32_7395
  let v6434 : BitVec 32 := Scalar.addi c0_i32_7396 v6433
  v6434.toNat
def k0_dev275 (v1 : BitVec 32) : Nat :=
  let c0_i32_7400 : BitVec 32 := 0#32
  let c1_i32_7399 : BitVec 32 := 1#32
  let v6437 : BitVec 32 := Scalar.muli v1 c1_i32_7399
  let v6438 : BitVec 32 := Scalar.addi c0_i32_7400 v6437
  v6438.toNat
def k0_dev276 (v1 : BitVec 32) : Nat :=
  let c0_i32_7420 : BitVec 32 := 0#32
  let c1_i32_7419 : BitVec 32 := 1#32
  let v6447 : BitVec 32 := Scalar.muli v1 c1_i32_7419
  let v6448 : BitVec 32 := Scalar.addi c0_i32_7420 v6447
  v6448.toNat
def k0_dev277 (v2 : BitVec 32) : Nat :=
  let c0_i32_7432 : BitVec 32 := 0#32
  let c1_i32_7431 : BitVec 32 := 1#32
  let v6457 : BitVec 32 := Scalar.muli v2 c1_i32_7431
  let v6458 : BitVec 32 := Scalar.addi c0_i32_7432 v6457
  v6458.toNat
def k0_dev278 (v2 : BitVec 32) : Nat :=
  let c0_i32_7495 : BitVec 32 := 0#32
  let c1_i32_7494 : BitVec 32 := 1#32
  let v6519 : BitVec 32 := Scalar.muli v2 c1_i32_7494
  let v6520 : BitVec 32 := Scalar.addi c0_i32_7495 v6519
  v6520.toNat
def k0_dev279 (v2 : BitVec 32) : Nat :=
  let c0_i32_7499 : BitVec 32 := 0#32
  let c1_i32_7498 : BitVec 32 := 1#32
  let v6523 : BitVec 32 := Scalar.muli v2 c1_i32_7498
  let v6524 : BitVec 32 := Scalar.addi c0_i32_7499 v6523
  v6524.toNat
def k0_dev280 (v1 : BitVec 32) : Nat :=
  let c0_i32_7526 : BitVec 32 := 0#32
  let c1_i32_7525 : BitVec 32 := 1#32
  let v6541 : BitVec 32 := Scalar.muli v1 c1_i32_7525
  let v6542 : BitVec 32 := Scalar.addi c0_i32_7526 v6541
  v6542.toNat
def k0_dev281 (v1 : BitVec 32) : Nat :=
  let c0_i32_7530 : BitVec 32 := 0#32
  let c1_i32_7529 : BitVec 32 := 1#32
  let v6545 : BitVec 32 := Scalar.muli v1 c1_i32_7529
  let v6546 : BitVec 32 := Scalar.addi c0_i32_7530 v6545
  v6546.toNat
def k0_dev282 (v1 : BitVec 32) : Nat :=
  let c0_i32_7550 : BitVec 32 := 0#32
  let c1_i32_7549 : BitVec 32 := 1#32
  let v6555 : BitVec 32 := Scalar.muli v1 c1_i32_7549
  let v6556 : BitVec 32 := Scalar.addi c0_i32_7550 v6555
  v6556.toNat
def k0_dev283 (v2 : BitVec 32) : Nat :=
  let c0_i32_7562 : BitVec 32 := 0#32
  let c1_i32_7561 : BitVec 32 := 1#32
  let v6565 : BitVec 32 := Scalar.muli v2 c1_i32_7561
  let v6566 : BitVec 32 := Scalar.addi c0_i32_7562 v6565
  v6566.toNat
def k0_dev284 (v2 : BitVec 32) : Nat :=
  let c0_i32_7625 : BitVec 32 := 0#32
  let c1_i32_7624 : BitVec 32 := 1#32
  let v6627 : BitVec 32 := Scalar.muli v2 c1_i32_7624
  let v6628 : BitVec 32 := Scalar.addi c0_i32_7625 v6627
  v6628.toNat
def k0_dev285 (v2 : BitVec 32) : Nat :=
  let c0_i32_7629 : BitVec 32 := 0#32
  let c1_i32_7628 : BitVec 32 := 1#32
  let v6631 : BitVec 32 := Scalar.muli v2 c1_i32_7628
  let v6632 : BitVec 32 := Scalar.addi c0_i32_7629 v6631
  v6632.toNat
def k0_dev286 (v1 : BitVec 32) : Nat :=
  let c0_i32_7656 : BitVec 32 := 0#32
  let c1_i32_7655 : BitVec 32 := 1#32
  let v6649 : BitVec 32 := Scalar.muli v1 c1_i32_7655
  let v6650 : BitVec 32 := Scalar.addi c0_i32_7656 v6649
  v6650.toNat
def k0_dev287 (v1 : BitVec 32) : Nat :=
  let c0_i32_7660 : BitVec 32 := 0#32
  let c1_i32_7659 : BitVec 32 := 1#32
  let v6653 : BitVec 32 := Scalar.muli v1 c1_i32_7659
  let v6654 : BitVec 32 := Scalar.addi c0_i32_7660 v6653
  v6654.toNat
def k0_dev288 (v1 : BitVec 32) : Nat :=
  let c0_i32_7680 : BitVec 32 := 0#32
  let c1_i32_7679 : BitVec 32 := 1#32
  let v6663 : BitVec 32 := Scalar.muli v1 c1_i32_7679
  let v6664 : BitVec 32 := Scalar.addi c0_i32_7680 v6663
  v6664.toNat
def k0_dev289 (v2 : BitVec 32) : Nat :=
  let c0_i32_7692 : BitVec 32 := 0#32
  let c1_i32_7691 : BitVec 32 := 1#32
  let v6673 : BitVec 32 := Scalar.muli v2 c1_i32_7691
  let v6674 : BitVec 32 := Scalar.addi c0_i32_7692 v6673
  v6674.toNat
def k0_dev290 (v2 : BitVec 32) : Nat :=
  let c0_i32_7755 : BitVec 32 := 0#32
  let c1_i32_7754 : BitVec 32 := 1#32
  let v6735 : BitVec 32 := Scalar.muli v2 c1_i32_7754
  let v6736 : BitVec 32 := Scalar.addi c0_i32_7755 v6735
  v6736.toNat
def k0_dev291 (v2 : BitVec 32) : Nat :=
  let c0_i32_7759 : BitVec 32 := 0#32
  let c1_i32_7758 : BitVec 32 := 1#32
  let v6739 : BitVec 32 := Scalar.muli v2 c1_i32_7758
  let v6740 : BitVec 32 := Scalar.addi c0_i32_7759 v6739
  v6740.toNat
def k0_dev292 (v1 : BitVec 32) : Nat :=
  let c0_i32_7786 : BitVec 32 := 0#32
  let c1_i32_7785 : BitVec 32 := 1#32
  let v6757 : BitVec 32 := Scalar.muli v1 c1_i32_7785
  let v6758 : BitVec 32 := Scalar.addi c0_i32_7786 v6757
  v6758.toNat
def k0_dev293 (v1 : BitVec 32) : Nat :=
  let c0_i32_7790 : BitVec 32 := 0#32
  let c1_i32_7789 : BitVec 32 := 1#32
  let v6761 : BitVec 32 := Scalar.muli v1 c1_i32_7789
  let v6762 : BitVec 32 := Scalar.addi c0_i32_7790 v6761
  v6762.toNat
def k0_dev294 (v1 : BitVec 32) : Nat :=
  let c0_i32_7810 : BitVec 32 := 0#32
  let c1_i32_7809 : BitVec 32 := 1#32
  let v6771 : BitVec 32 := Scalar.muli v1 c1_i32_7809
  let v6772 : BitVec 32 := Scalar.addi c0_i32_7810 v6771
  v6772.toNat
def k0_dev295 (v2 : BitVec 32) : Nat :=
  let c0_i32_7822 : BitVec 32 := 0#32
  let c1_i32_7821 : BitVec 32 := 1#32
  let v6781 : BitVec 32 := Scalar.muli v2 c1_i32_7821
  let v6782 : BitVec 32 := Scalar.addi c0_i32_7822 v6781
  v6782.toNat
def k0_dev296 (v2 : BitVec 32) : Nat :=
  let c0_i32_7885 : BitVec 32 := 0#32
  let c1_i32_7884 : BitVec 32 := 1#32
  let v6843 : BitVec 32 := Scalar.muli v2 c1_i32_7884
  let v6844 : BitVec 32 := Scalar.addi c0_i32_7885 v6843
  v6844.toNat
def k0_dev297 (v2 : BitVec 32) : Nat :=
  let c0_i32_7889 : BitVec 32 := 0#32
  let c1_i32_7888 : BitVec 32 := 1#32
  let v6847 : BitVec 32 := Scalar.muli v2 c1_i32_7888
  let v6848 : BitVec 32 := Scalar.addi c0_i32_7889 v6847
  v6848.toNat
def k0_dev298 (v1 : BitVec 32) : Nat :=
  let c0_i32_7916 : BitVec 32 := 0#32
  let c1_i32_7915 : BitVec 32 := 1#32
  let v6865 : BitVec 32 := Scalar.muli v1 c1_i32_7915
  let v6866 : BitVec 32 := Scalar.addi c0_i32_7916 v6865
  v6866.toNat
def k0_dev299 (v1 : BitVec 32) : Nat :=
  let c0_i32_7920 : BitVec 32 := 0#32
  let c1_i32_7919 : BitVec 32 := 1#32
  let v6869 : BitVec 32 := Scalar.muli v1 c1_i32_7919
  let v6870 : BitVec 32 := Scalar.addi c0_i32_7920 v6869
  v6870.toNat
def k0_dev300 (v1 : BitVec 32) : Nat :=
  let c0_i32_7940 : BitVec 32 := 0#32
  let c1_i32_7939 : BitVec 32 := 1#32
  let v6879 : BitVec 32 := Scalar.muli v1 c1_i32_7939
  let v6880 : BitVec 32 := Scalar.addi c0_i32_7940 v6879
  v6880.toNat
def k0_dev301 (v2 : BitVec 32) : Nat :=
  let c0_i32_7952 : BitVec 32 := 0#32
  let c1_i32_7951 : BitVec 32 := 1#32
  let v6889 : BitVec 32 := Scalar.muli v2 c1_i32_7951
  let v6890 : BitVec 32 := Scalar.addi c0_i32_7952 v6889
  v6890.toNat
def k0_dev302 (v2 : BitVec 32) : Nat :=
  let c0_i32_8015 : BitVec 32 := 0#32
  let c1_i32_8014 : BitVec 32 := 1#32
  let v6951 : BitVec 32 := Scalar.muli v2 c1_i32_8014
  let v6952 : BitVec 32 := Scalar.addi c0_i32_8015 v6951
  v6952.toNat
def k0_dev303 (v2 : BitVec 32) : Nat :=
  let c0_i32_8019 : BitVec 32 := 0#32
  let c1_i32_8018 : BitVec 32 := 1#32
  let v6955 : BitVec 32 := Scalar.muli v2 c1_i32_8018
  let v6956 : BitVec 32 := Scalar.addi c0_i32_8019 v6955
  v6956.toNat
def k0_dev304 (v1 : BitVec 32) : Nat :=
  let c0_i32_8046 : BitVec 32 := 0#32
  let c1_i32_8045 : BitVec 32 := 1#32
  let v6973 : BitVec 32 := Scalar.muli v1 c1_i32_8045
  let v6974 : BitVec 32 := Scalar.addi c0_i32_8046 v6973
  v6974.toNat
def k0_dev305 (v1 : BitVec 32) : Nat :=
  let c0_i32_8050 : BitVec 32 := 0#32
  let c1_i32_8049 : BitVec 32 := 1#32
  let v6977 : BitVec 32 := Scalar.muli v1 c1_i32_8049
  let v6978 : BitVec 32 := Scalar.addi c0_i32_8050 v6977
  v6978.toNat
def k0_dev306 (v1 : BitVec 32) : Nat :=
  let c0_i32_8070 : BitVec 32 := 0#32
  let c1_i32_8069 : BitVec 32 := 1#32
  let v6987 : BitVec 32 := Scalar.muli v1 c1_i32_8069
  let v6988 : BitVec 32 := Scalar.addi c0_i32_8070 v6987
  v6988.toNat
def k0_dev307 (v2 : BitVec 32) : Nat :=
  let c0_i32_8082 : BitVec 32 := 0#32
  let c1_i32_8081 : BitVec 32 := 1#32
  let v6997 : BitVec 32 := Scalar.muli v2 c1_i32_8081
  let v6998 : BitVec 32 := Scalar.addi c0_i32_8082 v6997
  v6998.toNat
def k0_dev308 (v2 : BitVec 32) : Nat :=
  let c0_i32_8145 : BitVec 32 := 0#32
  let c1_i32_8144 : BitVec 32 := 1#32
  let v7059 : BitVec 32 := Scalar.muli v2 c1_i32_8144
  let v7060 : BitVec 32 := Scalar.addi c0_i32_8145 v7059
  v7060.toNat
def k0_dev309 (v2 : BitVec 32) : Nat :=
  let c0_i32_8149 : BitVec 32 := 0#32
  let c1_i32_8148 : BitVec 32 := 1#32
  let v7063 : BitVec 32 := Scalar.muli v2 c1_i32_8148
  let v7064 : BitVec 32 := Scalar.addi c0_i32_8149 v7063
  v7064.toNat
def k0_dev310 (v1 : BitVec 32) : Nat :=
  let c0_i32_8176 : BitVec 32 := 0#32
  let c1_i32_8175 : BitVec 32 := 1#32
  let v7081 : BitVec 32 := Scalar.muli v1 c1_i32_8175
  let v7082 : BitVec 32 := Scalar.addi c0_i32_8176 v7081
  v7082.toNat
def k0_dev311 (v1 : BitVec 32) : Nat :=
  let c0_i32_8180 : BitVec 32 := 0#32
  let c1_i32_8179 : BitVec 32 := 1#32
  let v7085 : BitVec 32 := Scalar.muli v1 c1_i32_8179
  let v7086 : BitVec 32 := Scalar.addi c0_i32_8180 v7085
  v7086.toNat
def k0_dev312 (v1 : BitVec 32) : Nat :=
  let c0_i32_8200 : BitVec 32 := 0#32
  let c1_i32_8199 : BitVec 32 := 1#32
  let v7095 : BitVec 32 := Scalar.muli v1 c1_i32_8199
  let v7096 : BitVec 32 := Scalar.addi c0_i32_8200 v7095
  v7096.toNat
def k0_dev313 (v2 : BitVec 32) : Nat :=
  let c0_i32_8212 : BitVec 32 := 0#32
  let c1_i32_8211 : BitVec 32 := 1#32
  let v7105 : BitVec 32 := Scalar.muli v2 c1_i32_8211
  let v7106 : BitVec 32 := Scalar.addi c0_i32_8212 v7105
  v7106.toNat
def k0_dev314 (v2 : BitVec 32) : Nat :=
  let c0_i32_8275 : BitVec 32 := 0#32
  let c1_i32_8274 : BitVec 32 := 1#32
  let v7167 : BitVec 32 := Scalar.muli v2 c1_i32_8274
  let v7168 : BitVec 32 := Scalar.addi c0_i32_8275 v7167
  v7168.toNat
def k0_dev315 (v2 : BitVec 32) : Nat :=
  let c0_i32_8279 : BitVec 32 := 0#32
  let c1_i32_8278 : BitVec 32 := 1#32
  let v7171 : BitVec 32 := Scalar.muli v2 c1_i32_8278
  let v7172 : BitVec 32 := Scalar.addi c0_i32_8279 v7171
  v7172.toNat
def k0_dev316 (v1 : BitVec 32) : Nat :=
  let c0_i32_8306 : BitVec 32 := 0#32
  let c1_i32_8305 : BitVec 32 := 1#32
  let v7189 : BitVec 32 := Scalar.muli v1 c1_i32_8305
  let v7190 : BitVec 32 := Scalar.addi c0_i32_8306 v7189
  v7190.toNat
def k0_dev317 (v1 : BitVec 32) : Nat :=
  let c0_i32_8310 : BitVec 32 := 0#32
  let c1_i32_8309 : BitVec 32 := 1#32
  let v7193 : BitVec 32 := Scalar.muli v1 c1_i32_8309
  let v7194 : BitVec 32 := Scalar.addi c0_i32_8310 v7193
  v7194.toNat
def k0_dev318 (v1 : BitVec 32) : Nat :=
  let c0_i32_8330 : BitVec 32 := 0#32
  let c1_i32_8329 : BitVec 32 := 1#32
  let v7203 : BitVec 32 := Scalar.muli v1 c1_i32_8329
  let v7204 : BitVec 32 := Scalar.addi c0_i32_8330 v7203
  v7204.toNat
def k0_dev319 (v2 : BitVec 32) : Nat :=
  let c0_i32_8342 : BitVec 32 := 0#32
  let c1_i32_8341 : BitVec 32 := 1#32
  let v7213 : BitVec 32 := Scalar.muli v2 c1_i32_8341
  let v7214 : BitVec 32 := Scalar.addi c0_i32_8342 v7213
  v7214.toNat
def k0_dev320 (v2 : BitVec 32) : Nat :=
  let c0_i32_8405 : BitVec 32 := 0#32
  let c1_i32_8404 : BitVec 32 := 1#32
  let v7275 : BitVec 32 := Scalar.muli v2 c1_i32_8404
  let v7276 : BitVec 32 := Scalar.addi c0_i32_8405 v7275
  v7276.toNat
def k0_dev321 (v2 : BitVec 32) : Nat :=
  let c0_i32_8409 : BitVec 32 := 0#32
  let c1_i32_8408 : BitVec 32 := 1#32
  let v7279 : BitVec 32 := Scalar.muli v2 c1_i32_8408
  let v7280 : BitVec 32 := Scalar.addi c0_i32_8409 v7279
  v7280.toNat
def k0_dev322 (v1 : BitVec 32) : Nat :=
  let c0_i32_8436 : BitVec 32 := 0#32
  let c1_i32_8435 : BitVec 32 := 1#32
  let v7297 : BitVec 32 := Scalar.muli v1 c1_i32_8435
  let v7298 : BitVec 32 := Scalar.addi c0_i32_8436 v7297
  v7298.toNat
def k0_dev323 (v1 : BitVec 32) : Nat :=
  let c0_i32_8440 : BitVec 32 := 0#32
  let c1_i32_8439 : BitVec 32 := 1#32
  let v7301 : BitVec 32 := Scalar.muli v1 c1_i32_8439
  let v7302 : BitVec 32 := Scalar.addi c0_i32_8440 v7301
  v7302.toNat
def k0_dev324 (v1 : BitVec 32) : Nat :=
  let c0_i32_8460 : BitVec 32 := 0#32
  let c1_i32_8459 : BitVec 32 := 1#32
  let v7311 : BitVec 32 := Scalar.muli v1 c1_i32_8459
  let v7312 : BitVec 32 := Scalar.addi c0_i32_8460 v7311
  v7312.toNat
def k0_dev325 (v2 : BitVec 32) : Nat :=
  let c0_i32_8472 : BitVec 32 := 0#32
  let c1_i32_8471 : BitVec 32 := 1#32
  let v7321 : BitVec 32 := Scalar.muli v2 c1_i32_8471
  let v7322 : BitVec 32 := Scalar.addi c0_i32_8472 v7321
  v7322.toNat
def k0_dev326 (v2 : BitVec 32) : Nat :=
  let c0_i32_8535 : BitVec 32 := 0#32
  let c1_i32_8534 : BitVec 32 := 1#32
  let v7383 : BitVec 32 := Scalar.muli v2 c1_i32_8534
  let v7384 : BitVec 32 := Scalar.addi c0_i32_8535 v7383
  v7384.toNat
def k0_dev327 (v2 : BitVec 32) : Nat :=
  let c0_i32_8539 : BitVec 32 := 0#32
  let c1_i32_8538 : BitVec 32 := 1#32
  let v7387 : BitVec 32 := Scalar.muli v2 c1_i32_8538
  let v7388 : BitVec 32 := Scalar.addi c0_i32_8539 v7387
  v7388.toNat
def k0_dev328 (v1 : BitVec 32) : Nat :=
  let c0_i32_8566 : BitVec 32 := 0#32
  let c1_i32_8565 : BitVec 32 := 1#32
  let v7405 : BitVec 32 := Scalar.muli v1 c1_i32_8565
  let v7406 : BitVec 32 := Scalar.addi c0_i32_8566 v7405
  v7406.toNat
def k0_dev329 (v1 : BitVec 32) : Nat :=
  let c0_i32_8570 : BitVec 32 := 0#32
  let c1_i32_8569 : BitVec 32 := 1#32
  let v7409 : BitVec 32 := Scalar.muli v1 c1_i32_8569
  let v7410 : BitVec 32 := Scalar.addi c0_i32_8570 v7409
  v7410.toNat
def k0_dev330 (v1 : BitVec 32) : Nat :=
  let c0_i32_8590 : BitVec 32 := 0#32
  let c1_i32_8589 : BitVec 32 := 1#32
  let v7419 : BitVec 32 := Scalar.muli v1 c1_i32_8589
  let v7420 : BitVec 32 := Scalar.addi c0_i32_8590 v7419
  v7420.toNat
def k0_dev331 (v2 : BitVec 32) : Nat :=
  let c0_i32_8602 : BitVec 32 := 0#32
  let c1_i32_8601 : BitVec 32 := 1#32
  let v7429 : BitVec 32 := Scalar.muli v2 c1_i32_8601
  let v7430 : BitVec 32 := Scalar.addi c0_i32_8602 v7429
  v7430.toNat
def k0_dev332 (v2 : BitVec 32) : Nat :=
  let c0_i32_8665 : BitVec 32 := 0#32
  let c1_i32_8664 : BitVec 32 := 1#32
  let v7491 : BitVec 32 := Scalar.muli v2 c1_i32_8664
  let v7492 : BitVec 32 := Scalar.addi c0_i32_8665 v7491
  v7492.toNat
def k0_dev333 (v2 : BitVec 32) : Nat :=
  let c0_i32_8669 : BitVec 32 := 0#32
  let c1_i32_8668 : BitVec 32 := 1#32
  let v7495 : BitVec 32 := Scalar.muli v2 c1_i32_8668
  let v7496 : BitVec 32 := Scalar.addi c0_i32_8669 v7495
  v7496.toNat
def k0_dev334 (v1 : BitVec 32) : Nat :=
  let c0_i32_8696 : BitVec 32 := 0#32
  let c1_i32_8695 : BitVec 32 := 1#32
  let v7513 : BitVec 32 := Scalar.muli v1 c1_i32_8695
  let v7514 : BitVec 32 := Scalar.addi c0_i32_8696 v7513
  v7514.toNat
def k0_dev335 (v1 : BitVec 32) : Nat :=
  let c0_i32_8700 : BitVec 32 := 0#32
  let c1_i32_8699 : BitVec 32 := 1#32
  let v7517 : BitVec 32 := Scalar.muli v1 c1_i32_8699
  let v7518 : BitVec 32 := Scalar.addi c0_i32_8700 v7517
  v7518.toNat
def k0_dev336 (v1 : BitVec 32) : Nat :=
  let c0_i32_8720 : BitVec 32 := 0#32
  let c1_i32_8719 : BitVec 32 := 1#32
  let v7527 : BitVec 32 := Scalar.muli v1 c1_i32_8719
  let v7528 : BitVec 32 := Scalar.addi c0_i32_8720 v7527
  v7528.toNat
def k0_dev337 (v2 : BitVec 32) : Nat :=
  let c0_i32_8732 : BitVec 32 := 0#32
  let c1_i32_8731 : BitVec 32 := 1#32
  let v7537 : BitVec 32 := Scalar.muli v2 c1_i32_8731
  let v7538 : BitVec 32 := Scalar.addi c0_i32_8732 v7537
  v7538.toNat
def k0_dev338 (v2 : BitVec 32) : Nat :=
  let c0_i32_8795 : BitVec 32 := 0#32
  let c1_i32_8794 : BitVec 32 := 1#32
  let v7599 : BitVec 32 := Scalar.muli v2 c1_i32_8794
  let v7600 : BitVec 32 := Scalar.addi c0_i32_8795 v7599
  v7600.toNat
def k0_dev339 (v2 : BitVec 32) : Nat :=
  let c0_i32_8799 : BitVec 32 := 0#32
  let c1_i32_8798 : BitVec 32 := 1#32
  let v7603 : BitVec 32 := Scalar.muli v2 c1_i32_8798
  let v7604 : BitVec 32 := Scalar.addi c0_i32_8799 v7603
  v7604.toNat
def k0_dev340 (v1 : BitVec 32) : Nat :=
  let c0_i32_8826 : BitVec 32 := 0#32
  let c1_i32_8825 : BitVec 32 := 1#32
  let v7621 : BitVec 32 := Scalar.muli v1 c1_i32_8825
  let v7622 : BitVec 32 := Scalar.addi c0_i32_8826 v7621
  v7622.toNat
def k0_dev341 (v1 : BitVec 32) : Nat :=
  let c0_i32_8830 : BitVec 32 := 0#32
  let c1_i32_8829 : BitVec 32 := 1#32
  let v7625 : BitVec 32 := Scalar.muli v1 c1_i32_8829
  let v7626 : BitVec 32 := Scalar.addi c0_i32_8830 v7625
  v7626.toNat
def k0_dev342 (v1 : BitVec 32) : Nat :=
  let c0_i32_8850 : BitVec 32 := 0#32
  let c1_i32_8849 : BitVec 32 := 1#32
  let v7635 : BitVec 32 := Scalar.muli v1 c1_i32_8849
  let v7636 : BitVec 32 := Scalar.addi c0_i32_8850 v7635
  v7636.toNat
def k0_dev343 (v2 : BitVec 32) : Nat :=
  let c0_i32_8862 : BitVec 32 := 0#32
  let c1_i32_8861 : BitVec 32 := 1#32
  let v7645 : BitVec 32 := Scalar.muli v2 c1_i32_8861
  let v7646 : BitVec 32 := Scalar.addi c0_i32_8862 v7645
  v7646.toNat
def k0_dev344 (v2 : BitVec 32) : Nat :=
  let c0_i32_8925 : BitVec 32 := 0#32
  let c1_i32_8924 : BitVec 32 := 1#32
  let v7707 : BitVec 32 := Scalar.muli v2 c1_i32_8924
  let v7708 : BitVec 32 := Scalar.addi c0_i32_8925 v7707
  v7708.toNat
def k0_dev345 (v2 : BitVec 32) : Nat :=
  let c0_i32_8929 : BitVec 32 := 0#32
  let c1_i32_8928 : BitVec 32 := 1#32
  let v7711 : BitVec 32 := Scalar.muli v2 c1_i32_8928
  let v7712 : BitVec 32 := Scalar.addi c0_i32_8929 v7711
  v7712.toNat
def k0_dev346 (v1 : BitVec 32) : Nat :=
  let c0_i32_8956 : BitVec 32 := 0#32
  let c1_i32_8955 : BitVec 32 := 1#32
  let v7729 : BitVec 32 := Scalar.muli v1 c1_i32_8955
  let v7730 : BitVec 32 := Scalar.addi c0_i32_8956 v7729
  v7730.toNat
def k0_dev347 (v1 : BitVec 32) : Nat :=
  let c0_i32_8960 : BitVec 32 := 0#32
  let c1_i32_8959 : BitVec 32 := 1#32
  let v7733 : BitVec 32 := Scalar.muli v1 c1_i32_8959
  let v7734 : BitVec 32 := Scalar.addi c0_i32_8960 v7733
  v7734.toNat
def k0_dev348 (v1 : BitVec 32) : Nat :=
  let c0_i32_8980 : BitVec 32 := 0#32
  let c1_i32_8979 : BitVec 32 := 1#32
  let v7743 : BitVec 32 := Scalar.muli v1 c1_i32_8979
  let v7744 : BitVec 32 := Scalar.addi c0_i32_8980 v7743
  v7744.toNat
def k0_dev349 (v2 : BitVec 32) : Nat :=
  let c0_i32_8992 : BitVec 32 := 0#32
  let c1_i32_8991 : BitVec 32 := 1#32
  let v7753 : BitVec 32 := Scalar.muli v2 c1_i32_8991
  let v7754 : BitVec 32 := Scalar.addi c0_i32_8992 v7753
  v7754.toNat
def k0_dev350 (v2 : BitVec 32) : Nat :=
  let c0_i32_9055 : BitVec 32 := 0#32
  let c1_i32_9054 : BitVec 32 := 1#32
  let v7815 : BitVec 32 := Scalar.muli v2 c1_i32_9054
  let v7816 : BitVec 32 := Scalar.addi c0_i32_9055 v7815
  v7816.toNat
def k0_dev351 (v2 : BitVec 32) : Nat :=
  let c0_i32_9059 : BitVec 32 := 0#32
  let c1_i32_9058 : BitVec 32 := 1#32
  let v7819 : BitVec 32 := Scalar.muli v2 c1_i32_9058
  let v7820 : BitVec 32 := Scalar.addi c0_i32_9059 v7819
  v7820.toNat
def k0_dev352 (v1 : BitVec 32) : Nat :=
  let c0_i32_9086 : BitVec 32 := 0#32
  let c1_i32_9085 : BitVec 32 := 1#32
  let v7837 : BitVec 32 := Scalar.muli v1 c1_i32_9085
  let v7838 : BitVec 32 := Scalar.addi c0_i32_9086 v7837
  v7838.toNat
def k0_dev353 (v1 : BitVec 32) : Nat :=
  let c0_i32_9090 : BitVec 32 := 0#32
  let c1_i32_9089 : BitVec 32 := 1#32
  let v7841 : BitVec 32 := Scalar.muli v1 c1_i32_9089
  let v7842 : BitVec 32 := Scalar.addi c0_i32_9090 v7841
  v7842.toNat
def k0_dev354 (v1 : BitVec 32) : Nat :=
  let c0_i32_9110 : BitVec 32 := 0#32
  let c1_i32_9109 : BitVec 32 := 1#32
  let v7851 : BitVec 32 := Scalar.muli v1 c1_i32_9109
  let v7852 : BitVec 32 := Scalar.addi c0_i32_9110 v7851
  v7852.toNat
def k0_dev355 (v2 : BitVec 32) : Nat :=
  let c0_i32_9122 : BitVec 32 := 0#32
  let c1_i32_9121 : BitVec 32 := 1#32
  let v7861 : BitVec 32 := Scalar.muli v2 c1_i32_9121
  let v7862 : BitVec 32 := Scalar.addi c0_i32_9122 v7861
  v7862.toNat
def k0_dev356 (v2 : BitVec 32) : Nat :=
  let c0_i32_9185 : BitVec 32 := 0#32
  let c1_i32_9184 : BitVec 32 := 1#32
  let v7923 : BitVec 32 := Scalar.muli v2 c1_i32_9184
  let v7924 : BitVec 32 := Scalar.addi c0_i32_9185 v7923
  v7924.toNat
def k0_dev357 (v2 : BitVec 32) : Nat :=
  let c0_i32_9189 : BitVec 32 := 0#32
  let c1_i32_9188 : BitVec 32 := 1#32
  let v7927 : BitVec 32 := Scalar.muli v2 c1_i32_9188
  let v7928 : BitVec 32 := Scalar.addi c0_i32_9189 v7927
  v7928.toNat
def k0_dev358 (v1 : BitVec 32) : Nat :=
  let c0_i32_9216 : BitVec 32 := 0#32
  let c1_i32_9215 : BitVec 32 := 1#32
  let v7945 : BitVec 32 := Scalar.muli v1 c1_i32_9215
  let v7946 : BitVec 32 := Scalar.addi c0_i32_9216 v7945
  v7946.toNat
def k0_dev359 (v1 : BitVec 32) : Nat :=
  let c0_i32_9220 : BitVec 32 := 0#32
  let c1_i32_9219 : BitVec 32 := 1#32
  let v7949 : BitVec 32 := Scalar.muli v1 c1_i32_9219
  let v7950 : BitVec 32 := Scalar.addi c0_i32_9220 v7949
  v7950.toNat
def k0_dev360 (v1 : BitVec 32) : Nat :=
  let c0_i32_9240 : BitVec 32 := 0#32
  let c1_i32_9239 : BitVec 32 := 1#32
  let v7959 : BitVec 32 := Scalar.muli v1 c1_i32_9239
  let v7960 : BitVec 32 := Scalar.addi c0_i32_9240 v7959
  v7960.toNat
def k0_dev361 (v2 : BitVec 32) : Nat :=
  let c0_i32_9252 : BitVec 32 := 0#32
  let c1_i32_9251 : BitVec 32 := 1#32
  let v7969 : BitVec 32 := Scalar.muli v2 c1_i32_9251
  let v7970 : BitVec 32 := Scalar.addi c0_i32_9252 v7969
  v7970.toNat
def k0_dev362 (v2 : BitVec 32) : Nat :=
  let c0_i32_9315 : BitVec 32 := 0#32
  let c1_i32_9314 : BitVec 32 := 1#32
  let v8031 : BitVec 32 := Scalar.muli v2 c1_i32_9314
  let v8032 : BitVec 32 := Scalar.addi c0_i32_9315 v8031
  v8032.toNat
def k0_dev363 (v2 : BitVec 32) : Nat :=
  let c0_i32_9319 : BitVec 32 := 0#32
  let c1_i32_9318 : BitVec 32 := 1#32
  let v8035 : BitVec 32 := Scalar.muli v2 c1_i32_9318
  let v8036 : BitVec 32 := Scalar.addi c0_i32_9319 v8035
  v8036.toNat
def k0_dev364 (v1 : BitVec 32) : Nat :=
  let c0_i32_9346 : BitVec 32 := 0#32
  let c1_i32_9345 : BitVec 32 := 1#32
  let v8053 : BitVec 32 := Scalar.muli v1 c1_i32_9345
  let v8054 : BitVec 32 := Scalar.addi c0_i32_9346 v8053
  v8054.toNat
def k0_dev365 (v1 : BitVec 32) : Nat :=
  let c0_i32_9350 : BitVec 32 := 0#32
  let c1_i32_9349 : BitVec 32 := 1#32
  let v8057 : BitVec 32 := Scalar.muli v1 c1_i32_9349
  let v8058 : BitVec 32 := Scalar.addi c0_i32_9350 v8057
  v8058.toNat
def k0_dev366 (v1 : BitVec 32) : Nat :=
  let c0_i32_9370 : BitVec 32 := 0#32
  let c1_i32_9369 : BitVec 32 := 1#32
  let v8067 : BitVec 32 := Scalar.muli v1 c1_i32_9369
  let v8068 : BitVec 32 := Scalar.addi c0_i32_9370 v8067
  v8068.toNat
def k0_dev367 (v2 : BitVec 32) : Nat :=
  let c0_i32_9382 : BitVec 32 := 0#32
  let c1_i32_9381 : BitVec 32 := 1#32
  let v8077 : BitVec 32 := Scalar.muli v2 c1_i32_9381
  let v8078 : BitVec 32 := Scalar.addi c0_i32_9382 v8077
  v8078.toNat
def k0_dev368 (v2 : BitVec 32) : Nat :=
  let c0_i32_9445 : BitVec 32 := 0#32
  let c1_i32_9444 : BitVec 32 := 1#32
  let v8139 : BitVec 32 := Scalar.muli v2 c1_i32_9444
  let v8140 : BitVec 32 := Scalar.addi c0_i32_9445 v8139
  v8140.toNat
def k0_dev369 (v2 : BitVec 32) : Nat :=
  let c0_i32_9449 : BitVec 32 := 0#32
  let c1_i32_9448 : BitVec 32 := 1#32
  let v8143 : BitVec 32 := Scalar.muli v2 c1_i32_9448
  let v8144 : BitVec 32 := Scalar.addi c0_i32_9449 v8143
  v8144.toNat
def k0_dev370 (v1 : BitVec 32) : Nat :=
  let c0_i32_9476 : BitVec 32 := 0#32
  let c1_i32_9475 : BitVec 32 := 1#32
  let v8161 : BitVec 32 := Scalar.muli v1 c1_i32_9475
  let v8162 : BitVec 32 := Scalar.addi c0_i32_9476 v8161
  v8162.toNat
def k0_dev371 (v1 : BitVec 32) : Nat :=
  let c0_i32_9480 : BitVec 32 := 0#32
  let c1_i32_9479 : BitVec 32 := 1#32
  let v8165 : BitVec 32 := Scalar.muli v1 c1_i32_9479
  let v8166 : BitVec 32 := Scalar.addi c0_i32_9480 v8165
  v8166.toNat
def k0_dev372 (v1 : BitVec 32) : Nat :=
  let c0_i32_9500 : BitVec 32 := 0#32
  let c1_i32_9499 : BitVec 32 := 1#32
  let v8175 : BitVec 32 := Scalar.muli v1 c1_i32_9499
  let v8176 : BitVec 32 := Scalar.addi c0_i32_9500 v8175
  v8176.toNat
def k0_dev373 (v2 : BitVec 32) : Nat :=
  let c0_i32_9512 : BitVec 32 := 0#32
  let c1_i32_9511 : BitVec 32 := 1#32
  let v8185 : BitVec 32 := Scalar.muli v2 c1_i32_9511
  let v8186 : BitVec 32 := Scalar.addi c0_i32_9512 v8185
  v8186.toNat
def k0_dev374 (v2 : BitVec 32) : Nat :=
  let c0_i32_9575 : BitVec 32 := 0#32
  let c1_i32_9574 : BitVec 32 := 1#32
  let v8247 : BitVec 32 := Scalar.muli v2 c1_i32_9574
  let v8248 : BitVec 32 := Scalar.addi c0_i32_9575 v8247
  v8248.toNat
def k0_dev375 (v2 : BitVec 32) : Nat :=
  let c0_i32_9579 : BitVec 32 := 0#32
  let c1_i32_9578 : BitVec 32 := 1#32
  let v8251 : BitVec 32 := Scalar.muli v2 c1_i32_9578
  let v8252 : BitVec 32 := Scalar.addi c0_i32_9579 v8251
  v8252.toNat
def k0_dev376 (v1 : BitVec 32) : Nat :=
  let c0_i32_9606 : BitVec 32 := 0#32
  let c1_i32_9605 : BitVec 32 := 1#32
  let v8269 : BitVec 32 := Scalar.muli v1 c1_i32_9605
  let v8270 : BitVec 32 := Scalar.addi c0_i32_9606 v8269
  v8270.toNat
def k0_dev377 (v1 : BitVec 32) : Nat :=
  let c0_i32_9610 : BitVec 32 := 0#32
  let c1_i32_9609 : BitVec 32 := 1#32
  let v8273 : BitVec 32 := Scalar.muli v1 c1_i32_9609
  let v8274 : BitVec 32 := Scalar.addi c0_i32_9610 v8273
  v8274.toNat
def k0_dev378 (v1 : BitVec 32) : Nat :=
  let c0_i32_9630 : BitVec 32 := 0#32
  let c1_i32_9629 : BitVec 32 := 1#32
  let v8283 : BitVec 32 := Scalar.muli v1 c1_i32_9629
  let v8284 : BitVec 32 := Scalar.addi c0_i32_9630 v8283
  v8284.toNat
def k0_dev379 (v2 : BitVec 32) : Nat :=
  let c0_i32_9642 : BitVec 32 := 0#32
  let c1_i32_9641 : BitVec 32 := 1#32
  let v8293 : BitVec 32 := Scalar.muli v2 c1_i32_9641
  let v8294 : BitVec 32 := Scalar.addi c0_i32_9642 v8293
  v8294.toNat
def k0_dev380 (v2 : BitVec 32) : Nat :=
  let c0_i32_9705 : BitVec 32 := 0#32
  let c1_i32_9704 : BitVec 32 := 1#32
  let v8355 : BitVec 32 := Scalar.muli v2 c1_i32_9704
  let v8356 : BitVec 32 := Scalar.addi c0_i32_9705 v8355
  v8356.toNat
def k0_dev381 (v2 : BitVec 32) : Nat :=
  let c0_i32_9709 : BitVec 32 := 0#32
  let c1_i32_9708 : BitVec 32 := 1#32
  let v8359 : BitVec 32 := Scalar.muli v2 c1_i32_9708
  let v8360 : BitVec 32 := Scalar.addi c0_i32_9709 v8359
  v8360.toNat
def k0_dev382 (v1 : BitVec 32) : Nat :=
  let c0_i32_9736 : BitVec 32 := 0#32
  let c1_i32_9735 : BitVec 32 := 1#32
  let v8377 : BitVec 32 := Scalar.muli v1 c1_i32_9735
  let v8378 : BitVec 32 := Scalar.addi c0_i32_9736 v8377
  v8378.toNat
def k0_dev383 (v1 : BitVec 32) : Nat :=
  let c0_i32_9740 : BitVec 32 := 0#32
  let c1_i32_9739 : BitVec 32 := 1#32
  let v8381 : BitVec 32 := Scalar.muli v1 c1_i32_9739
  let v8382 : BitVec 32 := Scalar.addi c0_i32_9740 v8381
  v8382.toNat
def k0_dev384 (v1 : BitVec 32) : Nat :=
  let c0_i32_9760 : BitVec 32 := 0#32
  let c1_i32_9759 : BitVec 32 := 1#32
  let v8391 : BitVec 32 := Scalar.muli v1 c1_i32_9759
  let v8392 : BitVec 32 := Scalar.addi c0_i32_9760 v8391
  v8392.toNat
def k0_dev385 (v2 : BitVec 32) : Nat :=
  let c0_i32_9772 : BitVec 32 := 0#32
  let c1_i32_9771 : BitVec 32 := 1#32
  let v8401 : BitVec 32 := Scalar.muli v2 c1_i32_9771
  let v8402 : BitVec 32 := Scalar.addi c0_i32_9772 v8401
  v8402.toNat
def k0_dev386 (v2 : BitVec 32) : Nat :=
  let c0_i32_9835 : BitVec 32 := 0#32
  let c1_i32_9834 : BitVec 32 := 1#32
  let v8463 : BitVec 32 := Scalar.muli v2 c1_i32_9834
  let v8464 : BitVec 32 := Scalar.addi c0_i32_9835 v8463
  v8464.toNat
def k0_dev387 (v2 : BitVec 32) : Nat :=
  let c0_i32_9839 : BitVec 32 := 0#32
  let c1_i32_9838 : BitVec 32 := 1#32
  let v8467 : BitVec 32 := Scalar.muli v2 c1_i32_9838
  let v8468 : BitVec 32 := Scalar.addi c0_i32_9839 v8467
  v8468.toNat
def k0_dev388 (v1 : BitVec 32) : Nat :=
  let c0_i32_9866 : BitVec 32 := 0#32
  let c1_i32_9865 : BitVec 32 := 1#32
  let v8485 : BitVec 32 := Scalar.muli v1 c1_i32_9865
  let v8486 : BitVec 32 := Scalar.addi c0_i32_9866 v8485
  v8486.toNat
def k0_dev389 (v1 : BitVec 32) : Nat :=
  let c0_i32_9870 : BitVec 32 := 0#32
  let c1_i32_9869 : BitVec 32 := 1#32
  let v8489 : BitVec 32 := Scalar.muli v1 c1_i32_9869
  let v8490 : BitVec 32 := Scalar.addi c0_i32_9870 v8489
  v8490.toNat
def k0_dev390 (v1 : BitVec 32) : Nat :=
  let c0_i32_9890 : BitVec 32 := 0#32
  let c1_i32_9889 : BitVec 32 := 1#32
  let v8499 : BitVec 32 := Scalar.muli v1 c1_i32_9889
  let v8500 : BitVec 32 := Scalar.addi c0_i32_9890 v8499
  v8500.toNat
def k0_dev391 (v2 : BitVec 32) : Nat :=
  let c0_i32_9902 : BitVec 32 := 0#32
  let c1_i32_9901 : BitVec 32 := 1#32
  let v8509 : BitVec 32 := Scalar.muli v2 c1_i32_9901
  let v8510 : BitVec 32 := Scalar.addi c0_i32_9902 v8509
  v8510.toNat
def k0_dev392 (v2 : BitVec 32) : Nat :=
  let c0_i32_9965 : BitVec 32 := 0#32
  let c1_i32_9964 : BitVec 32 := 1#32
  let v8571 : BitVec 32 := Scalar.muli v2 c1_i32_9964
  let v8572 : BitVec 32 := Scalar.addi c0_i32_9965 v8571
  v8572.toNat
def k0_dev393 (v2 : BitVec 32) : Nat :=
  let c0_i32_9969 : BitVec 32 := 0#32
  let c1_i32_9968 : BitVec 32 := 1#32
  let v8575 : BitVec 32 := Scalar.muli v2 c1_i32_9968
  let v8576 : BitVec 32 := Scalar.addi c0_i32_9969 v8575
  v8576.toNat
def k0_dev394 (v1 : BitVec 32) : Nat :=
  let c0_i32_9996 : BitVec 32 := 0#32
  let c1_i32_9995 : BitVec 32 := 1#32
  let v8593 : BitVec 32 := Scalar.muli v1 c1_i32_9995
  let v8594 : BitVec 32 := Scalar.addi c0_i32_9996 v8593
  v8594.toNat
def k0_dev395 (v1 : BitVec 32) : Nat :=
  let c0_i32_10000 : BitVec 32 := 0#32
  let c1_i32_9999 : BitVec 32 := 1#32
  let v8597 : BitVec 32 := Scalar.muli v1 c1_i32_9999
  let v8598 : BitVec 32 := Scalar.addi c0_i32_10000 v8597
  v8598.toNat
def k0_dev396 (v1 : BitVec 32) : Nat :=
  let c0_i32_10020 : BitVec 32 := 0#32
  let c1_i32_10019 : BitVec 32 := 1#32
  let v8607 : BitVec 32 := Scalar.muli v1 c1_i32_10019
  let v8608 : BitVec 32 := Scalar.addi c0_i32_10020 v8607
  v8608.toNat
def k0_dev397 (v2 : BitVec 32) : Nat :=
  let c0_i32_10032 : BitVec 32 := 0#32
  let c1_i32_10031 : BitVec 32 := 1#32
  let v8617 : BitVec 32 := Scalar.muli v2 c1_i32_10031
  let v8618 : BitVec 32 := Scalar.addi c0_i32_10032 v8617
  v8618.toNat
def k0_dev398 (v2 : BitVec 32) : Nat :=
  let c0_i32_10095 : BitVec 32 := 0#32
  let c1_i32_10094 : BitVec 32 := 1#32
  let v8679 : BitVec 32 := Scalar.muli v2 c1_i32_10094
  let v8680 : BitVec 32 := Scalar.addi c0_i32_10095 v8679
  v8680.toNat
def k0_dev399 (v2 : BitVec 32) : Nat :=
  let c0_i32_10099 : BitVec 32 := 0#32
  let c1_i32_10098 : BitVec 32 := 1#32
  let v8683 : BitVec 32 := Scalar.muli v2 c1_i32_10098
  let v8684 : BitVec 32 := Scalar.addi c0_i32_10099 v8683
  v8684.toNat
def k0_dev400 (v1 : BitVec 32) : Nat :=
  let c0_i32_10126 : BitVec 32 := 0#32
  let c1_i32_10125 : BitVec 32 := 1#32
  let v8701 : BitVec 32 := Scalar.muli v1 c1_i32_10125
  let v8702 : BitVec 32 := Scalar.addi c0_i32_10126 v8701
  v8702.toNat
def k0_dev401 (v1 : BitVec 32) : Nat :=
  let c0_i32_10130 : BitVec 32 := 0#32
  let c1_i32_10129 : BitVec 32 := 1#32
  let v8705 : BitVec 32 := Scalar.muli v1 c1_i32_10129
  let v8706 : BitVec 32 := Scalar.addi c0_i32_10130 v8705
  v8706.toNat
def k0_dev402 (v1 : BitVec 32) : Nat :=
  let c0_i32_10150 : BitVec 32 := 0#32
  let c1_i32_10149 : BitVec 32 := 1#32
  let v8715 : BitVec 32 := Scalar.muli v1 c1_i32_10149
  let v8716 : BitVec 32 := Scalar.addi c0_i32_10150 v8715
  v8716.toNat
def k0_dev403 (v2 : BitVec 32) : Nat :=
  let c0_i32_10162 : BitVec 32 := 0#32
  let c1_i32_10161 : BitVec 32 := 1#32
  let v8725 : BitVec 32 := Scalar.muli v2 c1_i32_10161
  let v8726 : BitVec 32 := Scalar.addi c0_i32_10162 v8725
  v8726.toNat
def k0_dev404 (v2 : BitVec 32) : Nat :=
  let c0_i32_10225 : BitVec 32 := 0#32
  let c1_i32_10224 : BitVec 32 := 1#32
  let v8787 : BitVec 32 := Scalar.muli v2 c1_i32_10224
  let v8788 : BitVec 32 := Scalar.addi c0_i32_10225 v8787
  v8788.toNat
def k0_dev405 (v2 : BitVec 32) : Nat :=
  let c0_i32_10229 : BitVec 32 := 0#32
  let c1_i32_10228 : BitVec 32 := 1#32
  let v8791 : BitVec 32 := Scalar.muli v2 c1_i32_10228
  let v8792 : BitVec 32 := Scalar.addi c0_i32_10229 v8791
  v8792.toNat
def k0_dev406 (v1 : BitVec 32) : Nat :=
  let c0_i32_10256 : BitVec 32 := 0#32
  let c1_i32_10255 : BitVec 32 := 1#32
  let v8809 : BitVec 32 := Scalar.muli v1 c1_i32_10255
  let v8810 : BitVec 32 := Scalar.addi c0_i32_10256 v8809
  v8810.toNat
def k0_dev407 (v1 : BitVec 32) : Nat :=
  let c0_i32_10260 : BitVec 32 := 0#32
  let c1_i32_10259 : BitVec 32 := 1#32
  let v8813 : BitVec 32 := Scalar.muli v1 c1_i32_10259
  let v8814 : BitVec 32 := Scalar.addi c0_i32_10260 v8813
  v8814.toNat
def k0_dev408 (v1 : BitVec 32) : Nat :=
  let c0_i32_10280 : BitVec 32 := 0#32
  let c1_i32_10279 : BitVec 32 := 1#32
  let v8823 : BitVec 32 := Scalar.muli v1 c1_i32_10279
  let v8824 : BitVec 32 := Scalar.addi c0_i32_10280 v8823
  v8824.toNat
def k0_dev409 (v2 : BitVec 32) : Nat :=
  let c0_i32_10292 : BitVec 32 := 0#32
  let c1_i32_10291 : BitVec 32 := 1#32
  let v8833 : BitVec 32 := Scalar.muli v2 c1_i32_10291
  let v8834 : BitVec 32 := Scalar.addi c0_i32_10292 v8833
  v8834.toNat
def k0_dev410 (v2 : BitVec 32) : Nat :=
  let c0_i32_10355 : BitVec 32 := 0#32
  let c1_i32_10354 : BitVec 32 := 1#32
  let v8895 : BitVec 32 := Scalar.muli v2 c1_i32_10354
  let v8896 : BitVec 32 := Scalar.addi c0_i32_10355 v8895
  v8896.toNat
def k0_dev411 (v2 : BitVec 32) : Nat :=
  let c0_i32_10359 : BitVec 32 := 0#32
  let c1_i32_10358 : BitVec 32 := 1#32
  let v8899 : BitVec 32 := Scalar.muli v2 c1_i32_10358
  let v8900 : BitVec 32 := Scalar.addi c0_i32_10359 v8899
  v8900.toNat
def k0_dev412 (v1 : BitVec 32) : Nat :=
  let c0_i32_10386 : BitVec 32 := 0#32
  let c1_i32_10385 : BitVec 32 := 1#32
  let v8917 : BitVec 32 := Scalar.muli v1 c1_i32_10385
  let v8918 : BitVec 32 := Scalar.addi c0_i32_10386 v8917
  v8918.toNat
def k0_dev413 (v1 : BitVec 32) : Nat :=
  let c0_i32_10390 : BitVec 32 := 0#32
  let c1_i32_10389 : BitVec 32 := 1#32
  let v8921 : BitVec 32 := Scalar.muli v1 c1_i32_10389
  let v8922 : BitVec 32 := Scalar.addi c0_i32_10390 v8921
  v8922.toNat
def k0_dev414 (v1 : BitVec 32) : Nat :=
  let c0_i32_10410 : BitVec 32 := 0#32
  let c1_i32_10409 : BitVec 32 := 1#32
  let v8931 : BitVec 32 := Scalar.muli v1 c1_i32_10409
  let v8932 : BitVec 32 := Scalar.addi c0_i32_10410 v8931
  v8932.toNat
def k0_dev415 (v2 : BitVec 32) : Nat :=
  let c0_i32_10422 : BitVec 32 := 0#32
  let c1_i32_10421 : BitVec 32 := 1#32
  let v8941 : BitVec 32 := Scalar.muli v2 c1_i32_10421
  let v8942 : BitVec 32 := Scalar.addi c0_i32_10422 v8941
  v8942.toNat
def k0_dev416 (v2 : BitVec 32) : Nat :=
  let c0_i32_10485 : BitVec 32 := 0#32
  let c1_i32_10484 : BitVec 32 := 1#32
  let v9003 : BitVec 32 := Scalar.muli v2 c1_i32_10484
  let v9004 : BitVec 32 := Scalar.addi c0_i32_10485 v9003
  v9004.toNat
def k0_dev417 (v2 : BitVec 32) : Nat :=
  let c0_i32_10489 : BitVec 32 := 0#32
  let c1_i32_10488 : BitVec 32 := 1#32
  let v9007 : BitVec 32 := Scalar.muli v2 c1_i32_10488
  let v9008 : BitVec 32 := Scalar.addi c0_i32_10489 v9007
  v9008.toNat
def k0_dev418 (v1 : BitVec 32) : Nat :=
  let c0_i32_10516 : BitVec 32 := 0#32
  let c1_i32_10515 : BitVec 32 := 1#32
  let v9025 : BitVec 32 := Scalar.muli v1 c1_i32_10515
  let v9026 : BitVec 32 := Scalar.addi c0_i32_10516 v9025
  v9026.toNat
def k0_dev419 (v1 : BitVec 32) : Nat :=
  let c0_i32_10520 : BitVec 32 := 0#32
  let c1_i32_10519 : BitVec 32 := 1#32
  let v9029 : BitVec 32 := Scalar.muli v1 c1_i32_10519
  let v9030 : BitVec 32 := Scalar.addi c0_i32_10520 v9029
  v9030.toNat
def k0_dev420 (v1 : BitVec 32) : Nat :=
  let c0_i32_10540 : BitVec 32 := 0#32
  let c1_i32_10539 : BitVec 32 := 1#32
  let v9039 : BitVec 32 := Scalar.muli v1 c1_i32_10539
  let v9040 : BitVec 32 := Scalar.addi c0_i32_10540 v9039
  v9040.toNat
def k0_dev421 (v2 : BitVec 32) : Nat :=
  let c0_i32_10552 : BitVec 32 := 0#32
  let c1_i32_10551 : BitVec 32 := 1#32
  let v9049 : BitVec 32 := Scalar.muli v2 c1_i32_10551
  let v9050 : BitVec 32 := Scalar.addi c0_i32_10552 v9049
  v9050.toNat
def k0_dev422 (v2 : BitVec 32) : Nat :=
  let c0_i32_10615 : BitVec 32 := 0#32
  let c1_i32_10614 : BitVec 32 := 1#32
  let v9111 : BitVec 32 := Scalar.muli v2 c1_i32_10614
  let v9112 : BitVec 32 := Scalar.addi c0_i32_10615 v9111
  v9112.toNat
def k0_dev423 (v2 : BitVec 32) : Nat :=
  let c0_i32_10619 : BitVec 32 := 0#32
  let c1_i32_10618 : BitVec 32 := 1#32
  let v9115 : BitVec 32 := Scalar.muli v2 c1_i32_10618
  let v9116 : BitVec 32 := Scalar.addi c0_i32_10619 v9115
  v9116.toNat
def k0_dev424 (v1 : BitVec 32) : Nat :=
  let c0_i32_10646 : BitVec 32 := 0#32
  let c1_i32_10645 : BitVec 32 := 1#32
  let v9133 : BitVec 32 := Scalar.muli v1 c1_i32_10645
  let v9134 : BitVec 32 := Scalar.addi c0_i32_10646 v9133
  v9134.toNat
def k0_dev425 (v1 : BitVec 32) : Nat :=
  let c0_i32_10650 : BitVec 32 := 0#32
  let c1_i32_10649 : BitVec 32 := 1#32
  let v9137 : BitVec 32 := Scalar.muli v1 c1_i32_10649
  let v9138 : BitVec 32 := Scalar.addi c0_i32_10650 v9137
  v9138.toNat
def k0_dev426 (v1 : BitVec 32) : Nat :=
  let c0_i32_10670 : BitVec 32 := 0#32
  let c1_i32_10669 : BitVec 32 := 1#32
  let v9147 : BitVec 32 := Scalar.muli v1 c1_i32_10669
  let v9148 : BitVec 32 := Scalar.addi c0_i32_10670 v9147
  v9148.toNat
def k0_dev427 (v2 : BitVec 32) : Nat :=
  let c0_i32_10682 : BitVec 32 := 0#32
  let c1_i32_10681 : BitVec 32 := 1#32
  let v9157 : BitVec 32 := Scalar.muli v2 c1_i32_10681
  let v9158 : BitVec 32 := Scalar.addi c0_i32_10682 v9157
  v9158.toNat
def k0_dev428 (v2 : BitVec 32) : Nat :=
  let c0_i32_10745 : BitVec 32 := 0#32
  let c1_i32_10744 : BitVec 32 := 1#32
  let v9219 : BitVec 32 := Scalar.muli v2 c1_i32_10744
  let v9220 : BitVec 32 := Scalar.addi c0_i32_10745 v9219
  v9220.toNat
def k0_dev429 (v2 : BitVec 32) : Nat :=
  let c0_i32_10749 : BitVec 32 := 0#32
  let c1_i32_10748 : BitVec 32 := 1#32
  let v9223 : BitVec 32 := Scalar.muli v2 c1_i32_10748
  let v9224 : BitVec 32 := Scalar.addi c0_i32_10749 v9223
  v9224.toNat
def k0_dev430 (v1 : BitVec 32) : Nat :=
  let c0_i32_10776 : BitVec 32 := 0#32
  let c1_i32_10775 : BitVec 32 := 1#32
  let v9241 : BitVec 32 := Scalar.muli v1 c1_i32_10775
  let v9242 : BitVec 32 := Scalar.addi c0_i32_10776 v9241
  v9242.toNat
def k0_dev431 (v1 : BitVec 32) : Nat :=
  let c0_i32_10780 : BitVec 32 := 0#32
  let c1_i32_10779 : BitVec 32 := 1#32
  let v9245 : BitVec 32 := Scalar.muli v1 c1_i32_10779
  let v9246 : BitVec 32 := Scalar.addi c0_i32_10780 v9245
  v9246.toNat
def k0_dev432 (v1 : BitVec 32) : Nat :=
  let c0_i32_10800 : BitVec 32 := 0#32
  let c1_i32_10799 : BitVec 32 := 1#32
  let v9255 : BitVec 32 := Scalar.muli v1 c1_i32_10799
  let v9256 : BitVec 32 := Scalar.addi c0_i32_10800 v9255
  v9256.toNat
def k0_dev433 (v2 : BitVec 32) : Nat :=
  let c0_i32_10812 : BitVec 32 := 0#32
  let c1_i32_10811 : BitVec 32 := 1#32
  let v9265 : BitVec 32 := Scalar.muli v2 c1_i32_10811
  let v9266 : BitVec 32 := Scalar.addi c0_i32_10812 v9265
  v9266.toNat
def k0_dev434 (v2 : BitVec 32) : Nat :=
  let c0_i32_10875 : BitVec 32 := 0#32
  let c1_i32_10874 : BitVec 32 := 1#32
  let v9327 : BitVec 32 := Scalar.muli v2 c1_i32_10874
  let v9328 : BitVec 32 := Scalar.addi c0_i32_10875 v9327
  v9328.toNat
def k0_dev435 (v2 : BitVec 32) : Nat :=
  let c0_i32_10879 : BitVec 32 := 0#32
  let c1_i32_10878 : BitVec 32 := 1#32
  let v9331 : BitVec 32 := Scalar.muli v2 c1_i32_10878
  let v9332 : BitVec 32 := Scalar.addi c0_i32_10879 v9331
  v9332.toNat
def k0_dev436 (v1 : BitVec 32) : Nat :=
  let c0_i32_10906 : BitVec 32 := 0#32
  let c1_i32_10905 : BitVec 32 := 1#32
  let v9349 : BitVec 32 := Scalar.muli v1 c1_i32_10905
  let v9350 : BitVec 32 := Scalar.addi c0_i32_10906 v9349
  v9350.toNat
def k0_dev437 (v1 : BitVec 32) : Nat :=
  let c0_i32_10910 : BitVec 32 := 0#32
  let c1_i32_10909 : BitVec 32 := 1#32
  let v9353 : BitVec 32 := Scalar.muli v1 c1_i32_10909
  let v9354 : BitVec 32 := Scalar.addi c0_i32_10910 v9353
  v9354.toNat
def k0_dev438 (v2 : BitVec 32) : Nat :=
  let c0_i32_10941 : BitVec 32 := 0#32
  let c1_i32_10940 : BitVec 32 := 1#32
  let v9390 : BitVec 32 := Scalar.muli v2 c1_i32_10940
  let v9391 : BitVec 32 := Scalar.addi c0_i32_10941 v9390
  v9391.toNat
def k0_dev439 (v2 : BitVec 32) : Nat :=
  let c0_i32_10945 : BitVec 32 := 0#32
  let c1_i32_10944 : BitVec 32 := 1#32
  let v9394 : BitVec 32 := Scalar.muli v2 c1_i32_10944
  let v9395 : BitVec 32 := Scalar.addi c0_i32_10945 v9394
  v9395.toNat

def k0_chk3_0 (v2 : BitVec 32) : Prop :=
  ((k0_dev2 v2) < nD) ∧
  ((k0_dev5 v2) < nD) ∧
  ((k0_dev6 v2) < nD) ∧
  ((k0_dev7 v2) < nD) ∧
  ((k0_dev9 v2) < nD) ∧
  ((k0_dev12 v2) < nD) ∧
  ((k0_dev14 v2) < nD) ∧
  ((k0_dev15 v2) < nD) ∧
  ((k0_dev17 v2) < nD) ∧
  ((k0_dev20 v2) < nD) ∧
  ((k0_dev22 v2) < nD) ∧
  ((k0_dev23 v2) < nD) ∧
  ((k0_dev25 v2) < nD) ∧
  ((k0_dev28 v2) < nD) ∧
  ((k0_dev30 v2) < nD) ∧
  ((k0_dev31 v2) < nD) ∧
  ((k0_dev33 v2) < nD) ∧
  ((k0_dev36 v2) < nD) ∧
  ((k0_dev38 v2) < nD) ∧
  ((k0_dev39 v2) < nD) ∧
  ((k0_dev41 v2) < nD) ∧
  ((k0_dev44 v2) < nD) ∧
  ((k0_dev46 v2) < nD) ∧
  ((k0_dev47 v2) < nD) ∧
  ((k0_dev49 v2) < nD) ∧
  ((k0_dev52 v2) < nD) ∧
  ((k0_dev54 v2) < nD) ∧
  ((k0_dev55 v2) < nD) ∧
  ((k0_dev57 v2) < nD) ∧
  ((k0_dev60 v2) < nD) ∧
  ((k0_dev62 v2) < nD) ∧
  ((k0_dev63 v2) < nD)
def k0_chk3_1 (v2 : BitVec 32) : Prop :=
  ((k0_dev65 v2) < nD) ∧
  ((k0_dev68 v2) < nD) ∧
  ((k0_dev70 v2) < nD) ∧
  ((k0_dev71 v2) < nD) ∧
  ((k0_dev73 v2) < nD) ∧
  ((k0_dev76 v2) < nD) ∧
  ((k0_dev78 v2) < nD) ∧
  ((k0_dev79 v2) < nD) ∧
  ((k0_dev81 v2) < nD) ∧
  ((k0_dev84 v2) < nD) ∧
  ((k0_dev86 v2) < nD) ∧
  ((k0_dev87 v2) < nD) ∧
  ((k0_dev89 v2) < nD) ∧
  ((k0_dev92 v2) < nD) ∧
  ((k0_dev94 v2) < nD) ∧
  ((k0_dev95 v2) < nD) ∧
  ((k0_dev97 v2) < nD) ∧
  ((k0_dev100 v2) < nD) ∧
  ((k0_dev102 v2) < nD) ∧
  ((k0_dev103 v2) < nD) ∧
  ((k0_dev105 v2) < nD) ∧
  ((k0_dev108 v2) < nD) ∧
  ((k0_dev110 v2) < nD) ∧
  ((k0_dev111 v2) < nD) ∧
  ((k0_dev113 v2) < nD) ∧
  ((k0_dev116 v2) < nD) ∧
  ((k0_dev118 v2) < nD) ∧
  ((k0_dev119 v2) < nD) ∧
  ((k0_dev121 v2) < nD) ∧
  ((k0_dev124 v2) < nD) ∧
  ((k0_dev126 v2) < nD) ∧
  ((k0_dev127 v2) < nD)
def k0_chk3_2 (v2 : BitVec 32) : Prop :=
  ((k0_dev129 v2) < nD) ∧
  ((k0_dev132 v2) < nD) ∧
  ((k0_dev134 v2) < nD) ∧
  ((k0_dev135 v2) < nD) ∧
  ((k0_dev137 v2) < nD) ∧
  ((k0_dev140 v2) < nD) ∧
  ((k0_dev142 v2) < nD) ∧
  ((k0_dev143 v2) < nD) ∧
  ((k0_dev145 v2) < nD) ∧
  ((k0_dev148 v2) < nD) ∧
  ((k0_dev150 v2) < nD) ∧
  ((k0_dev151 v2) < nD) ∧
  ((k0_dev153 v2) < nD) ∧
  ((k0_dev156 v2) < nD) ∧
  ((k0_dev158 v2) < nD) ∧
  ((k0_dev159 v2) < nD) ∧
  ((k0_dev161 v2) < nD) ∧
  ((k0_dev164 v2) < nD) ∧
  ((k0_dev166 v2) < nD) ∧
  ((k0_dev167 v2) < nD) ∧
  ((k0_dev169 v2) < nD) ∧
  ((k0_dev172 v2) < nD) ∧
  ((k0_dev174 v2) < nD) ∧
  ((k0_dev175 v2) < nD) ∧
  ((k0_dev177 v2) < nD) ∧
  ((k0_dev180 v2) < nD) ∧
  ((k0_dev182 v2) < nD) ∧
  ((k0_dev183 v2) < nD) ∧
  ((k0_dev185 v2) < nD) ∧
  ((k0_dev188 v2) < nD) ∧
  ((k0_dev190 v2) < nD) ∧
  ((k0_dev191 v2) < nD)
def k0_chk3_3 (v2 : BitVec 32) : Prop :=
  ((k0_dev193 v2) < nD) ∧
  ((k0_dev196 v2) < nD) ∧
  ((k0_dev198 v2) < nD) ∧
  ((k0_dev199 v2) < nD) ∧
  ((k0_dev201 v2) < nD) ∧
  ((k0_dev204 v2) < nD) ∧
  ((k0_dev206 v2) < nD) ∧
  ((k0_dev207 v2) < nD) ∧
  ((k0_dev209 v2) < nD) ∧
  ((k0_dev212 v2) < nD) ∧
  ((k0_dev214 v2) < nD) ∧
  ((k0_dev215 v2) < nD) ∧
  ((k0_dev217 v2) < nD) ∧
  ((k0_dev220 v2) < nD) ∧
  ((k0_dev222 v2) < nD) ∧
  ((k0_dev223 v2) < nD) ∧
  ((k0_dev225 v2) < nD) ∧
  ((k0_dev228 v2) < nD) ∧
  ((k0_dev230 v2) < nD) ∧
  ((k0_dev231 v2) < nD) ∧
  ((k0_dev233 v2) < nD) ∧
  ((k0_dev236 v2) < nD) ∧
  ((k0_dev238 v2) < nD) ∧
  ((k0_dev239 v2) < nD) ∧
  ((k0_dev241 v2) < nD) ∧
  ((k0_dev244 v2) < nD) ∧
  ((k0_dev246 v2) < nD) ∧
  ((k0_dev247 v2) < nD) ∧
  ((k0_dev248 v2) < nD) ∧
  ((k0_dev257 v2) < nD) ∧
  ((k0_dev259 v2) < nD) ∧
  ((k0_dev260 v2) < nD)
def k0_chk3_4 (v2 : BitVec 32) : Prop :=
  ((k0_dev261 v2) < nD) ∧
  ((k0_dev265 v2) < nD) ∧
  ((k0_dev266 v2) < nD) ∧
  ((k0_dev267 v2) < nD) ∧
  ((k0_dev271 v2) < nD) ∧
  ((k0_dev272 v2) < nD) ∧
  ((k0_dev273 v2) < nD) ∧
  ((k0_dev277 v2) < nD) ∧
  ((k0_dev278 v2) < nD) ∧
  ((k0_dev279 v2) < nD) ∧
  ((k0_dev283 v2) < nD) ∧
  ((k0_dev284 v2) < nD) ∧
  ((k0_dev285 v2) < nD) ∧
  ((k0_dev289 v2) < nD) ∧
  ((k0_dev290 v2) < nD) ∧
  ((k0_dev291 v2) < nD) ∧
  ((k0_dev295 v2) < nD) ∧
  ((k0_dev296 v2) < nD) ∧
  ((k0_dev297 v2) < nD) ∧
  ((k0_dev301 v2) < nD) ∧
  ((k0_dev302 v2) < nD) ∧
  ((k0_dev303 v2) < nD) ∧
  ((k0_dev307 v2) < nD) ∧
  ((k0_dev308 v2) < nD) ∧
  ((k0_dev309 v2) < nD) ∧
  ((k0_dev313 v2) < nD) ∧
  ((k0_dev314 v2) < nD) ∧
  ((k0_dev315 v2) < nD) ∧
  ((k0_dev319 v2) < nD) ∧
  ((k0_dev320 v2) < nD) ∧
  ((k0_dev321 v2) < nD) ∧
  ((k0_dev325 v2) < nD)
def k0_chk3_5 (v2 : BitVec 32) : Prop :=
  ((k0_dev326 v2) < nD) ∧
  ((k0_dev327 v2) < nD) ∧
  ((k0_dev331 v2) < nD) ∧
  ((k0_dev332 v2) < nD) ∧
  ((k0_dev333 v2) < nD) ∧
  ((k0_dev337 v2) < nD) ∧
  ((k0_dev338 v2) < nD) ∧
  ((k0_dev339 v2) < nD) ∧
  ((k0_dev343 v2) < nD) ∧
  ((k0_dev344 v2) < nD) ∧
  ((k0_dev345 v2) < nD) ∧
  ((k0_dev349 v2) < nD) ∧
  ((k0_dev350 v2) < nD) ∧
  ((k0_dev351 v2) < nD) ∧
  ((k0_dev355 v2) < nD) ∧
  ((k0_dev356 v2) < nD) ∧
  ((k0_dev357 v2) < nD) ∧
  ((k0_dev361 v2) < nD) ∧
  ((k0_dev362 v2) < nD) ∧
  ((k0_dev363 v2) < nD) ∧
  ((k0_dev367 v2) < nD) ∧
  ((k0_dev368 v2) < nD) ∧
  ((k0_dev369 v2) < nD) ∧
  ((k0_dev373 v2) < nD) ∧
  ((k0_dev374 v2) < nD) ∧
  ((k0_dev375 v2) < nD) ∧
  ((k0_dev379 v2) < nD) ∧
  ((k0_dev380 v2) < nD) ∧
  ((k0_dev381 v2) < nD) ∧
  ((k0_dev385 v2) < nD) ∧
  ((k0_dev386 v2) < nD) ∧
  ((k0_dev387 v2) < nD)
def k0_chk3_6 (v2 : BitVec 32) : Prop :=
  ((k0_dev391 v2) < nD) ∧
  ((k0_dev392 v2) < nD) ∧
  ((k0_dev393 v2) < nD) ∧
  ((k0_dev397 v2) < nD) ∧
  ((k0_dev398 v2) < nD) ∧
  ((k0_dev399 v2) < nD) ∧
  ((k0_dev403 v2) < nD) ∧
  ((k0_dev404 v2) < nD) ∧
  ((k0_dev405 v2) < nD) ∧
  ((k0_dev409 v2) < nD) ∧
  ((k0_dev410 v2) < nD) ∧
  ((k0_dev411 v2) < nD) ∧
  ((k0_dev415 v2) < nD) ∧
  ((k0_dev416 v2) < nD) ∧
  ((k0_dev417 v2) < nD) ∧
  ((k0_dev421 v2) < nD) ∧
  ((k0_dev422 v2) < nD) ∧
  ((k0_dev423 v2) < nD) ∧
  ((k0_dev427 v2) < nD) ∧
  ((k0_dev428 v2) < nD) ∧
  ((k0_dev429 v2) < nD) ∧
  ((k0_dev433 v2) < nD) ∧
  ((k0_dev434 v2) < nD) ∧
  ((k0_dev435 v2) < nD) ∧
  ((k0_dev438 v2) < nD) ∧
  ((k0_dev439 v2) < nD)
def k0_chk3 (v2 : BitVec 32) : Prop :=
  k0_chk3_0 v2 ∧
  k0_chk3_1 v2 ∧
  k0_chk3_2 v2 ∧
  k0_chk3_3 v2 ∧
  k0_chk3_4 v2 ∧
  k0_chk3_5 v2 ∧
  k0_chk3_6 v2
theorem k0_dev2_lt : ∀ (v2 : BitVec 32) (k0_hw3 : k0_chk3 v2), (k0_dev2 v2) < nD := fun v2 k0_hw3 => k0_hw3.1.1
theorem k0_dev5_lt : ∀ (v2 : BitVec 32) (k0_hw3 : k0_chk3 v2), (k0_dev5 v2) < nD := fun v2 k0_hw3 => k0_hw3.1.2.1
theorem k0_dev6_lt : ∀ (v2 : BitVec 32) (k0_hw3 : k0_chk3 v2), (k0_dev6 v2) < nD := fun v2 k0_hw3 => k0_hw3.1.2.2.1
theorem k0_dev7_lt : ∀ (v2 : BitVec 32) (k0_hw3 : k0_chk3 v2), (k0_dev7 v2) < nD := fun v2 k0_hw3 => k0_hw3.1.2.2.2.1
theorem k0_dev9_lt : ∀ (v2 : BitVec 32) (k0_hw3 : k0_chk3 v2), (k0_dev9 v2) < nD := fun v2 k0_hw3 => k0_hw3.1.2.2.2.2.1
theorem k0_dev12_lt : ∀ (v2 : BitVec 32) (k0_hw3 : k0_chk3 v2), (k0_dev12 v2) < nD := fun v2 k0_hw3 => k0_hw3.1.2.2.2.2.2.1
theorem k0_dev14_lt : ∀ (v2 : BitVec 32) (k0_hw3 : k0_chk3 v2), (k0_dev14 v2) < nD := fun v2 k0_hw3 => k0_hw3.1.2.2.2.2.2.2.1
theorem k0_dev15_lt : ∀ (v2 : BitVec 32) (k0_hw3 : k0_chk3 v2), (k0_dev15 v2) < nD := fun v2 k0_hw3 => k0_hw3.1.2.2.2.2.2.2.2.1
theorem k0_dev17_lt : ∀ (v2 : BitVec 32) (k0_hw3 : k0_chk3 v2), (k0_dev17 v2) < nD := fun v2 k0_hw3 => k0_hw3.1.2.2.2.2.2.2.2.2.1
theorem k0_dev20_lt : ∀ (v2 : BitVec 32) (k0_hw3 : k0_chk3 v2), (k0_dev20 v2) < nD := fun v2 k0_hw3 => k0_hw3.1.2.2.2.2.2.2.2.2.2.1
theorem k0_dev22_lt : ∀ (v2 : BitVec 32) (k0_hw3 : k0_chk3 v2), (k0_dev22 v2) < nD := fun v2 k0_hw3 => k0_hw3.1.2.2.2.2.2.2.2.2.2.2.1
theorem k0_dev23_lt : ∀ (v2 : BitVec 32) (k0_hw3 : k0_chk3 v2), (k0_dev23 v2) < nD := fun v2 k0_hw3 => k0_hw3.1.2.2.2.2.2.2.2.2.2.2.2.1
theorem k0_dev25_lt : ∀ (v2 : BitVec 32) (k0_hw3 : k0_chk3 v2), (k0_dev25 v2) < nD := fun v2 k0_hw3 => k0_hw3.1.2.2.2.2.2.2.2.2.2.2.2.2.1
theorem k0_dev28_lt : ∀ (v2 : BitVec 32) (k0_hw3 : k0_chk3 v2), (k0_dev28 v2) < nD := fun v2 k0_hw3 => k0_hw3.1.2.2.2.2.2.2.2.2.2.2.2.2.2.1
theorem k0_dev30_lt : ∀ (v2 : BitVec 32) (k0_hw3 : k0_chk3 v2), (k0_dev30 v2) < nD := fun v2 k0_hw3 => k0_hw3.1.2.2.2.2.2.2.2.2.2.2.2.2.2.2.1
theorem k0_dev31_lt : ∀ (v2 : BitVec 32) (k0_hw3 : k0_chk3 v2), (k0_dev31 v2) < nD := fun v2 k0_hw3 => k0_hw3.1.2.2.2.2.2.2.2.2.2.2.2.2.2.2.2.1
theorem k0_dev33_lt : ∀ (v2 : BitVec 32) (k0_hw3 : k0_chk3 v2), (k0_dev33 v2) < nD := fun v2 k0_hw3 => k0_hw3.1.2.2.2.2.2.2.2.2.2.2.2.2.2.2.2.2.1
theorem k0_dev36_lt : ∀ (v2 : BitVec 32) (k0_hw3 : k0_chk3 v2), (k0_dev36 v2) < nD := fun v2 k0_hw3 => k0_hw3.1.2.2.2.2.2.2.2.2.2.2.2.2.2.2.2.2.2.1
theorem k0_dev38_lt : ∀ (v2 : BitVec 32) (k0_hw3 : k0_chk3 v2), (k0_dev38 v2) < nD := fun v2 k0_hw3 => k0_hw3.1.2.2.2.2.2.2.2.2.2.2.2.2.2.2.2.2.2.2.1
theorem k0_dev39_lt : ∀ (v2 : BitVec 32) (k0_hw3 : k0_chk3 v2), (k0_dev39 v2) < nD := fun v2 k0_hw3 => k0_hw3.1.2.2.2.2.2.2.2.2.2.2.2.2.2.2.2.2.2.2.2.1
theorem k0_dev41_lt : ∀ (v2 : BitVec 32) (k0_hw3 : k0_chk3 v2), (k0_dev41 v2) < nD := fun v2 k0_hw3 => k0_hw3.1.2.2.2.2.2.2.2.2.2.2.2.2.2.2.2.2.2.2.2.2.1
theorem k0_dev44_lt : ∀ (v2 : BitVec 32) (k0_hw3 : k0_chk3 v2), (k0_dev44 v2) < nD := fun v2 k0_hw3 => k0_hw3.1.2.2.2.2.2.2.2.2.2.2.2.2.2.2.2.2.2.2.2.2.2.1
theorem k0_dev46_lt : ∀ (v2 : BitVec 32) (k0_hw3 : k0_chk3 v2), (k0_dev46 v2) < nD := fun v2 k0_hw3 => k0_hw3.1.2.2.2.2.2.2.2.2.2.2.2.2.2.2.2.2.2.2.2.2.2.2.1
theorem k0_dev47_lt : ∀ (v2 : BitVec 32) (k0_hw3 : k0_chk3 v2), (k0_dev47 v2) < nD := fun v2 k0_hw3 => k0_hw3.1.2.2.2.2.2.2.2.2.2.2.2.2.2.2.2.2.2.2.2.2.2.2.2.1
theorem k0_dev49_lt : ∀ (v2 : BitVec 32) (k0_hw3 : k0_chk3 v2), (k0_dev49 v2) < nD := fun v2 k0_hw3 => k0_hw3.1.2.2.2.2.2.2.2.2.2.2.2.2.2.2.2.2.2.2.2.2.2.2.2.2.1
theorem k0_dev52_lt : ∀ (v2 : BitVec 32) (k0_hw3 : k0_chk3 v2), (k0_dev52 v2) < nD := fun v2 k0_hw3 => k0_hw3.1.2.2.2.2.2.2.2.2.2.2.2.2.2.2.2.2.2.2.2.2.2.2.2.2.2.1
theorem k0_dev54_lt : ∀ (v2 : BitVec 32) (k0_hw3 : k0_chk3 v2), (k0_dev54 v2) < nD := fun v2 k0_hw3 => k0_hw3.1.2.2.2.2.2.2.2.2.2.2.2.2.2.2.2.2.2.2.2.2.2.2.2.2.2.2.1
theorem k0_dev55_lt : ∀ (v2 : BitVec 32) (k0_hw3 : k0_chk3 v2), (k0_dev55 v2) < nD := fun v2 k0_hw3 => k0_hw3.1.2.2.2.2.2.2.2.2.2.2.2.2.2.2.2.2.2.2.2.2.2.2.2.2.2.2.2.1
theorem k0_dev57_lt : ∀ (v2 : BitVec 32) (k0_hw3 : k0_chk3 v2), (k0_dev57 v2) < nD := fun v2 k0_hw3 => k0_hw3.1.2.2.2.2.2.2.2.2.2.2.2.2.2.2.2.2.2.2.2.2.2.2.2.2.2.2.2.2.1
theorem k0_dev60_lt : ∀ (v2 : BitVec 32) (k0_hw3 : k0_chk3 v2), (k0_dev60 v2) < nD := fun v2 k0_hw3 => k0_hw3.1.2.2.2.2.2.2.2.2.2.2.2.2.2.2.2.2.2.2.2.2.2.2.2.2.2.2.2.2.2.1
theorem k0_dev62_lt : ∀ (v2 : BitVec 32) (k0_hw3 : k0_chk3 v2), (k0_dev62 v2) < nD := fun v2 k0_hw3 => k0_hw3.1.2.2.2.2.2.2.2.2.2.2.2.2.2.2.2.2.2.2.2.2.2.2.2.2.2.2.2.2.2.2.1
theorem k0_dev63_lt : ∀ (v2 : BitVec 32) (k0_hw3 : k0_chk3 v2), (k0_dev63 v2) < nD := fun v2 k0_hw3 => k0_hw3.1.2.2.2.2.2.2.2.2.2.2.2.2.2.2.2.2.2.2.2.2.2.2.2.2.2.2.2.2.2.2.2
theorem k0_dev65_lt : ∀ (v2 : BitVec 32) (k0_hw3 : k0_chk3 v2), (k0_dev65 v2) < nD := fun v2 k0_hw3 => k0_hw3.2.1.1
theorem k0_dev68_lt : ∀ (v2 : BitVec 32) (k0_hw3 : k0_chk3 v2), (k0_dev68 v2) < nD := fun v2 k0_hw3 => k0_hw3.2.1.2.1
theorem k0_dev70_lt : ∀ (v2 : BitVec 32) (k0_hw3 : k0_chk3 v2), (k0_dev70 v2) < nD := fun v2 k0_hw3 => k0_hw3.2.1.2.2.1
theorem k0_dev71_lt : ∀ (v2 : BitVec 32) (k0_hw3 : k0_chk3 v2), (k0_dev71 v2) < nD := fun v2 k0_hw3 => k0_hw3.2.1.2.2.2.1
theorem k0_dev73_lt : ∀ (v2 : BitVec 32) (k0_hw3 : k0_chk3 v2), (k0_dev73 v2) < nD := fun v2 k0_hw3 => k0_hw3.2.1.2.2.2.2.1
theorem k0_dev76_lt : ∀ (v2 : BitVec 32) (k0_hw3 : k0_chk3 v2), (k0_dev76 v2) < nD := fun v2 k0_hw3 => k0_hw3.2.1.2.2.2.2.2.1
theorem k0_dev78_lt : ∀ (v2 : BitVec 32) (k0_hw3 : k0_chk3 v2), (k0_dev78 v2) < nD := fun v2 k0_hw3 => k0_hw3.2.1.2.2.2.2.2.2.1
theorem k0_dev79_lt : ∀ (v2 : BitVec 32) (k0_hw3 : k0_chk3 v2), (k0_dev79 v2) < nD := fun v2 k0_hw3 => k0_hw3.2.1.2.2.2.2.2.2.2.1
theorem k0_dev81_lt : ∀ (v2 : BitVec 32) (k0_hw3 : k0_chk3 v2), (k0_dev81 v2) < nD := fun v2 k0_hw3 => k0_hw3.2.1.2.2.2.2.2.2.2.2.1
theorem k0_dev84_lt : ∀ (v2 : BitVec 32) (k0_hw3 : k0_chk3 v2), (k0_dev84 v2) < nD := fun v2 k0_hw3 => k0_hw3.2.1.2.2.2.2.2.2.2.2.2.1
theorem k0_dev86_lt : ∀ (v2 : BitVec 32) (k0_hw3 : k0_chk3 v2), (k0_dev86 v2) < nD := fun v2 k0_hw3 => k0_hw3.2.1.2.2.2.2.2.2.2.2.2.2.1
theorem k0_dev87_lt : ∀ (v2 : BitVec 32) (k0_hw3 : k0_chk3 v2), (k0_dev87 v2) < nD := fun v2 k0_hw3 => k0_hw3.2.1.2.2.2.2.2.2.2.2.2.2.2.1
theorem k0_dev89_lt : ∀ (v2 : BitVec 32) (k0_hw3 : k0_chk3 v2), (k0_dev89 v2) < nD := fun v2 k0_hw3 => k0_hw3.2.1.2.2.2.2.2.2.2.2.2.2.2.2.1
theorem k0_dev92_lt : ∀ (v2 : BitVec 32) (k0_hw3 : k0_chk3 v2), (k0_dev92 v2) < nD := fun v2 k0_hw3 => k0_hw3.2.1.2.2.2.2.2.2.2.2.2.2.2.2.2.1
theorem k0_dev94_lt : ∀ (v2 : BitVec 32) (k0_hw3 : k0_chk3 v2), (k0_dev94 v2) < nD := fun v2 k0_hw3 => k0_hw3.2.1.2.2.2.2.2.2.2.2.2.2.2.2.2.2.1
theorem k0_dev95_lt : ∀ (v2 : BitVec 32) (k0_hw3 : k0_chk3 v2), (k0_dev95 v2) < nD := fun v2 k0_hw3 => k0_hw3.2.1.2.2.2.2.2.2.2.2.2.2.2.2.2.2.2.1
theorem k0_dev97_lt : ∀ (v2 : BitVec 32) (k0_hw3 : k0_chk3 v2), (k0_dev97 v2) < nD := fun v2 k0_hw3 => k0_hw3.2.1.2.2.2.2.2.2.2.2.2.2.2.2.2.2.2.2.1
theorem k0_dev100_lt : ∀ (v2 : BitVec 32) (k0_hw3 : k0_chk3 v2), (k0_dev100 v2) < nD := fun v2 k0_hw3 => k0_hw3.2.1.2.2.2.2.2.2.2.2.2.2.2.2.2.2.2.2.2.1
theorem k0_dev102_lt : ∀ (v2 : BitVec 32) (k0_hw3 : k0_chk3 v2), (k0_dev102 v2) < nD := fun v2 k0_hw3 => k0_hw3.2.1.2.2.2.2.2.2.2.2.2.2.2.2.2.2.2.2.2.2.1
theorem k0_dev103_lt : ∀ (v2 : BitVec 32) (k0_hw3 : k0_chk3 v2), (k0_dev103 v2) < nD := fun v2 k0_hw3 => k0_hw3.2.1.2.2.2.2.2.2.2.2.2.2.2.2.2.2.2.2.2.2.2.1
theorem k0_dev105_lt : ∀ (v2 : BitVec 32) (k0_hw3 : k0_chk3 v2), (k0_dev105 v2) < nD := fun v2 k0_hw3 => k0_hw3.2.1.2.2.2.2.2.2.2.2.2.2.2.2.2.2.2.2.2.2.2.2.1
theorem k0_dev108_lt : ∀ (v2 : BitVec 32) (k0_hw3 : k0_chk3 v2), (k0_dev108 v2) < nD := fun v2 k0_hw3 => k0_hw3.2.1.2.2.2.2.2.2.2.2.2.2.2.2.2.2.2.2.2.2.2.2.2.1
theorem k0_dev110_lt : ∀ (v2 : BitVec 32) (k0_hw3 : k0_chk3 v2), (k0_dev110 v2) < nD := fun v2 k0_hw3 => k0_hw3.2.1.2.2.2.2.2.2.2.2.2.2.2.2.2.2.2.2.2.2.2.2.2.2.1
theorem k0_dev111_lt : ∀ (v2 : BitVec 32) (k0_hw3 : k0_chk3 v2), (k0_dev111 v2) < nD := fun v2 k0_hw3 => k0_hw3.2.1.2.2.2.2.2.2.2.2.2.2.2.2.2.2.2.2.2.2.2.2.2.2.2.1
theorem k0_dev113_lt : ∀ (v2 : BitVec 32) (k0_hw3 : k0_chk3 v2), (k0_dev113 v2) < nD := fun v2 k0_hw3 => k0_hw3.2.1.2.2.2.2.2.2.2.2.2.2.2.2.2.2.2.2.2.2.2.2.2.2.2.2.1
theorem k0_dev116_lt : ∀ (v2 : BitVec 32) (k0_hw3 : k0_chk3 v2), (k0_dev116 v2) < nD := fun v2 k0_hw3 => k0_hw3.2.1.2.2.2.2.2.2.2.2.2.2.2.2.2.2.2.2.2.2.2.2.2.2.2.2.2.1
theorem k0_dev118_lt : ∀ (v2 : BitVec 32) (k0_hw3 : k0_chk3 v2), (k0_dev118 v2) < nD := fun v2 k0_hw3 => k0_hw3.2.1.2.2.2.2.2.2.2.2.2.2.2.2.2.2.2.2.2.2.2.2.2.2.2.2.2.2.1
theorem k0_dev119_lt : ∀ (v2 : BitVec 32) (k0_hw3 : k0_chk3 v2), (k0_dev119 v2) < nD := fun v2 k0_hw3 => k0_hw3.2.1.2.2.2.2.2.2.2.2.2.2.2.2.2.2.2.2.2.2.2.2.2.2.2.2.2.2.2.1
theorem k0_dev121_lt : ∀ (v2 : BitVec 32) (k0_hw3 : k0_chk3 v2), (k0_dev121 v2) < nD := fun v2 k0_hw3 => k0_hw3.2.1.2.2.2.2.2.2.2.2.2.2.2.2.2.2.2.2.2.2.2.2.2.2.2.2.2.2.2.2.1
theorem k0_dev124_lt : ∀ (v2 : BitVec 32) (k0_hw3 : k0_chk3 v2), (k0_dev124 v2) < nD := fun v2 k0_hw3 => k0_hw3.2.1.2.2.2.2.2.2.2.2.2.2.2.2.2.2.2.2.2.2.2.2.2.2.2.2.2.2.2.2.2.1
theorem k0_dev126_lt : ∀ (v2 : BitVec 32) (k0_hw3 : k0_chk3 v2), (k0_dev126 v2) < nD := fun v2 k0_hw3 => k0_hw3.2.1.2.2.2.2.2.2.2.2.2.2.2.2.2.2.2.2.2.2.2.2.2.2.2.2.2.2.2.2.2.2.1
theorem k0_dev127_lt : ∀ (v2 : BitVec 32) (k0_hw3 : k0_chk3 v2), (k0_dev127 v2) < nD := fun v2 k0_hw3 => k0_hw3.2.1.2.2.2.2.2.2.2.2.2.2.2.2.2.2.2.2.2.2.2.2.2.2.2.2.2.2.2.2.2.2.2
theorem k0_dev129_lt : ∀ (v2 : BitVec 32) (k0_hw3 : k0_chk3 v2), (k0_dev129 v2) < nD := fun v2 k0_hw3 => k0_hw3.2.2.1.1
theorem k0_dev132_lt : ∀ (v2 : BitVec 32) (k0_hw3 : k0_chk3 v2), (k0_dev132 v2) < nD := fun v2 k0_hw3 => k0_hw3.2.2.1.2.1
theorem k0_dev134_lt : ∀ (v2 : BitVec 32) (k0_hw3 : k0_chk3 v2), (k0_dev134 v2) < nD := fun v2 k0_hw3 => k0_hw3.2.2.1.2.2.1
theorem k0_dev135_lt : ∀ (v2 : BitVec 32) (k0_hw3 : k0_chk3 v2), (k0_dev135 v2) < nD := fun v2 k0_hw3 => k0_hw3.2.2.1.2.2.2.1
theorem k0_dev137_lt : ∀ (v2 : BitVec 32) (k0_hw3 : k0_chk3 v2), (k0_dev137 v2) < nD := fun v2 k0_hw3 => k0_hw3.2.2.1.2.2.2.2.1
theorem k0_dev140_lt : ∀ (v2 : BitVec 32) (k0_hw3 : k0_chk3 v2), (k0_dev140 v2) < nD := fun v2 k0_hw3 => k0_hw3.2.2.1.2.2.2.2.2.1
theorem k0_dev142_lt : ∀ (v2 : BitVec 32) (k0_hw3 : k0_chk3 v2), (k0_dev142 v2) < nD := fun v2 k0_hw3 => k0_hw3.2.2.1.2.2.2.2.2.2.1
theorem k0_dev143_lt : ∀ (v2 : BitVec 32) (k0_hw3 : k0_chk3 v2), (k0_dev143 v2) < nD := fun v2 k0_hw3 => k0_hw3.2.2.1.2.2.2.2.2.2.2.1
theorem k0_dev145_lt : ∀ (v2 : BitVec 32) (k0_hw3 : k0_chk3 v2), (k0_dev145 v2) < nD := fun v2 k0_hw3 => k0_hw3.2.2.1.2.2.2.2.2.2.2.2.1
theorem k0_dev148_lt : ∀ (v2 : BitVec 32) (k0_hw3 : k0_chk3 v2), (k0_dev148 v2) < nD := fun v2 k0_hw3 => k0_hw3.2.2.1.2.2.2.2.2.2.2.2.2.1
theorem k0_dev150_lt : ∀ (v2 : BitVec 32) (k0_hw3 : k0_chk3 v2), (k0_dev150 v2) < nD := fun v2 k0_hw3 => k0_hw3.2.2.1.2.2.2.2.2.2.2.2.2.2.1
theorem k0_dev151_lt : ∀ (v2 : BitVec 32) (k0_hw3 : k0_chk3 v2), (k0_dev151 v2) < nD := fun v2 k0_hw3 => k0_hw3.2.2.1.2.2.2.2.2.2.2.2.2.2.2.1
theorem k0_dev153_lt : ∀ (v2 : BitVec 32) (k0_hw3 : k0_chk3 v2), (k0_dev153 v2) < nD := fun v2 k0_hw3 => k0_hw3.2.2.1.2.2.2.2.2.2.2.2.2.2.2.2.1
theorem k0_dev156_lt : ∀ (v2 : BitVec 32) (k0_hw3 : k0_chk3 v2), (k0_dev156 v2) < nD := fun v2 k0_hw3 => k0_hw3.2.2.1.2.2.2.2.2.2.2.2.2.2.2.2.2.1
theorem k0_dev158_lt : ∀ (v2 : BitVec 32) (k0_hw3 : k0_chk3 v2), (k0_dev158 v2) < nD := fun v2 k0_hw3 => k0_hw3.2.2.1.2.2.2.2.2.2.2.2.2.2.2.2.2.2.1
theorem k0_dev159_lt : ∀ (v2 : BitVec 32) (k0_hw3 : k0_chk3 v2), (k0_dev159 v2) < nD := fun v2 k0_hw3 => k0_hw3.2.2.1.2.2.2.2.2.2.2.2.2.2.2.2.2.2.2.1
theorem k0_dev161_lt : ∀ (v2 : BitVec 32) (k0_hw3 : k0_chk3 v2), (k0_dev161 v2) < nD := fun v2 k0_hw3 => k0_hw3.2.2.1.2.2.2.2.2.2.2.2.2.2.2.2.2.2.2.2.1
theorem k0_dev164_lt : ∀ (v2 : BitVec 32) (k0_hw3 : k0_chk3 v2), (k0_dev164 v2) < nD := fun v2 k0_hw3 => k0_hw3.2.2.1.2.2.2.2.2.2.2.2.2.2.2.2.2.2.2.2.2.1
theorem k0_dev166_lt : ∀ (v2 : BitVec 32) (k0_hw3 : k0_chk3 v2), (k0_dev166 v2) < nD := fun v2 k0_hw3 => k0_hw3.2.2.1.2.2.2.2.2.2.2.2.2.2.2.2.2.2.2.2.2.2.1
theorem k0_dev167_lt : ∀ (v2 : BitVec 32) (k0_hw3 : k0_chk3 v2), (k0_dev167 v2) < nD := fun v2 k0_hw3 => k0_hw3.2.2.1.2.2.2.2.2.2.2.2.2.2.2.2.2.2.2.2.2.2.2.1
theorem k0_dev169_lt : ∀ (v2 : BitVec 32) (k0_hw3 : k0_chk3 v2), (k0_dev169 v2) < nD := fun v2 k0_hw3 => k0_hw3.2.2.1.2.2.2.2.2.2.2.2.2.2.2.2.2.2.2.2.2.2.2.2.1
theorem k0_dev172_lt : ∀ (v2 : BitVec 32) (k0_hw3 : k0_chk3 v2), (k0_dev172 v2) < nD := fun v2 k0_hw3 => k0_hw3.2.2.1.2.2.2.2.2.2.2.2.2.2.2.2.2.2.2.2.2.2.2.2.2.1
theorem k0_dev174_lt : ∀ (v2 : BitVec 32) (k0_hw3 : k0_chk3 v2), (k0_dev174 v2) < nD := fun v2 k0_hw3 => k0_hw3.2.2.1.2.2.2.2.2.2.2.2.2.2.2.2.2.2.2.2.2.2.2.2.2.2.1
theorem k0_dev175_lt : ∀ (v2 : BitVec 32) (k0_hw3 : k0_chk3 v2), (k0_dev175 v2) < nD := fun v2 k0_hw3 => k0_hw3.2.2.1.2.2.2.2.2.2.2.2.2.2.2.2.2.2.2.2.2.2.2.2.2.2.2.1
theorem k0_dev177_lt : ∀ (v2 : BitVec 32) (k0_hw3 : k0_chk3 v2), (k0_dev177 v2) < nD := fun v2 k0_hw3 => k0_hw3.2.2.1.2.2.2.2.2.2.2.2.2.2.2.2.2.2.2.2.2.2.2.2.2.2.2.2.1
theorem k0_dev180_lt : ∀ (v2 : BitVec 32) (k0_hw3 : k0_chk3 v2), (k0_dev180 v2) < nD := fun v2 k0_hw3 => k0_hw3.2.2.1.2.2.2.2.2.2.2.2.2.2.2.2.2.2.2.2.2.2.2.2.2.2.2.2.2.1
theorem k0_dev182_lt : ∀ (v2 : BitVec 32) (k0_hw3 : k0_chk3 v2), (k0_dev182 v2) < nD := fun v2 k0_hw3 => k0_hw3.2.2.1.2.2.2.2.2.2.2.2.2.2.2.2.2.2.2.2.2.2.2.2.2.2.2.2.2.2.1
theorem k0_dev183_lt : ∀ (v2 : BitVec 32) (k0_hw3 : k0_chk3 v2), (k0_dev183 v2) < nD := fun v2 k0_hw3 => k0_hw3.2.2.1.2.2.2.2.2.2.2.2.2.2.2.2.2.2.2.2.2.2.2.2.2.2.2.2.2.2.2.1
theorem k0_dev185_lt : ∀ (v2 : BitVec 32) (k0_hw3 : k0_chk3 v2), (k0_dev185 v2) < nD := fun v2 k0_hw3 => k0_hw3.2.2.1.2.2.2.2.2.2.2.2.2.2.2.2.2.2.2.2.2.2.2.2.2.2.2.2.2.2.2.2.1
theorem k0_dev188_lt : ∀ (v2 : BitVec 32) (k0_hw3 : k0_chk3 v2), (k0_dev188 v2) < nD := fun v2 k0_hw3 => k0_hw3.2.2.1.2.2.2.2.2.2.2.2.2.2.2.2.2.2.2.2.2.2.2.2.2.2.2.2.2.2.2.2.2.1
theorem k0_dev190_lt : ∀ (v2 : BitVec 32) (k0_hw3 : k0_chk3 v2), (k0_dev190 v2) < nD := fun v2 k0_hw3 => k0_hw3.2.2.1.2.2.2.2.2.2.2.2.2.2.2.2.2.2.2.2.2.2.2.2.2.2.2.2.2.2.2.2.2.2.1
theorem k0_dev191_lt : ∀ (v2 : BitVec 32) (k0_hw3 : k0_chk3 v2), (k0_dev191 v2) < nD := fun v2 k0_hw3 => k0_hw3.2.2.1.2.2.2.2.2.2.2.2.2.2.2.2.2.2.2.2.2.2.2.2.2.2.2.2.2.2.2.2.2.2.2
theorem k0_dev193_lt : ∀ (v2 : BitVec 32) (k0_hw3 : k0_chk3 v2), (k0_dev193 v2) < nD := fun v2 k0_hw3 => k0_hw3.2.2.2.1.1
theorem k0_dev196_lt : ∀ (v2 : BitVec 32) (k0_hw3 : k0_chk3 v2), (k0_dev196 v2) < nD := fun v2 k0_hw3 => k0_hw3.2.2.2.1.2.1
theorem k0_dev198_lt : ∀ (v2 : BitVec 32) (k0_hw3 : k0_chk3 v2), (k0_dev198 v2) < nD := fun v2 k0_hw3 => k0_hw3.2.2.2.1.2.2.1
theorem k0_dev199_lt : ∀ (v2 : BitVec 32) (k0_hw3 : k0_chk3 v2), (k0_dev199 v2) < nD := fun v2 k0_hw3 => k0_hw3.2.2.2.1.2.2.2.1
theorem k0_dev201_lt : ∀ (v2 : BitVec 32) (k0_hw3 : k0_chk3 v2), (k0_dev201 v2) < nD := fun v2 k0_hw3 => k0_hw3.2.2.2.1.2.2.2.2.1
theorem k0_dev204_lt : ∀ (v2 : BitVec 32) (k0_hw3 : k0_chk3 v2), (k0_dev204 v2) < nD := fun v2 k0_hw3 => k0_hw3.2.2.2.1.2.2.2.2.2.1
theorem k0_dev206_lt : ∀ (v2 : BitVec 32) (k0_hw3 : k0_chk3 v2), (k0_dev206 v2) < nD := fun v2 k0_hw3 => k0_hw3.2.2.2.1.2.2.2.2.2.2.1
theorem k0_dev207_lt : ∀ (v2 : BitVec 32) (k0_hw3 : k0_chk3 v2), (k0_dev207 v2) < nD := fun v2 k0_hw3 => k0_hw3.2.2.2.1.2.2.2.2.2.2.2.1
theorem k0_dev209_lt : ∀ (v2 : BitVec 32) (k0_hw3 : k0_chk3 v2), (k0_dev209 v2) < nD := fun v2 k0_hw3 => k0_hw3.2.2.2.1.2.2.2.2.2.2.2.2.1
theorem k0_dev212_lt : ∀ (v2 : BitVec 32) (k0_hw3 : k0_chk3 v2), (k0_dev212 v2) < nD := fun v2 k0_hw3 => k0_hw3.2.2.2.1.2.2.2.2.2.2.2.2.2.1
theorem k0_dev214_lt : ∀ (v2 : BitVec 32) (k0_hw3 : k0_chk3 v2), (k0_dev214 v2) < nD := fun v2 k0_hw3 => k0_hw3.2.2.2.1.2.2.2.2.2.2.2.2.2.2.1
theorem k0_dev215_lt : ∀ (v2 : BitVec 32) (k0_hw3 : k0_chk3 v2), (k0_dev215 v2) < nD := fun v2 k0_hw3 => k0_hw3.2.2.2.1.2.2.2.2.2.2.2.2.2.2.2.1
theorem k0_dev217_lt : ∀ (v2 : BitVec 32) (k0_hw3 : k0_chk3 v2), (k0_dev217 v2) < nD := fun v2 k0_hw3 => k0_hw3.2.2.2.1.2.2.2.2.2.2.2.2.2.2.2.2.1
theorem k0_dev220_lt : ∀ (v2 : BitVec 32) (k0_hw3 : k0_chk3 v2), (k0_dev220 v2) < nD := fun v2 k0_hw3 => k0_hw3.2.2.2.1.2.2.2.2.2.2.2.2.2.2.2.2.2.1
theorem k0_dev222_lt : ∀ (v2 : BitVec 32) (k0_hw3 : k0_chk3 v2), (k0_dev222 v2) < nD := fun v2 k0_hw3 => k0_hw3.2.2.2.1.2.2.2.2.2.2.2.2.2.2.2.2.2.2.1
theorem k0_dev223_lt : ∀ (v2 : BitVec 32) (k0_hw3 : k0_chk3 v2), (k0_dev223 v2) < nD := fun v2 k0_hw3 => k0_hw3.2.2.2.1.2.2.2.2.2.2.2.2.2.2.2.2.2.2.2.1
theorem k0_dev225_lt : ∀ (v2 : BitVec 32) (k0_hw3 : k0_chk3 v2), (k0_dev225 v2) < nD := fun v2 k0_hw3 => k0_hw3.2.2.2.1.2.2.2.2.2.2.2.2.2.2.2.2.2.2.2.2.1
theorem k0_dev228_lt : ∀ (v2 : BitVec 32) (k0_hw3 : k0_chk3 v2), (k0_dev228 v2) < nD := fun v2 k0_hw3 => k0_hw3.2.2.2.1.2.2.2.2.2.2.2.2.2.2.2.2.2.2.2.2.2.1
theorem k0_dev230_lt : ∀ (v2 : BitVec 32) (k0_hw3 : k0_chk3 v2), (k0_dev230 v2) < nD := fun v2 k0_hw3 => k0_hw3.2.2.2.1.2.2.2.2.2.2.2.2.2.2.2.2.2.2.2.2.2.2.1
theorem k0_dev231_lt : ∀ (v2 : BitVec 32) (k0_hw3 : k0_chk3 v2), (k0_dev231 v2) < nD := fun v2 k0_hw3 => k0_hw3.2.2.2.1.2.2.2.2.2.2.2.2.2.2.2.2.2.2.2.2.2.2.2.1
theorem k0_dev233_lt : ∀ (v2 : BitVec 32) (k0_hw3 : k0_chk3 v2), (k0_dev233 v2) < nD := fun v2 k0_hw3 => k0_hw3.2.2.2.1.2.2.2.2.2.2.2.2.2.2.2.2.2.2.2.2.2.2.2.2.1
theorem k0_dev236_lt : ∀ (v2 : BitVec 32) (k0_hw3 : k0_chk3 v2), (k0_dev236 v2) < nD := fun v2 k0_hw3 => k0_hw3.2.2.2.1.2.2.2.2.2.2.2.2.2.2.2.2.2.2.2.2.2.2.2.2.2.1
theorem k0_dev238_lt : ∀ (v2 : BitVec 32) (k0_hw3 : k0_chk3 v2), (k0_dev238 v2) < nD := fun v2 k0_hw3 => k0_hw3.2.2.2.1.2.2.2.2.2.2.2.2.2.2.2.2.2.2.2.2.2.2.2.2.2.2.1
theorem k0_dev239_lt : ∀ (v2 : BitVec 32) (k0_hw3 : k0_chk3 v2), (k0_dev239 v2) < nD := fun v2 k0_hw3 => k0_hw3.2.2.2.1.2.2.2.2.2.2.2.2.2.2.2.2.2.2.2.2.2.2.2.2.2.2.2.1
theorem k0_dev241_lt : ∀ (v2 : BitVec 32) (k0_hw3 : k0_chk3 v2), (k0_dev241 v2) < nD := fun v2 k0_hw3 => k0_hw3.2.2.2.1.2.2.2.2.2.2.2.2.2.2.2.2.2.2.2.2.2.2.2.2.2.2.2.2.1
theorem k0_dev244_lt : ∀ (v2 : BitVec 32) (k0_hw3 : k0_chk3 v2), (k0_dev244 v2) < nD := fun v2 k0_hw3 => k0_hw3.2.2.2.1.2.2.2.2.2.2.2.2.2.2.2.2.2.2.2.2.2.2.2.2.2.2.2.2.2.1
theorem k0_dev246_lt : ∀ (v2 : BitVec 32) (k0_hw3 : k0_chk3 v2), (k0_dev246 v2) < nD := fun v2 k0_hw3 => k0_hw3.2.2.2.1.2.2.2.2.2.2.2.2.2.2.2.2.2.2.2.2.2.2.2.2.2.2.2.2.2.2.1
theorem k0_dev247_lt : ∀ (v2 : BitVec 32) (k0_hw3 : k0_chk3 v2), (k0_dev247 v2) < nD := fun v2 k0_hw3 => k0_hw3.2.2.2.1.2.2.2.2.2.2.2.2.2.2.2.2.2.2.2.2.2.2.2.2.2.2.2.2.2.2.2.1
theorem k0_dev248_lt : ∀ (v2 : BitVec 32) (k0_hw3 : k0_chk3 v2), (k0_dev248 v2) < nD := fun v2 k0_hw3 => k0_hw3.2.2.2.1.2.2.2.2.2.2.2.2.2.2.2.2.2.2.2.2.2.2.2.2.2.2.2.2.2.2.2.2.1
theorem k0_dev257_lt : ∀ (v2 : BitVec 32) (k0_hw3 : k0_chk3 v2), (k0_dev257 v2) < nD := fun v2 k0_hw3 => k0_hw3.2.2.2.1.2.2.2.2.2.2.2.2.2.2.2.2.2.2.2.2.2.2.2.2.2.2.2.2.2.2.2.2.2.1
theorem k0_dev259_lt : ∀ (v2 : BitVec 32) (k0_hw3 : k0_chk3 v2), (k0_dev259 v2) < nD := fun v2 k0_hw3 => k0_hw3.2.2.2.1.2.2.2.2.2.2.2.2.2.2.2.2.2.2.2.2.2.2.2.2.2.2.2.2.2.2.2.2.2.2.1
theorem k0_dev260_lt : ∀ (v2 : BitVec 32) (k0_hw3 : k0_chk3 v2), (k0_dev260 v2) < nD := fun v2 k0_hw3 => k0_hw3.2.2.2.1.2.2.2.2.2.2.2.2.2.2.2.2.2.2.2.2.2.2.2.2.2.2.2.2.2.2.2.2.2.2.2
theorem k0_dev261_lt : ∀ (v2 : BitVec 32) (k0_hw3 : k0_chk3 v2), (k0_dev261 v2) < nD := fun v2 k0_hw3 => k0_hw3.2.2.2.2.1.1
theorem k0_dev265_lt : ∀ (v2 : BitVec 32) (k0_hw3 : k0_chk3 v2), (k0_dev265 v2) < nD := fun v2 k0_hw3 => k0_hw3.2.2.2.2.1.2.1
theorem k0_dev266_lt : ∀ (v2 : BitVec 32) (k0_hw3 : k0_chk3 v2), (k0_dev266 v2) < nD := fun v2 k0_hw3 => k0_hw3.2.2.2.2.1.2.2.1
theorem k0_dev267_lt : ∀ (v2 : BitVec 32) (k0_hw3 : k0_chk3 v2), (k0_dev267 v2) < nD := fun v2 k0_hw3 => k0_hw3.2.2.2.2.1.2.2.2.1
theorem k0_dev271_lt : ∀ (v2 : BitVec 32) (k0_hw3 : k0_chk3 v2), (k0_dev271 v2) < nD := fun v2 k0_hw3 => k0_hw3.2.2.2.2.1.2.2.2.2.1
theorem k0_dev272_lt : ∀ (v2 : BitVec 32) (k0_hw3 : k0_chk3 v2), (k0_dev272 v2) < nD := fun v2 k0_hw3 => k0_hw3.2.2.2.2.1.2.2.2.2.2.1
theorem k0_dev273_lt : ∀ (v2 : BitVec 32) (k0_hw3 : k0_chk3 v2), (k0_dev273 v2) < nD := fun v2 k0_hw3 => k0_hw3.2.2.2.2.1.2.2.2.2.2.2.1
theorem k0_dev277_lt : ∀ (v2 : BitVec 32) (k0_hw3 : k0_chk3 v2), (k0_dev277 v2) < nD := fun v2 k0_hw3 => k0_hw3.2.2.2.2.1.2.2.2.2.2.2.2.1
theorem k0_dev278_lt : ∀ (v2 : BitVec 32) (k0_hw3 : k0_chk3 v2), (k0_dev278 v2) < nD := fun v2 k0_hw3 => k0_hw3.2.2.2.2.1.2.2.2.2.2.2.2.2.1
theorem k0_dev279_lt : ∀ (v2 : BitVec 32) (k0_hw3 : k0_chk3 v2), (k0_dev279 v2) < nD := fun v2 k0_hw3 => k0_hw3.2.2.2.2.1.2.2.2.2.2.2.2.2.2.1
theorem k0_dev283_lt : ∀ (v2 : BitVec 32) (k0_hw3 : k0_chk3 v2), (k0_dev283 v2) < nD := fun v2 k0_hw3 => k0_hw3.2.2.2.2.1.2.2.2.2.2.2.2.2.2.2.1
theorem k0_dev284_lt : ∀ (v2 : BitVec 32) (k0_hw3 : k0_chk3 v2), (k0_dev284 v2) < nD := fun v2 k0_hw3 => k0_hw3.2.2.2.2.1.2.2.2.2.2.2.2.2.2.2.2.1
theorem k0_dev285_lt : ∀ (v2 : BitVec 32) (k0_hw3 : k0_chk3 v2), (k0_dev285 v2) < nD := fun v2 k0_hw3 => k0_hw3.2.2.2.2.1.2.2.2.2.2.2.2.2.2.2.2.2.1
theorem k0_dev289_lt : ∀ (v2 : BitVec 32) (k0_hw3 : k0_chk3 v2), (k0_dev289 v2) < nD := fun v2 k0_hw3 => k0_hw3.2.2.2.2.1.2.2.2.2.2.2.2.2.2.2.2.2.2.1
theorem k0_dev290_lt : ∀ (v2 : BitVec 32) (k0_hw3 : k0_chk3 v2), (k0_dev290 v2) < nD := fun v2 k0_hw3 => k0_hw3.2.2.2.2.1.2.2.2.2.2.2.2.2.2.2.2.2.2.2.1
theorem k0_dev291_lt : ∀ (v2 : BitVec 32) (k0_hw3 : k0_chk3 v2), (k0_dev291 v2) < nD := fun v2 k0_hw3 => k0_hw3.2.2.2.2.1.2.2.2.2.2.2.2.2.2.2.2.2.2.2.2.1
theorem k0_dev295_lt : ∀ (v2 : BitVec 32) (k0_hw3 : k0_chk3 v2), (k0_dev295 v2) < nD := fun v2 k0_hw3 => k0_hw3.2.2.2.2.1.2.2.2.2.2.2.2.2.2.2.2.2.2.2.2.2.1
theorem k0_dev296_lt : ∀ (v2 : BitVec 32) (k0_hw3 : k0_chk3 v2), (k0_dev296 v2) < nD := fun v2 k0_hw3 => k0_hw3.2.2.2.2.1.2.2.2.2.2.2.2.2.2.2.2.2.2.2.2.2.2.1
theorem k0_dev297_lt : ∀ (v2 : BitVec 32) (k0_hw3 : k0_chk3 v2), (k0_dev297 v2) < nD := fun v2 k0_hw3 => k0_hw3.2.2.2.2.1.2.2.2.2.2.2.2.2.2.2.2.2.2.2.2.2.2.2.1
theorem k0_dev301_lt : ∀ (v2 : BitVec 32) (k0_hw3 : k0_chk3 v2), (k0_dev301 v2) < nD := fun v2 k0_hw3 => k0_hw3.2.2.2.2.1.2.2.2.2.2.2.2.2.2.2.2.2.2.2.2.2.2.2.2.1
theorem k0_dev302_lt : ∀ (v2 : BitVec 32) (k0_hw3 : k0_chk3 v2), (k0_dev302 v2) < nD := fun v2 k0_hw3 => k0_hw3.2.2.2.2.1.2.2.2.2.2.2.2.2.2.2.2.2.2.2.2.2.2.2.2.2.1
theorem k0_dev303_lt : ∀ (v2 : BitVec 32) (k0_hw3 : k0_chk3 v2), (k0_dev303 v2) < nD := fun v2 k0_hw3 => k0_hw3.2.2.2.2.1.2.2.2.2.2.2.2.2.2.2.2.2.2.2.2.2.2.2.2.2.2.1
theorem k0_dev307_lt : ∀ (v2 : BitVec 32) (k0_hw3 : k0_chk3 v2), (k0_dev307 v2) < nD := fun v2 k0_hw3 => k0_hw3.2.2.2.2.1.2.2.2.2.2.2.2.2.2.2.2.2.2.2.2.2.2.2.2.2.2.2.1
theorem k0_dev308_lt : ∀ (v2 : BitVec 32) (k0_hw3 : k0_chk3 v2), (k0_dev308 v2) < nD := fun v2 k0_hw3 => k0_hw3.2.2.2.2.1.2.2.2.2.2.2.2.2.2.2.2.2.2.2.2.2.2.2.2.2.2.2.2.1
theorem k0_dev309_lt : ∀ (v2 : BitVec 32) (k0_hw3 : k0_chk3 v2), (k0_dev309 v2) < nD := fun v2 k0_hw3 => k0_hw3.2.2.2.2.1.2.2.2.2.2.2.2.2.2.2.2.2.2.2.2.2.2.2.2.2.2.2.2.2.1
theorem k0_dev313_lt : ∀ (v2 : BitVec 32) (k0_hw3 : k0_chk3 v2), (k0_dev313 v2) < nD := fun v2 k0_hw3 => k0_hw3.2.2.2.2.1.2.2.2.2.2.2.2.2.2.2.2.2.2.2.2.2.2.2.2.2.2.2.2.2.2.1
theorem k0_dev314_lt : ∀ (v2 : BitVec 32) (k0_hw3 : k0_chk3 v2), (k0_dev314 v2) < nD := fun v2 k0_hw3 => k0_hw3.2.2.2.2.1.2.2.2.2.2.2.2.2.2.2.2.2.2.2.2.2.2.2.2.2.2.2.2.2.2.2.1
theorem k0_dev315_lt : ∀ (v2 : BitVec 32) (k0_hw3 : k0_chk3 v2), (k0_dev315 v2) < nD := fun v2 k0_hw3 => k0_hw3.2.2.2.2.1.2.2.2.2.2.2.2.2.2.2.2.2.2.2.2.2.2.2.2.2.2.2.2.2.2.2.2.1
theorem k0_dev319_lt : ∀ (v2 : BitVec 32) (k0_hw3 : k0_chk3 v2), (k0_dev319 v2) < nD := fun v2 k0_hw3 => k0_hw3.2.2.2.2.1.2.2.2.2.2.2.2.2.2.2.2.2.2.2.2.2.2.2.2.2.2.2.2.2.2.2.2.2.1
theorem k0_dev320_lt : ∀ (v2 : BitVec 32) (k0_hw3 : k0_chk3 v2), (k0_dev320 v2) < nD := fun v2 k0_hw3 => k0_hw3.2.2.2.2.1.2.2.2.2.2.2.2.2.2.2.2.2.2.2.2.2.2.2.2.2.2.2.2.2.2.2.2.2.2.1
theorem k0_dev321_lt : ∀ (v2 : BitVec 32) (k0_hw3 : k0_chk3 v2), (k0_dev321 v2) < nD := fun v2 k0_hw3 => k0_hw3.2.2.2.2.1.2.2.2.2.2.2.2.2.2.2.2.2.2.2.2.2.2.2.2.2.2.2.2.2.2.2.2.2.2.2.1
theorem k0_dev325_lt : ∀ (v2 : BitVec 32) (k0_hw3 : k0_chk3 v2), (k0_dev325 v2) < nD := fun v2 k0_hw3 => k0_hw3.2.2.2.2.1.2.2.2.2.2.2.2.2.2.2.2.2.2.2.2.2.2.2.2.2.2.2.2.2.2.2.2.2.2.2.2
theorem k0_dev326_lt : ∀ (v2 : BitVec 32) (k0_hw3 : k0_chk3 v2), (k0_dev326 v2) < nD := fun v2 k0_hw3 => k0_hw3.2.2.2.2.2.1.1
theorem k0_dev327_lt : ∀ (v2 : BitVec 32) (k0_hw3 : k0_chk3 v2), (k0_dev327 v2) < nD := fun v2 k0_hw3 => k0_hw3.2.2.2.2.2.1.2.1
theorem k0_dev331_lt : ∀ (v2 : BitVec 32) (k0_hw3 : k0_chk3 v2), (k0_dev331 v2) < nD := fun v2 k0_hw3 => k0_hw3.2.2.2.2.2.1.2.2.1
theorem k0_dev332_lt : ∀ (v2 : BitVec 32) (k0_hw3 : k0_chk3 v2), (k0_dev332 v2) < nD := fun v2 k0_hw3 => k0_hw3.2.2.2.2.2.1.2.2.2.1
theorem k0_dev333_lt : ∀ (v2 : BitVec 32) (k0_hw3 : k0_chk3 v2), (k0_dev333 v2) < nD := fun v2 k0_hw3 => k0_hw3.2.2.2.2.2.1.2.2.2.2.1
theorem k0_dev337_lt : ∀ (v2 : BitVec 32) (k0_hw3 : k0_chk3 v2), (k0_dev337 v2) < nD := fun v2 k0_hw3 => k0_hw3.2.2.2.2.2.1.2.2.2.2.2.1
theorem k0_dev338_lt : ∀ (v2 : BitVec 32) (k0_hw3 : k0_chk3 v2), (k0_dev338 v2) < nD := fun v2 k0_hw3 => k0_hw3.2.2.2.2.2.1.2.2.2.2.2.2.1
theorem k0_dev339_lt : ∀ (v2 : BitVec 32) (k0_hw3 : k0_chk3 v2), (k0_dev339 v2) < nD := fun v2 k0_hw3 => k0_hw3.2.2.2.2.2.1.2.2.2.2.2.2.2.1
theorem k0_dev343_lt : ∀ (v2 : BitVec 32) (k0_hw3 : k0_chk3 v2), (k0_dev343 v2) < nD := fun v2 k0_hw3 => k0_hw3.2.2.2.2.2.1.2.2.2.2.2.2.2.2.1
theorem k0_dev344_lt : ∀ (v2 : BitVec 32) (k0_hw3 : k0_chk3 v2), (k0_dev344 v2) < nD := fun v2 k0_hw3 => k0_hw3.2.2.2.2.2.1.2.2.2.2.2.2.2.2.2.1
theorem k0_dev345_lt : ∀ (v2 : BitVec 32) (k0_hw3 : k0_chk3 v2), (k0_dev345 v2) < nD := fun v2 k0_hw3 => k0_hw3.2.2.2.2.2.1.2.2.2.2.2.2.2.2.2.2.1
theorem k0_dev349_lt : ∀ (v2 : BitVec 32) (k0_hw3 : k0_chk3 v2), (k0_dev349 v2) < nD := fun v2 k0_hw3 => k0_hw3.2.2.2.2.2.1.2.2.2.2.2.2.2.2.2.2.2.1
theorem k0_dev350_lt : ∀ (v2 : BitVec 32) (k0_hw3 : k0_chk3 v2), (k0_dev350 v2) < nD := fun v2 k0_hw3 => k0_hw3.2.2.2.2.2.1.2.2.2.2.2.2.2.2.2.2.2.2.1
theorem k0_dev351_lt : ∀ (v2 : BitVec 32) (k0_hw3 : k0_chk3 v2), (k0_dev351 v2) < nD := fun v2 k0_hw3 => k0_hw3.2.2.2.2.2.1.2.2.2.2.2.2.2.2.2.2.2.2.2.1
theorem k0_dev355_lt : ∀ (v2 : BitVec 32) (k0_hw3 : k0_chk3 v2), (k0_dev355 v2) < nD := fun v2 k0_hw3 => k0_hw3.2.2.2.2.2.1.2.2.2.2.2.2.2.2.2.2.2.2.2.2.1
theorem k0_dev356_lt : ∀ (v2 : BitVec 32) (k0_hw3 : k0_chk3 v2), (k0_dev356 v2) < nD := fun v2 k0_hw3 => k0_hw3.2.2.2.2.2.1.2.2.2.2.2.2.2.2.2.2.2.2.2.2.2.1
theorem k0_dev357_lt : ∀ (v2 : BitVec 32) (k0_hw3 : k0_chk3 v2), (k0_dev357 v2) < nD := fun v2 k0_hw3 => k0_hw3.2.2.2.2.2.1.2.2.2.2.2.2.2.2.2.2.2.2.2.2.2.2.1
theorem k0_dev361_lt : ∀ (v2 : BitVec 32) (k0_hw3 : k0_chk3 v2), (k0_dev361 v2) < nD := fun v2 k0_hw3 => k0_hw3.2.2.2.2.2.1.2.2.2.2.2.2.2.2.2.2.2.2.2.2.2.2.2.1
theorem k0_dev362_lt : ∀ (v2 : BitVec 32) (k0_hw3 : k0_chk3 v2), (k0_dev362 v2) < nD := fun v2 k0_hw3 => k0_hw3.2.2.2.2.2.1.2.2.2.2.2.2.2.2.2.2.2.2.2.2.2.2.2.2.1
theorem k0_dev363_lt : ∀ (v2 : BitVec 32) (k0_hw3 : k0_chk3 v2), (k0_dev363 v2) < nD := fun v2 k0_hw3 => k0_hw3.2.2.2.2.2.1.2.2.2.2.2.2.2.2.2.2.2.2.2.2.2.2.2.2.2.1
theorem k0_dev367_lt : ∀ (v2 : BitVec 32) (k0_hw3 : k0_chk3 v2), (k0_dev367 v2) < nD := fun v2 k0_hw3 => k0_hw3.2.2.2.2.2.1.2.2.2.2.2.2.2.2.2.2.2.2.2.2.2.2.2.2.2.2.1
theorem k0_dev368_lt : ∀ (v2 : BitVec 32) (k0_hw3 : k0_chk3 v2), (k0_dev368 v2) < nD := fun v2 k0_hw3 => k0_hw3.2.2.2.2.2.1.2.2.2.2.2.2.2.2.2.2.2.2.2.2.2.2.2.2.2.2.2.1
theorem k0_dev369_lt : ∀ (v2 : BitVec 32) (k0_hw3 : k0_chk3 v2), (k0_dev369 v2) < nD := fun v2 k0_hw3 => k0_hw3.2.2.2.2.2.1.2.2.2.2.2.2.2.2.2.2.2.2.2.2.2.2.2.2.2.2.2.2.1
theorem k0_dev373_lt : ∀ (v2 : BitVec 32) (k0_hw3 : k0_chk3 v2), (k0_dev373 v2) < nD := fun v2 k0_hw3 => k0_hw3.2.2.2.2.2.1.2.2.2.2.2.2.2.2.2.2.2.2.2.2.2.2.2.2.2.2.2.2.2.1
theorem k0_dev374_lt : ∀ (v2 : BitVec 32) (k0_hw3 : k0_chk3 v2), (k0_dev374 v2) < nD := fun v2 k0_hw3 => k0_hw3.2.2.2.2.2.1.2.2.2.2.2.2.2.2.2.2.2.2.2.2.2.2.2.2.2.2.2.2.2.2.1
theorem k0_dev375_lt : ∀ (v2 : BitVec 32) (k0_hw3 : k0_chk3 v2), (k0_dev375 v2) < nD := fun v2 k0_hw3 => k0_hw3.2.2.2.2.2.1.2.2.2.2.2.2.2.2.2.2.2.2.2.2.2.2.2.2.2.2.2.2.2.2.2.1
theorem k0_dev379_lt : ∀ (v2 : BitVec 32) (k0_hw3 : k0_chk3 v2), (k0_dev379 v2) < nD := fun v2 k0_hw3 => k0_hw3.2.2.2.2.2.1.2.2.2.2.2.2.2.2.2.2.2.2.2.2.2.2.2.2.2.2.2.2.2.2.2.2.1
theorem k0_dev380_lt : ∀ (v2 : BitVec 32) (k0_hw3 : k0_chk3 v2), (k0_dev380 v2) < nD := fun v2 k0_hw3 => k0_hw3.2.2.2.2.2.1.2.2.2.2.2.2.2.2.2.2.2.2.2.2.2.2.2.2.2.2.2.2.2.2.2.2.2.1
theorem k0_dev381_lt : ∀ (v2 : BitVec 32) (k0_hw3 : k0_chk3 v2), (k0_dev381 v2) < nD := fun v2 k0_hw3 => k0_hw3.2.2.2.2.2.1.2.2.2.2.2.2.2.2.2.2.2.2.2.2.2.2.2.2.2.2.2.2.2.2.2.2.2.2.1
theorem k0_dev385_lt : ∀ (v2 : BitVec 32) (k0_hw3 : k0_chk3 v2), (k0_dev385 v2) < nD := fun v2 k0_hw3 => k0_hw3.2.2.2.2.2.1.2.2.2.2.2.2.2.2.2.2.2.2.2.2.2.2.2.2.2.2.2.2.2.2.2.2.2.2.2.1
theorem k0_dev386_lt : ∀ (v2 : BitVec 32) (k0_hw3 : k0_chk3 v2), (k0_dev386 v2) < nD := fun v2 k0_hw3 => k0_hw3.2.2.2.2.2.1.2.2.2.2.2.2.2.2.2.2.2.2.2.2.2.2.2.2.2.2.2.2.2.2.2.2.2.2.2.2.1
theorem k0_dev387_lt : ∀ (v2 : BitVec 32) (k0_hw3 : k0_chk3 v2), (k0_dev387 v2) < nD := fun v2 k0_hw3 => k0_hw3.2.2.2.2.2.1.2.2.2.2.2.2.2.2.2.2.2.2.2.2.2.2.2.2.2.2.2.2.2.2.2.2.2.2.2.2.2
theorem k0_dev391_lt : ∀ (v2 : BitVec 32) (k0_hw3 : k0_chk3 v2), (k0_dev391 v2) < nD := fun v2 k0_hw3 => k0_hw3.2.2.2.2.2.2.1
theorem k0_dev392_lt : ∀ (v2 : BitVec 32) (k0_hw3 : k0_chk3 v2), (k0_dev392 v2) < nD := fun v2 k0_hw3 => k0_hw3.2.2.2.2.2.2.2.1
theorem k0_dev393_lt : ∀ (v2 : BitVec 32) (k0_hw3 : k0_chk3 v2), (k0_dev393 v2) < nD := fun v2 k0_hw3 => k0_hw3.2.2.2.2.2.2.2.2.1
theorem k0_dev397_lt : ∀ (v2 : BitVec 32) (k0_hw3 : k0_chk3 v2), (k0_dev397 v2) < nD := fun v2 k0_hw3 => k0_hw3.2.2.2.2.2.2.2.2.2.1
theorem k0_dev398_lt : ∀ (v2 : BitVec 32) (k0_hw3 : k0_chk3 v2), (k0_dev398 v2) < nD := fun v2 k0_hw3 => k0_hw3.2.2.2.2.2.2.2.2.2.2.1
theorem k0_dev399_lt : ∀ (v2 : BitVec 32) (k0_hw3 : k0_chk3 v2), (k0_dev399 v2) < nD := fun v2 k0_hw3 => k0_hw3.2.2.2.2.2.2.2.2.2.2.2.1
theorem k0_dev403_lt : ∀ (v2 : BitVec 32) (k0_hw3 : k0_chk3 v2), (k0_dev403 v2) < nD := fun v2 k0_hw3 => k0_hw3.2.2.2.2.2.2.2.2.2.2.2.2.1
theorem k0_dev404_lt : ∀ (v2 : BitVec 32) (k0_hw3 : k0_chk3 v2), (k0_dev404 v2) < nD := fun v2 k0_hw3 => k0_hw3.2.2.2.2.2.2.2.2.2.2.2.2.2.1
theorem k0_dev405_lt : ∀ (v2 : BitVec 32) (k0_hw3 : k0_chk3 v2), (k0_dev405 v2) < nD := fun v2 k0_hw3 => k0_hw3.2.2.2.2.2.2.2.2.2.2.2.2.2.2.1
theorem k0_dev409_lt : ∀ (v2 : BitVec 32) (k0_hw3 : k0_chk3 v2), (k0_dev409 v2) < nD := fun v2 k0_hw3 => k0_hw3.2.2.2.2.2.2.2.2.2.2.2.2.2.2.2.1
theorem k0_dev410_lt : ∀ (v2 : BitVec 32) (k0_hw3 : k0_chk3 v2), (k0_dev410 v2) < nD := fun v2 k0_hw3 => k0_hw3.2.2.2.2.2.2.2.2.2.2.2.2.2.2.2.2.1
theorem k0_dev411_lt : ∀ (v2 : BitVec 32) (k0_hw3 : k0_chk3 v2), (k0_dev411 v2) < nD := fun v2 k0_hw3 => k0_hw3.2.2.2.2.2.2.2.2.2.2.2.2.2.2.2.2.2.1
theorem k0_dev415_lt : ∀ (v2 : BitVec 32) (k0_hw3 : k0_chk3 v2), (k0_dev415 v2) < nD := fun v2 k0_hw3 => k0_hw3.2.2.2.2.2.2.2.2.2.2.2.2.2.2.2.2.2.2.1
theorem k0_dev416_lt : ∀ (v2 : BitVec 32) (k0_hw3 : k0_chk3 v2), (k0_dev416 v2) < nD := fun v2 k0_hw3 => k0_hw3.2.2.2.2.2.2.2.2.2.2.2.2.2.2.2.2.2.2.2.1
theorem k0_dev417_lt : ∀ (v2 : BitVec 32) (k0_hw3 : k0_chk3 v2), (k0_dev417 v2) < nD := fun v2 k0_hw3 => k0_hw3.2.2.2.2.2.2.2.2.2.2.2.2.2.2.2.2.2.2.2.2.1
theorem k0_dev421_lt : ∀ (v2 : BitVec 32) (k0_hw3 : k0_chk3 v2), (k0_dev421 v2) < nD := fun v2 k0_hw3 => k0_hw3.2.2.2.2.2.2.2.2.2.2.2.2.2.2.2.2.2.2.2.2.2.1
theorem k0_dev422_lt : ∀ (v2 : BitVec 32) (k0_hw3 : k0_chk3 v2), (k0_dev422 v2) < nD := fun v2 k0_hw3 => k0_hw3.2.2.2.2.2.2.2.2.2.2.2.2.2.2.2.2.2.2.2.2.2.2.1
theorem k0_dev423_lt : ∀ (v2 : BitVec 32) (k0_hw3 : k0_chk3 v2), (k0_dev423 v2) < nD := fun v2 k0_hw3 => k0_hw3.2.2.2.2.2.2.2.2.2.2.2.2.2.2.2.2.2.2.2.2.2.2.2.1
theorem k0_dev427_lt : ∀ (v2 : BitVec 32) (k0_hw3 : k0_chk3 v2), (k0_dev427 v2) < nD := fun v2 k0_hw3 => k0_hw3.2.2.2.2.2.2.2.2.2.2.2.2.2.2.2.2.2.2.2.2.2.2.2.2.1
theorem k0_dev428_lt : ∀ (v2 : BitVec 32) (k0_hw3 : k0_chk3 v2), (k0_dev428 v2) < nD := fun v2 k0_hw3 => k0_hw3.2.2.2.2.2.2.2.2.2.2.2.2.2.2.2.2.2.2.2.2.2.2.2.2.2.1
theorem k0_dev429_lt : ∀ (v2 : BitVec 32) (k0_hw3 : k0_chk3 v2), (k0_dev429 v2) < nD := fun v2 k0_hw3 => k0_hw3.2.2.2.2.2.2.2.2.2.2.2.2.2.2.2.2.2.2.2.2.2.2.2.2.2.2.1
theorem k0_dev433_lt : ∀ (v2 : BitVec 32) (k0_hw3 : k0_chk3 v2), (k0_dev433 v2) < nD := fun v2 k0_hw3 => k0_hw3.2.2.2.2.2.2.2.2.2.2.2.2.2.2.2.2.2.2.2.2.2.2.2.2.2.2.2.1
theorem k0_dev434_lt : ∀ (v2 : BitVec 32) (k0_hw3 : k0_chk3 v2), (k0_dev434 v2) < nD := fun v2 k0_hw3 => k0_hw3.2.2.2.2.2.2.2.2.2.2.2.2.2.2.2.2.2.2.2.2.2.2.2.2.2.2.2.2.1
theorem k0_dev435_lt : ∀ (v2 : BitVec 32) (k0_hw3 : k0_chk3 v2), (k0_dev435 v2) < nD := fun v2 k0_hw3 => k0_hw3.2.2.2.2.2.2.2.2.2.2.2.2.2.2.2.2.2.2.2.2.2.2.2.2.2.2.2.2.2.1
theorem k0_dev438_lt : ∀ (v2 : BitVec 32) (k0_hw3 : k0_chk3 v2), (k0_dev438 v2) < nD := fun v2 k0_hw3 => k0_hw3.2.2.2.2.2.2.2.2.2.2.2.2.2.2.2.2.2.2.2.2.2.2.2.2.2.2.2.2.2.2.1
theorem k0_dev439_lt : ∀ (v2 : BitVec 32) (k0_hw3 : k0_chk3 v2), (k0_dev439 v2) < nD := fun v2 k0_hw3 => k0_hw3.2.2.2.2.2.2.2.2.2.2.2.2.2.2.2.2.2.2.2.2.2.2.2.2.2.2.2.2.2.2.2

def k0_dev440 (v1 : BitVec 32) : Nat :=
  let c0_i32_10953 : BitVec 32 := 0#32
  let c1_i32_10952 : BitVec 32 := 1#32
  let v9401 : BitVec 32 := Scalar.muli v1 c1_i32_10952
  let v9402 : BitVec 32 := Scalar.addi c0_i32_10953 v9401
  v9402.toNat
def k0_dev441 (v1 : BitVec 32) : Nat :=
  let c0_i32_10957 : BitVec 32 := 0#32
  let c1_i32_10956 : BitVec 32 := 1#32
  let v9405 : BitVec 32 := Scalar.muli v1 c1_i32_10956
  let v9406 : BitVec 32 := Scalar.addi c0_i32_10957 v9405
  v9406.toNat

def k0_chk2_0 (v1 : BitVec 32) : Prop :=
  ((k0_dev1 v1) < nD) ∧
  ((k0_dev3 v1) < nD) ∧
  ((k0_dev4 v1) < nD) ∧
  ((k0_dev8 v1) < nD) ∧
  ((k0_dev10 v1) < nD) ∧
  ((k0_dev11 v1) < nD) ∧
  ((k0_dev13 v1) < nD) ∧
  ((k0_dev16 v1) < nD) ∧
  ((k0_dev18 v1) < nD) ∧
  ((k0_dev19 v1) < nD) ∧
  ((k0_dev21 v1) < nD) ∧
  ((k0_dev24 v1) < nD) ∧
  ((k0_dev26 v1) < nD) ∧
  ((k0_dev27 v1) < nD) ∧
  ((k0_dev29 v1) < nD) ∧
  ((k0_dev32 v1) < nD) ∧
  ((k0_dev34 v1) < nD) ∧
  ((k0_dev35 v1) < nD) ∧
  ((k0_dev37 v1) < nD) ∧
  ((k0_dev40 v1) < nD) ∧
  ((k0_dev42 v1) < nD) ∧
  ((k0_dev43 v1) < nD) ∧
  ((k0_dev45 v1) < nD) ∧
  ((k0_dev48 v1) < nD) ∧
  ((k0_dev50 v1) < nD) ∧
  ((k0_dev51 v1) < nD) ∧
  ((k0_dev53 v1) < nD) ∧
  ((k0_dev56 v1) < nD) ∧
  ((k0_dev58 v1) < nD) ∧
  ((k0_dev59 v1) < nD) ∧
  ((k0_dev61 v1) < nD) ∧
  ((k0_dev64 v1) < nD)
def k0_chk2_1 (v1 : BitVec 32) : Prop :=
  ((k0_dev66 v1) < nD) ∧
  ((k0_dev67 v1) < nD) ∧
  ((k0_dev69 v1) < nD) ∧
  ((k0_dev72 v1) < nD) ∧
  ((k0_dev74 v1) < nD) ∧
  ((k0_dev75 v1) < nD) ∧
  ((k0_dev77 v1) < nD) ∧
  ((k0_dev80 v1) < nD) ∧
  ((k0_dev82 v1) < nD) ∧
  ((k0_dev83 v1) < nD) ∧
  ((k0_dev85 v1) < nD) ∧
  ((k0_dev88 v1) < nD) ∧
  ((k0_dev90 v1) < nD) ∧
  ((k0_dev91 v1) < nD) ∧
  ((k0_dev93 v1) < nD) ∧
  ((k0_dev96 v1) < nD) ∧
  ((k0_dev98 v1) < nD) ∧
  ((k0_dev99 v1) < nD) ∧
  ((k0_dev101 v1) < nD) ∧
  ((k0_dev104 v1) < nD) ∧
  ((k0_dev106 v1) < nD) ∧
  ((k0_dev107 v1) < nD) ∧
  ((k0_dev109 v1) < nD) ∧
  ((k0_dev112 v1) < nD) ∧
  ((k0_dev114 v1) < nD) ∧
  ((k0_dev115 v1) < nD) ∧
  ((k0_dev117 v1) < nD) ∧
  ((k0_dev120 v1) < nD) ∧
  ((k0_dev122 v1) < nD) ∧
  ((k0_dev123 v1) < nD) ∧
  ((k0_dev125 v1) < nD) ∧
  ((k0_dev128 v1) < nD)
def k0_chk2_2 (v1 : BitVec 32) : Prop :=
  ((k0_dev130 v1) < nD) ∧
  ((k0_dev131 v1) < nD) ∧
  ((k0_dev133 v1) < nD) ∧
  ((k0_dev136 v1) < nD) ∧
  ((k0_dev138 v1) < nD) ∧
  ((k0_dev139 v1) < nD) ∧
  ((k0_dev141 v1) < nD) ∧
  ((k0_dev144 v1) < nD) ∧
  ((k0_dev146 v1) < nD) ∧
  ((k0_dev147 v1) < nD) ∧
  ((k0_dev149 v1) < nD) ∧
  ((k0_dev152 v1) < nD) ∧
  ((k0_dev154 v1) < nD) ∧
  ((k0_dev155 v1) < nD) ∧
  ((k0_dev157 v1) < nD) ∧
  ((k0_dev160 v1) < nD) ∧
  ((k0_dev162 v1) < nD) ∧
  ((k0_dev163 v1) < nD) ∧
  ((k0_dev165 v1) < nD) ∧
  ((k0_dev168 v1) < nD) ∧
  ((k0_dev170 v1) < nD) ∧
  ((k0_dev171 v1) < nD) ∧
  ((k0_dev173 v1) < nD) ∧
  ((k0_dev176 v1) < nD) ∧
  ((k0_dev178 v1) < nD) ∧
  ((k0_dev179 v1) < nD) ∧
  ((k0_dev181 v1) < nD) ∧
  ((k0_dev184 v1) < nD) ∧
  ((k0_dev186 v1) < nD) ∧
  ((k0_dev187 v1) < nD) ∧
  ((k0_dev189 v1) < nD) ∧
  ((k0_dev192 v1) < nD)
def k0_chk2_3 (v1 : BitVec 32) : Prop :=
  ((k0_dev194 v1) < nD) ∧
  ((k0_dev195 v1) < nD) ∧
  ((k0_dev197 v1) < nD) ∧
  ((k0_dev200 v1) < nD) ∧
  ((k0_dev202 v1) < nD) ∧
  ((k0_dev203 v1) < nD) ∧
  ((k0_dev205 v1) < nD) ∧
  ((k0_dev208 v1) < nD) ∧
  ((k0_dev210 v1) < nD) ∧
  ((k0_dev211 v1) < nD) ∧
  ((k0_dev213 v1) < nD) ∧
  ((k0_dev216 v1) < nD) ∧
  ((k0_dev218 v1) < nD) ∧
  ((k0_dev219 v1) < nD) ∧
  ((k0_dev221 v1) < nD) ∧
  ((k0_dev224 v1) < nD) ∧
  ((k0_dev226 v1) < nD) ∧
  ((k0_dev227 v1) < nD) ∧
  ((k0_dev229 v1) < nD) ∧
  ((k0_dev232 v1) < nD) ∧
  ((k0_dev234 v1) < nD) ∧
  ((k0_dev235 v1) < nD) ∧
  ((k0_dev237 v1) < nD) ∧
  ((k0_dev240 v1) < nD) ∧
  ((k0_dev242 v1) < nD) ∧
  ((k0_dev243 v1) < nD) ∧
  ((k0_dev245 v1) < nD) ∧
  ((k0_dev249 v1) < nD) ∧
  ((k0_dev250 v1) < nD) ∧
  ((k0_dev256 v1) < nD) ∧
  ((k0_dev258 v1) < nD) ∧
  ((k0_dev262 v1) < nD)
def k0_chk2_4 (v1 : BitVec 32) : Prop :=
  ((k0_dev263 v1) < nD) ∧
  ((k0_dev264 v1) < nD) ∧
  ((k0_dev268 v1) < nD) ∧
  ((k0_dev269 v1) < nD) ∧
  ((k0_dev270 v1) < nD) ∧
  ((k0_dev274 v1) < nD) ∧
  ((k0_dev275 v1) < nD) ∧
  ((k0_dev276 v1) < nD) ∧
  ((k0_dev280 v1) < nD) ∧
  ((k0_dev281 v1) < nD) ∧
  ((k0_dev282 v1) < nD) ∧
  ((k0_dev286 v1) < nD) ∧
  ((k0_dev287 v1) < nD) ∧
  ((k0_dev288 v1) < nD) ∧
  ((k0_dev292 v1) < nD) ∧
  ((k0_dev293 v1) < nD) ∧
  ((k0_dev294 v1) < nD) ∧
  ((k0_dev298 v1) < nD) ∧
  ((k0_dev299 v1) < nD) ∧
  ((k0_dev300 v1) < nD) ∧
  ((k0_dev304 v1) < nD) ∧
  ((k0_dev305 v1) < nD) ∧
  ((k0_dev306 v1) < nD) ∧
  ((k0_dev310 v1) < nD) ∧
  ((k0_dev311 v1) < nD) ∧
  ((k0_dev312 v1) < nD) ∧
  ((k0_dev316 v1) < nD) ∧
  ((k0_dev317 v1) < nD) ∧
  ((k0_dev318 v1) < nD) ∧
  ((k0_dev322 v1) < nD) ∧
  ((k0_dev323 v1) < nD) ∧
  ((k0_dev324 v1) < nD)
def k0_chk2_5 (v1 : BitVec 32) : Prop :=
  ((k0_dev328 v1) < nD) ∧
  ((k0_dev329 v1) < nD) ∧
  ((k0_dev330 v1) < nD) ∧
  ((k0_dev334 v1) < nD) ∧
  ((k0_dev335 v1) < nD) ∧
  ((k0_dev336 v1) < nD) ∧
  ((k0_dev340 v1) < nD) ∧
  ((k0_dev341 v1) < nD) ∧
  ((k0_dev342 v1) < nD) ∧
  ((k0_dev346 v1) < nD) ∧
  ((k0_dev347 v1) < nD) ∧
  ((k0_dev348 v1) < nD) ∧
  ((k0_dev352 v1) < nD) ∧
  ((k0_dev353 v1) < nD) ∧
  ((k0_dev354 v1) < nD) ∧
  ((k0_dev358 v1) < nD) ∧
  ((k0_dev359 v1) < nD) ∧
  ((k0_dev360 v1) < nD) ∧
  ((k0_dev364 v1) < nD) ∧
  ((k0_dev365 v1) < nD) ∧
  ((k0_dev366 v1) < nD) ∧
  ((k0_dev370 v1) < nD) ∧
  ((k0_dev371 v1) < nD) ∧
  ((k0_dev372 v1) < nD) ∧
  ((k0_dev376 v1) < nD) ∧
  ((k0_dev377 v1) < nD) ∧
  ((k0_dev378 v1) < nD) ∧
  ((k0_dev382 v1) < nD) ∧
  ((k0_dev383 v1) < nD) ∧
  ((k0_dev384 v1) < nD) ∧
  ((k0_dev388 v1) < nD) ∧
  ((k0_dev389 v1) < nD)
def k0_chk2_6 (v1 : BitVec 32) : Prop :=
  ((k0_dev390 v1) < nD) ∧
  ((k0_dev394 v1) < nD) ∧
  ((k0_dev395 v1) < nD) ∧
  ((k0_dev396 v1) < nD) ∧
  ((k0_dev400 v1) < nD) ∧
  ((k0_dev401 v1) < nD) ∧
  ((k0_dev402 v1) < nD) ∧
  ((k0_dev406 v1) < nD) ∧
  ((k0_dev407 v1) < nD) ∧
  ((k0_dev408 v1) < nD) ∧
  ((k0_dev412 v1) < nD) ∧
  ((k0_dev413 v1) < nD) ∧
  ((k0_dev414 v1) < nD) ∧
  ((k0_dev418 v1) < nD) ∧
  ((k0_dev419 v1) < nD) ∧
  ((k0_dev420 v1) < nD) ∧
  ((k0_dev424 v1) < nD) ∧
  ((k0_dev425 v1) < nD) ∧
  ((k0_dev426 v1) < nD) ∧
  ((k0_dev430 v1) < nD) ∧
  ((k0_dev431 v1) < nD) ∧
  ((k0_dev432 v1) < nD) ∧
  ((k0_dev436 v1) < nD) ∧
  ((k0_dev437 v1) < nD) ∧
  ((k0_dev440 v1) < nD) ∧
  ((k0_dev441 v1) < nD)
def k0_chk2 (v1 : BitVec 32) : Prop :=
  k0_chk2_0 v1 ∧
  k0_chk2_1 v1 ∧
  k0_chk2_2 v1 ∧
  k0_chk2_3 v1 ∧
  k0_chk2_4 v1 ∧
  k0_chk2_5 v1 ∧
  k0_chk2_6 v1
theorem k0_dev1_lt : ∀ (v1 : BitVec 32) (k0_hw2 : k0_chk2 v1), (k0_dev1 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev4_lt : ∀ (v1 : BitVec 32) (k0_hw2 : k0_chk2 v1), (k0_dev4 v1) < nD := fun v1 k0_hw2 => k0_hw2.1.2.2.1
theorem k0_dev8_lt : ∀ (v1 : BitVec 32) (k0_hw2 : k0_chk2 v1), (k0_dev8 v1) < nD := fun v1 k0_hw2 => k0_hw2.1.2.2.2.1
theorem k0_dev10_lt : ∀ (v1 : BitVec 32) (k0_hw2 : k0_chk2 v1), (k0_dev10 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev16_lt : ∀ (v1 : BitVec 32) (k0_hw2 : k0_chk2 v1), (k0_dev16 v1) < nD := fun v1 k0_hw2 => k0_hw2.1.2.2.2.2.2.2.2.1
theorem k0_dev18_lt : ∀ (v1 : BitVec 32) (k0_hw2 : k0_chk2 v1), (k0_dev18 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev21_lt : ∀ (v1 : BitVec 32) (k0_hw2 : k0_chk2 v1), (k0_dev21 v1) < nD := fun v1 k0_hw2 => k0_hw2.1.2.2.2.2.2.2.2.2.2.2.1
theorem k0_dev24_lt : ∀ (v1 : BitVec 32) (k0_hw2 : k0_chk2 v1), (k0_dev24 v1) < nD := fun v1 k0_hw2 => k0_hw2.1.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev29_lt : ∀ (v1 : BitVec 32) (k0_hw2 : k0_chk2 v1), (k0_dev29 v1) < nD := fun v1 k0_hw2 => k0_hw2.1.2.2.2.2.2.2.2.2.2.2.2.2.2.2.1
theorem k0_dev32_lt : ∀ (v1 : BitVec 32) (k0_hw2 : k0_chk2 v1), (k0_dev32 v1) < nD := fun v1 k0_hw2 => k0_hw2.1.2.2.2.2.2.2.2.2.2.2.2.2.2.2.2.1
theorem k0_dev34_lt : ∀ (v1 : BitVec 32) (k0_hw2 : k0_chk2 v1), (k0_dev34 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev37_lt : ∀ (v1 : BitVec 32) (k0_hw2 : k0_chk2 v1), (k0_dev37 v1) < nD := fun v1 k0_hw2 => k0_hw2.1.2.2.2.2.2.2.2.2.2.2.2.2.2.2.2.2.2.2.1
theorem k0_dev40_lt : ∀ (v1 : BitVec 32) (k0_hw2 : k0_chk2 v1), (k0_dev40 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev48_lt : ∀ (v1 : BitVec 32) (k0_hw2 : k0_chk2 v1), (k0_dev48 v1) < nD := fun v1 k0_hw2 => k0_hw2.1.2.2.2.2.2.2.2.2.2.2.2.2.2.2.2.2.2.2.2.2.2.2.2.1
theorem k0_dev50_lt : ∀ (v1 : BitVec 32) (k0_hw2 : k0_chk2 v1), (k0_dev50 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev53_lt : ∀ (v1 : BitVec 32) (k0_hw2 : k0_chk2 v1), (k0_dev53 v1) < nD := fun v1 k0_hw2 => k0_hw2.1.2.2.2.2.2.2.2.2.2.2.2.2.2.2.2.2.2.2.2.2.2.2.2.2.2.2.1
theorem k0_dev56_lt : ∀ (v1 : BitVec 32) (k0_hw2 : k0_chk2 v1), (k0_dev56 v1) < nD := fun v1 k0_hw2 => k0_hw2.1.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev64_lt : ∀ (v1 : BitVec 32) (k0_hw2 : k0_chk2 v1), (k0_dev64 v1) < nD := fun v1 k0_hw2 => k0_hw2.1.2.2.2.2.2.2.2.2.2.2.2.2.2.2.2.2.2.2.2.2.2.2.2.2.2.2.2.2.2.2.2
theorem k0_dev66_lt : ∀ (v1 : BitVec 32) (k0_hw2 : k0_chk2 v1), (k0_dev66 v1) < nD := fun v1 k0_hw2 => k0_hw2.2.1.1
theorem k0_dev67_lt : ∀ (v1 : BitVec 32) (k0_hw2 : k0_chk2 v1), (k0_dev67 v1) < nD := fun v1 k0_hw2 => k0_hw2.2.1.2.1
theorem k0_dev69_lt : ∀ (v1 : BitVec 32) (k0_hw2 : k0_chk2 v1), (k0_dev69 v1) < nD := fun v1 k0_hw2 => k0_hw2.2.1.2.2.1
theorem k0_dev72_lt : ∀ (v1 : BitVec 32) (k0_hw2 : k0_chk2 v1), (k0_dev72 v1) < nD := fun v1 k0_hw2 => k0_hw2.2.1.2.2.2.1
theorem k0_dev74_lt : ∀ (v1 : BitVec 32) (k0_hw2 : k0_chk2 v1), (k0_dev74 v1) < nD := fun v1 k0_hw2 => k0_hw2.2.1.2.2.2.2.1
theorem k0_dev75_lt : ∀ (v1 : BitVec 32) (k0_hw2 : k0_chk2 v1), (k0_dev75 v1) < nD := fun v1 k0_hw2 => k0_hw2.2.1.2.2.2.2.2.1
theorem k0_dev77_lt : ∀ (v1 : BitVec 32) (k0_hw2 : k0_chk2 v1), (k0_dev77 v1) < nD := fun v1 k0_hw2 => k0_hw2.2.1.2.2.2.2.2.2.1
theorem k0_dev80_lt : ∀ (v1 : BitVec 32) (k0_hw2 : k0_chk2 v1), (k0_dev80 v1) < nD := fun v1 k0_hw2 => k0_hw2.2.1.2.2.2.2.2.2.2.1
theorem k0_dev82_lt : ∀ (v1 : BitVec 32) (k0_hw2 : k0_chk2 v1), (k0_dev82 v1) < nD := fun v1 k0_hw2 => k0_hw2.2.1.2.2.2.2.2.2.2.2.1
theorem k0_dev83_lt : ∀ (v1 : BitVec 32) (k0_hw2 : k0_chk2 v1), (k0_dev83 v1) < nD := fun v1 k0_hw2 => k0_hw2.2.1.2.2.2.2.2.2.2.2.2.1
theorem k0_dev85_lt : ∀ (v1 : BitVec 32) (k0_hw2 : k0_chk2 v1), (k0_dev85 v1) < nD := fun v1 k0_hw2 => k0_hw2.2.1.2.2.2.2.2.2.2.2.2.2.1
theorem k0_dev88_lt : ∀ (v1 : BitVec 32) (k0_hw2 : k0_chk2 v1), (k0_dev88 v1) < nD := fun v1 k0_hw2 => k0_hw2.2.1.2.2.2.2.2.2.2.2.2.2.2.1
theorem k0_dev90_lt : ∀ (v1 : BitVec 32) (k0_hw2 : k0_chk2 v1), (k0_dev90 v1) < nD := fun v1 k0_hw2 => k0_hw2.2.1.2.2.2.2.2.2.2.2.2.2.2.2.1
theorem k0_dev91_lt : ∀ (v1 : BitVec 32) (k0_hw2 : k0_chk2 v1), (k0_dev91 v1) < nD := fun v1 k0_hw2 => k0_hw2.2.1.2.2.2.2.2.2.2.2.2.2.2.2.2.1
theorem k0_dev93_lt : ∀ (v1 : BitVec 32) (k0_hw2 : k0_chk2 v1), (k0_dev93 v1) < nD := fun v1 k0_hw2 => k0_hw2.2.1.2.2.2.2.2.2.2.2.2.2.2.2.2.2.1
theorem k0_dev96_lt : ∀ (v1 : BitVec 32) (k0_hw2 : k0_chk2 v1), (k0_dev96 v1) < nD := fun v1 k0_hw2 => k0_hw2.2.1.2.2.2.2.2.2.2.2.2.2.2.2.2.2.2.1
theorem k0_dev98_lt : ∀ (v1 : BitVec 32) (k0_hw2 : k0_chk2 v1), (k0_dev98 v1) < nD := fun v1 k0_hw2 => k0_hw2.2.1.2.2.2.2.2.2.2.2.2.2.2.2.2.2.2.2.1
theorem k0_dev99_lt : ∀ (v1 : BitVec 32) (k0_hw2 : k0_chk2 v1), (k0_dev99 v1) < nD := fun v1 k0_hw2 => k0_hw2.2.1.2.2.2.2.2.2.2.2.2.2.2.2.2.2.2.2.2.1
theorem k0_dev101_lt : ∀ (v1 : BitVec 32) (k0_hw2 : k0_chk2 v1), (k0_dev101 v1) < nD := fun v1 k0_hw2 => k0_hw2.2.1.2.2.2.2.2.2.2.2.2.2.2.2.2.2.2.2.2.2.1
theorem k0_dev104_lt : ∀ (v1 : BitVec 32) (k0_hw2 : k0_chk2 v1), (k0_dev104 v1) < nD := fun v1 k0_hw2 => k0_hw2.2.1.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.1.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.1.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.1.2.2.2.2.2.2.2.2.2.2.2.2.2.2.2.2.2.2.2.2.2.2.1
theorem k0_dev112_lt : ∀ (v1 : BitVec 32) (k0_hw2 : k0_chk2 v1), (k0_dev112 v1) < nD := fun v1 k0_hw2 => k0_hw2.2.1.2.2.2.2.2.2.2.2.2.2.2.2.2.2.2.2.2.2.2.2.2.2.2.1
theorem k0_dev114_lt : ∀ (v1 : BitVec 32) (k0_hw2 : k0_chk2 v1), (k0_dev114 v1) < nD := fun v1 k0_hw2 => k0_hw2.2.1.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.1.2.2.2.2.2.2.2.2.2.2.2.2.2.2.2.2.2.2.2.2.2.2.2.2.2.1
theorem k0_dev117_lt : ∀ (v1 : BitVec 32) (k0_hw2 : k0_chk2 v1), (k0_dev117 v1) < nD := fun v1 k0_hw2 => k0_hw2.2.1.2.2.2.2.2.2.2.2.2.2.2.2.2.2.2.2.2.2.2.2.2.2.2.2.2.2.1
theorem k0_dev120_lt : ∀ (v1 : BitVec 32) (k0_hw2 : k0_chk2 v1), (k0_dev120 v1) < nD := fun v1 k0_hw2 => k0_hw2.2.1.2.2.2.2.2.2.2.2.2.2.2.2.2.2.2.2.2.2.2.2.2.2.2.2.2.2.2.1
theorem k0_dev122_lt : ∀ (v1 : BitVec 32) (k0_hw2 : k0_chk2 v1), (k0_dev122 v1) < nD := fun v1 k0_hw2 => k0_hw2.2.1.2.2.2.2.2.2.2.2.2.2.2.2.2.2.2.2.2.2.2.2.2.2.2.2.2.2.2.2.1
theorem k0_dev123_lt : ∀ (v1 : BitVec 32) (k0_hw2 : k0_chk2 v1), (k0_dev123 v1) < nD := fun v1 k0_hw2 => k0_hw2.2.1.2.2.2.2.2.2.2.2.2.2.2.2.2.2.2.2.2.2.2.2.2.2.2.2.2.2.2.2.2.1
theorem k0_dev125_lt : ∀ (v1 : BitVec 32) (k0_hw2 : k0_chk2 v1), (k0_dev125 v1) < nD := fun v1 k0_hw2 => k0_hw2.2.1.2.2.2.2.2.2.2.2.2.2.2.2.2.2.2.2.2.2.2.2.2.2.2.2.2.2.2.2.2.2.1
theorem k0_dev128_lt : ∀ (v1 : BitVec 32) (k0_hw2 : k0_chk2 v1), (k0_dev128 v1) < nD := fun v1 k0_hw2 => k0_hw2.2.1.2.2.2.2.2.2.2.2.2.2.2.2.2.2.2.2.2.2.2.2.2.2.2.2.2.2.2.2.2.2.2
theorem k0_dev130_lt : ∀ (v1 : BitVec 32) (k0_hw2 : k0_chk2 v1), (k0_dev130 v1) < nD := fun v1 k0_hw2 => k0_hw2.2.2.1.1
theorem k0_dev131_lt : ∀ (v1 : BitVec 32) (k0_hw2 : k0_chk2 v1), (k0_dev131 v1) < nD := fun v1 k0_hw2 => k0_hw2.2.2.1.2.1
theorem k0_dev133_lt : ∀ (v1 : BitVec 32) (k0_hw2 : k0_chk2 v1), (k0_dev133 v1) < nD := fun v1 k0_hw2 => k0_hw2.2.2.1.2.2.1
theorem k0_dev136_lt : ∀ (v1 : BitVec 32) (k0_hw2 : k0_chk2 v1), (k0_dev136 v1) < nD := fun v1 k0_hw2 => k0_hw2.2.2.1.2.2.2.1
theorem k0_dev138_lt : ∀ (v1 : BitVec 32) (k0_hw2 : k0_chk2 v1), (k0_dev138 v1) < nD := fun v1 k0_hw2 => k0_hw2.2.2.1.2.2.2.2.1
theorem k0_dev139_lt : ∀ (v1 : BitVec 32) (k0_hw2 : k0_chk2 v1), (k0_dev139 v1) < nD := fun v1 k0_hw2 => k0_hw2.2.2.1.2.2.2.2.2.1
theorem k0_dev141_lt : ∀ (v1 : BitVec 32) (k0_hw2 : k0_chk2 v1), (k0_dev141 v1) < nD := fun v1 k0_hw2 => k0_hw2.2.2.1.2.2.2.2.2.2.1
theorem k0_dev144_lt : ∀ (v1 : BitVec 32) (k0_hw2 : k0_chk2 v1), (k0_dev144 v1) < nD := fun v1 k0_hw2 => k0_hw2.2.2.1.2.2.2.2.2.2.2.1
theorem k0_dev146_lt : ∀ (v1 : BitVec 32) (k0_hw2 : k0_chk2 v1), (k0_dev146 v1) < nD := fun v1 k0_hw2 => k0_hw2.2.2.1.2.2.2.2.2.2.2.2.1
theorem k0_dev147_lt : ∀ (v1 : BitVec 32) (k0_hw2 : k0_chk2 v1), (k0_dev147 v1) < nD := fun v1 k0_hw2 => k0_hw2.2.2.1.2.2.2.2.2.2.2.2.2.1
theorem k0_dev149_lt : ∀ (v1 : BitVec 32) (k0_hw2 : k0_chk2 v1), (k0_dev149 v1) < nD := fun v1 k0_hw2 => k0_hw2.2.2.1.2.2.2.2.2.2.2.2.2.2.1
theorem k0_dev152_lt : ∀ (v1 : BitVec 32) (k0_hw2 : k0_chk2 v1), (k0_dev152 v1) < nD := fun v1 k0_hw2 => k0_hw2.2.2.1.2.2.2.2.2.2.2.2.2.2.2.1
theorem k0_dev154_lt : ∀ (v1 : BitVec 32) (k0_hw2 : k0_chk2 v1), (k0_dev154 v1) < nD := fun v1 k0_hw2 => k0_hw2.2.2.1.2.2.2.2.2.2.2.2.2.2.2.2.1
theorem k0_dev155_lt : ∀ (v1 : BitVec 32) (k0_hw2 : k0_chk2 v1), (k0_dev155 v1) < nD := fun v1 k0_hw2 => k0_hw2.2.2.1.2.2.2.2.2.2.2.2.2.2.2.2.2.1
theorem k0_dev157_lt : ∀ (v1 : BitVec 32) (k0_hw2 : k0_chk2 v1), (k0_dev157 v1) < nD := fun v1 k0_hw2 => k0_hw2.2.2.1.2.2.2.2.2.2.2.2.2.2.2.2.2.2.1
theorem k0_dev160_lt : ∀ (v1 : BitVec 32) (k0_hw2 : k0_chk2 v1), (k0_dev160 v1) < nD := fun v1 k0_hw2 => k0_hw2.2.2.1.2.2.2.2.2.2.2.2.2.2.2.2.2.2.2.1
theorem k0_dev162_lt : ∀ (v1 : BitVec 32) (k0_hw2 : k0_chk2 v1), (k0_dev162 v1) < nD := fun v1 k0_hw2 => k0_hw2.2.2.1.2.2.2.2.2.2.2.2.2.2.2.2.2.2.2.2.1
theorem k0_dev163_lt : ∀ (v1 : BitVec 32) (k0_hw2 : k0_chk2 v1), (k0_dev163 v1) < nD := fun v1 k0_hw2 => k0_hw2.2.2.1.2.2.2.2.2.2.2.2.2.2.2.2.2.2.2.2.2.1
theorem k0_dev165_lt : ∀ (v1 : BitVec 32) (k0_hw2 : k0_chk2 v1), (k0_dev165 v1) < nD := fun v1 k0_hw2 => k0_hw2.2.2.1.2.2.2.2.2.2.2.2.2.2.2.2.2.2.2.2.2.2.1
theorem k0_dev168_lt : ∀ (v1 : BitVec 32) (k0_hw2 : k0_chk2 v1), (k0_dev168 v1) < nD := fun v1 k0_hw2 => k0_hw2.2.2.1.2.2.2.2.2.2.2.2.2.2.2.2.2.2.2.2.2.2.2.1
theorem k0_dev170_lt : ∀ (v1 : BitVec 32) (k0_hw2 : k0_chk2 v1), (k0_dev170 v1) < nD := fun v1 k0_hw2 => k0_hw2.2.2.1.2.2.2.2.2.2.2.2.2.2.2.2.2.2.2.2.2.2.2.2.1
theorem k0_dev171_lt : ∀ (v1 : BitVec 32) (k0_hw2 : k0_chk2 v1), (k0_dev171 v1) < nD := fun v1 k0_hw2 => k0_hw2.2.2.1.2.2.2.2.2.2.2.2.2.2.2.2.2.2.2.2.2.2.2.2.2.1
theorem k0_dev173_lt : ∀ (v1 : BitVec 32) (k0_hw2 : k0_chk2 v1), (k0_dev173 v1) < nD := fun v1 k0_hw2 => k0_hw2.2.2.1.2.2.2.2.2.2.2.2.2.2.2.2.2.2.2.2.2.2.2.2.2.2.1
theorem k0_dev176_lt : ∀ (v1 : BitVec 32) (k0_hw2 : k0_chk2 v1), (k0_dev176 v1) < nD := fun v1 k0_hw2 => k0_hw2.2.2.1.2.2.2.2.2.2.2.2.2.2.2.2.2.2.2.2.2.2.2.2.2.2.2.1
theorem k0_dev178_lt : ∀ (v1 : BitVec 32) (k0_hw2 : k0_chk2 v1), (k0_dev178 v1) < nD := fun v1 k0_hw2 => k0_hw2.2.2.1.2.2.2.2.2.2.2.2.2.2.2.2.2.2.2.2.2.2.2.2.2.2.2.2.1
theorem k0_dev179_lt : ∀ (v1 : BitVec 32) (k0_hw2 : k0_chk2 v1), (k0_dev179 v1) < nD := fun v1 k0_hw2 => k0_hw2.2.2.1.2.2.2.2.2.2.2.2.2.2.2.2.2.2.2.2.2.2.2.2.2.2.2.2.2.1
theorem k0_dev181_lt : ∀ (v1 : BitVec 32) (k0_hw2 : k0_chk2 v1), (k0_dev181 v1) < nD := fun v1 k0_hw2 => k0_hw2.2.2.1.2.2.2.2.2.2.2.2.2.2.2.2.2.2.2.2.2.2.2.2.2.2.2.2.2.2.1
theorem k0_dev184_lt : ∀ (v1 : BitVec 32) (k0_hw2 : k0_chk2 v1), (k0_dev184 v1) < nD := fun v1 k0_hw2 => k0_hw2.2.2.1.2.2.2.2.2.2.2.2.2.2.2.2.2.2.2.2.2.2.2.2.2.2.2.2.2.2.2.1
theorem k0_dev186_lt : ∀ (v1 : BitVec 32) (k0_hw2 : k0_chk2 v1), (k0_dev186 v1) < nD := fun v1 k0_hw2 => k0_hw2.2.2.1.2.2.2.2.2.2.2.2.2.2.2.2.2.2.2.2.2.2.2.2.2.2.2.2.2.2.2.2.1
theorem k0_dev187_lt : ∀ (v1 : BitVec 32) (k0_hw2 : k0_chk2 v1), (k0_dev187 v1) < nD := fun v1 k0_hw2 => k0_hw2.2.2.1.2.2.2.2.2.2.2.2.2.2.2.2.2.2.2.2.2.2.2.2.2.2.2.2.2.2.2.2.2.1
theorem k0_dev189_lt : ∀ (v1 : BitVec 32) (k0_hw2 : k0_chk2 v1), (k0_dev189 v1) < nD := fun v1 k0_hw2 => k0_hw2.2.2.1.2.2.2.2.2.2.2.2.2.2.2.2.2.2.2.2.2.2.2.2.2.2.2.2.2.2.2.2.2.2.1
theorem k0_dev192_lt : ∀ (v1 : BitVec 32) (k0_hw2 : k0_chk2 v1), (k0_dev192 v1) < nD := fun v1 k0_hw2 => k0_hw2.2.2.1.2.2.2.2.2.2.2.2.2.2.2.2.2.2.2.2.2.2.2.2.2.2.2.2.2.2.2.2.2.2.2
theorem k0_dev194_lt : ∀ (v1 : BitVec 32) (k0_hw2 : k0_chk2 v1), (k0_dev194 v1) < nD := fun v1 k0_hw2 => k0_hw2.2.2.2.1.1
theorem k0_dev195_lt : ∀ (v1 : BitVec 32) (k0_hw2 : k0_chk2 v1), (k0_dev195 v1) < nD := fun v1 k0_hw2 => k0_hw2.2.2.2.1.2.1
theorem k0_dev197_lt : ∀ (v1 : BitVec 32) (k0_hw2 : k0_chk2 v1), (k0_dev197 v1) < nD := fun v1 k0_hw2 => k0_hw2.2.2.2.1.2.2.1
theorem k0_dev200_lt : ∀ (v1 : BitVec 32) (k0_hw2 : k0_chk2 v1), (k0_dev200 v1) < nD := fun v1 k0_hw2 => k0_hw2.2.2.2.1.2.2.2.1
theorem k0_dev202_lt : ∀ (v1 : BitVec 32) (k0_hw2 : k0_chk2 v1), (k0_dev202 v1) < nD := fun v1 k0_hw2 => k0_hw2.2.2.2.1.2.2.2.2.1
theorem k0_dev203_lt : ∀ (v1 : BitVec 32) (k0_hw2 : k0_chk2 v1), (k0_dev203 v1) < nD := fun v1 k0_hw2 => k0_hw2.2.2.2.1.2.2.2.2.2.1
theorem k0_dev205_lt : ∀ (v1 : BitVec 32) (k0_hw2 : k0_chk2 v1), (k0_dev205 v1) < nD := fun v1 k0_hw2 => k0_hw2.2.2.2.1.2.2.2.2.2.2.1
theorem k0_dev208_lt : ∀ (v1 : BitVec 32) (k0_hw2 : k0_chk2 v1), (k0_dev208 v1) < nD := fun v1 k0_hw2 => k0_hw2.2.2.2.1.2.2.2.2.2.2.2.1
theorem k0_dev210_lt : ∀ (v1 : BitVec 32) (k0_hw2 : k0_chk2 v1), (k0_dev210 v1) < nD := fun v1 k0_hw2 => k0_hw2.2.2.2.1.2.2.2.2.2.2.2.2.1
theorem k0_dev211_lt : ∀ (v1 : BitVec 32) (k0_hw2 : k0_chk2 v1), (k0_dev211 v1) < nD := fun v1 k0_hw2 => k0_hw2.2.2.2.1.2.2.2.2.2.2.2.2.2.1
theorem k0_dev213_lt : ∀ (v1 : BitVec 32) (k0_hw2 : k0_chk2 v1), (k0_dev213 v1) < nD := fun v1 k0_hw2 => k0_hw2.2.2.2.1.2.2.2.2.2.2.2.2.2.2.1
theorem k0_dev216_lt : ∀ (v1 : BitVec 32) (k0_hw2 : k0_chk2 v1), (k0_dev216 v1) < nD := fun v1 k0_hw2 => k0_hw2.2.2.2.1.2.2.2.2.2.2.2.2.2.2.2.1
theorem k0_dev218_lt : ∀ (v1 : BitVec 32) (k0_hw2 : k0_chk2 v1), (k0_dev218 v1) < nD := fun v1 k0_hw2 => k0_hw2.2.2.2.1.2.2.2.2.2.2.2.2.2.2.2.2.1
theorem k0_dev219_lt : ∀ (v1 : BitVec 32) (k0_hw2 : k0_chk2 v1), (k0_dev219 v1) < nD := fun v1 k0_hw2 => k0_hw2.2.2.2.1.2.2.2.2.2.2.2.2.2.2.2.2.2.1
theorem k0_dev221_lt : ∀ (v1 : BitVec 32) (k0_hw2 : k0_chk2 v1), (k0_dev221 v1) < nD := fun v1 k0_hw2 => k0_hw2.2.2.2.1.2.2.2.2.2.2.2.2.2.2.2.2.2.2.1
theorem k0_dev224_lt : ∀ (v1 : BitVec 32) (k0_hw2 : k0_chk2 v1), (k0_dev224 v1) < nD := fun v1 k0_hw2 => k0_hw2.2.2.2.1.2.2.2.2.2.2.2.2.2.2.2.2.2.2.2.1
theorem k0_dev226_lt : ∀ (v1 : BitVec 32) (k0_hw2 : k0_chk2 v1), (k0_dev226 v1) < nD := fun v1 k0_hw2 => k0_hw2.2.2.2.1.2.2.2.2.2.2.2.2.2.2.2.2.2.2.2.2.1
theorem k0_dev227_lt : ∀ (v1 : BitVec 32) (k0_hw2 : k0_chk2 v1), (k0_dev227 v1) < nD := fun v1 k0_hw2 => k0_hw2.2.2.2.1.2.2.2.2.2.2.2.2.2.2.2.2.2.2.2.2.2.1
theorem k0_dev229_lt : ∀ (v1 : BitVec 32) (k0_hw2 : k0_chk2 v1), (k0_dev229 v1) < nD := fun v1 k0_hw2 => k0_hw2.2.2.2.1.2.2.2.2.2.2.2.2.2.2.2.2.2.2.2.2.2.2.1
theorem k0_dev232_lt : ∀ (v1 : BitVec 32) (k0_hw2 : k0_chk2 v1), (k0_dev232 v1) < nD := fun v1 k0_hw2 => k0_hw2.2.2.2.1.2.2.2.2.2.2.2.2.2.2.2.2.2.2.2.2.2.2.2.1
theorem k0_dev234_lt : ∀ (v1 : BitVec 32) (k0_hw2 : k0_chk2 v1), (k0_dev234 v1) < nD := fun v1 k0_hw2 => k0_hw2.2.2.2.1.2.2.2.2.2.2.2.2.2.2.2.2.2.2.2.2.2.2.2.2.1
theorem k0_dev235_lt : ∀ (v1 : BitVec 32) (k0_hw2 : k0_chk2 v1), (k0_dev235 v1) < nD := fun v1 k0_hw2 => k0_hw2.2.2.2.1.2.2.2.2.2.2.2.2.2.2.2.2.2.2.2.2.2.2.2.2.2.1
theorem k0_dev237_lt : ∀ (v1 : BitVec 32) (k0_hw2 : k0_chk2 v1), (k0_dev237 v1) < nD := fun v1 k0_hw2 => k0_hw2.2.2.2.1.2.2.2.2.2.2.2.2.2.2.2.2.2.2.2.2.2.2.2.2.2.2.1
theorem k0_dev240_lt : ∀ (v1 : BitVec 32) (k0_hw2 : k0_chk2 v1), (k0_dev240 v1) < nD := fun v1 k0_hw2 => k0_hw2.2.2.2.1.2.2.2.2.2.2.2.2.2.2.2.2.2.2.2.2.2.2.2.2.2.2.2.1
theorem k0_dev242_lt : ∀ (v1 : BitVec 32) (k0_hw2 : k0_chk2 v1), (k0_dev242 v1) < nD := fun v1 k0_hw2 => k0_hw2.2.2.2.1.2.2.2.2.2.2.2.2.2.2.2.2.2.2.2.2.2.2.2.2.2.2.2.2.1
theorem k0_dev243_lt : ∀ (v1 : BitVec 32) (k0_hw2 : k0_chk2 v1), (k0_dev243 v1) < nD := fun v1 k0_hw2 => k0_hw2.2.2.2.1.2.2.2.2.2.2.2.2.2.2.2.2.2.2.2.2.2.2.2.2.2.2.2.2.2.1
theorem k0_dev245_lt : ∀ (v1 : BitVec 32) (k0_hw2 : k0_chk2 v1), (k0_dev245 v1) < nD := fun v1 k0_hw2 => k0_hw2.2.2.2.1.2.2.2.2.2.2.2.2.2.2.2.2.2.2.2.2.2.2.2.2.2.2.2.2.2.2.1
theorem k0_dev249_lt : ∀ (v1 : BitVec 32) (k0_hw2 : k0_chk2 v1), (k0_dev249 v1) < nD := fun v1 k0_hw2 => k0_hw2.2.2.2.1.2.2.2.2.2.2.2.2.2.2.2.2.2.2.2.2.2.2.2.2.2.2.2.2.2.2.2.1
theorem k0_dev250_lt : ∀ (v1 : BitVec 32) (k0_hw2 : k0_chk2 v1), (k0_dev250 v1) < nD := fun v1 k0_hw2 => k0_hw2.2.2.2.1.2.2.2.2.2.2.2.2.2.2.2.2.2.2.2.2.2.2.2.2.2.2.2.2.2.2.2.2.1
theorem k0_dev256_lt : ∀ (v1 : BitVec 32) (k0_hw2 : k0_chk2 v1), (k0_dev256 v1) < nD := fun v1 k0_hw2 => k0_hw2.2.2.2.1.2.2.2.2.2.2.2.2.2.2.2.2.2.2.2.2.2.2.2.2.2.2.2.2.2.2.2.2.2.1
theorem k0_dev258_lt : ∀ (v1 : BitVec 32) (k0_hw2 : k0_chk2 v1), (k0_dev258 v1) < nD := fun v1 k0_hw2 => k0_hw2.2.2.2.1.2.2.2.2.2.2.2.2.2.2.2.2.2.2.2.2.2.2.2.2.2.2.2.2.2.2.2.2.2.2.1
theorem k0_dev262_lt : ∀ (v1 : BitVec 32) (k0_hw2 : k0_chk2 v1), (k0_dev262 v1) < nD := fun v1 k0_hw2 => k0_hw2.2.2.2.1.2.2.2.2.2.2.2.2.2.2.2.2.2.2.2.2.2.2.2.2.2.2.2.2.2.2.2.2.2.2.2
theorem k0_dev263_lt : ∀ (v1 : BitVec 32) (k0_hw2 : k0_chk2 v1), (k0_dev263 v1) < nD := fun v1 k0_hw2 => k0_hw2.2.2.2.2.1.1
theorem k0_dev264_lt : ∀ (v1 : BitVec 32) (k0_hw2 : k0_chk2 v1), (k0_dev264 v1) < nD := fun v1 k0_hw2 => k0_hw2.2.2.2.2.1.2.1
theorem k0_dev268_lt : ∀ (v1 : BitVec 32) (k0_hw2 : k0_chk2 v1), (k0_dev268 v1) < nD := fun v1 k0_hw2 => k0_hw2.2.2.2.2.1.2.2.1
theorem k0_dev269_lt : ∀ (v1 : BitVec 32) (k0_hw2 : k0_chk2 v1), (k0_dev269 v1) < nD := fun v1 k0_hw2 => k0_hw2.2.2.2.2.1.2.2.2.1
theorem k0_dev270_lt : ∀ (v1 : BitVec 32) (k0_hw2 : k0_chk2 v1), (k0_dev270 v1) < nD := fun v1 k0_hw2 => k0_hw2.2.2.2.2.1.2.2.2.2.1
theorem k0_dev274_lt : ∀ (v1 : BitVec 32) (k0_hw2 : k0_chk2 v1), (k0_dev274 v1) < nD := fun v1 k0_hw2 => k0_hw2.2.2.2.2.1.2.2.2.2.2.1
theorem k0_dev275_lt : ∀ (v1 : BitVec 32) (k0_hw2 : k0_chk2 v1), (k0_dev275 v1) < nD := fun v1 k0_hw2 => k0_hw2.2.2.2.2.1.2.2.2.2.2.2.1
theorem k0_dev276_lt : ∀ (v1 : BitVec 32) (k0_hw2 : k0_chk2 v1), (k0_dev276 v1) < nD := fun v1 k0_hw2 => k0_hw2.2.2.2.2.1.2.2.2.2.2.2.2.1
theorem k0_dev280_lt : ∀ (v1 : BitVec 32) (k0_hw2 : k0_chk2 v1), (k0_dev280 v1) < nD := fun v1 k0_hw2 => k0_hw2.2.2.2.2.1.2.2.2.2.2.2.2.2.1
theorem k0_dev281_lt : ∀ (v1 : BitVec 32) (k0_hw2 : k0_chk2 v1), (k0_dev281 v1) < nD := fun v1 k0_hw2 => k0_hw2.2.2.2.2.1.2.2.2.2.2.2.2.2.2.1
theorem k0_dev282_lt : ∀ (v1 : BitVec 32) (k0_hw2 : k0_chk2 v1), (k0_dev282 v1) < nD := fun v1 k0_hw2 => k0_hw2.2.2.2.2.1.2.2.2.2.2.2.2.2.2.2.1
theorem k0_dev286_lt : ∀ (v1 : BitVec 32) (k0_hw2 : k0_chk2 v1), (k0_dev286 v1) < nD := fun v1 k0_hw2 => k0_hw2.2.2.2.2.1.2.2.2.2.2.2.2.2.2.2.2.1
theorem k0_dev287_lt : ∀ (v1 : BitVec 32) (k0_hw2 : k0_chk2 v1), (k0_dev287 v1) < nD := fun v1 k0_hw2 => k0_hw2.2.2.2.2.1.2.2.2.2.2.2.2.2.2.2.2.2.1
theorem k0_dev288_lt : ∀ (v1 : BitVec 32) (k0_hw2 : k0_chk2 v1), (k0_dev288 v1) < nD := fun v1 k0_hw2 => k0_hw2.2.2.2.2.1.2.2.2.2.2.2.2.2.2.2.2.2.2.1
theorem k0_dev292_lt : ∀ (v1 : BitVec 32) (k0_hw2 : k0_chk2 v1), (k0_dev292 v1) < nD := fun v1 k0_hw2 => k0_hw2.2.2.2.2.1.2.2.2.2.2.2.2.2.2.2.2.2.2.2.1
theorem k0_dev293_lt : ∀ (v1 : BitVec 32) (k0_hw2 : k0_chk2 v1), (k0_dev293 v1) < nD := fun v1 k0_hw2 => k0_hw2.2.2.2.2.1.2.2.2.2.2.2.2.2.2.2.2.2.2.2.2.1
theorem k0_dev294_lt : ∀ (v1 : BitVec 32) (k0_hw2 : k0_chk2 v1), (k0_dev294 v1) < nD := fun v1 k0_hw2 => k0_hw2.2.2.2.2.1.2.2.2.2.2.2.2.2.2.2.2.2.2.2.2.2.1
theorem k0_dev298_lt : ∀ (v1 : BitVec 32) (k0_hw2 : k0_chk2 v1), (k0_dev298 v1) < nD := fun v1 k0_hw2 => k0_hw2.2.2.2.2.1.2.2.2.2.2.2.2.2.2.2.2.2.2.2.2.2.2.1
theorem k0_dev299_lt : ∀ (v1 : BitVec 32) (k0_hw2 : k0_chk2 v1), (k0_dev299 v1) < nD := fun v1 k0_hw2 => k0_hw2.2.2.2.2.1.2.2.2.2.2.2.2.2.2.2.2.2.2.2.2.2.2.2.1
theorem k0_dev300_lt : ∀ (v1 : BitVec 32) (k0_hw2 : k0_chk2 v1), (k0_dev300 v1) < nD := fun v1 k0_hw2 => k0_hw2.2.2.2.2.1.2.2.2.2.2.2.2.2.2.2.2.2.2.2.2.2.2.2.2.1
theorem k0_dev304_lt : ∀ (v1 : BitVec 32) (k0_hw2 : k0_chk2 v1), (k0_dev304 v1) < nD := fun v1 k0_hw2 => k0_hw2.2.2.2.2.1.2.2.2.2.2.2.2.2.2.2.2.2.2.2.2.2.2.2.2.2.1
theorem k0_dev305_lt : ∀ (v1 : BitVec 32) (k0_hw2 : k0_chk2 v1), (k0_dev305 v1) < nD := fun v1 k0_hw2 => k0_hw2.2.2.2.2.1.2.2.2.2.2.2.2.2.2.2.2.2.2.2.2.2.2.2.2.2.2.1
theorem k0_dev306_lt : ∀ (v1 : BitVec 32) (k0_hw2 : k0_chk2 v1), (k0_dev306 v1) < nD := fun v1 k0_hw2 => k0_hw2.2.2.2.2.1.2.2.2.2.2.2.2.2.2.2.2.2.2.2.2.2.2.2.2.2.2.2.1
theorem k0_dev310_lt : ∀ (v1 : BitVec 32) (k0_hw2 : k0_chk2 v1), (k0_dev310 v1) < nD := fun v1 k0_hw2 => k0_hw2.2.2.2.2.1.2.2.2.2.2.2.2.2.2.2.2.2.2.2.2.2.2.2.2.2.2.2.2.1
theorem k0_dev311_lt : ∀ (v1 : BitVec 32) (k0_hw2 : k0_chk2 v1), (k0_dev311 v1) < nD := fun v1 k0_hw2 => k0_hw2.2.2.2.2.1.2.2.2.2.2.2.2.2.2.2.2.2.2.2.2.2.2.2.2.2.2.2.2.2.1
theorem k0_dev312_lt : ∀ (v1 : BitVec 32) (k0_hw2 : k0_chk2 v1), (k0_dev312 v1) < nD := fun v1 k0_hw2 => k0_hw2.2.2.2.2.1.2.2.2.2.2.2.2.2.2.2.2.2.2.2.2.2.2.2.2.2.2.2.2.2.2.1
theorem k0_dev316_lt : ∀ (v1 : BitVec 32) (k0_hw2 : k0_chk2 v1), (k0_dev316 v1) < nD := fun v1 k0_hw2 => k0_hw2.2.2.2.2.1.2.2.2.2.2.2.2.2.2.2.2.2.2.2.2.2.2.2.2.2.2.2.2.2.2.2.1
theorem k0_dev317_lt : ∀ (v1 : BitVec 32) (k0_hw2 : k0_chk2 v1), (k0_dev317 v1) < nD := fun v1 k0_hw2 => k0_hw2.2.2.2.2.1.2.2.2.2.2.2.2.2.2.2.2.2.2.2.2.2.2.2.2.2.2.2.2.2.2.2.2.1
theorem k0_dev318_lt : ∀ (v1 : BitVec 32) (k0_hw2 : k0_chk2 v1), (k0_dev318 v1) < nD := fun v1 k0_hw2 => k0_hw2.2.2.2.2.1.2.2.2.2.2.2.2.2.2.2.2.2.2.2.2.2.2.2.2.2.2.2.2.2.2.2.2.2.1
theorem k0_dev322_lt : ∀ (v1 : BitVec 32) (k0_hw2 : k0_chk2 v1), (k0_dev322 v1) < nD := fun v1 k0_hw2 => k0_hw2.2.2.2.2.1.2.2.2.2.2.2.2.2.2.2.2.2.2.2.2.2.2.2.2.2.2.2.2.2.2.2.2.2.2.1
theorem k0_dev323_lt : ∀ (v1 : BitVec 32) (k0_hw2 : k0_chk2 v1), (k0_dev323 v1) < nD := fun v1 k0_hw2 => k0_hw2.2.2.2.2.1.2.2.2.2.2.2.2.2.2.2.2.2.2.2.2.2.2.2.2.2.2.2.2.2.2.2.2.2.2.2.1
theorem k0_dev324_lt : ∀ (v1 : BitVec 32) (k0_hw2 : k0_chk2 v1), (k0_dev324 v1) < nD := fun v1 k0_hw2 => k0_hw2.2.2.2.2.1.2.2.2.2.2.2.2.2.2.2.2.2.2.2.2.2.2.2.2.2.2.2.2.2.2.2.2.2.2.2.2
theorem k0_dev328_lt : ∀ (v1 : BitVec 32) (k0_hw2 : k0_chk2 v1), (k0_dev328 v1) < nD := fun v1 k0_hw2 => k0_hw2.2.2.2.2.2.1.1
theorem k0_dev329_lt : ∀ (v1 : BitVec 32) (k0_hw2 : k0_chk2 v1), (k0_dev329 v1) < nD := fun v1 k0_hw2 => k0_hw2.2.2.2.2.2.1.2.1
theorem k0_dev330_lt : ∀ (v1 : BitVec 32) (k0_hw2 : k0_chk2 v1), (k0_dev330 v1) < nD := fun v1 k0_hw2 => k0_hw2.2.2.2.2.2.1.2.2.1
theorem k0_dev334_lt : ∀ (v1 : BitVec 32) (k0_hw2 : k0_chk2 v1), (k0_dev334 v1) < nD := fun v1 k0_hw2 => k0_hw2.2.2.2.2.2.1.2.2.2.1
theorem k0_dev335_lt : ∀ (v1 : BitVec 32) (k0_hw2 : k0_chk2 v1), (k0_dev335 v1) < nD := fun v1 k0_hw2 => k0_hw2.2.2.2.2.2.1.2.2.2.2.1
theorem k0_dev336_lt : ∀ (v1 : BitVec 32) (k0_hw2 : k0_chk2 v1), (k0_dev336 v1) < nD := fun v1 k0_hw2 => k0_hw2.2.2.2.2.2.1.2.2.2.2.2.1
theorem k0_dev340_lt : ∀ (v1 : BitVec 32) (k0_hw2 : k0_chk2 v1), (k0_dev340 v1) < nD := fun v1 k0_hw2 => k0_hw2.2.2.2.2.2.1.2.2.2.2.2.2.1
theorem k0_dev341_lt : ∀ (v1 : BitVec 32) (k0_hw2 : k0_chk2 v1), (k0_dev341 v1) < nD := fun v1 k0_hw2 => k0_hw2.2.2.2.2.2.1.2.2.2.2.2.2.2.1
theorem k0_dev342_lt : ∀ (v1 : BitVec 32) (k0_hw2 : k0_chk2 v1), (k0_dev342 v1) < nD := fun v1 k0_hw2 => k0_hw2.2.2.2.2.2.1.2.2.2.2.2.2.2.2.1
theorem k0_dev346_lt : ∀ (v1 : BitVec 32) (k0_hw2 : k0_chk2 v1), (k0_dev346 v1) < nD := fun v1 k0_hw2 => k0_hw2.2.2.2.2.2.1.2.2.2.2.2.2.2.2.2.1
theorem k0_dev347_lt : ∀ (v1 : BitVec 32) (k0_hw2 : k0_chk2 v1), (k0_dev347 v1) < nD := fun v1 k0_hw2 => k0_hw2.2.2.2.2.2.1.2.2.2.2.2.2.2.2.2.2.1
theorem k0_dev348_lt : ∀ (v1 : BitVec 32) (k0_hw2 : k0_chk2 v1), (k0_dev348 v1) < nD := fun v1 k0_hw2 => k0_hw2.2.2.2.2.2.1.2.2.2.2.2.2.2.2.2.2.2.1
theorem k0_dev352_lt : ∀ (v1 : BitVec 32) (k0_hw2 : k0_chk2 v1), (k0_dev352 v1) < nD := fun v1 k0_hw2 => k0_hw2.2.2.2.2.2.1.2.2.2.2.2.2.2.2.2.2.2.2.1
theorem k0_dev353_lt : ∀ (v1 : BitVec 32) (k0_hw2 : k0_chk2 v1), (k0_dev353 v1) < nD := fun v1 k0_hw2 => k0_hw2.2.2.2.2.2.1.2.2.2.2.2.2.2.2.2.2.2.2.2.1
theorem k0_dev354_lt : ∀ (v1 : BitVec 32) (k0_hw2 : k0_chk2 v1), (k0_dev354 v1) < nD := fun v1 k0_hw2 => k0_hw2.2.2.2.2.2.1.2.2.2.2.2.2.2.2.2.2.2.2.2.2.1
theorem k0_dev358_lt : ∀ (v1 : BitVec 32) (k0_hw2 : k0_chk2 v1), (k0_dev358 v1) < nD := fun v1 k0_hw2 => k0_hw2.2.2.2.2.2.1.2.2.2.2.2.2.2.2.2.2.2.2.2.2.2.1
theorem k0_dev359_lt : ∀ (v1 : BitVec 32) (k0_hw2 : k0_chk2 v1), (k0_dev359 v1) < nD := fun v1 k0_hw2 => k0_hw2.2.2.2.2.2.1.2.2.2.2.2.2.2.2.2.2.2.2.2.2.2.2.1
theorem k0_dev360_lt : ∀ (v1 : BitVec 32) (k0_hw2 : k0_chk2 v1), (k0_dev360 v1) < nD := fun v1 k0_hw2 => k0_hw2.2.2.2.2.2.1.2.2.2.2.2.2.2.2.2.2.2.2.2.2.2.2.2.1
theorem k0_dev364_lt : ∀ (v1 : BitVec 32) (k0_hw2 : k0_chk2 v1), (k0_dev364 v1) < nD := fun v1 k0_hw2 => k0_hw2.2.2.2.2.2.1.2.2.2.2.2.2.2.2.2.2.2.2.2.2.2.2.2.2.1
theorem k0_dev365_lt : ∀ (v1 : BitVec 32) (k0_hw2 : k0_chk2 v1), (k0_dev365 v1) < nD := fun v1 k0_hw2 => k0_hw2.2.2.2.2.2.1.2.2.2.2.2.2.2.2.2.2.2.2.2.2.2.2.2.2.2.1
theorem k0_dev366_lt : ∀ (v1 : BitVec 32) (k0_hw2 : k0_chk2 v1), (k0_dev366 v1) < nD := fun v1 k0_hw2 => k0_hw2.2.2.2.2.2.1.2.2.2.2.2.2.2.2.2.2.2.2.2.2.2.2.2.2.2.2.1
theorem k0_dev370_lt : ∀ (v1 : BitVec 32) (k0_hw2 : k0_chk2 v1), (k0_dev370 v1) < nD := fun v1 k0_hw2 => k0_hw2.2.2.2.2.2.1.2.2.2.2.2.2.2.2.2.2.2.2.2.2.2.2.2.2.2.2.2.1
theorem k0_dev371_lt : ∀ (v1 : BitVec 32) (k0_hw2 : k0_chk2 v1), (k0_dev371 v1) < nD := fun v1 k0_hw2 => k0_hw2.2.2.2.2.2.1.2.2.2.2.2.2.2.2.2.2.2.2.2.2.2.2.2.2.2.2.2.2.1
theorem k0_dev372_lt : ∀ (v1 : BitVec 32) (k0_hw2 : k0_chk2 v1), (k0_dev372 v1) < nD := fun v1 k0_hw2 => k0_hw2.2.2.2.2.2.1.2.2.2.2.2.2.2.2.2.2.2.2.2.2.2.2.2.2.2.2.2.2.2.1
theorem k0_dev376_lt : ∀ (v1 : BitVec 32) (k0_hw2 : k0_chk2 v1), (k0_dev376 v1) < nD := fun v1 k0_hw2 => k0_hw2.2.2.2.2.2.1.2.2.2.2.2.2.2.2.2.2.2.2.2.2.2.2.2.2.2.2.2.2.2.2.1
theorem k0_dev377_lt : ∀ (v1 : BitVec 32) (k0_hw2 : k0_chk2 v1), (k0_dev377 v1) < nD := fun v1 k0_hw2 => k0_hw2.2.2.2.2.2.1.2.2.2.2.2.2.2.2.2.2.2.2.2.2.2.2.2.2.2.2.2.2.2.2.2.1
theorem k0_dev378_lt : ∀ (v1 : BitVec 32) (k0_hw2 : k0_chk2 v1), (k0_dev378 v1) < nD := fun v1 k0_hw2 => k0_hw2.2.2.2.2.2.1.2.2.2.2.2.2.2.2.2.2.2.2.2.2.2.2.2.2.2.2.2.2.2.2.2.2.1
theorem k0_dev382_lt : ∀ (v1 : BitVec 32) (k0_hw2 : k0_chk2 v1), (k0_dev382 v1) < nD := fun v1 k0_hw2 => k0_hw2.2.2.2.2.2.1.2.2.2.2.2.2.2.2.2.2.2.2.2.2.2.2.2.2.2.2.2.2.2.2.2.2.2.1
theorem k0_dev383_lt : ∀ (v1 : BitVec 32) (k0_hw2 : k0_chk2 v1), (k0_dev383 v1) < nD := fun v1 k0_hw2 => k0_hw2.2.2.2.2.2.1.2.2.2.2.2.2.2.2.2.2.2.2.2.2.2.2.2.2.2.2.2.2.2.2.2.2.2.2.1
theorem k0_dev384_lt : ∀ (v1 : BitVec 32) (k0_hw2 : k0_chk2 v1), (k0_dev384 v1) < nD := fun v1 k0_hw2 => k0_hw2.2.2.2.2.2.1.2.2.2.2.2.2.2.2.2.2.2.2.2.2.2.2.2.2.2.2.2.2.2.2.2.2.2.2.2.1
theorem k0_dev388_lt : ∀ (v1 : BitVec 32) (k0_hw2 : k0_chk2 v1), (k0_dev388 v1) < nD := fun v1 k0_hw2 => k0_hw2.2.2.2.2.2.1.2.2.2.2.2.2.2.2.2.2.2.2.2.2.2.2.2.2.2.2.2.2.2.2.2.2.2.2.2.2.1
theorem k0_dev389_lt : ∀ (v1 : BitVec 32) (k0_hw2 : k0_chk2 v1), (k0_dev389 v1) < nD := fun v1 k0_hw2 => k0_hw2.2.2.2.2.2.1.2.2.2.2.2.2.2.2.2.2.2.2.2.2.2.2.2.2.2.2.2.2.2.2.2.2.2.2.2.2.2
theorem k0_dev390_lt : ∀ (v1 : BitVec 32) (k0_hw2 : k0_chk2 v1), (k0_dev390 v1) < nD := fun v1 k0_hw2 => k0_hw2.2.2.2.2.2.2.1
theorem k0_dev394_lt : ∀ (v1 : BitVec 32) (k0_hw2 : k0_chk2 v1), (k0_dev394 v1) < nD := fun v1 k0_hw2 => k0_hw2.2.2.2.2.2.2.2.1
theorem k0_dev395_lt : ∀ (v1 : BitVec 32) (k0_hw2 : k0_chk2 v1), (k0_dev395 v1) < nD := fun v1 k0_hw2 => k0_hw2.2.2.2.2.2.2.2.2.1
theorem k0_dev396_lt : ∀ (v1 : BitVec 32) (k0_hw2 : k0_chk2 v1), (k0_dev396 v1) < nD := fun v1 k0_hw2 => k0_hw2.2.2.2.2.2.2.2.2.2.1
theorem k0_dev400_lt : ∀ (v1 : BitVec 32) (k0_hw2 : k0_chk2 v1), (k0_dev400 v1) < nD := fun v1 k0_hw2 => k0_hw2.2.2.2.2.2.2.2.2.2.2.1
theorem k0_dev401_lt : ∀ (v1 : BitVec 32) (k0_hw2 : k0_chk2 v1), (k0_dev401 v1) < nD := fun v1 k0_hw2 => k0_hw2.2.2.2.2.2.2.2.2.2.2.2.1
theorem k0_dev402_lt : ∀ (v1 : BitVec 32) (k0_hw2 : k0_chk2 v1), (k0_dev402 v1) < nD := fun v1 k0_hw2 => k0_hw2.2.2.2.2.2.2.2.2.2.2.2.2.1
theorem k0_dev406_lt : ∀ (v1 : BitVec 32) (k0_hw2 : k0_chk2 v1), (k0_dev406 v1) < nD := fun v1 k0_hw2 => k0_hw2.2.2.2.2.2.2.2.2.2.2.2.2.2.1
theorem k0_dev407_lt : ∀ (v1 : BitVec 32) (k0_hw2 : k0_chk2 v1), (k0_dev407 v1) < nD := fun v1 k0_hw2 => k0_hw2.2.2.2.2.2.2.2.2.2.2.2.2.2.2.1
theorem k0_dev408_lt : ∀ (v1 : BitVec 32) (k0_hw2 : k0_chk2 v1), (k0_dev408 v1) < nD := fun v1 k0_hw2 => k0_hw2.2.2.2.2.2.2.2.2.2.2.2.2.2.2.2.1
theorem k0_dev412_lt : ∀ (v1 : BitVec 32) (k0_hw2 : k0_chk2 v1), (k0_dev412 v1) < nD := fun v1 k0_hw2 => k0_hw2.2.2.2.2.2.2.2.2.2.2.2.2.2.2.2.2.1
theorem k0_dev413_lt : ∀ (v1 : BitVec 32) (k0_hw2 : k0_chk2 v1), (k0_dev413 v1) < nD := fun v1 k0_hw2 => k0_hw2.2.2.2.2.2.2.2.2.2.2.2.2.2.2.2.2.2.1
theorem k0_dev414_lt : ∀ (v1 : BitVec 32) (k0_hw2 : k0_chk2 v1), (k0_dev414 v1) < nD := fun v1 k0_hw2 => k0_hw2.2.2.2.2.2.2.2.2.2.2.2.2.2.2.2.2.2.2.1
theorem k0_dev418_lt : ∀ (v1 : BitVec 32) (k0_hw2 : k0_chk2 v1), (k0_dev418 v1) < nD := fun v1 k0_hw2 => k0_hw2.2.2.2.2.2.2.2.2.2.2.2.2.2.2.2.2.2.2.2.1
theorem k0_dev419_lt : ∀ (v1 : BitVec 32) (k0_hw2 : k0_chk2 v1), (k0_dev419 v1) < nD := fun v1 k0_hw2 => k0_hw2.2.2.2.2.2.2.2.2.2.2.2.2.2.2.2.2.2.2.2.2.1
theorem k0_dev420_lt : ∀ (v1 : BitVec 32) (k0_hw2 : k0_chk2 v1), (k0_dev420 v1) < nD := fun v1 k0_hw2 => k0_hw2.2.2.2.2.2.2.2.2.2.2.2.2.2.2.2.2.2.2.2.2.2.1
theorem k0_dev424_lt : ∀ (v1 : BitVec 32) (k0_hw2 : k0_chk2 v1), (k0_dev424 v1) < nD := fun v1 k0_hw2 => k0_hw2.2.2.2.2.2.2.2.2.2.2.2.2.2.2.2.2.2.2.2.2.2.2.1
theorem k0_dev425_lt : ∀ (v1 : BitVec 32) (k0_hw2 : k0_chk2 v1), (k0_dev425 v1) < nD := fun v1 k0_hw2 => k0_hw2.2.2.2.2.2.2.2.2.2.2.2.2.2.2.2.2.2.2.2.2.2.2.2.1
theorem k0_dev426_lt : ∀ (v1 : BitVec 32) (k0_hw2 : k0_chk2 v1), (k0_dev426 v1) < nD := fun v1 k0_hw2 => k0_hw2.2.2.2.2.2.2.2.2.2.2.2.2.2.2.2.2.2.2.2.2.2.2.2.2.1
theorem k0_dev430_lt : ∀ (v1 : BitVec 32) (k0_hw2 : k0_chk2 v1), (k0_dev430 v1) < nD := fun v1 k0_hw2 => k0_hw2.2.2.2.2.2.2.2.2.2.2.2.2.2.2.2.2.2.2.2.2.2.2.2.2.2.1
theorem k0_dev431_lt : ∀ (v1 : BitVec 32) (k0_hw2 : k0_chk2 v1), (k0_dev431 v1) < nD := fun v1 k0_hw2 => k0_hw2.2.2.2.2.2.2.2.2.2.2.2.2.2.2.2.2.2.2.2.2.2.2.2.2.2.2.1
theorem k0_dev432_lt : ∀ (v1 : BitVec 32) (k0_hw2 : k0_chk2 v1), (k0_dev432 v1) < nD := fun v1 k0_hw2 => k0_hw2.2.2.2.2.2.2.2.2.2.2.2.2.2.2.2.2.2.2.2.2.2.2.2.2.2.2.2.1
theorem k0_dev436_lt : ∀ (v1 : BitVec 32) (k0_hw2 : k0_chk2 v1), (k0_dev436 v1) < nD := fun v1 k0_hw2 => k0_hw2.2.2.2.2.2.2.2.2.2.2.2.2.2.2.2.2.2.2.2.2.2.2.2.2.2.2.2.2.1
theorem k0_dev437_lt : ∀ (v1 : BitVec 32) (k0_hw2 : k0_chk2 v1), (k0_dev437 v1) < nD := fun v1 k0_hw2 => k0_hw2.2.2.2.2.2.2.2.2.2.2.2.2.2.2.2.2.2.2.2.2.2.2.2.2.2.2.2.2.2.1
theorem k0_dev440_lt : ∀ (v1 : BitVec 32) (k0_hw2 : k0_chk2 v1), (k0_dev440 v1) < nD := fun v1 k0_hw2 => k0_hw2.2.2.2.2.2.2.2.2.2.2.2.2.2.2.2.2.2.2.2.2.2.2.2.2.2.2.2.2.2.2.1
theorem k0_dev441_lt : ∀ (v1 : BitVec 32) (k0_hw2 : k0_chk2 v1), (k0_dev441 v1) < nD := fun v1 k0_hw2 => k0_hw2.2.2.2.2.2.2.2.2.2.2.2.2.2.2.2.2.2.2.2.2.2.2.2.2.2.2.2.2.2.2.2

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S32 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .local _ .vmem, ⟨0, _⟩ => ⟨S4096x4096, .f32⟩
  | .local _ .vmem, ⟨1, _⟩ => ⟨S4096x8192, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Loop.lean ====
/-
  The kernel function as a LOOP: the printed body writes out every step of its two rings, one after another; here the
  same operations are given once per kind of step, over the direction, the half of the row block and the step's number,
  and `body_eq` says the two are one program.
-/
module

public import proofs.«01_k».proof.Proof.Gen.KernelIdeal
public import Idealize.ShloMosaic.Lib.Pipeline.Regions

@[expose] public section

noncomputable section

namespace Cert.Proof

open Cert.KernelIdeal Cert.KernelIdeal.Facts₀
open Idealize.ShloMosaic Idealize.ShloMosaic.TcCoe Idealize.SL.Sem

variable {F : FTy → Type} [FloatOps F]

/-- A program of the kernel's own. -/
abbrev P (F : FTy → Type) := Prog (TpuEff nD τ sig (Elt F) Λ₀ .tc) PUnit

/-! ## The parts of the scratch arrays -/

theorem inb_half (slot sub : Fin 2) : ∀ a, (![slot.val, 0, sub.val * 2048] : Fin 3 → Nat) a + S1x128x2048.size a ≤ S2x128x4096.size a := by
  revert slot sub; decide
theorem inb_full (slot : Fin 2) : ∀ a, (![slot.val, 0, 0] : Fin 3 → Nat) a + S1x128x4096.size a ≤ S2x128x4096.size a := by
  revert slot; decide
theorem inb_cell (slot sub : Fin 2) : ∀ a, (![slot.val, sub.val] : Fin 2 → Nat) a + S1x1.size a ≤ S2x2.size a := by
  revert slot sub; decide
theorem inb_cell1 (sub : Fin 2) : ∀ a, (![sub.val] : Fin 1 → Nat) a + S1.size a ≤ S2.size a := by revert sub; decide
theorem inb_cell5 (k : Fin 5) : ∀ a, (![k.val] : Fin 1 → Nat) a + S1.size a ≤ S5.size a := by revert k; decide
theorem inb_rbuf (k : Fin 5) : ∀ a, (![k.val, 0, 0] : Fin 3 → Nat) a + S1x8x128.size a ≤ S5x8x128.size a := by
  revert k; decide
theorem slices_sub (sub : Fin 2) : S128x4096.Slices ![0, sub.val * 2048] S128x2048 := by revert sub; decide

/-- The rectangle of one half of a slot. -/
abbrev halfR (slot sub : Fin 2) : Rect S2x128x4096 :=
  Rect.unit (s := S2x128x4096) ![slot.val, 0, sub.val * 2048] S1x128x2048.size (inb_half slot sub)
/-- The rectangle of one slot. -/
abbrev fullR (slot : Fin 2) : Rect S2x128x4096 :=
  Rect.unit (s := S2x128x4096) ![slot.val, 0, 0] S1x128x4096.size (inb_full slot)
/-- The rectangle of one of the five exchange buffers. -/
abbrev rbufR (k : Fin 5) : Rect S5x8x128 := Rect.unit (s := S5x8x128) ![k.val, 0, 0] S1x8x128.size (inb_rbuf k)

/-- One half of a slot. -/
abbrev half (m : Memref sig .tc .vmem S2x128x4096 .f32) (slot sub : Fin 2) : Memref sig .tc .vmem S128x2048 .f32 :=
  (m.slice (halfR slot sub) (fun _ => rfl)).squeeze S128x2048 squeezes_S1x128x2048_S128x2048
/-- One slot. -/
abbrev full (m : Memref sig .tc .vmem S2x128x4096 .f32) (slot : Fin 2) : Memref sig .tc .vmem S128x4096 .f32 :=
  (m.slice (fullR slot) (fun _ => rfl)).squeeze S128x4096 squeezes_S1x128x4096_S128x4096
/-- One of the five exchange buffers. -/
abbrev rbufV (m : Memref sig .tc .vmem S5x8x128 .f32) (k : Fin 5) : Memref sig .tc .vmem S8x128 .f32 :=
  (m.slice (rbufR k) (fun _ => rfl)).squeeze S8x128 squeezes_S1x8x128_S8x128
/-- The semaphore of a slot and a half. -/
abbrev cell (m : DmaSems sig S2x2) (slot sub : Fin 2) : DmaSem sig :=
  ((m.slice (Rect.unit (s := S2x2) ![slot.val, sub.val] S1x1.size (inb_cell slot sub))).squeeze S_ squeezes_S1x1_S_).sem
/-- The credit semaphore of a half. -/
abbrev cell1 (m : Sems sig S2) (sub : Fin 2) : Sem sig :=
  ((m.slice (Rect.unit (s := S2) ![sub.val] S1.size (inb_cell1 sub))).squeeze S_ squeezes_S1_S_).sem
/-- The exchange's `k`-th semaphore. -/
abbrev cell5 (m : DmaSems sig S5) (k : Fin 5) : DmaSem sig :=
  ((m.slice (Rect.unit (s := S5) ![k.val] S1.size (inb_cell5 k))).squeeze S_ squeezes_S1_S_).sem

/-- The barrier's semaphore. -/
abbrev barSem : Sem sig := (SemArray.scalar (sig.barrier 0 rfl) : Sems sig S_).sem

/-- The slot of a number: its parity. -/
def par (n : Nat) : Fin 2 := ⟨n % 2, Nat.mod_lt _ (by decide)⟩

/-! ## The values written -/

/-- One chunk's product. -/
def mmV (x : Vec F S128x128 .f32) (w : Vec F S128x4096 .f32) : FVec F S128x4096 .f32 :=
  matmul dot_S128x128_S128x4096_S128x4096_1_0_0_1_n_n (some .fp32) (shapeCast S128x128 x shapeCasts_S128x128_S128x128)
    (shapeCast S128x4096 w shapeCasts_S128x4096_S128x4096) (constant S128x4096 .f32 0x00000000#32)

/-- A half of a block. -/
def extV (sub : Fin 2) (t : FVec F S128x4096 .f32) : FVec F S128x2048 .f32 :=
  extractStridedSlice S128x2048 ![0, sub.val * 2048] t (slices_sub sub)

/-- What a step adds up: what arrived plus its own product; clamped at zero from below in the last step. -/
def sumV (last : Bool) (sub : Fin 2) (v : FVec F S128x2048 .f32) (t : FVec F S128x4096 .f32) : FVec F S128x2048 .f32 :=
  match last with
  | false => addf v (extV sub t)
  | true => maximumf (addf v (extV sub t)) (broadcast S128x2048 (Scalar.ofBits .f32 0x00000000#32))

/-- The largest element of a slot. -/
def maxV (v : Vec F S1x128x4096 .f32) : F .f32 :=
  extractAt ![0, 0, 0] (shapeCast S1x1x1 (multiReduction .maximumf [1, 2] S1
    (shapeCast S1x128x4096 (shapeCast S128x4096 v shapeCasts_S1x128x4096_S128x4096) shapeCasts_S128x4096_S1x128x4096)
    0xFF800000#32 reduces_S1x128x4096_S1 (.inl rfl) rfl) shapeCasts_S1_S1x1x1) inpos_S1x1x1_p0_0_0

/-- The block sent in the exchange: one number in every element. -/
def sbufV (val : F .f32) : FVec F S8x128 .f32 :=
  addf (broadcast S8x128 (Scalar.ofBits .f32 0x00000000#32)) (broadcast S8x128 val)

/-- The larger of a number and an exchange buffer's elements. -/
def bmaxV (val : F .f32) (v : Vec F S1x8x128 .f32) : F .f32 :=
  Scalar.maximumf val (extractAt ![0, 0, 0] (shapeCast S1x1x1 (multiReduction .maximumf [1, 2] S1
    (shapeCast S1x8x128 (shapeCast S8x128 v shapeCasts_S1x8x128_S8x128) shapeCasts_S8x128_S1x8x128)
    0xFF800000#32 reduces_S1x8x128_S1 (.inl rfl) rfl) shapeCasts_S1_S1x1x1) inpos_S1x1x1_p0_0_0)

/-- The quantiser's step. -/
def scaleV (val : F .f32) : F .f32 := Scalar.divf val (Scalar.ofBits .f32 0x43E00000#32)

/-- The quotient, clamped. -/
def clampV (scale : F .f32) (v : FVec F S128x4096 .f32) : FVec F S128x4096 .f32 :=
  minimumf (divf v (broadcast S128x4096 scale)) (broadcast S128x4096 (Scalar.ofBits .f32 0x43E00000#32))

/-- A block quantised and scaled back. -/
def dqV (scale : F .f32) (v : FVec F S128x4096 .f32) : FVec F S128x4096 .f32 :=
  mulf (select (cmpf .olt (clampV scale v) (broadcast S128x4096 (Scalar.ofBits .f32 0x3C800000#32)))
      (mulf (roundeven (mulf (clampV scale v) (broadcast S128x4096 (Scalar.ofBits .f32 0x44000000#32))))
        (broadcast S128x4096 (Scalar.ofBits .f32 0x3B000000#32)))
      (extf .f32 (truncf .fp8e4m3 (clampV scale v) bitsLt_fp8e4m3_f32) bitsLt_fp8e4m3_f32))
    (broadcast S128x4096 scale)

/-! ## The steps -/

/-- One direction of the ring: its arrays, semaphores and neighbours, and where its operands and results lie. -/
structure DirM where
  acc : Memref sig .tc .vmem S2x128x4096 .f32
  recv : Memref sig .tc .vmem S2x128x4096 .f32
  ss : DmaSems sig S2x2
  rs : DmaSems sig S2x2
  os : DmaSems sig S_
  cr : Sems sig S2
  dst : Dev nD
  src : Dev nD
  x0 : Fin 2 → Nat
  x0_inb : ∀ a, x0 a + S128x128.size a ≤ S4096x128.size a
  xo : Fin 31 → Fin 2 → Nat
  xo_inb : ∀ r a, xo r a + S128x128.size a ≤ S4096x128.size a
  o0 : Fin 2 → Nat
  o0_inb : ∀ a, o0 a + S128x4096.size a ≤ S4096x8192.size a
  oo : Fin 31 → Fin 2 → Nat
  oo_inb : ∀ r a, oo r a + S128x4096.size a ≤ S4096x8192.size a

/-- The arrays the two directions share. -/
structure Arr where
  x : Memref sig .tc .vmem S4096x128 .f32
  w : Memref sig .tc .vmem S128x8192 .f32
  ringl : Memref sig .tc .smem S32 .i32
  out : Memref sig .tc .hbm S4096x8192 .f32
  sbuf : Memref sig .tc .vmem S8x128 .f32
  hsbuf : sbuf.IsWhole
  rbuf : Memref sig .tc .vmem S5x8x128 .f32
  bs : DmaSems sig S5
  br : DmaSems sig S5

section Ops

/-- Loads 128 rows of x and half the columns of w, and goes on with their product. -/
def mmP (A : Arr) (xo : Fin 2 → Nat) (hx : ∀ a, xo a + S128x128.size a ≤ S4096x128.size a) (wo : Fin 2 → Nat)
    (hw : ∀ a, wo a + S128x4096.size a ≤ S128x8192.size a) (k : FVec F S128x4096 .f32 → P F) : P F :=
  .op (.load A.x (Rect.unit (s := S4096x128) xo S128x128.size hx).toLoadRect (View.loadsAt_vmem h_S128x128)) fun x =>
  .op (.load A.w (Rect.unit (s := S128x8192) wo S128x4096.size hw).toLoadRect (View.loadsAt_vmem h_S128x4096)) fun w =>
  k (mmV x w)

/-- Overwrites a slot. -/
def putFull (m : Memref sig .tc .vmem S2x128x4096 .f32) (slot : Fin 2) (v : FVec F S128x4096 .f32) (k : P F) : P F :=
  .op (.load m (fullR slot).toLoadRect (View.loadsAt_vmem h_S1x128x4096)) fun _ =>
  .op (.store m (fullR slot) (shapeCast S1x128x4096 v shapeCasts_S128x4096_S1x128x4096) Finset.univ
    (View.stores_vmem_bits_univ h_S1x128x4096 rfl) (.inl rfl)) fun _ => k

/-- Overwrites half a slot. -/
def putHalf (m : Memref sig .tc .vmem S2x128x4096 .f32) (slot sub : Fin 2) (v : FVec F S128x2048 .f32) (k : P F) : P F :=
  .op (.load m (halfR slot sub).toLoadRect (View.loadsAt_vmem h_S1x128x2048)) fun _ =>
  .op (.store m (halfR slot sub) (shapeCast S1x128x2048 v shapeCasts_S128x2048_S1x128x2048) Finset.univ
    (View.stores_vmem_bits_univ h_S1x128x2048 rfl) (.inl rfl)) fun _ => k

/-- Sends half a slot to the neighbour. -/
def sendHalf (D : DirM) (slot sub : Fin 2) (k : P F) : P F :=
  .op (.enqueueDma (half D.acc slot sub) (.remote (Dev.tc D.dst) (half D.recv slot sub) (.dma (cell D.ss slot sub)))
    (.dma (cell D.rs slot sub)) ((View.wordExact_bits rfl).reshape _ _) ((View.wordExact_bits rfl).reshape _ _)
    ⟨⟨rfl, Or.inl rfl⟩, trivial⟩) fun _ => k

/-- Sends a slot to the neighbour. -/
def sendFull (D : DirM) (m : Memref sig .tc .vmem S2x128x4096 .f32) (s slot : Fin 2) (k : P F) : P F :=
  .op (.enqueueDma (full m s) (.remote (Dev.tc D.dst) (full D.recv slot) (.dma (cell D.ss slot 0)))
    (.dma (cell D.rs slot 0)) ((View.wordExact_bits rfl).reshape _ _) ((View.wordExact_bits rfl).reshape _ _)
    ⟨⟨rfl, Or.inl rfl⟩, trivial⟩) fun _ => k

/-- Waits until the half sent has left and the neighbour's has arrived. -/
def waitHalf (D : DirM) (slot sub : Fin 2) (k : P F) : P F :=
  .op (.waitDma2 (cell D.ss slot sub) (half D.recv slot sub) (half D.acc slot sub)
    ((View.wordExact_bits rfl).reshape _ _) ((View.wordExact_bits rfl).reshape _ _)) fun _ =>
  .op (.waitDma2 (cell D.rs slot sub) (half D.acc slot sub) (half D.recv slot sub)
    ((View.wordExact_bits rfl).reshape _ _) ((View.wordExact_bits rfl).reshape _ _)) fun _ => k

/-- Waits until the slot sent has left and the neighbour's has arrived. -/
def waitFull (D : DirM) (m : Memref sig .tc .vmem S2x128x4096 .f32) (s slot : Fin 2) (k : P F) : P F :=
  .op (.waitDma2 (cell D.ss slot 0) (full D.recv slot) (full m s)
    ((View.wordExact_bits rfl).reshape _ _) ((View.wordExact_bits rfl).reshape _ _)) fun _ =>
  .op (.waitDma2 (cell D.rs slot 0) (full m s) (full D.recv slot)
    ((View.wordExact_bits rfl).reshape _ _) ((View.wordExact_bits rfl).reshape _ _)) fun _ => k

/-- Tells the neighbour data comes from that its slot may be written again. -/
def credit (D : DirM) (sub : Fin 2) (k : P F) : P F :=
  .op (.semSignal (D.src, .tc) (cell1 D.cr sub) (1#32 : BitVec 32).toInt) fun _ => k

/-- Waits for `n` such messages. -/
def creditWait (D : DirM) (sub : Fin 2) (n : BitVec 32) (k : P F) : P F :=
  .op (.semWait (cell1 D.cr sub) n.toInt) fun _ => k

/-- Starts copying a slot to rows of the result. -/
def copyOut (A : Arr) (D : DirM) (m : Memref sig .tc .vmem S2x128x4096 .f32) (s : Fin 2) (o : Fin 2 → Nat)
    (ho : ∀ a, o a + S128x4096.size a ≤ S4096x8192.size a) (k : P F) : P F :=
  .op (.enqueueDma (full m s) (.here (A.out.slice (Rect.unit (s := S4096x8192) o S128x4096.size ho) (fun _ => rfl)))
    (.dma D.os.sem) ((View.wordExact_bits rfl).reshape _ _) (View.wordExact_bits rfl) ⟨Or.inl rfl, trivial⟩) fun _ => k

/-- Waits for that copy. -/
def copyWait (A : Arr) (D : DirM) (m : Memref sig .tc .vmem S2x128x4096 .f32) (s : Fin 2) (o : Fin 2 → Nat)
    (ho : ∀ a, o a + S128x4096.size a ≤ S4096x8192.size a) (k : P F) : P F :=
  .op (.waitDma2 D.os.sem (full m s) (A.out.slice (Rect.unit (s := S4096x8192) o S128x4096.size ho) (fun _ => rfl))
    ((View.wordExact_bits rfl).reshape _ _) (View.wordExact_bits rfl)) fun _ => k

/-- One half of a step of the summing ring. -/
def rsSub (D : DirM) (s : Fin 31) (t : FVec F S128x4096 .f32) (sub : Fin 2) (k : P F) : P F :=
  waitHalf D (par s.val) sub <|
  .op (.load D.recv (halfR (par s.val) sub).toLoadRect (View.loadsAt_vmem h_S1x128x2048)) fun v =>
  putHalf D.acc (par (s.val + 1)) sub
    (sumV (s.val == 30) sub (shapeCast S128x2048 v shapeCasts_S1x128x2048_S128x2048) t) <|
  credit D sub <|
  bif s.val == 30 then k else
    bif s.val == 0 then sendHalf D (par (s.val + 1)) sub k
    else creditWait D sub 1#32 <| sendHalf D (par (s.val + 1)) sub k

/-- A direction's step of the summing ring. -/
def rsDir (A : Arr) (D : DirM) (wo : Fin 2 → Nat) (hw : ∀ a, wo a + S128x4096.size a ≤ S128x8192.size a)
    (s : Fin 31) (k : P F) : P F :=
  mmP A (D.xo s) (D.xo_inb s) wo hw fun t => rsSub D s t 0 <| rsSub D s t 1 k

/-- One exchange: which word of the ring's table names the partner, and the check on what it holds. -/
structure Bfly where
  off : Fin 1 → Nat
  off_inb : ∀ a, off a + S1.size a ≤ S32.size a
  chk : BitVec 32 → Prop
  dec : ∀ v, Decidable (chk v)
  dev : ∀ v, chk v → Dev nD

/-- One exchange with a partner. -/
def bflyP (A : Arr) (B : Bfly) (k : Fin 5) (val : F .f32) (K : F .f32 → P F) : P F :=
  (smemLoad A.ringl (Rect.unit (s := S32) B.off S1.size B.off_inb) numel1_S1 rfl).bind fun v =>
  .op (TpuEff.assume (B.chk v) (B.dec v)) fun h =>
  .op (.load A.sbuf (Rect.unit (s := S8x128) ![0, 0] S8x128.size inb_S8x128_S8x128_0_0).toLoadRect
    (View.loadsAt_vmem h_S8x128)) fun _ =>
  .op (.store A.sbuf (Rect.unit (s := S8x128) ![0, 0] S8x128.size inb_S8x128_S8x128_0_0)
    (shapeCast S8x128 (sbufV val) shapeCasts_S8x128_S8x128) Finset.univ
    (View.stores_vmem_bits_univ h_S8x128 rfl) (.inl rfl)) fun _ =>
  .op (.enqueueDma A.sbuf (.remote (Dev.tc (B.dev v h.down)) (rbufV A.rbuf k) (.dma (cell5 A.bs k))) (.dma (cell5 A.br k))
    A.hsbuf.wordExact ((View.wordExact_bits rfl).reshape _ _) ⟨⟨rfl, Or.inl rfl⟩, trivial⟩) fun _ =>
  .op (.waitDma2 (cell5 A.bs k) (rbufV A.rbuf k) A.sbuf ((View.wordExact_bits rfl).reshape _ _) A.hsbuf.wordExact) fun _ =>
  .op (.waitDma2 (cell5 A.br k) A.sbuf (rbufV A.rbuf k) A.hsbuf.wordExact ((View.wordExact_bits rfl).reshape _ _)) fun _ =>
  .op (.load A.rbuf (rbufR k).toLoadRect (View.loadsAt_vmem h_S1x8x128)) fun r =>
  K (bmaxV val r)

/-- A direction's start of the copying ring: its block quantised in place and sent. -/
def ag0Dir (D : DirM) (scale : F .f32) (k : P F) : P F :=
  .op (.load D.acc (fullR 1).toLoadRect (View.loadsAt_vmem h_S1x128x4096)) fun v =>
  putFull D.acc 1 (dqV scale (shapeCast S128x4096 v shapeCasts_S1x128x4096_S128x4096)) <|
  creditWait D 0 1#32 <| creditWait D 1 1#32 <| sendFull D D.acc 1 1 k

/-- The first step of the copying ring. -/
def ag0 (A : Arr) (D E : DirM) (scale : F .f32) (k : P F) : P F :=
  ag0Dir D scale <| ag0Dir E scale <|
  copyOut A D D.acc 1 D.o0 D.o0_inb <| copyOut A E E.acc 1 E.o0 E.o0_inb <|
  copyWait A D D.acc 1 D.o0 D.o0_inb <| copyWait A E E.acc 1 E.o0 E.o0_inb <|
  waitFull D D.acc 1 1 <| waitFull E E.acc 1 1 k

/-- A further step of the copying ring: what arrived last is sent on and copied to the result. -/
def agStep (A : Arr) (D E : DirM) (i : Fin 30) (k : P F) : P F :=
  creditWait D 0 1#32 <| creditWait D 1 1#32 <| creditWait E 0 1#32 <| creditWait E 1 1#32 <|
  sendFull D D.recv (par (i.val + 1)) (par i.val) <| sendFull E E.recv (par (i.val + 1)) (par i.val) <|
  copyOut A D D.recv (par (i.val + 1)) (D.oo i.castSucc) (D.oo_inb i.castSucc) <|
  copyOut A E E.recv (par (i.val + 1)) (E.oo i.castSucc) (E.oo_inb i.castSucc) <|
  copyWait A D D.recv (par (i.val + 1)) (D.oo i.castSucc) (D.oo_inb i.castSucc) <|
  copyWait A E E.recv (par (i.val + 1)) (E.oo i.castSucc) (E.oo_inb i.castSucc) <|
  waitFull D D.recv (par (i.val + 1)) (par i.val) <| credit D 0 <| credit D 1 <|
  waitFull E E.recv (par (i.val + 1)) (par i.val) <| credit E 0 <| credit E 1 k

/-- What follows the copying ring: the last block copied, its slot handed back, the outstanding messages taken. -/
def agEnd (A : Arr) (D E : DirM) (k : P F) : P F :=
  copyOut A D D.recv 1 (D.oo 30) (D.oo_inb 30) <| copyOut A E E.recv 1 (E.oo 30) (E.oo_inb 30) <|
  copyWait A D D.recv 1 (D.oo 30) (D.oo_inb 30) <| credit D 0 <| credit D 1 <|
  copyWait A E E.recv 1 (E.oo 30) (E.oo_inb 30) <| credit E 0 <| credit E 1 <|
  creditWait D 0 2#32 <| creditWait D 1 2#32 <| creditWait E 0 2#32 <| creditWait E 1 2#32 k

/-- The barrier with the two neighbours. -/
def barrierP (D E : DirM) (k : P F) : P F :=
  .op (.semSignal (D.dst, .tc) barSem (1#32 : BitVec 32).toInt) fun _ =>
  .op (.semSignal (E.dst, .tc) barSem (1#32 : BitVec 32).toInt) fun _ =>
  .op (.semWait barSem (2#32 : BitVec 32).toInt) fun _ => k

/-- The first half: products, barrier, the summing ring. -/
def phase1 (A : Arr) (D E : DirM) (k : P F) : P F :=
  mmP A D.x0 D.x0_inb ![0, 0] inb_S128x8192_S128x4096_0_0 fun t => putFull D.acc 0 t <|
  mmP A E.x0 E.x0_inb ![0, 4096] inb_S128x8192_S128x4096_0_4096 fun t => putFull E.acc 0 t <|
  barrierP D E <|
  sendHalf D 0 0 <| sendHalf D 0 1 <| sendHalf E 0 0 <| sendHalf E 0 1 <|
  (List.finRange 31).foldr (fun s k =>
    rsDir A D ![0, 0] inb_S128x8192_S128x4096_0_0 s <| rsDir A E ![0, 4096] inb_S128x8192_S128x4096_0_4096 s k) k

/-- The largest element, over all devices. -/
def phase2 (A : Arr) (D E : DirM) (B : Fin 5 → Bfly) (K : F .f32 → P F) : P F :=
  .op (.load D.acc (fullR 1).toLoadRect (View.loadsAt_vmem h_S1x128x4096)) fun v =>
  .op (.load E.acc (fullR 1).toLoadRect (View.loadsAt_vmem h_S1x128x4096)) fun u =>
  bflyP A (B 0) 0 (Scalar.maximumf (maxV v) (maxV u)) fun m => bflyP A (B 1) 1 m fun m => bflyP A (B 2) 2 m fun m =>
  bflyP A (B 3) 3 m fun m => bflyP A (B 4) 4 m K

/-- The copying ring. -/
def phase3 (A : Arr) (D E : DirM) (scale : F .f32) : P F :=
  ag0 A D E scale <| (List.finRange 30).foldr (agStep A D E) <| agEnd A D E <| .ret ⟨⟩

end Ops

/-- Direction F: to the next device of the ring, over the left half of the columns. -/
def dirF (a7 a8 : Memref sig .tc .vmem S2x128x4096 .f32) (a11 a12 : DmaSems sig S2x2) (a13 : DmaSems sig S_)
    (a14 : Sems sig S2) (v0 v1 v2 : BitVec 32) (h1 : k0_chk1 v0) (h2 : k0_chk2 v1) (h3 : k0_chk3 v2) : DirM where
  acc := a7
  recv := a8
  ss := a11
  rs := a12
  os := a13
  cr := a14
  dst := ⟨k0_dev1 v1, k0_dev1_lt v1 h2⟩
  src := ⟨k0_dev2 v2, k0_dev2_lt v2 h3⟩
  x0 := k0_off1 v0
  x0_inb := k0_off1_inb v0 h1
  xo r := k0_off3 v0 (BitVec.ofNat 32 r.val)
  xo_inb := k0_off3_inb v0 h1
  o0 := k0_off10 v0
  o0_inb := k0_off10_inb v0 h1
  oo r := k0_off12 v0 (BitVec.ofNat 32 (1 + r.val))
  oo_inb := k0_off12_inb v0 h1

/-- Direction B: to the previous device of the ring, over the right half of the columns. -/
def dirB (a9 a10 : Memref sig .tc .vmem S2x128x4096 .f32) (a15 a16 : DmaSems sig S2x2) (a17 : DmaSems sig S_)
    (a18 : Sems sig S2) (v0 v1 v2 : BitVec 32) (h1 : k0_chk1 v0) (h2 : k0_chk2 v1) (h3 : k0_chk3 v2) : DirM where
  acc := a9
  recv := a10
  ss := a15
  rs := a16
  os := a17
  cr := a18
  dst := ⟨k0_dev2 v2, k0_dev2_lt v2 h3⟩
  src := ⟨k0_dev1 v1, k0_dev1_lt v1 h2⟩
  x0 := k0_off2 v0
  x0_inb := k0_off2_inb v0 h1
  xo r := k0_off4 v0 (BitVec.ofNat 32 r.val)
  xo_inb := k0_off4_inb v0 h1
  o0 := k0_off11 v0
  o0_inb := k0_off11_inb v0 h1
  oo r := k0_off13 v0 (BitVec.ofNat 32 (1 + r.val))
  oo_inb := k0_off13_inb v0 h1

/-- The five exchanges. -/
def bflys (v0 : BitVec 32) (h1 : k0_chk1 v0) : Fin 5 → Bfly
  | 0 => ⟨k0_off5 v0, k0_off5_inb v0 h1, k0_chk4, k0_chk4.dec, fun v h => ⟨k0_dev251 v, k0_dev251_lt v h⟩⟩
  | 1 => ⟨k0_off6 v0, k0_off6_inb v0 h1, k0_chk5, k0_chk5.dec, fun v h => ⟨k0_dev252 v, k0_dev252_lt v h⟩⟩
  | 2 => ⟨k0_off7 v0, k0_off7_inb v0 h1, k0_chk6, k0_chk6.dec, fun v h => ⟨k0_dev253 v, k0_dev253_lt v h⟩⟩
  | 3 => ⟨k0_off8 v0, k0_off8_inb v0 h1, k0_chk7, k0_chk7.dec, fun v h => ⟨k0_dev254 v, k0_dev254_lt v h⟩⟩
  | 4 => ⟨k0_off9 v0, k0_off9_inb v0 h1, k0_chk8, k0_chk8.dec, fun v h => ⟨k0_dev255 v, k0_dev255_lt v h⟩⟩

/-- The kernel function, with its loops. -/
def loopForm (arg0 : Memref sig .tc .vmem S4096x128 .f32) (arg1 : Memref sig .tc .vmem S128x8192 .f32)
    (arg2 arg3 arg4 : Memref sig .tc .smem S1 .i32) (arg5 : Memref sig .tc .smem S32 .i32)
    (arg6 : Memref sig .tc .hbm S4096x8192 .f32) (arg7 arg8 arg9 arg10 : Memref sig .tc .vmem S2x128x4096 .f32)
    (arg11 arg12 : DmaSems sig S2x2) (arg13 : DmaSems sig S_) (arg14 : Sems sig S2)
    (arg15 arg16 : DmaSems sig S2x2) (arg17 : DmaSems sig S_) (arg18 : Sems sig S2)
    (arg19 : Memref sig .tc .vmem S8x128 .f32) (harg19 : arg19.IsWhole) (arg20 : Memref sig .tc .vmem S5x8x128 .f32)
    (arg21 arg22 : DmaSems sig S5) : P F :=
  (smemLoad arg2 (Rect.unit (s := S1) ![0] S1.size inb_S1_S1_0) numel1_S1 rfl).bind fun (v0 : BitVec 32) =>
  .op (TpuEff.assume (k0_chk1 v0) (k0_chk1.dec v0)) fun (h1 : PLift (k0_chk1 v0)) =>
  (smemLoad arg3 (Rect.unit (s := S1) ![0] S1.size inb_S1_S1_0) numel1_S1 rfl).bind fun (v1 : BitVec 32) =>
  .op (TpuEff.assume (k0_chk2 v1) (k0_chk2.dec v1)) fun (h2 : PLift (k0_chk2 v1)) =>
  (smemLoad arg4 (Rect.unit (s := S1) ![0] S1.size inb_S1_S1_0) numel1_S1 rfl).bind fun (v2 : BitVec 32) =>
  .op (TpuEff.assume (k0_chk3 v2) (k0_chk3.dec v2)) fun (h3 : PLift (k0_chk3 v2)) =>
  let A : Arr := ⟨arg0, arg1, arg5, arg6, arg19, harg19, arg20, arg21, arg22⟩
  let D := dirF arg7 arg8 arg11 arg12 arg13 arg14 v0 v1 v2 h1.down h2.down h3.down
  let E := dirB arg9 arg10 arg15 arg16 arg17 arg18 v0 v1 v2 h1.down h2.down h3.down
  phase1 A D E <| phase2 A D E (bflys v0 h1.down) fun m => phase3 A D E (scaleV m)

end Cert.Proof

end
-- ==== Proof.Mem.lean ====
/-
  The logic's types, and what the loads and stores of the loop form do to the parts of the scratch arrays: a slot, half a
  slot, an exchange buffer, each held at known contents.
-/
module

public import proofs.«01_k».proof.Proof.Loop
public import Idealize.ShloMosaic.Lib.Pipeline.Kit
public import Idealize.ShloMosaic.Lib.Rounds
public import Idealize.ShloMosaic.Lib.Release
public import Idealize.ShloMosaic.Lib.Memref
public import Idealize.ShloMosaic.Lib.ValueLayout
public import Idealize.ShloMosaic.Lib.Tactic

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

/-- The landing slots: a device's half slots by direction, half and slot, and its five exchange buffers. -/
abbrev Key : Type := (Dev nD × Fin 2 × Fin 2 × Fin 2) ⊕ (Dev nD × Fin 5)

/-- The pipeline's ghost state, the rounds' and the slots'. -/
abbrev UD : Type := URounds (GSem nD τ sig) ℕ
abbrev UU : Type := UR sig nD τ × (UD × Release.USlots Key)

/-- The resources' type. -/
abbrev MM (F : FTy → Type) : Type := MT nD τ sig ℕ (Elt F) ℕ UU ℕ

variable {F : FTy → Type}

abbrev EP : Emb (UR sig nD τ) (MM F) := embL
abbrev EQ : Emb (UD × Release.USlots Key) (MM F) := embR
abbrev ER : Emb UD (MM F) := (Emb.inl : Emb _ (UD × Release.USlots Key)).trans EQ
abbrev ES : Emb (Release.USlots Key) (MM F) := (Emb.inr : Emb _ (UD × Release.USlots Key)).trans EQ

variable [FloatOps F]

abbrev 𝒱₀ : Variants := Variants.none

/-- The weakest precondition of a program of the kernel's. -/
abbrev WP (c : Dev nD) (p : P F) (Q : PUnit → sProp (MM F)) : sProp (MM F) :=
  wp frame (wpE (defs₀ (F := F)) 𝒱₀ c none) Set.univ p Q

/-! ## Two views of one place -/

theorem owns_reshape (c : Dev nD) {sp : Space} {s s' : Shape} {e : EltTy} (m : Memref sig .tc sp s e) (h : s.Squeezes s')
    (q : PosShare TreeShare) (X : s.Idx → Elt F e) :
    (owns (c : Thread nD τ) m q X : sProp (MM F)) ⊢ owns (c : Thread nD τ) (m.squeeze s' h) q (fun j => X (Shape.reshapeEquiv h.numel_eq j)) := by
  unfold owns
  iintro ⟨%f, %hf, H⟩
  iexists f
  isplitr
  · ipureintro; rw [← hf]; rfl
  · have hs : (m.squeeze s' h).view.set = m.view.set := View.set_reshape _ _
    rw [hs]; iexact H

theorem owns_reshape' (c : Dev nD) {sp : Space} {s s' : Shape} {e : EltTy} (m : Memref sig .tc sp s e) (h : s.Squeezes s')
    (q : PosShare TreeShare) (X : s'.Idx → Elt F e) :
    (owns (c : Thread nD τ) (m.squeeze s' h) q X : sProp (MM F)) ⊢ owns (c : Thread nD τ) m q (fun j => X (Shape.reshapeEquiv h.numel_eq.symm j)) := by
  unfold owns
  iintro ⟨%f, %hf, H⟩
  iexists f
  isplitr
  · ipureintro; rw [← hf]; funext j
    show m.view.read _ f j = m.view.read _ f (Shape.reshapeEquiv _ (Shape.reshapeEquiv _ j))
    rw [Shape.reshapeEquiv_reshapeEquiv, Shape.reshapeEquiv_self]
  · have hs : (m.squeeze s' h).view.set = m.view.set := View.set_reshape _ _
    rw [hs]; iexact H

/-! ## Loads and stores -/

/-- A load of a rectangle held by itself. -/
theorem wp_load_owns (c : Dev nD) {cs : CoreSpace} {s : Shape} {e : EltTy} (m : Memref sig .tc cs s e) (r : Rect s) (hr : ∀ a, r.stride a = 1)
    {hl : m.view.LoadsAt r} (q : PosShare TreeShare) (X : r.shape.Idx → Elt F e) (k : (r.shape.Idx → Elt F e) → P F) (Q : PUnit → sProp (MM F)) :
    iprop(owns (c : Thread nD τ) (m.slice r hr) q X ∗ (owns (c : Thread nD τ) (m.slice r hr) q X -∗ WP c (k X) Q))
      ⊢ WP c (.op (.load m r hl) k) Q := by
  iintro ⟨H, Hk⟩
  ihave H' := (show owns (c : Thread nD τ) (m.slice r hr) q X ⊢ iprop(∃ g, ⌜(m.slice r hr).view.read (Elt F) g = X⌝ ∗ (m.access r).loc (c : Thread nD τ) ↦[(m.access r).set]{q} g : sProp (MM F)) from .rfl) $$ H
  icases H' with ⟨%f, %hf, H⟩
  iapply (wp_load_rect 𝒱₀ (c : Thread nD τ) none Set.univ (S := (m.access r).set) (Finset.Subset.refl _)) $$ [H]
  · iexact H
  iintro H
  have hf' : (m.access r).read (Elt F) f = X := hf
  rw [hf']
  iapply Hk
  iapply (show iprop(∃ g, ⌜(m.slice r hr).view.read (Elt F) g = X⌝ ∗ (m.access r).loc (c : Thread nD τ) ↦[(m.access r).set]{q} g : sProp (MM F)) ⊢ owns (c : Thread nD τ) (m.slice r hr) q X from .rfl)
  iexists f
  isplitr; · ipureintro; exact hf
  iexact H

/-- A store over a rectangle held by itself. -/
theorem wp_store_owns (c : Dev nD) {cs : CoreSpace} {s : Shape} {e : EltTy} (m : Memref sig .tc cs s e) (r : Rect s) (hr : ∀ a, r.stride a = 1)
    {hx hm} (X w : r.shape.Idx → Elt F e) (k : PUnit → P F) (Q : PUnit → sProp (MM F)) :
    iprop(owns (c : Thread nD τ) (m.slice r hr) fullShare X ∗ (owns (c : Thread nD τ) (m.slice r hr) fullShare w -∗ WP c (k ⟨⟩) Q))
      ⊢ WP c (.op (.store m r w Finset.univ hx hm) k) Q := by
  iintro ⟨H, Hk⟩
  ihave H' := (show owns (c : Thread nD τ) (m.slice r hr) fullShare X ⊢ iprop(∃ g, ⌜(m.slice r hr).view.read (Elt F) g = X⌝ ∗ (m.access r).loc (c : Thread nD τ) ↦[(m.access r).set]{fullShare} g : sProp (MM F)) from .rfl) $$ H
  icases H' with ⟨%f, %hf, H⟩
  iapply (wp_store 𝒱₀ (c : Thread nD τ) none Set.univ (S := (m.access r).set) (Finset.Subset.refl _)) $$ [H]
  · iexact H
  iintro H
  iapply Hk
  iapply (show iprop(∃ g, ⌜(m.slice r hr).view.read (Elt F) g = w⌝ ∗ (m.access r).loc (c : Thread nD τ) ↦[(m.access r).set]{fullShare} g : sProp (MM F)) ⊢ owns (c : Thread nD τ) (m.slice r hr) fullShare w from .rfl)
  iexists _
  isplitr; · ipureintro; exact View.read_write_univ (v := m.access r) f w
  iexact H

/-- A part of an array held at some contents. -/
def some_ (c : Dev nD) {sp : Space} {s : Shape} {e : EltTy} (m : Memref sig .tc sp s e) : sProp (MM F) :=
  iprop(∃ X : s.Idx → Elt F e, owns (c : Thread nD τ) m fullShare X)

instance some_storable (c : Dev nD) {sp : Space} {s : Shape} {e : EltTy} (m : Memref sig .tc sp s e) :
    BI.Storable (upEmb : UEmb _ (MM F)) (some_ c m) := by unfold some_; infer_instance

theorem owns_some (c : Dev nD) {sp : Space} {s : Shape} {e : EltTy} (m : Memref sig .tc sp s e) (X : s.Idx → Elt F e) :
    owns (c : Thread nD τ) m fullShare X ⊢ (some_ c m : sProp (MM F)) := by
  unfold some_; iintro H; iexists X; iexact H

/-- A load through a squeezed slice's rectangle. -/
theorem wp_load_sq (c : Dev nD) {cs : CoreSpace} {s s' : Shape} {e : EltTy} (m : Memref sig .tc cs s e) (r : Rect s) (hr : ∀ a, r.stride a = 1)
    (h : r.shape.Squeezes s') {hl : m.view.LoadsAt r} (q : PosShare TreeShare) (X : s'.Idx → Elt F e) (k : (r.shape.Idx → Elt F e) → P F) (Q : PUnit → sProp (MM F)) :
    iprop(owns (c : Thread nD τ) ((m.slice r hr).squeeze s' h) q X
        ∗ (owns (c : Thread nD τ) ((m.slice r hr).squeeze s' h) q X -∗ WP c (k (fun j => X (Shape.reshapeEquiv h.numel_eq.symm j))) Q))
      ⊢ WP c (.op (.load m r hl) k) Q := by
  iintro ⟨H, Hk⟩
  ihave H := (owns_reshape' c (m.slice r hr) h q X) $$ H
  iapply (wp_load_owns c m r hr q _ k Q)
  isplitl [H]; · iexact H
  iintro H
  iapply Hk
  ihave H := (owns_reshape c (m.slice r hr) h q _) $$ H
  have e' : (fun j => X (Shape.reshapeEquiv h.numel_eq.symm (Shape.reshapeEquiv h.numel_eq j))) = X := by
    funext j; rw [Shape.reshapeEquiv_reshapeEquiv, Shape.reshapeEquiv_self]
  rw [e']; iexact H

/-- A store through a squeezed slice's rectangle. -/
theorem wp_store_sq (c : Dev nD) {cs : CoreSpace} {s s' : Shape} {e : EltTy} (m : Memref sig .tc cs s e) (r : Rect s) (hr : ∀ a, r.stride a = 1)
    (h : r.shape.Squeezes s') {hx hm} (w : s'.Idx → Elt F e) (hc : s'.ShapeCasts r.shape) (k : PUnit → P F) (Q : PUnit → sProp (MM F)) :
    iprop(some_ c ((m.slice r hr).squeeze s' h)
        ∗ (owns (c : Thread nD τ) ((m.slice r hr).squeeze s' h) fullShare w -∗ WP c (k ⟨⟩) Q))
      ⊢ WP c (.op (.store m r (shapeCast r.shape w hc) Finset.univ hx hm) k) Q := by
  unfold some_
  iintro ⟨⟨%X, H⟩, Hk⟩
  ihave H := (owns_reshape' c (m.slice r hr) h fullShare X) $$ H
  iapply (wp_store_owns c m r hr _ _ k Q)
  isplitl [H]; · iexact H
  iintro H
  iapply Hk
  ihave H := (owns_reshape c (m.slice r hr) h fullShare _) $$ H
  have e' : (fun j => shapeCast r.shape w hc (Shape.reshapeEquiv h.numel_eq j)) = w := by
    funext j; show w (Shape.reshapeEquiv _ (Shape.reshapeEquiv _ j)) = _
    rw [Shape.reshapeEquiv_reshapeEquiv, Shape.reshapeEquiv_self]
  rw [e']; iexact H

/-! ## A slot and its two halves -/

theorem inb_sub (sub : Fin 2) : ∀ a, (![0, sub.val * 2048] : Fin 2 → Nat) a + S128x2048.size a ≤ S128x4096.size a := by
  revert sub; decide

/-- The rectangle of half a block. -/
abbrev subR (sub : Fin 2) : Rect S128x4096 := Rect.unit (s := S128x4096) ![0, sub.val * 2048] S128x2048.size (inb_sub sub)

theorem half_emb (slot sub : Fin 2) (y : S128x2048.Idx) :
    (halfR slot sub).emb (Shape.reshapeEquiv squeezes_S1x128x2048_S128x2048.numel_eq y)
      = (fullR slot).emb (Shape.reshapeEquiv squeezes_S1x128x4096_S128x4096.numel_eq ((subR sub).emb y)) := by
  have e1 : Shape.reshapeEquiv squeezes_S1x128x2048_S128x2048.numel_eq y = Fin.cons ⟨0, Nat.one_pos⟩ y :=
    Shape.reshapeEquiv_cons_one (d := ![128, 2048]) _ y
  have e2 : Shape.reshapeEquiv squeezes_S1x128x4096_S128x4096.numel_eq ((subR sub).emb y) = Fin.cons ⟨0, Nat.one_pos⟩ ((subR sub).emb y) :=
    Shape.reshapeEquiv_cons_one (d := ![128, 4096]) _ _
  rw [e1, e2]
  funext a
  apply Fin.ext
  rw [Rect.emb_apply, Rect.emb_apply]
  fin_cases a
  · rfl
  · show 0 + 1 * (y 0).val = 0 + 1 * (0 + 1 * (y 0).val)
    omega
  · show sub.val * 2048 + 1 * (y 1).val = 0 + 1 * (sub.val * 2048 + 1 * (y 1).val)
    omega

theorem owns_half_slice (c : Dev nD) (m : Memref sig .tc .vmem S2x128x4096 .f32) (slot sub : Fin 2) (q : PosShare TreeShare) (X : S128x2048.Idx → Elt F .f32) :
    (owns (c : Thread nD τ) (half m slot sub) q X : sProp (MM F)) = owns (c : Thread nD τ) ((full m slot).slice (subR sub) (fun _ => rfl)) q X := by
  have hemb : (half m slot sub).view.emb = ((full m slot).slice (subR sub) (fun _ => rfl)).view.emb := by
    ext y : 1
    exact congrArg m.view.emb (half_emb slot sub y)
  have hset : (half m slot sub).view.set = ((full m slot).slice (subR sub) (fun _ => rfl)).view.set := congrArg (Finset.univ.map ·) hemb
  have hread : ∀ f, (half m slot sub).view.read (Elt F) f = ((full m slot).slice (subR sub) (fun _ => rfl)).view.read (Elt F) f := by
    intro f; funext y
    show _root_.cast _ (f ((half m slot sub).view.emb y)) = _root_.cast _ (f (((full m slot).slice (subR sub) (fun _ => rfl)).view.emb y))
    rw [hemb]
  unfold owns
  simp only [hread]
  rw [hset]

theorem subR_disj : ∀ t t' : Fin 2, t ≠ t' → Disjoint (subR t).set (subR t').set := by
  intro t t' h
  rw [Finset.disjoint_left]
  intro x hx hx'
  rw [← Rect.map_emb_univ, Finset.mem_map] at hx hx'
  obtain ⟨y, -, rfl⟩ := hx
  obtain ⟨y', -, hy'⟩ := hx'
  have := congrArg Fin.val (congrFun hy' 1)
  rw [Rect.emb_apply, Rect.emb_apply] at this
  have h1 : (y 1).val < 2048 := (y 1).isLt
  have h2 : (y' 1).val < 2048 := (y' 1).isLt
  have : t'.val * 2048 + 1 * (y' 1).val = t.val * 2048 + 1 * (y 1).val := this
  exact h (Fin.ext (by omega))

theorem subR_cov : (Finset.univ : Finset (Fin 2)).biUnion (fun t => (subR t).set) = Finset.univ := by
  ext x
  simp only [Finset.mem_biUnion, Finset.mem_univ, true_and, iff_true]
  have hx : (x 1).val < 4096 := (x 1).isLt
  refine ⟨⟨(x 1).val / 2048, by omega⟩, ?_⟩
  rw [← Rect.map_emb_univ, Finset.mem_map]
  refine ⟨ix2 (x 0) (⟨(x 1).val % 2048, by omega⟩ : Fin 2048), Finset.mem_univ _, ?_⟩
  funext a
  apply Fin.ext
  rw [Rect.emb_apply]
  fin_cases a
  · show 0 + 1 * (x 0).val = (x 0).val
    omega
  · show (x 1).val / 2048 * 2048 + 1 * ((x 1).val % 2048) = (x 1).val
    omega

theorem extV_eq (sub : Fin 2) (X : S128x4096.Idx → F .f32) : (fun j => X ((subR sub).emb j)) = extV sub X := by
  funext j
  unfold extV extractStridedSlice
  congr 1
  funext a
  apply Fin.ext
  rw [Rect.emb_apply]
  show (![0, sub.val * 2048] : Fin 2 → ℕ) a + 1 * (j a).val = (![0, sub.val * 2048] : Fin 2 → ℕ) a + (j a).val
  omega

/-- A slot is its halves. -/
theorem full_halves (c : Dev nD) (m : Memref sig .tc .vmem S2x128x4096 .f32) (slot : Fin 2) (q : PosShare TreeShare) (X : S128x4096.Idx → Elt F .f32) :
    (owns (c : Thread nD τ) (full m slot) q X : sProp (MM F))
      ⊢ iprop(owns (c : Thread nD τ) (half m slot 0) q (extV 0 X) ∗ owns (c : Thread nD τ) (half m slot 1) q (extV 1 X)) := by
  refine (owns_rects (c : Thread nD τ) (full m slot) q subR (fun _ _ => rfl) subR_disj subR_cov X).trans ?_
  rw [BI.bigSep_fin_two, extV_eq, extV_eq, owns_half_slice, owns_half_slice]
  exact BI.Entails.refl _

theorem halves_full [∀ e, Nonempty (Elt F e)] (c : Dev nD) (m : Memref sig .tc .vmem S2x128x4096 .f32) (slot : Fin 2) (q : PosShare TreeShare) (X : S128x4096.Idx → Elt F .f32) :
    iprop(owns (c : Thread nD τ) (half m slot 0) q (extV 0 X) ∗ owns (c : Thread nD τ) (half m slot 1) q (extV 1 X))
      ⊢ (owns (c : Thread nD τ) (full m slot) q X : sProp (MM F)) := by
  refine .trans ?_ (owns_of_rects (c : Thread nD τ) (full m slot) q subR (fun _ _ => rfl) subR_disj subR_cov X)
  rw [BI.bigSep_fin_two, extV_eq, extV_eq, owns_half_slice, owns_half_slice]
  exact BI.Entails.refl _

/-- Any two halves make a slot's contents. -/
def glue (X Y : S128x2048.Idx → F .f32) : S128x4096.Idx → F .f32 := fun x =>
  if h : (x 1).val < 2048 then X (ix2 (x 0) (⟨(x 1).val, h⟩ : Fin 2048))
  else Y (ix2 (x 0) (⟨(x 1).val - 2048, by have : (x 1).val < 4096 := (x 1).isLt; omega⟩ : Fin 2048))

theorem ext_glue0 (X Y : S128x2048.Idx → F .f32) : extV 0 (glue X Y) = X := by
  rw [← extV_eq]; funext j
  have hj : (j 1).val < 2048 := (j 1).isLt
  have h1 : (((subR 0).emb j) 1).val = (j 1).val := by rw [Rect.emb_apply]; show 0 * 2048 + 1 * (j 1).val = _; omega
  have h0 : (((subR 0).emb j) 0).val = (j 0).val := by rw [Rect.emb_apply]; show 0 + 1 * (j 0).val = _; omega
  unfold glue
  rw [dif_pos (by omega)]
  congr 1
  funext a
  apply Fin.ext
  fin_cases a
  · exact h0
  · exact h1

theorem ext_glue1 (X Y : S128x2048.Idx → F .f32) : extV 1 (glue X Y) = Y := by
  rw [← extV_eq]; funext j
  have hj : (j 1).val < 2048 := (j 1).isLt
  have h1 : (((subR 1).emb j) 1).val = 2048 + (j 1).val := by rw [Rect.emb_apply]; show 1 * 2048 + 1 * (j 1).val = _; omega
  have h0 : (((subR 1).emb j) 0).val = (j 0).val := by rw [Rect.emb_apply]; show 0 + 1 * (j 0).val = _; omega
  unfold glue
  rw [dif_neg (by omega)]
  congr 1
  funext a
  apply Fin.ext
  fin_cases a
  · exact h0
  · show (((subR 1).emb j) 1).val - 2048 = (j 1).val
    omega

theorem some_full [∀ e, Nonempty (Elt F e)] (c : Dev nD) (m : Memref sig .tc .vmem S2x128x4096 .f32) (slot : Fin 2) :
    iprop(some_ c (half m slot 0) ∗ some_ c (half m slot 1)) ⊢ (some_ c (full m slot) : sProp (MM F)) := by
  unfold some_
  iintro ⟨⟨%X, HX⟩, ⟨%Y, HY⟩⟩
  iexists glue X Y
  iapply (halves_full c m slot fullShare (glue X Y))
  rw [ext_glue0, ext_glue1]
  isplitl [HX]; · iexact HX
  iexact HY

theorem some_halves (c : Dev nD) (m : Memref sig .tc .vmem S2x128x4096 .f32) (slot : Fin 2) :
    (some_ c (full m slot) : sProp (MM F)) ⊢ iprop(some_ c (half m slot 0) ∗ some_ c (half m slot 1)) := by
  unfold some_
  iintro ⟨%X, H⟩
  ihave H := (full_halves c m slot fullShare X) $$ H
  icases H with ⟨H0, H1⟩
  isplitl [H0]; · iexists _; iexact H0
  iexists _; iexact H1

/-! ## The loop form's accesses -/

theorem wp_putHalf (c : Dev nD) (m : Memref sig .tc .vmem S2x128x4096 .f32) (slot sub : Fin 2) (v : FVec F S128x2048 .f32) (k : P F) (Q : PUnit → sProp (MM F)) :
    iprop(some_ c (half m slot sub) ∗ (owns (c : Thread nD τ) (half m slot sub) fullShare v -∗ WP c k Q)) ⊢ WP c (putHalf m slot sub v k) Q := by
  unfold putHalf
  iintro ⟨H, Hk⟩
  ihave H' := (show (some_ c (half m slot sub) : sProp (MM F)) ⊢ iprop(∃ X : S128x2048.Idx → Elt F .f32, owns (c : Thread nD τ) (half m slot sub) fullShare X) from .rfl) $$ H
  icases H' with ⟨%X, H⟩
  iapply (wp_load_sq c m (halfR slot sub) (fun _ => rfl) squeezes_S1x128x2048_S128x2048 (hl := View.loadsAt_vmem h_S1x128x2048) fullShare X _ Q)
  isplitl [H]; · iexact H
  iintro H
  ihave H := (owns_some c (half m slot sub) X) $$ H
  iapply (wp_store_sq c m (halfR slot sub) (fun _ => rfl) squeezes_S1x128x2048_S128x2048 (hx := View.stores_vmem_bits_univ h_S1x128x2048 rfl) (hm := .inl rfl) v shapeCasts_S128x2048_S1x128x2048 (fun _ => k) Q)
  isplitl [H]; · iexact H
  iexact Hk

theorem wp_putFull (c : Dev nD) (m : Memref sig .tc .vmem S2x128x4096 .f32) (slot : Fin 2) (v : FVec F S128x4096 .f32) (k : P F) (Q : PUnit → sProp (MM F)) :
    iprop(some_ c (full m slot) ∗ (owns (c : Thread nD τ) (full m slot) fullShare v -∗ WP c k Q)) ⊢ WP c (putFull m slot v k) Q := by
  unfold putFull
  iintro ⟨H, Hk⟩
  ihave H' := (show (some_ c (full m slot) : sProp (MM F)) ⊢ iprop(∃ X : S128x4096.Idx → Elt F .f32, owns (c : Thread nD τ) (full m slot) fullShare X) from .rfl) $$ H
  icases H' with ⟨%X, H⟩
  iapply (wp_load_sq c m (fullR slot) (fun _ => rfl) squeezes_S1x128x4096_S128x4096 (hl := View.loadsAt_vmem h_S1x128x4096) fullShare X _ Q)
  isplitl [H]; · iexact H
  iintro H
  ihave H := (owns_some c (full m slot) X) $$ H
  iapply (wp_store_sq c m (fullR slot) (fun _ => rfl) squeezes_S1x128x4096_S128x4096 (hx := View.stores_vmem_bits_univ h_S1x128x4096 rfl) (hm := .inl rfl) v shapeCasts_S128x4096_S1x128x4096 (fun _ => k) Q)
  isplitl [H]; · iexact H
  iexact Hk

/-- A value read through a unit axis, the axis dropped. -/
theorem cast_cast_half (X : S128x2048.Idx → F .f32) :
    shapeCast S128x2048 (fun j => X (Shape.reshapeEquiv squeezes_S1x128x2048_S128x2048.numel_eq.symm j)) shapeCasts_S1x128x2048_S128x2048 = X := by
  funext j; show X (Shape.reshapeEquiv _ (Shape.reshapeEquiv _ j)) = _
  rw [Shape.reshapeEquiv_reshapeEquiv, Shape.reshapeEquiv_self]

theorem cast_cast_full (X : S128x4096.Idx → F .f32) :
    shapeCast S128x4096 (fun j => X (Shape.reshapeEquiv squeezes_S1x128x4096_S128x4096.numel_eq.symm j)) shapeCasts_S1x128x4096_S128x4096 = X := by
  funext j; show X (Shape.reshapeEquiv _ (Shape.reshapeEquiv _ j)) = _
  rw [Shape.reshapeEquiv_reshapeEquiv, Shape.reshapeEquiv_self]

/-- A load of half a slot. -/
theorem wp_load_half (c : Dev nD) (m : Memref sig .tc .vmem S2x128x4096 .f32) (slot sub : Fin 2) (q : PosShare TreeShare) (X : FVec F S128x2048 .f32)
    (k : FVec F S128x2048 .f32 → P F) (Q : PUnit → sProp (MM F)) :
    iprop(owns (c : Thread nD τ) (half m slot sub) q X ∗ (owns (c : Thread nD τ) (half m slot sub) q X -∗ WP c (k X) Q))
      ⊢ WP c (.op (.load m (halfR slot sub).toLoadRect (View.loadsAt_vmem h_S1x128x2048)) fun v => k (shapeCast S128x2048 v shapeCasts_S1x128x2048_S128x2048)) Q := by
  refine .trans ?_ (wp_load_sq c m (halfR slot sub) (fun _ => rfl) squeezes_S1x128x2048_S128x2048 (hl := View.loadsAt_vmem h_S1x128x2048) q X (fun v => k (shapeCast S128x2048 v shapeCasts_S1x128x2048_S128x2048)) Q)
  exact Entails.of_eq (congrArg (fun p => iprop(owns (c : Thread nD τ) (half m slot sub) q X ∗ (owns (c : Thread nD τ) (half m slot sub) q X -∗ WP c p Q))) (congrArg k (cast_cast_half X)).symm)

/-- A load of a slot. -/
theorem wp_load_full (c : Dev nD) (m : Memref sig .tc .vmem S2x128x4096 .f32) (slot : Fin 2) (q : PosShare TreeShare) (X : FVec F S128x4096 .f32)
    (k : FVec F S128x4096 .f32 → P F) (Q : PUnit → sProp (MM F)) :
    iprop(owns (c : Thread nD τ) (full m slot) q X ∗ (owns (c : Thread nD τ) (full m slot) q X -∗ WP c (k X) Q))
      ⊢ WP c (.op (.load m (fullR slot).toLoadRect (View.loadsAt_vmem h_S1x128x4096)) fun v => k (shapeCast S128x4096 v shapeCasts_S1x128x4096_S128x4096)) Q := by
  refine .trans ?_ (wp_load_sq c m (fullR slot) (fun _ => rfl) squeezes_S1x128x4096_S128x4096 (hl := View.loadsAt_vmem h_S1x128x4096) q X (fun v => k (shapeCast S128x4096 v shapeCasts_S1x128x4096_S128x4096)) Q)
  exact Entails.of_eq (congrArg (fun p => iprop(owns (c : Thread nD τ) (full m slot) q X ∗ (owns (c : Thread nD τ) (full m slot) q X -∗ WP c p Q))) (congrArg k (cast_cast_full X)).symm)

end Cert.Proof

end
-- ==== Proof.Dev.lean ====
/-
  The two rings and the exchange: who a device's neighbours and partners are, what the printed device numbers and row
  offsets come to, and the two directions of the ring as one family over the direction.
-/
module

public import proofs.«01_k».proof.Proof.Mem

@[expose] public section

noncomputable section

namespace Cert.Proof

open Cert.KernelIdeal Cert.KernelIdeal.Facts₀
open Idealize.ShloMosaic Idealize.ShloMosaic.TcCoe

/-! ## Neighbours -/

/-- A device's place on the ring. -/
def rposT : Fin 32 → Fin 32 := ![0,31,30,1,2,29,28,3,7,24,25,6,5,26,27,4,8,23,22,9,10,21,20,11,15,16,17,14,13,18,19,12]
/-- The device after it. -/
def nextT : Fin 32 → Fin 32 := ![3,0,1,4,7,2,5,15,16,10,13,8,11,14,6,12,19,9,17,20,23,18,21,31,25,26,29,24,27,30,22,28]
/-- The device before it. -/
def prevT : Fin 32 → Fin 32 := ![1,2,5,0,3,6,14,4,11,17,9,12,15,10,13,7,8,18,21,16,19,22,30,20,27,24,25,28,31,26,29,23]
/-- The device at a place. -/
def ringT : Fin 32 → Fin 32 := ![0,3,4,7,15,12,11,8,16,19,20,23,31,28,27,24,25,26,29,30,22,21,18,17,9,10,13,14,6,5,2,1]

/-- Where direction `d` sends to. -/
def toD : Fin 2 → Dev nD → Dev nD
  | 0, c => nextT c
  | 1, c => prevT c
/-- Where direction `d` receives from. -/
def froD : Fin 2 → Dev nD → Dev nD
  | 0, c => prevT c
  | 1, c => nextT c

theorem fro_to (d : Fin 2) (c : Dev nD) : froD d (toD d c) = c := by
  revert d c; decide +kernel
theorem to_fro (d : Fin 2) (c : Dev nD) : toD d (froD d c) = c := by
  revert d c; decide +kernel
theorem to_zero (c : Dev nD) : toD 0 c = froD 1 c := rfl
theorem to_one (c : Dev nD) : toD 1 c = froD 0 c := rfl

/-- The partner of exchange `k`: the place's bit `k` turned over. -/
def partner (k : Fin 5) (c : Dev nD) : Dev nD := ringT ⟨((rposT c).val ^^^ 2 ^ k.val) % 32, Nat.mod_lt _ (by decide)⟩

theorem partner_partner (k : Fin 5) (c : Dev nD) : partner k (partner k c) = c := by
  revert k c; decide +kernel
/-- Every partner lies on the ring, fewer than 32 places back. -/
theorem partner_iter (k : Fin 5) (c : Dev nD) : ∃ i : Fin 32, (froD 0)^[i.val] c = partner k c := by
  revert k c; decide +kernel

/-! ## The printed numbers -/

/-- What a device reads of the three tables. -/
def wR (c : Dev nD) : BitVec 32 := BitVec.ofNat 32 (rposT c).val
def wN (c : Dev nD) : BitVec 32 := BitVec.ofNat 32 (nextT c).val
def wP (c : Dev nD) : BitVec 32 := BitVec.ofNat 32 (prevT c).val
/-- The partner's number, as the ring's table holds it. -/
def wB (k : Fin 5) (c : Dev nD) : BitVec 32 := BitVec.ofNat 32 (partner k c).val

theorem chk1 (c : Dev nD) : k0_chk1 (wR c) := by
  revert c; decide +kernel
theorem chk2 (c : Dev nD) : k0_chk2 (wN c) := by
  revert c; decide +kernel
theorem chk3 (c : Dev nD) : k0_chk3 (wP c) := by
  revert c; decide +kernel

theorem dev1_eq (c : Dev nD) : (⟨k0_dev1 (wN c), k0_dev1_lt (wN c) (chk2 c)⟩ : Dev nD) = toD 0 c := by
  apply Fin.ext; revert c; decide +kernel
theorem dev2_eq (c : Dev nD) : (⟨k0_dev2 (wP c), k0_dev2_lt (wP c) (chk3 c)⟩ : Dev nD) = toD 1 c := by
  apply Fin.ext; revert c; decide +kernel

/-! ## The directions -/

abbrev accM : Fin 2 → Memref sig .tc .vmem S2x128x4096 .f32
  | 0 => Memref.whole cc0_scratch0
  | 1 => Memref.whole cc0_scratch2
abbrev recvM : Fin 2 → Memref sig .tc .vmem S2x128x4096 .f32
  | 0 => Memref.whole cc0_scratch1
  | 1 => Memref.whole cc0_scratch3
abbrev ssM : Fin 2 → DmaSems sig S2x2
  | 0 => cc0_scratch4
  | 1 => cc0_scratch8
abbrev rsM : Fin 2 → DmaSems sig S2x2
  | 0 => cc0_scratch5
  | 1 => cc0_scratch9
abbrev osM : Fin 2 → DmaSems sig S_
  | 0 => cc0_scratch6
  | 1 => cc0_scratch10
abbrev crM : Fin 2 → Sems sig S2
  | 0 => cc0_scratch7
  | 1 => cc0_scratch11
abbrev sbM : Memref sig .tc .vmem S8x128 .f32 := Memref.whole cc0_scratch12
abbrev rbM : Memref sig .tc .vmem S5x8x128 .f32 := Memref.whole cc0_scratch13
abbrev outA : Memref sig .tc .hbm S4096x8192 .f32 := Memref.whole main_v23

/-- Where a direction's columns of w start. -/
abbrev wOff : Fin 2 → Fin 2 → Nat
  | 0 => ![0, 0]
  | 1 => ![0, 4096]
theorem wOff_inb (d : Fin 2) : ∀ a, wOff d a + S128x4096.size a ≤ S128x8192.size a := by revert d; decide

/-- The rows of x of the first product. -/
abbrev x0D : Fin 2 → Dev nD → Fin 2 → Nat
  | 0, c => k0_off1 (wR c)
  | 1, c => k0_off2 (wR c)
theorem x0D_inb : ∀ (d : Fin 2) (c : Dev nD) (a), x0D d c a + S128x128.size a ≤ S4096x128.size a
  | 0, c => k0_off1_inb (wR c) (chk1 c)
  | 1, c => k0_off2_inb (wR c) (chk1 c)
/-- The rows of x of step `r`'s product. -/
abbrev xoD : Fin 2 → Dev nD → Fin 31 → Fin 2 → Nat
  | 0, c, r => k0_off3 (wR c) (BitVec.ofNat 32 r.val)
  | 1, c, r => k0_off4 (wR c) (BitVec.ofNat 32 r.val)
theorem xoD_inb : ∀ (d : Fin 2) (c : Dev nD) (r : Fin 31) (a), xoD d c r a + S128x128.size a ≤ S4096x128.size a
  | 0, c => k0_off3_inb (wR c) (chk1 c)
  | 1, c => k0_off4_inb (wR c) (chk1 c)
/-- The place in the result of the device's own block. -/
abbrev o0D : Fin 2 → Dev nD → Fin 2 → Nat
  | 0, c => k0_off10 (wR c)
  | 1, c => k0_off11 (wR c)
theorem o0D_inb : ∀ (d : Fin 2) (c : Dev nD) (a), o0D d c a + S128x4096.size a ≤ S4096x8192.size a
  | 0, c => k0_off10_inb (wR c) (chk1 c)
  | 1, c => k0_off11_inb (wR c) (chk1 c)
/-- The place in the result of the block that arrives in step `r`. -/
abbrev ooD : Fin 2 → Dev nD → Fin 31 → Fin 2 → Nat
  | 0, c, r => k0_off12 (wR c) (BitVec.ofNat 32 (1 + r.val))
  | 1, c, r => k0_off13 (wR c) (BitVec.ofNat 32 (1 + r.val))
theorem ooD_inb : ∀ (d : Fin 2) (c : Dev nD) (r : Fin 31) (a), ooD d c r a + S128x4096.size a ≤ S4096x8192.size a
  | 0, c => k0_off12_inb (wR c) (chk1 c)
  | 1, c => k0_off13_inb (wR c) (chk1 c)

/-- A direction, on a device. -/
abbrev DD (c : Dev nD) (d : Fin 2) : DirM where
  acc := accM d
  recv := recvM d
  ss := ssM d
  rs := rsM d
  os := osM d
  cr := crM d
  dst := toD d c
  src := froD d c
  x0 := x0D d c
  x0_inb := x0D_inb d c
  xo := xoD d c
  xo_inb := xoD_inb d c
  o0 := o0D d c
  o0_inb := o0D_inb d c
  oo := ooD d c
  oo_inb := ooD_inb d c

theorem dirF_eq (c : Dev nD) : dirF (accM 0) (recvM 0) (ssM 0) (rsM 0) (osM 0) (crM 0) (wR c) (wN c) (wP c) (chk1 c) (chk2 c) (chk3 c) = DD c 0 := by
  unfold dirF
  rw [dev1_eq, dev2_eq]
  rfl
theorem dirB_eq (c : Dev nD) : dirB (accM 1) (recvM 1) (ssM 1) (rsM 1) (osM 1) (crM 1) (wR c) (wN c) (wP c) (chk1 c) (chk2 c) (chk3 c) = DD c 1 := by
  unfold dirB
  rw [dev1_eq, dev2_eq]
  rfl

/-! ## The exchanges -/

abbrev BB (c : Dev nD) : Fin 5 → Bfly := bflys (wR c) (chk1 c)

/-- The word of the ring's table exchange `k` reads is the partner's place. -/
theorem bb_off (c : Dev nD) (k : Fin 5) : (BB c k).off = ![((rposT c).val ^^^ 2 ^ k.val) % 32] := by
  have h : ∀ (c : Dev nD) (k : Fin 5) (a : Fin 1), (BB c k).off a = (![((rposT c).val ^^^ 2 ^ k.val) % 32] : Fin 1 → ℕ) a := by
    decide +kernel
  exact funext (h c k)
theorem bb_chk (c : Dev nD) (k : Fin 5) : (BB c k).chk (wB k c) := by
  have h : ∀ c : Dev nD, k0_chk4 (wB 0 c) ∧ k0_chk5 (wB 1 c) ∧ k0_chk6 (wB 2 c) ∧ k0_chk7 (wB 3 c) ∧ k0_chk8 (wB 4 c) := by
    decide +kernel
  obtain ⟨h0, h1, h2, h3, h4⟩ := h c
  fin_cases k
  · exact h0
  · exact h1
  · exact h2
  · exact h3
  · exact h4
theorem bb_dev (c : Dev nD) (k : Fin 5) (h : (BB c k).chk (wB k c)) : (BB c k).dev (wB k c) h = partner k c := by
  have hh : ∀ c : Dev nD, k0_dev251 (wB 0 c) = (partner 0 c).val ∧ k0_dev252 (wB 1 c) = (partner 1 c).val ∧ k0_dev253 (wB 2 c) = (partner 2 c).val
      ∧ k0_dev254 (wB 3 c) = (partner 3 c).val ∧ k0_dev255 (wB 4 c) = (partner 4 c).val := by
    decide +kernel
  obtain ⟨h0, h1, h2, h3, h4⟩ := hh c
  apply Fin.ext
  fin_cases k
  · exact h0
  · exact h1
  · exact h2
  · exact h3
  · exact h4

end Cert.Proof

end
-- ==== Proof.Proto.lean ====
/-
  The protocol: the semaphores by kind, the values that travel, and the schedule of what each semaphore's rounds hand over.
-/
module

public import proofs.«01_k».proof.Proof.Dev
public import Mathlib.Tactic.DeriveFintype

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The semaphores -/

/-- A device's semaphores: the barrier's; by direction and half, the credits; by direction, slot and half, those of
    departures and of landings; by direction, that of the copies to the result; by exchange, departure and landing. -/
inductive Kind where
  | bar
  | cred (d sub : Fin 2)
  | send (d sl sub : Fin 2)
  | recv (d sl sub : Fin 2)
  | out (d : Fin 2)
  | bsend (k : Fin 5)
  | brecv (k : Fin 5)
  deriving DecidableEq, Fintype

/-- The semaphore of a kind. -/
abbrev loc : Kind → SemLoc sig
  | .bar => .reg barSem
  | .cred d sub => .reg (cell1 (crM d) sub)
  | .send d sl sub => .dma (cell (ssM d) sl sub)
  | .recv d sl sub => .dma (cell (rsM d) sl sub)
  | .out d => .dma (osM d).sem
  | .bsend k => .dma (cell5 cc0_scratch14 k)
  | .brecv k => .dma (cell5 cc0_scratch15 k)

/-- A semaphore's number, regular ones apart from the others. -/
def locNum : SemLoc sig → ℕ
  | .reg s => s.val
  | .dma s => 100 + s.val

def kindNum : Kind → ℕ
  | .bar => 4
  | .cred d sub => 2 * d.val + sub.val
  | .send d sl sub => 106 + 9 * d.val + 2 * sl.val + sub.val
  | .recv d sl sub => 110 + 9 * d.val + 2 * sl.val + sub.val
  | .out d => 114 + 9 * d.val
  | .bsend k => 124 + k.val
  | .brecv k => 129 + k.val

theorem locNum_loc : ∀ k : Kind, locNum (loc k) = kindNum k := by decide +kernel
theorem kindNum_inj : ∀ k k' : Kind, kindNum k = kindNum k' → k = k' := by decide +kernel
theorem loc_inj {k k' : Kind} (h : loc k = loc k') : k = k' :=
  kindNum_inj k k' (by rw [← locNum_loc, ← locNum_loc, h])

/-- The kind of a semaphore. -/
def kindOf (l : SemLoc sig) : Option Kind := by
  classical exact if h : ∃ k, loc k = l then some h.choose else none
theorem kindOf_loc (k : Kind) : kindOf (loc k) = some k := by
  unfold kindOf
  have h : ∃ k', loc k' = loc k := ⟨k, rfl⟩
  rw [dif_pos h]
  exact congrArg some (loc_inj h.choose_spec)

/-- A device's semaphore of a kind. -/
abbrev gs (c : Dev nD) (k : Kind) : GSem nD τ sig := ((c : Thread nD τ), loc k)

/-! ## Amounts -/

/-- What half a slot's transfer credits. -/
def NH : ℕ := (half (recvM 0) 0 0).view.dmaCredit
/-- What a slot's transfer credits. -/
def NF : ℕ := (full (recvM 0) 0).view.dmaCredit
/-- What an exchange's transfer credits. -/
def NB : ℕ := (rbufV rbM 0).view.dmaCredit

theorem half_credit (d sl sub : Fin 2) : (half (recvM d) sl sub).view.dmaCredit = NH := by fin_cases d <;> rfl
theorem halfA_credit (d sl sub : Fin 2) : (half (accM d) sl sub).view.dmaCredit = NH := by fin_cases d <;> rfl
theorem full_credit (d sl : Fin 2) : (full (recvM d) sl).view.dmaCredit = NF := by fin_cases d <;> rfl
theorem fullA_credit (d sl : Fin 2) : (full (accM d) sl).view.dmaCredit = NF := by fin_cases d <;> rfl
theorem rbuf_credit (k : Fin 5) : (rbufV rbM k).view.dmaCredit = NB := rfl
theorem sbuf_credit : (sbM).view.dmaCredit = NB := rfl
theorem NH_pos : 0 < NH := View.dmaCredit_pos _ (by decide)
theorem NF_pos : 0 < NF := View.dmaCredit_pos _ (by decide)
theorem NB_pos : 0 < NB := View.dmaCredit_pos _ (by decide)

/-- The rows of the result a copy writes: copy 0 the device's own block, copy `t` the block of step `t`. -/
def oOff (d : Fin 2) (c : Dev nD) : ℕ → Fin 2 → Nat
  | 0 => o0D d c
  | t + 1 => ooD d c ⟨t % 31, Nat.mod_lt _ (by decide)⟩
theorem oOff_inb (d : Fin 2) (c : Dev nD) : ∀ (t : ℕ) (a), oOff d c t a + S128x4096.size a ≤ S4096x8192.size a
  | 0 => o0D_inb d c
  | t + 1 => ooD_inb d c ⟨t % 31, Nat.mod_lt _ (by decide)⟩
/-- That part of the result. -/
abbrev outM (d : Fin 2) (c : Dev nD) (t : ℕ) : Memref sig .tc .hbm S128x4096 .f32 :=
  outA.slice (Rect.unit (s := S4096x8192) (oOff d c t) S128x4096.size (oOff_inb d c t)) (fun _ => rfl)
theorem out_credit (d : Fin 2) (c : Dev nD) (t : ℕ) : (outM d c t).view.dmaCredit = NF := rfl

/-! ## Values -/

variable {F : FTy → Type} [FloatOps F]

/-- What every device holds of x and of w. -/
structure Inp (F : FTy → Type) where
  X : Dev nD → S4096x128.Idx → Elt F .f32
  W : Dev nD → S128x8192.Idx → Elt F .f32

/-- A chunk's product. -/
def mmW (I : Inp F) (c : Dev nD) (d : Fin 2) (xo : Fin 2 → Nat) (hx : ∀ a, xo a + S128x128.size a ≤ S4096x128.size a) :
    FVec F S128x4096 .f32 :=
  mmV (fun j => I.X c ((Rect.unit (s := S4096x128) xo S128x128.size hx).emb j))
    (fun j => I.W c ((Rect.unit (s := S128x8192) (wOff d) S128x4096.size (wOff_inb d)).emb j))

/-- The `g`-th product of a direction. -/
def mmG (I : Inp F) (d : Fin 2) (c : Dev nD) : ℕ → FVec F S128x4096 .f32
  | 0 => mmW I c d (x0D d c) (x0D_inb d c)
  | g + 1 => mmW I c d (xoD d c ⟨g % 31, Nat.mod_lt _ (by decide)⟩) (xoD_inb d c _)

/-- What arrived plus the own product, clamped at zero from below in the last step. -/
def sumFull (last : Bool) (a t : FVec F S128x4096 .f32) : FVec F S128x4096 .f32 :=
  match last with
  | false => addf a t
  | true => maximumf (addf a t) (broadcast S128x4096 (Scalar.ofBits .f32 0x00000000#32))

theorem sumV_ext (last : Bool) (sub : Fin 2) (a t : FVec F S128x4096 .f32) :
    sumV last sub (extV sub a) t = extV sub (sumFull last a t) := by
  cases last <;> rfl

/-- What a device holds in a direction after `g` steps of the summing ring. -/
def rsV (I : Inp F) (d : Fin 2) : ℕ → Dev nD → FVec F S128x4096 .f32
  | 0, c => mmG I d c 0
  | g + 1, c => sumFull (g == 30) (rsV I d g (froD d c)) (mmG I d c (g + 1))

/-- A block's largest element. -/
def maxF (X : FVec F S128x4096 .f32) : F .f32 :=
  maxV (fun j => X (Shape.reshapeEquiv squeezes_S1x128x4096_S128x4096.numel_eq.symm j))
/-- The larger of a number and an exchange buffer's elements. -/
def bmaxF (v : F .f32) (X : FVec F S8x128 .f32) : F .f32 :=
  bmaxV v (fun j => X (Shape.reshapeEquiv squeezes_S1x8x128_S8x128.numel_eq.symm j))

/-- The largest element a device knows of after `k` exchanges. -/
def valV (I : Inp F) : ℕ → Dev nD → F .f32
  | 0, c => Scalar.maximumf (maxF (rsV I 0 31 c)) (maxF (rsV I 1 31 c))
  | k + 1, c => bmaxF (valV I k c) (sbufV (valV I k (partner ⟨k % 5, Nat.mod_lt _ (by decide)⟩ c)))

/-- A device's block, quantised and scaled back. -/
def dqD (I : Inp F) (d : Fin 2) (c : Dev nD) : FVec F S128x4096 .f32 := dqV (scaleV (valV I 5 c)) (rsV I d 31 c)
/-- The block a device holds `t` steps into the copying ring. -/
def agV (I : Inp F) (d : Fin 2) (t : ℕ) (c : Dev nD) : FVec F S128x4096 .f32 := dqD I d ((froD d)^[t] c)

theorem agV_succ (I : Inp F) (d : Fin 2) (t : ℕ) (c : Dev nD) : agV I d t (froD d c) = agV I d (t + 1) c := rfl

/-! ## What is handed over -/

abbrev key (x : Dev nD) (d sub sl : Fin 2) : Key := .inl (x, d, sub, sl)
abbrev bkey (x : Dev nD) (k : Fin 5) : Key := .inr (x, k)

/-- What a landing slot is, at rest. -/
def Sl : Key → sProp (MM F)
  | .inl (x, d, sub, sl) => some_ x (half (recvM d) sl sub)
  | .inr (x, k) => some_ x (rbufV rbM k)

instance Sl_storable (k : Key) : BI.Storable (upEmb : UEmb _ (MM F)) (Sl (F := F) k) := by
  rcases k with ⟨x, d, sub, sl⟩ | ⟨x, k⟩ <;> (unfold Sl; infer_instance)

/-- How many transfers a lane makes: the first half carries the copying ring too. -/
def lim (sub : Fin 2) : ℕ := if sub = 0 then 62 else 31

/-- Device `x` has started: its landing slots are free, its scoped semaphores open. -/
def startF (x : Dev nD) : sProp (MM F) :=
  iprop((bigSep Finset.univ fun p : Fin 2 × Fin 2 × Fin 2 => iprop(Release.released ES (key x p.1 p.2.1 p.2.2) 1 ∗ reached ER (gs x (.recv p.1 p.2.2 p.2.1)) 0))
    ∗ (bigSep Finset.univ fun p : Fin 2 × Fin 2 => reached ER (gs x (.cred p.1 p.2)) 0)
    ∗ bigSep Finset.univ fun k : Fin 5 => iprop(Release.released ES (bkey x k) 1 ∗ reached ER (gs x (.brecv k)) 0))
instance startF_persistent (x : Dev nD) : BI.Persistent (startF (F := F) x) := by unfold startF; infer_instance
instance startF_storable (x : Dev nD) : BI.Storable (upEmb : UEmb _ (MM F)) (startF (F := F) x) := by unfold startF; infer_instance

/-- The last `n` devices of a direction, `c` the first of them, have started. -/
def knows (d : Fin 2) (n : ℕ) (c : Dev nD) : sProp (MM F) := bigSep (Finset.range n) fun i => startF ((froD d)^[i] c)
instance knows_persistent (d : Fin 2) (n : ℕ) (c : Dev nD) : BI.Persistent (knows (F := F) d n c) := by unfold knows; infer_instance
instance knows_storable (d : Fin 2) (n : ℕ) (c : Dev nD) : BI.Storable (upEmb : UEmb _ (MM F)) (knows (F := F) d n c) := by unfold knows; infer_instance

/-- The next device's slot is free again after landing `i`, and its landing semaphore waited for. -/
def cfact (c : Dev nD) (d sub : Fin 2) (i : ℕ) : sProp (MM F) :=
  iprop(Release.released ES (key c d sub (par i)) (i / 2 + 2)
    ∗ if i + 2 < lim sub then reached ER (gs c (.recv d (par i) sub)) (i / 2 + 1) else iprop(emp))
instance cfact_persistent (c : Dev nD) (d sub : Fin 2) (i : ℕ) : BI.Persistent (cfact (F := F) c d sub i) := by
  unfold cfact; split <;> infer_instance
instance cfact_storable (c : Dev nD) (d sub : Fin 2) (i : ℕ) : BI.Storable (upEmb : UEmb _ (MM F)) (cfact (F := F) c d sub i) := by
  unfold cfact; split <;> infer_instance
/-- The first `n` of them. -/
def cfacts (c : Dev nD) (d sub : Fin 2) (n : ℕ) : sProp (MM F) := bigSep (Finset.range n) fun i => cfact c d sub i
instance cfacts_persistent (c : Dev nD) (d sub : Fin 2) (i : ℕ) : BI.Persistent (cfacts (F := F) c d sub i) := by unfold cfacts; infer_instance
instance cfacts_storable (c : Dev nD) (d sub : Fin 2) (i : ℕ) : BI.Storable (upEmb : UEmb _ (MM F)) (cfacts (F := F) c d sub i) := by unfold cfacts; infer_instance

abbrev hL : PosShare TreeShare := fullShare.left
abbrev hR : PosShare TreeShare := fullShare.right

/-- The slot a device sends `t` steps into the copying ring. -/
abbrev agM (d : Fin 2) : ℕ → Memref sig .tc .vmem S128x4096 .f32
  | 0 => full (accM d) 1
  | t + 1 => full (recvM d) (par (t + 1))

/-- What a round of a semaphore hands over. -/
def pay (I : Inp F) (c : Dev nD) : Kind → ℕ → ℕ → sProp (MM F)
  | .bar, _, du => startF (froD (if du = 0 then 0 else 1) c)
  | .cred d sub, _, du => cfacts (toD d c) d sub (min (du + 1) 60)
  | .send d sl sub, r, _ =>
      if 2 * r + sl.val ≤ 30 then owns (c : Thread nD τ) (half (accM d) sl sub) fullShare (extV sub (rsV I d (2 * r + sl.val) c))
      else owns (c : Thread nD τ) (agM d (2 * r + sl.val - 31)) hL (agV I d (2 * r + sl.val - 31) c)
  | .recv d sl sub, r, _ =>
      if 2 * r + sl.val ≤ 30 then iprop(owns (c : Thread nD τ) (half (recvM d) sl sub) fullShare (extV sub (rsV I d (2 * r + sl.val) (froD d c))) ∗ knows d (2 * r + sl.val + 1) (froD d c))
      else owns (c : Thread nD τ) (full (recvM d) sl) fullShare (agV I d (2 * r + sl.val - 30) c)
  | .out d, r, _ => iprop(owns (c : Thread nD τ) (outM d c r) fullShare (agV I d r c) ∗ owns (c : Thread nD τ) (agM d r) hR (agV I d r c))
  | .bsend k, _, _ => owns (c : Thread nD τ) sbM fullShare (sbufV (valV I k.val c))
  | .brecv k, _, _ => owns (c : Thread nD τ) (rbufV rbM k) fullShare (sbufV (valV I k.val (partner k c)))

/-- The duties of a round. -/
def dut : Kind → ℕ → Finset ℕ
  | .bar, r => if r = 0 then {0, 1} else ∅
  | .cred _ _, r => if r = 0 then Finset.range 62 else ∅
  | .send _ sl sub, r => if 2 * r + sl.val < lim sub then {0} else ∅
  | .recv _ sl sub, r => if 2 * r + sl.val < lim sub then {0} else ∅
  | .out _, r => if r < 32 then {0} else ∅
  | .bsend _, r => if r = 0 then {0} else ∅
  | .brecv _, r => if r = 0 then {0} else ∅

/-- What a duty credits. -/
def amt : Kind → ℕ → ℕ
  | .bar, _ => 1
  | .cred _ _, _ => 1
  | .send _ sl _, r => if 2 * r + sl.val ≤ 30 then NH else NF
  | .recv _ sl _, r => if 2 * r + sl.val ≤ 30 then NH else NF
  | .out _, _ => NF
  | .bsend _, _ => NB
  | .brecv _, _ => NB

theorem amt_pos (k : Kind) (r : ℕ) : 0 < amt k r := by
  cases k <;> simp only [amt] <;> (try split) <;> first | exact NH_pos | exact NF_pos | exact NB_pos | exact Nat.one_pos

instance pay_storable (I : Inp F) (c : Dev nD) (k : Kind) (r du : ℕ) : BI.Storable (upEmb : UEmb _ (MM F)) (pay I c k r du) := by
  cases k <;> simp only [pay] <;> (try split) <;> infer_instance

/-- The schedule. -/
def Rd (I : Inp F) : Rounds.Schedule (GSem nD τ sig) ℕ (MM F) where
  duties g r := match kindOf g.2 with
    | none => ∅
    | some k => dut k r
  amount g r _ := match kindOf g.2 with
    | none => 1
    | some k => amt k r
  payload g r du := match kindOf g.2 with
    | none => iprop(emp)
    | some k => pay I g.1.1 k r du
  amount_pos g r _ _ := by
    cases kindOf g.2 with
    | none => exact Nat.one_pos
    | some k => exact amt_pos k r

instance Rd_storable (I : Inp F) (g : GSem nD τ sig) (r du : ℕ) : BI.Storable (upEmb : UEmb _ (MM F)) ((Rd I).payload g r du) := by
  dsimp only [Rd]
  cases kindOf g.2 <;> infer_instance

section Sched
variable (I : Inp F) (c : Dev nD) (k : Kind) (r du : ℕ)

theorem Rd_duties : (Rd I).duties (gs c k) r = dut k r := by simp only [Rd, kindOf_loc]
theorem Rd_amount : (Rd I).amount (gs c k) r du = amt k r := by simp only [Rd, kindOf_loc]
theorem Rd_payload : (Rd I).payload (gs c k) r du = pay I c k r du := by simp only [Rd, kindOf_loc]
theorem Rd_expect : (Rd I).expect (gs c k) r = (dut k r).card * amt k r := by
  unfold Schedule.expect Schedule.amountOf
  rw [Rd_duties, Finset.sum_congr rfl (fun d _ => Rd_amount I c k r d), Finset.sum_const, smul_eq_mul]
theorem Rd_expect_one (h : dut k r = {0}) : (Rd I).expect (gs c k) r = amt k r := by
  rw [Rd_expect, h, Finset.card_singleton, one_mul]
theorem Rd_rest_one (h : dut k r = {0}) :
    bigSep ((Rd I).duties (gs c k) r \ ∅) (fun d => (Rd I).payload (gs c k) r d) = pay I c k r 0 := by
  rw [Finset.sdiff_empty, Rd_duties, h, bigSep_singleton, Rd_payload]

/-- The round after the last. -/
def lastR : Kind → ℕ
  | .bar => 1
  | .cred _ _ => 1
  | .send _ sl sub => (lim sub + 1 - sl.val) / 2
  | .recv _ sl sub => (lim sub + 1 - sl.val) / 2
  | .out _ => 32
  | .bsend _ => 1
  | .brecv _ => 1

theorem dut_later (r : ℕ) (h : lastR k ≤ r) : dut k r = ∅ := by
  cases k <;> simp only [dut, lastR] at h ⊢ <;> rw [if_neg] <;> omega
theorem Rd_later : ∀ r, lastR k ≤ r → (Rd I).duties (gs c k) r = ∅ := fun r h => by rw [Rd_duties, dut_later k r h]

end Sched

/-! ## Levels -/

def lvK : Kind → ℕ → ℕ
  | .bar, _ => 1
  | .cred _ _, i => 10 * i + 25
  | .recv _ _ _, i => 10 * i + 10
  | .brecv k, _ => 311 + k.val
  | _, _ => 0

/-- The level of an index of a semaphore. -/
def lv (g : GSem nD τ sig) (i : ℕ) : ℕ := match kindOf g.2 with
  | none => 0
  | some k => lvK k i
def L (g : GSem nD τ sig) : Finset ℕ := if g.1.2 = .tc then Finset.range 62 else ∅

theorem lv_gs (c : Dev nD) (k : Kind) (i : ℕ) : lv (gs c k) i = lvK k i := by simp only [lv, kindOf_loc]
theorem L_of_ne (g : GSem nD τ sig) (h : g.1.2 ≠ .tc) : L g = ∅ := if_neg h
theorem L_tc (c : Dev nD) (sm : SemLoc sig) : L ((c : Thread nD τ), sm) = Finset.range 62 := if_pos rfl

/-! ## What a device owes -/

/-- A payment still to make: whom to, of which kind, at which index, how much. -/
abbrev Act : Type := Dev nD × Kind × ℕ × ℕ
abbrev tally (a : Act) : CellTallies nD τ sig ℕ := tallyAt (gs a.1 a.2.1) a.2.2.1 a.2.2.2
/-- The sum of the payments still to make. -/
def owed : List Act → CellTallies nD τ sig ℕ
  | [] => 0
  | a :: l => owed l + tally a

theorem owed_cons (a : Act) (l : List Act) : owed (a :: l) = owed l + tally a := rfl
theorem owed_append (l l' : List Act) : owed (l ++ l') = owed l + owed l' := by
  induction l with
  | nil => exact (zero_add _).symm
  | cons a l ih => rw [List.cons_append, owed_cons, owed_cons, ih]; exact add_right_comm _ _ _

theorem owed_pos {l : List Act} {g : GSem nD τ sig} {i : ℕ} (h : 0 < owed l g i) : ∃ a ∈ l, g = gs a.1 a.2.1 ∧ i = a.2.2.1 := by
  induction l with
  | nil => exact absurd h (Nat.lt_irrefl 0)
  | cons a l ih =>
    have h' : 0 < owed l g i + tally a g i := h
    by_cases hp : 0 < owed l g i
    · obtain ⟨b, hb, e⟩ := ih hp
      exact ⟨b, List.mem_cons_of_mem _ hb, e⟩
    · have ht : 0 < tally a g i := by omega
      unfold tally at ht
      rw [tallyAt_apply] at ht
      by_cases hc : g = gs a.1 a.2.1 ∧ i = a.2.2.1
      · exact ⟨a, List.mem_cons_self .., hc⟩
      · rw [if_neg hc] at ht; exact absurd ht (Nat.lt_irrefl 0)

/-- Every payment of the list lies above a level. -/
def Above (n : ℕ) (l : List Act) : Prop := ∀ a ∈ l, a.2.2.1 < 62 ∧ n < lvK a.2.1 a.2.2.1

/-- The levels, known to all. -/
@[irreducible] def LV : sProp (MM F) := levAts L lv
theorem LV_eq : (LV : sProp (MM F)) = levAts L lv := by unfold LV; rfl
instance LV_persistent : BI.Persistent (LV (F := F)) := by rw [LV_eq]; infer_instance

theorem mayWait (c : Dev nD) (k : Kind) (i n : ℕ) (hi : i < 62) (hk : lvK k i ≤ n) (l : List Act) (h : Above n l) :
    (LV : sProp (MM F)) ⊢ MayWait (c : Thread nD τ) (loc k) i (owed l) := by
  rw [LV_eq]
  exact MayOwe.of_cut (L := L) (lev := lv) n
    (fun p hp => by rw [Finset.mem_singleton.mp hp, L_tc]; exact Finset.mem_range.mpr hi)
    (fun g u hg => by
      obtain ⟨a, ha, rfl, rfl⟩ := owed_pos hg
      rw [L_tc]; exact Finset.mem_range.mpr (h a ha).1)
    (fun p hp => by rw [Finset.mem_singleton.mp hp]; exact (le_of_eq (lv_gs c k i)).trans hk)
    (fun g u hg => by
      obtain ⟨a, ha, rfl, rfl⟩ := owed_pos hg
      rw [lv_gs]; exact (h a ha).2)

end Cert.Proof

end
-- ==== Proof.Rule.lean ====
/-
  One operation of the protocol at a time: a transfer, a copy, a wait, a credit given and a credit taken, each over the
  schedule of `Proto`.
-/
module

public import proofs.«01_k».proof.Proof.Proto

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What is shared -/

/-- The semaphores' invariants, the landing slots' and the levels. -/
def ctx (I : Inp F) (K : Dev nD × Kind → ℕ) (N : Key → ℕ) : sProp (MM F) :=
  iprop((bigSep Finset.univ fun p : Dev nD × Kind => cellInv ER (Rd I) (K p) (gs p.1 p.2))
    ∗ (bigSep Finset.univ fun k : Key => Release.slotInv ES (N k) k (Sl k))
    ∗ LV)

instance ctx_persistent (I : Inp F) (K : Dev nD × Kind → ℕ) (N : Key → ℕ) : BI.Persistent (ctx I K N) := by
  unfold ctx; infer_instance

variable {I : Inp F} {K : Dev nD × Kind → ℕ} {N : Key → ℕ}

theorem ctx_cell (c : Dev nD) (k : Kind) : ctx I K N ⊢ cellInv ER (Rd I) (K (c, k)) (gs c k) := by
  unfold ctx
  iintro ⟨H, -, -⟩
  iapply (show (bigSep Finset.univ fun p : Dev nD × Kind => cellInv ER (Rd I) (K p) (gs p.1 p.2)) ⊢ cellInv ER (Rd I) (K (c, k)) (gs c k) from
    bigSep_elim (Finset.mem_univ (c, k)))
  iexact H
theorem ctx_slot (k : Key) : ctx I K N ⊢ Release.slotInv ES (N k) k (Sl k) := by
  unfold ctx
  iintro ⟨-, H, -⟩
  iapply (show (bigSep Finset.univ fun k : Key => Release.slotInv ES (N k) k (Sl (F := F) k)) ⊢ Release.slotInv ES (N k) k (Sl k) from
    bigSep_elim (Finset.mem_univ k))
  iexact H
theorem ctx_wait (c : Dev nD) (k : Kind) (i n : ℕ) (hi : i < 62) (hk : lvK k i ≤ n) (l : List Act) (h : Above n l) :
    ctx I K N ⊢ MayWait (c : Thread nD τ) (loc k) i (owed l) := by
  have h1 : ctx I K N ⊢ (LV : sProp (MM F)) := by
    unfold ctx
    iintro ⟨-, -, H⟩; iexact H
  exact BI.Entails.trans h1 (mayWait c k i n hi hk l h)

/-- What a device owes, whatever it has waited for. -/
def ow (c : Dev nD) (l : List Act) : sProp (MM F) := iprop(∃ W, owes (c : Thread nD τ) (owed l) W)

/-! ## Operations -/

/-- A transfer to a device's part of an array, held here. -/
theorem wp_send_owns (c c' : Dev nD) (k₁ k₂ : Kind) (r₁ r₂ : ℕ) {sp sp' : Space} {s : Shape} {e : EltTy}
    {src : Memref sig .tc sp s e} {dst : Memref sig .tc sp' s e} {hsc : dst.view.ref.isScScratch = false}
    {hsrc : src.view.WordExact} {hdst : dst.view.WordExact} {hsem : DmaTarget.Typed sp (loc k₂) (.remote (c' : Thread nD τ) dst (loc k₁) hsc)}
    (q : PosShare TreeShare) (X : s.Idx → Elt F e) (R : sProp (MM F)) (n ι : ℕ) (l : List Act)
    (h₁ : dut k₁ r₁ = {0}) (h₂ : dut k₂ r₂ = {0}) (a₁ : amt k₁ r₁ = n) (a₂ : amt k₂ r₂ = n) (hN : dst.view.amount (loc k₂) = n)
    (p₁ : owns (c : Thread nD τ) src q X ⊢ pay I c k₁ r₁ 0)
    (p₂ : iprop(owns (c' : Thread nD τ) dst fullShare X ∗ R) ⊢ pay I c' k₂ r₂ 0)
    (k : PUnit → P F) (Q : PUnit → sProp (MM F)) :
    iprop(ctx I K N ∗ owns (c : Thread nD τ) src q X ∗ some_ c' dst ∗ R ∗ ow c ((c', k₂, ι, n) :: l)
        ∗ dutyTok ER (gs c k₁) r₁ 0 ∗ reached ER (gs c k₁) r₁ ∗ dutyTok ER (gs c' k₂) r₂ 0 ∗ reached ER (gs c' k₂) r₂
        ∗ (cred (tallyAt (gs c k₁) 0 n) -∗ ow c l -∗ WP c (k ⟨⟩) Q))
      ⊢ WP c (.op (.enqueueDma src (.remote (c' : Thread nD τ) dst (loc k₁) hsc) (loc k₂) hsrc hdst hsem) k) Q := by
  unfold ow some_ owns
  iintro ⟨#Hctx, ⟨%fs, %hfs, Hs⟩, ⟨%Y, %fd, %hfd, Hd⟩, HR, ⟨%W, HO⟩, Ht₁, Hr₁, Ht₂, Hr₂, Hk⟩
  ihave #Hi₁ := (ctx_cell c k₁) $$ Hctx
  ihave #Hi₂ := (ctx_cell c' k₂) $$ Hctx
  iapply (Rounds.wp_send_pointsTo_with (defs := defs₀ (F := F)) 𝒱₀ ER (Rd I) (c : Thread nD τ) none (c' := (c' : Thread nD τ)) (src := src) (dst := dst) (hsc := hsc)
      (sS := loc k₁) (sem := loc k₂) (q := q) (fs := fs) (κ₁ := K (c, k₁)) (κ₂ := K (c', k₂))
      (r₁ := r₁) (r₂ := r₂) (d₁ := 0) (d₂ := 0) (fd := fd) (F := R)
      (by rw [Rd_duties, h₁]; exact Finset.mem_singleton_self _) (by rw [Rd_duties, h₂]; exact Finset.mem_singleton_self _)
      ι 0 n hN (by rw [Rd_amount, a₁]) (by rw [Rd_amount, a₂]) (owed l) rfl (W := W)
      (by
        rw [Rd_payload]; refine .trans ?_ p₁
        unfold owns; iintro H; iexists fs; isplitr; · ipureintro; exact hfs
        iexact H)
      (by
        rw [Rd_payload]; refine .trans ?_ p₂
        unfold owns; iintro ⟨H, HR⟩; isplitl [H]
        · iexists _; isplitr; · ipureintro; rw [← hfs]; exact View.read_write_univ (v := dst.view) fd _
          iexact H
        · iexact HR)) $$ [Hs Hd HR HO Ht₁ Hr₁ Ht₂ Hr₂]
  · isplitr; · iexact Hi₁
    isplitr; · iexact Hi₂
    isplitl [Hs]; · iexact Hs
    isplitl [Hd HR]
    · isplitl [Hd]; · iexact Hd
      iexact HR
    isplitl [HO]; · iexact HO
    isplitl [Ht₁]; · iexact Ht₁
    isplitl [Hr₁]; · iexact Hr₁
    isplitl [Ht₂]; · iexact Ht₂
    iexact Hr₂
  iintro ⟨Hc, HO⟩
  iapply Hk $$ Hc
  iexists W; iexact HO

/-- A copy on the device. -/
theorem wp_copy_owns (c : Dev nD) (k₁ : Kind) (r : ℕ) {sp sp' : Space} {s : Shape} {e : EltTy}
    {src : Memref sig .tc sp s e} {dst : Memref sig .tc sp' s e}
    {hsrc : src.view.WordExact} {hdst : dst.view.WordExact} {hsem : DmaTarget.Typed (nD := nD) (τ := τ) (p := .tc) sp (loc k₁) (.here dst)}
    (q : PosShare TreeShare) (X : s.Idx → Elt F e) (n : ℕ)
    (h : dut k₁ r = {0}) (a : amt k₁ r = n) (hN : dst.view.amount (loc k₁) = n)
    (p : iprop(owns (c : Thread nD τ) dst fullShare X ∗ owns (c : Thread nD τ) src q X) ⊢ pay I c k₁ r 0)
    (k : PUnit → P F) (Q : PUnit → sProp (MM F)) :
    iprop(ctx I K N ∗ owns (c : Thread nD τ) src q X ∗ some_ c dst
        ∗ dutyTok ER (gs c k₁) r 0 ∗ reached ER (gs c k₁) r
        ∗ (cred (tallyAt (gs c k₁) 0 n) -∗ WP c (k ⟨⟩) Q))
      ⊢ WP c (.op (.enqueueDma src (.here dst) (loc k₁) hsrc hdst hsem) k) Q := by
  unfold some_ owns
  iintro ⟨#Hctx, ⟨%fs, %hfs, Hs⟩, ⟨%Y, %fd, %hfd, Hd⟩, Ht, Hr, Hk⟩
  ihave #Hi := (ctx_cell c k₁) $$ Hctx
  iapply (Rounds.wp_copy_pointsTo (defs := defs₀ (F := F)) 𝒱₀ ER (Rd I) (c : Thread nD τ) none (src := src) (dst := dst) (sem := loc k₁) (q := q)
      (fs := fs) (fd := fd) (r := r) (d := 0) (κ := K (c, k₁))
      (by rw [Rd_duties, h]; exact Finset.mem_singleton_self _) 0 n hN (by rw [Rd_amount, a])
      (by
        rw [Rd_payload]; refine .trans ?_ p
        unfold owns; iintro ⟨H, H'⟩; isplitl [H]
        · iexists _; isplitr; · ipureintro; rw [← hfs]; exact View.read_write_univ (v := dst.view) fd _
          iexact H
        · iexists fs; isplitr; · ipureintro; exact hfs
          iexact H')) $$ [Hs Hd Ht Hr]
  · isplitr; · iexact Hi
    isplitl [Hs]; · iexact Hs
    isplitl [Hd]; · iexact Hd
    isplitl [Ht]; · iexact Ht
    iexact Hr
  iexact Hk

/-- A wait for the one payment of a round. -/
theorem wp_wait_one (c : Dev nD) (k₁ : Kind) (r ι n lvl : ℕ) (l : List Act) {w : TpuEff nD τ sig (Elt F) Λ₀ .tc PUnit} {n' : ℕ}
    (hw : ∀ Kt : PUnit → sProp (MM F), wpE (defs₀ (F := F)) 𝒱₀ (c : Thread nD τ) none Set.univ w Kt = waitSpec (c : Thread nD τ) Set.univ (loc k₁) n' Kt)
    (hn : n' = n) (h : dut k₁ r = {0}) (a : amt k₁ r = n) (hι : ι < 62) (hlv : lvK k₁ ι ≤ lvl) (hl : Above lvl l)
    (k : PUnit → P F) (Q : PUnit → sProp (MM F)) :
    iprop(ctx I K N ∗ cred (tallyAt (gs c k₁) ι n) ∗ ow c l ∗ atPos ER (gs c k₁) r ∅ 0
        ∗ (ow c l -∗ atPos ER (gs c k₁) (r + 1) ∅ 0 -∗ reached ER (gs c k₁) (r + 1) -∗ pay I c k₁ r 0 -∗ WP c (k ⟨⟩) Q))
      ⊢ WP c (.op w k) Q := by
  subst hn
  unfold ow
  iintro ⟨#Hctx, Hc, ⟨%W, HO⟩, Hat, Hk⟩
  ihave #Hi := (ctx_cell c k₁) $$ Hctx
  have hmw := ctx_wait (I := I) (K := K) (N := N) c k₁ ι lvl hι hlv l hl
  iapply (Rounds.wp_wait_rest_token (defs := defs₀ (F := F)) 𝒱₀ ER (Rd I) (c : Thread nD τ) none (κ := K (c, k₁)) hw (Set.mem_univ _) ι
      (O := owed l) (W := W) (R := r) (m := 0) (T := ∅) (by rw [Rd_expect_one I c k₁ r h, a, Nat.zero_add])) $$ [Hc HO Hat]
  · isplitr; · iexact Hi
    isplitl [Hc]; · iexact Hc
    isplitl [HO]; · iexact HO
    isplitr; · iapply hmw; iexact Hctx
    iexact Hat
  iintro ⟨HO, Hat, Hr, Hp⟩
  ihave Hp := (Entails.of_eq (Rd_rest_one I c k₁ r h)) $$ Hp
  iapply Hk $$ [HO] Hat Hr Hp
  iexists _; iexact HO

/-- A wait for a transfer, or for a copy. -/
theorem wp_waitDma_one (c : Dev nD) (k₁ : Kind) (s : DmaSem sig) (hs : loc k₁ = .dma s) (r ι n lvl : ℕ) (l : List Act)
    {sp sp' : Space} {s₁ s₂ : Shape} {e₁ e₂ : EltTy} {src : Memref sig .tc sp s₁ e₁} {dst : Memref sig .tc sp' s₂ e₂}
    {hsrc : src.view.WordExact} {hdst : dst.view.WordExact}
    (hn : dst.view.dmaCredit = n) (h : dut k₁ r = {0}) (a : amt k₁ r = n) (hι : ι < 62) (hlv : lvK k₁ ι ≤ lvl) (hl : Above lvl l)
    (k : PUnit → P F) (Q : PUnit → sProp (MM F)) :
    iprop(ctx I K N ∗ cred (tallyAt (gs c k₁) ι n) ∗ ow c l ∗ atPos ER (gs c k₁) r ∅ 0
        ∗ (ow c l -∗ atPos ER (gs c k₁) (r + 1) ∅ 0 -∗ reached ER (gs c k₁) (r + 1) -∗ pay I c k₁ r 0 -∗ WP c (k ⟨⟩) Q))
      ⊢ WP c (.op (.waitDma2 s src dst hsrc hdst) k) Q :=
  wp_wait_one c k₁ r ι n lvl l (by rw [hs]; exact wpE_waitDma2_eq 𝒱₀ (c : Thread nD τ) none Set.univ) hn h a hι hlv hl k Q

/-- A message to another device's semaphore. -/
theorem wp_signal_one (c c' : Dev nD) (k₁ : Kind) (s : Sem sig) (hs : loc k₁ = .reg s) (r du ι : ℕ) (l : List Act) {n : ℕ}
    (hn : n = 1) (h : du ∈ dut k₁ r) (a : amt k₁ r = 1) (k : PUnit → P F) (Q : PUnit → sProp (MM F)) :
    iprop(ctx I K N ∗ ow c ((c', k₁, ι, 1) :: l) ∗ dutyTok ER (gs c' k₁) r du ∗ reached ER (gs c' k₁) r ∗ pay I c' k₁ r du
        ∗ (ow c l -∗ WP c (k ⟨⟩) Q))
      ⊢ WP c (.op (.semSignal (c' : Thread nD τ) s n) k) Q := by
  subst hn
  unfold ow
  iintro ⟨#Hctx, ⟨%W, HO⟩, Ht, Hr, Hp, Hk⟩
  ihave #Hi := (ctx_cell c' k₁) $$ Hctx
  have hg : gs c' k₁ = ((c' : Thread nD τ), SemLoc.reg s) := by rw [← hs]
  iapply (Rounds.wp_signal (defs := defs₀ (F := F)) 𝒱₀ ER (Rd I) (c : Thread nD τ) none (dst := (c' : Thread nD τ)) (sem := s) (r := r) (d := du) (κ := K (c', k₁))
      (by rw [← hg, Rd_duties]; exact h) (by rw [← hg, Rd_amount, a]) ι (O₀ := owed ((c', k₁, ι, 1) :: l)) (owed l) (by rw [owed_cons]; show owed l + tallyAt (gs c' k₁) ι 1 = _; rw [hg])) $$ [HO Ht Hr Hp]
  · isplitr; · rw [← hg]; iexact Hi
    isplitl [HO]; · iexact HO
    isplitl [Ht]; · rw [← hg]; iexact Ht
    isplitl [Hp]; · rw [← hg, Rd_payload]; iexact Hp
    rw [← hg]; iexact Hr
  iintro HO
  iapply Hk
  iexists W; iexact HO

/-! ## Credits -/

/-- `n` credits of a half have been taken. -/
def cst (c : Dev nD) (d sub : Fin 2) (n : ℕ) : sProp (MM F) :=
  iprop(∃ T : Finset ℕ, ⌜T ⊆ Finset.range 62 ∧ n ≤ T.card⌝ ∗ atPos ER (gs c (.cred d sub)) 0 T n
    ∗ bigSep T fun j => cfacts (toD d c) d sub (min (j + 1) 60))

theorem cfacts_elim (c : Dev nD) (d sub : Fin 2) (i n : ℕ) (h : i < n) : cfacts (F := F) c d sub n ⊢ cfact c d sub i :=
  bigSep_elim (Finset.mem_range.mpr h)
theorem cfacts_succ (c : Dev nD) (d sub : Fin 2) (n : ℕ) : iprop(cfacts (F := F) c d sub n ∗ cfact c d sub n) ⊢ cfacts c d sub (n + 1) := by
  unfold cfacts
  rw [Finset.range_add_one, bigSep_insert Finset.notMem_range_self]
  refine (show _ ⊢ iprop(cfact c d sub n ∗ bigSep (Finset.range n) fun i => cfact (F := F) c d sub i) from ?_)
  iintro ⟨H, H'⟩
  isplitl [H']; · iexact H'
  iexact H

/-- Taking the next credit: the slot it speaks of may be written again. -/
theorem wp_creditWait (c : Dev nD) (d sub : Fin 2) (n : ℕ) (hn : n < 60) (l : List Act) (hl : Above (10 * n + 25) l) (k : P F) (Q : PUnit → sProp (MM F)) :
    iprop(ctx I K N ∗ cst c d sub n ∗ cred (tallyAt (gs c (.cred d sub)) n 1) ∗ ow c l
        ∗ (ow c l -∗ cst c d sub (n + 1) -∗ cfact (toD d c) d sub n -∗ WP c k Q))
      ⊢ WP c (creditWait (DD c d) sub 1#32 k) Q := by
  unfold creditWait ow
  iintro ⟨#Hctx, Hst, Hc, ⟨%W, HO⟩, Hk⟩
  ihave #Hi := (ctx_cell c (.cred d sub)) $$ Hctx
  have hmw := ctx_wait (I := I) (K := K) (N := N) c (.cred d sub) n (10 * n + 25) (by omega) le_rfl l hl
  unfold cst
  icases Hst with ⟨%T, %hT, Hat, #HT⟩
  iapply (Rounds.wp_wait (defs := defs₀ (F := F)) 𝒱₀ ER (Rd I) (c : Thread nD τ) none (κ := K (c, .cred d sub)) (sm := loc (.cred d sub)) (k' := 1)
      (wpE_semWait_eq 𝒱₀ (c : Thread nD τ) none Set.univ) (Set.mem_univ _)
      (cr := Finsupp.single n 1) (O := owed l) (W := W) {(loc (.cred d sub), n)} (R := 0) (m := n) (T := T)
      (by rw [Util.total_single]) (image_single_subset _ _ _)) $$ [Hc HO Hat]
  · isplitr; · iexact Hi
    isplitl [Hc]; · iexact Hc
    isplitl [HO]; · iexact HO
    isplitr; · iapply hmw; iexact Hctx
    iexact Hat
  iintro %S ⟨%hS, HO, Hat, HS⟩
  have hd : (Rd I).duties (gs c (.cred d sub)) 0 = Finset.range 62 := by rw [Rd_duties]; rfl
  have he : (Rd I).expect (gs c (.cred d sub)) 0 = 62 := by rw [Rd_expect]; rfl
  have hp : ∀ j, (Rd I).payload (gs c (.cred d sub)) 0 j = cfacts (toD d c) d sub (min (j + 1) 60) := fun j => Rd_payload I c (.cred d sub) 0 j
  have h1 : T ⊆ S := hS.1
  have h2 : S ⊆ Finset.range 62 := by rw [← hd]; exact hS.2.1
  have h3 : n + 1 ≤ S.card := by
    have h : n + 1 + ((Rd I).duties (gs c (.cred d sub)) 0 \ S).card ≤ (Rd I).expect (gs c (.cred d sub)) 0 := hS.2.2
    have e := Finset.card_sdiff_add_card_eq_card hS.2.1
    have e2 : ((Rd I).duties (gs c (.cred d sub)) 0).card = 62 := by rw [hd, Finset.card_range]
    rw [he] at h
    have e' : ((Rd I).duties (gs c (.cred d sub)) 0 \ S).card + S.card = 62 := e.trans e2
    omega
  obtain ⟨j, hj, hnj⟩ : ∃ j ∈ S, n ≤ j := by
    by_contra hcon
    have hsub : S ⊆ Finset.range n := fun j hj => by
      rw [Finset.mem_range]; by_contra hlt; exact hcon ⟨j, hj, by omega⟩
    have := Finset.card_le_card hsub
    rw [Finset.card_range] at this
    omega
  ihave #HS := (show (bigSep (S \ T) fun j => (Rd I).payload (gs c (.cred d sub)) 0 j) ⊢ bigSep (S \ T) fun j => cfacts (F := F) (toD d c) d sub (min (j + 1) 60) from
    Entails.of_eq (bigSep_congr fun j _ => hp j)) $$ HS
  ihave #Hall := (show iprop((bigSep T fun j => cfacts (F := F) (toD d c) d sub (min (j + 1) 60)) ∗ bigSep (S \ T) fun j => cfacts (F := F) (toD d c) d sub (min (j + 1) 60))
      ⊢ (bigSep S fun j => cfacts (F := F) (toD d c) d sub (min (j + 1) 60)) from by
        have h := bigSep_union (s := T) (t := S \ T) Finset.disjoint_sdiff (Φ := fun j => cfacts (F := F) (toD d c) d sub (min (j + 1) 60))
        rw [Finset.union_sdiff_of_subset h1] at h
        exact Entails.of_eq h.symm) $$ []
  · isplitl; · iexact HT
    iexact HS
  iapply Hk $$ [HO] [Hat]
  · iexists _; iexact HO
  · iexists S
    isplitr; · ipureintro; exact ⟨h2, h3⟩
    isplitl [Hat]; · iexact Hat
    iexact Hall
  · iapply (cfacts_elim (toD d c) d sub n (min (j + 1) 60) (by omega))
    iapply (show (bigSep S fun j => cfacts (F := F) (toD d c) d sub (min (j + 1) 60)) ⊢ cfacts (toD d c) d sub (min (j + 1) 60) from bigSep_elim hj)
    iexact Hall

/-- Taking the last two. -/
theorem wp_creditEnd (c : Dev nD) (d sub : Fin 2) (k : P F) (Q : PUnit → sProp (MM F)) :
    iprop(ctx I K N ∗ cst c d sub 60 ∗ cred (tallyAt (gs c (.cred d sub)) 60 1) ∗ cred (tallyAt (gs c (.cred d sub)) 61 1) ∗ ow c []
        ∗ (ow c [] -∗ atPos ER (gs c (.cred d sub)) 1 ∅ 0 -∗ WP c k Q))
      ⊢ WP c (creditWait (DD c d) sub 2#32 k) Q := by
  unfold creditWait ow
  iintro ⟨#Hctx, Hst, Hc, Hc', ⟨%W, HO⟩, Hk⟩
  ihave #Hi := (ctx_cell c (.cred d sub)) $$ Hctx
  unfold cst
  icases Hst with ⟨%T, %hT, Hat, #HT⟩
  iapply (Rounds.wp_wait_rest (defs := defs₀ (F := F)) 𝒱₀ ER (Rd I) (c : Thread nD τ) none (κ := K (c, .cred d sub)) (sm := loc (.cred d sub)) (k' := 2)
      (wpE_semWait_eq 𝒱₀ (c : Thread nD τ) none Set.univ) (Set.mem_univ _)
      (cr := Finsupp.single 60 1 + Finsupp.single 61 1) (O := owed []) (W := W) ((Finsupp.single 60 1 + Finsupp.single 61 1 : ℕ →₀ ℕ).support.image (loc (.cred d sub), ·)) (R := 0) (m := 60) (T := T)
      (by rw [Rd_expect]; rfl) (by rw [Util.total_add, Util.total_single, Util.total_single]) (Finset.Subset.refl _)) $$ [Hc Hc' HO Hat]
  · isplitr; · iexact Hi
    isplitl [Hc Hc']
    · have e : tallyOn (gs c (.cred d sub)) (Finsupp.single 60 1 + Finsupp.single 61 1) = tallyAt (gs c (.cred d sub)) 60 1 + tallyAt (gs c (.cred d sub)) 61 1 := by
        funext g
        by_cases hg : g = gs c (.cred d sub)
        · subst hg; simp [tallyAt]
        · simp [tallyAt, tallyOn_ne hg]
      rw [e]
      iapply (cred_add (T₁ := tallyAt (gs c (.cred d sub)) 60 1) (T₂ := tallyAt (gs c (.cred d sub)) 61 1)).2
      isplitl [Hc]; · iexact Hc
      iexact Hc'
    isplitl [HO]; · iexact HO
    isplitr; · rw [show owed [] = 0 from rfl, MayOwe_zero]; iempintro
    iexact Hat
  iintro ⟨HO, Hat, -, -⟩
  iapply Hk $$ [HO] Hat
  iexists _; iexact HO

/-! ## The slots -/

theorem some_false (c : Dev nD) {sp : Space} {s : Shape} {e : EltTy} (m : Memref sig .tc sp s e) (h : m.view.set.Nonempty) :
    iprop(some_ c m ∗ some_ c m) ⊢ (False : sProp (MM F)) := by
  unfold some_ owns
  obtain ⟨i, hi⟩ := h
  iintro ⟨⟨%X, %f, -, H⟩, ⟨%Y, %g, -, H'⟩⟩
  iapply (pointsTo_overlap_false (ℓ := m.view.loc (c : Thread nD τ)) (I := m.view.set) (J := m.view.set) (q := fullShare) (f := f) (g := g) (i := i) hi hi)
  isplitl [H]; · iexact H
  iexact H'

theorem set_nonempty {sp : Space} {s : Shape} {e : EltTy} (m : Memref sig .tc sp s e) (i : s.Idx) : m.view.set.Nonempty :=
  ⟨m.view.emb i, Finset.mem_map.mpr ⟨i, Finset.mem_univ _, rfl⟩⟩

theorem Sl_false (k : Key) : iprop(Sl k ∗ Sl k) ⊢ (False : sProp (MM F)) := by
  rcases k with ⟨x, d, sub, sl⟩ | ⟨x, k⟩
  · exact some_false x _ (set_nonempty _ (Idealize.ShloMosaic.ValueIdx.ix2 (0 : Fin 128) (0 : Fin 2048)))
  · exact some_false x _ (set_nonempty _ (Idealize.ShloMosaic.ValueIdx.ix2 (0 : Fin 8) (0 : Fin 128)))

/-- A landing slot taken for a transfer. -/
theorem take_slot (k : Key) (n : ℕ) : iprop(ctx I K N ∗ Release.released ES k n ∗ Release.writeTok ES k n) ⊢ (|={Set.univ}=> Sl k : sProp (MM F)) := by
  iintro ⟨#Hctx, Hr, Ht⟩
  iapply (Release.slot_take ES (Set.mem_univ (N k)) n)
  isplitr; · iapply (ctx_slot k); iexact Hctx
  isplitl [Hr]; · iexact Hr
  iexact Ht
/-- A landing slot given back. -/
theorem give_slot (k : Key) (n : ℕ) : iprop(ctx I K N ∗ Release.readerAt ES k n ∗ Sl k) ⊢ (|={Set.univ}=> (Release.readerAt ES k (n + 1) ∗ Release.released ES k (n + 1)) : sProp (MM F)) := by
  iintro ⟨#Hctx, Hr, Ht⟩
  iapply (Release.slot_release ES (Set.mem_univ (N k)) (Sl_false k) n)
  isplitr; · iapply (ctx_slot k); iexact Hctx
  isplitl [Hr]; · iexact Hr
  iexact Ht

end Cert.Proof

end
-- ==== Proof.Step.lean ====
/-
  A lane of the rings: what a device holds of one direction and one half between two steps, and the steps of the summing
  ring over it.
-/
module

public import proofs.«01_k».proof.Proof.Rule
public import Idealize.SL.BI.BigOpNat

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Positions -/

/-- A device's semaphore is at a round. -/
def at_ (c : Dev nD) (k : Kind) (r : ℕ) : sProp (MM F) := iprop(atPos ER (gs c k) r ∅ 0 ∗ reached ER (gs c k) r)

theorem par_two (g : ℕ) : par (g + 2) = par g := by unfold par; apply Fin.ext; show (g + 2) % 2 = g % 2; omega
theorem par_val (g : ℕ) : 2 * (g / 2) + (par g).val = g := by show 2 * (g / 2) + g % 2 = g; omega
theorem div_two (g : ℕ) : (g + 2) / 2 = g / 2 + 1 := by omega

theorem dut_send (d sub : Fin 2) (g : ℕ) (h : g < lim sub) : dut (.send d (par g) sub) (g / 2) = {0} := by
  simp only [dut, par_val]; rw [if_pos h]
theorem dut_recv (d sub : Fin 2) (g : ℕ) (h : g < lim sub) : dut (.recv d (par g) sub) (g / 2) = {0} := by
  simp only [dut, par_val]; rw [if_pos h]
theorem amt_send (d sub : Fin 2) (g : ℕ) : amt (.send d (par g) sub) (g / 2) = if g ≤ 30 then NH else NF := by
  simp only [amt, par_val]
theorem amt_recv (d sub : Fin 2) (g : ℕ) : amt (.recv d (par g) sub) (g / 2) = if g ≤ 30 then NH else NF := by
  simp only [amt, par_val]
theorem lim_ge (sub : Fin 2) : 31 ≤ lim sub := by unfold lim; split <;> omega
theorem pay_send (I : Inp F) (c : Dev nD) (d sub : Fin 2) (g : ℕ) (h : g ≤ 30) :
    pay I c (.send d (par g) sub) (g / 2) 0 = owns (c : Thread nD τ) (half (accM d) (par g) sub) fullShare (extV sub (rsV I d g c)) := by
  simp only [pay, par_val]; rw [if_pos h]
theorem pay_recv (I : Inp F) (c : Dev nD) (d sub : Fin 2) (g : ℕ) (h : g ≤ 30) :
    pay I c (.recv d (par g) sub) (g / 2) 0 = iprop(owns (c : Thread nD τ) (half (recvM d) (par g) sub) fullShare (extV sub (rsV I d g (froD d c))) ∗ knows d (g + 1) (froD d c)) := by
  simp only [pay, par_val]; rw [if_pos h]

/-! ## Tokens -/

/-- The right to make transfer `g`. -/
def tS (c : Dev nD) (d sub : Fin 2) (g : ℕ) : sProp (MM F) :=
  iprop(dutyTok ER (gs c (.send d (par g) sub)) (g / 2) 0 ∗ dutyTok ER (gs (toD d c) (.recv d (par g) sub)) (g / 2) 0)
/-- The right to overwrite the next device's landing slot for it. -/
def tW (c : Dev nD) (d sub : Fin 2) (g : ℕ) : sProp (MM F) := Release.writeTok ES (key (toD d c) d sub (par g)) (g / 2 + 1)
/-- The right to hand a slot back. -/
def tJ (c : Dev nD) (d sub : Fin 2) (g : ℕ) : sProp (MM F) := dutyTok ER (gs (froD d c) (.cred d sub)) 0 g
/-- A message the device will be sent. -/
def tM (c : Dev nD) (d sub : Fin 2) (g : ℕ) : sProp (MM F) := cred (tallyAt (gs c (.cred d sub)) g 1)
/-- A transfer it will be sent. -/
def tR (c : Dev nD) (d sub : Fin 2) (g : ℕ) : sProp (MM F) := cred (tallyAt (gs c (.recv d (par g) sub)) g (if g ≤ 30 then NH else NF))

/-- All that a device may still do in a lane. -/
def toks (c : Dev nD) (d sub : Fin 2) (s j m r : ℕ) : sProp (MM F) :=
  iprop((bigSep (Finset.Ico s (lim sub)) fun g => tS c d sub g) ∗ (bigSep (Finset.Ico s 62) fun g => tW c d sub g)
    ∗ (bigSep (Finset.Ico j 62) fun g => tJ c d sub g) ∗ (bigSep (Finset.Ico m 62) fun g => tM c d sub g)
    ∗ bigSep (Finset.Ico r (lim sub)) fun g => tR c d sub g)

theorem ico_emp {a b : ℕ} (h : b ≤ a) (A : ℕ → sProp (MM F)) : bigSep (Finset.Ico a b) A = iprop(emp) := by
  rw [Finset.Ico_eq_empty_of_le h, bigSep_empty]
  rfl

theorem toks_s (c : Dev nD) (d sub : Fin 2) (s j m r : ℕ) (h : s < lim sub) :
    toks (F := F) c d sub s j m r ⊢ iprop(tS c d sub s ∗ tW c d sub s ∗ toks c d sub (s + 1) j m r) := by
  have h' : s < 62 := lt_of_lt_of_le h (by unfold lim; split <;> omega)
  unfold toks
  rw [bigSep_Ico_succ_bot h, bigSep_Ico_succ_bot h']
  iintro ⟨⟨Ha, Hs⟩, ⟨Hb, Hw⟩, Hj, Hm, Hr⟩
  iframe
theorem toks_w (c : Dev nD) (d sub : Fin 2) (s j m r : ℕ) (h : lim sub ≤ s) (h' : s < 62) :
    toks (F := F) c d sub s j m r ⊢ iprop(tW c d sub s ∗ toks c d sub (s + 1) j m r) := by
  unfold toks
  rw [ico_emp h, ico_emp (h.trans (Nat.le_succ s)), bigSep_Ico_succ_bot h']
  iintro ⟨Hs, ⟨Hb, Hw⟩, Hj, Hm, Hr⟩
  iframe
theorem toks_j (c : Dev nD) (d sub : Fin 2) (s j m r : ℕ) (h : j < 62) :
    toks (F := F) c d sub s j m r ⊢ iprop(tJ c d sub j ∗ toks c d sub s (j + 1) m r) := by
  unfold toks
  rw [bigSep_Ico_succ_bot h]
  iintro ⟨Hs, Hw, ⟨Hb, Hj⟩, Hm, Hr⟩
  iframe
theorem toks_m (c : Dev nD) (d sub : Fin 2) (s j m r : ℕ) (h : m < 62) :
    toks (F := F) c d sub s j m r ⊢ iprop(tM c d sub m ∗ toks c d sub s j (m + 1) r) := by
  unfold toks
  rw [bigSep_Ico_succ_bot h]
  iintro ⟨Hs, Hw, Hj, ⟨Hb, Hm⟩, Hr⟩
  iframe
theorem toks_r (c : Dev nD) (d sub : Fin 2) (s j m r : ℕ) (h : r < lim sub) :
    toks (F := F) c d sub s j m r ⊢ iprop(tR c d sub r ∗ toks c d sub s j m (r + 1)) := by
  unfold toks
  rw [bigSep_Ico_succ_bot h]
  iintro ⟨Hs, Hw, Hj, Hm, Hb, Hr⟩
  iframe
theorem toks_r' (c : Dev nD) (d sub : Fin 2) (s j m r r' : ℕ) (h : lim sub ≤ r) (h' : lim sub ≤ r') :
    toks (F := F) c d sub s j m r ⊢ toks c d sub s j m r' := by
  unfold toks
  rw [ico_emp h, ico_emp h']

/-! ## The summing ring's steps -/

variable {I : Inp F} {K : Dev nD × Kind → ℕ} {N : Key → ℕ}

/-- What may be written in a landing slot: it is free, and its semaphore is at the round. -/
def perm (x : Dev nD) (d sub : Fin 2) (g : ℕ) : sProp (MM F) :=
  iprop(Release.released ES (key x d sub (par g)) (g / 2 + 1) ∗ reached ER (gs x (.recv d (par g) sub)) (g / 2))

theorem startF_perm (x : Dev nD) (d sub : Fin 2) (g : ℕ) (h : g < 2) : startF (F := F) x ⊢ perm x d sub g := by
  unfold startF perm
  have e : g / 2 = 0 := by omega
  rw [e]
  iintro ⟨H, -⟩
  iapply (show (bigSep Finset.univ fun p : Fin 2 × Fin 2 × Fin 2 => iprop(Release.released ES (key x p.1 p.2.1 p.2.2) 1 ∗ reached (𝕄 := MM F) ER (gs x (.recv p.1 p.2.2 p.2.1)) 0))
      ⊢ iprop(Release.released ES (key x d sub (par g)) 1 ∗ reached ER (gs x (.recv d (par g) sub)) 0) from bigSep_elim (Finset.mem_univ (d, sub, par g)))
  iexact H
theorem startF_cred (x : Dev nD) (d sub : Fin 2) : startF (F := F) x ⊢ reached ER (gs x (.cred d sub)) 0 := by
  unfold startF
  iintro ⟨-, H, -⟩
  iapply (show (bigSep Finset.univ fun p : Fin 2 × Fin 2 => reached (𝕄 := MM F) ER (gs x (.cred p.1 p.2)) 0)
      ⊢ reached ER (gs x (.cred d sub)) 0 from bigSep_elim (Finset.mem_univ (d, sub)))
  iexact H
theorem startF_bfly (x : Dev nD) (k : Fin 5) : startF (F := F) x ⊢ iprop(Release.released ES (bkey x k) 1 ∗ reached ER (gs x (.brecv k)) 0) := by
  unfold startF
  iintro ⟨-, -, H⟩
  iapply (show (bigSep Finset.univ fun k : Fin 5 => iprop(Release.released ES (bkey x k) 1 ∗ reached (𝕄 := MM F) ER (gs x (.brecv k)) 0))
      ⊢ iprop(Release.released ES (bkey x k) 1 ∗ reached ER (gs x (.brecv k)) 0) from bigSep_elim (Finset.mem_univ k))
  iexact H
theorem cfact_perm (x : Dev nD) (d sub : Fin 2) (g : ℕ) (h : g + 2 < lim sub) : cfact (F := F) x d sub g ⊢ perm x d sub (g + 2) := by
  unfold cfact perm
  rw [if_pos h, par_two, div_two]

theorem Sl_key (x : Dev nD) (d sub sl : Fin 2) : Sl (F := F) (key x d sub sl) = some_ x (half (recvM d) sl sub) := rfl
theorem Sl_bkey (x : Dev nD) (k : Fin 5) : Sl (F := F) (bkey x k) = some_ x (rbufV rbM k) := rfl

theorem knows_succ (d : Fin 2) (n : ℕ) (c : Dev nD) : iprop(startF (F := F) c ∗ knows d n (froD d c)) ⊢ knows d (n + 1) c := by
  unfold knows
  have e : Finset.Ico (0 + 1) (n + 1) = (Finset.range n).map ⟨fun i => i + 1, fun _ _ h => Nat.succ.inj h⟩ := by
    ext x
    rw [Finset.mem_Ico, Finset.mem_map]
    constructor
    · intro h; exact ⟨x - 1, Finset.mem_range.mpr (by omega), by show x - 1 + 1 = x; omega⟩
    · rintro ⟨y, hy, rfl⟩
      have := Finset.mem_range.mp hy
      exact ⟨by show 0 + 1 ≤ y + 1; omega, by show y + 1 < n + 1; omega⟩
  rw [show Finset.range (n + 1) = Finset.Ico 0 (n + 1) by rw [Finset.range_eq_Ico], bigSep_Ico_succ_bot (show 0 < n + 1 by omega), e, bigSep_map]
  exact BI.Entails.refl _
theorem knows_get (d : Fin 2) (n i : ℕ) (h : i < n) (c : Dev nD) : knows (F := F) d n c ⊢ startF ((froD d)^[i] c) := by
  unfold knows
  exact bigSep_elim (Φ := fun i => startF ((froD d)^[i] c)) (Finset.mem_range.mpr h)

/-- The half sent to the next device. -/
theorem wp_sendHalf (c : Dev nD) (d sub : Fin 2) (g : ℕ) (hg : g ≤ 30) (l : List Act) (k : P F) (Q : PUnit → sProp (MM F)) :
    iprop(ctx I K N ∗ perm (toD d c) d sub g ∗ tS c d sub g ∗ tW c d sub g ∗ at_ c (.send d (par g) sub) (g / 2)
        ∗ owns (c : Thread nD τ) (half (accM d) (par g) sub) fullShare (extV sub (rsV I d g c)) ∗ knows d (g + 1) c
        ∗ ow c ((toD d c, .recv d (par g) sub, g, NH) :: l)
        ∗ (cred (tallyAt (gs c (.send d (par g) sub)) 0 NH) -∗ at_ c (.send d (par g) sub) (g / 2) -∗ ow c l -∗ WP c k Q))
      ⊢ WP c (sendHalf (DD c d) (par g) sub k) Q := by
  have hl : g < lim sub := lt_of_le_of_lt hg (lim_ge sub)
  unfold perm tS tW at_ sendHalf
  dsimp only [DD]
  iintro ⟨#Hctx, ⟨Hrel, Hr2⟩, ⟨Ht1, Ht2⟩, Hw, ⟨Hat, #Hr1⟩, Hs, Hkn, HO, Hk⟩
  ihave Hd := (take_slot (I := I) (K := K) (N := N) (key (toD d c) d sub (par g)) (g / 2 + 1)) $$ [Hrel Hw]
  · isplitr; · iexact Hctx
    isplitl [Hrel]; · iexact Hrel
    iexact Hw
  imod Hd
  ihave Hd := (Entails.of_eq (Sl_key (F := F) (toD d c) d sub (par g))) $$ Hd
  iapply (wp_send_owns (I := I) (K := K) (N := N) c (toD d c) (.send d (par g) sub) (.recv d (par g) sub) (g / 2) (g / 2) fullShare
      (extV sub (rsV I d g c)) (knows d (g + 1) c) NH g l (dut_send d sub g hl) (dut_recv d sub g hl) ((amt_send d sub g).trans (if_pos hg))
      ((amt_recv d sub g).trans (if_pos hg)) (half_credit d (par g) sub) (Entails.of_eq (pay_send I c d sub g hg).symm)
      (by rw [pay_recv I _ d sub g hg, fro_to]) (fun _ => k) Q)
  isplitr; · iexact Hctx
  isplitl [Hs]; · iexact Hs
  isplitl [Hd]; · iexact Hd
  isplitl [Hkn]; · iexact Hkn
  isplitl [HO]; · iexact HO
  isplitl [Ht1]; · iexact Ht1
  isplitr; · iexact Hr1
  isplitl [Ht2]; · iexact Ht2
  isplitl [Hr2]; · iexact Hr2
  iintro Hc HO
  iapply Hk $$ Hc [Hat] HO
  isplitl [Hat]; · iexact Hat
  iexact Hr1

theorem at_reached (c : Dev nD) (k : Kind) (r : ℕ) : at_ (F := F) c k r ⊢ reached ER (gs c k) r := by
  unfold at_; iintro ⟨-, H⟩; iexact H

set_option maxHeartbeats 2000000 in
/-- What a step of the summing ring takes in: the half sent has left, the neighbour's has arrived; their sum takes the
    other slot, and the landing slot is handed back. -/
theorem wp_rsFront (c : Dev nD) (d sub : Fin 2) (g : ℕ) (hg : g ≤ 30) (t : FVec F S128x4096 .f32) (ht : t = mmG I d c (g + 1)) (b : Bool) (hb : b = (g == 30))
    (l : List Act) (hl : Above (10 * g + 10) l) (k : P F) (Q : PUnit → sProp (MM F)) :
    iprop(ctx I K N ∗ startF c ∗ cred (tallyAt (gs c (.send d (par g) sub)) 0 NH) ∗ at_ c (.send d (par g) sub) (g / 2)
        ∗ at_ c (.recv d (par g) sub) (g / 2) ∗ Release.readerAt ES (key c d sub (par g)) (g / 2 + 1)
        ∗ some_ c (half (accM d) (par (g + 1)) sub) ∗ cfacts c d sub g ∗ tJ c d sub g ∗ tR c d sub g
        ∗ ow c ((froD d c, .cred d sub, g, 1) :: l)
        ∗ (at_ c (.send d (par g) sub) (g / 2 + 1) -∗ at_ c (.recv d (par g) sub) (g / 2 + 1)
            -∗ Release.readerAt ES (key c d sub (par g)) (g / 2 + 2)
            -∗ owns (c : Thread nD τ) (half (accM d) (par (g + 1)) sub) fullShare (extV sub (rsV I d (g + 1) c))
            -∗ some_ c (half (accM d) (par g) sub) -∗ cfacts c d sub (g + 1) -∗ knows d (g + 2) c -∗ ow c l -∗ WP c k Q))
      ⊢ WP c (waitHalf (DD c d) (par g) sub <|
          .op (.load (recvM d) (halfR (par g) sub).toLoadRect (View.loadsAt_vmem h_S1x128x2048)) fun v =>
          putHalf (accM d) (par (g + 1)) sub
            (sumV b sub (shapeCast S128x2048 v shapeCasts_S1x128x2048_S128x2048) t) <|
          credit (DD c d) sub k) Q := by
  subst hb ht
  have hlim : g < lim sub := lt_of_le_of_lt hg (lim_ge sub)
  have hab : Above (10 * g + 10) ((froD d c, .cred d sub, g, 1) :: l) := fun a ha => by
    rcases List.mem_cons.mp ha with rfl | ha
    · exact ⟨by show g < 62; omega, by show 10 * g + 10 < 10 * g + 25; omega⟩
    · exact hl a ha
  have h62 : g < 62 := by omega
  unfold waitHalf tJ tR credit
  dsimp only [DD]
  rw [if_pos hg]
  iintro ⟨#Hctx, #Hst, Hcs, Hs, Hr, Hrd, Hacc, #Hcf, HtJ, HtR, HO, Hk⟩
  unfold at_
  icases Hs with ⟨Hs, -⟩
  icases Hr with ⟨Hr, -⟩
  iapply (wp_waitDma_one (I := I) (K := K) (N := N) c (.send d (par g) sub) _ rfl (g / 2) 0 NH (10 * g + 10) ((froD d c, .cred d sub, g, 1) :: l)
      (halfA_credit d (par g) sub) (dut_send d sub g hlim)
      ((amt_send d sub g).trans (if_pos hg)) (by omega) (Nat.zero_le _) hab _ Q)
  isplitr; · iexact Hctx
  isplitl [Hcs]; · iexact Hcs
  isplitl [HO]; · iexact HO
  isplitl [Hs]; · iexact Hs
  iintro HO Hs #Hs' Hp
  ihave Hp := (Entails.of_eq (pay_send I c d sub g hg)) $$ Hp
  iapply (wp_waitDma_one (I := I) (K := K) (N := N) c (.recv d (par g) sub) _ rfl (g / 2) g NH (10 * g + 10) ((froD d c, .cred d sub, g, 1) :: l)
      (half_credit d (par g) sub) (dut_recv d sub g hlim)
      ((amt_recv d sub g).trans (if_pos hg)) h62 le_rfl hab _ Q)
  isplitr; · iexact Hctx
  isplitl [HtR]; · iexact HtR
  isplitl [HO]; · iexact HO
  isplitl [Hr]; · iexact Hr
  iintro HO Hr #Hr' Hp'
  ihave Hp' := (Entails.of_eq (pay_recv I c d sub g hg)) $$ Hp'
  icases Hp' with ⟨Hv, #Hkn⟩
  iapply (wp_load_half c (recvM d) (par g) sub fullShare (extV sub (rsV I d g (froD d c))) (fun v => putHalf (accM d) (par (g + 1)) sub
      (sumV (g == 30) sub v (mmG I d c (g + 1))) <| .op (.semSignal (froD d c, Proc.tc) (cell1 (crM d) sub) (1#32 : BitVec 32).toInt) fun _ => k) Q)
  isplitl [Hv]; · iexact Hv
  iintro Hv
  rw [sumV_ext, show sumFull (g == 30) (rsV I d g (froD d c)) (mmG I d c (g + 1)) = rsV I d (g + 1) c from rfl]
  iapply (wp_putHalf c (accM d) (par (g + 1)) sub _ _ Q)
  isplitl [Hacc]; · iexact Hacc
  iintro Hacc
  ihave Hv := ((owns_some c (half (recvM d) (par g) sub) _).trans (Entails.of_eq (Sl_key c d sub (par g)).symm)) $$ Hv
  ihave Hg := (give_slot (I := I) (K := K) (N := N) (key c d sub (par g)) (g / 2 + 1)) $$ [Hrd Hv]
  · isplitr; · iexact Hctx
    isplitl [Hrd]; · iexact Hrd
    iexact Hv
  imod Hg
  icases Hg with ⟨Hrd, #Hrel⟩
  ihave #Hcf' := (cfacts_succ (F := F) c d sub g) $$ []
  · isplitr; · iexact Hcf
    unfold cfact
    isplitr; · iexact Hrel
    split
    · iexact Hr'
    · iempintro
  iapply (wp_signal_one (I := I) (K := K) (N := N) c (froD d c) (.cred d sub) _ rfl 0 g g l rfl (by show g ∈ Finset.range 62; exact Finset.mem_range.mpr h62) rfl (fun _ => k) Q)
  isplitr; · iexact Hctx
  isplitl [HO]; · iexact HO
  isplitl [HtJ]; · iexact HtJ
  isplitr
  · iapply (startF_cred (F := F) (froD d c) d sub)
    iapply (knows_get (F := F) d (g + 1) 0 (Nat.succ_pos g) (froD d c))
    iexact Hkn
  isplitr
  · have e : pay I (froD d c) (.cred d sub) 0 g = cfacts c d sub (g + 1) := by
      show cfacts (toD d (froD d c)) d sub (min (g + 1) 60) = _
      rw [to_fro, Nat.min_eq_left (by omega)]
    rw [e]
    iexact Hcf'
  iintro HO
  iapply Hk $$ [Hs] [Hr] Hrd Hacc [Hp] [] [] HO
  · isplitl [Hs]; · iexact Hs
    iexact Hs'
  · isplitl [Hr]; · iexact Hr
    iexact Hr'
  · iapply (owns_some c (half (accM d) (par g) sub) _); iexact Hp
  · iexact Hcf'
  · iapply (knows_succ (F := F) d (g + 1) c)
    isplitr; · iexact Hst
    iexact Hkn

/-! ## A lane between two steps -/

/-- Where a lane's semaphores and landing slots are, transfer `g` next. -/
def base (c : Dev nD) (d sub : Fin 2) (g : ℕ) : sProp (MM F) :=
  iprop(at_ c (.send d (par g) sub) (g / 2) ∗ at_ c (.send d (par (g + 1)) sub) ((g + 1) / 2)
    ∗ at_ c (.recv d (par g) sub) (g / 2) ∗ at_ c (.recv d (par (g + 1)) sub) ((g + 1) / 2)
    ∗ Release.readerAt ES (key c d sub (par g)) (g / 2 + 1) ∗ Release.readerAt ES (key c d sub (par (g + 1))) ((g + 1) / 2 + 1))

theorem base_step (c : Dev nD) (d sub : Fin 2) (g : ℕ) :
    iprop(at_ c (.send d (par g) sub) (g / 2 + 1) ∗ at_ c (.send d (par (g + 1)) sub) ((g + 1) / 2)
      ∗ at_ c (.recv d (par g) sub) (g / 2 + 1) ∗ at_ c (.recv d (par (g + 1)) sub) ((g + 1) / 2)
      ∗ Release.readerAt ES (key c d sub (par g)) (g / 2 + 2) ∗ Release.readerAt ES (key c d sub (par (g + 1))) ((g + 1) / 2 + 1))
    ⊢ (base c d sub (g + 1) : sProp (MM F)) := by
  unfold base
  rw [show par (g + 1 + 1) = par g from par_two g, show (g + 1 + 1) / 2 = g / 2 + 1 from div_two g]
  iintro ⟨H1, H2, H3, H4, H5, H6⟩
  iframe

theorem base_open (c : Dev nD) (d sub : Fin 2) (g : ℕ) :
    base (F := F) c d sub g ⊢ iprop(at_ c (.send d (par g) sub) (g / 2) ∗ at_ c (.send d (par (g + 1)) sub) ((g + 1) / 2)
    ∗ at_ c (.recv d (par g) sub) (g / 2) ∗ at_ c (.recv d (par (g + 1)) sub) ((g + 1) / 2)
    ∗ Release.readerAt ES (key c d sub (par g)) (g / 2 + 1) ∗ Release.readerAt ES (key c d sub (par (g + 1))) ((g + 1) / 2 + 1)) := by
  unfold base
  exact BI.Entails.refl _

/-- A lane of the summing ring, transfer `g` on its way. -/
def lane (c : Dev nD) (d sub : Fin 2) (g : ℕ) : sProp (MM F) :=
  iprop(cred (tallyAt (gs c (.send d (par g) sub)) 0 NH) ∗ base c d sub g ∗ some_ c (half (accM d) (par (g + 1)) sub)
    ∗ cst c d sub (min (g - 1) 29) ∗ cfacts c d sub g ∗ toks c d sub (g + 1) g (min (g - 1) 29) g)

/-- The lane after its last step. -/
def laneEnd (I : Inp F) (c : Dev nD) (d sub : Fin 2) : sProp (MM F) :=
  iprop(base c d sub 31 ∗ owns (c : Thread nD τ) (half (accM d) 1 sub) fullShare (extV sub (rsV I d 31 c)) ∗ some_ c (half (accM d) 0 sub)
    ∗ cst c d sub 29 ∗ cfacts c d sub 31 ∗ toks c d sub 31 31 29 31)

/-- The device and its neighbours have started. -/
def nb (c : Dev nD) : sProp (MM F) := iprop(startF c ∗ startF (toD 0 c) ∗ startF (toD 1 c))
instance nb_persistent (c : Dev nD) : BI.Persistent (nb (F := F) c) := by unfold nb; infer_instance
theorem nb_self (c : Dev nD) : nb (F := F) c ⊢ startF c := by unfold nb; iintro ⟨H, -, -⟩; iexact H
theorem nb_to (d : Fin 2) (c : Dev nD) : nb (F := F) c ⊢ startF (toD d c) := by
  unfold nb
  iintro ⟨-, H, H'⟩
  fin_cases d
  · iexact H
  · iexact H'

/-- What a lane's step pays. -/
def acts (c : Dev nD) (d sub : Fin 2) (g : ℕ) : List Act :=
  (froD d c, .cred d sub, g, 1) :: if g < 30 then [(toD d c, .recv d (par (g + 1)) sub, g + 1, NH)] else []

theorem acts_above (c : Dev nD) (d sub : Fin 2) (g : ℕ) (hg : g ≤ 30) : Above (10 * g + 15) (acts c d sub g) := by
  intro a ha
  unfold acts at ha
  rcases List.mem_cons.mp ha with rfl | ha
  · exact ⟨by show g < 62; omega, by show 10 * g + 15 < 10 * g + 25; omega⟩
  · split at ha
    · rw [List.mem_singleton] at ha; subst ha
      exact ⟨by show g + 1 < 62; omega, by show 10 * g + 15 < 10 * (g + 1) + 10; omega⟩
    · exact absurd ha List.not_mem_nil

theorem above_append {n : ℕ} {l l' : List Act} (h : Above n l) (h' : Above n l') : Above n (l ++ l') := fun a ha =>
  (List.mem_append.mp ha).elim (h a) (h' a)
theorem above_cons {n : ℕ} {a : Act} {l : List Act} (h : a.2.2.1 < 62 ∧ n < lvK a.2.1 a.2.2.1) (h' : Above n l) : Above n (a :: l) := fun b hb =>
  (List.mem_cons.mp hb).elim (fun e => e ▸ h) (h' b)
theorem above_mono {n n' : ℕ} {l : List Act} (hn : n' ≤ n) (h : Above n l) : Above n' l := fun a ha => ⟨(h a ha).1, lt_of_le_of_lt hn (h a ha).2⟩

/-- A lane's last step. -/
theorem wp_rsSub_last (c : Dev nD) (d sub : Fin 2) (t : FVec F S128x4096 .f32) (ht : t = mmG I d c 31)
    (l : List Act) (hl : Above 310 l) (k : P F) (Q : PUnit → sProp (MM F)) :
    iprop(ctx I K N ∗ nb c ∗ lane c d sub 30 ∗ ow c (acts c d sub 30 ++ l)
        ∗ (laneEnd I c d sub -∗ knows d 32 c -∗ ow c l -∗ WP c k Q))
      ⊢ WP c (rsSub (DD c d) 30 t sub k) Q := by
  unfold lane
  rw [show min (30 - 1) 29 = 29 from rfl, show 30 + 1 = 31 from rfl]
  iintro ⟨#Hctx, #Hnb, ⟨Hcs, Hb, Hacc, Hcst, #Hcf, Ht⟩, HO, Hk⟩
  ihave Hb := (base_open (F := F) c d sub _) $$ Hb
  icases Hb with ⟨Hs, Hs', Hr, Hr', Hd, Hd'⟩
  ihave Ht := (toks_j (F := F) c d sub 31 30 29 30 (by omega)) $$ Ht
  icases Ht with ⟨HtJ, Ht⟩
  ihave Ht := (toks_r (F := F) c d sub 31 31 29 30 (lt_of_lt_of_le (by omega) (lim_ge sub))) $$ Ht
  icases Ht with ⟨HtR, Ht⟩
  iapply (wp_rsFront (I := I) (K := K) (N := N) c d sub 30 le_rfl t ht true rfl l hl k Q)
  isplitr; · iexact Hctx
  isplitr; · iapply (nb_self (F := F) c); iexact Hnb
  isplitl [Hcs]; · iexact Hcs
  isplitl [Hs]; · iexact Hs
  isplitl [Hr]; · iexact Hr
  isplitl [Hd]; · iexact Hd
  isplitl [Hacc]; · iexact Hacc
  isplitr; · iexact Hcf
  isplitl [HtJ]; · iexact HtJ
  isplitl [HtR]; · iexact HtR
  isplitl [HO]; · iexact HO
  iintro Hs Hr Hd Ho Hacc #Hcf' Hkn HO
  iapply Hk $$ [Hs Hs' Hr Hr' Hd Hd' Ho Hacc Hcst Ht] Hkn HO
  unfold laneEnd
  isplitl [Hs Hs' Hr Hr' Hd Hd']
  · iapply (base_step (F := F) c d sub 30)
    isplitl [Hs]; · iexact Hs
    isplitl [Hs']; · iexact Hs'
    isplitl [Hr]; · iexact Hr
    isplitl [Hr']; · iexact Hr'
    isplitl [Hd]; · iexact Hd
    iexact Hd'
  isplitl [Ho]; · iexact Ho
  isplitl [Hacc]; · iexact Hacc
  isplitl [Hcst]; · iexact Hcst
  isplitr; · iexact Hcf'
  iexact Ht

/-- A lane's step before the last. -/
theorem wp_rsSub_lt (c : Dev nD) (d sub : Fin 2) (s : Fin 31) (hs : s.val < 30) (t : FVec F S128x4096 .f32) (ht : t = mmG I d c (s.val + 1))
    (l : List Act) (hl : Above (10 * s.val + 15) l) (k : P F) (Q : PUnit → sProp (MM F)) :
    iprop(ctx I K N ∗ nb c ∗ lane c d sub s.val ∗ ow c (acts c d sub s.val ++ l)
        ∗ (lane c d sub (s.val + 1) -∗ ow c l -∗ WP c k Q))
      ⊢ WP c (rsSub (DD c d) s t sub k) Q := by
  obtain ⟨g, hg31⟩ := s
  have hg : g < 30 := hs
  have hb : (g == 30) = false := by rw [beq_eq_false_iff_ne]; omega
  have hlg : g < lim sub := lt_of_lt_of_le (by omega) (lim_ge sub)
  have hlg' : g + 1 < lim sub := lt_of_lt_of_le (by omega) (lim_ge sub)
  have e1 : acts c d sub g ++ l = (froD d c, .cred d sub, g, 1) :: (toD d c, .recv d (par (g + 1)) sub, g + 1, NH) :: l := by
    unfold acts; rw [if_pos hg]; rfl
  have hab : Above (10 * g + 10) ((toD d c, .recv d (par (g + 1)) sub, g + 1, NH) :: l) :=
    above_cons ⟨by show g + 1 < 62; omega, by show 10 * g + 10 < 10 * (g + 1) + 10; omega⟩ (above_mono (by show 10 * g + 10 ≤ 10 * g + 15; omega) hl)
  have hab' : Above (10 * g + 15) ((toD d c, .recv d (par (g + 1)) sub, g + 1, NH) :: l) :=
    above_cons ⟨by show g + 1 < 62; omega, by show 10 * g + 15 < 10 * (g + 1) + 10; omega⟩ hl
  unfold rsSub
  dsimp only at ht ⊢
  rw [hb, cond_false, e1]
  unfold lane
  iintro ⟨#Hctx, #Hnb, ⟨Hcs, Hb, Hacc, Hcst, #Hcf, Ht⟩, HO, Hk⟩
  ihave Hb := (base_open (F := F) c d sub _) $$ Hb
  icases Hb with ⟨Hs, Hs', Hr, Hr', Hd, Hd'⟩
  ihave Ht := (toks_j (F := F) c d sub (g + 1) g (min (g - 1) 29) g (by omega)) $$ Ht
  icases Ht with ⟨HtJ, Ht⟩
  ihave Ht := (toks_r (F := F) c d sub (g + 1) (g + 1) (min (g - 1) 29) g hlg) $$ Ht
  icases Ht with ⟨HtR, Ht⟩
  ihave Ht := (toks_s (F := F) c d sub (g + 1) (g + 1) (min (g - 1) 29) (g + 1) hlg') $$ Ht
  icases Ht with ⟨HtS, HtW, Ht⟩
  iapply (wp_rsFront (I := I) (K := K) (N := N) c d sub g (by omega) t ht false hb.symm _ hab _ Q)
  isplitr; · iexact Hctx
  isplitr; · iapply (nb_self (F := F) c); iexact Hnb
  isplitl [Hcs]; · iexact Hcs
  isplitl [Hs]; · iexact Hs
  isplitl [Hr]; · iexact Hr
  isplitl [Hd]; · iexact Hd
  isplitl [Hacc]; · iexact Hacc
  isplitr; · iexact Hcf
  isplitl [HtJ]; · iexact HtJ
  isplitl [HtR]; · iexact HtR
  isplitl [HO]; · iexact HO
  iintro Hs Hr Hd Ho Hacc #Hcf' Hkn HO
  by_cases h0 : g = 0
  · subst h0
    rw [show ((0 : ℕ) == 0) = true from rfl, cond_true]
    iapply (wp_sendHalf (I := I) (K := K) (N := N) c d sub (0 + 1) (by omega) l k Q)
    isplitr; · iexact Hctx
    isplitr
    · iapply (startF_perm (F := F) (toD d c) d sub (0 + 1) (by omega))
      iapply (nb_to (F := F) d c); iexact Hnb
    isplitl [HtS]; · iexact HtS
    isplitl [HtW]; · iexact HtW
    isplitl [Hs']; · iexact Hs'
    isplitl [Ho]; · iexact Ho
    isplitl [Hkn]; · iexact Hkn
    isplitl [HO]; · iexact HO
    iintro Hcs Hs' HO
    iapply Hk $$ [Hcs Hs Hs' Hr Hr' Hd Hd' Hacc Hcst Ht] HO
    isplitl [Hcs]; · iexact Hcs
    isplitl [Hs Hs' Hr Hr' Hd Hd']
    · iapply (base_step (F := F) c d sub 0)
      isplitl [Hs]; · iexact Hs
      isplitl [Hs']; · iexact Hs'
      isplitl [Hr]; · iexact Hr
      isplitl [Hr']; · iexact Hr'
      isplitl [Hd]; · iexact Hd
      iexact Hd'
    isplitl [Hacc]; · iexact Hacc
    isplitl [Hcst]; · iexact Hcst
    isplitr; · iexact Hcf'
    iexact Ht
  · have hb0 : (g == 0) = false := by rw [beq_eq_false_iff_ne]; omega
    rw [hb0, cond_false]
    obtain ⟨n, rfl⟩ : ∃ n, g = n + 1 := ⟨g - 1, by omega⟩
    have hm : min (n + 1 - 1) 29 = n := by omega
    have hm' : min (n + 1 + 1 - 1) 29 = n + 1 := by omega
    rw [hm, hm']
    ihave Ht := (toks_m (F := F) c d sub (n + 1 + 1 + 1) (n + 1 + 1) n (n + 1 + 1) (by omega)) $$ Ht
    icases Ht with ⟨HtM, Ht⟩
    unfold tM
    iapply (wp_creditWait (I := I) (K := K) (N := N) c d sub n (by omega) _ (above_mono (by omega) hab') _ Q)
    isplitr; · iexact Hctx
    isplitl [Hcst]; · iexact Hcst
    isplitl [HtM]; · iexact HtM
    isplitl [HO]; · iexact HO
    iintro HO Hcst #Hcr
    iapply (wp_sendHalf (I := I) (K := K) (N := N) c d sub (n + 1 + 1) (by omega) l k Q)
    isplitr; · iexact Hctx
    isplitr
    · iapply (cfact_perm (F := F) (toD d c) d sub n hlg'); iexact Hcr
    isplitl [HtS]; · iexact HtS
    isplitl [HtW]; · iexact HtW
    isplitl [Hs']; · iexact Hs'
    isplitl [Ho]; · iexact Ho
    isplitl [Hkn]; · iexact Hkn
    isplitl [HO]; · iexact HO
    iintro Hcs Hs' HO
    iapply Hk $$ [Hcs Hs Hs' Hr Hr' Hd Hd' Hacc Hcst Ht] HO
    isplitl [Hcs]; · iexact Hcs
    isplitl [Hs Hs' Hr Hr' Hd Hd']
    · iapply (base_step (F := F) c d sub (n + 1))
      isplitl [Hs]; · iexact Hs
      isplitl [Hs']; · iexact Hs'
      isplitl [Hr]; · iexact Hr
      isplitl [Hr']; · iexact Hr'
      isplitl [Hd]; · iexact Hd
      iexact Hd'
    isplitl [Hacc]; · rw [show par (n + 1 + 1 + 1) = par (n + 1) from par_two (n + 1)]; iexact Hacc
    isplitl [Hcst]; · iexact Hcst
    isplitr; · iexact Hcf'
    iexact Ht

end Cert.Proof

end
-- ==== Proof.Sum.lean ====
/-
  The first half of the kernel: the products, the barrier and the summing ring.
-/
module

public import proofs.«01_k».proof.Proof.Step

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {I : Inp F} {K : Dev nD × Kind → ℕ} {N : Key → ℕ}

/-! ## Loads from a whole array -/

/-- A load of any part of an array held. -/
theorem wp_load_any (c : Dev nD) {cs : CoreSpace} {s : Shape} {e : EltTy} (m : Memref sig .tc cs s e) (r : Rect s)
    {hl : m.view.LoadsAt r} (q : PosShare TreeShare) (X : s.Idx → Elt F e) (k : (r.shape.Idx → Elt F e) → P F) (Q : PUnit → sProp (MM F)) :
    iprop(owns (c : Thread nD τ) m q X ∗ (owns (c : Thread nD τ) m q X -∗ WP c (k fun j => X (r.emb j)) Q))
      ⊢ WP c (.op (.load m r hl) k) Q := by
  iintro ⟨H, Hk⟩
  ihave H' := (show owns (c : Thread nD τ) m q X ⊢ iprop(∃ g, ⌜m.view.read (Elt F) g = X⌝ ∗ (m.access r).loc (c : Thread nD τ) ↦[m.view.set]{q} g : sProp (MM F)) from .rfl) $$ H
  icases H' with ⟨%f, %hf, H⟩
  iapply (wp_load_rect 𝒱₀ (c : Thread nD τ) none Set.univ (m := m) (r := r) (S := m.view.set) (m.view.set_slice_subset r)) $$ [H]
  · iexact H
  iintro H
  have hf' : (m.access r).read (Elt F) f = fun j => X (r.emb j) := by rw [← hf]; rfl
  rw [hf']
  iapply Hk
  iapply (show iprop(∃ g, ⌜m.view.read (Elt F) g = X⌝ ∗ (m.access r).loc (c : Thread nD τ) ↦[m.view.set]{q} g : sProp (MM F)) ⊢ owns (c : Thread nD τ) m q X from .rfl)
  iexists f
  isplitr; · ipureintro; exact hf
  iexact H

/-- A word read of a table held. -/
theorem wp_smem (c : Dev nD) {s : Shape} (m : Memref sig .tc .smem s .i32) (r : Rect s) (h1 : r.shape.numel = 1)
    (q : PosShare TreeShare) (X : s.Idx → Elt F .i32) (k : BitVec 32 → P F) (Q : PUnit → sProp (MM F)) :
    iprop(owns (c : Thread nD τ) m q X ∗ (owns (c : Thread nD τ) m q X -∗ WP c (k (X (r.emb (Shape.Idx.first (h1.symm ▸ Nat.one_pos))))) Q))
      ⊢ WP c ((smemLoad m r h1 rfl).bind k) Q :=
  wp_load_any c m r q X (fun v => k (v (Shape.Idx.first (h1.symm ▸ Nat.one_pos)))) Q

/-- The device's x and w. -/
def xw (A : Arr) (I : Inp F) (c : Dev nD) : sProp (MM F) :=
  iprop(owns (c : Thread nD τ) A.x fullShare (I.X c) ∗ owns (c : Thread nD τ) A.w fullShare (I.W c))

/-- A product. -/
theorem wp_mm (A : Arr) (c : Dev nD) (d : Fin 2) (xo : Fin 2 → Nat) (hx : ∀ a, xo a + S128x128.size a ≤ S4096x128.size a)
    (wo : Fin 2 → Nat) (hw : ∀ a, wo a + S128x4096.size a ≤ S128x8192.size a) (e : wo = wOff d) (k : FVec F S128x4096 .f32 → P F) (Q : PUnit → sProp (MM F)) :
    iprop(xw A I c ∗ (xw A I c -∗ WP c (k (mmW I c d xo hx)) Q)) ⊢ WP c (mmP A xo hx wo hw k) Q := by
  subst e
  unfold mmP xw
  iintro ⟨⟨Hx, Hw⟩, Hk⟩
  iapply (wp_load_any c A.x (Rect.unit (s := S4096x128) xo S128x128.size hx) fullShare (I.X c) _ Q)
  isplitl [Hx]; · iexact Hx
  iintro Hx
  iapply (wp_load_any c A.w (Rect.unit (s := S128x8192) (wOff d) S128x4096.size hw) fullShare (I.W c) _ Q)
  isplitl [Hw]; · iexact Hw
  iintro Hw
  iapply Hk
  isplitl [Hx]; · iexact Hx
  iexact Hw

/-! ## A loop -/

/-- A loop keeps what each of its steps keeps. -/
theorem wp_fold (c : Dev nD) (Q : PUnit → sProp (MM F)) {n : ℕ} (f : Fin n → P F → P F) (S : ℕ → sProp (MM F))
    (hstep : ∀ (i : Fin n) (k : P F), (S (i.val + 1) ⊢ WP c k Q) → (S i.val ⊢ WP c (f i k) Q)) (k : P F) (hk : S n ⊢ WP c k Q) :
    S 0 ⊢ WP c ((List.finRange n).foldr f k) Q := by
  have h : ∀ m, m ≤ n → (S (n - m) ⊢ WP c (((List.finRange n).drop (n - m)).foldr f k) Q) := by
    intro m
    induction m with
    | zero =>
      intro _
      rw [Nat.sub_zero, List.drop_eq_nil_of_le (by rw [List.length_finRange])]
      exact hk
    | succ m ih =>
      intro hm
      have hlt : n - (m + 1) < (List.finRange n).length := by rw [List.length_finRange]; omega
      rw [List.drop_eq_getElem_cons hlt, List.foldr_cons, List.getElem_finRange]
      have e : n - (m + 1) + 1 = n - m := by omega
      refine hstep (Fin.cast _ ⟨n - (m + 1), hlt⟩) _ ?_
      show S (n - (m + 1) + 1) ⊢ WP c (((List.finRange n).drop (n - (m + 1) + 1)).foldr f k) Q
      rw [e]
      exact ih (by omega)
  have h0 := h n le_rfl
  rw [Nat.sub_self, List.drop_zero] at h0
  exact h0

/-! ## The summing ring -/

/-- What the summing ring pays in its last `m` steps, and what follows. -/
def rsOw (c : Dev nD) : ℕ → List Act → List Act
  | 0, l => l
  | m + 1, l => acts c 0 0 (30 - m) ++ (acts c 0 1 (30 - m) ++ (acts c 1 0 (30 - m) ++ (acts c 1 1 (30 - m) ++ rsOw c m l)))

theorem rsOw_succ (c : Dev nD) (g : ℕ) (hg : g ≤ 30) (l : List Act) :
    rsOw c (31 - g) l = acts c 0 0 g ++ (acts c 0 1 g ++ (acts c 1 0 g ++ (acts c 1 1 g ++ rsOw c (31 - (g + 1)) l))) := by
  have e : 31 - g = (31 - (g + 1)) + 1 := by omega
  rw [e]
  show acts c 0 0 (30 - (31 - (g + 1))) ++ _ = _
  have e' : 30 - (31 - (g + 1)) = g := by omega
  rw [e']

theorem rsOw_above (c : Dev nD) (n : ℕ) (l : List Act) (hl : Above n l) : ∀ m, m ≤ 31 → n ≤ 10 * (31 - m) + 15 → Above n (rsOw c m l)
  | 0, _, _ => hl
  | m + 1, hm, hn => by
    have h := rsOw_above c n l hl m (by omega) (by omega)
    have ha : ∀ d sub, Above n (acts c d sub (30 - m)) := fun d sub => above_mono (by omega) (acts_above c d sub (30 - m) (by omega))
    exact above_append (ha 0 0) (above_append (ha 0 1) (above_append (ha 1 0) (above_append (ha 1 1) h)))

/-- A direction's step of the ring, before the last. -/
theorem wp_rsDir_lt (A : Arr) (c : Dev nD) (d : Fin 2) (wo : Fin 2 → Nat) (hw : ∀ a, wo a + S128x4096.size a ≤ S128x8192.size a) (e : wo = wOff d)
    (s : Fin 31) (hs : s.val < 30) (l : List Act) (hl : Above (10 * s.val + 15) l) (k : P F) (Q : PUnit → sProp (MM F)) :
    iprop(ctx I K N ∗ nb c ∗ xw A I c ∗ lane c d 0 s.val ∗ lane c d 1 s.val ∗ ow c (acts c d 0 s.val ++ (acts c d 1 s.val ++ l))
        ∗ (xw A I c -∗ lane c d 0 (s.val + 1) -∗ lane c d 1 (s.val + 1) -∗ ow c l -∗ WP c k Q))
      ⊢ WP c (rsDir A (DD c d) wo hw s k) Q := by
  have ht : mmW I c d (xoD d c s) (xoD_inb d c s) = mmG I d c (s.val + 1) := by
    have e : (⟨s.val % 31, Nat.mod_lt _ (by decide)⟩ : Fin 31) = s := Fin.ext (Nat.mod_eq_of_lt s.isLt)
    show _ = mmW I c d (xoD d c ⟨s.val % 31, _⟩) _
    congr 2 <;> rw [e]
  unfold rsDir
  dsimp only [DD]
  iintro ⟨#Hctx, #Hnb, Hxw, H0, H1, HO, Hk⟩
  iapply (wp_mm (I := I) A c d (xoD d c s) (xoD_inb d c s) wo hw e _ Q)
  isplitl [Hxw]; · iexact Hxw
  iintro Hxw
  iapply (wp_rsSub_lt (I := I) (K := K) (N := N) c d 0 s hs _ ht _ (above_append (acts_above c d 1 s.val (by omega)) hl) _ Q)
  isplitr; · iexact Hctx
  isplitr; · iexact Hnb
  isplitl [H0]; · iexact H0
  isplitl [HO]; · iexact HO
  iintro H0 HO
  iapply (wp_rsSub_lt (I := I) (K := K) (N := N) c d 1 s hs _ ht _ hl _ Q)
  isplitr; · iexact Hctx
  isplitr; · iexact Hnb
  isplitl [H1]; · iexact H1
  isplitl [HO]; · iexact HO
  iintro H1 HO
  iapply Hk $$ Hxw H0 H1 HO

/-- A direction's last step. -/
theorem wp_rsDir_last (A : Arr) (c : Dev nD) (d : Fin 2) (wo : Fin 2 → Nat) (hw : ∀ a, wo a + S128x4096.size a ≤ S128x8192.size a) (e : wo = wOff d)
    (l : List Act) (hl : Above 310 l) (k : P F) (Q : PUnit → sProp (MM F)) :
    iprop(ctx I K N ∗ nb c ∗ xw A I c ∗ lane c d 0 30 ∗ lane c d 1 30 ∗ ow c (acts c d 0 30 ++ (acts c d 1 30 ++ l))
        ∗ (xw A I c -∗ laneEnd I c d 0 -∗ laneEnd I c d 1 -∗ knows d 32 c -∗ ow c l -∗ WP c k Q))
      ⊢ WP c (rsDir A (DD c d) wo hw 30 k) Q := by
  unfold rsDir
  dsimp only [DD]
  iintro ⟨#Hctx, #Hnb, Hxw, H0, H1, HO, Hk⟩
  iapply (wp_mm (I := I) A c d (xoD d c 30) (xoD_inb d c 30) wo hw e _ Q)
  isplitl [Hxw]; · iexact Hxw
  iintro Hxw
  iapply (wp_rsSub_last (I := I) (K := K) (N := N) c d 0 _ rfl _ (above_append (above_mono (by omega) (acts_above c d 1 30 (by omega))) hl) _ Q)
  isplitr; · iexact Hctx
  isplitr; · iexact Hnb
  isplitl [H0]; · iexact H0
  isplitl [HO]; · iexact HO
  iintro H0 #Hkn HO
  iapply (wp_rsSub_last (I := I) (K := K) (N := N) c d 1 _ rfl _ hl _ Q)
  isplitr; · iexact Hctx
  isplitr; · iexact Hnb
  isplitl [H1]; · iexact H1
  isplitl [HO]; · iexact HO
  iintro H1 - HO
  iapply Hk $$ Hxw H0 H1 Hkn HO

/-- The ring's lanes before step `g`. -/
def rsSt (I : Inp F) (c : Dev nD) (l : List Act) (g : ℕ) : sProp (MM F) :=
  if g ≤ 30 then iprop(lane c 0 0 g ∗ lane c 0 1 g ∗ lane c 1 0 g ∗ lane c 1 1 g ∗ ow c (rsOw c (31 - g) l))
  else iprop(laneEnd I c 0 0 ∗ laneEnd I c 0 1 ∗ laneEnd I c 1 0 ∗ laneEnd I c 1 1 ∗ knows 0 32 c ∗ ow c l)

/-- The summing ring. -/
theorem wp_rs (A : Arr) (c : Dev nD) (l : List Act) (hl : Above 310 l) (k : P F) (Q : PUnit → sProp (MM F)) :
    iprop(ctx I K N ∗ nb c ∗ xw A I c ∗ rsSt I c l 0 ∗ (xw A I c -∗ rsSt I c l 31 -∗ WP c k Q))
      ⊢ WP c ((List.finRange 31).foldr (fun s k =>
          rsDir A (DD c 0) ![0, 0] inb_S128x8192_S128x4096_0_0 s <| rsDir A (DD c 1) ![0, 4096] inb_S128x8192_S128x4096_0_4096 s k) k) Q := by
  refine wp_fold c Q _ (fun g => iprop(ctx I K N ∗ nb c ∗ xw A I c ∗ rsSt I c l g ∗ (xw A I c -∗ rsSt I c l 31 -∗ WP c k Q))) ?_ k ?_
  · intro s k' hk'
    refine (show _ ⊢ WP c (rsDir A (DD c 0) ![0, 0] inb_S128x8192_S128x4096_0_0 s <| rsDir A (DD c 1) ![0, 4096] inb_S128x8192_S128x4096_0_4096 s k') Q from ?_)
    have hs : s.val ≤ 30 := by have := s.isLt; omega
    have hr : Above 310 (rsOw c 0 l) := hl
    have e : rsSt I c l s.val = iprop(lane c 0 0 s.val ∗ lane c 0 1 s.val ∗ lane c 1 0 s.val ∗ lane c 1 1 s.val
        ∗ ow c (acts c 0 0 s.val ++ (acts c 0 1 s.val ++ (acts c 1 0 s.val ++ (acts c 1 1 s.val ++ rsOw c (31 - (s.val + 1)) l))))) := by
      unfold rsSt; rw [if_pos hs, rsOw_succ c s.val hs]
    by_cases h30 : s.val = 30
    · obtain rfl : s = 30 := Fin.ext h30
      have e' : rsSt I c l 31 = iprop(laneEnd I c 0 0 ∗ laneEnd I c 0 1 ∗ laneEnd I c 1 0 ∗ laneEnd I c 1 1 ∗ knows 0 32 c ∗ ow c l) := by
        unfold rsSt; rw [if_neg (by omega)]
      have hk2 : iprop(ctx I K N ∗ nb c ∗ xw A I c ∗ rsSt I c l 31 ∗ (xw A I c -∗ rsSt I c l 31 -∗ WP c k Q)) ⊢ WP c k' Q := hk'
      have ha : Above 310 (acts c 1 0 30 ++ (acts c 1 1 30 ++ l)) :=
        above_append (above_mono (by omega) (acts_above c 1 0 30 le_rfl)) (above_append (above_mono (by omega) (acts_above c 1 1 30 le_rfl)) hl)
      rw [e]
      iintro ⟨#Hctx, #Hnb, Hxw, ⟨H00, H01, H10, H11, HO⟩, Hk⟩
      iapply (wp_rsDir_last (I := I) (K := K) (N := N) A c 0 ![0, 0] inb_S128x8192_S128x4096_0_0 rfl (acts c 1 0 30 ++ (acts c 1 1 30 ++ l)) ha _ Q)
      isplitr; · iexact Hctx
      isplitr; · iexact Hnb
      isplitl [Hxw]; · iexact Hxw
      isplitl [H00]; · iexact H00
      isplitl [H01]; · iexact H01
      isplitl [HO]; · iexact HO
      iintro Hxw H00 H01 Hkn HO
      iapply (wp_rsDir_last (I := I) (K := K) (N := N) A c 1 ![0, 4096] inb_S128x8192_S128x4096_0_4096 rfl l hl _ Q)
      isplitr; · iexact Hctx
      isplitr; · iexact Hnb
      isplitl [Hxw]; · iexact Hxw
      isplitl [H10]; · iexact H10
      isplitl [H11]; · iexact H11
      isplitl [HO]; · iexact HO
      iintro Hxw H10 H11 - HO
      iapply hk2
      isplitr; · iexact Hctx
      isplitr; · iexact Hnb
      isplitl [Hxw]; · iexact Hxw
      isplitr [Hk]
      · rw [e']
        isplitl [H00]; · iexact H00
        isplitl [H01]; · iexact H01
        isplitl [H10]; · iexact H10
        isplitl [H11]; · iexact H11
        isplitl [Hkn]; · iexact Hkn
        iexact HO
      iexact Hk
    · have hlt : s.val < 30 := by omega
      have e' : rsSt I c l (s.val + 1) = iprop(lane c 0 0 (s.val + 1) ∗ lane c 0 1 (s.val + 1) ∗ lane c 1 0 (s.val + 1) ∗ lane c 1 1 (s.val + 1) ∗ ow c (rsOw c (31 - (s.val + 1)) l)) := by
        unfold rsSt; rw [if_pos (by omega)]
      have ha : Above (10 * s.val + 15) (rsOw c (31 - (s.val + 1)) l) := rsOw_above c _ l (above_mono (by omega) hl) _ (by omega) (by omega)
      have ha' : Above (10 * s.val + 15) (acts c 1 0 s.val ++ (acts c 1 1 s.val ++ rsOw c (31 - (s.val + 1)) l)) :=
        above_append (acts_above c 1 0 s.val hs) (above_append (acts_above c 1 1 s.val hs) ha)
      rw [e]
      iintro ⟨#Hctx, #Hnb, Hxw, ⟨H00, H01, H10, H11, HO⟩, Hk⟩
      iapply (wp_rsDir_lt (I := I) (K := K) (N := N) A c 0 ![0, 0] inb_S128x8192_S128x4096_0_0 rfl s hlt _ ha' _ Q)
      isplitr; · iexact Hctx
      isplitr; · iexact Hnb
      isplitl [Hxw]; · iexact Hxw
      isplitl [H00]; · iexact H00
      isplitl [H01]; · iexact H01
      isplitl [HO]; · iexact HO
      iintro Hxw H00 H01 HO
      iapply (wp_rsDir_lt (I := I) (K := K) (N := N) A c 1 ![0, 4096] inb_S128x8192_S128x4096_0_4096 rfl s hlt _ ha _ Q)
      isplitr; · iexact Hctx
      isplitr; · iexact Hnb
      isplitl [Hxw]; · iexact Hxw
      isplitl [H10]; · iexact H10
      isplitl [H11]; · iexact H11
      isplitl [HO]; · iexact HO
      iintro Hxw H10 H11 HO
      iapply hk'
      isplitr; · iexact Hctx
      isplitr; · iexact Hnb
      isplitl [Hxw]; · iexact Hxw
      isplitr [Hk]
      · rw [e']
        isplitl [H00]; · iexact H00
        isplitl [H01]; · iexact H01
        isplitl [H10]; · iexact H10
        isplitl [H11]; · iexact H11
        iexact HO
      iexact Hk
  · iintro ⟨-, -, Hxw, Hst, Hk⟩
    iapply Hk $$ Hxw Hst

/-! ## The start -/

/-- The barrier: both neighbours have started. -/
theorem wp_barrier (c : Dev nD) (l : List Act) (hl : Above 1 l) (k : P F) (Q : PUnit → sProp (MM F)) :
    iprop(ctx I K N ∗ startF c ∗ reached ER (gs (toD 0 c) .bar) 0 ∗ reached ER (gs (toD 1 c) .bar) 0
        ∗ dutyTok ER (gs (toD 0 c) .bar) 0 0 ∗ dutyTok ER (gs (toD 1 c) .bar) 0 1 ∗ cred (tallyAt (gs c .bar) 0 2) ∗ atPos ER (gs c .bar) 0 ∅ 0
        ∗ ow c ((toD 0 c, .bar, 0, 1) :: (toD 1 c, .bar, 0, 1) :: l)
        ∗ (nb c -∗ atPos ER (gs c .bar) 1 ∅ 0 -∗ ow c l -∗ WP c k Q))
      ⊢ WP c (barrierP (DD c 0) (DD c 1) k) Q := by
  unfold barrierP
  dsimp only [DD]
  iintro ⟨#Hctx, #Hst, #Hr0, #Hr1, Ht0, Ht1, Hc, Hat, HO, Hk⟩
  iapply (wp_signal_one (I := I) (K := K) (N := N) c (toD 0 c) .bar barSem rfl 0 0 0 _ rfl (by show 0 ∈ ({0, 1} : Finset ℕ); decide) rfl _ Q)
  isplitr; · iexact Hctx
  isplitl [HO]; · iexact HO
  isplitl [Ht0]; · iexact Ht0
  isplitr; · iexact Hr0
  isplitr
  · rw [show pay I (toD 0 c) .bar 0 0 = startF c from congrArg startF (fro_to 0 c)]; iexact Hst
  iintro HO
  iapply (wp_signal_one (I := I) (K := K) (N := N) c (toD 1 c) .bar barSem rfl 0 1 0 _ rfl (by show 1 ∈ ({0, 1} : Finset ℕ); decide) rfl _ Q)
  isplitr; · iexact Hctx
  isplitl [HO]; · iexact HO
  isplitl [Ht1]; · iexact Ht1
  isplitr; · iexact Hr1
  isplitr
  · rw [show pay I (toD 1 c) .bar 0 1 = startF c from congrArg startF (fro_to 1 c)]; iexact Hst
  iintro HO
  unfold ow
  icases HO with ⟨%W, HO⟩
  ihave #Hi := (ctx_cell c .bar) $$ Hctx
  have hmw := ctx_wait (I := I) (K := K) (N := N) c .bar 0 1 (by omega) le_rfl l hl
  iapply (Rounds.wp_wait_rest_token (defs := defs₀ (F := F)) 𝒱₀ ER (Rd I) (c : Thread nD τ) none (κ := K (c, .bar)) (sm := loc .bar) (k' := 2)
      (wpE_semWait_eq 𝒱₀ (c : Thread nD τ) none Set.univ) (Set.mem_univ _) 0
      (O := owed l) (W := W) (R := 0) (m := 0) (T := ∅) (by rw [Rd_expect]; rfl)) $$ [Hc HO Hat]
  · isplitr; · iexact Hi
    isplitl [Hc]; · iexact Hc
    isplitl [HO]; · iexact HO
    isplitr; · iapply hmw; iexact Hctx
    iexact Hat
  iintro ⟨HO, Hat, -, Hp⟩
  ihave Hp := (show bigSep ((Rd I).duties (gs c .bar) 0 \ ∅) (fun d => (Rd I).payload (gs c .bar) 0 d) ⊢ iprop(startF (F := F) (toD 1 c) ∗ startF (toD 0 c)) from by
    rw [Finset.sdiff_empty, Rd_duties, bigSep_congr (fun d _ => Rd_payload I c .bar 0 d)]
    show bigSep ({0, 1} : Finset ℕ) (fun d => pay I c .bar 0 d) ⊢ _
    rw [bigSep_insert (by decide), bigSep_singleton]
    exact BI.Entails.refl _) $$ Hp
  icases Hp with ⟨H1, H0⟩
  iapply Hk $$ [H0 H1] Hat [HO]
  · unfold nb
    isplitr; · iexact Hst
    isplitl [H0]; · iexact H0
    iexact H1
  · iexists _; iexact HO

/-- A lane before its first transfer. -/
def laneStart (c : Dev nD) (d sub : Fin 2) : sProp (MM F) := iprop(base c d sub 0 ∗ cst c d sub 0 ∗ toks c d sub 0 0 0 0)

/-- The first transfer of a lane. -/
theorem wp_send0 (c : Dev nD) (d sub : Fin 2) (l : List Act) (k : P F) (Q : PUnit → sProp (MM F)) :
    iprop(ctx I K N ∗ nb c ∗ laneStart c d sub ∗ owns (c : Thread nD τ) (half (accM d) 0 sub) fullShare (extV sub (rsV I d 0 c))
        ∗ some_ c (half (accM d) 1 sub) ∗ ow c ((toD d c, .recv d 0 sub, 0, NH) :: l)
        ∗ (lane c d sub 0 -∗ ow c l -∗ WP c k Q))
      ⊢ WP c (sendHalf (DD c d) 0 sub k) Q := by
  unfold laneStart
  iintro ⟨#Hctx, #Hnb, ⟨Hb, Hcst, Ht⟩, Ho, Hacc, HO, Hk⟩
  ihave Hb := (base_open (F := F) c d sub _) $$ Hb
  icases Hb with ⟨Hs, Hs', Hr, Hr', Hd, Hd'⟩
  ihave Ht := (toks_s (F := F) c d sub 0 0 0 0 (lt_of_lt_of_le (by omega) (lim_ge sub))) $$ Ht
  icases Ht with ⟨HtS, HtW, Ht⟩
  have h := wp_sendHalf (I := I) (K := K) (N := N) c d sub 0 (by omega) l k Q
  rw [show par 0 = 0 from rfl] at h
  iapply h
  isplitr; · iexact Hctx
  isplitr
  · iapply (startF_perm (F := F) (toD d c) d sub 0 (by omega))
    iapply (nb_to (F := F) d c); iexact Hnb
  isplitl [HtS]; · iexact HtS
  isplitl [HtW]; · iexact HtW
  isplitl [Hs]; · iexact Hs
  isplitl [Ho]; · iexact Ho
  isplitr
  · iapply (knows_succ (F := F) d 0 c)
    isplitr; · iapply (nb_self (F := F) c); iexact Hnb
    unfold knows
    rw [Finset.range_zero, bigSep_empty]
    iempintro
  isplitl [HO]; · iexact HO
  iintro Hcs Hs HO
  iapply Hk $$ [Hcs Hs Hs' Hr Hr' Hd Hd' Hacc Hcst Ht] HO
  unfold lane
  isplitl [Hcs]; · iexact Hcs
  isplitl [Hs Hs' Hr Hr' Hd Hd']
  · unfold base
    isplitl [Hs]; · iexact Hs
    isplitl [Hs']; · iexact Hs'
    isplitl [Hr]; · iexact Hr
    isplitl [Hr']; · iexact Hr'
    isplitl [Hd]; · iexact Hd
    iexact Hd'
  isplitl [Hacc]; · iexact Hacc
  isplitl [Hcst]; · iexact Hcst
  isplitr
  · unfold cfacts
    rw [Finset.range_zero, bigSep_empty]
    iempintro
  iexact Ht

end Cert.Proof

end
-- ==== Proof.Copy.lean ====
/-
  The copying ring: a quantised block sent round, copied to the result at every stop.
-/
module

public import proofs.«01_k».proof.Proof.Sum
public import Idealize.ShloMosaic.Lib.MemrefSat

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {I : Inp F} {K : Dev nD × Kind → ℕ} {N : Key → ℕ}

theorem lim_zero : lim 0 = 62 := rfl
theorem lim_one : lim 1 = 31 := rfl

theorem pay_send' (I : Inp F) (c : Dev nD) (d : Fin 2) (t : ℕ) :
    pay I c (.send d (par (31 + t)) 0) ((31 + t) / 2) 0 = owns (c : Thread nD τ) (agM d t) hL (agV I d t c) := by
  simp only [pay, par_val]; rw [if_neg (by omega), show 31 + t - 31 = t by omega]
theorem pay_recv' (I : Inp F) (c : Dev nD) (d : Fin 2) (t : ℕ) :
    pay I c (.recv d (par (31 + t)) 0) ((31 + t) / 2) 0 = owns (c : Thread nD τ) (full (recvM d) (par (31 + t))) fullShare (agV I d (t + 1) c) := by
  simp only [pay, par_val]; rw [if_neg (by omega), show 31 + t - 30 = t + 1 by omega]

/-! ## What a direction holds -/

/-- Where a lane's transfer semaphores are, transfer `g` next. -/
def posn (c : Dev nD) (d sub : Fin 2) (g : ℕ) : sProp (MM F) :=
  iprop(at_ c (.send d (par g) sub) (g / 2) ∗ at_ c (.send d (par (g + 1)) sub) ((g + 1) / 2)
    ∗ at_ c (.recv d (par g) sub) (g / 2) ∗ at_ c (.recv d (par (g + 1)) sub) ((g + 1) / 2))
/-- How often a lane's landing slots have been handed back, slot of landing `g` next. -/
def rdr (c : Dev nD) (d sub : Fin 2) (g : ℕ) : sProp (MM F) :=
  iprop(Release.readerAt ES (key c d sub (par g)) (g / 2 + 1) ∗ Release.readerAt ES (key c d sub (par (g + 1))) ((g + 1) / 2 + 1))

theorem base_split (c : Dev nD) (d sub : Fin 2) (g : ℕ) : base (F := F) c d sub g ⊢ iprop(posn c d sub g ∗ rdr c d sub g) := by
  unfold base posn rdr
  iintro ⟨H1, H2, H3, H4, H5, H6⟩
  isplitl [H1 H2 H3 H4]
  · isplitl [H1]; · iexact H1
    isplitl [H2]; · iexact H2
    isplitl [H3]; · iexact H3
    iexact H4
  isplitl [H5]; · iexact H5
  iexact H6

theorem posn_open (c : Dev nD) (d sub : Fin 2) (g : ℕ) : posn (F := F) c d sub g ⊢
    iprop(at_ c (.send d (par g) sub) (g / 2) ∗ at_ c (.send d (par (g + 1)) sub) ((g + 1) / 2)
    ∗ at_ c (.recv d (par g) sub) (g / 2) ∗ at_ c (.recv d (par (g + 1)) sub) ((g + 1) / 2)) := by
  unfold posn; exact BI.Entails.refl _

theorem posn_step (c : Dev nD) (d sub : Fin 2) (g : ℕ) :
    iprop(at_ c (.send d (par g) sub) (g / 2 + 1) ∗ at_ c (.send d (par (g + 1)) sub) ((g + 1) / 2)
      ∗ at_ c (.recv d (par g) sub) (g / 2 + 1) ∗ at_ c (.recv d (par (g + 1)) sub) ((g + 1) / 2))
    ⊢ (posn c d sub (g + 1) : sProp (MM F)) := by
  unfold posn
  rw [show par (g + 1 + 1) = par g from par_two g, show (g + 1 + 1) / 2 = g / 2 + 1 from div_two g]
  iintro ⟨H1, H2, H3, H4⟩
  iframe

/-- A direction of the copying ring before transfer `g`, `j` slots handed back. -/
def agC (c : Dev nD) (d : Fin 2) (g j : ℕ) : sProp (MM F) :=
  iprop(posn c d 0 g ∗ cst c d 0 (g - 2) ∗ cst c d 1 (g - 2) ∗ toks c d 0 g j (g - 2) g ∗ toks c d 1 g j (g - 2) g)
/-- The same, the next slot known to be free. -/
def agW (c : Dev nD) (d : Fin 2) (g j : ℕ) : sProp (MM F) :=
  iprop(posn c d 0 g ∗ cst c d 0 (g - 1) ∗ cst c d 1 (g - 1) ∗ toks c d 0 g j (g - 1) g ∗ toks c d 1 g j (g - 1) g
    ∗ cfact (toD d c) d 0 (g - 2) ∗ cfact (toD d c) d 1 (g - 2))
/-- The same, transfer `g` on its way. -/
def agX (c : Dev nD) (d : Fin 2) (g j : ℕ) : sProp (MM F) :=
  iprop(cred (tallyAt (gs c (.send d (par g) 0)) 0 NF) ∗ posn c d 0 g ∗ cst c d 0 (g - 1) ∗ cst c d 1 (g - 1)
    ∗ toks c d 0 (g + 1) j (g - 1) g ∗ toks c d 1 (g + 1) j (g - 1) g)

/-- The slots handed back so far. -/
def agD (c : Dev nD) (d : Fin 2) (j : ℕ) : sProp (MM F) := iprop(rdr c d 0 j ∗ rdr c d 1 j ∗ cfacts c d 0 j ∗ cfacts c d 1 j)

/-- Two messages awaited: the next slot is free. -/
theorem wp_agOpen (c : Dev nD) (d : Fin 2) (g j : ℕ) (hg : 31 ≤ g) (hg' : g ≤ 61) (l : List Act) (hl : Above (10 * (g - 2) + 25) l) (k : P F) (Q : PUnit → sProp (MM F)) :
    iprop(ctx I K N ∗ agC c d g j ∗ ow c l ∗ (agW c d g j -∗ ow c l -∗ WP c k Q))
      ⊢ WP c (creditWait (DD c d) 0 1#32 <| creditWait (DD c d) 1 1#32 k) Q := by
  obtain ⟨n, rfl⟩ : ∃ n, g = n + 2 := ⟨g - 2, by omega⟩
  have e1 : n + 2 - 2 = n := rfl
  have e2 : n + 2 - 1 = n + 1 := rfl
  unfold agC agW
  rw [e1, e2]
  rw [e1] at hl
  iintro ⟨#Hctx, ⟨Hp, Hc0, Hc1, Ht0, Ht1⟩, HO, Hk⟩
  ihave Ht0 := (toks_m (F := F) c d 0 (n + 2) j n (n + 2) (by omega)) $$ Ht0
  icases Ht0 with ⟨HM0, Ht0⟩
  ihave Ht1 := (toks_m (F := F) c d 1 (n + 2) j n (n + 2) (by omega)) $$ Ht1
  icases Ht1 with ⟨HM1, Ht1⟩
  unfold tM
  iapply (wp_creditWait (I := I) (K := K) (N := N) c d 0 n (by omega) l hl _ Q)
  isplitr; · iexact Hctx
  isplitl [Hc0]; · iexact Hc0
  isplitl [HM0]; · iexact HM0
  isplitl [HO]; · iexact HO
  iintro HO Hc0 #Hf0
  iapply (wp_creditWait (I := I) (K := K) (N := N) c d 1 n (by omega) l hl _ Q)
  isplitr; · iexact Hctx
  isplitl [Hc1]; · iexact Hc1
  isplitl [HM1]; · iexact HM1
  isplitl [HO]; · iexact HO
  iintro HO Hc1 #Hf1
  iapply Hk $$ [Hp Hc0 Hc1 Ht0 Ht1] HO
  isplitl [Hp]; · iexact Hp
  isplitl [Hc0]; · iexact Hc0
  isplitl [Hc1]; · iexact Hc1
  isplitl [Ht0]; · iexact Ht0
  isplitl [Ht1]; · iexact Ht1
  isplitr; · iexact Hf0
  iexact Hf1

theorem cfact_released (x : Dev nD) (d sub : Fin 2) (g : ℕ) : cfact (F := F) x d sub g ⊢ Release.released ES (key x d sub (par (g + 2))) ((g + 2) / 2 + 1) := by
  unfold cfact
  rw [par_two, div_two]
  iintro ⟨H, -⟩
  iexact H

variable [∀ e, Nonempty (Elt F e)]

/-- A block sent on. -/
theorem wp_agSend (c : Dev nD) (d : Fin 2) (t j : ℕ) (ht : t ≤ 30) (m : Memref sig .tc .vmem S2x128x4096 .f32) (s slot : Fin 2)
    (hm : agM d t = full m s) (hs : par (31 + t) = slot) (l : List Act) (k : P F) (Q : PUnit → sProp (MM F)) :
    iprop(ctx I K N ∗ agW c d (31 + t) j ∗ owns (c : Thread nD τ) (full m s) hL (agV I d t c)
        ∗ ow c ((toD d c, .recv d slot 0, 31 + t, NF) :: l)
        ∗ (agX c d (31 + t) j -∗ ow c l -∗ WP c k Q))
      ⊢ WP c (sendFull (DD c d) m s slot k) Q := by
  subst hs
  have hl0 : 31 + t < lim 0 := by rw [lim_zero]; omega
  have hl1 : lim 1 ≤ 31 + t := by rw [lim_one]; omega
  have e2 : 31 + t - 2 + 2 = 31 + t := by omega
  have hperm := cfact_perm (F := F) (toD d c) d 0 (31 + t - 2) (by rw [e2]; exact hl0)
  have hrel := cfact_released (F := F) (toD d c) d 1 (31 + t - 2)
  rw [e2] at hperm hrel
  have a1 : amt (.send d (par (31 + t)) 0) ((31 + t) / 2) = NF := (amt_send d 0 (31 + t)).trans (if_neg (by omega))
  have a2 : amt (.recv d (par (31 + t)) 0) ((31 + t) / 2) = NF := (amt_recv d 0 (31 + t)).trans (if_neg (by omega))
  have p1 := pay_send' I c d t
  rw [hm] at p1
  unfold agW agX sendFull
  dsimp only [DD]
  iintro ⟨#Hctx, ⟨Hp, Hc0, Hc1, Ht0, Ht1, #Hf0, #Hf1⟩, Hs, HO, Hk⟩
  ihave Ht0 := (toks_s (F := F) c d 0 (31 + t) j (31 + t - 1) (31 + t) hl0) $$ Ht0
  icases Ht0 with ⟨HS, HW0, Ht0⟩
  ihave Ht1 := (toks_w (F := F) c d 1 (31 + t) j (31 + t - 1) (31 + t) hl1 (by omega)) $$ Ht1
  icases Ht1 with ⟨HW1, Ht1⟩
  ihave Hf0' := hperm $$ Hf0
  ihave Hf1' := hrel $$ Hf1
  ihave Hp := (posn_open (F := F) c d 0 (31 + t)) $$ Hp
  icases Hp with ⟨Hs1, Hs2, Hr1, Hr2⟩
  unfold tS tW perm at_
  icases HS with ⟨HS1, HS2⟩
  icases Hf0' with ⟨Hrel0, Hrch⟩
  icases Hs1 with ⟨Hs1, #Hs1'⟩
  ihave Hd0 := (take_slot (I := I) (K := K) (N := N) (key (toD d c) d 0 (par (31 + t))) ((31 + t) / 2 + 1)) $$ [Hrel0 HW0]
  · isplitr; · iexact Hctx
    isplitl [Hrel0]; · iexact Hrel0
    iexact HW0
  imod Hd0
  ihave Hd1 := (take_slot (I := I) (K := K) (N := N) (key (toD d c) d 1 (par (31 + t))) ((31 + t) / 2 + 1)) $$ [Hf1' HW1]
  · isplitr; · iexact Hctx
    isplitl [Hf1']; · iexact Hf1'
    iexact HW1
  imod Hd1
  ihave Hd0 := (Entails.of_eq (Sl_key (F := F) (toD d c) d 0 (par (31 + t)))) $$ Hd0
  ihave Hd1 := (Entails.of_eq (Sl_key (F := F) (toD d c) d 1 (par (31 + t)))) $$ Hd1
  ihave Hd := (some_full (F := F) (toD d c) (recvM d) (par (31 + t))) $$ [Hd0 Hd1]
  · isplitl [Hd0]; · iexact Hd0
    iexact Hd1
  iapply (wp_send_owns (I := I) (K := K) (N := N) c (toD d c) (.send d (par (31 + t)) 0) (.recv d (par (31 + t)) 0) ((31 + t) / 2) ((31 + t) / 2) hL
      (agV I d t c) iprop(emp) NF (31 + t) l (dut_send d 0 (31 + t) hl0) (dut_recv d 0 (31 + t) hl0) a1 a2
      (full_credit d (par (31 + t))) (Entails.of_eq p1.symm)
      (by
        rw [pay_recv' I _ d t, show agV I d (t + 1) (toD d c) = agV I d t c from by
          rw [← agV_succ, fro_to]]
        iintro ⟨H, -⟩; iexact H) (fun _ => k) Q)
  isplitr; · iexact Hctx
  isplitl [Hs]; · iexact Hs
  isplitl [Hd]; · iexact Hd
  isplitr; · iempintro
  isplitl [HO]; · iexact HO
  isplitl [HS1]; · iexact HS1
  isplitr; · iexact Hs1'
  isplitl [HS2]; · iexact HS2
  isplitl [Hrch]; · iexact Hrch
  iintro Hc HO
  iapply Hk $$ [Hc Hs1 Hs2 Hr1 Hr2 Hc0 Hc1 Ht0 Ht1] HO
  isplitl [Hc]; · iexact Hc
  isplitl [Hs1 Hs2 Hr1 Hr2]
  · unfold posn at_
    isplitl [Hs1]
    · isplitl [Hs1]; · iexact Hs1
      iexact Hs1'
    isplitl [Hs2]; · iexact Hs2
    isplitl [Hr1]; · iexact Hr1
    iexact Hr2
  isplitl [Hc0]; · iexact Hc0
  isplitl [Hc1]; · iexact Hc1
  isplitl [Ht0]; · iexact Ht0
  iexact Ht1

omit [∀ e, Nonempty (Elt F e)] in
/-- The block has left, the next has arrived. -/
theorem wp_agRecv (c : Dev nD) (d : Fin 2) (t j : ℕ) (ht : t ≤ 30) (m : Memref sig .tc .vmem S2x128x4096 .f32) (s slot : Fin 2)
    (hm : agM d t = full m s) (hcr : (full m s).view.dmaCredit = NF) (hs : par (31 + t) = slot) (l : List Act) (hl : Above (10 * (31 + t) + 10) l) (k : P F) (Q : PUnit → sProp (MM F)) :
    iprop(ctx I K N ∗ agX c d (31 + t) j ∗ ow c l
        ∗ (agC c d (31 + t + 1) j -∗ owns (c : Thread nD τ) (full m s) hL (agV I d t c) -∗ owns (c : Thread nD τ) (full (recvM d) slot) fullShare (agV I d (t + 1) c)
          -∗ ow c l -∗ WP c k Q))
      ⊢ WP c (waitFull (DD c d) m s slot k) Q := by
  subst hs
  have hl0 : 31 + t < lim 0 := by rw [lim_zero]; omega
  have hl1 : lim 1 ≤ 31 + t := by rw [lim_one]; omega
  have a1 : amt (.send d (par (31 + t)) 0) ((31 + t) / 2) = NF := (amt_send d 0 (31 + t)).trans (if_neg (by omega))
  have a2 : amt (.recv d (par (31 + t)) 0) ((31 + t) / 2) = NF := (amt_recv d 0 (31 + t)).trans (if_neg (by omega))
  have p1 := pay_send' I c d t
  rw [hm] at p1
  have e1 : 31 + t + 1 - 2 = 31 + t - 1 := by omega
  have e3 : ¬ (31 + t ≤ 30) := by omega
  unfold agX agC waitFull
  rw [e1]
  dsimp only [DD]
  iintro ⟨#Hctx, ⟨Hcs, Hp, Hc0, Hc1, Ht0, Ht1⟩, HO, Hk⟩
  ihave Ht0 := (toks_r (F := F) c d 0 (31 + t + 1) j (31 + t - 1) (31 + t) hl0) $$ Ht0
  icases Ht0 with ⟨HR, Ht0⟩
  ihave Ht1 := (toks_r' (F := F) c d 1 (31 + t + 1) j (31 + t - 1) (31 + t) (31 + t + 1) hl1 (by omega)) $$ Ht1
  ihave Hp := (posn_open (F := F) c d 0 (31 + t)) $$ Hp
  icases Hp with ⟨Hs1, Hs2, Hr1, Hr2⟩
  unfold tR
  rw [if_neg e3]
  ihave Hs1 := (show at_ (F := F) c (.send d (par (31 + t)) 0) ((31 + t) / 2) ⊢ atPos ER (gs c (.send d (par (31 + t)) 0)) ((31 + t) / 2) ∅ 0 from by
    unfold at_; iintro ⟨H, -⟩; iexact H) $$ Hs1
  ihave Hr1 := (show at_ (F := F) c (.recv d (par (31 + t)) 0) ((31 + t) / 2) ⊢ atPos ER (gs c (.recv d (par (31 + t)) 0)) ((31 + t) / 2) ∅ 0 from by
    unfold at_; iintro ⟨H, -⟩; iexact H) $$ Hr1
  iapply (wp_waitDma_one (I := I) (K := K) (N := N) c (.send d (par (31 + t)) 0) _ rfl ((31 + t) / 2) 0 NF (10 * (31 + t) + 10) l
      hcr (dut_send d 0 (31 + t) hl0) a1 (by omega) (Nat.zero_le _) hl _ Q)
  isplitr; · iexact Hctx
  isplitl [Hcs]; · iexact Hcs
  isplitl [HO]; · iexact HO
  isplitl [Hs1]; · iexact Hs1
  iintro HO Hs1 #Hs1' Hpay
  ihave Hpay := (Entails.of_eq p1) $$ Hpay
  iapply (wp_waitDma_one (I := I) (K := K) (N := N) c (.recv d (par (31 + t)) 0) _ rfl ((31 + t) / 2) (31 + t) NF (10 * (31 + t) + 10) l
      (full_credit d (par (31 + t))) (dut_recv d 0 (31 + t) hl0) a2 (by omega) le_rfl hl _ Q)
  isplitr; · iexact Hctx
  isplitl [HR]; · iexact HR
  isplitl [HO]; · iexact HO
  isplitl [Hr1]; · iexact Hr1
  iintro HO Hr1 #Hr1' Hpay'
  ihave Hpay' := (Entails.of_eq (pay_recv' I c d t)) $$ Hpay'
  iapply Hk $$ [Hs1 Hs2 Hr1 Hr2 Hc0 Hc1 Ht0 Ht1] Hpay Hpay' HO
  isplitl [Hs1 Hs2 Hr1 Hr2]
  · iapply (posn_step (F := F) c d 0 (31 + t))
    unfold at_
    isplitl [Hs1]
    · isplitl [Hs1]; · iexact Hs1
      iexact Hs1'
    isplitl [Hs2]; · iexact Hs2
    isplitl [Hr1]
    · isplitl [Hr1]; · iexact Hr1
      iexact Hr1'
    iexact Hr2
  isplitl [Hc0]; · iexact Hc0
  isplitl [Hc1]; · iexact Hc1
  isplitl [Ht0]; · iexact Ht0
  iexact Ht1

omit [∀ e, Nonempty (Elt F e)]

/-! ## Copies to the result -/

/-- The result's blocks: `r` of them written. -/
def agO (I : Inp F) (c : Dev nD) (d : Fin 2) (r : ℕ) : sProp (MM F) :=
  iprop(at_ c (.out d) r ∗ (bigSep (Finset.Ico r 32) fun t => iprop(dutyTok ER (gs c (.out d)) t 0 ∗ some_ c (outM d c t)))
    ∗ bigSep (Finset.Ico 0 r) fun t => owns (c : Thread nD τ) (outM d c t) fullShare (agV I d t c))
/-- One more on its way. -/
def agOw (I : Inp F) (c : Dev nD) (d : Fin 2) (r : ℕ) : sProp (MM F) :=
  iprop(cred (tallyAt (gs c (.out d)) 0 NF) ∗ at_ c (.out d) r ∗ (bigSep (Finset.Ico (r + 1) 32) fun t => iprop(dutyTok ER (gs c (.out d)) t 0 ∗ some_ c (outM d c t)))
    ∗ bigSep (Finset.Ico 0 r) fun t => owns (c : Thread nD τ) (outM d c t) fullShare (agV I d t c))

theorem dut_out (d : Fin 2) (r : ℕ) (h : r < 32) : dut (.out d) r = {0} := if_pos h

theorem ico_succ {a b : ℕ} (h : a < b) (A : ℕ → sProp (MM F)) : bigSep (Finset.Ico a b) A = iprop(A a ∗ bigSep (Finset.Ico (a + 1) b) A) :=
  bigSep_Ico_succ_bot h A

theorem ico_top (a : ℕ) (A : ℕ → sProp (MM F)) : bigSep (Finset.Ico 0 (a + 1)) A = iprop(A a ∗ bigSep (Finset.Ico 0 a) A) := by
  exact bigSep_Ico_succ_top (Nat.zero_le a) A

theorem wp_copyOut (A : Arr) (hA : A.out = outA) (c : Dev nD) (d : Fin 2) (r : ℕ) (hr : r < 32) (m : Memref sig .tc .vmem S2x128x4096 .f32) (s : Fin 2)
    (hm : agM d r = full m s) (o : Fin 2 → Nat) (ho : ∀ a, o a + S128x4096.size a ≤ S4096x8192.size a) (e : o = oOff d c r) (k : P F) (Q : PUnit → sProp (MM F)) :
    iprop(ctx I K N ∗ agO I c d r ∗ owns (c : Thread nD τ) (full m s) hR (agV I d r c) ∗ (agOw I c d r -∗ WP c k Q))
      ⊢ WP c (copyOut A (DD c d) m s o ho k) Q := by
  subst e
  obtain ⟨_, _, _, out, _, _, _, _, _⟩ := A
  obtain rfl : out = outA := hA
  have p : pay I c (.out d) r 0 = iprop(owns (c : Thread nD τ) (outM d c r) fullShare (agV I d r c) ∗ owns (c : Thread nD τ) (full m s) hR (agV I d r c)) := by
    rw [← hm]; rfl
  have h1 := ico_succ (F := F) hr (fun t => iprop(dutyTok ER (gs c (.out d)) t 0 ∗ some_ c (outM d c t)))
  unfold agO copyOut agOw at_
  rw [h1]
  dsimp only [DD]
  iintro ⟨#Hctx, ⟨⟨Hat, #Hat'⟩, ⟨⟨Ht, Ho⟩, Hrest⟩, Hdone⟩, Hs, Hk⟩
  iapply (wp_copy_owns (I := I) (K := K) (N := N) c (.out d) r hR (agV I d r c) NF (dut_out d r hr) rfl (out_credit d c r)
    (Entails.of_eq p.symm) (fun _ => k) Q)
  isplitr; · iexact Hctx
  isplitl [Hs]; · iexact Hs
  isplitl [Ho]; · iexact Ho
  isplitl [Ht]; · iexact Ht
  isplitr; · iexact Hat'
  iintro Hc
  iapply Hk
  isplitl [Hc]; · iexact Hc
  isplitl [Hat]
  · isplitl [Hat]; · iexact Hat
    iexact Hat'
  isplitl [Hrest]; · iexact Hrest
  iexact Hdone

theorem wp_copyWait (A : Arr) (hA : A.out = outA) (c : Dev nD) (d : Fin 2) (r : ℕ) (hr : r < 32) (m : Memref sig .tc .vmem S2x128x4096 .f32) (s : Fin 2)
    (hm : agM d r = full m s) (o : Fin 2 → Nat) (ho : ∀ a, o a + S128x4096.size a ≤ S4096x8192.size a) (e : o = oOff d c r)
    (l : List Act) (hl : Above 0 l) (k : P F) (Q : PUnit → sProp (MM F)) :
    iprop(ctx I K N ∗ agOw I c d r ∗ ow c l ∗ (agO I c d (r + 1) -∗ owns (c : Thread nD τ) (full m s) hR (agV I d r c) -∗ ow c l -∗ WP c k Q))
      ⊢ WP c (copyWait A (DD c d) m s o ho k) Q := by
  subst e
  obtain ⟨_, _, _, out, _, _, _, _, _⟩ := A
  obtain rfl : out = outA := hA
  have p : pay I c (.out d) r 0 = iprop(owns (c : Thread nD τ) (outM d c r) fullShare (agV I d r c) ∗ owns (c : Thread nD τ) (full m s) hR (agV I d r c)) := by
    rw [← hm]; rfl
  have h1 := ico_top (F := F) r (fun t => owns (c : Thread nD τ) (outM d c t) fullShare (agV I d t c))
  unfold agO copyWait agOw at_
  rw [h1]
  dsimp only [DD]
  iintro ⟨#Hctx, ⟨Hc, ⟨Hat, -⟩, Hrest, Hdone⟩, HO, Hk⟩
  iapply (wp_waitDma_one (I := I) (K := K) (N := N) c (.out d) _ rfl r 0 NF 0 l
      (out_credit d c r) (dut_out d r hr) rfl (by omega) le_rfl hl _ Q)
  isplitr; · iexact Hctx
  isplitl [Hc]; · iexact Hc
  isplitl [HO]; · iexact HO
  isplitl [Hat]; · iexact Hat
  iintro HO Hat Hat' Hpay
  ihave Hpay := (Entails.of_eq p) $$ Hpay
  icases Hpay with ⟨Hd, Hs⟩
  iapply Hk $$ [Hat Hat' Hrest Hdone Hd] Hs HO
  isplitl [Hat Hat']
  · isplitl [Hat]; · iexact Hat
    iexact Hat'
  isplitl [Hrest]; · iexact Hrest
  isplitl [Hd]; · iexact Hd
  iexact Hdone

/-! ## Slots handed back -/

theorem rdr_step (c : Dev nD) (d sub : Fin 2) (g : ℕ) :
    iprop(ctx I K N ∗ rdr c d sub g ∗ some_ c (half (recvM d) (par g) sub))
      ⊢ (|={Set.univ}=> (rdr c d sub (g + 1) ∗ Release.released ES (key c d sub (par g)) (g / 2 + 2)) : sProp (MM F)) := by
  have h := give_slot (I := I) (K := K) (N := N) (key c d sub (par g)) (g / 2 + 1)
  rw [Sl_key] at h
  unfold rdr
  rw [show par (g + 1 + 1) = par g from par_two g, show (g + 1 + 1) / 2 = g / 2 + 1 from div_two g]
  iintro ⟨#Hctx, ⟨H1, H2⟩, Hs⟩
  ihave H := h $$ [H1 Hs]
  · isplitr; · iexact Hctx
    isplitl [H1]; · iexact H1
    iexact Hs
  imod H
  icases H with ⟨H, Hr⟩
  imodintro
  isplitr [Hr]
  · isplitl [H2]; · iexact H2
    iexact H
  iexact Hr

/-- A whole slot handed back. -/
theorem agD_step (c : Dev nD) (d : Fin 2) (j : ℕ) (hj : 31 ≤ j) :
    iprop(ctx I K N ∗ agD c d j ∗ some_ c (full (recvM d) (par j)) ∗ reached ER (gs c (.recv d (par j) 0)) (j / 2 + 1))
      ⊢ (|={Set.univ}=> agD c d (j + 1) : sProp (MM F)) := by
  unfold agD
  iintro ⟨#Hctx, ⟨H0, H1, Hc0, Hc1⟩, Hs, #Hr⟩
  ihave Hs := (some_halves (F := F) c (recvM d) (par j)) $$ Hs
  icases Hs with ⟨Hs0, Hs1⟩
  ihave H := (rdr_step (I := I) (K := K) (N := N) c d 0 j) $$ [H0 Hs0]
  · isplitr; · iexact Hctx
    isplitl [H0]; · iexact H0
    iexact Hs0
  imod H
  icases H with ⟨H0, #Hf0⟩
  ihave H := (rdr_step (I := I) (K := K) (N := N) c d 1 j) $$ [H1 Hs1]
  · isplitr; · iexact Hctx
    isplitl [H1]; · iexact H1
    iexact Hs1
  imod H
  icases H with ⟨H1, #Hf1⟩
  imodintro
  isplitl [H0]; · iexact H0
  isplitl [H1]; · iexact H1
  isplitl [Hc0]
  · iapply (cfacts_succ (F := F) c d 0 j)
    isplitl [Hc0]; · iexact Hc0
    unfold cfact
    isplitr; · iexact Hf0
    split
    · iexact Hr
    · iempintro
  · iapply (cfacts_succ (F := F) c d 1 j)
    isplitl [Hc1]; · iexact Hc1
    unfold cfact
    isplitr; · iexact Hf1
    rw [if_neg (by rw [lim_one]; omega)]
    iempintro

/-- The two messages that say so. -/
def crAct (c : Dev nD) (d : Fin 2) (j : ℕ) : List Act := [(froD d c, .cred d 0, j, 1), (froD d c, .cred d 1, j, 1)]

theorem nb_fro (d : Fin 2) (c : Dev nD) : nb (F := F) c ⊢ startF (froD d c) := by
  unfold nb
  iintro ⟨-, H, H'⟩
  fin_cases d
  · iexact H'
  · iexact H

theorem agC_j (c : Dev nD) (d : Fin 2) (g j : ℕ) (hj : j < 62) : agC (F := F) c d g j ⊢ iprop((tJ c d 0 j ∗ tJ c d 1 j) ∗ agC c d g (j + 1)) := by
  unfold agC
  iintro ⟨Hp, Hc0, Hc1, H0, H1⟩
  ihave H0 := (toks_j (F := F) c d 0 g j (g - 2) g hj) $$ H0
  icases H0 with ⟨HJ0, H0⟩
  ihave H1 := (toks_j (F := F) c d 1 g j (g - 2) g hj) $$ H1
  icases H1 with ⟨HJ1, H1⟩
  isplitl [HJ0 HJ1]
  · isplitl [HJ0]; · iexact HJ0
    iexact HJ1
  isplitl [Hp]; · iexact Hp
  isplitl [Hc0]; · iexact Hc0
  isplitl [Hc1]; · iexact Hc1
  isplitl [H0]; · iexact H0
  iexact H1

theorem wp_credit2 (c : Dev nD) (d : Fin 2) (j n g : ℕ) (hj : j < 62) (hn : n = min (j + 1) 60) (l : List Act) (k : P F) (Q : PUnit → sProp (MM F)) :
    iprop(ctx I K N ∗ nb c ∗ agD c d n ∗ agC c d g j ∗ ow c (crAct c d j ++ l) ∗ (agD c d n -∗ agC c d g (j + 1) -∗ ow c l -∗ WP c k Q))
      ⊢ WP c (credit (DD c d) 0 <| credit (DD c d) 1 k) Q := by
  subst hn
  have hp : ∀ sub, pay I (froD d c) (.cred d sub) 0 j = cfacts c d sub (min (j + 1) 60) := fun sub => by
    show cfacts (toD d (froD d c)) d sub (min (j + 1) 60) = _
    rw [to_fro]
  have hd : ∀ sub, j ∈ dut (.cred d sub) 0 := fun sub => Finset.mem_range.mpr hj
  unfold credit agD
  dsimp only [DD]
  iintro ⟨#Hctx, #Hnb, ⟨H0, H1, #Hc0, #Hc1⟩, Hc, HO, Hk⟩
  ihave Hc := (agC_j (F := F) c d g j hj) $$ Hc
  icases Hc with ⟨⟨HJ0, HJ1⟩, Hc⟩
  unfold tJ
  ihave #Hs := (nb_fro (F := F) d c) $$ Hnb
  iapply (wp_signal_one (I := I) (K := K) (N := N) c (froD d c) (.cred d 0) _ rfl 0 j j ((froD d c, .cred d 1, j, 1) :: l) rfl (hd 0) rfl _ Q)
  isplitr; · iexact Hctx
  isplitl [HO]; · iexact HO
  isplitl [HJ0]; · iexact HJ0
  isplitr; · iapply (startF_cred (F := F) (froD d c) d 0); iexact Hs
  isplitr; · rw [hp 0]; iexact Hc0
  iintro HO
  iapply (wp_signal_one (I := I) (K := K) (N := N) c (froD d c) (.cred d 1) _ rfl 0 j j l rfl (hd 1) rfl _ Q)
  isplitr; · iexact Hctx
  isplitl [HO]; · iexact HO
  isplitl [HJ1]; · iexact HJ1
  isplitr; · iapply (startF_cred (F := F) (froD d c) d 1); iexact Hs
  isplitr; · rw [hp 1]; iexact Hc1
  iintro HO
  iapply Hk $$ [H0 H1] Hc HO
  isplitl [H0]; · iexact H0
  isplitl [H1]; · iexact H1
  isplitr; · iexact Hc0
  iexact Hc1

end Cert.Proof

end
-- ==== Proof.Gather.lean ====
/-
  The second half's copying ring, from its first transfer to its last message.
-/
module

public import proofs.«01_k».proof.Proof.Copy

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {I : Inp F} {K : Dev nD × Kind → ℕ} {N : Key → ℕ}

/-! ## What is owed -/

/-- What the last `m` steps of the copying ring pay, and its end. -/
def agRest (c : Dev nD) : ℕ → List Act
  | 0 => crAct c 0 61 ++ (crAct c 1 61 ++ [])
  | m + 1 => (toD 0 c, .recv 0 (par (61 - m)) 0, 61 - m, NF) :: (toD 1 c, .recv 1 (par (61 - m)) 0, 61 - m, NF)
      :: (crAct c 0 (60 - m) ++ (crAct c 1 (60 - m) ++ agRest c m))

theorem crAct_above (c : Dev nD) (d : Fin 2) (j n : ℕ) (h : j < 62 ∧ n < 10 * j + 25) : Above n (crAct c d j) :=
  above_cons (a := (froD d c, .cred d 0, j, 1)) h (above_cons (a := (froD d c, .cred d 1, j, 1)) h (fun _ h => absurd h List.not_mem_nil))

theorem agRest_above (c : Dev nD) (n : ℕ) : ∀ m, m ≤ 30 → n + 10 * m < 630 → Above n (agRest c m)
  | 0, _, h => above_append (crAct_above c 0 61 n (by omega)) (above_append (crAct_above c 1 61 n (by omega)) (fun _ h => absurd h List.not_mem_nil))
  | m + 1, hm, h => above_cons (a := (toD 0 c, .recv 0 (par (61 - m)) 0, 61 - m, NF)) (show 61 - m < 62 ∧ n < 10 * (61 - m) + 10 by omega) (above_cons (a := (toD 1 c, .recv 1 (par (61 - m)) 0, 61 - m, NF)) (show 61 - m < 62 ∧ n < 10 * (61 - m) + 10 by omega)
      (above_append (crAct_above c 0 (60 - m) n (by omega)) (above_append (crAct_above c 1 (60 - m) n (by omega)) (agRest_above c n m (by omega) (by omega)))))

theorem agRest_succ (c : Dev nD) (i : ℕ) (hi : i < 30) :
    agRest c (30 - i) = (toD 0 c, .recv 0 (par i) 0, 31 + (i + 1), NF) :: (toD 1 c, .recv 1 (par i) 0, 31 + (i + 1), NF)
      :: (crAct c 0 (31 + i) ++ (crAct c 1 (31 + i) ++ agRest c (30 - (i + 1)))) := by
  have e : 30 - i = (30 - (i + 1)) + 1 := by omega
  have e1 : 61 - (30 - (i + 1)) = 31 + (i + 1) := by omega
  have e2 : 60 - (30 - (i + 1)) = 31 + i := by omega
  have e3 : par (31 + (i + 1)) = par i := Fin.ext (by show (31 + (i + 1)) % 2 = i % 2; omega)
  rw [e]
  show (_ :: _ :: (crAct c 0 (60 - (30 - (i + 1))) ++ (crAct c 1 (60 - (30 - (i + 1))) ++ _)) : List Act) = _
  rw [e1, e2, e3]

/-! ## A step -/

/-- A slot that stays with its device at the end. -/
def kept (c : Dev nD) (d : Fin 2) (i : ℕ) : sProp (MM F) := if i = 30 then some_ c (full (recvM d) 0) else iprop(emp)

/-- A direction before step `i`. -/
def agSt (I : Inp F) (c : Dev nD) (d : Fin 2) (i : ℕ) : sProp (MM F) :=
  iprop(agC c d (31 + (i + 1)) (31 + i) ∗ agD c d (min (31 + i) 60) ∗ agO I c d (i + 1)
    ∗ owns (c : Thread nD τ) (full (recvM d) (par (i + 1))) fullShare (agV I d (i + 1) c) ∗ kept c d i)

theorem agC_reached (c : Dev nD) (d : Fin 2) (g j : ℕ) : agC (F := F) c d g j ⊢ iprop(reached ER (gs c (.recv d (par g) 0)) (g / 2) ∗ agC c d g j) := by
  unfold agC posn at_
  iintro ⟨⟨H1, H2, ⟨H3, #H⟩, H4⟩, Hr⟩
  isplitr; · iexact H
  isplitr [Hr]
  · isplitl [H1]; · iexact H1
    isplitl [H2]; · iexact H2
    isplitl [H3]
    · isplitl [H3]; · iexact H3
      iexact H
    iexact H4
  iexact Hr

theorem owns_cut (c : Dev nD) {sp : Space} {s : Shape} {e : EltTy} (m : Memref sig .tc sp s e) (X : s.Idx → Elt F e) :
    (owns (c : Thread nD τ) m fullShare X : sProp (MM F)) ⊢ iprop(owns (c : Thread nD τ) m hL X ∗ owns (c : Thread nD τ) m hR X) :=
  (owns_halves (c : Thread nD τ) m fullShare X).1
theorem owns_uncut (c : Dev nD) {sp : Space} {s : Shape} {e : EltTy} (m : Memref sig .tc sp s e) (X : s.Idx → Elt F e) :
    iprop(owns (c : Thread nD τ) m hL X ∗ owns (c : Thread nD τ) m hR X) ⊢ (owns (c : Thread nD τ) m fullShare X : sProp (MM F)) :=
  (owns_halves (c : Thread nD τ) m fullShare X).2

/-- The end of a direction's step: the block has left, the next is here, the slot goes back. -/
theorem wp_agTurn (c : Dev nD) (d : Fin 2) (i : ℕ) (hi : i < 30) (l : List Act) (hl : Above (330 + 10 * i) l) (k : P F) (Q : PUnit → sProp (MM F)) :
    iprop(ctx I K N ∗ nb c ∗ agX c d (31 + (i + 1)) (31 + i) ∗ agD c d (min (31 + i) 60)
        ∗ owns (c : Thread nD τ) (full (recvM d) (par (i + 1))) hR (agV I d (i + 1) c) ∗ ow c (crAct c d (31 + i) ++ l)
        ∗ (agC c d (31 + (i + 1 + 1)) (31 + (i + 1)) -∗ agD c d (min (31 + (i + 1)) 60) -∗ kept c d (i + 1)
            -∗ owns (c : Thread nD τ) (full (recvM d) (par (i + 1 + 1))) fullShare (agV I d (i + 1 + 1) c) -∗ ow c l -∗ WP c k Q))
      ⊢ WP c (waitFull (DD c d) (recvM d) (par (i + 1)) (par i) <| credit (DD c d) 0 <| credit (DD c d) 1 k) Q := by
  have e3 : par (31 + (i + 1)) = par i := Fin.ext (by show (31 + (i + 1)) % 2 = i % 2; omega)
  have e4 : par (i + 1 + 1) = par i := par_two i
  have hl' : Above (10 * (31 + (i + 1)) + 10) (crAct c d (31 + i) ++ l) :=
    above_append (crAct_above c d (31 + i) _ (by omega)) (above_mono (by omega) hl)
  rw [e4]
  iintro ⟨#Hctx, #Hnb, Hx, Hd, Hs, HO, Hk⟩
  iapply (wp_agRecv (I := I) (K := K) (N := N) c d (i + 1) (31 + i) (by omega) (recvM d) (par (i + 1)) (par i) rfl (full_credit d _) e3 _ hl' _ Q)
  isplitr; · iexact Hctx
  isplitl [Hx]; · iexact Hx
  isplitl [HO]; · iexact HO
  iintro Hc Hs' Hn HO
  ihave Hs := (owns_uncut (F := F) c (full (recvM d) (par (i + 1))) (agV I d (i + 1) c)) $$ [Hs Hs']
  · isplitl [Hs']; · iexact Hs'
    iexact Hs
  ihave Hs := (owns_some (F := F) c (full (recvM d) (par (i + 1))) (agV I d (i + 1) c)) $$ Hs
  ihave Hc := (agC_reached (F := F) c d (31 + (i + 1) + 1) (31 + i)) $$ Hc
  icases Hc with ⟨#Hr, Hc⟩
  have e5 : par (31 + (i + 1) + 1) = par (31 + i) := Fin.ext (by show (31 + (i + 1) + 1) % 2 = (31 + i) % 2; omega)
  have e6 : (31 + (i + 1) + 1) / 2 = (31 + i) / 2 + 1 := by omega
  have e7 : par (i + 1) = par (31 + i) := Fin.ext (by show (i + 1) % 2 = (31 + i) % 2; omega)
  ihave Hu := (show iprop(ctx I K N ∗ agD c d (min (31 + i) 60) ∗ some_ c (full (recvM d) (par (i + 1))) ∗ reached ER (gs c (.recv d (par (31 + (i + 1) + 1)) 0)) ((31 + (i + 1) + 1) / 2))
      ⊢ (|={Set.univ}=> (agD c d (min (31 + (i + 1)) 60) ∗ kept c d (i + 1)) : sProp (MM F)) from by
    by_cases h : i = 29
    · subst h
      unfold kept
      rw [if_pos rfl]
      iintro ⟨-, H, H', -⟩
      imodintro
      isplitl [H]; · iexact H
      iexact H'
    · unfold kept
      rw [if_neg (by omega), e5, e6, e7, show min (31 + i) 60 = 31 + i by omega, show min (31 + (i + 1)) 60 = 31 + i + 1 by omega]
      iintro ⟨Hctx, H, H', Hr⟩
      ihave H := (agD_step (I := I) (K := K) (N := N) c d (31 + i) (by omega)) $$ [Hctx H H' Hr]
      · isplitl [Hctx]; · iexact Hctx
        isplitl [H]; · iexact H
        isplitl [H']; · iexact H'
        iexact Hr
      imod H
      imodintro
      isplitl [H]; · iexact H
      iempintro) $$ [Hd Hs]
  · isplitr; · iexact Hctx
    isplitl [Hd]; · iexact Hd
    isplitl [Hs]; · iexact Hs
    iexact Hr
  imod Hu
  icases Hu with ⟨Hd, Hkept⟩
  iapply (wp_credit2 (I := I) (K := K) (N := N) c d (31 + i) (min (31 + (i + 1)) 60) (31 + (i + 1) + 1) (by omega) rfl l k Q)
  isplitr; · iexact Hctx
  isplitr; · iexact Hnb
  isplitl [Hd]; · iexact Hd
  isplitl [Hc]; · iexact Hc
  isplitl [HO]; · iexact HO
  iintro Hd Hc HO
  iapply Hk $$ Hc Hd Hkept Hn HO

theorem oo_eq (c : Dev nD) (d : Fin 2) (i : Fin 30) : (DD c d).oo i.castSucc = oOff d c (i.val + 1) := by
  have e : (⟨i.val % 31, Nat.mod_lt _ (by decide)⟩ : Fin 31) = i.castSucc := Fin.ext (Nat.mod_eq_of_lt (by have := i.isLt; omega))
  show ooD d c i.castSucc = ooD d c ⟨i.val % 31, _⟩
  rw [e]

variable [∀ e, Nonempty (Elt F e)]

set_option maxHeartbeats 2000000 in
/-- A step of the copying ring. -/
theorem wp_agStep (A : Arr) (hA : A.out = outA) (c : Dev nD) (i : Fin 30) (k : P F) (Q : PUnit → sProp (MM F)) :
    iprop(ctx I K N ∗ nb c ∗ agSt I c 0 i.val ∗ agSt I c 1 i.val ∗ ow c (agRest c (30 - i.val))
        ∗ (agSt I c 0 (i.val + 1) -∗ agSt I c 1 (i.val + 1) -∗ ow c (agRest c (30 - (i.val + 1))) -∗ WP c k Q))
      ⊢ WP c (agStep A (DD c 0) (DD c 1) i k) Q := by
  have hi := i.isLt
  have ho0 := oo_eq c 0 i
  have ho1 := oo_eq c 1 i
  have hr : ∀ n, n < 340 + 10 * i.val → Above n (agRest c (30 - (i.val + 1))) := fun n hn => agRest_above c n _ (by omega) (by omega)
  have hb : ∀ n, n < 335 + 10 * i.val → Above n (crAct c 1 (31 + i.val) ++ agRest c (30 - (i.val + 1))) := fun n hn =>
    above_append (crAct_above c 1 _ n (by omega)) (hr n (by omega))
  have ha : ∀ n, n < 335 + 10 * i.val → Above n (crAct c 0 (31 + i.val) ++ (crAct c 1 (31 + i.val) ++ agRest c (30 - (i.val + 1)))) := fun n hn =>
    above_append (crAct_above c 0 _ n (by omega)) (hb n hn)
  have hc : Above (10 * (31 + (i.val + 1) - 2) + 25) (agRest c (30 - i.val)) := by
    rw [agRest_succ c i.val hi]
    exact above_cons (a := (toD 0 c, .recv 0 (par i.val) 0, 31 + (i.val + 1), NF)) (show 31 + (i.val + 1) < 62 ∧ 10 * (31 + (i.val + 1) - 2) + 25 < 10 * (31 + (i.val + 1)) + 10 by omega)
      (above_cons (a := (toD 1 c, .recv 1 (par i.val) 0, 31 + (i.val + 1), NF)) (show 31 + (i.val + 1) < 62 ∧ 10 * (31 + (i.val + 1) - 2) + 25 < 10 * (31 + (i.val + 1)) + 10 by omega) (ha _ (by omega)))
  have e3 : par (31 + (i.val + 1)) = par i.val := Fin.ext (by show (31 + (i.val + 1)) % 2 = i.val % 2; omega)
  have hsucc := agRest_succ c i.val hi
  unfold agStep
  iintro ⟨#Hctx, #Hnb, H0, H1, HO, Hk⟩
  ihave H0 := (show agSt I c 0 i.val ⊢ iprop(agC c 0 (31 + (i.val + 1)) (31 + i.val) ∗ agD c 0 (min (31 + i.val) 60) ∗ agO I c 0 (i.val + 1)
    ∗ owns (c : Thread nD τ) (full (recvM 0) (par (i.val + 1))) fullShare (agV I 0 (i.val + 1) c) ∗ kept c 0 i.val) from by unfold agSt; exact BI.Entails.refl _) $$ H0
  ihave H1 := (show agSt I c 1 i.val ⊢ iprop(agC c 1 (31 + (i.val + 1)) (31 + i.val) ∗ agD c 1 (min (31 + i.val) 60) ∗ agO I c 1 (i.val + 1)
    ∗ owns (c : Thread nD τ) (full (recvM 1) (par (i.val + 1))) fullShare (agV I 1 (i.val + 1) c) ∗ kept c 1 i.val) from by unfold agSt; exact BI.Entails.refl _) $$ H1
  icases H0 with ⟨Hc0, Hd0, Ho0, Hs0, -⟩
  icases H1 with ⟨Hc1, Hd1, Ho1, Hs1, -⟩
  iapply (wp_agOpen (I := I) (K := K) (N := N) c 0 _ (31 + i.val) (by omega) (by omega) _ hc _ Q)
  isplitr; · iexact Hctx
  isplitl [Hc0]; · iexact Hc0
  isplitl [HO]; · iexact HO
  iintro Hc0 HO
  iapply (wp_agOpen (I := I) (K := K) (N := N) c 1 _ (31 + i.val) (by omega) (by omega) _ hc _ Q)
  isplitr; · iexact Hctx
  isplitl [Hc1]; · iexact Hc1
  isplitl [HO]; · iexact HO
  iintro Hc1 HO
  ihave Hs0 := (owns_cut (F := F) c (full (recvM 0) (par (i.val + 1))) (agV I 0 (i.val + 1) c)) $$ Hs0
  icases Hs0 with ⟨Hs0, Hs0'⟩
  ihave Hs1 := (owns_cut (F := F) c (full (recvM 1) (par (i.val + 1))) (agV I 1 (i.val + 1) c)) $$ Hs1
  icases Hs1 with ⟨Hs1, Hs1'⟩
  ihave HO := (Entails.of_eq (congrArg (ow (F := F) c) hsucc)) $$ HO
  iapply (wp_agSend (I := I) (K := K) (N := N) c 0 (i.val + 1) (31 + i.val) (by omega) (recvM 0) (par (i.val + 1)) (par i.val) rfl e3 _ _ Q)
  isplitr; · iexact Hctx
  isplitl [Hc0]; · iexact Hc0
  isplitl [Hs0]; · iexact Hs0
  isplitl [HO]; · iexact HO
  iintro Hc0 HO
  iapply (wp_agSend (I := I) (K := K) (N := N) c 1 (i.val + 1) (31 + i.val) (by omega) (recvM 1) (par (i.val + 1)) (par i.val) rfl e3 _ _ Q)
  isplitr; · iexact Hctx
  isplitl [Hc1]; · iexact Hc1
  isplitl [Hs1]; · iexact Hs1
  isplitl [HO]; · iexact HO
  iintro Hc1 HO
  iapply (wp_copyOut (I := I) (K := K) (N := N) A hA c 0 (i.val + 1) (by omega) (recvM 0) (par (i.val + 1)) rfl _ _ ho0 _ Q)
  isplitr; · iexact Hctx
  isplitl [Ho0]; · iexact Ho0
  isplitl [Hs0']; · iexact Hs0'
  iintro Ho0
  iapply (wp_copyOut (I := I) (K := K) (N := N) A hA c 1 (i.val + 1) (by omega) (recvM 1) (par (i.val + 1)) rfl _ _ ho1 _ Q)
  isplitr; · iexact Hctx
  isplitl [Ho1]; · iexact Ho1
  isplitl [Hs1']; · iexact Hs1'
  iintro Ho1
  iapply (wp_copyWait (I := I) (K := K) (N := N) A hA c 0 (i.val + 1) (by omega) (recvM 0) (par (i.val + 1)) rfl _ _ ho0 _ (ha 0 (by omega)) _ Q)
  isplitr; · iexact Hctx
  isplitl [Ho0]; · iexact Ho0
  isplitl [HO]; · iexact HO
  iintro Ho0 Hs0 HO
  iapply (wp_copyWait (I := I) (K := K) (N := N) A hA c 1 (i.val + 1) (by omega) (recvM 1) (par (i.val + 1)) rfl _ _ ho1 _ (ha 0 (by omega)) _ Q)
  isplitr; · iexact Hctx
  isplitl [Ho1]; · iexact Ho1
  isplitl [HO]; · iexact HO
  iintro Ho1 Hs1 HO
  iapply (wp_agTurn (I := I) (K := K) (N := N) c 0 i.val hi _ (hb _ (by omega)) _ Q)
  isplitr; · iexact Hctx
  isplitr; · iexact Hnb
  isplitl [Hc0]; · iexact Hc0
  isplitl [Hd0]; · iexact Hd0
  isplitl [Hs0]; · iexact Hs0
  isplitl [HO]; · iexact HO
  iintro Hc0 Hd0 Hk0 Hs0 HO
  iapply (wp_agTurn (I := I) (K := K) (N := N) c 1 i.val hi _ (hr _ (by omega)) _ Q)
  isplitr; · iexact Hctx
  isplitr; · iexact Hnb
  isplitl [Hc1]; · iexact Hc1
  isplitl [Hd1]; · iexact Hd1
  isplitl [Hs1]; · iexact Hs1
  isplitl [HO]; · iexact HO
  iintro Hc1 Hd1 Hk1 Hs1 HO
  iapply Hk $$ [Hc0 Hd0 Ho0 Hs0 Hk0] [Hc1 Hd1 Ho1 Hs1 Hk1] HO
  · unfold agSt
    isplitl [Hc0]; · iexact Hc0
    isplitl [Hd0]; · iexact Hd0
    isplitl [Ho0]; · iexact Ho0
    isplitl [Hs0]; · iexact Hs0
    iexact Hk0
  · unfold agSt
    isplitl [Hc1]; · iexact Hc1
    isplitl [Hd1]; · iexact Hd1
    isplitl [Ho1]; · iexact Ho1
    isplitl [Hs1]; · iexact Hs1
    iexact Hk1

/-! ## The start -/

/-- A direction before the copying ring. -/
def agStart (I : Inp F) (c : Dev nD) (d : Fin 2) : sProp (MM F) :=
  iprop(agC c d 31 31 ∗ agD c d 31 ∗ agO I c d 0 ∗ owns (c : Thread nD τ) (full (accM d) 1) fullShare (rsV I d 31 c))

/-- A direction's block is quantised and leaves. -/
theorem wp_ag0Dir (c : Dev nD) (d : Fin 2) (l : List Act) (hl : Above 319 l) (k : P F) (Q : PUnit → sProp (MM F)) :
    iprop(ctx I K N ∗ agC c d 31 31 ∗ owns (c : Thread nD τ) (full (accM d) 1) fullShare (rsV I d 31 c) ∗ ow c ((toD d c, .recv d 1 0, 31, NF) :: l)
        ∗ (agX c d 31 31 -∗ owns (c : Thread nD τ) (full (accM d) 1) hR (agV I d 0 c) -∗ ow c l -∗ WP c k Q))
      ⊢ WP c (ag0Dir (DD c d) (scaleV (valV I 5 c)) k) Q := by
  have hc : Above (10 * (31 - 2) + 25) ((toD d c, .recv d 1 0, 31, NF) :: l) := above_cons (a := (toD d c, .recv d 1 0, 31, NF)) (show 31 < 62 ∧ 10 * (31 - 2) + 25 < 10 * 31 + 10 by omega) (above_mono (by omega) hl)
  unfold ag0Dir
  dsimp only [DD]
  iintro ⟨#Hctx, Hc, Hs, HO, Hk⟩
  iapply (wp_load_full (F := F) c (accM d) 1 fullShare (rsV I d 31 c)
    (fun v => putFull (accM d) 1 (dqV (scaleV (valV I 5 c)) v) <|
      creditWait (DD c d) 0 1#32 <| creditWait (DD c d) 1 1#32 <| sendFull (DD c d) (accM d) 1 1 k) Q)
  isplitl [Hs]; · iexact Hs
  iintro Hs
  ihave Hs := (owns_some (F := F) c (full (accM d) 1) _) $$ Hs
  iapply (wp_putFull (F := F) c (accM d) 1 _ _ Q)
  isplitl [Hs]; · iexact Hs
  iintro Hs
  ihave Hs := (show owns (c : Thread nD τ) (full (accM d) 1) fullShare (dqV (scaleV (valV I 5 c)) (rsV I d 31 c)) ⊢ (owns (c : Thread nD τ) (full (accM d) 1) fullShare (agV I d 0 c) : sProp (MM F)) from BI.Entails.refl _) $$ Hs
  ihave Hs := (owns_cut (F := F) c (full (accM d) 1) (agV I d 0 c)) $$ Hs
  icases Hs with ⟨Hs, Hs'⟩
  iapply (wp_agOpen (I := I) (K := K) (N := N) c d 31 31 (by omega) (by omega) _ hc _ Q)
  isplitr; · iexact Hctx
  isplitl [Hc]; · iexact Hc
  isplitl [HO]; · iexact HO
  iintro Hc HO
  iapply (wp_agSend (I := I) (K := K) (N := N) c d 0 31 (by omega) (accM d) 1 1 rfl rfl l _ Q)
  isplitr; · iexact Hctx
  isplitl [Hc]; · iexact Hc
  isplitl [Hs]; · iexact Hs
  isplitl [HO]; · iexact HO
  iintro Hc HO
  iapply Hk $$ Hc Hs' HO

set_option maxHeartbeats 2000000 in
/-- The first step of the copying ring. -/
theorem wp_ag0 (A : Arr) (hA : A.out = outA) (c : Dev nD) (k : P F) (Q : PUnit → sProp (MM F)) :
    iprop(ctx I K N ∗ agStart I c 0 ∗ agStart I c 1 ∗ ow c ((toD 0 c, .recv 0 1 0, 31, NF) :: (toD 1 c, .recv 1 1 0, 31, NF) :: agRest c 30)
        ∗ (agSt I c 0 0 -∗ agSt I c 1 0 -∗ some_ c (full (accM 0) 1) -∗ some_ c (full (accM 1) 1) -∗ ow c (agRest c 30) -∗ WP c k Q))
      ⊢ WP c (ag0 A (DD c 0) (DD c 1) (scaleV (valV I 5 c)) k) Q := by
  have hr : Above 320 (agRest c 30) := agRest_above c _ _ (by omega) (by omega)
  have hr0 : Above 0 (agRest c 30) := above_mono (by omega) hr
  unfold ag0 agStart
  iintro ⟨#Hctx, ⟨Hc0, Hd0, Ho0, Hs0⟩, ⟨Hc1, Hd1, Ho1, Hs1⟩, HO, Hk⟩
  iapply (wp_ag0Dir (I := I) (K := K) (N := N) c 0 _ (above_cons (a := (toD 1 c, .recv 1 1 0, 31, NF)) (show 31 < 62 ∧ 319 < 10 * 31 + 10 by omega) (above_mono (by omega) hr)) _ Q)
  isplitr; · iexact Hctx
  isplitl [Hc0]; · iexact Hc0
  isplitl [Hs0]; · iexact Hs0
  isplitl [HO]; · iexact HO
  iintro Hc0 Hs0 HO
  iapply (wp_ag0Dir (I := I) (K := K) (N := N) c 1 _ (above_mono (by omega) hr) _ Q)
  isplitr; · iexact Hctx
  isplitl [Hc1]; · iexact Hc1
  isplitl [Hs1]; · iexact Hs1
  isplitl [HO]; · iexact HO
  iintro Hc1 Hs1 HO
  iapply (wp_copyOut (I := I) (K := K) (N := N) A hA c 0 0 (by omega) (accM 0) 1 rfl _ _ rfl _ Q)
  isplitr; · iexact Hctx
  isplitl [Ho0]; · iexact Ho0
  isplitl [Hs0]; · iexact Hs0
  iintro Ho0
  iapply (wp_copyOut (I := I) (K := K) (N := N) A hA c 1 0 (by omega) (accM 1) 1 rfl _ _ rfl _ Q)
  isplitr; · iexact Hctx
  isplitl [Ho1]; · iexact Ho1
  isplitl [Hs1]; · iexact Hs1
  iintro Ho1
  iapply (wp_copyWait (I := I) (K := K) (N := N) A hA c 0 0 (by omega) (accM 0) 1 rfl _ _ rfl _ hr0 _ Q)
  isplitr; · iexact Hctx
  isplitl [Ho0]; · iexact Ho0
  isplitl [HO]; · iexact HO
  iintro Ho0 Hs0 HO
  iapply (wp_copyWait (I := I) (K := K) (N := N) A hA c 1 0 (by omega) (accM 1) 1 rfl _ _ rfl _ hr0 _ Q)
  isplitr; · iexact Hctx
  isplitl [Ho1]; · iexact Ho1
  isplitl [HO]; · iexact HO
  iintro Ho1 Hs1 HO
  iapply (wp_agRecv (I := I) (K := K) (N := N) c 0 0 31 (by omega) (accM 0) 1 1 rfl (fullA_credit 0 _) rfl _ hr _ Q)
  isplitr; · iexact Hctx
  isplitl [Hc0]; · iexact Hc0
  isplitl [HO]; · iexact HO
  iintro Hc0 Hs0' Hn0 HO
  iapply (wp_agRecv (I := I) (K := K) (N := N) c 1 0 31 (by omega) (accM 1) 1 1 rfl (fullA_credit 1 _) rfl _ hr _ Q)
  isplitr; · iexact Hctx
  isplitl [Hc1]; · iexact Hc1
  isplitl [HO]; · iexact HO
  iintro Hc1 Hs1' Hn1 HO
  ihave Hs0 := (owns_uncut (F := F) c (full (accM 0) 1) (agV I 0 0 c)) $$ [Hs0 Hs0']
  · isplitl [Hs0']; · iexact Hs0'
    iexact Hs0
  ihave Hs0 := (owns_some (F := F) c (full (accM 0) 1) (agV I 0 0 c)) $$ Hs0
  ihave Hs1 := (owns_uncut (F := F) c (full (accM 1) 1) (agV I 1 0 c)) $$ [Hs1 Hs1']
  · isplitl [Hs1']; · iexact Hs1'
    iexact Hs1
  ihave Hs1 := (owns_some (F := F) c (full (accM 1) 1) (agV I 1 0 c)) $$ Hs1
  iapply Hk $$ [Hc0 Hd0 Ho0 Hn0] [Hc1 Hd1 Ho1 Hn1] Hs0 Hs1 HO
  · unfold agSt
    isplitl [Hc0]; · iexact Hc0
    isplitl [Hd0]; · iexact Hd0
    isplitl [Ho0]; · iexact Ho0
    isplitl [Hn0]; · iexact Hn0
    unfold kept; rw [if_neg (by omega)]; iempintro
  · unfold agSt
    isplitl [Hc1]; · iexact Hc1
    isplitl [Hd1]; · iexact Hd1
    isplitl [Ho1]; · iexact Ho1
    isplitl [Hn1]; · iexact Hn1
    unfold kept; rw [if_neg (by omega)]; iempintro

/-! ## The end -/

/-- A direction at the end. -/
def agFin (I : Inp F) (c : Dev nD) (d : Fin 2) : sProp (MM F) :=
  iprop(posn c d 0 62 ∗ atPos ER (gs c (.cred d 0)) 1 ∅ 0 ∗ atPos ER (gs c (.cred d 1)) 1 ∅ 0 ∗ agO I c d 32
    ∗ some_ c (full (recvM d) 0) ∗ some_ c (full (recvM d) 1))

theorem agC_end (c : Dev nD) (d : Fin 2) : agC (F := F) c d 62 62 ⊢
    iprop(posn c d 0 62 ∗ (cst c d 0 60 ∗ tM c d 0 60 ∗ tM c d 0 61) ∗ (cst c d 1 60 ∗ tM c d 1 60 ∗ tM c d 1 61)) := by
  unfold agC
  iintro ⟨Hp, Hc0, Hc1, H0, H1⟩
  ihave H0 := (toks_m (F := F) c d 0 62 62 60 62 (by omega)) $$ H0
  icases H0 with ⟨Ha0, H0⟩
  ihave H0 := (toks_m (F := F) c d 0 62 62 61 62 (by omega)) $$ H0
  icases H0 with ⟨Hb0, -⟩
  ihave H1 := (toks_m (F := F) c d 1 62 62 60 62 (by omega)) $$ H1
  icases H1 with ⟨Ha1, H1⟩
  ihave H1 := (toks_m (F := F) c d 1 62 62 61 62 (by omega)) $$ H1
  icases H1 with ⟨Hb1, -⟩
  isplitl [Hp]; · iexact Hp
  isplitl [Hc0 Ha0 Hb0]
  · isplitl [Hc0]; · iexact Hc0
    isplitl [Ha0]; · iexact Ha0
    iexact Hb0
  isplitl [Hc1]; · iexact Hc1
  isplitl [Ha1]; · iexact Ha1
  iexact Hb1

/-- The last two messages of a direction. -/
theorem wp_credEnd2 (c : Dev nD) (d : Fin 2) (k : P F) (Q : PUnit → sProp (MM F)) :
    iprop(ctx I K N ∗ agC c d 62 62 ∗ ow c [] ∗ (posn c d 0 62 -∗ atPos ER (gs c (.cred d 0)) 1 ∅ 0 -∗ atPos ER (gs c (.cred d 1)) 1 ∅ 0 -∗ ow c [] -∗ WP c k Q))
      ⊢ WP c (creditWait (DD c d) 0 2#32 <| creditWait (DD c d) 1 2#32 k) Q := by
  iintro ⟨#Hctx, Hc, HO, Hk⟩
  ihave Hc := (agC_end (F := F) c d) $$ Hc
  unfold tM
  icases Hc with ⟨Hp, ⟨Hc0, Ha0, Hb0⟩, ⟨Hc1, Ha1, Hb1⟩⟩
  iapply (wp_creditEnd (I := I) (K := K) (N := N) c d 0 _ Q)
  isplitr; · iexact Hctx
  isplitl [Hc0]; · iexact Hc0
  isplitl [Ha0]; · iexact Ha0
  isplitl [Hb0]; · iexact Hb0
  isplitl [HO]; · iexact HO
  iintro HO Hc0
  iapply (wp_creditEnd (I := I) (K := K) (N := N) c d 1 _ Q)
  isplitr; · iexact Hctx
  isplitl [Hc1]; · iexact Hc1
  isplitl [Ha1]; · iexact Ha1
  isplitl [Hb1]; · iexact Hb1
  isplitl [HO]; · iexact HO
  iintro HO Hc1
  iapply Hk $$ Hp Hc0 Hc1 HO

set_option maxHeartbeats 2000000 in
theorem wp_agEnd (A : Arr) (hA : A.out = outA) (c : Dev nD) (k : P F) (Q : PUnit → sProp (MM F)) :
    iprop(ctx I K N ∗ nb c ∗ agSt I c 0 30 ∗ agSt I c 1 30 ∗ ow c (agRest c 0)
        ∗ (agFin I c 0 -∗ agFin I c 1 -∗ ow c [] -∗ WP c k Q))
      ⊢ WP c (agEnd A (DD c 0) (DD c 1) k) Q := by
  have hr0 : Above 0 (agRest c 0) := agRest_above c _ _ (by omega) (by omega)
  have hr1 : Above 0 (crAct c 1 61 ++ []) := above_append (crAct_above c 1 61 0 (by omega)) (fun _ h => absurd h List.not_mem_nil)
  unfold agEnd agSt kept
  rw [if_pos rfl, if_pos rfl]
  iintro ⟨#Hctx, #Hnb, ⟨Hc0, Hd0, Ho0, Hs0, Hk0⟩, ⟨Hc1, Hd1, Ho1, Hs1, Hk1⟩, HO, Hk⟩
  ihave Hs0 := (owns_cut (F := F) c (full (recvM 0) (par (30 + 1))) (agV I 0 (30 + 1) c)) $$ Hs0
  icases Hs0 with ⟨Hs0, Hs0'⟩
  ihave Hs1 := (owns_cut (F := F) c (full (recvM 1) (par (30 + 1))) (agV I 1 (30 + 1) c)) $$ Hs1
  icases Hs1 with ⟨Hs1, Hs1'⟩
  iapply (wp_copyOut (I := I) (K := K) (N := N) A hA c 0 31 (by omega) (recvM 0) 1 rfl _ _ rfl _ Q)
  isplitr; · iexact Hctx
  isplitl [Ho0]; · iexact Ho0
  isplitl [Hs0']; · iexact Hs0'
  iintro Ho0
  iapply (wp_copyOut (I := I) (K := K) (N := N) A hA c 1 31 (by omega) (recvM 1) 1 rfl _ _ rfl _ Q)
  isplitr; · iexact Hctx
  isplitl [Ho1]; · iexact Ho1
  isplitl [Hs1']; · iexact Hs1'
  iintro Ho1
  iapply (wp_copyWait (I := I) (K := K) (N := N) A hA c 0 31 (by omega) (recvM 0) 1 rfl _ _ rfl _ hr0 _ Q)
  isplitr; · iexact Hctx
  isplitl [Ho0]; · iexact Ho0
  isplitl [HO]; · iexact HO
  iintro Ho0 Hs0' HO
  iapply (wp_credit2 (I := I) (K := K) (N := N) c 0 61 60 62 (by omega) rfl _ _ Q)
  isplitr; · iexact Hctx
  isplitr; · iexact Hnb
  isplitl [Hd0]; · iexact Hd0
  isplitl [Hc0]; · iexact Hc0
  isplitl [HO]; · iexact HO
  iintro - Hc0 HO
  iapply (wp_copyWait (I := I) (K := K) (N := N) A hA c 1 31 (by omega) (recvM 1) 1 rfl _ _ rfl _ hr1 _ Q)
  isplitr; · iexact Hctx
  isplitl [Ho1]; · iexact Ho1
  isplitl [HO]; · iexact HO
  iintro Ho1 Hs1' HO
  iapply (wp_credit2 (I := I) (K := K) (N := N) c 1 61 60 62 (by omega) rfl [] _ Q)
  isplitr; · iexact Hctx
  isplitr; · iexact Hnb
  isplitl [Hd1]; · iexact Hd1
  isplitl [Hc1]; · iexact Hc1
  isplitl [HO]; · iexact HO
  iintro - Hc1 HO
  iapply (wp_credEnd2 (I := I) (K := K) (N := N) c 0 _ Q)
  isplitr; · iexact Hctx
  isplitl [Hc0]; · iexact Hc0
  isplitl [HO]; · iexact HO
  iintro Hp0 Ha0 Hb0 HO
  iapply (wp_credEnd2 (I := I) (K := K) (N := N) c 1 _ Q)
  isplitr; · iexact Hctx
  isplitl [Hc1]; · iexact Hc1
  isplitl [HO]; · iexact HO
  iintro Hp1 Ha1 Hb1 HO
  ihave Hs0 := (owns_uncut (F := F) c (full (recvM 0) 1) (agV I 0 31 c)) $$ [Hs0 Hs0']
  · isplitl [Hs0]; · iexact Hs0
    iexact Hs0'
  ihave Hs0 := (owns_some (F := F) c (full (recvM 0) 1) (agV I 0 31 c)) $$ Hs0
  ihave Hs1 := (owns_uncut (F := F) c (full (recvM 1) 1) (agV I 1 31 c)) $$ [Hs1 Hs1']
  · isplitl [Hs1]; · iexact Hs1
    iexact Hs1'
  ihave Hs1 := (owns_some (F := F) c (full (recvM 1) 1) (agV I 1 31 c)) $$ Hs1
  iapply Hk $$ [Hp0 Ha0 Hb0 Ho0 Hk0 Hs0] [Hp1 Ha1 Hb1 Ho1 Hk1 Hs1] HO
  · unfold agFin
    isplitl [Hp0]; · iexact Hp0
    isplitl [Ha0]; · iexact Ha0
    isplitl [Hb0]; · iexact Hb0
    isplitl [Ho0]; · iexact Ho0
    isplitl [Hk0]; · iexact Hk0
    iexact Hs0
  · unfold agFin
    isplitl [Hp1]; · iexact Hp1
    isplitl [Ha1]; · iexact Ha1
    isplitl [Hb1]; · iexact Hb1
    isplitl [Ho1]; · iexact Ho1
    isplitl [Hk1]; · iexact Hk1
    iexact Hs1

/-! ## The whole ring -/

omit [∀ e, Nonempty (Elt F e)] in
theorem wp_done (c : Dev nD) (Q : PUnit → sProp (MM F)) : Q ⟨⟩ ⊢ WP c (.ret ⟨⟩) Q := by
  refine .trans ?_ (show iprop(|={Set.univ}=> Q ⟨⟩) ⊢ WP c (.ret ⟨⟩) Q from Entails.of_eq (wp_ret ..).symm)
  iintro H
  imodintro
  iexact H

/-- The copying ring. -/
theorem wp_gather (A : Arr) (hA : A.out = outA) (c : Dev nD) (Q : PUnit → sProp (MM F)) :
    iprop(ctx I K N ∗ nb c ∗ agStart I c 0 ∗ agStart I c 1 ∗ ow c ((toD 0 c, .recv 0 1 0, 31, NF) :: (toD 1 c, .recv 1 1 0, 31, NF) :: agRest c 30)
        ∗ (agFin I c 0 -∗ agFin I c 1 -∗ some_ c (full (accM 0) 1) -∗ some_ c (full (accM 1) 1) -∗ ow c [] -∗ Q ⟨⟩))
      ⊢ WP c (phase3 A (DD c 0) (DD c 1) (scaleV (valV I 5 c))) Q := by
  unfold phase3
  iintro ⟨#Hctx, #Hnb, H0, H1, HO, Hk⟩
  iapply (wp_ag0 (I := I) (K := K) (N := N) A hA c _ Q)
  isplitr; · iexact Hctx
  isplitl [H0]; · iexact H0
  isplitl [H1]; · iexact H1
  isplitl [HO]; · iexact HO
  iintro H0 H1 Ha0 Ha1 HO
  iapply (show iprop(ctx I K N ∗ nb c ∗ agSt I c 0 0 ∗ agSt I c 1 0 ∗ ow c (agRest c (30 - 0)) ∗ (agFin I c 0 -∗ agFin I c 1 -∗ ow c [] -∗ Q ⟨⟩))
      ⊢ WP c ((List.finRange 30).foldr (agStep A (DD c 0) (DD c 1)) (agEnd A (DD c 0) (DD c 1) <| .ret ⟨⟩)) Q from by
    refine wp_fold c Q _ (fun i => iprop(ctx I K N ∗ nb c ∗ agSt I c 0 i ∗ agSt I c 1 i ∗ ow c (agRest c (30 - i)) ∗ (agFin I c 0 -∗ agFin I c 1 -∗ ow c [] -∗ Q ⟨⟩))) ?_ _ ?_
    · intro i k hk
      iintro ⟨#Hctx, #Hnb, H0, H1, HO, Hk⟩
      iapply (wp_agStep (I := I) (K := K) (N := N) A hA c i k Q)
      isplitr; · iexact Hctx
      isplitr; · iexact Hnb
      isplitl [H0]; · iexact H0
      isplitl [H1]; · iexact H1
      isplitl [HO]; · iexact HO
      iintro H0 H1 HO
      iapply hk
      isplitr; · iexact Hctx
      isplitr; · iexact Hnb
      isplitl [H0]; · iexact H0
      isplitl [H1]; · iexact H1
      isplitl [HO]; · iexact HO
      iexact Hk
    · iintro ⟨#Hctx, #Hnb, H0, H1, HO, Hk⟩
      iapply (wp_agEnd (I := I) (K := K) (N := N) A hA c _ Q)
      isplitr; · iexact Hctx
      isplitr; · iexact Hnb
      isplitl [H0]; · iexact H0
      isplitl [H1]; · iexact H1
      isplitl [HO]; · iexact HO
      iintro H0 H1 HO
      iapply (wp_done (F := F) c Q)
      iapply Hk $$ H0 H1 HO)
  isplitr; · iexact Hctx
  isplitr; · iexact Hnb
  isplitl [H0]; · iexact H0
  isplitl [H1]; · iexact H1
  isplitl [HO]; · iexact HO
  iintro H0 H1 HO
  iapply Hk $$ H0 H1 Ha0 Ha1 HO

end Cert.Proof

end
-- ==== Proof.Largest.lean ====
/-
  The largest element: five exchanges with a partner.
-/
module

public import proofs.«01_k».proof.Proof.Sum

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {I : Inp F} {K : Dev nD × Kind → ℕ} {N : Key → ℕ}

/-- The rectangle of the whole of the sending buffer. -/
abbrev sbR : Rect S8x128 := Rect.unit (s := S8x128) ![0, 0] S8x128.size inb_S8x128_S8x128_0_0

theorem sbR_emb (j : S8x128.Idx) : sbR.emb j = j := by
  funext a
  apply Fin.ext
  rw [Rect.emb_apply]
  fin_cases a
  · show 0 + 1 * (j 0).val = _; simp
  · show 0 + 1 * (j 1).val = _; simp

theorem owns_sbR (c : Dev nD) (q : PosShare TreeShare) (X : S8x128.Idx → Elt F .f32) :
    (owns (c : Thread nD τ) (sbM.slice sbR (fun _ => rfl)) q X : sProp (MM F)) = owns (c : Thread nD τ) sbM q X := by
  have hemb : (sbM.slice sbR (fun _ => rfl)).view.emb = sbM.view.emb := by
    ext y : 1
    exact congrArg sbM.view.emb (sbR_emb y)
  have hset : (sbM.slice sbR (fun _ => rfl)).view.set = sbM.view.set := by
    unfold View.set; rw [hemb]
  have hread : ∀ g, (sbM.slice sbR (fun _ => rfl)).view.read (Elt F) g = sbM.view.read (Elt F) g := fun g => by
    funext y
    exact congrArg (sbM.view.read (Elt F) g) (sbR_emb y)
  unfold owns
  rw [hset]
  simp only [hread]

/-- The arrays of the kernel. -/
structure ArrOk (A : Arr) : Prop where
  out : A.out = outA
  sbuf : A.sbuf = sbM
  rbuf : A.rbuf = rbM
  bs : A.bs = cc0_scratch14
  br : A.br = cc0_scratch15

/-- The table of the ring, as it is passed to the kernel. -/
def tab (A : Arr) (c : Dev nD) : sProp (MM F) :=
  iprop(owns (c : Thread nD τ) A.ringl fullShare (fun i => (BitVec.ofNat 32 (ringT (i 0)).val : Elt F .i32)))

/-- What a device has for an exchange. -/
def bT (c : Dev nD) (k : Fin 5) : sProp (MM F) :=
  iprop(at_ c (.bsend k) 0 ∗ at_ c (.brecv k) 0 ∗ dutyTok ER (gs c (.bsend k)) 0 0 ∗ dutyTok ER (gs (partner k c) (.brecv k)) 0 0
    ∗ Release.writeTok ES (bkey (partner k c) k) 1 ∗ cred (tallyAt (gs c (.brecv k)) 0 NB))
/-- What it has after it. -/
def bE (c : Dev nD) (k : Fin 5) : sProp (MM F) :=
  iprop(at_ c (.bsend k) 1 ∗ at_ c (.brecv k) 1 ∗ some_ c (rbufV rbM k))

theorem valV_succ (I : Inp F) (k : Fin 5) (c : Dev nD) : valV I (k.val + 1) c = bmaxF (valV I k.val c) (sbufV (valV I k.val (partner k c))) := by
  have e : (⟨k.val % 5, Nat.mod_lt _ (by decide)⟩ : Fin 5) = k := Fin.ext (Nat.mod_eq_of_lt k.isLt)
  show bmaxF (valV I k.val c) (sbufV (valV I k.val (partner ⟨k.val % 5, _⟩ c))) = _
  rw [e]

theorem cast_sb (v : FVec F S8x128 .f32) : shapeCast S8x128 v shapeCasts_S8x128_S8x128 = v := by
  funext j
  show v (Shape.reshapeEquiv _ j) = v j
  rw [Shape.reshapeEquiv_self]

theorem bb_idx (B : Bfly) (n : ℕ) (h : B.off = ![n]) (j : S1.Idx) : ((Rect.unit (s := S32) B.off S1.size B.off_inb).emb j 0).val = n := by
  rw [Rect.emb_apply]
  have hj : (j 0).val < 1 := (j 0).isLt
  have h0 : B.off 0 = n := by rw [h]; rfl
  show B.off 0 + 1 * (j 0).val = n
  omega

theorem fin5 (A : Fin 5 → sProp (MM F)) : bigSep Finset.univ A = iprop(A 0 ∗ A 1 ∗ A 2 ∗ A 3 ∗ A 4) := by
  rw [show (Finset.univ : Finset (Fin 5)) = {0, 1, 2, 3, 4} from by decide, bigSep_insert (by decide), bigSep_insert (by decide),
    bigSep_insert (by decide), bigSep_insert (by decide), bigSep_singleton]
  rfl

theorem pay_brecv (I : Inp F) (c : Dev nD) (k : Fin 5) :
    pay I (partner k c) (.brecv k) 0 0 = owns (partner k c : Thread nD τ) (rbufV rbM k) fullShare (sbufV (valV I k.val c)) := by
  have h : pay I (partner k c) (.brecv k) 0 0 = owns (partner k c : Thread nD τ) (rbufV rbM k) fullShare (sbufV (valV I k.val (partner k (partner k c)))) := rfl
  rw [h, partner_partner]

set_option maxHeartbeats 1000000 in
/-- An exchange. -/
theorem wp_bfly (A : Arr) (hA : ArrOk A) (c : Dev nD) (k : Fin 5) (v : F .f32) (hv : v = valV I k.val c) (l : List Act) (hl : Above (311 + k.val) l) (Kk : F .f32 → P F) (Q : PUnit → sProp (MM F)) :
    iprop(ctx I K N ∗ startF (partner k c) ∗ tab A c ∗ some_ c sbM ∗ bT c k ∗ ow c ((partner k c, .brecv k, 0, NB) :: l)
        ∗ (tab A c -∗ some_ c sbM -∗ bE c k -∗ ow c l -∗ WP c (Kk (valV I (k.val + 1) c)) Q))
      ⊢ WP c (bflyP A (BB c k) k v Kk) Q := by
  subst hv
  obtain ⟨_, _, ringl, _, sb, hsb, rb, bs, br⟩ := A
  obtain ⟨_, h1, h2, h3, h4⟩ := hA
  obtain rfl : sb = sbM := h1
  obtain rfl : rb = rbM := h2
  obtain rfl : bs = cc0_scratch14 := h3
  obtain rfl : br = cc0_scratch15 := h4
  have hw : ∀ i : S32.Idx, (i 0).val = ((rposT c).val ^^^ 2 ^ k.val) % 32 → (BitVec.ofNat 32 (ringT (i 0)).val : BitVec 32) = wB k c := by
    intro i hi
    show _ = BitVec.ofNat 32 (partner k c).val
    congr 2
    exact congrArg ringT (Fin.ext hi)
  unfold bflyP tab bT at_
  iintro ⟨#Hctx, #Hst, Htab, Hsb, ⟨⟨Hbs, #Hbs'⟩, ⟨Hbr, #Hbr'⟩, Hd, Hd', Hwt, Hcr⟩, HO, Hk⟩
  ihave Hst' := (startF_bfly (F := F) (partner k c) k) $$ Hst
  icases Hst' with ⟨Hrel, #Hrch⟩
  iapply (wp_smem (F := F) c ringl _ numel1_S1 fullShare _ _ Q)
  isplitl [Htab]; · iexact Htab
  iintro Htab
  rw [hw _ (bb_idx (BB c k) _ (bb_off c k) _)]
  iapply (wp_assume (defs := defs₀ (F := F)) 𝒱₀ (c : Thread nD τ) none Set.univ (bb_chk c k))
  unfold some_
  icases Hsb with ⟨%X, Hsb⟩
  iapply (wp_load_any (F := F) c sbM sbR fullShare X _ Q)
  isplitl [Hsb]; · iexact Hsb
  iintro Hsb
  ihave Hsb := (Entails.of_eq (owns_sbR (F := F) c fullShare X).symm) $$ Hsb
  iapply (wp_store_owns (F := F) c sbM sbR (fun _ => rfl) X (shapeCast S8x128 (sbufV (valV I k.val c)) shapeCasts_S8x128_S8x128) _ Q)
  isplitl [Hsb]; · iexact Hsb
  iintro Hsb
  ihave Hsb := (Entails.of_eq ((owns_sbR (F := F) c fullShare _).trans (congrArg (owns (c : Thread nD τ) sbM fullShare) (cast_sb (sbufV (valV I k.val c)))))) $$ Hsb
  ihave Hsl := (take_slot (I := I) (K := K) (N := N) (bkey (partner k c) k) 1) $$ [Hrel Hwt]
  · isplitr; · iexact Hctx
    isplitl [Hrel]; · iexact Hrel
    iexact Hwt
  imod Hsl
  ihave Hsl := (Entails.of_eq (Sl_bkey (F := F) (partner k c) k)) $$ Hsl
  iapply (wp_send_owns (I := I) (K := K) (N := N) c ((BB c k).dev (wB k c) (bb_chk c k)) (.bsend k) (.brecv k) 0 0 fullShare (sbufV (valV I k.val c)) iprop(emp) NB 0 l
      rfl rfl rfl rfl (rbuf_credit k) (BI.Entails.refl _)
      (by
        rw [bb_dev, pay_brecv]
        iintro ⟨H, -⟩; iexact H) _ Q)
  isplitr; · iexact Hctx
  isplitl [Hsb]; · iexact Hsb
  isplitl [Hsl]; · rw [bb_dev]; iexact Hsl
  isplitr; · iempintro
  isplitl [HO]; · rw [bb_dev]; iexact HO
  isplitl [Hd]; · iexact Hd
  isplitr; · iexact Hbs'
  isplitl [Hd']; · rw [bb_dev]; iexact Hd'
  isplitr; · rw [bb_dev]; iexact Hrch
  iintro Hc HO
  iapply (wp_waitDma_one (I := I) (K := K) (N := N) c (.bsend k) _ rfl 0 0 NB (311 + k.val) l
      sbuf_credit rfl rfl (by omega) (Nat.zero_le _) hl _ Q)
  isplitr; · iexact Hctx
  isplitl [Hc]; · iexact Hc
  isplitl [HO]; · iexact HO
  isplitl [Hbs]; · iexact Hbs
  iintro HO Hbs Hbs1 Hpay
  iapply (wp_waitDma_one (I := I) (K := K) (N := N) c (.brecv k) _ rfl 0 0 NB (311 + k.val) l
      (rbuf_credit k) rfl rfl (by omega) le_rfl hl _ Q)
  isplitr; · iexact Hctx
  isplitl [Hcr]; · iexact Hcr
  isplitl [HO]; · iexact HO
  isplitl [Hbr]; · iexact Hbr
  iintro HO Hbr Hbr1 Hrb
  ihave Hrb := (show pay I c (.brecv k) 0 0 ⊢ (owns (c : Thread nD τ) (rbufV rbM k) fullShare (sbufV (valV I k.val (partner k c))) : sProp (MM F)) from BI.Entails.refl _) $$ Hrb
  iapply (wp_load_sq (F := F) c rbM (rbufR k) (fun _ => rfl) squeezes_S1x8x128_S8x128 fullShare (sbufV (valV I k.val (partner k c))) _ Q)
  isplitl [Hrb]; · iexact Hrb
  iintro Hrb
  ihave Hpay := (show pay I c (.bsend k) 0 0 ⊢ (owns (c : Thread nD τ) sbM fullShare (sbufV (valV I k.val c)) : sProp (MM F)) from BI.Entails.refl _) $$ Hpay
  rw [valV_succ]
  iapply Hk $$ [Htab] [Hpay] [Hbs Hbs1 Hbr Hbr1 Hrb] HO
  · iexact Htab
  · iexists _; iexact Hpay
  · unfold bE at_
    isplitl [Hbs Hbs1]
    · isplitl [Hbs]; · iexact Hbs
      iexact Hbs1
    isplitl [Hbr Hbr1]
    · isplitl [Hbr]; · iexact Hbr
      iexact Hbr1
    iapply (owns_some (F := F) c (rbufV rbM k) _); iexact Hrb

/-! ## All five -/

/-- What the exchanges pay. -/
def bAct (c : Dev nD) (k : Fin 5) : Act := (partner k c, .brecv k, 0, NB)

theorem bAct_above (c : Dev nD) (k : Fin 5) (n : ℕ) (h : n < 311 + k.val) (l : List Act) (hl : Above n l) : Above n (bAct c k :: l) :=
  above_cons (a := bAct c k) ⟨(by show 0 < 62; omega), h⟩ hl

theorem knows_partner (c : Dev nD) (k : Fin 5) : knows (F := F) 0 32 c ⊢ startF (partner k c) := by
  obtain ⟨i, h⟩ := partner_iter k c
  rw [← h]
  exact knows_get 0 32 i.val i.isLt c

set_option maxHeartbeats 1000000 in
/-- The largest element over all devices. -/
theorem wp_largest (A : Arr) (hA : ArrOk A) (c : Dev nD) (l : List Act) (hl : Above 315 l) (Kk : F .f32 → P F) (Q : PUnit → sProp (MM F)) :
    iprop(ctx I K N ∗ knows 0 32 c ∗ tab A c ∗ some_ c sbM ∗ (bigSep Finset.univ fun k : Fin 5 => bT c k)
        ∗ owns (c : Thread nD τ) (full (accM 0) 1) fullShare (rsV I 0 31 c) ∗ owns (c : Thread nD τ) (full (accM 1) 1) fullShare (rsV I 1 31 c)
        ∗ ow c (bAct c 0 :: bAct c 1 :: bAct c 2 :: bAct c 3 :: bAct c 4 :: l)
        ∗ (tab A c -∗ some_ c sbM -∗ (bigSep Finset.univ fun k : Fin 5 => bE c k)
            -∗ owns (c : Thread nD τ) (full (accM 0) 1) fullShare (rsV I 0 31 c) -∗ owns (c : Thread nD τ) (full (accM 1) 1) fullShare (rsV I 1 31 c)
            -∗ ow c l -∗ WP c (Kk (valV I 5 c)) Q))
      ⊢ WP c (phase2 A (DD c 0) (DD c 1) (BB c) Kk) Q := by
  have h4 := bAct_above c 4 314 (by decide) l (above_mono (by omega) hl)
  have h3 := bAct_above c 3 313 (by decide) _ (above_mono (by omega) h4)
  have h2 := bAct_above c 2 312 (by decide) _ (above_mono (by omega) h3)
  have h1 := bAct_above c 1 311 (by decide) _ (above_mono (by omega) h2)
  unfold phase2
  rw [fin5 (fun k => bT (F := F) c k), fin5 (fun k => bE (F := F) c k)]
  dsimp only [DD]
  iintro ⟨#Hctx, #Hkn, Ht, Hsb, ⟨H0, H1, H2, H3, H4⟩, Ha, Hb, HO, Hk⟩
  iapply (wp_load_sq (F := F) c (accM 0) (fullR 1) (fun _ => rfl) squeezes_S1x128x4096_S128x4096 fullShare (rsV I 0 31 c) _ Q)
  isplitl [Ha]; · iexact Ha
  iintro Ha
  iapply (wp_load_sq (F := F) c (accM 1) (fullR 1) (fun _ => rfl) squeezes_S1x128x4096_S128x4096 fullShare (rsV I 1 31 c) _ Q)
  isplitl [Hb]; · iexact Hb
  iintro Hb
  iapply (wp_bfly (I := I) (K := K) (N := N) A hA c 0 _ rfl _ h1 _ Q)
  isplitr; · iexact Hctx
  isplitr; · iapply (knows_partner (F := F) c 0); iexact Hkn
  isplitl [Ht]; · iexact Ht
  isplitl [Hsb]; · iexact Hsb
  isplitl [H0]; · iexact H0
  isplitl [HO]; · iexact HO
  iintro Ht Hsb H0 HO
  iapply (wp_bfly (I := I) (K := K) (N := N) A hA c 1 _ rfl _ h2 _ Q)
  isplitr; · iexact Hctx
  isplitr; · iapply (knows_partner (F := F) c 1); iexact Hkn
  isplitl [Ht]; · iexact Ht
  isplitl [Hsb]; · iexact Hsb
  isplitl [H1]; · iexact H1
  isplitl [HO]; · iexact HO
  iintro Ht Hsb H1 HO
  iapply (wp_bfly (I := I) (K := K) (N := N) A hA c 2 _ rfl _ h3 _ Q)
  isplitr; · iexact Hctx
  isplitr; · iapply (knows_partner (F := F) c 2); iexact Hkn
  isplitl [Ht]; · iexact Ht
  isplitl [Hsb]; · iexact Hsb
  isplitl [H2]; · iexact H2
  isplitl [HO]; · iexact HO
  iintro Ht Hsb H2 HO
  iapply (wp_bfly (I := I) (K := K) (N := N) A hA c 3 _ rfl _ h4 _ Q)
  isplitr; · iexact Hctx
  isplitr; · iapply (knows_partner (F := F) c 3); iexact Hkn
  isplitl [Ht]; · iexact Ht
  isplitl [Hsb]; · iexact Hsb
  isplitl [H3]; · iexact H3
  isplitl [HO]; · iexact HO
  iintro Ht Hsb H3 HO
  iapply (wp_bfly (I := I) (K := K) (N := N) A hA c 4 _ rfl l hl _ Q)
  isplitr; · iexact Hctx
  isplitr; · iapply (knows_partner (F := F) c 4); iexact Hkn
  isplitl [Ht]; · iexact Ht
  isplitl [Hsb]; · iexact Hsb
  isplitl [H4]; · iexact H4
  isplitl [HO]; · iexact HO
  iintro Ht Hsb H4 HO
  iapply Hk $$ Ht Hsb [H0 H1 H2 H3 H4] Ha Hb HO
  isplitl [H0]; · iexact H0
  isplitl [H1]; · iexact H1
  isplitl [H2]; · iexact H2
  isplitl [H3]; · iexact H3
  iexact H4

end Cert.Proof

end
-- ==== Proof.Whole.lean ====
/-
  The kernel function, from its first load to its last message.
-/
module

public import proofs.«01_k».proof.Proof.Gather
public import proofs.«01_k».proof.Proof.Largest

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]
variable {I : Inp F} {K : Dev nD × Kind → ℕ} {N : Key → ℕ}

/-! ## The first half -/

/-- What the second half pays. -/
def lateActs (c : Dev nD) : List Act :=
  bAct c 0 :: bAct c 1 :: bAct c 2 :: bAct c 3 :: bAct c 4 :: (toD 0 c, .recv 0 1 0, 31, NF) :: (toD 1 c, .recv 1 1 0, 31, NF) :: agRest c 30

theorem agFirst_above (c : Dev nD) : Above 315 ((toD 0 c, .recv 0 1 0, 31, NF) :: (toD 1 c, .recv 1 1 0, 31, NF) :: agRest c 30) :=
  above_cons (a := (toD 0 c, .recv 0 1 0, 31, NF)) (show 31 < 62 ∧ 315 < 10 * 31 + 10 by omega)
    (above_cons (a := (toD 1 c, .recv 1 1 0, 31, NF)) (show 31 < 62 ∧ 315 < 10 * 31 + 10 by omega) (agRest_above c _ _ (by omega) (by omega)))

theorem late_above (c : Dev nD) : Above 310 (lateActs c) :=
  bAct_above c 0 310 (by decide) _ (bAct_above c 1 310 (by decide) _ (bAct_above c 2 310 (by decide) _ (bAct_above c 3 310 (by decide) _
    (bAct_above c 4 310 (by decide) _ (above_mono (by omega) (agFirst_above c))))))

/-- What the first transfers pay. -/
def earlyActs (c : Dev nD) : List Act :=
  (toD 0 c, .recv 0 0 0, 0, NH) :: (toD 0 c, .recv 0 0 1, 0, NH) :: (toD 1 c, .recv 1 0 0, 0, NH) :: (toD 1 c, .recv 1 0 1, 0, NH) :: rsOw c 31 (lateActs c)

theorem early_above (c : Dev nD) : Above 1 (earlyActs c) :=
  above_cons (a := (toD 0 c, .recv 0 0 0, 0, NH)) (show 0 < 62 ∧ 1 < 10 * 0 + 10 by omega)
    (above_cons (a := (toD 0 c, .recv 0 0 1, 0, NH)) (show 0 < 62 ∧ 1 < 10 * 0 + 10 by omega)
    (above_cons (a := (toD 1 c, .recv 1 0 0, 0, NH)) (show 0 < 62 ∧ 1 < 10 * 0 + 10 by omega)
    (above_cons (a := (toD 1 c, .recv 1 0 1, 0, NH)) (show 0 < 62 ∧ 1 < 10 * 0 + 10 by omega)
    (rsOw_above c 1 _ (above_mono (by omega) (late_above c)) 31 le_rfl (by omega)))))

/-- All that a device pays. -/
def allActs (c : Dev nD) : List Act := (toD 0 c, .bar, 0, 1) :: (toD 1 c, .bar, 0, 1) :: earlyActs c

/-- What a device has for the barrier. -/
def barT (c : Dev nD) : sProp (MM F) :=
  iprop(reached ER (gs (toD 0 c) .bar) 0 ∗ reached ER (gs (toD 1 c) .bar) 0
    ∗ dutyTok ER (gs (toD 0 c) .bar) 0 0 ∗ dutyTok ER (gs (toD 1 c) .bar) 0 1 ∗ cred (tallyAt (gs c .bar) 0 2) ∗ atPos ER (gs c .bar) 0 ∅ 0)

/-- What a direction starts with. -/
def dirT (c : Dev nD) (d : Fin 2) : sProp (MM F) :=
  iprop(laneStart c d 0 ∗ laneStart c d 1 ∗ some_ c (full (accM d) 0) ∗ some_ c (full (accM d) 1))

/-- What it has after the summing ring. -/
def dirM (I : Inp F) (c : Dev nD) (d : Fin 2) : sProp (MM F) :=
  iprop((agC c d 31 31 ∗ agD c d 31) ∗ owns (c : Thread nD τ) (full (accM d) 1) fullShare (rsV I d 31 c) ∗ posn c d 1 31 ∗ some_ c (full (accM d) 0))

theorem lane_join (c : Dev nD) (d : Fin 2) : iprop(laneEnd I c d 0 ∗ laneEnd I c d 1) ⊢ dirM I c d := by
  unfold laneEnd dirM agC agD
  iintro ⟨⟨Hb0, Ho0, Hs0, Hc0, Hf0, Ht0⟩, ⟨Hb1, Ho1, Hs1, Hc1, Hf1, Ht1⟩⟩
  ihave Hb0 := (base_split (F := F) c d 0 31) $$ Hb0
  icases Hb0 with ⟨Hp0, Hr0⟩
  ihave Hb1 := (base_split (F := F) c d 1 31) $$ Hb1
  icases Hb1 with ⟨Hp1, Hr1⟩
  isplitl [Hp0 Hr0 Hr1 Hc0 Hc1 Hf0 Hf1 Ht0 Ht1]
  · isplitl [Hp0 Hc0 Hc1 Ht0 Ht1]
    · isplitl [Hp0]; · iexact Hp0
      isplitl [Hc0]; · iexact Hc0
      isplitl [Hc1]; · iexact Hc1
      isplitl [Ht0]; · iexact Ht0
      iexact Ht1
    isplitl [Hr0]; · iexact Hr0
    isplitl [Hr1]; · iexact Hr1
    isplitl [Hf0]; · iexact Hf0
    iexact Hf1
  isplitl [Ho0 Ho1]
  · iapply (halves_full (F := F) c (accM d) 1 fullShare (rsV I d 31 c))
    isplitl [Ho0]; · iexact Ho0
    iexact Ho1
  isplitl [Hp1]; · iexact Hp1
  iapply (some_full (F := F) c (accM d) 0)
  isplitl [Hs0]; · iexact Hs0
  iexact Hs1

omit [∀ e, Nonempty (Elt F e)] in
theorem dirT_open (c : Dev nD) (d : Fin 2) : dirT (F := F) c d ⊢
    iprop(laneStart c d 0 ∗ laneStart c d 1 ∗ some_ c (full (accM d) 0) ∗ some_ c (half (accM d) 1 0) ∗ some_ c (half (accM d) 1 1)) := by
  unfold dirT
  iintro ⟨H1, H2, H3, H4⟩
  ihave H4 := (some_halves (F := F) c (accM d) 1) $$ H4
  icases H4 with ⟨H4, H5⟩
  isplitl [H1]; · iexact H1
  isplitl [H2]; · iexact H2
  isplitl [H3]; · iexact H3
  isplitl [H4]; · iexact H4
  iexact H5

set_option maxHeartbeats 2000000 in
/-- The first half of the kernel. -/
theorem wp_first (A : Arr) (c : Dev nD) (k : P F) (Q : PUnit → sProp (MM F)) :
    iprop(ctx I K N ∗ startF c ∗ xw A I c ∗ barT c ∗ dirT c 0 ∗ dirT c 1 ∗ ow c (allActs c)
        ∗ (xw A I c -∗ nb c -∗ atPos ER (gs c .bar) 1 ∅ 0 -∗ dirM I c 0 -∗ dirM I c 1 -∗ knows 0 32 c -∗ ow c (lateActs c) -∗ WP c k Q))
      ⊢ WP c (phase1 A (DD c 0) (DD c 1) k) Q := by
  have hr : rsSt I c (lateActs c) 31 = iprop(laneEnd I c 0 0 ∗ laneEnd I c 0 1 ∗ laneEnd I c 1 0 ∗ laneEnd I c 1 1 ∗ knows 0 32 c ∗ ow c (lateActs c)) := by
    unfold rsSt; rw [if_neg (by omega)]
  have hr0 : rsSt I c (lateActs c) 0 = iprop(lane c 0 0 0 ∗ lane c 0 1 0 ∗ lane c 1 0 0 ∗ lane c 1 1 0 ∗ ow c (rsOw c 31 (lateActs c))) := by
    unfold rsSt; rw [if_pos (by omega)]
  unfold phase1
  iintro ⟨#Hctx, #Hst, Hxw, Hbar, H0, H1, HO, Hk⟩
  ihave H0 := (dirT_open (F := F) c 0) $$ H0
  icases H0 with ⟨H00, H01, Ha0, Hb00, Hb01⟩
  ihave H1 := (dirT_open (F := F) c 1) $$ H1
  icases H1 with ⟨H10, H11, Ha1, Hb10, Hb11⟩
  iapply (wp_mm (I := I) A c 0 (x0D 0 c) (x0D_inb 0 c) ![0, 0] inb_S128x8192_S128x4096_0_0 rfl _ Q)
  isplitl [Hxw]; · iexact Hxw
  iintro Hxw
  iapply (wp_putFull (F := F) c (accM 0) 0 _ _ Q)
  isplitl [Ha0]; · iexact Ha0
  iintro Ha0
  iapply (wp_mm (I := I) A c 1 (x0D 1 c) (x0D_inb 1 c) ![0, 4096] inb_S128x8192_S128x4096_0_4096 rfl _ Q)
  isplitl [Hxw]; · iexact Hxw
  iintro Hxw
  iapply (wp_putFull (F := F) c (accM 1) 0 _ _ Q)
  isplitl [Ha1]; · iexact Ha1
  iintro Ha1
  ihave Ha0 := (show owns (c : Thread nD τ) (full (accM 0) 0) fullShare (mmW I c 0 (x0D 0 c) (x0D_inb 0 c)) ⊢ (owns (c : Thread nD τ) (full (accM 0) 0) fullShare (rsV I 0 0 c) : sProp (MM F)) from BI.Entails.refl _) $$ Ha0
  ihave Ha1 := (show owns (c : Thread nD τ) (full (accM 1) 0) fullShare (mmW I c 1 (x0D 1 c) (x0D_inb 1 c)) ⊢ (owns (c : Thread nD τ) (full (accM 1) 0) fullShare (rsV I 1 0 c) : sProp (MM F)) from BI.Entails.refl _) $$ Ha1
  ihave Ha0 := (full_halves (F := F) c (accM 0) 0 fullShare (rsV I 0 0 c)) $$ Ha0
  icases Ha0 with ⟨Ha00, Ha01⟩
  ihave Ha1 := (full_halves (F := F) c (accM 1) 0 fullShare (rsV I 1 0 c)) $$ Ha1
  icases Ha1 with ⟨Ha10, Ha11⟩
  unfold barT
  icases Hbar with ⟨Hr0, Hr1, Ht0, Ht1, Hcr, Hat⟩
  iapply (wp_barrier (I := I) (K := K) (N := N) c (earlyActs c) (early_above c) _ Q)
  isplitr; · iexact Hctx
  isplitr; · iexact Hst
  isplitl [Hr0]; · iexact Hr0
  isplitl [Hr1]; · iexact Hr1
  isplitl [Ht0]; · iexact Ht0
  isplitl [Ht1]; · iexact Ht1
  isplitl [Hcr]; · iexact Hcr
  isplitl [Hat]; · iexact Hat
  isplitl [HO]; · iexact HO
  iintro #Hnb Hat HO
  iapply (wp_send0 (I := I) (K := K) (N := N) c 0 0 _ _ Q)
  isplitr; · iexact Hctx
  isplitr; · iexact Hnb
  isplitl [H00]; · iexact H00
  isplitl [Ha00]; · iexact Ha00
  isplitl [Hb00]; · iexact Hb00
  isplitl [HO]; · iexact HO
  iintro H00 HO
  iapply (wp_send0 (I := I) (K := K) (N := N) c 0 1 _ _ Q)
  isplitr; · iexact Hctx
  isplitr; · iexact Hnb
  isplitl [H01]; · iexact H01
  isplitl [Ha01]; · iexact Ha01
  isplitl [Hb01]; · iexact Hb01
  isplitl [HO]; · iexact HO
  iintro H01 HO
  iapply (wp_send0 (I := I) (K := K) (N := N) c 1 0 _ _ Q)
  isplitr; · iexact Hctx
  isplitr; · iexact Hnb
  isplitl [H10]; · iexact H10
  isplitl [Ha10]; · iexact Ha10
  isplitl [Hb10]; · iexact Hb10
  isplitl [HO]; · iexact HO
  iintro H10 HO
  iapply (wp_send0 (I := I) (K := K) (N := N) c 1 1 _ _ Q)
  isplitr; · iexact Hctx
  isplitr; · iexact Hnb
  isplitl [H11]; · iexact H11
  isplitl [Ha11]; · iexact Ha11
  isplitl [Hb11]; · iexact Hb11
  isplitl [HO]; · iexact HO
  iintro H11 HO
  iapply (wp_rs (I := I) (K := K) (N := N) A c (lateActs c) (late_above c) k Q)
  isplitr; · iexact Hctx
  isplitr; · iexact Hnb
  isplitl [Hxw]; · iexact Hxw
  isplitl [H00 H01 H10 H11 HO]
  · rw [hr0]
    isplitl [H00]; · iexact H00
    isplitl [H01]; · iexact H01
    isplitl [H10]; · iexact H10
    isplitl [H11]; · iexact H11
    iexact HO
  iintro Hxw Hst'
  ihave Hst' := (Entails.of_eq hr) $$ Hst'
  icases Hst' with ⟨H00, H01, H10, H11, Hkn, HO⟩
  ihave H0 := (lane_join (I := I) c 0) $$ [H00 H01]
  · isplitl [H00]; · iexact H00
    iexact H01
  ihave H1 := (lane_join (I := I) c 1) $$ [H10 H11]
  · isplitl [H10]; · iexact H10
    iexact H11
  iapply Hk $$ Hxw Hnb Hat H0 H1 Hkn HO

/-! ## The whole -/

/-- The device's place in the ring and its neighbours, as they are passed to the kernel. -/
def idx (c : Dev nD) (m2 m3 m4 : Memref sig .tc .smem S1 .i32) : sProp (MM F) :=
  iprop(owns (c : Thread nD τ) m2 fullShare (fun _ => (wR c : Elt F .i32)) ∗ owns (c : Thread nD τ) m3 fullShare (fun _ => (wN c : Elt F .i32))
    ∗ owns (c : Thread nD τ) m4 fullShare (fun _ => (wP c : Elt F .i32)))

/-- All that a device starts with, apart from its arguments. -/
def devT (I : Inp F) (c : Dev nD) : sProp (MM F) :=
  iprop(startF c ∗ barT c ∗ dirT c 0 ∗ dirT c 1 ∗ some_ c sbM ∗ (bigSep Finset.univ fun k : Fin 5 => bT c k) ∗ agO I c 0 0 ∗ agO I c 1 0)

/-- A direction's, at the end. -/
def dirE (I : Inp F) (c : Dev nD) (d : Fin 2) : sProp (MM F) :=
  iprop(agFin I c d ∗ posn c d 1 31 ∗ some_ c (full (accM d) 0) ∗ some_ c (full (accM d) 1))
/-- All that it ends with. -/
def devE (I : Inp F) (c : Dev nD) : sProp (MM F) :=
  iprop(atPos ER (gs c .bar) 1 ∅ 0 ∗ dirE I c 0 ∗ dirE I c 1 ∗ some_ c sbM ∗ (bigSep Finset.univ fun k : Fin 5 => bE c k))

set_option maxHeartbeats 2000000 in
/-- The kernel function. -/
theorem wp_loop (c : Dev nD) (a0 : Memref sig .tc .vmem S4096x128 .f32) (a1 : Memref sig .tc .vmem S128x8192 .f32) (m2 m3 m4 : Memref sig .tc .smem S1 .i32)
    (a5 : Memref sig .tc .smem S32 .i32) (hsb : sbM.IsWhole) (Q : PUnit → sProp (MM F)) :
    iprop(ctx I K N ∗ xw ⟨a0, a1, a5, outA, sbM, hsb, rbM, cc0_scratch14, cc0_scratch15⟩ I c ∗ idx c m2 m3 m4
        ∗ tab ⟨a0, a1, a5, outA, sbM, hsb, rbM, cc0_scratch14, cc0_scratch15⟩ c ∗ devT I c ∗ ow c (allActs c)
        ∗ (xw ⟨a0, a1, a5, outA, sbM, hsb, rbM, cc0_scratch14, cc0_scratch15⟩ I c -∗ idx c m2 m3 m4
            -∗ tab ⟨a0, a1, a5, outA, sbM, hsb, rbM, cc0_scratch14, cc0_scratch15⟩ c -∗ devE I c -∗ ow c [] -∗ Q ⟨⟩))
      ⊢ WP c (loopForm a0 a1 m2 m3 m4 a5 outA (accM 0) (recvM 0) (accM 1) (recvM 1) (ssM 0) (rsM 0) (osM 0) (crM 0) (ssM 1) (rsM 1) (osM 1) (crM 1)
          sbM hsb rbM cc0_scratch14 cc0_scratch15) Q := by
  have hA : ArrOk (⟨a0, a1, a5, outA, sbM, hsb, rbM, cc0_scratch14, cc0_scratch15⟩ : Arr) := ⟨rfl, rfl, rfl, rfl, rfl⟩
  generalize hAe : (⟨a0, a1, a5, outA, sbM, hsb, rbM, cc0_scratch14, cc0_scratch15⟩ : Arr) = A at hA ⊢
  unfold loopForm idx devT
  rw [hAe]
  iintro ⟨#Hctx, Hxw, ⟨H2, H3, H4⟩, Htab, ⟨#Hst, Hbar, H0, H1, Hsb, HbT, Ho0, Ho1⟩, HO, Hk⟩
  iapply (wp_smem (F := F) c m2 _ numel1_S1 fullShare _ _ Q)
  isplitl [H2]; · iexact H2
  iintro H2
  iapply (wp_assume (defs := defs₀ (F := F)) 𝒱₀ (c : Thread nD τ) none Set.univ (chk1 c))
  iapply (wp_smem (F := F) c m3 _ numel1_S1 fullShare _ _ Q)
  isplitl [H3]; · iexact H3
  iintro H3
  iapply (wp_assume (defs := defs₀ (F := F)) 𝒱₀ (c : Thread nD τ) none Set.univ (chk2 c))
  iapply (wp_smem (F := F) c m4 _ numel1_S1 fullShare _ _ Q)
  isplitl [H4]; · iexact H4
  iintro H4
  iapply (wp_assume (defs := defs₀ (F := F)) 𝒱₀ (c : Thread nD τ) none Set.univ (chk3 c))
  iapply (show WP c (phase1 A (DD c 0) (DD c 1) <| phase2 A (DD c 0) (DD c 1) (BB c) fun m => phase3 A (DD c 0) (DD c 1) (scaleV m)) Q ⊢ _ from by
    rw [← dirF_eq, ← dirB_eq])
  iapply (wp_first (I := I) (K := K) (N := N) A c _ Q)
  isplitr; · iexact Hctx
  isplitr; · iexact Hst
  isplitl [Hxw]; · iexact Hxw
  isplitl [Hbar]; · iexact Hbar
  isplitl [H0]; · iexact H0
  isplitl [H1]; · iexact H1
  isplitl [HO]; · iexact HO
  iintro Hxw #Hnb Hat H0 H1 #Hkn HO
  unfold dirM
  icases H0 with ⟨⟨Hc0, Hd0⟩, Ha0, Hp0, Hs0⟩
  icases H1 with ⟨⟨Hc1, Hd1⟩, Ha1, Hp1, Hs1⟩
  iapply (wp_largest (I := I) (K := K) (N := N) A hA c _ (agFirst_above c) _ Q)
  isplitr; · iexact Hctx
  isplitr; · iexact Hkn
  isplitl [Htab]; · iexact Htab
  isplitl [Hsb]; · iexact Hsb
  isplitl [HbT]; · iexact HbT
  isplitl [Ha0]; · iexact Ha0
  isplitl [Ha1]; · iexact Ha1
  isplitl [HO]; · iexact HO
  iintro Htab Hsb HbE Ha0 Ha1 HO
  iapply (wp_gather (I := I) (K := K) (N := N) A hA.out c Q)
  isplitr; · iexact Hctx
  isplitr; · iexact Hnb
  isplitl [Hc0 Hd0 Ho0 Ha0]
  · unfold agStart
    isplitl [Hc0]; · iexact Hc0
    isplitl [Hd0]; · iexact Hd0
    isplitl [Ho0]; · iexact Ho0
    iexact Ha0
  isplitl [Hc1 Hd1 Ho1 Ha1]
  · unfold agStart
    isplitl [Hc1]; · iexact Hc1
    isplitl [Hd1]; · iexact Hd1
    isplitl [Ho1]; · iexact Ho1
    iexact Ha1
  isplitl [HO]; · iexact HO
  iintro Hf0 Hf1 Ha0 Ha1 HO
  iapply Hk $$ Hxw [H2 H3 H4] Htab [Hat Hf0 Hf1 Hp0 Hp1 Hs0 Hs1 Ha0 Ha1 Hsb HbE] HO
  · isplitl [H2]; · iexact H2
    isplitl [H3]; · iexact H3
    iexact H4
  unfold devE dirE
  isplitl [Hat]; · iexact Hat
  isplitl [Hf0 Hp0 Hs0 Ha0]
  · isplitl [Hf0]; · iexact Hf0
    isplitl [Hp0]; · iexact Hp0
    isplitl [Hs0]; · iexact Hs0
    iexact Ha0
  isplitl [Hf1 Hp1 Hs1 Ha1]
  · isplitl [Hf1]; · iexact Hf1
    isplitl [Hp1]; · iexact Hp1
    isplitl [Hs1]; · iexact Hs1
    iexact Ha1
  isplitl [Hsb]; · iexact Hsb
  iexact HbE

end Cert.Proof

end
-- ==== Proof.Deal.lean ====
/-
  What the launch deals out: the tokens of every payment to the device that makes it, the rights over the landing slots, and
  the credits for what each device will be sent.
-/
module

public import proofs.«01_k».proof.Proof.Whole

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Of what is held for each of a set of things, each device takes its own. -/
theorem deal {α β : Type} [Fintype α] [DecidableEq α] [DecidableEq β] (f : Dev nD × α → β) (hf : Function.Injective f) (S : Finset β) (hS : ∀ x, f x ∈ S)
    (Φ : β → sProp (MM F)) : bigSep S Φ ⊢ bigSep Finset.univ fun c : Dev nD => bigSep Finset.univ fun a : α => Φ (f (c, a)) := by
  refine (bigSep_subset (t := Finset.univ.image f) (fun b hb => ?_)).trans ?_
  · obtain ⟨x, -, rfl⟩ := Finset.mem_image.mp hb; exact hS x
  rw [bigSep_image_of_injOn (hf.injOn), bigSep_univ_prod]
  exact BI.Entails.refl _

/-- One device's. -/
theorem take {α β : Type} [Fintype α] [DecidableEq α] [DecidableEq β] (f : α → β) (hf : Function.Injective f) (S : Finset β) (hS : ∀ x, f x ∈ S)
    (Φ : β → sProp (MM F)) : bigSep S Φ ⊢ bigSep Finset.univ fun a : α => Φ (f a) := by
  refine (bigSep_subset (t := Finset.univ.image f) (fun b hb => ?_)).trans ?_
  · obtain ⟨x, -, rfl⟩ := Finset.mem_image.mp hb; exact hS x
  rw [bigSep_image_of_injOn (hf.injOn)]
  exact BI.Entails.refl _

/-- Numbered by a bounded number, or by a range of numbers. -/
theorem fin_ico {n m : ℕ} (h : m ≤ n) (Φ : ℕ → sProp (MM F)) : (bigSep Finset.univ fun g : Fin n => Φ g.val) ⊢ bigSep (Finset.Ico 0 m) Φ := by
  rw [← bigSep_image_of_injOn (f := fun g : Fin n => g.val) (s := Finset.univ) (Fin.val_injective.injOn) Φ]
  refine bigSep_subset fun i hi => ?_
  exact Finset.mem_image.mpr ⟨⟨i, lt_of_lt_of_le (Finset.mem_Ico.mp hi).2 h⟩, Finset.mem_univ _, rfl⟩

/-! ## The tokens of the payments -/

/-- A device's payments: by direction, half and transfer, the departure, the landing and the message back; by direction, the
    barrier's; by direction and copy, the result's; by exchange, departure and landing. -/
abbrev Tok : Type := (Fin 2 × Fin 2 × Fin 62 × Fin 3) ⊕ (Fin 2 ⊕ ((Fin 2 × Fin 32) ⊕ (Fin 5 × Fin 2)))

/-- Which token that is. -/
def tokOf : Dev nD × Tok → GSem nD τ sig × ℕ × ℕ
  | (c, .inl (d, sub, g, 0)) => (gs c (.send d (par g) sub), g / 2, 0)
  | (c, .inl (d, sub, g, 1)) => (gs (toD d c) (.recv d (par g) sub), g / 2, 0)
  | (c, .inl (d, sub, g, 2)) => (gs (froD d c) (.cred d sub), 0, g)
  | (c, .inr (.inl d)) => (gs (toD d c) .bar, 0, d.val)
  | (c, .inr (.inr (.inl (d, t)))) => (gs c (.out d), t, 0)
  | (c, .inr (.inr (.inr (k, 0)))) => (gs c (.bsend k), 0, 0)
  | (c, .inr (.inr (.inr (k, 1)))) => (gs (partner k c) (.brecv k), 0, 0)

/-- The payment a token belongs to. -/
def tokBackK (x : GSem nD τ sig × ℕ × ℕ) : Option Kind → Dev nD × Tok := fun
  | none => (0, .inr (.inl 0))
  | some .bar => (froD ⟨x.2.2 % 2, Nat.mod_lt _ (by decide)⟩ x.1.1.1, .inr (.inl ⟨x.2.2 % 2, Nat.mod_lt _ (by decide)⟩))
  | some (.cred d sub) => (toD d x.1.1.1, .inl (d, sub, ⟨x.2.2 % 62, Nat.mod_lt _ (by decide)⟩, 2))
  | some (.send d sl sub) => (x.1.1.1, .inl (d, sub, ⟨(2 * x.2.1 + sl.val) % 62, Nat.mod_lt _ (by decide)⟩, 0))
  | some (.recv d sl sub) => (froD d x.1.1.1, .inl (d, sub, ⟨(2 * x.2.1 + sl.val) % 62, Nat.mod_lt _ (by decide)⟩, 1))
  | some (.out d) => (x.1.1.1, .inr (.inr (.inl (d, ⟨x.2.1 % 32, Nat.mod_lt _ (by decide)⟩))))
  | some (.bsend k) => (x.1.1.1, .inr (.inr (.inr (k, 0))))
  | some (.brecv k) => (partner k x.1.1.1, .inr (.inr (.inr (k, 1))))
def tokBack (x : GSem nD τ sig × ℕ × ℕ) : Dev nD × Tok := tokBackK x (kindOf x.1.2)
theorem tokBack_gs (c : Dev nD) (k : Kind) (r du : ℕ) : tokBack (gs c k, r, du) = tokBackK (gs c k, r, du) (some k) := by
  unfold tokBack; rw [kindOf_loc]

theorem fin_mod {n : ℕ} (h : 0 < n) (i : Fin n) : (⟨i.val % n, Nat.mod_lt _ h⟩ : Fin n) = i := Fin.ext (Nat.mod_eq_of_lt i.isLt)
theorem par_mod (g : Fin 62) : (⟨(2 * (g.val / 2) + (par g).val) % 62, Nat.mod_lt _ (by decide)⟩ : Fin 62) = g :=
  Fin.ext (by show (2 * (g.val / 2) + (par g).val) % 62 = g.val; rw [par_val]; exact Nat.mod_eq_of_lt g.isLt)

theorem tokOf_inj : Function.Injective tokOf := by
  refine Function.LeftInverse.injective (g := tokBack) ?_
  rintro ⟨c, ⟨d, sub, g, i⟩ | d | ⟨d, t⟩ | ⟨k, i⟩⟩
  · fin_cases i
    · refine (tokBack_gs c (.send d (par g) sub) (g / 2) 0).trans ?_
      dsimp only [tokBackK]; rw [par_mod]; rfl
    · refine (tokBack_gs (toD d c) (.recv d (par g) sub) (g / 2) 0).trans ?_
      dsimp only [tokBackK]; rw [par_mod, fro_to]; rfl
    · refine (tokBack_gs (froD d c) (.cred d sub) 0 g).trans ?_
      dsimp only [tokBackK]; rw [to_fro, fin_mod (by decide)]; rfl
  · refine (tokBack_gs (toD d c) .bar 0 d).trans ?_
    dsimp only [tokBackK]; rw [fin_mod (by decide), fro_to]
  · refine (tokBack_gs c (.out d) t 0).trans ?_
    dsimp only [tokBackK]; rw [fin_mod (by decide)]
  · fin_cases i
    · exact tokBack_gs c (.bsend k) 0 0
    · refine (tokBack_gs (partner k c) (.brecv k) 0 0).trans ?_
      dsimp only [tokBackK]; rw [partner_partner]; rfl

/-! ## The rights over the landing slots -/

/-- What a device may overwrite: the next device's slots, transfer by transfer, and its partners' exchange buffers. -/
abbrev Wix : Type := (Fin 2 × Fin 2 × Fin 62) ⊕ Fin 5
def wOf : Dev nD × Wix → Key × ℕ
  | (c, .inl (d, sub, g)) => (key (toD d c) d sub (par g), g / 2)
  | (c, .inr k) => (bkey (partner k c) k, 0)
def wBack : Key × ℕ → Dev nD × Wix
  | (.inl (x, d, sub, sl), r) => (froD d x, .inl (d, sub, ⟨(2 * r + sl.val) % 62, Nat.mod_lt _ (by decide)⟩))
  | (.inr (x, k), _) => (partner k x, .inr k)
theorem wOf_inj : Function.Injective wOf := by
  refine Function.LeftInverse.injective (g := wBack) ?_
  rintro ⟨c, ⟨d, sub, g⟩ | k⟩
  · simp only [wOf, wBack, par_mod, fro_to]
  · simp only [wOf, wBack, partner_partner]
theorem wOf_mem (x : Dev nD × Wix) : wOf x ∈ (Finset.univ : Finset Key) ×ˢ Finset.range 31 := by
  rw [Finset.mem_product]
  refine ⟨Finset.mem_univ _, Finset.mem_range.mpr ?_⟩
  rcases x with ⟨c, ⟨d, sub, g⟩ | k⟩
  · show g.val / 2 < 31; have := g.isLt; omega
  · show 0 < 31; omega

/-- A device's own slots. -/
abbrev Rix : Type := (Fin 2 × Fin 2 × Fin 2) ⊕ Fin 5
def rOf : Dev nD × Rix → Key
  | (c, .inl p) => .inl (c, p)
  | (c, .inr k) => .inr (c, k)
theorem rOf_inj : Function.Injective rOf := by
  rintro ⟨c, p | k⟩ ⟨c', p' | k'⟩ h <;> simp only [rOf, Sum.inl.injEq, Sum.inr.injEq, Prod.mk.injEq, reduceCtorEq] at h
  · obtain ⟨rfl, rfl⟩ := h; rfl
  · obtain ⟨rfl, rfl⟩ := h; rfl

/-! ## The semaphores opened on entry -/

/-- A device's semaphores, the barrier's apart. -/
abbrev Own : Type := (Fin 2 × Fin 2 × Fin 5) ⊕ (Fin 2 ⊕ (Fin 5 × Fin 2))
def ownK : Own → Kind
  | .inl (d, sub, 0) => .cred d sub
  | .inl (d, sub, 1) => .send d 0 sub
  | .inl (d, sub, 2) => .send d 1 sub
  | .inl (d, sub, 3) => .recv d 0 sub
  | .inl (d, sub, 4) => .recv d 1 sub
  | .inr (.inl d) => .out d
  | .inr (.inr (k, 0)) => .bsend k
  | .inr (.inr (k, 1)) => .brecv k
theorem ownK_inj : Function.Injective ownK := by decide +kernel
theorem ownK_all (k : Kind) (h : k ≠ .bar) : ∃ o, ownK o = k := by revert k; decide +kernel
theorem ownK_ne (o : Own) : ownK o ≠ .bar := by revert o; decide +kernel

theorem gs_inj {c c' : Dev nD} {k k' : Kind} (h : gs c k = gs c' k') : c = c' ∧ k = k' :=
  ⟨congrArg (fun g : GSem nD τ sig => g.1.1) h, loc_inj (congrArg Prod.snd h)⟩

/-- The barrier's semaphores. -/
def barCells : Finset (GSem nD τ sig) := Finset.univ.image fun c : Dev nD => gs c .bar
/-- The others. -/
def ownCells : Finset (GSem nD τ sig) := Finset.univ.image fun x : Dev nD × Own => gs x.1 (ownK x.2)
theorem cells_disjoint : Disjoint barCells ownCells := by
  rw [Finset.disjoint_left]
  intro g h h'
  obtain ⟨c, -, rfl⟩ := Finset.mem_image.mp h
  obtain ⟨⟨c', o⟩, -, h⟩ := Finset.mem_image.mp h'
  exact ownK_ne o (gs_inj h).2
theorem cells_mem (c : Dev nD) (k : Kind) : gs c k ∈ barCells ∪ ownCells := by
  by_cases h : k = .bar
  · subst h; exact Finset.mem_union_left _ (Finset.mem_image.mpr ⟨c, Finset.mem_univ _, rfl⟩)
  · obtain ⟨o, rfl⟩ := ownK_all k h
    exact Finset.mem_union_right _ (Finset.mem_image.mpr ⟨(c, o), Finset.mem_univ _, rfl⟩)

/-! ## The credits -/

theorem owed_ge {a : Act} {l : List Act} (h : a ∈ l) : a.2.2.2 ≤ owed l (gs a.1 a.2.1) a.2.2.1 := by
  induction l with
  | nil => exact absurd h List.not_mem_nil
  | cons b l ih =>
    have e : owed (b :: l) (gs a.1 a.2.1) a.2.2.1 = owed l (gs a.1 a.2.1) a.2.2.1 + tally b (gs a.1 a.2.1) a.2.2.1 := rfl
    rw [e]
    rcases List.mem_cons.mp h with rfl | h
    · unfold tally
      rw [tallyAt_apply, if_pos ⟨rfl, rfl⟩]; exact Nat.le_add_left _ _
    · exact le_trans (ih h) (Nat.le_add_right _ _)

/-- What a device owes at launch. -/
def O₀ (c : Dev nD) : CellTallies nD τ sig ℕ := owed (allActs c)

theorem rsOw_mem (c : Dev nD) (d sub : Fin 2) (l : List Act) (g : ℕ) (hg : g ≤ 30) (a : Act) (ha : a ∈ acts c d sub g) :
    ∀ m, 31 - m ≤ g → m ≤ 31 → a ∈ rsOw c m l
  | 0, h, _ => absurd h (by omega)
  | m + 1, h, hm => by
    show a ∈ acts c 0 0 (30 - m) ++ (acts c 0 1 (30 - m) ++ (acts c 1 0 (30 - m) ++ (acts c 1 1 (30 - m) ++ rsOw c m l)))
    by_cases e : 30 - m = g
    · rw [e]
      simp only [List.mem_append]
      fin_cases d <;> fin_cases sub
      · exact .inl ha
      · exact .inr (.inl ha)
      · exact .inr (.inr (.inl ha))
      · exact .inr (.inr (.inr (.inl ha)))
    · simp only [List.mem_append]
      exact .inr (.inr (.inr (.inr (rsOw_mem c d sub l g hg a ha m (by omega) (by omega)))))
theorem rsOw_tail (c : Dev nD) (l : List Act) (a : Act) (ha : a ∈ l) : ∀ m, a ∈ rsOw c m l
  | 0 => ha
  | m + 1 => by
    show a ∈ acts c 0 0 (30 - m) ++ (acts c 0 1 (30 - m) ++ (acts c 1 0 (30 - m) ++ (acts c 1 1 (30 - m) ++ rsOw c m l)))
    simp only [List.mem_append]
    exact .inr (.inr (.inr (.inr (rsOw_tail c l a ha m))))

theorem late_mem (c : Dev nD) (a : Act) (h : a ∈ lateActs c) : a ∈ allActs c := by
  unfold allActs earlyActs
  simp only [List.mem_cons]
  exact .inr (.inr (.inr (.inr (.inr (.inr (rsOw_tail c _ a h 31))))))
theorem rs_mem (c : Dev nD) (d sub : Fin 2) (g : ℕ) (hg : g ≤ 30) (a : Act) (h : a ∈ acts c d sub g) : a ∈ allActs c := by
  unfold allActs earlyActs
  simp only [List.mem_cons]
  exact .inr (.inr (.inr (.inr (.inr (.inr (rsOw_mem c d sub _ g hg a h 31 (by omega) le_rfl))))))
theorem rest_mem (c : Dev nD) (a : Act) (h : a ∈ agRest c 30) : a ∈ allActs c := by
  refine late_mem c a ?_
  unfold lateActs
  simp only [List.mem_cons]
  exact .inr (.inr (.inr (.inr (.inr (.inr (.inr h))))))

theorem cr_mem (c : Dev nD) (d sub : Fin 2) (j : ℕ) : (froD d c, Kind.cred d sub, j, 1) ∈ crAct c d j := by
  unfold crAct
  fin_cases sub
  · exact List.mem_cons_self ..
  · exact List.mem_cons_of_mem _ (List.mem_cons_self ..)

theorem agRest_cr (c : Dev nD) (d sub : Fin 2) (j : ℕ) (hj : j ≤ 61) : ∀ m, 61 - m ≤ j → m ≤ 30 → (froD d c, Kind.cred d sub, j, 1) ∈ agRest c m
  | 0, h, _ => by
    have e : j = 61 := by omega
    subst e
    show _ ∈ crAct c 0 61 ++ (crAct c 1 61 ++ [])
    have := cr_mem c d sub 61
    simp only [List.mem_append]
    fin_cases d
    · exact .inl this
    · exact .inr (.inl this)
  | m + 1, h, hm => by
    show _ ∈ (toD 0 c, Kind.recv 0 (par (61 - m)) 0, 61 - m, NF) :: (toD 1 c, .recv 1 (par (61 - m)) 0, 61 - m, NF)
      :: (crAct c 0 (60 - m) ++ (crAct c 1 (60 - m) ++ agRest c m))
    simp only [List.mem_cons, List.mem_append]
    by_cases e : 60 - m = j
    · rw [e]
      have := cr_mem c d sub j
      fin_cases d
      · exact .inr (.inr (.inl this))
      · exact .inr (.inr (.inr (.inl this)))
    · exact .inr (.inr (.inr (.inr (agRest_cr c d sub j hj m (by omega) (by omega)))))
theorem agRest_recv (c : Dev nD) (d : Fin 2) (g : ℕ) (hg : g ≤ 61) : ∀ m, 62 - m ≤ g → m ≤ 30 → (toD d c, Kind.recv d (par g) 0, g, NF) ∈ agRest c m
  | 0, h, _ => absurd h (by omega)
  | m + 1, h, hm => by
    show _ ∈ (toD 0 c, Kind.recv 0 (par (61 - m)) 0, 61 - m, NF) :: (toD 1 c, .recv 1 (par (61 - m)) 0, 61 - m, NF)
      :: (crAct c 0 (60 - m) ++ (crAct c 1 (60 - m) ++ agRest c m))
    by_cases e : 61 - m = g
    · rw [e]
      fin_cases d
      · exact List.mem_cons_self ..
      · exact List.mem_cons_of_mem _ (List.mem_cons_self ..)
    · refine List.mem_cons_of_mem _ (List.mem_cons_of_mem _ (List.mem_append_right _ (List.mem_append_right _ ?_)))
      exact agRest_recv c d g hg m (by omega) (by omega)

theorem all_cred (c : Dev nD) (d sub : Fin 2) (j : ℕ) (hj : j < 62) : (froD d c, Kind.cred d sub, j, 1) ∈ allActs c := by
  by_cases h : j ≤ 30
  · exact rs_mem c d sub j h _ (by unfold acts; exact List.mem_cons_self ..)
  · exact rest_mem c _ (agRest_cr c d sub j (by omega) 30 (by omega) le_rfl)

theorem all_recv (c : Dev nD) (d sub : Fin 2) (g : ℕ) (hg : g < lim sub) : (toD d c, Kind.recv d (par g) sub, g, if g ≤ 30 then NH else NF) ∈ allActs c := by
  by_cases h : g ≤ 30
  · rw [if_pos h]
    rcases Nat.eq_zero_or_pos g with rfl | hp
    · unfold allActs earlyActs
      simp only [List.mem_cons]
      fin_cases d <;> fin_cases sub
      · exact .inr (.inr (.inl rfl))
      · exact .inr (.inr (.inr (.inl rfl)))
      · exact .inr (.inr (.inr (.inr (.inl rfl))))
      · exact .inr (.inr (.inr (.inr (.inr (.inl rfl)))))
    · obtain ⟨n, rfl⟩ : ∃ n, g = n + 1 := ⟨g - 1, by omega⟩
      refine rs_mem c d sub n (by omega) _ ?_
      unfold acts
      rw [if_pos (by omega)]
      exact List.mem_cons_of_mem _ (List.mem_singleton_self _)
  · rw [if_neg h]
    have hs : sub = 0 := by
      fin_cases sub
      · rfl
      · have : lim (1 : Fin 2) = 31 := rfl
        exact absurd hg (by show ¬ g < lim 1; omega)
    subst hs
    have hl : lim (0 : Fin 2) = 62 := rfl
    by_cases e : g = 31
    · subst e
      refine late_mem c _ ?_
      unfold lateActs
      simp only [List.mem_cons]
      fin_cases d
      · exact .inr (.inr (.inr (.inr (.inr (.inl rfl)))))
      · exact .inr (.inr (.inr (.inr (.inr (.inr (.inl rfl))))))
    · exact rest_mem c _ (agRest_recv c d g (by omega) 30 (by omega) le_rfl)

theorem all_brecv (c : Dev nD) (k : Fin 5) : (partner k c, Kind.brecv k, 0, NB) ∈ allActs c := by
  refine late_mem c _ ?_
  unfold lateActs bAct
  simp only [List.mem_cons]
  fin_cases k
  · exact .inl rfl
  · exact .inr (.inl rfl)
  · exact .inr (.inr (.inl rfl))
  · exact .inr (.inr (.inr (.inl rfl)))
  · exact .inr (.inr (.inr (.inr (.inl rfl))))

theorem all_bar (c : Dev nD) (d : Fin 2) : (toD d c, Kind.bar, 0, 1) ∈ allActs c := by
  unfold allActs
  fin_cases d
  · exact List.mem_cons_self ..
  · exact List.mem_cons_of_mem _ (List.mem_cons_self ..)

/-- A device's credit for a payment that one device makes. -/
theorem lc_ge (c p : Dev nD) (k : Kind) (i n : ℕ) (h : (c, k, i, n) ∈ allActs p) : n ≤ launchCredit (Pipeline.owing O₀) 0 (gs c k) i := by
  rw [Pipeline.launchCredit_owing]
  exact le_trans (owed_ge h) (Finset.single_le_sum (f := fun d : Dev nD => O₀ d (gs c k) i) (fun _ _ => Nat.zero_le _) (Finset.mem_univ p))

theorem fro_ne (c : Dev nD) : froD 0 c ≠ froD 1 c := by revert c; decide +kernel

theorem lc_bar (c : Dev nD) : 2 ≤ launchCredit (Pipeline.owing O₀) 0 (gs c .bar) 0 := by
  rw [Pipeline.launchCredit_owing]
  have h (d : Fin 2) : 1 ≤ O₀ (froD d c) (gs c .bar) 0 := by
    have := owed_ge (all_bar (froD d c) d)
    rw [to_fro] at this
    exact this
  refine le_trans ?_ (Finset.sum_le_sum_of_subset (Finset.subset_univ {froD 0 c, froD 1 c}))
  rw [Finset.sum_pair (fro_ne c)]
  have := h 0; have := h 1; omega

theorem cred_weaken (g : GSem nD τ sig) (i n N : ℕ) (h : n ≤ N) : (cred (tallyAt g i N) : sProp (MM F)) ⊢ cred (tallyAt g i n) := by
  have e : (tallyAt g i N : CellTallies nD τ sig ℕ) = tallyAt g i n + tallyAt g i (N - n) := by
    unfold tallyAt
    rw [← tallyOn_add, ← Finsupp.single_add, Nat.add_sub_cancel' h]
  rw [e]
  refine .trans (cred_add _ _).1 ?_
  iintro ⟨H, -⟩; iexact H

theorem cred_split (g : GSem nD τ sig) (S : Finset ℕ) : ∀ T : ℕ →₀ ℕ, (cred (tallyOn g T) : sProp (MM F)) ⊢ bigSep S fun i => cred (tallyAt g i (T i)) := by
  induction S using Finset.induction_on with
  | empty => intro T; rw [bigSep_empty]; iintro -; iempintro
  | insert a S ha ih =>
    intro T
    rw [bigSep_insert ha]
    have e : T = Finsupp.single a (T a) + T.erase a := (Finsupp.single_add_erase a T).symm
    have h1 : (cred (tallyOn g T) : sProp (MM F)) ⊢ iprop(cred (tallyAt g a (T a)) ∗ cred (tallyOn g (T.erase a))) := by
      conv_lhs => rw [e, tallyOn_add]
      exact (cred_add _ _).1
    refine .trans h1 (sep_mono .rfl ((ih (T.erase a)).trans (bigSep_mono fun i hi => ?_)))
    have hne : i ≠ a := fun h => ha (by rw [← h]; exact hi)
    rw [Finsupp.erase_ne hne]
    exact BI.Entails.refl _

/-- A device's credits: by direction, half and transfer, a message's and a landing's; the barrier's; the exchanges'. -/
abbrev Cix : Type := (Fin 2 × Fin 2 × Fin 62 × Fin 2) ⊕ (Fin 1 ⊕ Fin 5)
def cOf : Cix → Kind × Fin 62
  | .inl (d, sub, g, 0) => (.cred d sub, g)
  | .inl (d, sub, g, 1) => (.recv d (par g) sub, g)
  | .inr (.inl _) => (.bar, 0)
  | .inr (.inr k) => (.brecv k, 0)
def cBack : Kind × Fin 62 → Cix
  | (.cred d sub, g) => .inl (d, sub, g, 0)
  | (.recv d _ sub, g) => .inl (d, sub, g, 1)
  | (.brecv k, _) => .inr (.inr k)
  | _ => .inr (.inl 0)
theorem cOf_inj : Function.Injective cOf := by
  refine Function.LeftInverse.injective (g := cBack) ?_
  rintro (⟨d, sub, g, i⟩ | i | k)
  · fin_cases i <;> rfl
  · simp only [cOf, cBack, Subsingleton.elim i 0]
  · simp only [cOf, cBack]

def creds (c : Dev nD) : sProp (MM F) :=
  bigSep Finset.univ fun x : Cix => cred (tallyAt (gs c (cOf x).1) (cOf x).2.val (launchCredit (Pipeline.owing O₀) 0 (gs c (cOf x).1) (cOf x).2.val))

theorem creds_intro (c : Dev nD) : (Pipeline.launchCred O₀ c : sProp (MM F)) ⊢ creds c := by
  unfold Pipeline.launchCred creds
  refine .trans (take loc (fun _ _ h => loc_inj h) Finset.univ (fun _ => Finset.mem_univ _) _) ?_
  refine .trans (bigSep_mono fun k _ => (cred_split (gs c k) (Finset.range 62) _).trans
    (take (fun i : Fin 62 => i.val) Fin.val_injective (Finset.range 62) (fun i => Finset.mem_range.mpr i.isLt) _)) ?_
  rw [← bigSep_univ_prod (fun x : Kind × Fin 62 => (cred (tallyAt (gs c x.1) x.2.val (launchCredit (Pipeline.owing O₀) 0 (gs c x.1) x.2.val)) : sProp (MM F)))]
  exact take cOf cOf_inj Finset.univ (fun _ => Finset.mem_univ _)
    (fun x => cred (tallyAt (gs c x.1) x.2.val (launchCredit (Pipeline.owing O₀) 0 (gs c x.1) x.2.val)))

end Cert.Proof

end
-- ==== Proof.Tiles.lean ====
/-
  The arrays cut into the parts the kernel moves: the result into its sixty-four tiles, the two-slot buffers into slots and
  halves, and the landing array of the largest values into its rows; and the parts put together again.
-/
module

public import proofs.«01_k».proof.Proof.Deal

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

/-! ## Parts of an array held at some contents -/

theorem some_rects {T : Type} [Fintype T] [DecidableEq T] (c : Dev nD) {sp : Space} {s : Shape} {e : EltTy} (m : Memref sig .tc sp s e)
    (r : T → Rect s) (hr : ∀ t a, (r t).stride a = 1) (hd : ∀ t t', t ≠ t' → Disjoint (r t).set (r t').set)
    (hcov : (Finset.univ : Finset T).biUnion (fun t => (r t).set) = Finset.univ) :
    (some_ c m : sProp (MM F)) ⊢ bigSep Finset.univ fun t => some_ c (m.slice (r t) (hr t)) := by
  refine (show (some_ c m : sProp (MM F)) ⊢ iprop(∃ X : s.Idx → Elt F e, owns (c : Thread nD τ) m fullShare X) from .rfl).trans ?_
  iintro ⟨%X, H⟩
  iapply (show (owns (c : Thread nD τ) m fullShare X : sProp (MM F)) ⊢ bigSep Finset.univ fun t => some_ c (m.slice (r t) (hr t)) from
    (owns_rects (c : Thread nD τ) m fullShare r hr hd hcov X).trans (bigSep_mono fun t _ => owns_some (F := F) c (m.slice (r t) (hr t)) _))
  iexact H

theorem rects_some {T : Type} [Fintype T] [DecidableEq T] [∀ e, Nonempty (Elt F e)] (c : Dev nD) {sp : Space} {s : Shape} {e : EltTy}
    (m : Memref sig .tc sp s e) (r : T → Rect s) (hr : ∀ t a, (r t).stride a = 1)
    (hd : ∀ t t', t ≠ t' → Disjoint (r t).set (r t').set)
    (hcov : (Finset.univ : Finset T).biUnion (fun t => (r t).set) = Finset.univ) :
    (bigSep Finset.univ fun t => some_ c (m.slice (r t) (hr t)) : sProp (MM F)) ⊢ some_ c m := by
  refine (bigSep_exists_pi Finset.univ fun t (X : (r t).shape.Idx → Elt F e) => owns (c : Thread nD τ) (m.slice (r t) (hr t)) fullShare X).trans ?_
  iintro ⟨%Y, H⟩
  iapply (owns_some (F := F) c m (Rect.glue r hcov Y))
  iapply (owns_of_rects (c : Thread nD τ) m fullShare r hr hd hcov _)
  simp only [Rect.glue_emb r hcov hd]
  iexact H

theorem join_rects {T : Type} [Fintype T] [DecidableEq T] [∀ e, Nonempty (Elt F e)] (c : Dev nD) {sp : Space} {s : Shape} {e : EltTy}
    (m : Memref sig .tc sp s e) (r : T → Rect s) (hr : ∀ t a, (r t).stride a = 1)
    (hd : ∀ t t', t ≠ t' → Disjoint (r t).set (r t').set)
    (hcov : (Finset.univ : Finset T).biUnion (fun t => (r t).set) = Finset.univ)
    (X : s.Idx → Elt F e) (Y : (t : T) → (r t).shape.Idx → Elt F e) (h : ∀ t, (fun y => X ((r t).emb y)) = Y t) :
    (bigSep Finset.univ fun t => owns (c : Thread nD τ) (m.slice (r t) (hr t)) fullShare (Y t) : sProp (MM F)) ⊢ owns (c : Thread nD τ) m fullShare X := by
  obtain rfl : (fun t y => X ((r t).emb y)) = Y := funext h
  exact owns_of_rects (c : Thread nD τ) m fullShare r hr hd hcov X

theorem some_sq (c : Dev nD) {sp : Space} {s s' : Shape} {e : EltTy} (m : Memref sig .tc sp s e) (h : s.Squeezes s') :
    (some_ c m : sProp (MM F)) ⊢ some_ c (m.squeeze s' h) := by
  unfold some_
  iintro ⟨%X, H⟩
  iexists _
  iapply (owns_reshape c m h fullShare X)
  iexact H

theorem sq_some (c : Dev nD) {sp : Space} {s s' : Shape} {e : EltTy} (m : Memref sig .tc sp s e) (h : s.Squeezes s') :
    (some_ c (m.squeeze s' h) : sProp (MM F)) ⊢ some_ c m := by
  unfold some_
  iintro ⟨%X, H⟩
  iexists _
  iapply (owns_reshape' c m h fullShare X)
  iexact H

theorem some_whole (c : Dev nD) (b : Ref sig .tc) (m : Memref sig .tc b.1 b.ty.shape b.ty.elt) (hm : m = Memref.whole b) :
    (iprop(∃ f, (((c : Thread nD τ)).loc b) ↦{fullShare} f) : sProp (MM F)) ⊢ some_ c m := by
  subst hm
  iintro ⟨%f, H⟩
  iapply (owns_some (F := F) c (Memref.whole b) f)
  rw [owns_whole]
  iexact H

/-! ## Slots -/

theorem slot_disj : ∀ t t' : Fin 2, t ≠ t' → Disjoint (fullR t).set (fullR t').set := by
  intro t t' h
  rw [Finset.disjoint_left]
  intro x hx hx'
  rw [← Rect.map_emb_univ, Finset.mem_map] at hx hx'
  obtain ⟨y, -, rfl⟩ := hx
  obtain ⟨y', -, hy'⟩ := hx'
  have := congrArg Fin.val (congrFun hy' 0)
  rw [Rect.emb_apply, Rect.emb_apply] at this
  have h1 : (y 0).val < 1 := (y 0).isLt
  have h2 : (y' 0).val < 1 := (y' 0).isLt
  have : t'.val + 1 * (y' 0).val = t.val + 1 * (y 0).val := this
  exact h (Fin.ext (by omega))

theorem slot_cov : (Finset.univ : Finset (Fin 2)).biUnion (fun t => (fullR t).set) = Finset.univ := by
  ext x
  simp only [Finset.mem_biUnion, Finset.mem_univ, true_and, iff_true]
  refine ⟨x 0, ?_⟩
  rw [← Rect.map_emb_univ, Finset.mem_map]
  refine ⟨Fin.cons ⟨0, Nat.one_pos⟩ (ix2 (x 1) (x 2)), Finset.mem_univ _, ?_⟩
  funext a
  apply Fin.ext
  rw [Rect.emb_apply]
  fin_cases a
  · show (x 0).val + 1 * 0 = (x 0).val
    omega
  · show 0 + 1 * (x 1).val = (x 1).val
    omega
  · show 0 + 1 * (x 2).val = (x 2).val
    omega

theorem some_slots (c : Dev nD) (m : Memref sig .tc .vmem S2x128x4096 .f32) :
    (some_ c m : sProp (MM F)) ⊢ iprop(some_ c (full m 0) ∗ some_ c (full m 1)) := by
  refine (some_rects c m fullR (fun _ _ => rfl) slot_disj slot_cov).trans ?_
  rw [BI.bigSep_fin_two]
  exact BI.sep_mono (some_sq c _ _) (some_sq c _ _)

theorem slots_some [∀ e, Nonempty (Elt F e)] (c : Dev nD) (m : Memref sig .tc .vmem S2x128x4096 .f32) :
    iprop(some_ c (full m 0) ∗ some_ c (full m 1)) ⊢ (some_ c m : sProp (MM F)) := by
  refine .trans ?_ (rects_some c m fullR (fun _ _ => rfl) slot_disj slot_cov)
  rw [BI.bigSep_fin_two]
  exact BI.sep_mono (sq_some c _ _) (sq_some c _ _)

/-! ## The rows of the landing array of the largest values -/

abbrev rowR (k : Fin 5) : Rect S5x8x128 := Rect.unit (s := S5x8x128) ![k.val, 0, 0] S1x8x128.size (by revert k; decide)

theorem row_disj : ∀ t t' : Fin 5, t ≠ t' → Disjoint (rowR t).set (rowR t').set := by
  intro t t' h
  rw [Finset.disjoint_left]
  intro x hx hx'
  rw [← Rect.map_emb_univ, Finset.mem_map] at hx hx'
  obtain ⟨y, -, rfl⟩ := hx
  obtain ⟨y', -, hy'⟩ := hx'
  have := congrArg Fin.val (congrFun hy' 0)
  rw [Rect.emb_apply, Rect.emb_apply] at this
  have h1 : (y 0).val < 1 := (y 0).isLt
  have h2 : (y' 0).val < 1 := (y' 0).isLt
  have : t'.val + 1 * (y' 0).val = t.val + 1 * (y 0).val := this
  exact h (Fin.ext (by omega))

theorem row_cov : (Finset.univ : Finset (Fin 5)).biUnion (fun t => (rowR t).set) = Finset.univ := by
  ext x
  simp only [Finset.mem_biUnion, Finset.mem_univ, true_and, iff_true]
  refine ⟨x 0, ?_⟩
  rw [← Rect.map_emb_univ, Finset.mem_map]
  refine ⟨Fin.cons ⟨0, Nat.one_pos⟩ (ix2 (x 1) (x 2)), Finset.mem_univ _, ?_⟩
  funext a
  apply Fin.ext
  rw [Rect.emb_apply]
  fin_cases a
  · show (x 0).val + 1 * 0 = (x 0).val
    omega
  · show 0 + 1 * (x 1).val = (x 1).val
    omega
  · show 0 + 1 * (x 2).val = (x 2).val
    omega

theorem some_rows (c : Dev nD) : (some_ c rbM : sProp (MM F)) ⊢ bigSep Finset.univ fun k : Fin 5 => some_ c (rbufV rbM k) := by
  refine (some_rects c rbM rowR (fun _ _ => rfl) row_disj row_cov).trans ?_
  exact bigSep_mono fun k _ => some_sq c _ _

theorem rows_some [∀ e, Nonempty (Elt F e)] (c : Dev nD) :
    (bigSep Finset.univ fun k : Fin 5 => some_ c (rbufV rbM k) : sProp (MM F)) ⊢ some_ c rbM := by
  refine .trans ?_ (rects_some c rbM rowR (fun _ _ => rfl) row_disj row_cov)
  exact bigSep_mono fun k _ => sq_some c _ _

/-! ## The tiles of the result -/

/-- The block of rows device `c` fills in direction `d`. -/
def blk (d : Fin 2) (c : Dev nD) : Fin 32 := ⟨(o0D d c 0 / 128) % 32, Nat.mod_lt _ (by decide)⟩

theorem o0_eq : ∀ d c, o0D d c = ![128 * (blk d c).val, 4096 * d.val] := by decide +kernel
theorem blk_inj : ∀ d, Function.Injective (blk d) := by decide +kernel
theorem blk_surj (d : Fin 2) : Function.Surjective (blk d) := Finite.injective_iff_surjective.mp (blk_inj d)
theorem oOff_iter : ∀ d c, ∀ t : Fin 32, oOff d c t.val = o0D d ((froD d)^[t.val] c) := by decide +kernel
theorem iter_inj : ∀ d c, Function.Injective fun t : Fin 32 => (froD d)^[t.val] c := by decide +kernel
theorem iter_surj (d : Fin 2) (c : Dev nD) : Function.Surjective fun t : Fin 32 => (froD d)^[t.val] c :=
  Finite.injective_iff_surjective.mp (iter_inj d c)

/-- The block of rows tile `t` of device `c` fills. -/
def tb (c : Dev nD) (p : Fin 2 × Fin 32) : Fin 32 := blk p.1 ((froD p.1)^[p.2.val] c)

theorem oOff_tb (c : Dev nD) (p : Fin 2 × Fin 32) : oOff p.1 c p.2.val = ![128 * (tb c p).val, 4096 * p.1.val] := by
  rw [oOff_iter, o0_eq]; rfl

/-- A tile's rectangle. -/
abbrev tileR (c : Dev nD) (p : Fin 2 × Fin 32) : Rect S4096x8192 :=
  Rect.unit (s := S4096x8192) (oOff p.1 c p.2.val) S128x4096.size (oOff_inb p.1 c p.2.val)

theorem tile_emb (c : Dev nD) (p : Fin 2 × Fin 32) (y : S128x4096.Idx) :
    (((tileR c p).emb y) 0).val = 128 * (tb c p).val + (y 0).val ∧ (((tileR c p).emb y) 1).val = 4096 * p.1.val + (y 1).val := by
  have h0 := congrFun (oOff_tb c p) 0
  have h1 := congrFun (oOff_tb c p) 1
  constructor
  · rw [Rect.emb_apply]
    show oOff p.1 c p.2.val 0 + 1 * (y 0).val = _
    rw [h0]
    show 128 * (tb c p).val + 1 * (y 0).val = _
    omega
  · rw [Rect.emb_apply]
    show oOff p.1 c p.2.val 1 + 1 * (y 1).val = _
    rw [h1]
    show 4096 * p.1.val + 1 * (y 1).val = _
    omega

theorem tile_disj (c : Dev nD) : ∀ p p' : Fin 2 × Fin 32, p ≠ p' → Disjoint (tileR c p).set (tileR c p').set := by
  intro p p' h
  rw [Finset.disjoint_left]
  intro x hx hx'
  rw [← Rect.map_emb_univ, Finset.mem_map] at hx hx'
  obtain ⟨y, -, rfl⟩ := hx
  obtain ⟨y', -, hy'⟩ := hx'
  obtain ⟨a0, a1⟩ := tile_emb c p y
  obtain ⟨b0, b1⟩ := tile_emb c p' y'
  rw [hy'] at b0 b1
  have i0 : (y 0).val < 128 := (y 0).isLt
  have i1 : (y 1).val < 4096 := (y 1).isLt
  have j0 : (y' 0).val < 128 := (y' 0).isLt
  have j1 : (y' 1).val < 4096 := (y' 1).isLt
  have hd : p.1 = p'.1 := Fin.ext (by omega)
  have ht : tb c p = tb c p' := Fin.ext (by omega)
  obtain ⟨d, t⟩ := p
  obtain ⟨d', t'⟩ := p'
  dsimp only at hd
  subst hd
  have e : t = t' := iter_inj d c (blk_inj d ht)
  exact h (by rw [e])

theorem tile_cov (c : Dev nD) : (Finset.univ : Finset (Fin 2 × Fin 32)).biUnion (fun p => (tileR c p).set) = Finset.univ := by
  ext x
  simp only [Finset.mem_biUnion, Finset.mem_univ, true_and, iff_true]
  have x0 : (x 0).val < 4096 := (x 0).isLt
  have x1 : (x 1).val < 8192 := (x 1).isLt
  let d : Fin 2 := ⟨(x 1).val / 4096, by omega⟩
  obtain ⟨e, he⟩ := blk_surj d ⟨(x 0).val / 128, by omega⟩
  obtain ⟨t, ht⟩ := iter_surj d c e
  refine ⟨(d, t), ?_⟩
  rw [← Rect.map_emb_univ, Finset.mem_map]
  refine ⟨ix2 (⟨(x 0).val % 128, by omega⟩ : Fin 128) (⟨(x 1).val % 4096, by omega⟩ : Fin 4096), Finset.mem_univ _, ?_⟩
  obtain ⟨a0, a1⟩ := tile_emb c (d, t) (ix2 (⟨(x 0).val % 128, by omega⟩ : Fin 128) (⟨(x 1).val % 4096, by omega⟩ : Fin 4096))
  have hb : (tb c (d, t)).val = (x 0).val / 128 := by
    show (blk d ((froD d)^[t.val] c)).val = _
    rw [show (froD d)^[t.val] c = e from ht, he]
  rw [hb] at a0
  funext a
  apply Fin.ext
  fin_cases a
  · refine a0.trans ?_
    show 128 * ((x 0).val / 128) + (x 0).val % 128 = (x 0).val
    omega
  · refine a1.trans ?_
    show 4096 * ((x 1).val / 4096) + (x 1).val % 4096 = (x 1).val
    omega

/-- The device whose block fills a block of rows. -/
def unblk (d : Fin 2) (b : Fin 32) : Dev nD := (blk_surj d b).choose
theorem blk_unblk (d : Fin 2) (b : Fin 32) : blk d (unblk d b) = b := (blk_surj d b).choose_spec
theorem unblk_blk (d : Fin 2) (c : Dev nD) : unblk d (blk d c) = c := blk_inj d (blk_unblk d _)

/-- What the kernel leaves in the result, on every device alike. -/
def outV (I : Inp F) : S4096x8192.Idx → F .f32 := fun x =>
  dqD I ⟨(x 1).val / 4096, by have : (x 1).val < 8192 := (x 1).isLt; omega⟩
    (unblk ⟨(x 1).val / 4096, by have : (x 1).val < 8192 := (x 1).isLt; omega⟩ ⟨(x 0).val / 128, by have : (x 0).val < 4096 := (x 0).isLt; omega⟩)
    (ix2 (⟨(x 0).val % 128, Nat.mod_lt _ (by decide)⟩ : Fin 128) (⟨(x 1).val % 4096, Nat.mod_lt _ (by decide)⟩ : Fin 4096))

theorem outV_tile (I : Inp F) (c : Dev nD) (p : Fin 2 × Fin 32) : (fun y => outV I ((tileR c p).emb y)) = agV I p.1 p.2.val c := by
  obtain ⟨d, t⟩ := p
  funext y
  obtain ⟨a0, a1⟩ := tile_emb c (d, t) y
  have y0 : (y 0).val < 128 := (y 0).isLt
  have y1 : (y 1).val < 4096 := (y 1).isLt
  have h1 : (((tileR c (d, t)).emb y) 1).val / 4096 = d.val := by rw [a1]; dsimp only; omega
  have h0 : (((tileR c (d, t)).emb y) 0).val / 128 = (tb c (d, t)).val := by rw [a0]; omega
  have h1' : (((tileR c (d, t)).emb y) 1).val % 4096 = (y 1).val := by rw [a1]; dsimp only; omega
  have h0' : (((tileR c (d, t)).emb y) 0).val % 128 = (y 0).val := by rw [a0]; omega
  unfold outV agV
  simp only [h1, h0, h1', h0']
  rw [show unblk d (tb c (d, t)) = (froD d)^[t.val] c from unblk_blk d _]
  congr 1
  funext a
  fin_cases a <;> rfl

/-- The result held whole, cut into its tiles. -/
theorem some_tiles (c : Dev nD) : (some_ c outA : sProp (MM F)) ⊢ bigSep Finset.univ fun p : Fin 2 × Fin 32 => some_ c (outM p.1 c p.2.val) :=
  some_rects c outA (tileR c) (fun _ _ => rfl) (tile_disj c) (tile_cov c)

/-- The tiles, written, are the result. -/
theorem tiles_out [∀ e, Nonempty (Elt F e)] (I : Inp F) (c : Dev nD) :
    (bigSep Finset.univ fun p : Fin 2 × Fin 32 => owns (c : Thread nD τ) (outM p.1 c p.2.val) fullShare (agV I p.1 p.2.val c) : sProp (MM F))
      ⊢ owns (c : Thread nD τ) outA fullShare (outV I) := by
  exact join_rects c outA (tileR c) (fun _ _ => rfl) (tile_disj c) (tile_cov c) (outV I) (fun p => agV I p.1 p.2.val c) (outV_tile I c)

end Cert.Proof
-- ==== Proof.Enter.lean ====
/-
  Entering and leaving: from what the launch gives a device, and its scratch arrays, to all that the kernel function starts
  with; and from all that it ends with back to its arrays and its semaphores at zero.
-/
module

public import proofs.«01_k».proof.Proof.Tiles

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {I : Inp F} {K : Dev nD × Kind → ℕ} {N : Key → ℕ}

/-! ## Small families -/

theorem big2 (Φ : Fin 2 → sProp (MM F)) : bigSep Finset.univ Φ = iprop(Φ 0 ∗ Φ 1) := BI.bigSep_fin_two Φ
theorem big3 (Φ : Fin 3 → sProp (MM F)) : bigSep Finset.univ Φ = iprop(Φ 0 ∗ Φ 1 ∗ Φ 2) := by
  rw [show (Finset.univ : Finset (Fin 3)) = {0, 1, 2} from by decide, bigSep_insert (by decide), bigSep_insert (by decide), bigSep_singleton]
  rfl
theorem big5 (Φ : Fin 5 → sProp (MM F)) : bigSep Finset.univ Φ = iprop(Φ 0 ∗ Φ 1 ∗ Φ 2 ∗ Φ 3 ∗ Φ 4) := by
  rw [show (Finset.univ : Finset (Fin 5)) = {0, 1, 2, 3, 4} from by decide, bigSep_insert (by decide), bigSep_insert (by decide),
    bigSep_insert (by decide), bigSep_insert (by decide), bigSep_singleton]
  rfl
theorem big22 (Φ : Fin 2 → Fin 2 → sProp (MM F)) : (bigSep Finset.univ fun d => bigSep Finset.univ fun sub => Φ d sub)
    = iprop((Φ 0 0 ∗ Φ 0 1) ∗ (Φ 1 0 ∗ Φ 1 1)) := by
  rw [BI.bigSep_fin_two, BI.bigSep_fin_two, BI.bigSep_fin_two]
  rfl
theorem sum_split {A B : Type} [Fintype A] [Fintype B] (Φ : A ⊕ B → sProp (MM F)) :
    bigSep Finset.univ Φ = iprop((bigSep Finset.univ fun a => Φ (.inl a)) ∗ bigSep Finset.univ fun b => Φ (.inr b)) := bigSep_univ_sum Φ

/-! ## What the launch gives a device -/

def tokP (x : GSem nD τ sig × ℕ × ℕ) : sProp (MM F) := dutyTok ER x.1 x.2.1 x.2.2
def wtP (x : Key × ℕ) : sProp (MM F) := Release.writeTok ES x.1 (x.2 + 1)

/-- A device's share. -/
def devG (c : Dev nD) : sProp (MM F) :=
  iprop(atPos ER (gs c .bar) 0 ∅ 0 ∗ (bigSep Finset.univ fun t : Tok => tokP (tokOf (c, t))) ∗ (bigSep Finset.univ fun w : Wix => wtP (wOf (c, w)))
    ∗ (bigSep Finset.univ fun r : Rix => Release.readerAt ES (rOf (c, r)) 0) ∗ creds c)

/-- Its semaphores' beginnings. -/
def ownAt (c : Dev nD) : sProp (MM F) := bigSep Finset.univ fun o : Own => at_ c (ownK o) 0

theorem own_open (c : Dev nD) :
    iprop(ctx I K N ∗ (bigSep Finset.univ fun o : Own => openTok ER (gs c (ownK o))) ∗ bigSep Finset.univ fun o : Own => semVal (gs c (ownK o)) 0)
      ⊢ |={Set.univ}=> ownAt (F := F) c := by
  have h : ∀ o ∈ (Finset.univ : Finset Own), iprop(ctx I K N ∗ (openTok ER (gs c (ownK o)) ∗ semVal (gs c (ownK o)) 0)) ⊢ |={Set.univ}=> at_ (F := F) c (ownK o) 0 := by
    intro o _
    unfold at_
    iintro ⟨#Hctx, Ho, Hv⟩
    iapply (cell_open ER (Rd I) (g := gs c (ownK o)) (Set.mem_univ (K (c, ownK o))))
    isplitr; · iapply (ctx_cell c (ownK o)); iexact Hctx
    isplitl [Ho]; · iexact Ho
    iexact Hv
  unfold ownAt
  refine .trans ?_ (bigSep_fupd Finset.univ fun o : Own => at_ (F := F) c (ownK o) 0)
  rw [← bigSep_sep']
  exact bigSep_with_persistent h

/-- Each has started. -/
def started (c : Dev nD) : sProp (MM F) := bigSep Finset.univ fun o : Own => reached ER (gs c (ownK o)) 0
instance started_persistent (c : Dev nD) : BI.Persistent (started (F := F) c) := by unfold started; infer_instance
theorem started_get (c : Dev nD) (k : Kind) (h : k ≠ .bar) : started c ⊢ (reached ER (gs c k) 0 : sProp (MM F)) := by
  obtain ⟨o, rfl⟩ := ownK_all k h
  exact bigSep_elim (Finset.mem_univ o)
theorem own_started (c : Dev nD) : ownAt c ⊢ (started c : sProp (MM F)) := by
  unfold ownAt started at_
  exact bigSep_mono fun o _ => (show iprop(atPos ER (gs c (ownK o)) 0 ∅ 0 ∗ reached ER (gs c (ownK o)) 0) ⊢ (reached ER (gs c (ownK o)) 0 : sProp (MM F)) from by
    iintro ⟨-, H⟩; iexact H)

/-! ## A lane -/

/-- What a lane is given. -/
def laneG (c : Dev nD) (d sub : Fin 2) : sProp (MM F) :=
  iprop((bigSep Finset.univ fun i : Fin 5 => at_ c (ownK (.inl (d, sub, i))) 0)
    ∗ (bigSep Finset.univ fun g : Fin 62 => bigSep Finset.univ fun i : Fin 3 => tokP (tokOf (c, .inl (d, sub, g, i))))
    ∗ (bigSep Finset.univ fun g : Fin 62 => wtP (wOf (c, .inl (d, sub, g))))
    ∗ (bigSep Finset.univ fun sl : Fin 2 => Release.readerAt ES (key c d sub sl) 1)
    ∗ bigSep Finset.univ fun g : Fin 62 => bigSep Finset.univ fun i : Fin 2 =>
      cred (tallyAt (gs c (cOf (.inl (d, sub, g, i))).1) (cOf (.inl (d, sub, g, i))).2.val
        (launchCredit (Pipeline.owing O₀) 0 (gs c (cOf (.inl (d, sub, g, i))).1) (cOf (.inl (d, sub, g, i))).2.val)))

theorem lim_le (sub : Fin 2) : lim sub ≤ 62 := by revert sub; decide

theorem lane_toks (c : Dev nD) (d sub : Fin 2) :
    (bigSep Finset.univ fun g : Fin 62 => bigSep Finset.univ fun i : Fin 3 => tokP (F := F) (tokOf (c, .inl (d, sub, g, i))))
      ⊢ iprop((bigSep (Finset.Ico 0 (lim sub)) fun g => tS c d sub g) ∗ bigSep (Finset.Ico 0 62) fun g => tJ c d sub g) := by
  have h : ∀ g : Fin 62, (bigSep Finset.univ fun i : Fin 3 => tokP (F := F) (tokOf (c, .inl (d, sub, g, i)))) ⊢ iprop(tS c d sub g.val ∗ tJ c d sub g.val) := by
    intro g
    rw [big3]
    show iprop(dutyTok ER (gs c (.send d (par g) sub)) (g.val / 2) 0 ∗ dutyTok ER (gs (toD d c) (.recv d (par g) sub)) (g.val / 2) 0
      ∗ dutyTok ER (gs (froD d c) (.cred d sub)) 0 g.val) ⊢ (_ : sProp (MM F))
    unfold tS tJ
    iintro ⟨H0, H1, H2⟩
    isplitl [H0 H1]
    · isplitl [H0]; · iexact H0
      iexact H1
    iexact H2
  refine .trans (bigSep_mono fun g _ => h g) ?_
  rw [bigSep_sep']
  exact BI.sep_mono (fin_ico (lim_le sub) _) (fin_ico le_rfl _)

def cM (c : Dev nD) (d sub : Fin 2) (g : ℕ) : sProp (MM F) :=
  cred (tallyAt (gs c (.cred d sub)) g (launchCredit (Pipeline.owing O₀) 0 (gs c (.cred d sub)) g))
def cR (c : Dev nD) (d sub : Fin 2) (g : ℕ) : sProp (MM F) :=
  cred (tallyAt (gs c (.recv d (par g) sub)) g (launchCredit (Pipeline.owing O₀) 0 (gs c (.recv d (par g) sub)) g))

theorem lane_creds (c : Dev nD) (d sub : Fin 2) :
    (bigSep Finset.univ fun g : Fin 62 => bigSep Finset.univ fun i : Fin 2 =>
      (cred (tallyAt (gs c (cOf (.inl (d, sub, g, i))).1) (cOf (.inl (d, sub, g, i))).2.val
        (launchCredit (Pipeline.owing O₀) 0 (gs c (cOf (.inl (d, sub, g, i))).1) (cOf (.inl (d, sub, g, i))).2.val)) : sProp (MM F)))
      ⊢ iprop((bigSep (Finset.Ico 0 62) fun g => tM c d sub g) ∗ bigSep (Finset.Ico 0 (lim sub)) fun g => tR c d sub g) := by
  have hM : ∀ g : ℕ, g < 62 → cM (F := F) c d sub g ⊢ tM c d sub g := by
    intro g hg
    have hc := all_cred (toD d c) d sub g hg
    rw [fro_to] at hc
    exact cred_weaken _ _ _ _ (lc_ge c (toD d c) (.cred d sub) g 1 hc)
  have hR : ∀ g : ℕ, g < lim sub → cR (F := F) c d sub g ⊢ tR c d sub g := by
    intro g hg
    have hc := all_recv (froD d c) d sub g hg
    rw [to_fro] at hc
    exact cred_weaken _ _ _ _ (lc_ge c (froD d c) (.recv d (par g) sub) g _ hc)
  have h : ∀ g : Fin 62, (bigSep Finset.univ fun i : Fin 2 =>
      (cred (tallyAt (gs c (cOf (.inl (d, sub, g, i))).1) (cOf (.inl (d, sub, g, i))).2.val
        (launchCredit (Pipeline.owing O₀) 0 (gs c (cOf (.inl (d, sub, g, i))).1) (cOf (.inl (d, sub, g, i))).2.val)) : sProp (MM F)))
      ⊢ iprop(cM c d sub g.val ∗ cR c d sub g.val) :=
    fun g => by rw [big2]; simp only [cOf]; exact BI.Entails.refl _
  refine .trans (bigSep_mono fun g _ => h g) ?_
  rw [bigSep_sep']
  refine BI.sep_mono ((fin_ico (le_refl 62) (cM (F := F) c d sub)).trans ?_) ((fin_ico (lim_le sub) (cR (F := F) c d sub)).trans ?_)
  · exact bigSep_mono fun g hg => hM g (Finset.mem_Ico.mp hg).2
  · exact bigSep_mono fun g hg => hR g (Finset.mem_Ico.mp hg).2

theorem lane_start (c : Dev nD) (d sub : Fin 2) : laneG (F := F) c d sub ⊢ laneStart c d sub := by
  unfold laneG laneStart base cst toks
  rw [big5]
  iintro ⟨⟨Hc, Hs0, Hs1, Hr0, Hr1⟩, Ht, Hw, Hrd, Hcr⟩
  ihave Ht := (lane_toks (F := F) c d sub) $$ Ht
  icases Ht with ⟨HtS, HtJ⟩
  ihave Hcr := (lane_creds (F := F) c d sub) $$ Hcr
  icases Hcr with ⟨HtM, HtR⟩
  ihave Hw := (show (bigSep Finset.univ fun g : Fin 62 => wtP (F := F) (wOf (c, .inl (d, sub, g)))) ⊢ bigSep (Finset.Ico 0 62) fun g => tW c d sub g from
    fin_ico (F := F) (le_refl 62) fun g => tW c d sub g) $$ Hw
  ihave Hrd := (Entails.of_eq (big2 (fun sl : Fin 2 => (Release.readerAt ES (key c d sub sl) 1 : sProp (MM F))))) $$ Hrd
  icases Hrd with ⟨Hrd0, Hrd1⟩
  isplitl [Hs0 Hs1 Hr0 Hr1 Hrd0 Hrd1]
  · isplitl [Hs0]; · iexact Hs0
    isplitl [Hs1]; · iexact Hs1
    isplitl [Hr0]; · iexact Hr0
    isplitl [Hr1]; · iexact Hr1
    isplitl [Hrd0]; · iexact Hrd0
    iexact Hrd1
  isplitl [Hc]
  · iexists ∅
    isplitr; · ipureintro; exact ⟨Finset.empty_subset _, le_rfl⟩
    isplitl [Hc]
    · ihave Hc := (show at_ (F := F) c (ownK (.inl (d, sub, 0))) 0 ⊢ atPos ER (gs c (.cred d sub)) 0 ∅ 0 from by unfold at_; iintro ⟨H, -⟩; iexact H) $$ Hc
      iexact Hc
    rw [bigSep_empty]; iempintro
  isplitl [HtS]; · iexact HtS
  isplitl [Hw]; · iexact Hw
  isplitl [HtJ]; · iexact HtJ
  isplitl [HtM]; · iexact HtM
  iexact HtR

end Cert.Proof

end
-- ==== Proof.Start.lean ====
/-
  From what the launch gives a device, and its scratch arrays, to all that the kernel function starts with.
-/
module

public import proofs.«01_k».proof.Proof.Enter

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {I : Inp F} {K : Dev nD × Kind → ℕ} {N : Key → ℕ}

theorem nest {A : Type} [Fintype A] (Φ : Fin 2 × Fin 2 × A → sProp (MM F)) :
    bigSep Finset.univ Φ = bigSep Finset.univ fun d => bigSep Finset.univ fun sub => bigSep Finset.univ fun a => Φ (d, sub, a) := by
  rw [bigSep_univ_prod]
  exact bigSep_congr fun d _ => bigSep_univ_prod _
theorem nest2 {A B : Type} [Fintype A] [Fintype B] (Φ : Fin 2 × Fin 2 × A × B → sProp (MM F)) :
    bigSep Finset.univ Φ = bigSep Finset.univ fun d => bigSep Finset.univ fun sub => bigSep Finset.univ fun a => bigSep Finset.univ fun b => Φ (d, sub, a, b) := by
  rw [nest]
  exact bigSep_congr fun d _ => bigSep_congr fun sub _ => bigSep_univ_prod _
theorem pair22 (Φ Ψ : Fin 2 → Fin 2 → sProp (MM F)) :
    iprop((bigSep Finset.univ fun d => bigSep Finset.univ fun sub => Φ d sub) ∗ bigSep Finset.univ fun d => bigSep Finset.univ fun sub => Ψ d sub)
      ⊢ bigSep Finset.univ fun d => bigSep Finset.univ fun sub => iprop(Φ d sub ∗ Ψ d sub) := by
  refine .trans (Entails.of_eq (bigSep_sep' Finset.univ _ _).symm) (bigSep_mono fun d _ => ?_)
  exact Entails.of_eq (bigSep_sep' Finset.univ _ _).symm

theorem own_keep (c : Dev nD) : ownAt c ⊢ (iprop(ownAt c ∗ started c) : sProp (MM F)) := by
  unfold ownAt started
  rw [← bigSep_sep']
  refine bigSep_mono fun o _ => ?_
  unfold at_
  show iprop(atPos ER (gs c (ownK o)) 0 ∅ 0 ∗ reached ER (gs c (ownK o)) 0) ⊢ (_ : sProp (MM F))
  iintro ⟨H, #Hr⟩
  isplitl [H]
  · isplitl [H]; · iexact H
    iexact Hr
  iexact Hr

/-- The credits of the lanes. -/
def crd (c : Dev nD) (x : Cix) : sProp (MM F) :=
  cred (tallyAt (gs c (cOf x).1) (cOf x).2.val (launchCredit (Pipeline.owing O₀) 0 (gs c (cOf x).1) (cOf x).2.val))

theorem lanes_join (c : Dev nD) :
    iprop((bigSep Finset.univ fun x : Fin 2 × Fin 2 × Fin 5 => at_ c (ownK (.inl x)) 0)
      ∗ (bigSep Finset.univ fun x : Fin 2 × Fin 2 × Fin 62 × Fin 3 => tokP (tokOf (c, .inl x)))
      ∗ (bigSep Finset.univ fun x : Fin 2 × Fin 2 × Fin 62 => wtP (wOf (c, .inl x)))
      ∗ (bigSep Finset.univ fun x : Fin 2 × Fin 2 × Fin 2 => Release.readerAt ES (rOf (c, .inl x)) 1)
      ∗ bigSep Finset.univ fun x : Fin 2 × Fin 2 × Fin 62 × Fin 2 => crd c (.inl x))
      ⊢ (iprop((laneStart c 0 0 ∗ laneStart c 0 1) ∗ (laneStart c 1 0 ∗ laneStart c 1 1)) : sProp (MM F)) := by
  rw [nest, nest2, nest, nest, nest2]
  refine .trans (BI.sep_mono (BI.Entails.refl _) ((BI.sep_mono (BI.Entails.refl _) ((BI.sep_mono (BI.Entails.refl _) (pair22 _ _)).trans (pair22 _ _))).trans (pair22 _ _))) ?_
  refine .trans (pair22 _ _) ?_
  refine .trans (bigSep_mono fun d _ => bigSep_mono fun sub _ => ?_) (Entails.of_eq (big22 fun d sub => laneStart c d sub))
  exact lane_start c d sub

/-- All a device's landing slots. -/
theorem slots_all (c : Dev nD) : iprop(some_ c (recvM 0) ∗ some_ c (recvM 1) ∗ some_ c rbM)
    ⊢ (bigSep Finset.univ fun r : Rix => Sl (rOf (c, r)) : sProp (MM F)) := by
  have h : ∀ d : Fin 2, some_ c (recvM d) ⊢ (iprop((some_ c (half (recvM d) 0 0) ∗ some_ c (half (recvM d) 1 0)) ∗ (some_ c (half (recvM d) 0 1) ∗ some_ c (half (recvM d) 1 1))) : sProp (MM F)) := by
    intro d
    refine .trans (some_slots c (recvM d)) ?_
    iintro ⟨H0, H1⟩
    ihave H0 := (some_halves (F := F) c (recvM d) 0) $$ H0
    icases H0 with ⟨H00, H01⟩
    ihave H1 := (some_halves (F := F) c (recvM d) 1) $$ H1
    icases H1 with ⟨H10, H11⟩
    isplitl [H00 H10]
    · isplitl [H00]; · iexact H00
      iexact H10
    isplitl [H01]; · iexact H01
    iexact H11
  rw [sum_split, nest, big22, big2, big2, big2, big2]
  iintro ⟨H0, H1, Hr⟩
  isplitl [H0 H1]
  · isplitl [H0]
    · iapply (h 0); iexact H0
    · iapply (h 1); iexact H1
  iapply (some_rows (F := F) c); iexact Hr

/-- Handing all the landing slots over. -/
theorem give_all (c : Dev nD) :
    iprop(ctx I K N ∗ (bigSep Finset.univ fun r : Rix => Release.readerAt ES (rOf (c, r)) 0) ∗ bigSep Finset.univ fun r : Rix => Sl (rOf (c, r)))
      ⊢ |={Set.univ}=> (iprop((bigSep Finset.univ fun r : Rix => Release.readerAt ES (rOf (c, r)) 1) ∗ bigSep Finset.univ fun r : Rix => Release.released ES (rOf (c, r)) 1) : sProp (MM F)) := by
  rw [← bigSep_sep', ← bigSep_sep']
  refine .trans ?_ (bigSep_fupd Finset.univ _)
  refine bigSep_with_persistent fun r _ => ?_
  exact give_slot (rOf (c, r)) 0

/-- The start, as the neighbours are told of it. -/
theorem start_intro (c : Dev nD) : iprop(started c ∗ bigSep Finset.univ fun r : Rix => Release.released ES (rOf (c, r)) 1) ⊢ (startF c : sProp (MM F)) := by
  unfold startF
  have hr : ∀ r : Rix, (bigSep Finset.univ fun r : Rix => (Release.released ES (rOf (c, r)) 1 : sProp (MM F))) ⊢ Release.released ES (rOf (c, r)) 1 :=
    fun r => bigSep_elim (Finset.mem_univ r)
  iintro ⟨#Hs, #Hr⟩
  isplitr
  · iapply (show iprop(started c ∗ bigSep Finset.univ fun r : Rix => Release.released ES (rOf (c, r)) 1) ⊢ (bigSep Finset.univ fun p : Fin 2 × Fin 2 × Fin 2 =>
        iprop(Release.released ES (key c p.1 p.2.1 p.2.2) 1 ∗ reached ER (gs c (.recv p.1 p.2.2 p.2.1)) 0) : sProp (MM F)) from bigSep_intro_persistent fun p _ => by
      iintro ⟨#Hs, #Hr⟩
      isplitr
      · iapply (hr (.inl p)); iexact Hr
      iapply (started_get c (.recv p.1 p.2.2 p.2.1) (by simp)); iexact Hs)
    isplitr; · iexact Hs
    iexact Hr
  isplitr
  · iapply (show started c ⊢ (bigSep Finset.univ fun p : Fin 2 × Fin 2 => reached ER (gs c (.cred p.1 p.2)) 0 : sProp (MM F)) from
      bigSep_intro_persistent fun p _ => started_get c (.cred p.1 p.2) (by simp))
    iexact Hs
  iapply (show iprop(started c ∗ bigSep Finset.univ fun r : Rix => Release.released ES (rOf (c, r)) 1) ⊢ (bigSep Finset.univ fun k : Fin 5 =>
        iprop(Release.released ES (bkey c k) 1 ∗ reached ER (gs c (.brecv k)) 0) : sProp (MM F)) from bigSep_intro_persistent fun k _ => by
      iintro ⟨#Hs, #Hr⟩
      isplitr
      · iapply (hr (.inr k)); iexact Hr
      iapply (started_get c (.brecv k) (by simp)); iexact Hs)
  isplitr; · iexact Hs
  iexact Hr

/-- What a direction needs for its copies out. -/
theorem out_start (c : Dev nD) :
    iprop((bigSep Finset.univ fun d : Fin 2 => at_ c (ownK (.inr (.inl d))) 0)
      ∗ (bigSep Finset.univ fun p : Fin 2 × Fin 32 => tokP (tokOf (c, .inr (.inr (.inl p))))) ∗ some_ c outA)
      ⊢ (iprop(agO I c 0 0 ∗ agO I c 1 0) : sProp (MM F)) := by
  have e : ∀ d : Fin 2, iprop((bigSep Finset.univ fun t : Fin 32 => tokP (tokOf (c, .inr (.inr (.inl (d, t))))))
      ∗ bigSep Finset.univ fun t : Fin 32 => some_ c (outM d c t.val))
      ⊢ (bigSep (Finset.Ico 0 32) fun t => iprop(dutyTok ER (gs c (.out d)) t 0 ∗ some_ c (outM d c t)) : sProp (MM F)) := by
    intro d
    rw [← bigSep_sep']
    exact fin_ico (le_refl 32) fun t => iprop(dutyTok ER (gs c (.out d)) t 0 ∗ some_ c (outM d c t))
  unfold agO
  rw [big2, ico_emp le_rfl, ico_emp le_rfl]
  iintro ⟨⟨Ha0, Ha1⟩, Ht, Ho⟩
  ihave Ho := (some_tiles (F := F) c) $$ Ho
  ihave Ho := (Entails.of_eq ((bigSep_univ_prod fun p : Fin 2 × Fin 32 => (some_ c (outM p.1 c p.2.val) : sProp (MM F))).trans (big2 _))) $$ Ho
  ihave Ht := (Entails.of_eq ((bigSep_univ_prod fun p : Fin 2 × Fin 32 => (tokP (tokOf (c, .inr (.inr (.inl p)))) : sProp (MM F))).trans (big2 _))) $$ Ht
  icases Ho with ⟨Ho0, Ho1⟩
  icases Ht with ⟨Ht0, Ht1⟩
  isplitl [Ha0 Ho0 Ht0]
  · isplitl [Ha0]; · iexact Ha0
    isplitl [Ho0 Ht0]
    · iapply (e 0)
      isplitl [Ht0]; · iexact Ht0
      iexact Ho0
    iempintro
  isplitl [Ha1]; · iexact Ha1
  isplitl [Ho1 Ht1]
  · iapply (e 1)
    isplitl [Ht1]; · iexact Ht1
    iexact Ho1
  iempintro

/-- What the exchanges need. -/
theorem exch_start (c : Dev nD) :
    iprop((bigSep Finset.univ fun p : Fin 5 × Fin 2 => at_ c (ownK (.inr (.inr p))) 0)
      ∗ (bigSep Finset.univ fun p : Fin 5 × Fin 2 => tokP (tokOf (c, .inr (.inr (.inr p)))))
      ∗ (bigSep Finset.univ fun k : Fin 5 => wtP (wOf (c, .inr k)))
      ∗ bigSep Finset.univ fun k : Fin 5 => crd c (.inr (.inr k)))
      ⊢ (bigSep Finset.univ fun k : Fin 5 => bT c k : sProp (MM F)) := by
  rw [bigSep_univ_prod, bigSep_univ_prod, ← bigSep_sep', ← bigSep_sep', ← bigSep_sep']
  refine bigSep_mono fun k _ => ?_
  rw [big2, big2]
  have hc : crd c (.inr (.inr k)) ⊢ (cred (tallyAt (gs c (.brecv k)) 0 NB) : sProp (MM F)) := by
    have h := all_brecv (partner k c) k
    rw [partner_partner] at h
    unfold crd
    simp only [cOf]
    rw [show ((0 : Fin 62)).val = 0 from rfl]
    exact cred_weaken _ _ _ _ (lc_ge c (partner k c) (.brecv k) 0 NB h)
  unfold bT
  show (_ : sProp (MM F)) ⊢ _
  iintro ⟨⟨Ha0, Ha1⟩, ⟨Ht0, Ht1⟩, Hw, Hc⟩
  ihave Hc := hc $$ Hc
  isplitl [Ha0]; · iexact Ha0
  isplitl [Ha1]; · iexact Ha1
  isplitl [Ht0]
  · iapply (show tokP (tokOf (c, .inr (.inr (.inr (k, 0))))) ⊢ (dutyTok ER (gs c (.bsend k)) 0 0 : sProp (MM F)) from BI.Entails.refl _); iexact Ht0
  isplitl [Ht1]
  · iapply (show tokP (tokOf (c, .inr (.inr (.inr (k, 1))))) ⊢ (dutyTok ER (gs (partner k c) (.brecv k)) 0 0 : sProp (MM F)) from BI.Entails.refl _); iexact Ht1
  isplitl [Hw]
  · iapply (show wtP (wOf (c, .inr k)) ⊢ (Release.writeTok ES (bkey (partner k c) k) 1 : sProp (MM F)) from BI.Entails.refl _); iexact Hw
  iexact Hc

/-- What the barrier needs. -/
theorem bar_start (c : Dev nD) :
    iprop((reached ER (gs (toD 0 c) .bar) 0 ∗ reached ER (gs (toD 1 c) .bar) 0) ∗ (bigSep Finset.univ fun d : Fin 2 => tokP (tokOf (c, .inr (.inl d))))
      ∗ (bigSep Finset.univ fun k : Fin 1 => crd c (.inr (.inl k))) ∗ atPos ER (gs c .bar) 0 ∅ 0) ⊢ (barT c : sProp (MM F)) := by
  have hc : (bigSep Finset.univ fun k : Fin 1 => crd c (.inr (.inl k))) ⊢ (cred (tallyAt (gs c .bar) 0 2) : sProp (MM F)) := by
    refine .trans (bigSep_elim (Finset.mem_univ (0 : Fin 1))) ?_
    unfold crd
    simp only [cOf]
    rw [show ((0 : Fin 62)).val = 0 from rfl]
    exact cred_weaken _ _ _ _ (lc_bar c)
  unfold barT
  rw [big2]
  iintro ⟨⟨H0, H1⟩, ⟨Ht0, Ht1⟩, Hc, Ha⟩
  ihave Hc := hc $$ Hc
  isplitl [H0]; · iexact H0
  isplitl [H1]; · iexact H1
  isplitl [Ht0]
  · iapply (show tokP (tokOf (c, .inr (.inl 0))) ⊢ (dutyTok ER (gs (toD 0 c) .bar) 0 0 : sProp (MM F)) from BI.Entails.refl _); iexact Ht0
  isplitl [Ht1]
  · iapply (show tokP (tokOf (c, .inr (.inl 1))) ⊢ (dutyTok ER (gs (toD 1 c) .bar) 0 1 : sProp (MM F)) from BI.Entails.refl _); iexact Ht1
  isplitl [Hc]; · iexact Hc
  iexact Ha

/-- The scratch arrays. -/
def scr (c : Dev nD) : sProp (MM F) :=
  iprop(some_ c (accM 0) ∗ some_ c (recvM 0) ∗ some_ c (accM 1) ∗ some_ c (recvM 1) ∗ some_ c sbM ∗ some_ c rbM)

set_option maxHeartbeats 2000000 in
/-- All that the kernel function starts with. -/
theorem devT_intro (c : Dev nD) :
    iprop(ctx I K N ∗ (reached ER (gs (toD 0 c) .bar) 0 ∗ reached ER (gs (toD 1 c) .bar) 0) ∗ ownAt c ∗ devG c ∗ scr c ∗ some_ c outA)
      ⊢ |={Set.univ}=> (devT I c : sProp (MM F)) := by
  unfold devG scr devT dirT
  iintro ⟨#Hctx, Hb, Hown, ⟨Hbar, Ht, Hw, Hr, Hc⟩, ⟨Ha0, Hr0, Ha1, Hr1, Hsb, Hrb⟩, Ho⟩
  ihave Hown := (own_keep (F := F) c) $$ Hown
  icases Hown with ⟨Hown, #Hst⟩
  ihave Hsl := (slots_all (F := F) c) $$ [Hr0 Hr1 Hrb]
  · isplitl [Hr0]; · iexact Hr0
    isplitl [Hr1]; · iexact Hr1
    iexact Hrb
  imod (give_all (I := I) (K := K) (N := N) c) $$ [Hr Hsl] with ⟨Hr, #Hrel⟩
  · isplitr; · iexact Hctx
    isplitl [Hr]; · iexact Hr
    iexact Hsl
  imodintro
  ihave Hown := (show ownAt c ⊢ (iprop((bigSep Finset.univ fun x : Fin 2 × Fin 2 × Fin 5 => at_ c (ownK (.inl x)) 0)
      ∗ (bigSep Finset.univ fun d : Fin 2 => at_ c (ownK (.inr (.inl d))) 0) ∗ bigSep Finset.univ fun p : Fin 5 × Fin 2 => at_ c (ownK (.inr (.inr p))) 0) : sProp (MM F)) from by
    unfold ownAt; rw [sum_split, sum_split]) $$ Hown
  icases Hown with ⟨HoL, HoO, HoB⟩
  ihave Ht := (show (bigSep Finset.univ fun t : Tok => tokP (tokOf (c, t))) ⊢ (iprop((bigSep Finset.univ fun x : Fin 2 × Fin 2 × Fin 62 × Fin 3 => tokP (tokOf (c, .inl x)))
      ∗ (bigSep Finset.univ fun d : Fin 2 => tokP (tokOf (c, .inr (.inl d)))) ∗ (bigSep Finset.univ fun p : Fin 2 × Fin 32 => tokP (tokOf (c, .inr (.inr (.inl p)))))
      ∗ bigSep Finset.univ fun p : Fin 5 × Fin 2 => tokP (tokOf (c, .inr (.inr (.inr p))))) : sProp (MM F)) from by
    rw [sum_split, sum_split, sum_split]) $$ Ht
  icases Ht with ⟨HtL, HtR, HtO, HtB⟩
  ihave Hw := (Entails.of_eq (sum_split fun w : Wix => (wtP (wOf (c, w)) : sProp (MM F)))) $$ Hw
  icases Hw with ⟨HwL, HwB⟩
  ihave Hr := (show (bigSep Finset.univ fun r : Rix => Release.readerAt ES (rOf (c, r)) 1) ⊢ (bigSep Finset.univ fun x : Fin 2 × Fin 2 × Fin 2 => Release.readerAt ES (rOf (c, .inl x)) 1 : sProp (MM F)) from by
    rw [sum_split]; iintro ⟨H, -⟩; iexact H) $$ Hr
  ihave Hc := (show creds c ⊢ (iprop((bigSep Finset.univ fun x : Fin 2 × Fin 2 × Fin 62 × Fin 2 => crd c (.inl x)) ∗ (bigSep Finset.univ fun k : Fin 1 => crd c (.inr (.inl k)))
      ∗ bigSep Finset.univ fun k : Fin 5 => crd c (.inr (.inr k))) : sProp (MM F)) from by
    unfold creds crd; rw [sum_split, sum_split]) $$ Hc
  icases Hc with ⟨HcL, HcR, HcB⟩
  ihave HL := (lanes_join (F := F) c) $$ [HoL HtL HwL Hr HcL]
  · isplitl [HoL]; · iexact HoL
    isplitl [HtL]; · iexact HtL
    isplitl [HwL]; · iexact HwL
    isplitl [Hr]; · iexact Hr
    iexact HcL
  icases HL with ⟨⟨HL00, HL01⟩, ⟨HL10, HL11⟩⟩
  ihave HB := (exch_start (F := F) c) $$ [HoB HtB HwB HcB]
  · isplitl [HoB]; · iexact HoB
    isplitl [HtB]; · iexact HtB
    isplitl [HwB]; · iexact HwB
    iexact HcB
  ihave HO := (out_start (I := I) c) $$ [HoO HtO Ho]
  · isplitl [HoO]; · iexact HoO
    isplitl [HtO]; · iexact HtO
    iexact Ho
  icases HO with ⟨HO0, HO1⟩
  ihave Hbar := (bar_start (F := F) c) $$ [Hb HtR HcR Hbar]
  · isplitl [Hb]; · iexact Hb
    isplitl [HtR]; · iexact HtR
    isplitl [HcR]; · iexact HcR
    iexact Hbar
  ihave Ha0 := (some_slots (F := F) c (accM 0)) $$ Ha0
  icases Ha0 with ⟨Ha00, Ha01⟩
  ihave Ha1 := (some_slots (F := F) c (accM 1)) $$ Ha1
  icases Ha1 with ⟨Ha10, Ha11⟩
  isplitr
  · iapply (start_intro (F := F) c)
    isplitr; · iexact Hst
    iexact Hrel
  isplitl [Hbar]; · iexact Hbar
  isplitl [HL00 HL01 Ha00 Ha01]
  · isplitl [HL00]; · iexact HL00
    isplitl [HL01]; · iexact HL01
    isplitl [Ha00]; · iexact Ha00
    iexact Ha01
  isplitl [HL10 HL11 Ha10 Ha11]
  · isplitl [HL10]; · iexact HL10
    isplitl [HL11]; · iexact HL11
    isplitl [Ha10]; · iexact Ha10
    iexact Ha11
  isplitl [Hsb]; · iexact Hsb
  isplitl [HB]; · iexact HB
  isplitl [HO0]; · iexact HO0
  iexact HO1

end Cert.Proof

end
-- ==== Proof.Finish.lean ====
/-
  From all that the kernel function ends with, back to the arrays held whole and every semaphore at zero.
-/
module

public import proofs.«01_k».proof.Proof.Start

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]
variable {I : Inp F} {K : Dev nD × Kind → ℕ} {N : Key → ℕ}

/-- A semaphore past its last round. -/
def past (c : Dev nD) (k : Kind) : sProp (MM F) := iprop(∃ r : ℕ, ⌜lastR k ≤ r⌝ ∗ atPos ER (gs c k) r ∅ 0)

omit [∀ e, Nonempty (Elt F e)] in
theorem past_of (c : Dev nD) (k : Kind) (r : ℕ) (h : lastR k ≤ r) : at_ c k r ⊢ (past c k : sProp (MM F)) := by
  unfold past at_
  iintro ⟨H, -⟩
  iexists r
  isplitr; · ipureintro; exact h
  iexact H

omit [∀ e, Nonempty (Elt F e)] in
theorem past_close (c : Dev nD) (k : Kind) : iprop(ctx I K N ∗ past c k) ⊢ |={Set.univ}=> (semVal (gs c k) 0 : sProp (MM F)) := by
  unfold past
  iintro ⟨#Hctx, ⟨%r, %hr, H⟩⟩
  iapply (cell_close ER (Rd I) (g := gs c k) (Set.mem_univ (K (c, k))) id (R := r) fun r' h => Rd_later I c k r' (le_trans hr h))
  isplitr; · iapply (ctx_cell c k); iexact Hctx
  iexact H

omit [∀ e, Nonempty (Elt F e)] in
theorem own_close (c : Dev nD) : iprop(ctx I K N ∗ bigSep Finset.univ fun o : Own => past c (ownK o))
    ⊢ |={Set.univ}=> (bigSep Finset.univ fun o : Own => semVal (gs c (ownK o)) 0 : sProp (MM F)) := by
  refine .trans ?_ (bigSep_fupd Finset.univ _)
  exact bigSep_with_persistent fun o _ => past_close c (ownK o)

theorem last_send (d sl sub : Fin 2) (r : ℕ) (h : (lim sub + 1 - sl.val) / 2 ≤ r) : lastR (.send d sl sub) ≤ r := h
theorem last_recv (d sl sub : Fin 2) (r : ℕ) (h : (lim sub + 1 - sl.val) / 2 ≤ r) : lastR (.recv d sl sub) ≤ r := h

omit [∀ e, Nonempty (Elt F e)] in
/-- A lane's semaphores. -/
theorem lane_past (c : Dev nD) (d sub : Fin 2) : iprop(atPos ER (gs c (.cred d sub)) 1 ∅ 0 ∗ posn c d sub (lim sub))
    ⊢ (bigSep Finset.univ fun i : Fin 5 => past c (ownK (.inl (d, sub, i))) : sProp (MM F)) := by
  rw [big5]
  have hc : atPos ER (gs c (.cred d sub)) 1 ∅ 0 ⊢ (past c (.cred d sub) : sProp (MM F)) := by
    unfold past; iintro H; iexists 1; isplitr; · ipureintro; exact le_rfl
    iexact H
  unfold posn
  iintro ⟨Hc, Hs, Hs', Hr, Hr'⟩
  isplitl [Hc]; · iapply hc; iexact Hc
  fin_cases sub
  · isplitl [Hs]; · iapply (past_of (F := F) c (.send d 0 0) 31 (last_send d 0 0 31 (by decide))); iexact Hs
    isplitl [Hs']; · iapply (past_of (F := F) c (.send d 1 0) 31 (last_send d 1 0 31 (by decide))); iexact Hs'
    isplitl [Hr]; · iapply (past_of (F := F) c (.recv d 0 0) 31 (last_recv d 0 0 31 (by decide))); iexact Hr
    iapply (past_of (F := F) c (.recv d 1 0) 31 (last_recv d 1 0 31 (by decide))); iexact Hr'
  · isplitl [Hs']; · iapply (past_of (F := F) c (.send d 0 1) 16 (last_send d 0 1 16 (by decide))); iexact Hs'
    isplitl [Hs]; · iapply (past_of (F := F) c (.send d 1 1) 15 (last_send d 1 1 15 (by decide))); iexact Hs
    isplitl [Hr']; · iapply (past_of (F := F) c (.recv d 0 1) 16 (last_recv d 0 1 16 (by decide))); iexact Hr'
    iapply (past_of (F := F) c (.recv d 1 1) 15 (last_recv d 1 1 15 (by decide))); iexact Hr

/-- What a direction leaves. -/
theorem dirE_out (c : Dev nD) (d : Fin 2) : dirE I c d ⊢
    (iprop((bigSep Finset.univ fun sub : Fin 2 => bigSep Finset.univ fun i : Fin 5 => past c (ownK (.inl (d, sub, i)))) ∗ past c (.out d)
      ∗ (bigSep Finset.univ fun t : Fin 32 => owns (c : Thread nD τ) (outM d c t.val) fullShare (agV I d t.val c)) ∗ some_ c (recvM d) ∗ some_ c (accM d)) : sProp (MM F)) := by
  unfold dirE agFin agO
  rw [big2]
  iintro ⟨⟨Hp0, Hc0, Hc1, ⟨Hat, -, Ho⟩, Hr0, Hr1⟩, Hp1, Ha0, Ha1⟩
  isplitl [Hp0 Hc0 Hp1 Hc1]
  · isplitl [Hp0 Hc0]
    · iapply (lane_past (F := F) c d 0)
      isplitl [Hc0]; · iexact Hc0
      iexact Hp0
    iapply (lane_past (F := F) c d 1)
    isplitl [Hc1]; · iexact Hc1
    iexact Hp1
  isplitl [Hat]; · iapply (past_of (F := F) c (.out d) 32 le_rfl); iexact Hat
  isplitl [Ho]
  · iapply (show (bigSep (Finset.Ico 0 32) fun t => owns (c : Thread nD τ) (outM d c t) fullShare (agV I d t c))
        ⊢ (bigSep Finset.univ fun t : Fin 32 => owns (c : Thread nD τ) (outM d c t.val) fullShare (agV I d t.val c) : sProp (MM F)) from
      take (fun t : Fin 32 => t.val) Fin.val_injective (Finset.Ico 0 32) (fun t => Finset.mem_Ico.mpr ⟨Nat.zero_le _, t.isLt⟩)
        fun t => owns (c : Thread nD τ) (outM d c t) fullShare (agV I d t c))
    iexact Ho
  isplitl [Hr0 Hr1]
  · iapply (slots_some (F := F) c (recvM d))
    isplitl [Hr0]; · iexact Hr0
    iexact Hr1
  iapply (slots_some (F := F) c (accM d))
  isplitl [Ha0]; · iexact Ha0
  iexact Ha1

/-- What the exchanges leave. -/
theorem exch_out (c : Dev nD) : (bigSep Finset.univ fun k : Fin 5 => bE c k) ⊢
    (iprop((bigSep Finset.univ fun p : Fin 5 × Fin 2 => past c (ownK (.inr (.inr p)))) ∗ some_ c rbM) : sProp (MM F)) := by
  have h : ∀ k : Fin 5, bE c k ⊢ (iprop((bigSep Finset.univ fun i : Fin 2 => past c (ownK (.inr (.inr (k, i))))) ∗ some_ c (rbufV rbM k)) : sProp (MM F)) := by
    intro k
    unfold bE
    rw [big2]
    iintro ⟨H0, H1, H2⟩
    isplitl [H0 H1]
    · isplitl [H0]; · iapply (past_of (F := F) c (.bsend k) 1 le_rfl); iexact H0
      iapply (past_of (F := F) c (.brecv k) 1 le_rfl); iexact H1
    iexact H2
  refine .trans (bigSep_mono fun k _ => h k) ?_
  rw [bigSep_sep', bigSep_univ_prod]
  exact BI.sep_mono (BI.Entails.refl _) (rows_some c)

omit [∀ e, Nonempty (Elt F e)] in
theorem own_gather (c : Dev nD) :
    iprop(((bigSep Finset.univ fun sub : Fin 2 => bigSep Finset.univ fun i : Fin 5 => past c (ownK (.inl (0, sub, i))))
        ∗ bigSep Finset.univ fun sub : Fin 2 => bigSep Finset.univ fun i : Fin 5 => past c (ownK (.inl (1, sub, i))))
      ∗ (past c (.out 0) ∗ past c (.out 1)) ∗ bigSep Finset.univ fun p : Fin 5 × Fin 2 => past c (ownK (.inr (.inr p))))
      ⊢ (bigSep Finset.univ fun o : Own => past c (ownK o) : sProp (MM F)) := by
  rw [sum_split, sum_split, nest]
  exact BI.sep_mono (Entails.of_eq (big2 (F := F) (fun d : Fin 2 => bigSep Finset.univ fun sub : Fin 2 => bigSep Finset.univ fun i : Fin 5 =>
      past c (ownK (.inl (d, sub, i))))).symm)
    (BI.sep_mono (Entails.of_eq (big2 (F := F) (fun d : Fin 2 => past c (ownK (.inr (.inl d))))).symm) (BI.Entails.refl _))

theorem tiles_join (I : Inp F) (c : Dev nD) :
    iprop((bigSep Finset.univ fun t : Fin 32 => owns (c : Thread nD τ) (outM 0 c t.val) fullShare (agV I 0 t.val c))
      ∗ bigSep Finset.univ fun t : Fin 32 => owns (c : Thread nD τ) (outM 1 c t.val) fullShare (agV I 1 t.val c))
      ⊢ (owns (c : Thread nD τ) outA fullShare (outV I) : sProp (MM F)) := by
  refine .trans ?_ (tiles_out I c)
  rw [bigSep_univ_prod, big2]

/-- All that the kernel leaves. -/
theorem devE_out (c : Dev nD) : iprop(ctx I K N ∗ devE I c)
    ⊢ |={Set.univ}=> (iprop(scr c ∗ owns (c : Thread nD τ) outA fullShare (outV I) ∗ (bigSep Finset.univ fun o : Own => semVal (gs c (ownK o)) 0)
      ∗ semVal (gs c .bar) 0) : sProp (MM F)) := by
  unfold devE scr
  iintro ⟨#Hctx, Hb, H0, H1, Hsb, HB⟩
  ihave H0 := (dirE_out (I := I) c 0) $$ H0
  icases H0 with ⟨HL0, HO0, Ho0, Hr0, Ha0⟩
  ihave H1 := (dirE_out (I := I) c 1) $$ H1
  icases H1 with ⟨HL1, HO1, Ho1, Hr1, Ha1⟩
  ihave HB := (exch_out (F := F) c) $$ HB
  icases HB with ⟨HB, Hrb⟩
  imod (past_close (I := I) (K := K) (N := N) c .bar) $$ [Hb] with Hb
  · isplitr; · iexact Hctx
    unfold past; iexists 1; isplitr; · ipureintro; exact le_rfl
    iexact Hb
  imod (own_close (I := I) (K := K) (N := N) c) $$ [HL0 HL1 HO0 HO1 HB] with Hs
  · isplitr; · iexact Hctx
    iapply (own_gather (F := F) c)
    isplitl [HL0 HL1]
    · isplitl [HL0]; · iexact HL0
      iexact HL1
    isplitl [HO0 HO1]
    · isplitl [HO0]; · iexact HO0
      iexact HO1
    iexact HB
  imodintro
  isplitl [Ha0 Hr0 Ha1 Hr1 Hsb Hrb]
  · isplitl [Ha0]; · iexact Ha0
    isplitl [Hr0]; · iexact Hr0
    isplitl [Ha1]; · iexact Ha1
    isplitl [Hr1]; · iexact Hr1
    isplitl [Hsb]; · iexact Hsb
    iexact Hrb
  isplitl [Ho0 Ho1]
  · iapply (tiles_join (F := F) I c)
    isplitl [Ho0]; · iexact Ho0
    iexact Ho1
  isplitl [Hs]; · iexact Hs
  iexact Hb

end Cert.Proof

end
-- ==== Proof.Host.lean ====
/-
  What the host gives the kernel.
-/
module

public import proofs.«01_k».proof.Proof.Finish
public import proofs.«01_k».proof.Proof.Gen.KernelIdeal.Regions
public import Idealize.ShloMosaic.Lib.StableHlo.Run
public import Idealize.ShloMosaic.Lib.Claim

@[expose] public section

noncomputable section

namespace Cert.Proof

open Idealize.ShloMosaic Idealize.ShloMosaic.TcCoe Idealize.SL.Sem
open Cert.KernelIdeal Cert.KernelIdeal.Facts₀

variable {F : FTy → Type} [FloatOps F]
variable (m : (ℓ : Loc nD τ sig) → Buf (Elt F) ℓ)

/-! # What the host gives the kernel

Before the kernel, the host looks up a device's place in the ring and its neighbours in three tables. -/

/-- The arrays as the kernel finds them. -/
@[irreducible] def Vh (c : Dev nD) : Valuation τ sig (Elt F) := Gen.V1 m c
theorem Vh_eq (c : Dev nD) : Vh m c = Gen.V1 m c := by unfold Vh; rfl

/-- A device's place. -/
theorem host_r (c : Dev nD) : Vh m c main_v10 = fun _ => (wR c : Elt F .i32) := by
  rw [Vh_eq]
  funext x
  fin_cases c <;> chain_rfl
/-- The next device. -/
theorem host_n (c : Dev nD) : Vh m c main_v16 = fun _ => (wN c : Elt F .i32) := by
  rw [Vh_eq]
  funext x
  fin_cases c <;> chain_rfl
/-- The device before. -/
theorem host_p (c : Dev nD) : Vh m c main_v22 = fun _ => (wP c : Elt F .i32) := by
  rw [Vh_eq]
  funext x
  fin_cases c <;> chain_rfl
/-- The ring. -/
theorem host_ring (c : Dev nD) : Vh m c main_c_2 = fun i => (BitVec.ofNat 32 (ringT (i 0)).val : Elt F .i32) := by
  rw [Vh_eq]
  unfold_abbrev_sides
  after_results
  funext i
  have h : ∀ j : Fin 32, lit3 j = BitVec.ofNat 32 (ringT j).val := by decide +kernel
  have e : S32.rowMajor i = i 0 := by
    apply Fin.ext
    show (Shape.rankPi ![32] i : ℕ) = _
    simp [Shape.rankPi, Shape.prodPi]
  show lit3 (S32.rowMajor i) = _
  rw [e]; exact h _
theorem host_x (c : Dev nD) : Vh m c main_arg0 = m ((c : Thread nD τ).loc main_arg0) := (congrFun (Vh_eq m c) _).trans <| (Gen.V1_of m c main_arg0 (by decide)).trans rfl
theorem host_w (c : Dev nD) : Vh m c main_arg1 = m ((c : Thread nD τ).loc main_arg1) := (congrFun (Vh_eq m c) _).trans <| (Gen.V1_of m c main_arg1 (by decide)).trans rfl

end Cert.Proof
-- ==== Proof.LoopEq.lean ====
/-
  The printed kernel function and its loop form are one program.
-/
module

public import proofs.«01_k».proof.Proof.Loop

@[expose] public section

noncomputable section

namespace Cert.Proof

open Cert.KernelIdeal Cert.KernelIdeal.Facts₀
open Idealize.ShloMosaic Idealize.ShloMosaic.TcCoe Idealize.SL.Sem

variable {F : FTy → Type} [FloatOps F]

/-- The printed function is its loop form. -/
theorem body_eq (arg0 : Memref sig .tc .vmem S4096x128 .f32) (harg0 : arg0.IsWhole) (arg1 : Memref sig .tc .vmem S128x8192 .f32) (harg1 : arg1.IsWhole)
    (arg2 : Memref sig .tc .smem S1 .i32) (harg2 : arg2.IsWhole) (arg3 : Memref sig .tc .smem S1 .i32) (harg3 : arg3.IsWhole)
    (arg4 : Memref sig .tc .smem S1 .i32) (harg4 : arg4.IsWhole) (arg5 : Memref sig .tc .smem S32 .i32) (harg5 : arg5.IsWhole)
    (arg6 : Memref sig .tc .hbm S4096x8192 .f32) (harg6 : arg6.IsWhole)
    (arg7 : Memref sig .tc .vmem S2x128x4096 .f32) (harg7 : arg7.IsWhole) (arg8 : Memref sig .tc .vmem S2x128x4096 .f32) (harg8 : arg8.IsWhole)
    (arg9 : Memref sig .tc .vmem S2x128x4096 .f32) (harg9 : arg9.IsWhole) (arg10 : Memref sig .tc .vmem S2x128x4096 .f32) (harg10 : arg10.IsWhole)
    (arg11 arg12 : DmaSems sig S2x2) (arg13 : DmaSems sig S_) (arg14 : Sems sig S2)
    (arg15 arg16 : DmaSems sig S2x2) (arg17 : DmaSems sig S_) (arg18 : Sems sig S2)
    (arg19 : Memref sig .tc .vmem S8x128 .f32) (harg19 : arg19.IsWhole) (arg20 : Memref sig .tc .vmem S5x8x128 .f32) (harg20 : arg20.IsWhole)
    (arg21 arg22 : DmaSems sig S5) :
    cc0__body (F := F) arg0 harg0 arg1 harg1 arg2 harg2 arg3 harg3 arg4 harg4 arg5 harg5 arg6 harg6 arg7 harg7 arg8 harg8
        arg9 harg9 arg10 harg10 arg11 arg12 arg13 arg14 arg15 arg16 arg17 arg18 arg19 harg19 arg20 harg20 arg21 arg22
      = loopForm arg0 arg1 arg2 arg3 arg4 arg5 arg6 arg7 arg8 arg9 arg10 arg11 arg12 arg13 arg14 arg15 arg16 arg17 arg18
          arg19 harg19 arg20 arg21 arg22 := by
  chain_rfl

end Cert.Proof

end
-- ==== Proof.Region.lean ====
/-
  The kernel's region: its windows, what its one grid point starts from and leaves, and the region's record.
-/
module

public import proofs.«01_k».proof.Proof.Host
public import proofs.«01_k».proof.Proof.LoopEq
public import Idealize.ShloMosaic.Lib.Pipeline.RegionTalk

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]
variable (m : (ℓ : Loc nD τ sig) → Buf (Elt F) ℓ)

/-- The arguments in memory. -/
def inp : Inp F := ⟨fun c => m ((c : Thread nD τ).loc main_arg0), fun c => m ((c : Thread nD τ).loc main_arg1)⟩

/-- The kernel's own semaphores. -/
abbrev osem : Own → SemLoc sig := fun o => loc (ownK o)

/-- The output's array at a valuation. -/
def outPts (c : Dev nD) (f : S4096x8192.Idx → Elt F .f32) : sProp (MM F) := ((c : Thread nD τ).loc main_v23) ↦{fullShare} f

def Tk (c : Dev nD) : sProp (MM F) :=
  iprop((∃ K N, ctx (inp m) K N) ∗ (reached ER (gs (toD 0 c) .bar) 0 ∗ reached ER (gs (toD 1 c) .bar) 0)
    ∗ (bigSep Finset.univ fun o : Own => openTok ER (gs c (ownK o))) ∗ devG c)
def Xk (c : Dev nD) : sProp (MM F) :=
  iprop((∃ K N, ctx (inp m) K N) ∗ (reached ER (gs (toD 0 c) .bar) 0 ∗ reached ER (gs (toD 1 c) .bar) 0) ∗ ownAt c ∗ devG c)
def Yk (c : Dev nD) : sProp (MM F) := semVal (gs c .bar) 0

/-- What the grid point starts from. -/
def Φ₀ (c : Dev nD) : sProp (MM F) :=
  iprop(Pipeline.scopedRest spec0 c ∗ (∃ r, prngReg c r) ∗ outPts c (Vh m c main_v23) ∗ Xk m c)
/-- What it leaves. -/
def Φ₁ (c : Dev nD) : sProp (MM F) :=
  iprop(Pipeline.scopedRest spec0 c ∗ (∃ r, prngReg c r) ∗ outPts c (outV (inp m)) ∗ Pipeline.ownSems0 osem c ∗ Yk c)

/-- What a staging buffer holds. -/
def stg (c : Dev nD) : (w : Fin 6) → (win0 w).block.Idx → Elt F (win0 w).elt
  | 0 => (inp m).X c
  | 1 => (inp m).W c
  | 2 => fun _ => (wR c : Elt F .i32)
  | 3 => fun _ => (wN c : Elt F .i32)
  | 4 => fun _ => (wP c : Elt F .i32)
  | 5 => fun i : S32.Idx => (BitVec.ofNat 32 (ringT (i 0)).val : Elt F .i32)
  | ⟨_ + 6, h⟩ => absurd h (Nat.not_lt.2 (Nat.le_add_left _ _))

def dat (c : Dev nD) : Dat τ (Elt F) ℕ ℕ UU ℕ cfg0 c where
  A w := Vh m c ((cfg0.win w).arr.view.loc (c : Thread nD τ)).2
  after w _ := stg m c w
  Φ t := if t.val = 0 then Φ₀ m c else Φ₁ m c
  q _ := fullShare
  owed t := if t.val = 0 then O₀ c else 0

def pdats : (p : Fin 1) → (c : Dev nD) → Dat τ (Elt F) ℕ ℕ UU ℕ (Pipeline.pin (pcfgs (F := F)) Gen.adm p) c := fun _ => dat m

theorem N_fin : (Fin.last cfg0.N).val ≠ 0 := by rw [Fin.val_last, show cfg0.N = 1 from Gen.N_0]; decide
theorem owed_eq (c : Dev nD) (t : Fin (cfg0.N + 1)) : (dat m c).owed t = if t.val = 0 then O₀ c else 0 := rfl
theorem Φ_eq (c : Dev nD) (t : Fin (cfg0.N + 1)) : (dat m c).Φ t = if t.val = 0 then Φ₀ m c else Φ₁ m c := rfl
theorem owed_first (c : Dev nD) (t : Fin (cfg0.N + 1)) (h : t.val = 0) : (dat m c).owed t = O₀ c := by rw [owed_eq, if_pos h]
theorem owed_last (c : Dev nD) (t : Fin (cfg0.N + 1)) (h : t.val ≠ 0) : (dat m c).owed t = 0 := by rw [owed_eq, if_neg h]
theorem Φ_first (c : Dev nD) (t : Fin (cfg0.N + 1)) (h : t.val = 0) : (dat m c).Φ t = Φ₀ m c := by rw [Φ_eq, if_pos h]
theorem Φ_last (c : Dev nD) (t : Fin (cfg0.N + 1)) (h : t.val ≠ 0) : (dat m c).Φ t = Φ₁ m c := by rw [Φ_eq, if_neg h]

theorem owesAt_intro (c : Dev nD) (t : Fin (cfg0.N + 1)) (O : CellTallies nD τ sig ℕ) (h0 : (dat m c).owed t = O) :
    iprop(∃ W, owes (c : Thread nD τ) O W) ⊢ ((dat m c).owesAt 0 t : sProp (MM F)) := by
  unfold Dat.owesAt Pipeline.owesWithin Dat.bound; rw [h0, show (dat m c).recorded t = Set.univ from rfl]
  iintro ⟨%W, HO⟩; iexists W; isplitr; · ipureintro; exact fun _ _ => Or.inl trivial
  iexact HO
theorem owesAt_elim (c : Dev nD) (t : Fin (cfg0.N + 1)) (O : CellTallies nD τ sig ℕ) (h0 : (dat m c).owed t = O) :
    ((dat m c).owesAt 0 t : sProp (MM F)) ⊢ iprop(∃ W, owes (c : Thread nD τ) O W) := by
  unfold Dat.owesAt Pipeline.owesWithin; rw [h0]
  iintro ⟨%W, -, HO⟩; iexists W; iexact HO

/-! The launch's contents reach the staging buffers. -/

theorem fetched_0 (c : Dev nD) (d) : (dat m c).fetched 0 Gen.t0_0 d = stg m c 0 := by
  have e : ∀ j, (win0_0.blk Gen.t0_0).view.emb j = j := fun j => by
    funext a; apply Fin.ext; show 0 * _ + 1 * (j a).val = (j a).val; omega
  show (fun j => Vh m c main_arg0 ((win0_0.blk Gen.t0_0).view.emb j)) = _
  rw [host_x]; exact funext fun j => congrArg _ (e j)
theorem fetched_1 (c : Dev nD) (d) : (dat m c).fetched 1 Gen.t0_0 d = stg m c 1 := by
  have e : ∀ j, (win0_1.blk Gen.t0_0).view.emb j = j := fun j => by
    funext a; apply Fin.ext; show 0 * _ + 1 * (j a).val = (j a).val; omega
  show (fun j => Vh m c main_arg1 ((win0_1.blk Gen.t0_0).view.emb j)) = _
  rw [host_w]; exact funext fun j => congrArg _ (e j)
theorem fetched_2 (c : Dev nD) (d) : (dat m c).fetched 2 Gen.t0_0 d = stg m c 2 := by
  show (fun j => Vh m c main_v10 ((win0_2.blk Gen.t0_0).view.emb j)) = _
  exact funext fun j => congrFun (host_r m c) _
theorem fetched_3 (c : Dev nD) (d) : (dat m c).fetched 3 Gen.t0_0 d = stg m c 3 := by
  show (fun j => Vh m c main_v16 ((win0_3.blk Gen.t0_0).view.emb j)) = _
  exact funext fun j => congrFun (host_n m c) _
theorem fetched_4 (c : Dev nD) (d) : (dat m c).fetched 4 Gen.t0_0 d = stg m c 4 := by
  show (fun j => Vh m c main_v22 ((win0_4.blk Gen.t0_0).view.emb j)) = _
  exact funext fun j => congrFun (host_p m c) _
theorem fetched_5 (c : Dev nD) (d) : (dat m c).fetched 5 Gen.t0_0 d = stg m c 5 := by
  have e : ∀ j, (win0_5.blk Gen.t0_0).view.emb j = j := fun j => by
    funext a; apply Fin.ext; show 0 * _ + 1 * (j a).val = (j a).val; omega
  show (fun j => Vh m c main_c_2 ((win0_5.blk Gen.t0_0).view.emb j)) = _
  exact funext fun j => (congrFun (host_ring m c) _).trans (congrArg (fun i : S32.Idx => (BitVec.ofNat 32 (ringT (i 0)).val : Elt F .i32)) (e j))

theorem before_fetched (c : Dev nD) (w : Fin 6) (d) : (dat m c).before w Gen.t0_0 d = (dat m c).fetched w Gen.t0_0 d := by
  have hf : (cfg0.win w).fetch Gen.t0_0 = true := by clear d; revert w; decide
  unfold Dat.before
  rw [if_pos hf]

/-- The scratch buffers. -/
theorem scr_in (c : Dev nD) : (Pipeline.scopedRest spec0 c : sProp (MM F)) ⊢ scr c := by
  rw [Gen.scopedRest0_eq]
  unfold scr
  iintro ⟨H0, H1, H2, H3, H4, H5⟩
  isplitl [H0]; · iapply (some_whole (F := F) c cc0_scratch0 _ rfl); iexact H0
  isplitl [H1]; · iapply (some_whole (F := F) c cc0_scratch1 _ rfl); iexact H1
  isplitl [H2]; · iapply (some_whole (F := F) c cc0_scratch2 _ rfl); iexact H2
  isplitl [H3]; · iapply (some_whole (F := F) c cc0_scratch3 _ rfl); iexact H3
  isplitl [H4]; · iapply (some_whole (F := F) c cc0_scratch12 _ rfl); iexact H4
  iapply (some_whole (F := F) c cc0_scratch13 _ rfl); iexact H5
theorem whole_some (c : Dev nD) (b : Ref sig .tc) (m : Memref sig .tc b.1 b.ty.shape b.ty.elt) (hm : m = Memref.whole b) :
    some_ c m ⊢ (iprop(∃ f, (((c : Thread nD τ)).loc b) ↦{fullShare} f) : sProp (MM F)) := by
  subst hm
  unfold some_
  iintro ⟨%f, H⟩
  iexists f
  rw [owns_whole]
  exact BI.Entails.refl _
theorem scr_out (c : Dev nD) : scr c ⊢ (Pipeline.scopedRest spec0 c : sProp (MM F)) := by
  rw [Gen.scopedRest0_eq]
  unfold scr
  iintro ⟨H0, H1, H2, H3, H4, H5⟩
  isplitl [H0]; · iapply (whole_some (F := F) c cc0_scratch0 _ rfl); iexact H0
  isplitl [H1]; · iapply (whole_some (F := F) c cc0_scratch1 _ rfl); iexact H1
  isplitl [H2]; · iapply (whole_some (F := F) c cc0_scratch2 _ rfl); iexact H2
  isplitl [H3]; · iapply (whole_some (F := F) c cc0_scratch3 _ rfl); iexact H3
  isplitl [H4]; · iapply (whole_some (F := F) c cc0_scratch12 _ rfl); iexact H4
  iapply (whole_some (F := F) c cc0_scratch13 _ rfl); iexact H5

abbrev xM : Memref sig .tc .vmem S4096x128 .f32 := Memref.whole cc0_stg0_0
abbrev wM : Memref sig .tc .vmem S128x8192 .f32 := Memref.whole cc0_stg1_0
abbrev i2M : Memref sig .tc .smem S1 .i32 := Memref.whole cc0_stg2_0
abbrev i3M : Memref sig .tc .smem S1 .i32 := Memref.whole cc0_stg3_0
abbrev i4M : Memref sig .tc .smem S1 .i32 := Memref.whole cc0_stg4_0
abbrev rgM : Memref sig .tc .smem S32 .i32 := Memref.whole cc0_stg5_0

/-- The kernel function on its staging buffers. -/
def prog : P F :=
  loopForm xM wM i2M i3M i4M rgM outA (accM 0) (recvM 0) (accM 1) (recvM 1) (ssM 0) (rsM 0) (osM 0) (crM 0) (ssM 1) (rsM 1) (osM 1) (crM 1)
    sbM (Memref.isWhole_whole _) rbM cc0_scratch14 cc0_scratch15

theorem label_eq (s) (t) : defs₀ (F := F) .tc 0 (t, s)
    = loopForm (win0_0.stage (s 0)) (win0_1.stage (s 1)) (win0_2.stage (s 2)) (win0_3.stage (s 3)) (win0_4.stage (s 4)) (win0_5.stage (s 5))
      (Memref.whole main_v23) (Memref.whole cc0_scratch0) (Memref.whole cc0_scratch1) (Memref.whole cc0_scratch2) (Memref.whole cc0_scratch3)
      cc0_scratch4 cc0_scratch5 cc0_scratch6 cc0_scratch7 cc0_scratch8 cc0_scratch9 cc0_scratch10 cc0_scratch11
      (Memref.whole cc0_scratch12) (Memref.isWhole_whole _) (Memref.whole cc0_scratch13) cc0_scratch14 cc0_scratch15 :=
  body_eq ..

theorem prog_eq : defs₀ (F := F) .tc cfg0.body (cfg0.bodyArgs Gen.t0_0 (cfg0.slots Gen.t0_0)) = prog := label_eq _ _

/-- The staging buffers. -/
def stgs (c : Dev nD) : sProp (MM F) :=
  iprop(owns (c : Thread nD τ) xM fullShare (stg m c 0) ∗ owns (c : Thread nD τ) wM fullShare (stg m c 1)
    ∗ owns (c : Thread nD τ) i2M fullShare (stg m c 2) ∗ owns (c : Thread nD τ) i3M fullShare (stg m c 3)
    ∗ owns (c : Thread nD τ) i4M fullShare (stg m c 4) ∗ owns (c : Thread nD τ) rgM fullShare (stg m c 5))

omit [∀ e, Nonempty (Elt F e)] in
theorem outPts_of (c : Dev nD) (f) : owns (c : Thread nD τ) outA fullShare f ⊢ (outPts c f : sProp (MM F)) := Entails.of_eq (owns_whole _ _ _ _)

omit [∀ e, Nonempty (Elt F e)] in
theorem own_sems (c : Dev nD) : (bigSep Finset.univ fun o : Own => semVal (gs c (ownK o)) 0) ⊢ (Pipeline.ownSems0 osem c : sProp (MM F)) :=
  BI.Entails.refl _

set_option maxHeartbeats 2000000 in
/-- The kernel function runs. -/
theorem sound (c : Dev nD) : iprop(Φ₀ m c ∗ (∃ W, owes (c : Thread nD τ) (O₀ c) W) ∗ stgs m c)
    ⊢ WP c prog fun _ => iprop(Φ₁ m c ∗ (∃ W, owes (c : Thread nD τ) 0 W) ∗ stgs m c) := by
  refine .trans ?_ (wp_fupd frame (wpE (defs₀ (F := F)) 𝒱₀ c none) Set.univ _ _)
  unfold Φ₀ Xk stgs
  iintro ⟨⟨Hs, Hp, Ho, ⟨%K, %N, #Hctx⟩, Hb, Hown, HG⟩, HO, H0, H1, H2, H3, H4, H5⟩
  ihave Hs := (scr_in (F := F) c) $$ Hs
  ihave Ho := (some_whole (F := F) c main_v23 outA rfl) $$ [Ho]
  · iexists (Vh m c main_v23); unfold outPts; iexact Ho
  imod (devT_intro (I := inp m) (K := K) (N := N) c) $$ [Hb Hown HG Hs Ho] with HT
  · isplitr; · iexact Hctx
    isplitl [Hb]; · iexact Hb
    isplitl [Hown]; · iexact Hown
    isplitl [HG]; · iexact HG
    isplitl [Hs] <;> iassumption
  unfold prog
  iapply (wp_loop (I := inp m) (K := K) (N := N) c xM wM i2M i3M i4M rgM (Memref.isWhole_whole _))
  unfold xw idx tab ow
  isplitr; · iexact Hctx
  isplitl [H0 H1]
  · isplitl [H0]; · iexact H0
    iexact H1
  isplitl [H2 H3 H4]
  · isplitl [H2]; · iexact H2
    isplitl [H3]; · iexact H3
    iexact H4
  isplitl [H5]; · iexact H5
  isplitl [HT]; · iexact HT
  isplitl [HO]; · iexact HO
  iintro ⟨H0, H1⟩ ⟨H2, H3, H4⟩ H5 HE HO
  imod (devE_out (I := inp m) (K := K) (N := N) c) $$ [HE] with ⟨Hs, Ho, Hsem, Hb⟩
  · isplitr; · iexact Hctx
    iexact HE
  imodintro
  unfold Φ₁ Yk
  isplitl [Hs Hp Ho Hsem Hb]
  · isplitl [Hs]; · iapply (scr_out (F := F) c); iexact Hs
    isplitl [Hp]; · iexact Hp
    isplitl [Ho]; · iapply (outPts_of (F := F) c); iexact Ho
    isplitl [Hsem]; · iapply (own_sems (F := F) c); iexact Hsem
    iexact Hb
  isplitl [HO]; · iexact HO
  isplitl [H0]; · iexact H0
  isplitl [H1]; · iexact H1
  isplitl [H2]; · iexact H2
  isplitl [H3]; · iexact H3
  isplitl [H4]; · iexact H4
  iexact H5

set_option maxHeartbeats 1000000 in
/-- The one grid point. -/
theorem body (c : Dev nD) : Pipeline.BodyObligation (dat m c) (defs₀ (F := F)) 𝒱₀ 0 Set.univ := fun t => by
  rw [Gen.fin_N0 t, prog_eq, Φ_first m c _ rfl, Φ_last m c _ (Nat.succ_ne_zero _)]
  refine .trans (BI.sep_mono (BI.Entails.refl _) (BI.sep_mono (owesAt_elim m c _ (O₀ c) (owed_first m c _ rfl)) (?_ : _ ⊢ stgs m c))) ?_
  · rw [Gen.bigSep_W0]
    simp only [before_fetched]
    unfold stgs
    iintro ⟨⟨%_, H0⟩, ⟨%_, H1⟩, ⟨%_, H2⟩, ⟨%_, H3⟩, ⟨%_, H4⟩, ⟨%_, H5⟩⟩
    isplitl [H0]; · rw [← fetched_0]; iexact H0
    isplitl [H1]; · rw [← fetched_1]; iexact H1
    isplitl [H2]; · rw [← fetched_2]; iexact H2
    isplitl [H3]; · rw [← fetched_3]; iexact H3
    isplitl [H4]; · rw [← fetched_4]; iexact H4
    rw [← fetched_5]; iexact H5
  have hp : iprop(Φ₁ m c ∗ (∃ W, owes (c : Thread nD τ) 0 W) ∗ stgs m c) ⊢ (iprop(Φ₁ m c ∗ (dat m c).owesAt 0 Gen.t0_0.succ ∗ stgs m c) : sProp (MM F)) :=
    BI.sep_mono (BI.Entails.refl _) (BI.sep_mono (owesAt_intro m c _ 0 (owed_last m c _ (Nat.succ_ne_zero _))) (BI.Entails.refl _))
  have hs := sound m c
  rw [Gen.bigSep_W0]
  generalize (prog : P F) = p at hs ⊢
  refine .trans hs ?_
  refine wp_mono frame (wpE (defs₀ (F := F)) 𝒱₀ c none) Set.univ fun _ => ?_
  exact hp

/-! ## The region's record -/

/-- The output's array. -/
abbrev outR : DevRef τ sig := Proc.devRef .tc main_v23
abbrev Hs : Finset (DevRef τ sig) := {outR}
/-- The arrays no window names. -/
abbrev Sr : Finset (DevRef τ sig) := Pipeline.ucRefs τ sig \ Pipeline.arrRefs (τ := τ) spec0

theorem arr_sub : Pipeline.arrRefs (τ := τ) spec0 ⊆ Pipeline.ucRefs τ sig :=
  Pipeline.arrRefs_sub_ucRefs spec0 (by decide)
theorem Hs_sub : Hs ⊆ Sr := by
  intro b hb
  rw [Finset.mem_singleton.mp hb]
  refine Finset.mem_sdiff.mpr ⟨Finset.mem_filter.mpr ⟨StableHlo.devRef_mem_tcRefs _, by decide⟩, fun h => ?_⟩
  obtain ⟨r, hr, e⟩ := Finset.mem_map.mp h
  obtain ⟨w, -, rfl⟩ := Finset.mem_image.mp hr
  have e' := Proc.devRef_injective _ e
  exact absurd e' (by revert w; decide)

/-- The arrays after the region. -/
def Ve (c : Dev nD) : Valuation τ sig (Elt F) := Function.update (Vh m c) outR (outV (inp m))
theorem Ve_out (c : Dev nD) : Ve m c outR = outV (inp m) := Function.update_self ..
theorem Ve_ne (c : Dev nD) (b : DevRef τ sig) (h : b ≠ outR) : Ve m c b = Vh m c b := Function.update_of_ne h _ _

theorem held_out (c : Dev nD) (V : Valuation τ sig (Elt F)) :
    (StableHlo.held (c : Thread nD τ) Hs V : sProp (MM F)) = outPts c (V outR) := by
  unfold StableHlo.held Hs
  rw [bigSep_singleton]; rfl

theorem hopen (c : Dev nD) : iprop(Tk m c ∗ Pipeline.ownSems0 osem c ∗ levAts L lv) ⊢ (|={Set.univ}=> Xk m c : sProp (MM F)) := by
  unfold Tk Xk
  iintro ⟨⟨⟨%K, %N, #Hctx⟩, Hb, Ho, HG⟩, Hs, -⟩
  imod (own_open (I := inp m) (K := K) (N := N) c) $$ [Ho Hs] with Ho
  · isplitr; · iexact Hctx
    isplitl [Ho]; · iexact Ho
    iapply (show (Pipeline.ownSems0 osem c : sProp (MM F)) ⊢ bigSep Finset.univ fun o : Own => semVal (gs c (ownK o)) 0 from BI.Entails.refl _)
    iexact Hs
  imodintro
  isplitr; · iexists K; iexists N; iexact Hctx
  isplitl [Hb]; · iexact Hb
  isplitl [Ho]; · iexact Ho
  iexact HG

theorem hin (c : Dev nD) : iprop(Pipeline.scopedRest (Pipeline.pin (pcfgs (F := F)) Gen.adm 0).spec c ∗ (∃ r, prngReg c r)
    ∗ StableHlo.held (c.tc : Thread nD τ) Hs (Vh m c) ∗ Xk m c) ⊢ ((pdats m 0 c).Φ 0 : sProp (MM F)) := by
  rw [show (pdats m 0 c).Φ 0 = Φ₀ m c from Φ_first m c _ rfl, held_out]
  exact BI.Entails.refl _

theorem hout (c : Dev nD) : ((pdats m 0 c).Φ (Fin.last (Pipeline.pin (pcfgs (F := F)) Gen.adm 0).N) : sProp (MM F))
    ⊢ iprop(Pipeline.scopedRest (Pipeline.pin (pcfgs (F := F)) Gen.adm 0).spec c ∗ (∃ r, prngReg c r)
      ∗ StableHlo.held (c.tc : Thread nD τ) Hs (Ve m c) ∗ Pipeline.ownSems0 osem c ∗ Yk c) := by
  rw [show (pdats m 0 c).Φ (Fin.last _) = Φ₁ m c from Φ_last m c _ N_fin, held_out, Ve_out]
  exact BI.Entails.refl _

theorem kit : Pipeline.PLaunchFacts (nD := nD) (τ := τ) (pcfgs (F := F)) 0 where
  cellOf_inj a := by rw [Subsingleton.elim a Gen.adm]; exact Gen.cellOf_inj
  win := Gen.winFacts0
  pre := Pipeline.PreFacts.none _
  block_pos := Gen.block_pos0
  arr_whole := Gen.arr_whole0
  stage_whole := Gen.stage_whole0

omit [FloatOps F] [∀ e, Nonempty (Elt F e)] in
theorem lv_stage (c : Dev nD) : ∀ (w : Fin 6) (s : Fin (spec0 w).nbuf), lv ((c : Thread nD τ), .dma ((spec0 w).sem s)) 0 = 0 := by
  intro w s
  have h : ∀ (k : Kind) (w : Fin 6) (s : Fin (spec0 w).nbuf), loc k ≠ .dma ((spec0 w).sem s) := by decide +kernel
  have e : kindOf (.dma ((spec0 w).sem s)) = none := by
    unfold kindOf
    rw [dif_neg (fun ⟨k, hk⟩ => h k w s hk)]
  unfold lv
  show (match kindOf (.dma ((spec0 w).sem s)) with | none => 0 | some k => lvK k 0) = 0
  rw [e]

theorem O₀_above (c : Dev nD) : Above 0 (allActs c) :=
  above_cons ⟨(by decide : 0 < 62), (by decide : 0 < 1)⟩ (above_cons ⟨(by decide : 0 < 62), (by decide : 0 < 1)⟩ (above_mono (by decide) (early_above c)))

theorem cut : Pipeline.LevelCutOwed (pcfgs (F := F)) Gen.adm (pdats m) 0 L lv 0 (fun _ => 0) where
  hι c w s := by rw [L_tc]; decide
  hιb c w s := le_of_eq (lv_stage c w s)
  hD c t g i h := by
    have e : (pdats m 0 c).owed t = if t.val = 0 then O₀ c else 0 := rfl
    rw [e] at h
    split at h
    · obtain ⟨a, ha, rfl, rfl⟩ := owed_pos h
      rw [L_tc, lv_gs]
      exact ⟨Finset.mem_range.mpr (O₀_above c a ha).1, (O₀_above c a ha).2⟩
    · exact absurd h (Nat.lt_irrefl 0)

set_option backward.isDefEq.respectTransparency.types false in
/-- The region. -/
def reg : Pipeline.RegionSeg (pcfgs (F := F)) Gen.adm (pdats m) 0 defs₀ 𝒱₀ L lv 0 :=
  Pipeline.RegionSeg.ofTalk (pcfgs (F := F)) Gen.adm (pdats m) 0 defs₀ 𝒱₀ L lv 0 osem (by decide : Pipeline.OwnSemFacts spec0 osem)
    Hs Sr Hs_sub kit rfl (fun c => (body m c).loose)
    (fun _ => 0) O₀ (fun c => (owed_first m c _ rfl).trans (zero_add _).symm) (fun c => owed_last m c _ N_fin) (fun _ => rfl)
    (fun c w => by unfold Dat.share; split <;> rfl)
    (Vh m) (Ve m) (fun c b hb => Ve_ne m c b (fun h => (Finset.mem_sdiff.mp hb).2 (Finset.mem_singleton.mpr h)))
    (Tk m) Yk (Xk m) Yk (hopen m) (hin m) (hout m) (fun c => by iintro H; imodintro; iexact H) (fun _ => 0) (cut m)
    (fun _ => iprop(emp))
    (fun c w => rfl)
    (fun c w => by
      have hi : ∀ w : Fin 6, (win0 w).isOut = false := by decide
      have ho : ∀ w : Fin 6, Pipeline.arrRef spec0 w ≠ main_v23 := by decide
      refine ((pdats m 0 c).arrAt_in w (hi w) _).trans ?_
      exact (Ve_ne m c _ (fun h => ho w (Proc.devRef_injective _ h))).symm)

/-- What rides beside the arrays up to the region. -/
def E0 (c : Dev nD) : sProp (MM F) := iprop(Tk m c ∗ (∃ r, prngReg c r) ∗ ∃ W, owes (c : Thread nD τ) (O₀ c) W)

theorem reg_pre (c : Dev nD) : iprop(StableHlo.held (c : Thread nD τ) (Pipeline.ucRefs τ sig) (Gen.V1 m c) ∗ E0 m c) ⊢ (reg m).pre c := by
  show _ ⊢ iprop(StableHlo.held (c.tc : Thread nD τ) (Pipeline.arrRefs (τ := τ) spec0) (Vh m c) ∗ (∃ r, prngReg c r)
    ∗ (StableHlo.held (c.tc : Thread nD τ) Sr (Vh m c) ∗ emp) ∗ Tk m c ∗ ∃ Wd, owes (c : Thread nD τ) (0 + O₀ c) Wd)
  rw [← Vh_eq, StableHlo.held_sub_split (c : Thread nD τ) arr_sub, zero_add]
  unfold E0
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop((StableHlo.held (c : Thread nD τ) (Pipeline.ucRefs τ sig) (Ve m c) ∗ semVal (gs c .bar) 0)
      ∗ ∃ W, owes (c : Thread nD τ) (0 : CellTallies nD τ sig ℕ) W) := by
  show iprop(StableHlo.held (c.tc : Thread nD τ) (Pipeline.arrRefs (τ := τ) spec0) (Ve m c) ∗ (∃ r, prngReg c r)
    ∗ (StableHlo.held (c.tc : Thread nD τ) Sr (Ve m c) ∗ emp) ∗ Yk c ∗ ∃ Wd, owes (c : Thread nD τ) (0 : CellTallies nD τ sig ℕ) Wd) ⊢ _
  rw [StableHlo.held_sub_split (c : Thread nD τ) arr_sub]
  unfold Yk
  iintro ⟨Ha, -, ⟨Hr, -⟩, Hb, HO⟩
  isplitr [HO]
  · isplitr [Hb]
    · isplitl [Ha]; · iexact Ha
      iexact Hr
    iexact Hb
  iexact HO

end Cert.Proof
-- ==== Proof.Run.lean ====
/-
  The launch and the run: what starts every device, and what every run ends with.
-/
module

public import proofs.«01_k».proof.Proof.Region

@[expose] public section

noncomputable section

namespace Cert.Proof

open Cert.KernelIdeal Cert.KernelIdeal.Facts₀
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]
variable (m : (ℓ : Loc nD τ sig) → Buf (Elt F) ℓ) (ρ : Dev nD → PrngReg)

/-! ## What the launch holds -/

def allToks : Finset (GSem nD τ sig × ℕ × ℕ) := Finset.univ.image tokOf
theorem tok_mem (x : Dev nD × Tok) : tokOf x ∈ allToks := Finset.mem_image.mpr ⟨x, Finset.mem_univ _, rfl⟩
theorem bar_mem (c : Dev nD) : gs c .bar ∈ barCells := Finset.mem_image.mpr ⟨c, Finset.mem_univ _, rfl⟩
theorem own_mem (x : Dev nD × Own) : gs x.1 (ownK x.2) ∈ ownCells := Finset.mem_image.mpr ⟨x, Finset.mem_univ _, rfl⟩

@[irreducible] def uR : UD := launchOf barCells ownCells allToks
theorem uR_eq : launchOf barCells ownCells allToks = uR := by unfold uR; rfl
@[irreducible] def uS : Release.USlots Key := Release.initSlots Finset.univ 31
def u₀ : UU :=
  (initOf (Pipeline.cells (Pipeline.pin (pcfgs (F := F)) Gen.adm) Gen.cellOf_inj) (Pipeline.launchToks (Pipeline.pin (pcfgs (F := F)) Gen.adm) Gen.cellOf_inj), (uR, uS))

/-- All of it in the first device's hands. -/
def first (X : sProp (MM F)) (c : Dev nD) : sProp (MM F) := if c = 0 then X else iprop(emp)
omit [FloatOps F] [∀ e, Nonempty (Elt F e)] in
theorem all_first (X : sProp (MM F)) : bigSep Finset.univ (first X) = X := by
  have h : ∀ c ∈ Finset.univ.erase (0 : Dev nD), first X c = (BI.emp : sProp (MM F)) := fun c hc => by
    unfold first; rw [if_neg (Finset.ne_of_mem_erase hc)]; rfl
  rw [bigSep_univ_at _ (0 : Dev nD), bigSep_congr h, BI.bigSep_emp_const]
  unfold first; rw [if_pos rfl]
  exact BI.equiv_iff.mp sep_emp

def GG : Dev nD → sProp (MM F) := first (BI.own (EQ (uR, uS)))

/-! ## What every device may consult -/

def recs : sProp (MM F) := iprop((∃ K N, ctx (inp m) K N) ∗ bigSep barCells fun g => reached ER g 0)
instance recs_persistent : BI.Persistent (recs m) := by unfold recs; infer_instance

/-- A device's share of the launch. -/
def share (c : Dev nD) : sProp (MM F) :=
  iprop((bigSep Finset.univ fun o : Own => openTok ER (gs c (ownK o)))
    ∗ atPos ER (gs c .bar) 0 ∅ 0 ∗ (bigSep Finset.univ fun t : Tok => tokP (tokOf (c, t))) ∗ (bigSep Finset.univ fun w : Wix => wtP (wOf (c, w)))
    ∗ (bigSep Finset.univ fun r : Rix => Release.readerAt ES (rOf (c, r)) 0))
/-- What it has besides. -/
def rest (c : Dev nD) : sProp (MM F) := iprop(creds c ∗ (∃ r, prngReg c r) ∗ owes (c : Thread nD τ) (O₀ c) ∅)

theorem E0_intro (c : Dev nD) : iprop(recs m ∗ (share c ∗ rest c)) ⊢ E0 m c := by
  unfold recs share rest E0 Tk devG
  iintro ⟨⟨#Hc, #Hr⟩, ⟨Ho, Ha, Ht, Hw, Hrd⟩, Hcr, Hp, HO⟩
  isplitr [Hp HO]
  · isplitr; · iexact Hc
    isplitr
    · isplitr
      · iapply (show (bigSep barCells fun g => (reached ER g 0 : sProp (MM F))) ⊢ reached ER (gs (toD 0 c) .bar) 0 from bigSep_elim (bar_mem _)); iexact Hr
      · iapply (show (bigSep barCells fun g => (reached ER g 0 : sProp (MM F))) ⊢ reached ER (gs (toD 1 c) .bar) 0 from bigSep_elim (bar_mem _)); iexact Hr
    isplitl [Ho]; · iexact Ho
    isplitl [Ha]; · iexact Ha
    isplitl [Ht]; · iexact Ht
    isplitl [Hw]; · iexact Hw
    isplitl [Hrd]; · iexact Hrd
    iexact Hcr
  isplitl [Hp]; · iexact Hp
  iexists ∅; iexact HO

/-- The records, from the invariants as they are made. -/
theorem recs_intro (κ : GSem nD τ sig → ℕ) (N : Key → ℕ) :
    iprop((bigSep (barCells ∪ ownCells) fun g => cellInv ER (Rd (inp m)) (κ g) g) ∗ (bigSep barCells fun g => reached ER g 0)
      ∗ (bigSep Finset.univ fun k : Key => Release.slotInv ES (N k) k (Sl k)) ∗ levAts L lv) ⊢ recs m := by
  have hK : (bigSep (barCells ∪ ownCells) fun g => (cellInv ER (Rd (inp m)) (κ g) g : sProp (MM F)))
      ⊢ bigSep Finset.univ fun p : Dev nD × Kind => cellInv ER (Rd (inp m)) (κ (gs p.1 p.2)) (gs p.1 p.2) :=
    bigSep_intro_persistent fun p _ => bigSep_elim (cells_mem p.1 p.2)
  unfold recs ctx
  rw [LV_eq]
  iintro ⟨Hi, Hr, Hs, HL⟩
  isplitr [Hr]
  · iexists (fun p : Dev nD × Kind => κ (gs p.1 p.2)); iexists N
    isplitl [Hi]; · iapply hK; iexact Hi
    isplitl [Hs]; · iexact Hs
    iexact HL
  iexact Hr

/-! ## Dealing it out -/

omit [FloatOps F] [∀ e, Nonempty (Elt F e)] in
theorem both (Φ Ψ : Dev nD → sProp (MM F)) : iprop(bigSep Finset.univ Φ ∗ bigSep Finset.univ Ψ) ⊢ bigSep Finset.univ fun c => iprop(Φ c ∗ Ψ c) :=
  Entails.of_eq (bigSep_sep' _ _ _).symm
omit [FloatOps F] [∀ e, Nonempty (Elt F e)] in
theorem each (Φ Ψ : Dev nD → sProp (MM F)) : (bigSep Finset.univ fun c => iprop(Φ c ∗ Ψ c)) ⊢ iprop(bigSep Finset.univ Φ ∗ bigSep Finset.univ Ψ) :=
  Entails.of_eq (bigSep_sep' _ _ _)

theorem deal_at : bigSep barCells (fun g => (atPos ER g 0 ∅ 0 : sProp (MM F))) ⊢ bigSep Finset.univ fun c : Dev nD => atPos ER (gs c .bar) 0 ∅ 0 :=
  take (fun c : Dev nD => gs c .bar) (fun _ _ h => (gs_inj h).1) barCells bar_mem _
theorem deal_open : bigSep ownCells (fun g => (openTok ER g : sProp (MM F)))
    ⊢ bigSep Finset.univ fun c : Dev nD => bigSep Finset.univ fun o : Own => openTok ER (gs c (ownK o)) :=
  deal (fun x : Dev nD × Own => gs x.1 (ownK x.2)) (fun x y h => Prod.ext (gs_inj h).1 (ownK_inj (gs_inj h).2)) ownCells own_mem _
theorem deal_tok : bigSep allToks (fun x => (dutyTok ER x.1 x.2.1 x.2.2 : sProp (MM F)))
    ⊢ bigSep Finset.univ fun c : Dev nD => bigSep Finset.univ fun t : Tok => tokP (tokOf (c, t)) :=
  deal tokOf tokOf_inj allToks tok_mem tokP
theorem deal_w : bigSep ((Finset.univ : Finset Key) ×ˢ Finset.range 31) (fun x => (Release.writeTok ES x.1 (x.2 + 1) : sProp (MM F)))
    ⊢ bigSep Finset.univ fun c : Dev nD => bigSep Finset.univ fun w : Wix => wtP (wOf (c, w)) :=
  deal wOf wOf_inj _ wOf_mem wtP
theorem deal_r : bigSep (Finset.univ : Finset Key) (fun k => (Release.readerAt ES k 0 : sProp (MM F)))
    ⊢ bigSep Finset.univ fun c : Dev nD => bigSep Finset.univ fun r : Rix => Release.readerAt ES (rOf (c, r)) 0 :=
  deal rOf rOf_inj _ (fun _ => Finset.mem_univ _) _

theorem unscoped_eq : ∀ sm : SemLoc sig, sm.isScoped .tc = false → sm = .reg barSem := by decide +kernel
theorem sems0_eq (c : Dev nD) : (unscopedSems0 c : sProp (MM F)) ⊢ semVal (gs c .bar) 0 := by
  unfold unscopedSems0
  exact bigSep_elim (i := (.reg barSem : SemLoc sig)) (Finset.mem_filter.mpr ⟨Finset.mem_univ _, by decide +kernel⟩)
theorem give_bar : (bigSep Finset.univ fun c : Dev nD => (semVal (gs c .bar) 0 : sProp (MM F))) ⊢ bigSep barCells fun g => semVal g 0 := by
  unfold barCells
  rw [bigSep_image_of_injOn (fun _ _ _ _ h => (gs_inj h).1)]

omit [FloatOps F] [∀ e, Nonempty (Elt F e)] in
theorem two (a : UD) (b : Release.USlots Key) : (BI.own (EQ (a, b)) : sProp (MM F)) ⊢ iprop(BI.own (ER a) ∗ BI.own (ES b)) := own_pair_emb EQ a b

/-- The semaphores' part, made. -/
theorem make_cells {S Sd : Finset (GSem nD τ sig)} (hS : Disjoint S Sd) (T : Finset (GSem nD τ sig × ℕ × ℕ)) :
    iprop(bigSep S (fun g => (semVal g 0 : sProp (MM F))) ∗ BI.own (ER (launchOf S Sd T)))
    ⊢ |={Set.univ}=> iprop((∃ κ : GSem nD τ sig → ℕ, bigSep (S ∪ Sd) fun g => cellInv ER (Rd (inp m)) (κ g) g)
      ∗ bigSep S (fun g => reached ER g 0) ∗ bigSep S (fun g => atPos ER g 0 ∅ 0) ∗ bigSep Sd (fun g => openTok ER g)
      ∗ bigSep T (fun x => dutyTok ER x.1 x.2.1 x.2.2)) := by
  refine (Rounds.fund_launch (Es := Set.univ) ER (Rd (inp m)) hS (fun g _ h => h) T).trans ?_
  iintro >⟨%κ, -, Hinv, Hr, Hat, Hopen, Htok⟩
  imodintro
  isplitl [Hinv]; · iexists κ; iexact Hinv
  isplitl [Hr]; · iexact Hr
  isplitl [Hat]; · iexact Hat
  isplitl [Hopen]; · iexact Hopen
  iexact Htok

theorem make_ours : iprop(bigSep barCells (fun g => (semVal g 0 : sProp (MM F))) ∗ BI.own (ER uR))
    ⊢ |={Set.univ}=> iprop((∃ κ : GSem nD τ sig → ℕ, bigSep (barCells ∪ ownCells) fun g => cellInv ER (Rd (inp m)) (κ g) g)
      ∗ bigSep barCells (fun g => reached ER g 0) ∗ bigSep barCells (fun g => atPos ER g 0 ∅ 0) ∗ bigSep ownCells (fun g => openTok ER g)
      ∗ bigSep allToks (fun x => dutyTok ER x.1 x.2.1 x.2.2)) := by
  rw [← uR_eq]; exact make_cells m cells_disjoint allToks

/-- The slots' part, made. -/
theorem make_slots : (BI.own (ES uS) : sProp (MM F))
    ⊢ |={Set.univ}=> iprop((∃ N : Key → ℕ, bigSep (Finset.univ : Finset Key) fun k : Key => Release.slotInv ES (N k) k (Sl k))
      ∗ bigSep (Finset.univ : Finset Key) (fun k => Release.readerAt ES k 0)
      ∗ bigSep ((Finset.univ : Finset Key) ×ˢ Finset.range 31) (fun x => Release.writeTok ES x.1 (x.2 + 1))) := by
  unfold uS
  refine (Release.slots_init (Es := Set.univ) ES (Finset.univ : Finset Key) 31 Sl).trans ?_
  iintro >⟨%N, -, Hsl, Hrd, Hw⟩
  imodintro
  isplitl [Hsl]; · iexists N; iexact Hsl
  isplitl [Hrd]; · iexact Hrd
  iexact Hw

theorem GG_own : bigSep Finset.univ (GG (F := F)) ⊢ iprop(BI.own (ER uR) ∗ BI.own (ES uS)) := by
  unfold GG
  rw [all_first]
  exact two uR uS

theorem core_split (c : Dev nD) : iprop(unscopedSems0 c ∗ owes (c : Thread nD τ) (O₀ c) ∅ ∗ Pipeline.launchCred O₀ c ∗ prngReg c (ρ c) ∗ GG c)
    ⊢ (iprop(rest c ∗ (semVal (gs c .bar) 0 ∗ GG c)) : sProp (MM F)) := by
  unfold rest
  iintro ⟨Hus, HO, Hcr, Hp, HG⟩
  isplitr [Hus HG]
  · isplitl [Hcr]; · iapply (creds_intro (F := F) c); iexact Hcr
    isplitl [Hp]; · iexists (ρ c); iexact Hp
    iexact HO
  isplitl [Hus]; · iapply (sems0_eq (F := F) c); iexact Hus
  iexact HG

theorem cores_split : (bigSep Finset.univ fun c : Dev nD => iprop(unscopedSems0 c ∗ owes (c : Thread nD τ) (O₀ c) ∅ ∗ Pipeline.launchCred O₀ c ∗ prngReg c (ρ c) ∗ GG c))
    ⊢ (iprop(bigSep Finset.univ rest ∗ bigSep barCells (fun g => semVal g 0) ∗ bigSep Finset.univ GG) : sProp (MM F)) := by
  refine (bigSep_mono fun c _ => core_split (F := F) ρ c).trans ?_
  refine (each (F := F) _ _).trans (BI.sep_mono (BI.Entails.refl _) ?_)
  exact (each (F := F) _ _).trans (BI.sep_mono (give_bar (F := F)) (BI.Entails.refl _))

theorem shares : iprop(bigSep ownCells (fun g => openTok ER g) ∗ bigSep barCells (fun g => atPos ER g 0 ∅ 0) ∗ bigSep allToks (fun x => dutyTok ER x.1 x.2.1 x.2.2)
      ∗ bigSep ((Finset.univ : Finset Key) ×ˢ Finset.range 31) (fun x => Release.writeTok ES x.1 (x.2 + 1))
      ∗ bigSep (Finset.univ : Finset Key) (fun k => Release.readerAt ES k 0)) ⊢ (bigSep Finset.univ share : sProp (MM F)) := by
  have h := (BI.sep_mono (deal_open (F := F)) ((BI.sep_mono (deal_at (F := F)) ((BI.sep_mono (deal_tok (F := F)) ((BI.sep_mono (deal_w (F := F)) (deal_r (F := F))).trans
    (both (F := F) _ _))).trans (both (F := F) _ _))).trans (both (F := F) _ _))).trans (both (F := F) _ _)
  exact h

theorem init :
    iprop((bigSep Finset.univ fun c : Dev nD => iprop(unscopedSems0 c ∗ owes (c : Thread nD τ) (O₀ c) ∅ ∗ Pipeline.launchCred O₀ c ∗ prngReg c (ρ c) ∗ GG c)) ∗ levAts L lv)
      ⊢ (|={Set.univ}=> bigSep Finset.univ (E0 m) : sProp (MM F)) := by
  iintro ⟨H, #HL⟩
  ihave H' := (cores_split (F := F) ρ) $$ H
  icases H' with ⟨HB, Hv, HG⟩
  ihave Hu := (GG_own (F := F)) $$ HG
  icases Hu with ⟨HuR, HuS⟩
  imod (make_ours m) $$ [Hv HuR] with ⟨⟨%κ, #Hinv⟩, #Hr, Hat, Hopen, Htok⟩
  · isplitl [Hv]; · iexact Hv
    iexact HuR
  imod (make_slots (F := F)) $$ HuS with ⟨⟨%N, #Hsl⟩, Hrd, Hw⟩
  imodintro
  iapply (bigSep_with_persistent (R := recs m) (Φ := fun c => iprop(share c ∗ rest c)) fun c _ => E0_intro m c)
  isplitr
  · iapply (recs_intro m κ N)
    isplitr; · iexact Hinv
    isplitr; · iexact Hr
    isplitr; · iexact Hsl
    iexact HL
  iapply (both (F := F) _ _)
  isplitr [HB]
  · iapply (shares (F := F))
    isplitl [Hopen]; · iexact Hopen
    isplitl [Hat]; · iexact Hat
    isplitl [Htok]; · iexact Htok
    isplitl [Hw]; · iexact Hw
    iexact Hrd
  · iexact HB

/-! ## The run -/

def segs (c : Dev nD) : List (Pipeline.Seg (pcfgs (F := F)) Gen.adm (pdats m) 0 defs₀ 𝒱₀ L lv) :=
  Gen.segs m 𝒱₀ L lv (fun _ => E0 m) 0 (pdats m) (reg m) c

theorem Ve_x (c : Dev nD) : Ve m c (Proc.devRef .tc main_arg0) = m ((c : Thread nD τ).loc main_arg0) :=
  (Ve_ne m c _ (StableHlo.devRef_ne_of_ne (by decide))).trans (host_x m c)
theorem Ve_w (c : Dev nD) : Ve m c (Proc.devRef .tc main_arg1) = m ((c : Thread nD τ).loc main_arg1) :=
  (Ve_ne m c _ (StableHlo.devRef_ne_of_ne (by decide))).trans (host_w m c)

def T₀ (c : Dev nD) : sProp (MM F) := iprop(StableHlo.held (c : Thread nD τ) (Pipeline.ucRefs τ sig) (Gen.V0 m c) ∗ E0 m c)
def Tₙ (c : Dev nD) : sProp (MM F) := iprop(StableHlo.held (c : Thread nD τ) (Pipeline.ucRefs τ sig) (Ve m c) ∗ semVal (gs c .bar) 0)

theorem start :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ GG c)) ∗ levAts L lv)
      ⊢ (|={Set.univ}=> bigSep Finset.univ (T₀ m) : sProp (MM F)) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ GG c))
      ⊢ (iprop((bigSep Finset.univ fun c : Dev nD => StableHlo.held (c : Thread nD τ) (Pipeline.ucRefs τ sig) (Gen.V0 m c))
          ∗ bigSep Finset.univ fun c : Dev nD => iprop(unscopedSems0 c ∗ owes (c : Thread nD τ) (O₀ c) ∅ ∗ Pipeline.launchCred O₀ c ∗ prngReg c (ρ c) ∗ GG c))
          : sProp (MM F)) := by
    rw [← bigSep_sep']
    exact bigSep_mono fun c _ => by rw [← Pipeline.unscopedBufs_held (Ix := ℕ) (Name := ℕ) (U := UU) (Lvl := ℕ) c (Gen.V0 m c)]; exact BI.Entails.refl _
  unfold T₀
  iintro ⟨H, Hla⟩
  ihave H' := hsplit $$ H
  icases H' with ⟨Hh, Hr⟩
  imod (init m ρ) $$ [Hr Hla] with HE
  · isplitl [Hr]; · iexact Hr
    iexact Hla
  imodintro
  iapply (both (F := F) _ _)
  isplitl [Hh]; · iexact Hh
  iexact HE

/-- What is read off at the end. -/
def Ended (c : Dev nD) (s : MemSt nD τ sig (Elt F)) : Prop :=
  ((s.mem ((c : Thread nD τ).loc main_arg0) = m ((c : Thread nD τ).loc main_arg0) ∧ s.mem ((c : Thread nD τ).loc main_arg1) = m ((c : Thread nD τ).loc main_arg1))
    ∧ s.mem ((c : Thread nD τ).loc main_v23) = outV (inp m)) ∧ s.sem (gs c .bar) = 0

theorem finish (c : Dev nD) (s' : Phys nD τ sig (Elt F)) : iprop(Tₙ m c ∗ SI s') ⊢ (|={Set.univ}=> iprop(⌜Ended m c s'.mem⌝ ∗ SI s') : sProp (MM F)) := by
  unfold Tₙ StableHlo.held
  iintro ⟨⟨Hh, Hb⟩, HSI⟩
  icombine HSI Hb gives %hb
  ihave Hr := (pointsTo_read_all (Pipeline.ucRefs τ sig) (fun b => ((c : Thread nD τ).1, b)) (Ve m c) s') $$ [Hh HSI]
  · isplitl [Hh] <;> iassumption
  icases Hr with ⟨%h, HSI⟩
  imodintro
  isplitr
  · ipureintro
    refine ⟨⟨⟨?_, ?_⟩, ?_⟩, by simpa using hb⟩
    · exact (h (Proc.devRef .tc main_arg0) (Finset.mem_filter.mpr ⟨StableHlo.devRef_mem_tcRefs main_arg0, by decide⟩)).trans (Ve_x m c)
    · exact (h (Proc.devRef .tc main_arg1) (Finset.mem_filter.mpr ⟨StableHlo.devRef_mem_tcRefs main_arg1, by decide⟩)).trans (Ve_w m c)
    · exact (h (Proc.devRef .tc main_v23) (Finset.mem_filter.mpr ⟨StableHlo.devRef_mem_tcRefs main_v23, by decide⟩)).trans (Ve_out m c)
  · iexact HSI

set_option backward.isDefEq.respectTransparency.types false in
/-- Every run ends, with the arguments as they were, every device's result the whole quantised product, and every semaphore
    at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)) ∧ r.2.mem ((c : Thread nD τ).loc main_v23) = outV (inp m))
      ∧ r.2.sem = fun _ => 0) :=
  Pipeline.θ_run_regions_kit_dev_sems (pcfgs (F := F)) Gen.adm (pdats m) 0 Gen.cellOf_inj EP defs₀ 𝒱₀ L lv m ρ main (segs m)
    (fun c Q => by
      unfold segs
      rewrite [Gen.main_chain c, Pipeline.Seg.run_eq_chain, show (Gen.segs m 𝒱₀ L lv (fun _ => E0 m) 0 (pdats m) (reg m) c).map Pipeline.Seg.prog
        = [StableHlo.seq (Gen.hostOps0 c), Prog.lift (.customCall (Pipeline.entry 0) ())] from rfl]
      dsimp (config := { failIfUnchanged := false }) only
      exact .rfl)
    (fun c => by simp only [segs, Gen.segs, Pipeline.Seg.pipes_host, Pipeline.Seg.pipes_region, Pipeline.Seg.pipes_nil]; decide)
    (O₀ := O₀) (hL := L_of_ne) (G := GG) (u₀ := u₀ (F := F))
    (hu₀ := by
      unfold u₀ GG
      iintro Hu
      ihave H := (ownU_pair _ _) $$ Hu
      icases H with ⟨HP, HX⟩
      imodintro
      isplitl [HP]; · iexact HP
      rw [all_first]; iexact HX)
    (T₀ := T₀ m) (Tₙ := Tₙ m)
    (hch := fun c => ⟨.rfl, reg_pre m c, reg_post m c⟩)
    (hinit := start m ρ)
    (QY := Ended m)
    (hfin := finish m)
    (hQ := fun s h hs => ⟨fun c => (h c).1, sem_eq_zero hs fun c sm hsm => by
        obtain rfl := unscoped_eq sm hsm
        exact (h c).2⟩)

end Cert.Proof

end
-- ==== Proof.Ends.lean ====
/-
  The runs of the three programs: the kernel's at either reading of floats, the reference's.
-/
module

public import proofs.«01_k».proof.Defs
public import proofs.«01_k».proof.Proof.Gen.Kernel
public import proofs.«01_k».proof.Proof.Gen.ReferenceIdeal.Value
public import proofs.«01_k».proof.Proof.Run

@[expose] public section

noncomputable section

namespace Cert.Proof

open Idealize.ShloMosaic Idealize.ShloMosaic.TcCoe Idealize.SL.Sem

theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩) (run_main (F := Ideal) m ρ)

/-- What the kernel is to end with, of its idealized text read on words. -/
def EndsOnWords : Prop :=
  ∀ (m : (ℓ : Loc Cert.KernelIdeal.nD Cert.KernelIdeal.τ Cert.KernelIdeal.sig) → Buf (Elt Bits) ℓ) (ρ : Dev Cert.KernelIdeal.nD → PrngReg), True →
    θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
        ∧ r.2.sem = fun _ => 0)

/-- The two programs are one text. -/
theorem same_text : Cert.quiescent_Kernel (hKernel := Cert.Kernel.Gen.facts) = EndsOnWords := by chain_rfl

theorem frame_kernel : Cert.quiescent_Kernel (hKernel := Cert.Kernel.Gen.facts) := by
  rw [same_text]
  exact fun m ρ _ => (θ_run Cert.KernelIdeal.defs _ _).mono (fun _ h => ⟨fun c => (h.1 c).1, h.2⟩) (run_main (F := Bits) m ρ)

theorem frame_reference : Cert.quiescent_ReferenceIdeal (hReferenceIdeal := Cert.ReferenceIdeal.Gen.facts) := fun m ρ _ =>
  Cert.ReferenceIdeal.Gen.frame (F := Ideal) m ρ

end Cert.Proof

end
-- ==== Proof.Quant.lean ====
/-
  The rounding of one number over the extended reals: the kernel's way and the reference's way of writing it.
-/
module

public import proofs.«01_k».proof.Proof.Run
public import proofs.«01_k».proof.Proof.Gen.ReferenceIdeal.Value
public import Idealize.ShloMosaic.PureOps.Ideal.Laws
public import Idealize.ShloMosaic.Lib.IdealHost

@[expose] public section

noncomputable section

namespace Cert.Proof

open Idealize.ShloMosaic

/-! ## The constants -/

theorem lit_448 : Ideal.ofBits .f32 0x43E00000#32 = ((448 : ℝ) : EReal) := by
  simp [Ideal.ofBits, Ideal.ieee]; rw [← EReal.coe_mul]; norm_num
theorem lit_64th : Ideal.ofBits .f32 0x3C800000#32 = ((1 / 64 : ℝ) : EReal) := by
  simp [Ideal.ofBits, Ideal.ieee]; rw [← EReal.coe_mul]; norm_num
theorem lit_512 : Ideal.ofBits .f32 0x44000000#32 = ((512 : ℝ) : EReal) := by
  simp [Ideal.ofBits, Ideal.ieee]; rw [← EReal.coe_mul]; norm_num
theorem lit_512th : Ideal.ofBits .f32 0x3B000000#32 = ((1 / 512 : ℝ) : EReal) := by
  simp [Ideal.ofBits, Ideal.ieee]; rw [← EReal.coe_mul]; norm_num
theorem lit_neg : Ideal.ofBits .f32 0xBF800000#32 = ((-(1 : ℝ) : ℝ) : EReal) := by
  simp [Ideal.ofBits, Ideal.ieee]; rw [← EReal.coe_mul]; norm_num
theorem lit_bot : Ideal.ofBits .f32 0xFF800000#32 = ⊥ := by
  simp [Ideal.ofBits, Ideal.ieee]

/-! ## The two ways -/

/-- Rounding to the nearest whole number, ties to even. -/
abbrev near : EReal → EReal := Ideal.liftRound Ideal.roundHalfEven

/-- The kernel's: bring the quotient under 448 first, then round what is below 1/64. -/
def qk (s r : EReal) : EReal :=
  (if min (Ideal.div r s) ((448 : ℝ) : EReal) < ((1 / 64 : ℝ) : EReal)
    then near (min (Ideal.div r s) ((448 : ℝ) : EReal) * ((512 : ℝ) : EReal)) * ((1 / 512 : ℝ) : EReal)
    else min (Ideal.div r s) ((448 : ℝ) : EReal)) * s

/-- The reference's: round the absolute value, bring it under 448, give it its sign back. -/
def qr (s r : EReal) : EReal :=
  ((if 0 < Ideal.div r s then 1 else if Ideal.div r s < 0 then ((-(1 : ℝ) : ℝ) : EReal) else 0)
    * min (if ((1 / 64 : ℝ) : EReal) ≤ max (Ideal.div r s) (-Ideal.div r s) then max (Ideal.div r s) (-Ideal.div r s)
        else near (Ideal.div (max (Ideal.div r s) (-Ideal.div r s)) ((1 / 512 : ℝ) : EReal)) * ((1 / 512 : ℝ) : EReal))
      ((448 : ℝ) : EReal)) * s

theorem near_zero : near 0 = 0 := by
  have h : Ideal.roundHalfEven 0 = 0 := by simp [Ideal.roundHalfEven]
  show Ideal.liftRound Ideal.roundHalfEven ((0 : ℝ) : EReal) = 0
  rw [Ideal.liftRound_coe, h]; simp

theorem round_le (x : ℝ) (h : x < 8) : Ideal.roundHalfEven x ≤ 9 := by
  have hf : ⌊x⌋ < 8 := by rw [Int.floor_lt]; exact_mod_cast h
  unfold Ideal.roundHalfEven; dsimp only
  split_ifs <;> omega

theorem div_nonneg (r s : EReal) (hr : 0 ≤ r) (hs : 0 ≤ s) (h : s ≠ 0) : 0 ≤ Ideal.div r s := by
  unfold Ideal.div; rw [if_neg h]; exact mul_nonneg hr (EReal.inv_nonneg_of_nonneg hs)

/-- On nonnegative numbers the two are one. -/
theorem qk_eq_qr (s r : EReal) (hr : 0 ≤ r) (hs : 0 ≤ s) : qk s r = qr s r := by
  by_cases h : s = 0
  · subst h; unfold qk qr; rw [mul_zero, mul_zero]
  have hx := div_nonneg r s hr hs h
  unfold qk qr
  generalize Ideal.div r s = x at hx
  congr 1
  have ha : max x (-x) = x := max_eq_left (le_trans (EReal.neg_le_zero.mpr hx) hx)
  rw [ha]
  by_cases hl : x < ((1 / 64 : ℝ) : EReal)
  · have hx1 : x ≤ ((448 : ℝ) : EReal) := hl.le.trans (by exact_mod_cast (by norm_num : (1 / 64 : ℝ) ≤ 448))
    rw [min_eq_left hx1, if_pos hl, if_neg (not_le.mpr hl), Ideal.div_coe (by norm_num)]
    norm_num only
    rcases hx.eq_or_lt with h0 | h0
    · rw [← h0, zero_mul, near_zero, zero_mul]; simp
    · rw [if_pos h0, one_mul, min_eq_left]
      lift x to ℝ using ⟨(hl.trans (EReal.coe_lt_top _)).ne, (lt_of_lt_of_le EReal.bot_lt_zero hx).ne'⟩
      have h64 : x < 1 / 64 := by exact_mod_cast hl
      rw [← EReal.coe_mul, near, Ideal.liftRound_coe, ← EReal.coe_mul]
      have := round_le (x * 512) (by linarith)
      have h9 : ((Ideal.roundHalfEven (x * 512) : ℤ) : ℝ) ≤ 9 := by exact_mod_cast this
      exact_mod_cast (by linarith : ((Ideal.roundHalfEven (x * 512) : ℤ) : ℝ) * (1 / 512) ≤ 448)
  · have hl' := not_lt.mp hl
    have h0 : 0 < x := lt_of_lt_of_le (by exact_mod_cast (by norm_num : (0 : ℝ) < 1 / 64)) hl'
    rw [if_neg, if_pos hl', if_pos h0, one_mul]
    rw [not_lt, le_min_iff]
    exact ⟨hl', by exact_mod_cast (by norm_num : (1 / 64 : ℝ) ≤ 448)⟩

theorem pick (p : Prop) [Decidable p] (a b : EReal) : (if BitVec.ofBool (decide p) = 1#1 then a else b) = if p then a else b := by
  by_cases h : p
  · rw [if_pos h, if_pos (by rw [decide_eq_true h]; rfl)]
  · rw [if_neg h, if_neg (by rw [decide_eq_false h]; decide)]

open Cert.KernelIdeal Cert.KernelIdeal.Facts₀ in
theorem dqV_apply (s : Ideal .f32) (v : FVec Ideal S128x4096 .f32) (j : S128x4096.Idx) : dqV s v j = qk s (v j) := by
  unfold qk
  rw [← lit_448, ← lit_64th, ← lit_512, ← lit_512th]
  show (if BitVec.ofBool (decide (min (Ideal.div (v j) s) (Ideal.ofBits .f32 0x43E00000#32) < Ideal.ofBits .f32 0x3C800000#32)) = 1#1
    then _ else _) * s = _
  rw [pick]; rfl

/-! ## The reference's array -/

open Cert.ReferenceIdeal Cert.ReferenceIdeal.Facts₀

variable (X : FVec Ideal S4096x4096 .f32) (W : FVec Ideal S4096x8192 .f32)

/-- The product, what is negative put to zero. -/
def refY : FVec Ideal S4096x8192 .f32 :=
  maximumf (matmul dot_S4096x4096_S4096x8192_S4096x8192_1_0_0_1_n_n (some .fp32) X W (constant S4096x8192 .f32 0x00000000#32))
    (broadcast S4096x8192 (Scalar.ofBits .f32 0x00000000#32))
/-- The largest absolute value. -/
def refM : Ideal .f32 :=
  extractAt ![0, 0, 0] (shapeCast S1x1x1 (multiReduction .maximumf [1, 2] S1
    (shapeCast S1x4096x8192 (absf (refY X W)) shapeCasts_S4096x8192_S1x4096x8192) 0xFF800000#32 reduces_S1x4096x8192_S1 (.inl rfl) rfl)
    shapeCasts_S1_S1x1x1) inpos_S1x1x1_p0_0_0

theorem G2_apply (j : S4096x8192.Idx) :
    (Cert.ReferenceIdeal.Value.G2 (F := Ideal) X W j : EReal) = qr (Ideal.div (refM X W) ((448 : ℝ) : EReal)) (refY X W j) := by
  unfold qr
  rw [← lit_448, ← lit_64th, ← lit_512th, ← Ideal.ofBits_zero_f32, ← Ideal.ofBits_one_f32, ← lit_neg]
  show ((if BitVec.ofBool (decide (Ideal.ofBits .f32 0x00000000#32 < Ideal.div (refY X W j) (Ideal.div (refM X W) (Ideal.ofBits .f32 0x43E00000#32)))) = 1#1
    then _ else (if BitVec.ofBool (decide (Ideal.div (refY X W j) (Ideal.div (refM X W) (Ideal.ofBits .f32 0x43E00000#32)) < Ideal.ofBits .f32 0x00000000#32)) = 1#1 then _ else _))
    * min (if BitVec.ofBool (decide (Ideal.ofBits .f32 0x3C800000#32 ≤ max (Ideal.div (refY X W j) (Ideal.div (refM X W) (Ideal.ofBits .f32 0x43E00000#32))) (-Ideal.div (refY X W j) (Ideal.div (refM X W) (Ideal.ofBits .f32 0x43E00000#32))))) = 1#1 then _ else _) _) * _ = _
  rw [pick, pick, pick]; rfl

end Cert.Proof
-- ==== Proof.Product.lean ====
/-
  What a direction's ring adds up, over the extended reals: each element of the whole product once.
-/
module

public import proofs.«01_k».proof.Proof.Quant
public import Idealize.ShloMosaic.Lib.MatmulPlain
public import Idealize.ShloMosaic.Lib.Layout

@[expose] public section

noncomputable section

namespace Cert.Proof

open Cert.KernelIdeal Cert.KernelIdeal.Facts₀
open Idealize.ShloMosaic Idealize.ShloMosaic.ValueIdx

/-! ## Where the rows and columns lie -/

/-- A row of a block of rows. -/
abbrev row (r : Fin 32) (a : Fin 128) : Fin 4096 := ⟨128 * r.val + a.val, by omega⟩
/-- A column of a direction's half. -/
abbrev col (d : Fin 2) (b : Fin 4096) : Fin 8192 := ⟨4096 * d.val + b.val, by omega⟩

/-- The block of rows that device `c` adds to in step `g`: it still has `31 - g` devices to go. -/
def goal (d : Fin 2) (c : Dev nD) (g : ℕ) : Fin 32 := blk d ((toD d)^[31 - g] c)

theorem x0_goal : ∀ d c, x0D d c = ![128 * (goal d c 0).val, 0] := by decide +kernel
theorem xo_goal : ∀ d c, ∀ r : Fin 31, xoD d c r = ![128 * (goal d c (r.val + 1)).val, 0] := by decide +kernel
theorem goal_fro (d : Fin 2) (c : Dev nD) (g : ℕ) (h : g < 31) : goal d (froD d c) g = goal d c (g + 1) := by
  unfold goal
  rw [show 31 - g = 31 - (g + 1) + 1 by omega, Function.iterate_succ_apply, to_fro]
theorem goal_end (d : Fin 2) (c : Dev nD) : goal d c 31 = blk d c := rfl

/-! ## One product, and their sum -/

variable (I : Inp Ideal)

/-- What device `c` contributes to an element of the product. -/
def part (c : Dev nD) (i : Fin 4096) (j : Fin 8192) : EReal :=
  ∑ k : Fin 128, (I.X c (ix2 i k) : EReal) * (I.W c (ix2 k j) : EReal)

theorem mm_part (c : Dev nD) (d : Fin 2) (xo : Fin 2 → Nat) (hx : ∀ a, xo a + S128x128.size a ≤ S4096x128.size a) (r : Fin 32)
    (h : xo = ![128 * r.val, 0]) (a : Fin 128) (b : Fin 4096) : mmW I c d xo hx (ix2 a b) = part I c (row r a) (col d b) := by
  subst h
  unfold mmW mmV part
  rw [shapeCast_self, shapeCast_self]
  refine (Ideal.matmul_plain_apply (M := 128) (K := 128) (N := 4096) _ _ _ _ a b).trans ?_
  rw [constant_apply, Ideal.ofBits_zero_f32, zero_add]
  refine Finset.sum_congr rfl fun k _ => ?_
  congr 1
  · refine congrArg (I.X c) ?_
    funext e; apply Fin.ext; rw [Rect.emb_apply]
    fin_cases e
    · show 128 * r.val + 1 * a.val = 128 * r.val + a.val; omega
    · show 0 + 1 * k.val = k.val; omega
  · refine congrArg (I.W c) ?_
    funext e; apply Fin.ext; rw [Rect.emb_apply]
    fin_cases d <;> fin_cases e
    · show 0 + 1 * k.val = k.val; omega
    · show 0 + 1 * b.val = 4096 * 0 + b.val; omega
    · show 0 + 1 * k.val = k.val; omega
    · show 4096 + 1 * b.val = 4096 * 1 + b.val; omega

theorem mmG_part (d : Fin 2) (c : Dev nD) : ∀ g : ℕ, g < 32 → ∀ (a : Fin 128) (b : Fin 4096),
    mmG I d c g (ix2 a b) = part I c (row (goal d c g) a) (col d b)
  | 0, _, a, b => mm_part I c d _ _ _ (x0_goal d c) a b
  | g + 1, h, a, b => by
      refine mm_part I c d _ _ _ ((xo_goal d c _).trans ?_) a b
      show ![128 * (goal d c (g % 31 + 1)).val, 0] = _
      rw [Nat.mod_eq_of_lt (by omega : g < 31)]

/-- What has been added up after `g` steps. -/
def soFar (d : Fin 2) (c : Dev nD) (g : ℕ) (i : Fin 4096) (j : Fin 8192) : EReal :=
  ∑ t ∈ Finset.range (g + 1), part I ((froD d)^[t] c) i j

theorem soFar_succ (d : Fin 2) (c : Dev nD) (g : ℕ) (i : Fin 4096) (j : Fin 8192) :
    soFar I d (froD d c) g i j + part I c i j = soFar I d c (g + 1) i j := by
  unfold soFar
  rw [Finset.sum_range_succ' _ (g + 1)]; rfl

theorem rs_soFar (d : Fin 2) (a : Fin 128) (b : Fin 4096) : ∀ g : ℕ, g < 31 → ∀ c : Dev nD,
    rsV I d g c (ix2 a b) = soFar I d c g (row (goal d c g) a) (col d b)
  | 0, _, c => by
      refine (mmG_part I d c 0 (by decide) a b).trans ?_
      unfold soFar; rw [Finset.sum_range_one]; rfl
  | g + 1, h, c => by
      rw [← soFar_succ, ← goal_fro d c g (by omega), ← rs_soFar d a b g (by omega), goal_fro d c g (by omega), ← mmG_part I d c (g + 1) (by omega)]
      show sumFull (g == 30) _ _ _ = _
      rw [show (g == 30) = false from by rw [beq_eq_false_iff_ne]; omega]; rfl

/-- An element of the product, what is negative put to zero. -/
def clipped (i : Fin 4096) (j : Fin 8192) : EReal := max (∑ c : Dev nD, part I c i j) 0

theorem soFar_end (d : Fin 2) (c : Dev nD) (i : Fin 4096) (j : Fin 8192) : soFar I d c 31 i j = ∑ c : Dev nD, part I c i j := by
  unfold soFar
  rw [Finset.sum_range]
  exact Function.Bijective.sum_comp (⟨iter_inj d c, iter_surj d c⟩ : Function.Bijective fun t : Fin 32 => (froD d)^[t.val] c) (fun e => part I e i j)

theorem rs_full (d : Fin 2) (c : Dev nD) (a : Fin 128) (b : Fin 4096) :
    rsV I d 31 c (ix2 a b) = clipped I (row (blk d c) a) (col d b) := by
  unfold clipped
  rw [← soFar_end I d c, ← soFar_succ, ← goal_end, ← goal_fro d c 30 (by decide), ← rs_soFar I d a b 30 (by decide), goal_fro d c 30 (by decide),
    ← mmG_part I d c 31 (by decide), ← Ideal.ofBits_zero_f32]
  rfl

/-! ## The reference's product -/

variable {I} {X : FVec Ideal Cert.ReferenceIdeal.S4096x4096 .f32} {W : FVec Ideal Cert.ReferenceIdeal.S4096x8192 .f32}

/-- Device `c` holds block `c` of the columns of `x` and of the rows of `w`. -/
def Shards (I : Inp Ideal) (X : FVec Ideal Cert.ReferenceIdeal.S4096x4096 .f32) (W : FVec Ideal Cert.ReferenceIdeal.S4096x8192 .f32) : Prop :=
  ∀ c : Dev nD, I.X c = Layout.block ⟨2, ![4096, 128]⟩ ⟨2, ![4096, 4096]⟩ 1 32 c X
    ∧ I.W c = Layout.block ⟨2, ![128, 8192]⟩ ⟨2, ![4096, 8192]⟩ 0 32 c W

theorem refY_full (h : Shards I X W) (i : Fin 4096) (j : Fin 8192) : refY X W (ix2 i j) = clipped I i j := by
  have hm : (FloatOps.matmul (DotDims.plain 4096 4096 8192) (some .fp32) X W (constant (F := Ideal) ⟨2, ![4096, 8192]⟩ .f32 0x00000000#32) (ix2 i j) : EReal)
      = ∑ c : Dev nD, part I c i j := by
    rw [Ideal.matmul_plain_apply, constant_apply, Ideal.ofBits_zero_f32, zero_add, ← Equiv.sum_comp (finProdFinEquiv (m := 32) (n := 128)),
      Fintype.sum_prod_type]
    refine Finset.sum_congr rfl fun c _ => ?_
    unfold part
    rw [(h c).1, (h c).2]
    refine Finset.sum_congr rfl fun k _ => ?_
    rw [Layout.block_apply, Layout.block_apply]
    congr 1
    · refine congrArg X ?_
      funext e; apply Fin.ext; rw [Layout.Tiles.idx_val]
      fin_cases e
      · rfl
      · show k.val + 128 * c.val = c.val * 128 + k.val; omega
    · refine congrArg W ?_
      funext e; apply Fin.ext; rw [Layout.Tiles.idx_val]
      fin_cases e
      · show k.val + 128 * c.val = c.val * 128 + k.val; omega
      · rfl
  unfold clipped
  rw [← hm, ← Ideal.ofBits_zero_f32]
  rfl

end Cert.Proof
-- ==== Proof.Max.lean ====
/-
  The largest element, over the extended reals: what every device knows of after the exchanges is the whole product's.
-/
module

public import proofs.«01_k».proof.Proof.Product
public import Idealize.ShloMosaic.PureOps.Reduce

@[expose] public section

noncomputable section

namespace Cert.Proof

open Cert.KernelIdeal Cert.KernelIdeal.Facts₀
open Idealize.ShloMosaic Idealize.ShloMosaic.ValueIdx

/-- A maximum over everything, read anywhere. -/
theorem all_max {s t : Shape} {axes : List (Fin s.rank)} (ht : ∀ a b : t.Idx, a = b) (v : FVec Ideal s .f32) (h : s.Reduces axes t)
    (hφ : FKind.Formats .f32) (hacc : (0xFF800000#32 : BitVec (FTy.bits .f32)) = FKind.maximumf.neutral .f32 hφ) (j : t.Idx) :
    (multiReduction .maximumf axes t v 0xFF800000#32 h hφ hacc j : EReal) = ⨆ i, (v i : EReal) := by
  rw [multiReduction_maximumf_eq_fold, Finset.filter_true_of_mem fun i _ => ht _ _, ← Finset.sup_univ_eq_iSup]
  show Finset.fold max (Ideal.ofBits .f32 0xFF800000#32) v _ = _
  rw [lit_bot]; rfl

theorem one_eq (a b : (⟨1, ![1]⟩ : Shape).Idx) : a = b := funext fun i => by
  fin_cases i; exact Subsingleton.elim (α := Fin 1) _ _

/-- The same, as the programs read it off. -/
theorem read_max {s : Shape} {axes : List (Fin s.rank)} (v : FVec Ideal s .f32) (h : s.Reduces axes ⟨1, ![1]⟩) (hφ : FKind.Formats .f32)
    (hacc : (0xFF800000#32 : BitVec (FTy.bits .f32)) = FKind.maximumf.neutral .f32 hφ)
    (hc : (⟨1, ![1]⟩ : Shape).ShapeCasts ⟨3, ![1, 1, 1]⟩) (hp : ∀ a, ![0, 0, 0] a < (⟨3, ![1, 1, 1]⟩ : Shape).size a) :
    (extractAt ![0, 0, 0] (shapeCast ⟨3, ![1, 1, 1]⟩ (multiReduction .maximumf axes ⟨1, ![1]⟩ v 0xFF800000#32 h hφ hacc) hc) hp : EReal)
      = ⨆ i, (v i : EReal) := all_max one_eq v h hφ hacc _

/-- Another shape of the same elements has the same largest one. -/
theorem cast_max {s t : Shape} (v : FVec Ideal s .f32) (h : s.ShapeCasts t) : ⨆ i, (shapeCast t v h i : EReal) = ⨆ i, (v i : EReal) :=
  Equiv.iSup_comp (g := fun i => (v i : EReal)) (Shape.reshapeEquiv _)

theorem maxF_eq (X : FVec Ideal S128x4096 .f32) : (maxF X : EReal) = ⨆ i, (X i : EReal) := by
  unfold maxF maxV
  refine (read_max _ _ _ _ _ _).trans ?_
  rw [cast_max, cast_max]
  exact Equiv.iSup_comp (g := fun i => (X i : EReal)) (Shape.reshapeEquiv _)

theorem bmaxF_eq (v w : Ideal .f32) : (bmaxF v (sbufV w) : EReal) = max (v : EReal) (w : EReal) := by
  unfold bmaxF bmaxV
  refine congrArg (max (v : EReal)) ((read_max _ _ _ _ _ _).trans ?_)
  rw [cast_max, cast_max]
  have : Nonempty S1x8x128.Idx := ⟨fun a => ⟨0, by revert a; decide⟩⟩
  refine (iSup_congr fun i => ?_).trans (iSup_const (ι := S1x8x128.Idx) (a := (w : EReal)))
  show Ideal.ofBits .f32 0x00000000#32 + w = w
  rw [Ideal.ofBits_zero_f32, zero_add]

/-! ## The exchanges -/

/-- The devices whose blocks a device has heard of after `k` exchanges. -/
def heard : ℕ → Dev nD → Finset (Dev nD)
  | 0, c => {c}
  | k + 1, c => heard k c ∪ heard k (partner ⟨k % 5, Nat.mod_lt _ (by decide)⟩ c)

theorem rpos_inj : Function.Injective rposT := by decide +kernel
theorem rpos_partner : ∀ (k : Fin 5) (c : Dev nD), (rposT (partner k c)).val = (rposT c).val ^^^ 2 ^ k.val := by decide +kernel
theorem xor_zero : ∀ x y : Fin 32, x.val ^^^ y.val = 0 → x = y := by decide +kernel
theorem top_bit : ∀ (k : Fin 5) (x : Fin 32), x.val < 2 ^ (k.val + 1) → ¬ x.val < 2 ^ k.val → x.val ^^^ 2 ^ k.val < 2 ^ k.val := by decide +kernel

/-- After `k` exchanges a device has heard of those whose places differ from its own in the lowest `k` bits only. -/
theorem mem_heard (e : Dev nD) : ∀ k : ℕ, k ≤ 5 → ∀ c : Dev nD, (rposT c).val ^^^ (rposT e).val < 2 ^ k → e ∈ heard k c
  | 0, _, c, h => by
      have h0 : (rposT c).val ^^^ (rposT e).val = 0 := by omega
      have := rpos_inj (xor_zero _ _ h0)
      rw [heard, Finset.mem_singleton, this]
  | k + 1, hk, c, h => by
      rw [heard, Finset.mem_union]
      by_cases hl : (rposT c).val ^^^ (rposT e).val < 2 ^ k
      · exact .inl (mem_heard e k (by omega) c hl)
      · refine .inr (mem_heard e k (by omega) _ ?_)
        have hx : (rposT c).val ^^^ (rposT e).val < 2 ^ 5 := Nat.xor_lt_two_pow (rposT c).isLt (rposT e).isLt
        have ht := top_bit ⟨k, by omega⟩ ⟨_, hx⟩ h hl
        rw [rpos_partner]
        show ((rposT c).val ^^^ 2 ^ (k % 5)) ^^^ (rposT e).val < 2 ^ k
        rw [Nat.mod_eq_of_lt (by omega : k < 5), Nat.xor_assoc, Nat.xor_comm (2 ^ k), ← Nat.xor_assoc]
        exact ht

theorem heard_all (c : Dev nD) : heard 5 c = Finset.univ :=
  Finset.eq_univ_iff_forall.mpr fun e => mem_heard e 5 le_rfl c (Nat.xor_lt_two_pow (rposT c).isLt (rposT e).isLt)

variable (I : Inp Ideal)

/-- The largest element of a device's two blocks. -/
def own (c : Dev nD) : EReal := max (⨆ i, (rsV I 0 31 c i : EReal)) (⨆ i, (rsV I 1 31 c i : EReal))

theorem max_eq (a b : Ideal .f32) : (Scalar.maximumf a b : EReal) = max (a : EReal) (b : EReal) := rfl

theorem val_zero (c : Dev nD) : (valV I 0 c : EReal) = own I c := by
  rw [valV, max_eq, maxF_eq, maxF_eq, own]
theorem val_succ (k : ℕ) (c : Dev nD) : (valV I (k + 1) c : EReal)
    = max (valV I k c : EReal) (valV I k (partner ⟨k % 5, Nat.mod_lt _ (by decide)⟩ c) : EReal) := by
  rw [valV, bmaxF_eq]

theorem val_heard : ∀ (k : ℕ) (c : Dev nD), (valV I k c : EReal) = (heard k c).sup (own I)
  | 0, c => by rw [heard, Finset.sup_singleton, val_zero]
  | k + 1, c => by rw [heard, Finset.sup_union, ← val_heard k, ← val_heard k, val_succ]

theorem own_ge (d : Fin 2) (c : Dev nD) (a : Fin 128) (b : Fin 4096) : clipped I (row (blk d c) a) (col d b) ≤ own I c := by
  rw [← rs_full]; unfold own
  fin_cases d
  · exact le_max_of_le_left (le_iSup (fun i => (rsV I 0 31 c i : EReal)) _)
  · exact le_max_of_le_right (le_iSup (fun i => (rsV I 1 31 c i : EReal)) _)

theorem as_pair {m n : ℕ} (x : (⟨2, ![m, n]⟩ : Shape).Idx) : ∃ (a : Fin m) (b : Fin n), x = ix2 a b := ⟨x 0, x 1, eq_ix2 x⟩

/-- Every element of the product lies in some device's block. -/
theorem tile_of (i : Fin 4096) (j : Fin 8192) : ∃ d c a b, row (blk d c) a = i ∧ col d b = j := by
  refine ⟨⟨j.val / 4096, by omega⟩, unblk ⟨j.val / 4096, by omega⟩ ⟨i.val / 128, by omega⟩, ⟨i.val % 128, by omega⟩, ⟨j.val % 4096, by omega⟩, ?_, ?_⟩
  · rw [blk_unblk]; apply Fin.ext; show 128 * (i.val / 128) + i.val % 128 = i.val; omega
  · apply Fin.ext; show 4096 * (j.val / 4096) + j.val % 4096 = j.val; omega

/-- The largest element of the product, what is negative put to zero. -/
def largest : EReal := ⨆ x : S4096x8192.Idx, clipped I (x 0) (x 1)

theorem val_largest (c : Dev nD) : (valV I 5 c : EReal) = largest I := by
  rw [val_heard, heard_all]
  apply le_antisymm
  · refine Finset.sup_le fun e _ => ?_
    have h : ∀ d : Fin 2, (⨆ i, (rsV I d 31 e i : EReal)) ≤ largest I := fun d => iSup_le fun x => by
      obtain ⟨a, b, rfl⟩ := as_pair x
      rw [rs_full]
      exact le_iSup (fun x : S4096x8192.Idx => clipped I (x 0) (x 1)) (ix2 (row (blk d e) a) (col d b))
    exact max_le (h 0) (h 1)
  · refine iSup_le fun x => ?_
    obtain ⟨i, j, rfl⟩ := as_pair x
    obtain ⟨d, e, a, b, rfl, rfl⟩ := tile_of i j
    exact (own_ge I d e a b).trans (Finset.le_sup (f := own I) (Finset.mem_univ e))

/-! ## The reference's -/

variable {I} {X : FVec Ideal Cert.ReferenceIdeal.S4096x4096 .f32} {W : FVec Ideal Cert.ReferenceIdeal.S4096x8192 .f32}

theorem clipped_nonneg (i : Fin 4096) (j : Fin 8192) : 0 ≤ clipped I i j := le_max_right _ _

theorem largest_nonneg : 0 ≤ largest I :=
  (clipped_nonneg (I := I) 0 0).trans (le_iSup (fun x : S4096x8192.Idx => clipped I (x 0) (x 1)) (ix2 0 0))

theorem refM_largest (h : Shards I X W) : (refM X W : EReal) = largest I := by
  unfold refM
  refine (read_max _ _ _ _ _ _).trans ?_
  rw [cast_max]
  refine iSup_congr fun x => ?_
  obtain ⟨i, j, rfl⟩ := as_pair x
  show max (refY X W (ix2 i j) : EReal) (-(refY X W (ix2 i j) : EReal)) = clipped I i j
  rw [refY_full h]
  exact max_eq_left ((EReal.neg_le_zero.mpr (clipped_nonneg _ _)).trans (clipped_nonneg _ _))

/-! ## The whole result -/

theorem scale_eq (c : Dev nD) : (scaleV (valV I 5 c) : EReal) = Ideal.div (largest I) ((448 : ℝ) : EReal) := by
  rw [← val_largest I c, ← lit_448]; rfl

theorem outV_pair (i : Fin 4096) (j : Fin 8192) : outV I (ix2 i j)
    = dqD I ⟨j.val / 4096, by omega⟩ (unblk ⟨j.val / 4096, by omega⟩ ⟨i.val / 128, by omega⟩)
        (ix2 (⟨i.val % 128, Nat.mod_lt _ (by decide)⟩ : Fin 128) (⟨j.val % 4096, Nat.mod_lt _ (by decide)⟩ : Fin 4096)) := rfl

theorem outV_eq (h : Shards I X W) : outV I = Cert.ReferenceIdeal.Value.G2 (F := Ideal) X W := by
  funext x
  obtain ⟨i, j, rfl⟩ := as_pair x
  have hr : row ⟨i.val / 128, by omega⟩ ⟨i.val % 128, Nat.mod_lt _ (by decide)⟩ = i := by
    apply Fin.ext; show 128 * (i.val / 128) + i.val % 128 = i.val; omega
  have hc : col ⟨j.val / 4096, by omega⟩ ⟨j.val % 4096, Nat.mod_lt _ (by decide)⟩ = j := by
    apply Fin.ext; show 4096 * (j.val / 4096) + j.val % 4096 = j.val; omega
  have h448 : ((448 : ℝ) : EReal) ≠ 0 := by exact_mod_cast (by norm_num : (448 : ℝ) ≠ 0)
  rw [outV_pair]; unfold dqD
  refine (dqV_apply _ _ _).trans ?_
  refine .trans ?_ (G2_apply X W (ix2 i j)).symm
  rw [rs_full, blk_unblk, scale_eq, hr, hc, refM_largest h, refY_full h]
  exact qk_eq_qr _ _ (clipped_nonneg _ _)
    (div_nonneg _ _ largest_nonneg (by exact_mod_cast (by norm_num : (0 : ℝ) ≤ 448)) h448)

end Cert.Proof
-- ==== Proof.Equal.lean ====
/-
  Over the extended reals every device ends with the reference's whole result.
-/
module

public import proofs.«01_k».proof.Defs
public import proofs.«01_k».proof.Proof.Ends
public import proofs.«01_k».proof.Proof.Max

@[expose] public section

noncomputable section

namespace Cert.Proof

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) := by
  intro m g m' g' _ h
  have hs : Shards (inp m) (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)) := h
  refine ⟨_, ?_, (θ_run Cert.ReferenceIdeal.defs _ _).mono (fun r hr => hr 0) (Cert.ReferenceIdeal.Value.run (F := Ideal) m' g')⟩
  refine (θ_run Cert.KernelIdeal.defs _ _).mono (fun r hr c => ⟨?_, (hr.1 c).1.1, (hr.1 c).1.2⟩) (run_main m g)
  rw [← outV_eq hs]
  exact (hr.1 c).2

end Cert.Proof

end
-- ==== Proof.lean ====
/-
  The claims, together.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Regions
public import proofs.«01_k».proof.Proof.Gen.ReferenceIdeal
public import proofs.«01_k».proof.Proof.Gen.ReferenceIdeal.Value
public import proofs.«01_k».proof.Proof.Ends
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts, frame_kernel, frame_kernelIdeal, frame_reference, trivial, algebraic⟩

end Cert.Proof

end
